-- ==== Defs.lean ====
def Pre_AProjDx (m : (ℓ : Loc Cert.AProjDx.nD Cert.AProjDx.τ Cert.AProjDx.sig) → Buf (Elt Bits) ℓ) : Prop :=
  True

def Pre_AProjDxIdeal (m : (ℓ : Loc Cert.AProjDxIdeal.nD Cert.AProjDxIdeal.τ Cert.AProjDxIdeal.sig) → Buf (Elt Ideal) ℓ) : Prop :=
  True

def Pre_AProjDxRefIdeal (m : (ℓ : Loc Cert.AProjDxRefIdeal.nD Cert.AProjDxRefIdeal.τ Cert.AProjDxRefIdeal.sig) → Buf (Elt Ideal) ℓ) : Prop :=
  True

def Pre_BProjDx (m : (ℓ : Loc Cert.BProjDx.nD Cert.BProjDx.τ Cert.BProjDx.sig) → Buf (Elt Bits) ℓ) : Prop :=
  True

def Pre_BProjDxIdeal (m : (ℓ : Loc Cert.BProjDxIdeal.nD Cert.BProjDxIdeal.τ Cert.BProjDxIdeal.sig) → Buf (Elt Ideal) ℓ) : Prop :=
  True

def Pre_BProjDxRefIdeal (m : (ℓ : Loc Cert.BProjDxRefIdeal.nD Cert.BProjDxRefIdeal.τ Cert.BProjDxRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))).1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))).2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))).2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))).2.2.2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))).2.2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))).1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))).2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))).2.2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))).2.2.2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))).2.2.2.2 = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_gmlp_finite [hPre_gmlp_finite : Cert.Pre_gmlp_finite.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.2.2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.2.2.2.2.1 = (fun _ => 1#1)
    ∧ (Cert.Pre_gmlp_finite.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5)) (m ((c.tc : Thread Cert.GmlpBwdIdeal.nD Cert.GmlpBwdIdeal.τ).loc Cert.GmlpBwdIdeal.main_arg6))).2.2.2.2.2.2 = (fun _ => 1#1)

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_GmlpBwdRefIdeal_gmlp_finite [hPre_gmlp_finite : Cert.Pre_gmlp_finite.Facts] (m : (ℓ : Loc Cert.GmlpBwdRefIdeal.nD Cert.GmlpBwdRefIdeal.τ Cert.GmlpBwdRefIdeal.sig) → Buf (Elt Ideal) ℓ) : Prop :=
  ∀ c : Dev Cert.GmlpBwdRefIdeal.nD,
    (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.2.1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.2.2.1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.2.2.2.1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.2.2.2.2.1 = (fun _ => 1#1)
    ∧ (Cert.Pre_gmlp_finite.fn (F := Ideal) (m ((c.tc : Thread Cert.GmlpBwdRefIdeal.nD Cert.GmlpBwdRefIdeal.τ).loc Cert.GmlpBwdRefIdeal.main_arg0)) (m ((c.tc : Thread Cert.GmlpBwdRefIdeal.nD Cert.GmlpBwdRefIdeal.τ).loc Cert.GmlpBwdRefIdeal.main_arg1)) (m ((c.tc : Thread Cert.GmlpBwdRefIdeal.nD Cert.GmlpBwdRefIdeal.τ).loc Cert.GmlpBwdRefIdeal.main_arg2)) (m ((c.tc : Thread Cert.GmlpBwdRefIdeal.nD Cert.GmlpBwdRefIdeal.τ).loc Cert.GmlpBwdRefIdeal.main_arg3)) (m ((c.tc : Thread Cert.GmlpBwdRefIdeal.nD Cert.GmlpBwdRefIdeal.τ).loc Cert.GmlpBwdRefIdeal.main_arg4)) (m ((c.tc : Thread Cert.GmlpBwdRefIdeal.nD Cert.GmlpBwdRefIdeal.τ).loc Cert.GmlpBwdRefIdeal.main_arg5)) (m ((c.tc : Thread Cert.GmlpBwdRefIdeal.nD Cert.GmlpBwdRefIdeal.τ).loc Cert.GmlpBwdRefIdeal.main_arg6))).2.2.2.2.2.2 = (fun _ => 1#1)

def Pre_GmlpHead (m : (ℓ : Loc Cert.GmlpHead.nD Cert.GmlpHead.τ Cert.GmlpHead.sig) → Buf (Elt Bits) ℓ) : Prop :=
  True

def Pre_GmlpHeadIdeal (m : (ℓ : Loc Cert.GmlpHeadIdeal.nD Cert.GmlpHeadIdeal.τ Cert.GmlpHeadIdeal.sig) → Buf (Elt Ideal) ℓ) : Prop :=
  True

def Pre_GmlpHeadRefIdeal (m : (ℓ : Loc Cert.GmlpHeadRefIdeal.nD Cert.GmlpHeadRefIdeal.τ Cert.GmlpHeadRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ModUpdate (m : (ℓ : Loc Cert.ModUpdate.nD Cert.ModUpdate.τ Cert.ModUpdate.sig) → Buf (Elt Bits) ℓ) : Prop :=
  True

def Pre_ModUpdateIdeal (m : (ℓ : Loc Cert.ModUpdateIdeal.nD Cert.ModUpdateIdeal.τ Cert.ModUpdateIdeal.sig) → Buf (Elt Ideal) ℓ) : Prop :=
  True

def Pre_ModUpdateRefIdeal (m : (ℓ : Loc Cert.ModUpdateRefIdeal.nD Cert.ModUpdateRefIdeal.τ Cert.ModUpdateRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_ProjSlab (m : (ℓ : Loc Cert.ProjSlab.nD Cert.ProjSlab.τ Cert.ProjSlab.sig) → Buf (Elt Bits) ℓ) : Prop :=
  True

def Pre_ProjSlabIdeal (m : (ℓ : Loc Cert.ProjSlabIdeal.nD Cert.ProjSlabIdeal.τ Cert.ProjSlabIdeal.sig) → Buf (Elt Ideal) ℓ) : Prop :=
  True

def Pre_ProjSlabRefIdeal (m : (ℓ : Loc Cert.ProjSlabRefIdeal.nD Cert.ProjSlabRefIdeal.τ Cert.ProjSlabRefIdeal.sig) → Buf (Elt Ideal) ℓ) : Prop :=
  True

def Pre_AddPieces (m : (ℓ : Loc Cert.AddPieces.nD Cert.AddPieces.τ Cert.AddPieces.sig) → Buf (Elt Bits) ℓ) : Prop :=
  True

def Pre_AddPiecesIdeal (m : (ℓ : Loc Cert.AddPiecesIdeal.nD Cert.AddPiecesIdeal.τ Cert.AddPiecesIdeal.sig) → Buf (Elt Ideal) ℓ) : Prop :=
  True

def Pre_AddPiecesRefIdeal (m : (ℓ : Loc Cert.AddPiecesRefIdeal.nD Cert.AddPiecesRefIdeal.τ Cert.AddPiecesRefIdeal.sig) → Buf (Elt Ideal) ℓ) : Prop :=
  True

def Pre_PlaceOwn (m : (ℓ : Loc Cert.PlaceOwn.nD Cert.PlaceOwn.τ Cert.PlaceOwn.sig) → Buf (Elt Bits) ℓ) : Prop :=
  True

def Pre_PlaceOwnIdeal (m : (ℓ : Loc Cert.PlaceOwnIdeal.nD Cert.PlaceOwnIdeal.τ Cert.PlaceOwnIdeal.sig) → Buf (Elt Ideal) ℓ) : Prop :=
  True

def Pre_PlaceOwnRefIdeal (m : (ℓ : Loc Cert.PlaceOwnRefIdeal.nD Cert.PlaceOwnRefIdeal.τ Cert.PlaceOwnRefIdeal.sig) → Buf (Elt Ideal) ℓ) : Prop :=
  True

def Pre_PlaceOwnRef (m : (ℓ : Loc Cert.PlaceOwnRef.nD Cert.PlaceOwnRef.τ Cert.PlaceOwnRef.sig) → Buf (Elt Bits) ℓ) : Prop :=
  True

def quiescent_AProjDx [hAProjDx : Cert.AProjDx.Facts] : Prop :=
  ∀ (m : (ℓ : Loc Cert.AProjDx.nD Cert.AProjDx.τ Cert.AProjDx.sig) → Buf (Elt Bits) ℓ) (g : Dev Cert.AProjDx.nD → PrngReg), Pre_AProjDx m →
    θ_run (Cert.AProjDx.defs (F := Bits)) (onTc (τ := Cert.AProjDx.τ) (Cert.AProjDx.main (F := Bits))) ⟨m, fun _ => 0, g⟩ (fun r => (∀ c : Dev Cert.AProjDx.nD,
      r.2.mem ((c.tc : Thread Cert.AProjDx.nD Cert.AProjDx.τ).loc Cert.AProjDx.main_arg0) = m ((c.tc : Thread Cert.AProjDx.nD Cert.AProjDx.τ).loc Cert.AProjDx.main_arg0)
      ∧ r.2.mem ((c.tc : Thread Cert.AProjDx.nD Cert.AProjDx.τ).loc Cert.AProjDx.main_arg1) = m ((c.tc : Thread Cert.AProjDx.nD Cert.AProjDx.τ).loc Cert.AProjDx.main_arg1)
      ∧ r.2.mem ((c.tc : Thread Cert.AProjDx.nD Cert.AProjDx.τ).loc Cert.AProjDx.main_arg2) = m ((c.tc : Thread Cert.AProjDx.nD Cert.AProjDx.τ).loc Cert.AProjDx.main_arg2)
      ∧ r.2.mem ((c.tc : Thread Cert.AProjDx.nD Cert.AProjDx.τ).loc Cert.AProjDx.main_arg3) = m ((c.tc : Thread Cert.AProjDx.nD Cert.AProjDx.τ).loc Cert.AProjDx.main_arg3)
      ∧ r.2.mem ((c.tc : Thread Cert.AProjDx.nD Cert.AProjDx.τ).loc Cert.AProjDx.main_arg4) = m ((c.tc : Thread Cert.AProjDx.nD Cert.AProjDx.τ).loc Cert.AProjDx.main_arg4)
      ∧ r.2.mem ((c.tc : Thread Cert.AProjDx.nD Cert.AProjDx.τ).loc Cert.AProjDx.main_arg5) = m ((c.tc : Thread Cert.AProjDx.nD Cert.AProjDx.τ).loc Cert.AProjDx.main_arg5))
      ∧ r.2.sem = fun _ => 0)

def quiescent_AProjDxIdeal [hAProjDxIdeal : Cert.AProjDxIdeal.Facts] : Prop :=
  ∀ (m : (ℓ : Loc Cert.AProjDxIdeal.nD Cert.AProjDxIdeal.τ Cert.AProjDxIdeal.sig) → Buf (Elt Ideal) ℓ) (g : Dev Cert.AProjDxIdeal.nD → PrngReg), Pre_AProjDxIdeal m →
    θ_run (Cert.AProjDxIdeal.defs (F := Ideal)) (onTc (τ := Cert.AProjDxIdeal.τ) (Cert.AProjDxIdeal.main (F := Ideal))) ⟨m, fun _ => 0, g⟩ (fun r => (∀ c : Dev Cert.AProjDxIdeal.nD,
      r.2.mem ((c.tc : Thread Cert.AProjDxIdeal.nD Cert.AProjDxIdeal.τ).loc Cert.AProjDxIdeal.main_arg0) = m ((c.tc : Thread Cert.AProjDxIdeal.nD Cert.AProjDxIdeal.τ).loc Cert.AProjDxIdeal.main_arg0)
      ∧ r.2.mem ((c.tc : Thread Cert.AProjDxIdeal.nD Cert.AProjDxIdeal.τ).loc Cert.AProjDxIdeal.main_arg1) = m ((c.tc : Thread Cert.AProjDxIdeal.nD Cert.AProjDxIdeal.τ).loc Cert.AProjDxIdeal.main_arg1)
      ∧ r.2.mem ((c.tc : Thread Cert.AProjDxIdeal.nD Cert.AProjDxIdeal.τ).loc Cert.AProjDxIdeal.main_arg2) = m ((c.tc : Thread Cert.AProjDxIdeal.nD Cert.AProjDxIdeal.τ).loc Cert.AProjDxIdeal.main_arg2)
      ∧ r.2.mem ((c.tc : Thread Cert.AProjDxIdeal.nD Cert.AProjDxIdeal.τ).loc Cert.AProjDxIdeal.main_arg3) = m ((c.tc : Thread Cert.AProjDxIdeal.nD Cert.AProjDxIdeal.τ).loc Cert.AProjDxIdeal.main_arg3)
      ∧ r.2.mem ((c.tc : Thread Cert.AProjDxIdeal.nD Cert.AProjDxIdeal.τ).loc Cert.AProjDxIdeal.main_arg4) = m ((c.tc : Thread Cert.AProjDxIdeal.nD Cert.AProjDxIdeal.τ).loc Cert.AProjDxIdeal.main_arg4)
      ∧ r.2.mem ((c.tc : Thread Cert.AProjDxIdeal.nD Cert.AProjDxIdeal.τ).loc Cert.AProjDxIdeal.main_arg5) = m ((c.tc : Thread Cert.AProjDxIdeal.nD Cert.AProjDxIdeal.τ).loc Cert.AProjDxIdeal.main_arg5))
      ∧ r.2.sem = fun _ => 0)

def quiescent_AProjDxRefIdeal [hAProjDxRefIdeal : Cert.AProjDxRefIdeal.Facts] : Prop :=
  ∀ (m : (ℓ : Loc Cert.AProjDxRefIdeal.nD Cert.AProjDxRefIdeal.τ Cert.AProjDxRefIdeal.sig) → Buf (Elt Ideal) ℓ) (g : Dev Cert.AProjDxRefIdeal.nD → PrngReg), Pre_AProjDxRefIdeal m →
    θ_run (Cert.AProjDxRefIdeal.defs (F := Ideal)) (onTc (τ := Cert.AProjDxRefIdeal.τ) (Cert.AProjDxRefIdeal.main (F := Ideal))) ⟨m, fun _ => 0, g⟩ (fun r => (∀ c : Dev Cert.AProjDxRefIdeal.nD,
      r.2.mem ((c.tc : Thread Cert.AProjDxRefIdeal.nD Cert.AProjDxRefIdeal.τ).loc Cert.AProjDxRefIdeal.main_arg0) = m ((c.tc : Thread Cert.AProjDxRefIdeal.nD Cert.AProjDxRefIdeal.τ).loc Cert.AProjDxRefIdeal.main_arg0)
      ∧ r.2.mem ((c.tc : Thread Cert.AProjDxRefIdeal.nD Cert.AProjDxRefIdeal.τ).loc Cert.AProjDxRefIdeal.main_arg1) = m ((c.tc : Thread Cert.AProjDxRefIdeal.nD Cert.AProjDxRefIdeal.τ).loc Cert.AProjDxRefIdeal.main_arg1)
      ∧ r.2.mem ((c.tc : Thread Cert.AProjDxRefIdeal.nD Cert.AProjDxRefIdeal.τ).loc Cert.AProjDxRefIdeal.main_arg2) = m ((c.tc : Thread Cert.AProjDxRefIdeal.nD Cert.AProjDxRefIdeal.τ).loc Cert.AProjDxRefIdeal.main_arg2)
      ∧ r.2.mem ((c.tc : Thread Cert.AProjDxRefIdeal.nD Cert.AProjDxRefIdeal.τ).loc Cert.AProjDxRefIdeal.main_arg3) = m ((c.tc : Thread Cert.AProjDxRefIdeal.nD Cert.AProjDxRefIdeal.τ).loc Cert.AProjDxRefIdeal.main_arg3)
      ∧ r.2.mem ((c.tc : Thread Cert.AProjDxRefIdeal.nD Cert.AProjDxRefIdeal.τ).loc Cert.AProjDxRefIdeal.main_arg4) = m ((c.tc : Thread Cert.AProjDxRefIdeal.nD Cert.AProjDxRefIdeal.τ).loc Cert.AProjDxRefIdeal.main_arg4)
      ∧ r.2.mem ((c.tc : Thread Cert.AProjDxRefIdeal.nD Cert.AProjDxRefIdeal.τ).loc Cert.AProjDxRefIdeal.main_arg5) = m ((c.tc : Thread Cert.AProjDxRefIdeal.nD Cert.AProjDxRefIdeal.τ).loc Cert.AProjDxRefIdeal.main_arg5))
      ∧ r.2.sem = fun _ => 0)

def quiescent_BProjDx [hBProjDx : Cert.BProjDx.Facts] : Prop :=
  ∀ (m : (ℓ : Loc Cert.BProjDx.nD Cert.BProjDx.τ Cert.BProjDx.sig) → Buf (Elt Bits) ℓ) (g : Dev Cert.BProjDx.nD → PrngReg), Pre_BProjDx m →
    θ_run (Cert.BProjDx.defs (F := Bits)) (onTc (τ := Cert.BProjDx.τ) (Cert.BProjDx.main (F := Bits))) ⟨m, fun _ => 0, g⟩ (fun r => (∀ c : Dev Cert.BProjDx.nD,
      r.2.mem ((c.tc : Thread Cert.BProjDx.nD Cert.BProjDx.τ).loc Cert.BProjDx.main_arg0) = m ((c.tc : Thread Cert.BProjDx.nD Cert.BProjDx.τ).loc Cert.BProjDx.main_arg0)
      ∧ r.2.mem ((c.tc : Thread Cert.BProjDx.nD Cert.BProjDx.τ).loc Cert.BProjDx.main_arg1) = m ((c.tc : Thread Cert.BProjDx.nD Cert.BProjDx.τ).loc Cert.BProjDx.main_arg1)
      ∧ r.2.mem ((c.tc : Thread Cert.BProjDx.nD Cert.BProjDx.τ).loc Cert.BProjDx.main_arg2) = m ((c.tc : Thread Cert.BProjDx.nD Cert.BProjDx.τ).loc Cert.BProjDx.main_arg2)
      ∧ r.2.mem ((c.tc : Thread Cert.BProjDx.nD Cert.BProjDx.τ).loc Cert.BProjDx.main_arg3) = m ((c.tc : Thread Cert.BProjDx.nD Cert.BProjDx.τ).loc Cert.BProjDx.main_arg3)
      ∧ r.2.mem ((c.tc : Thread Cert.BProjDx.nD Cert.BProjDx.τ).loc Cert.BProjDx.main_arg4) = m ((c.tc : Thread Cert.BProjDx.nD Cert.BProjDx.τ).loc Cert.BProjDx.main_arg4)
      ∧ r.2.mem ((c.tc : Thread Cert.BProjDx.nD Cert.BProjDx.τ).loc Cert.BProjDx.main_arg5) = m ((c.tc : Thread Cert.BProjDx.nD Cert.BProjDx.τ).loc Cert.BProjDx.main_arg5)
      ∧ r.2.mem ((c.tc : Thread Cert.BProjDx.nD Cert.BProjDx.τ).loc Cert.BProjDx.main_arg6) = m ((c.tc : Thread Cert.BProjDx.nD Cert.BProjDx.τ).loc Cert.BProjDx.main_arg6)
      ∧ r.2.mem ((c.tc : Thread Cert.BProjDx.nD Cert.BProjDx.τ).loc Cert.BProjDx.main_arg7) = m ((c.tc : Thread Cert.BProjDx.nD Cert.BProjDx.τ).loc Cert.BProjDx.main_arg7))
      ∧ r.2.sem = fun _ => 0)

def quiescent_BProjDxIdeal [hBProjDxIdeal : Cert.BProjDxIdeal.Facts] : Prop :=
  ∀ (m : (ℓ : Loc Cert.BProjDxIdeal.nD Cert.BProjDxIdeal.τ Cert.BProjDxIdeal.sig) → Buf (Elt Ideal) ℓ) (g : Dev Cert.BProjDxIdeal.nD → PrngReg), Pre_BProjDxIdeal m →
    θ_run (Cert.BProjDxIdeal.defs (F := Ideal)) (onTc (τ := Cert.BProjDxIdeal.τ) (Cert.BProjDxIdeal.main (F := Ideal))) ⟨m, fun _ => 0, g⟩ (fun r => (∀ c : Dev Cert.BProjDxIdeal.nD,
      r.2.mem ((c.tc : Thread Cert.BProjDxIdeal.nD Cert.BProjDxIdeal.τ).loc Cert.BProjDxIdeal.main_arg0) = m ((c.tc : Thread Cert.BProjDxIdeal.nD Cert.BProjDxIdeal.τ).loc Cert.BProjDxIdeal.main_arg0)
      ∧ r.2.mem ((c.tc : Thread Cert.BProjDxIdeal.nD Cert.BProjDxIdeal.τ).loc Cert.BProjDxIdeal.main_arg1) = m ((c.tc : Thread Cert.BProjDxIdeal.nD Cert.BProjDxIdeal.τ).loc Cert.BProjDxIdeal.main_arg1)
      ∧ r.2.mem ((c.tc : Thread Cert.BProjDxIdeal.nD Cert.BProjDxIdeal.τ).loc Cert.BProjDxIdeal.main_arg2) = m ((c.tc : Thread Cert.BProjDxIdeal.nD Cert.BProjDxIdeal.τ).loc Cert.BProjDxIdeal.main_arg2)
      ∧ r.2.mem ((c.tc : Thread Cert.BProjDxIdeal.nD Cert.BProjDxIdeal.τ).loc Cert.BProjDxIdeal.main_arg3) = m ((c.tc : Thread Cert.BProjDxIdeal.nD Cert.BProjDxIdeal.τ).loc Cert.BProjDxIdeal.main_arg3)
      ∧ r.2.mem ((c.tc : Thread Cert.BProjDxIdeal.nD Cert.BProjDxIdeal.τ).loc Cert.BProjDxIdeal.main_arg4) = m ((c.tc : Thread Cert.BProjDxIdeal.nD Cert.BProjDxIdeal.τ).loc Cert.BProjDxIdeal.main_arg4)
      ∧ r.2.mem ((c.tc : Thread Cert.BProjDxIdeal.nD Cert.BProjDxIdeal.τ).loc Cert.BProjDxIdeal.main_arg5) = m ((c.tc : Thread Cert.BProjDxIdeal.nD Cert.BProjDxIdeal.τ).loc Cert.BProjDxIdeal.main_arg5)
      ∧ r.2.mem ((c.tc : Thread Cert.BProjDxIdeal.nD Cert.BProjDxIdeal.τ).loc Cert.BProjDxIdeal.main_arg6) = m ((c.tc : Thread Cert.BProjDxIdeal.nD Cert.BProjDxIdeal.τ).loc Cert.BProjDxIdeal.main_arg6)
      ∧ r.2.mem ((c.tc : Thread Cert.BProjDxIdeal.nD Cert.BProjDxIdeal.τ).loc Cert.BProjDxIdeal.main_arg7) = m ((c.tc : Thread Cert.BProjDxIdeal.nD Cert.BProjDxIdeal.τ).loc Cert.BProjDxIdeal.main_arg7))
      ∧ r.2.sem = fun _ => 0)

def quiescent_BProjDxRefIdeal [hBProjDxRefIdeal : Cert.BProjDxRefIdeal.Facts] : Prop :=
  ∀ (m : (ℓ : Loc Cert.BProjDxRefIdeal.nD Cert.BProjDxRefIdeal.τ Cert.BProjDxRefIdeal.sig) → Buf (Elt Ideal) ℓ) (g : Dev Cert.BProjDxRefIdeal.nD → PrngReg), Pre_BProjDxRefIdeal m →
    θ_run (Cert.BProjDxRefIdeal.defs (F := Ideal)) (onTc (τ := Cert.BProjDxRefIdeal.τ) (Cert.BProjDxRefIdeal.main (F := Ideal))) ⟨m, fun _ => 0, g⟩ (fun r => (∀ c : Dev Cert.BProjDxRefIdeal.nD,
      r.2.mem ((c.tc : Thread Cert.BProjDxRefIdeal.nD Cert.BProjDxRefIdeal.τ).loc Cert.BProjDxRefIdeal.main_arg0) = m ((c.tc : Thread Cert.BProjDxRefIdeal.nD Cert.BProjDxRefIdeal.τ).loc Cert.BProjDxRefIdeal.main_arg0)
      ∧ r.2.mem ((c.tc : Thread Cert.BProjDxRefIdeal.nD Cert.BProjDxRefIdeal.τ).loc Cert.BProjDxRefIdeal.main_arg1) = m ((c.tc : Thread Cert.BProjDxRefIdeal.nD Cert.BProjDxRefIdeal.τ).loc Cert.BProjDxRefIdeal.main_arg1)
      ∧ r.2.mem ((c.tc : Thread Cert.BProjDxRefIdeal.nD Cert.BProjDxRefIdeal.τ).loc Cert.BProjDxRefIdeal.main_arg2) = m ((c.tc : Thread Cert.BProjDxRefIdeal.nD Cert.BProjDxRefIdeal.τ).loc Cert.BProjDxRefIdeal.main_arg2)
      ∧ r.2.mem ((c.tc : Thread Cert.BProjDxRefIdeal.nD Cert.BProjDxRefIdeal.τ).loc Cert.BProjDxRefIdeal.main_arg3) = m ((c.tc : Thread Cert.BProjDxRefIdeal.nD Cert.BProjDxRefIdeal.τ).loc Cert.BProjDxRefIdeal.main_arg3)
      ∧ r.2.mem ((c.tc : Thread Cert.BProjDxRefIdeal.nD Cert.BProjDxRefIdeal.τ).loc Cert.BProjDxRefIdeal.main_arg4) = m ((c.tc : Thread Cert.BProjDxRefIdeal.nD Cert.BProjDxRefIdeal.τ).loc Cert.BProjDxRefIdeal.main_arg4)
      ∧ r.2.mem ((c.tc : Thread Cert.BProjDxRefIdeal.nD Cert.BProjDxRefIdeal.τ).loc Cert.BProjDxRefIdeal.main_arg5) = m ((c.tc : Thread Cert.BProjDxRefIdeal.nD Cert.BProjDxRefIdeal.τ).loc Cert.BProjDxRefIdeal.main_arg5)
      ∧ r.2.mem ((c.tc : Thread Cert.BProjDxRefIdeal.nD Cert.BProjDxRefIdeal.τ).loc Cert.BProjDxRefIdeal.main_arg6) = m ((c.tc : Thread Cert.BProjDxRefIdeal.nD Cert.BProjDxRefIdeal.τ).loc Cert.BProjDxRefIdeal.main_arg6)
      ∧ r.2.mem ((c.tc : Thread Cert.BProjDxRefIdeal.nD Cert.BProjDxRefIdeal.τ).loc Cert.BProjDxRefIdeal.main_arg7) = m ((c.tc : Thread Cert.BProjDxRefIdeal.nD Cert.BProjDxRefIdeal.τ).loc Cert.BProjDxRefIdeal.main_arg7))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5)
      ∧ r.2.mem ((c.tc : Thread Cert.GmlpBwd.nD Cert.GmlpBwd.τ).loc Cert.GmlpBwd.main_arg6) = m ((c.tc : Thread Cert.GmlpBwd.nD Cert.GmlpBwd.τ).loc Cert.GmlpBwd.main_arg6))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6))
      ∧ r.2.sem = fun _ => 0)

def quiescent_GmlpBwdIdeal_pre_gmlp_finite [hGmlpBwdIdeal : Cert.GmlpBwdIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_gmlp_finite m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
      ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6))
      ∧ r.2.sem = fun _ => 0)

def quiescent_GmlpBwdRefIdeal_pre_gmlp_finite [hGmlpBwdRefIdeal : Cert.GmlpBwdRefIdeal.Facts] [hPre_gmlp_finite : Cert.Pre_gmlp_finite.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal_gmlp_finite m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4)
      ∧ r.2.mem ((c.tc : Thread Cert.GmlpBwdRefIdeal.nD Cert.GmlpBwdRefIdeal.τ).loc Cert.GmlpBwdRefIdeal.main_arg5) = m ((c.tc : Thread Cert.GmlpBwdRefIdeal.nD Cert.GmlpBwdRefIdeal.τ).loc Cert.GmlpBwdRefIdeal.main_arg5)
      ∧ r.2.mem ((c.tc : Thread Cert.GmlpBwdRefIdeal.nD Cert.GmlpBwdRefIdeal.τ).loc Cert.GmlpBwdRefIdeal.main_arg6) = m ((c.tc : Thread Cert.GmlpBwdRefIdeal.nD Cert.GmlpBwdRefIdeal.τ).loc Cert.GmlpBwdRefIdeal.main_arg6))
      ∧ r.2.sem = fun _ => 0)

def quiescent_GmlpHead [hGmlpHead : Cert.GmlpHead.Facts] : Prop :=
  ∀ (m : (ℓ : Loc Cert.GmlpHead.nD Cert.GmlpHead.τ Cert.GmlpHead.sig) → Buf (Elt Bits) ℓ) (g : Dev Cert.GmlpHead.nD → PrngReg), Pre_GmlpHead m →
    θ_run (Cert.GmlpHead.defs (F := Bits)) (onTc (τ := Cert.GmlpHead.τ) (Cert.GmlpHead.main (F := Bits))) ⟨m, fun _ => 0, g⟩ (fun r => (∀ c : Dev Cert.GmlpHead.nD,
      r.2.mem ((c.tc : Thread Cert.GmlpHead.nD Cert.GmlpHead.τ).loc Cert.GmlpHead.main_arg0) = m ((c.tc : Thread Cert.GmlpHead.nD Cert.GmlpHead.τ).loc Cert.GmlpHead.main_arg0)
      ∧ r.2.mem ((c.tc : Thread Cert.GmlpHead.nD Cert.GmlpHead.τ).loc Cert.GmlpHead.main_arg1) = m ((c.tc : Thread Cert.GmlpHead.nD Cert.GmlpHead.τ).loc Cert.GmlpHead.main_arg1)
      ∧ r.2.mem ((c.tc : Thread Cert.GmlpHead.nD Cert.GmlpHead.τ).loc Cert.GmlpHead.main_arg2) = m ((c.tc : Thread Cert.GmlpHead.nD Cert.GmlpHead.τ).loc Cert.GmlpHead.main_arg2)
      ∧ r.2.mem ((c.tc : Thread Cert.GmlpHead.nD Cert.GmlpHead.τ).loc Cert.GmlpHead.main_arg3) = m ((c.tc : Thread Cert.GmlpHead.nD Cert.GmlpHead.τ).loc Cert.GmlpHead.main_arg3)
      ∧ r.2.mem ((c.tc : Thread Cert.GmlpHead.nD Cert.GmlpHead.τ).loc Cert.GmlpHead.main_arg4) = m ((c.tc : Thread Cert.GmlpHead.nD Cert.GmlpHead.τ).loc Cert.GmlpHead.main_arg4)
      ∧ r.2.mem ((c.tc : Thread Cert.GmlpHead.nD Cert.GmlpHead.τ).loc Cert.GmlpHead.main_arg5) = m ((c.tc : Thread Cert.GmlpHead.nD Cert.GmlpHead.τ).loc Cert.GmlpHead.main_arg5)
      ∧ r.2.mem ((c.tc : Thread Cert.GmlpHead.nD Cert.GmlpHead.τ).loc Cert.GmlpHead.main_arg6) = m ((c.tc : Thread Cert.GmlpHead.nD Cert.GmlpHead.τ).loc Cert.GmlpHead.main_arg6)
      ∧ r.2.mem ((c.tc : Thread Cert.GmlpHead.nD Cert.GmlpHead.τ).loc Cert.GmlpHead.main_arg7) = m ((c.tc : Thread Cert.GmlpHead.nD Cert.GmlpHead.τ).loc Cert.GmlpHead.main_arg7)
      ∧ r.2.mem ((c.tc : Thread Cert.GmlpHead.nD Cert.GmlpHead.τ).loc Cert.GmlpHead.main_arg8) = m ((c.tc : Thread Cert.GmlpHead.nD Cert.GmlpHead.τ).loc Cert.GmlpHead.main_arg8)
      ∧ r.2.mem ((c.tc : Thread Cert.GmlpHead.nD Cert.GmlpHead.τ).loc Cert.GmlpHead.main_arg9) = m ((c.tc : Thread Cert.GmlpHead.nD Cert.GmlpHead.τ).loc Cert.GmlpHead.main_arg9))
      ∧ r.2.sem = fun _ => 0)

def quiescent_GmlpHeadIdeal [hGmlpHeadIdeal : Cert.GmlpHeadIdeal.Facts] : Prop :=
  ∀ (m : (ℓ : Loc Cert.GmlpHeadIdeal.nD Cert.GmlpHeadIdeal.τ Cert.GmlpHeadIdeal.sig) → Buf (Elt Ideal) ℓ) (g : Dev Cert.GmlpHeadIdeal.nD → PrngReg), Pre_GmlpHeadIdeal m →
    θ_run (Cert.GmlpHeadIdeal.defs (F := Ideal)) (onTc (τ := Cert.GmlpHeadIdeal.τ) (Cert.GmlpHeadIdeal.main (F := Ideal))) ⟨m, fun _ => 0, g⟩ (fun r => (∀ c : Dev Cert.GmlpHeadIdeal.nD,
      r.2.mem ((c.tc : Thread Cert.GmlpHeadIdeal.nD Cert.GmlpHeadIdeal.τ).loc Cert.GmlpHeadIdeal.main_arg0) = m ((c.tc : Thread Cert.GmlpHeadIdeal.nD Cert.GmlpHeadIdeal.τ).loc Cert.GmlpHeadIdeal.main_arg0)
      ∧ r.2.mem ((c.tc : Thread Cert.GmlpHeadIdeal.nD Cert.GmlpHeadIdeal.τ).loc Cert.GmlpHeadIdeal.main_arg1) = m ((c.tc : Thread Cert.GmlpHeadIdeal.nD Cert.GmlpHeadIdeal.τ).loc Cert.GmlpHeadIdeal.main_arg1)
      ∧ r.2.mem ((c.tc : Thread Cert.GmlpHeadIdeal.nD Cert.GmlpHeadIdeal.τ).loc Cert.GmlpHeadIdeal.main_arg2) = m ((c.tc : Thread Cert.GmlpHeadIdeal.nD Cert.GmlpHeadIdeal.τ).loc Cert.GmlpHeadIdeal.main_arg2)
      ∧ r.2.mem ((c.tc : Thread Cert.GmlpHeadIdeal.nD Cert.GmlpHeadIdeal.τ).loc Cert.GmlpHeadIdeal.main_arg3) = m ((c.tc : Thread Cert.GmlpHeadIdeal.nD Cert.GmlpHeadIdeal.τ).loc Cert.GmlpHeadIdeal.main_arg3)
      ∧ r.2.mem ((c.tc : Thread Cert.GmlpHeadIdeal.nD Cert.GmlpHeadIdeal.τ).loc Cert.GmlpHeadIdeal.main_arg4) = m ((c.tc : Thread Cert.GmlpHeadIdeal.nD Cert.GmlpHeadIdeal.τ).loc Cert.GmlpHeadIdeal.main_arg4)
      ∧ r.2.mem ((c.tc : Thread Cert.GmlpHeadIdeal.nD Cert.GmlpHeadIdeal.τ).loc Cert.GmlpHeadIdeal.main_arg5) = m ((c.tc : Thread Cert.GmlpHeadIdeal.nD Cert.GmlpHeadIdeal.τ).loc Cert.GmlpHeadIdeal.main_arg5)
      ∧ r.2.mem ((c.tc : Thread Cert.GmlpHeadIdeal.nD Cert.GmlpHeadIdeal.τ).loc Cert.GmlpHeadIdeal.main_arg6) = m ((c.tc : Thread Cert.GmlpHeadIdeal.nD Cert.GmlpHeadIdeal.τ).loc Cert.GmlpHeadIdeal.main_arg6)
      ∧ r.2.mem ((c.tc : Thread Cert.GmlpHeadIdeal.nD Cert.GmlpHeadIdeal.τ).loc Cert.GmlpHeadIdeal.main_arg7) = m ((c.tc : Thread Cert.GmlpHeadIdeal.nD Cert.GmlpHeadIdeal.τ).loc Cert.GmlpHeadIdeal.main_arg7)
      ∧ r.2.mem ((c.tc : Thread Cert.GmlpHeadIdeal.nD Cert.GmlpHeadIdeal.τ).loc Cert.GmlpHeadIdeal.main_arg8) = m ((c.tc : Thread Cert.GmlpHeadIdeal.nD Cert.GmlpHeadIdeal.τ).loc Cert.GmlpHeadIdeal.main_arg8)
      ∧ r.2.mem ((c.tc : Thread Cert.GmlpHeadIdeal.nD Cert.GmlpHeadIdeal.τ).loc Cert.GmlpHeadIdeal.main_arg9) = m ((c.tc : Thread Cert.GmlpHeadIdeal.nD Cert.GmlpHeadIdeal.τ).loc Cert.GmlpHeadIdeal.main_arg9))
      ∧ r.2.sem = fun _ => 0)

def quiescent_GmlpHeadRefIdeal [hGmlpHeadRefIdeal : Cert.GmlpHeadRefIdeal.Facts] : Prop :=
  ∀ (m : (ℓ : Loc Cert.GmlpHeadRefIdeal.nD Cert.GmlpHeadRefIdeal.τ Cert.GmlpHeadRefIdeal.sig) → Buf (Elt Ideal) ℓ) (g : Dev Cert.GmlpHeadRefIdeal.nD → PrngReg), Pre_GmlpHeadRefIdeal m →
    θ_run (Cert.GmlpHeadRefIdeal.defs (F := Ideal)) (onTc (τ := Cert.GmlpHeadRefIdeal.τ) (Cert.GmlpHeadRefIdeal.main (F := Ideal))) ⟨m, fun _ => 0, g⟩ (fun r => (∀ c : Dev Cert.GmlpHeadRefIdeal.nD,
      r.2.mem ((c.tc : Thread Cert.GmlpHeadRefIdeal.nD Cert.GmlpHeadRefIdeal.τ).loc Cert.GmlpHeadRefIdeal.main_arg0) = m ((c.tc : Thread Cert.GmlpHeadRefIdeal.nD Cert.GmlpHeadRefIdeal.τ).loc Cert.GmlpHeadRefIdeal.main_arg0)
      ∧ r.2.mem ((c.tc : Thread Cert.GmlpHeadRefIdeal.nD Cert.GmlpHeadRefIdeal.τ).loc Cert.GmlpHeadRefIdeal.main_arg1) = m ((c.tc : Thread Cert.GmlpHeadRefIdeal.nD Cert.GmlpHeadRefIdeal.τ).loc Cert.GmlpHeadRefIdeal.main_arg1)
      ∧ r.2.mem ((c.tc : Thread Cert.GmlpHeadRefIdeal.nD Cert.GmlpHeadRefIdeal.τ).loc Cert.GmlpHeadRefIdeal.main_arg2) = m ((c.tc : Thread Cert.GmlpHeadRefIdeal.nD Cert.GmlpHeadRefIdeal.τ).loc Cert.GmlpHeadRefIdeal.main_arg2)
      ∧ r.2.mem ((c.tc : Thread Cert.GmlpHeadRefIdeal.nD Cert.GmlpHeadRefIdeal.τ).loc Cert.GmlpHeadRefIdeal.main_arg3) = m ((c.tc : Thread Cert.GmlpHeadRefIdeal.nD Cert.GmlpHeadRefIdeal.τ).loc Cert.GmlpHeadRefIdeal.main_arg3)
      ∧ r.2.mem ((c.tc : Thread Cert.GmlpHeadRefIdeal.nD Cert.GmlpHeadRefIdeal.τ).loc Cert.GmlpHeadRefIdeal.main_arg4) = m ((c.tc : Thread Cert.GmlpHeadRefIdeal.nD Cert.GmlpHeadRefIdeal.τ).loc Cert.GmlpHeadRefIdeal.main_arg4)
      ∧ r.2.mem ((c.tc : Thread Cert.GmlpHeadRefIdeal.nD Cert.GmlpHeadRefIdeal.τ).loc Cert.GmlpHeadRefIdeal.main_arg5) = m ((c.tc : Thread Cert.GmlpHeadRefIdeal.nD Cert.GmlpHeadRefIdeal.τ).loc Cert.GmlpHeadRefIdeal.main_arg5)
      ∧ r.2.mem ((c.tc : Thread Cert.GmlpHeadRefIdeal.nD Cert.GmlpHeadRefIdeal.τ).loc Cert.GmlpHeadRefIdeal.main_arg6) = m ((c.tc : Thread Cert.GmlpHeadRefIdeal.nD Cert.GmlpHeadRefIdeal.τ).loc Cert.GmlpHeadRefIdeal.main_arg6)
      ∧ r.2.mem ((c.tc : Thread Cert.GmlpHeadRefIdeal.nD Cert.GmlpHeadRefIdeal.τ).loc Cert.GmlpHeadRefIdeal.main_arg7) = m ((c.tc : Thread Cert.GmlpHeadRefIdeal.nD Cert.GmlpHeadRefIdeal.τ).loc Cert.GmlpHeadRefIdeal.main_arg7)
      ∧ r.2.mem ((c.tc : Thread Cert.GmlpHeadRefIdeal.nD Cert.GmlpHeadRefIdeal.τ).loc Cert.GmlpHeadRefIdeal.main_arg8) = m ((c.tc : Thread Cert.GmlpHeadRefIdeal.nD Cert.GmlpHeadRefIdeal.τ).loc Cert.GmlpHeadRefIdeal.main_arg8)
      ∧ r.2.mem ((c.tc : Thread Cert.GmlpHeadRefIdeal.nD Cert.GmlpHeadRefIdeal.τ).loc Cert.GmlpHeadRefIdeal.main_arg9) = m ((c.tc : Thread Cert.GmlpHeadRefIdeal.nD Cert.GmlpHeadRefIdeal.τ).loc Cert.GmlpHeadRefIdeal.main_arg9))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ModUpdate [hModUpdate : Cert.ModUpdate.Facts] : Prop :=
  ∀ (m : (ℓ : Loc Cert.ModUpdate.nD Cert.ModUpdate.τ Cert.ModUpdate.sig) → Buf (Elt Bits) ℓ) (g : Dev Cert.ModUpdate.nD → PrngReg), Pre_ModUpdate m →
    θ_run (Cert.ModUpdate.defs (F := Bits)) (onTc (τ := Cert.ModUpdate.τ) (Cert.ModUpdate.main (F := Bits))) ⟨m, fun _ => 0, g⟩ (fun r => (∀ c : Dev Cert.ModUpdate.nD,
      r.2.mem ((c.tc : Thread Cert.ModUpdate.nD Cert.ModUpdate.τ).loc Cert.ModUpdate.main_arg0) = m ((c.tc : Thread Cert.ModUpdate.nD Cert.ModUpdate.τ).loc Cert.ModUpdate.main_arg0)
      ∧ r.2.mem ((c.tc : Thread Cert.ModUpdate.nD Cert.ModUpdate.τ).loc Cert.ModUpdate.main_arg1) = m ((c.tc : Thread Cert.ModUpdate.nD Cert.ModUpdate.τ).loc Cert.ModUpdate.main_arg1)
      ∧ r.2.mem ((c.tc : Thread Cert.ModUpdate.nD Cert.ModUpdate.τ).loc Cert.ModUpdate.main_arg2) = m ((c.tc : Thread Cert.ModUpdate.nD Cert.ModUpdate.τ).loc Cert.ModUpdate.main_arg2)
      ∧ r.2.mem ((c.tc : Thread Cert.ModUpdate.nD Cert.ModUpdate.τ).loc Cert.ModUpdate.main_arg3) = m ((c.tc : Thread Cert.ModUpdate.nD Cert.ModUpdate.τ).loc Cert.ModUpdate.main_arg3)
      ∧ r.2.mem ((c.tc : Thread Cert.ModUpdate.nD Cert.ModUpdate.τ).loc Cert.ModUpdate.main_arg4) = m ((c.tc : Thread Cert.ModUpdate.nD Cert.ModUpdate.τ).loc Cert.ModUpdate.main_arg4))
      ∧ r.2.sem = fun _ => 0)

def quiescent_ModUpdateIdeal [hModUpdateIdeal : Cert.ModUpdateIdeal.Facts] : Prop :=
  ∀ (m : (ℓ : Loc Cert.ModUpdateIdeal.nD Cert.ModUpdateIdeal.τ Cert.ModUpdateIdeal.sig) → Buf (Elt Ideal) ℓ) (g : Dev Cert.ModUpdateIdeal.nD → PrngReg), Pre_ModUpdateIdeal m →
    θ_run (Cert.ModUpdateIdeal.defs (F := Ideal)) (onTc (τ := Cert.ModUpdateIdeal.τ) (Cert.ModUpdateIdeal.main (F := Ideal))) ⟨m, fun _ => 0, g⟩ (fun r => (∀ c : Dev Cert.ModUpdateIdeal.nD,
      r.2.mem ((c.tc : Thread Cert.ModUpdateIdeal.nD Cert.ModUpdateIdeal.τ).loc Cert.ModUpdateIdeal.main_arg0) = m ((c.tc : Thread Cert.ModUpdateIdeal.nD Cert.ModUpdateIdeal.τ).loc Cert.ModUpdateIdeal.main_arg0)
      ∧ r.2.mem ((c.tc : Thread Cert.ModUpdateIdeal.nD Cert.ModUpdateIdeal.τ).loc Cert.ModUpdateIdeal.main_arg1) = m ((c.tc : Thread Cert.ModUpdateIdeal.nD Cert.ModUpdateIdeal.τ).loc Cert.ModUpdateIdeal.main_arg1)
      ∧ r.2.mem ((c.tc : Thread Cert.ModUpdateIdeal.nD Cert.ModUpdateIdeal.τ).loc Cert.ModUpdateIdeal.main_arg2) = m ((c.tc : Thread Cert.ModUpdateIdeal.nD Cert.ModUpdateIdeal.τ).loc Cert.ModUpdateIdeal.main_arg2)
      ∧ r.2.mem ((c.tc : Thread Cert.ModUpdateIdeal.nD Cert.ModUpdateIdeal.τ).loc Cert.ModUpdateIdeal.main_arg3) = m ((c.tc : Thread Cert.ModUpdateIdeal.nD Cert.ModUpdateIdeal.τ).loc Cert.ModUpdateIdeal.main_arg3)
      ∧ r.2.mem ((c.tc : Thread Cert.ModUpdateIdeal.nD Cert.ModUpdateIdeal.τ).loc Cert.ModUpdateIdeal.main_arg4) = m ((c.tc : Thread Cert.ModUpdateIdeal.nD Cert.ModUpdateIdeal.τ).loc Cert.ModUpdateIdeal.main_arg4))
      ∧ r.2.sem = fun _ => 0)

def quiescent_ModUpdateRefIdeal [hModUpdateRefIdeal : Cert.ModUpdateRefIdeal.Facts] : Prop :=
  ∀ (m : (ℓ : Loc Cert.ModUpdateRefIdeal.nD Cert.ModUpdateRefIdeal.τ Cert.ModUpdateRefIdeal.sig) → Buf (Elt Ideal) ℓ) (g : Dev Cert.ModUpdateRefIdeal.nD → PrngReg), Pre_ModUpdateRefIdeal m →
    θ_run (Cert.ModUpdateRefIdeal.defs (F := Ideal)) (onTc (τ := Cert.ModUpdateRefIdeal.τ) (Cert.ModUpdateRefIdeal.main (F := Ideal))) ⟨m, fun _ => 0, g⟩ (fun r => (∀ c : Dev Cert.ModUpdateRefIdeal.nD,
      r.2.mem ((c.tc : Thread Cert.ModUpdateRefIdeal.nD Cert.ModUpdateRefIdeal.τ).loc Cert.ModUpdateRefIdeal.main_arg0) = m ((c.tc : Thread Cert.ModUpdateRefIdeal.nD Cert.ModUpdateRefIdeal.τ).loc Cert.ModUpdateRefIdeal.main_arg0)
      ∧ r.2.mem ((c.tc : Thread Cert.ModUpdateRefIdeal.nD Cert.ModUpdateRefIdeal.τ).loc Cert.ModUpdateRefIdeal.main_arg1) = m ((c.tc : Thread Cert.ModUpdateRefIdeal.nD Cert.ModUpdateRefIdeal.τ).loc Cert.ModUpdateRefIdeal.main_arg1)
      ∧ r.2.mem ((c.tc : Thread Cert.ModUpdateRefIdeal.nD Cert.ModUpdateRefIdeal.τ).loc Cert.ModUpdateRefIdeal.main_arg2) = m ((c.tc : Thread Cert.ModUpdateRefIdeal.nD Cert.ModUpdateRefIdeal.τ).loc Cert.ModUpdateRefIdeal.main_arg2)
      ∧ r.2.mem ((c.tc : Thread Cert.ModUpdateRefIdeal.nD Cert.ModUpdateRefIdeal.τ).loc Cert.ModUpdateRefIdeal.main_arg3) = m ((c.tc : Thread Cert.ModUpdateRefIdeal.nD Cert.ModUpdateRefIdeal.τ).loc Cert.ModUpdateRefIdeal.main_arg3)
      ∧ r.2.mem ((c.tc : Thread Cert.ModUpdateRefIdeal.nD Cert.ModUpdateRefIdeal.τ).loc Cert.ModUpdateRefIdeal.main_arg4) = m ((c.tc : Thread Cert.ModUpdateRefIdeal.nD Cert.ModUpdateRefIdeal.τ).loc Cert.ModUpdateRefIdeal.main_arg4))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_ProjSlab [hProjSlab : Cert.ProjSlab.Facts] : Prop :=
  ∀ (m : (ℓ : Loc Cert.ProjSlab.nD Cert.ProjSlab.τ Cert.ProjSlab.sig) → Buf (Elt Bits) ℓ) (g : Dev Cert.ProjSlab.nD → PrngReg), Pre_ProjSlab m →
    θ_run (Cert.ProjSlab.defs (F := Bits)) (onTc (τ := Cert.ProjSlab.τ) (Cert.ProjSlab.main (F := Bits))) ⟨m, fun _ => 0, g⟩ (fun r => (∀ c : Dev Cert.ProjSlab.nD,
      r.2.mem ((c.tc : Thread Cert.ProjSlab.nD Cert.ProjSlab.τ).loc Cert.ProjSlab.main_arg0) = m ((c.tc : Thread Cert.ProjSlab.nD Cert.ProjSlab.τ).loc Cert.ProjSlab.main_arg0)
      ∧ r.2.mem ((c.tc : Thread Cert.ProjSlab.nD Cert.ProjSlab.τ).loc Cert.ProjSlab.main_arg1) = m ((c.tc : Thread Cert.ProjSlab.nD Cert.ProjSlab.τ).loc Cert.ProjSlab.main_arg1)
      ∧ r.2.mem ((c.tc : Thread Cert.ProjSlab.nD Cert.ProjSlab.τ).loc Cert.ProjSlab.main_arg2) = m ((c.tc : Thread Cert.ProjSlab.nD Cert.ProjSlab.τ).loc Cert.ProjSlab.main_arg2))
      ∧ r.2.sem = fun _ => 0)

def quiescent_ProjSlabIdeal [hProjSlabIdeal : Cert.ProjSlabIdeal.Facts] : Prop :=
  ∀ (m : (ℓ : Loc Cert.ProjSlabIdeal.nD Cert.ProjSlabIdeal.τ Cert.ProjSlabIdeal.sig) → Buf (Elt Ideal) ℓ) (g : Dev Cert.ProjSlabIdeal.nD → PrngReg), Pre_ProjSlabIdeal m →
    θ_run (Cert.ProjSlabIdeal.defs (F := Ideal)) (onTc (τ := Cert.ProjSlabIdeal.τ) (Cert.ProjSlabIdeal.main (F := Ideal))) ⟨m, fun _ => 0, g⟩ (fun r => (∀ c : Dev Cert.ProjSlabIdeal.nD,
      r.2.mem ((c.tc : Thread Cert.ProjSlabIdeal.nD Cert.ProjSlabIdeal.τ).loc Cert.ProjSlabIdeal.main_arg0) = m ((c.tc : Thread Cert.ProjSlabIdeal.nD Cert.ProjSlabIdeal.τ).loc Cert.ProjSlabIdeal.main_arg0)
      ∧ r.2.mem ((c.tc : Thread Cert.ProjSlabIdeal.nD Cert.ProjSlabIdeal.τ).loc Cert.ProjSlabIdeal.main_arg1) = m ((c.tc : Thread Cert.ProjSlabIdeal.nD Cert.ProjSlabIdeal.τ).loc Cert.ProjSlabIdeal.main_arg1)
      ∧ r.2.mem ((c.tc : Thread Cert.ProjSlabIdeal.nD Cert.ProjSlabIdeal.τ).loc Cert.ProjSlabIdeal.main_arg2) = m ((c.tc : Thread Cert.ProjSlabIdeal.nD Cert.ProjSlabIdeal.τ).loc Cert.ProjSlabIdeal.main_arg2))
      ∧ r.2.sem = fun _ => 0)

def quiescent_ProjSlabRefIdeal [hProjSlabRefIdeal : Cert.ProjSlabRefIdeal.Facts] : Prop :=
  ∀ (m : (ℓ : Loc Cert.ProjSlabRefIdeal.nD Cert.ProjSlabRefIdeal.τ Cert.ProjSlabRefIdeal.sig) → Buf (Elt Ideal) ℓ) (g : Dev Cert.ProjSlabRefIdeal.nD → PrngReg), Pre_ProjSlabRefIdeal m →
    θ_run (Cert.ProjSlabRefIdeal.defs (F := Ideal)) (onTc (τ := Cert.ProjSlabRefIdeal.τ) (Cert.ProjSlabRefIdeal.main (F := Ideal))) ⟨m, fun _ => 0, g⟩ (fun r => (∀ c : Dev Cert.ProjSlabRefIdeal.nD,
      r.2.mem ((c.tc : Thread Cert.ProjSlabRefIdeal.nD Cert.ProjSlabRefIdeal.τ).loc Cert.ProjSlabRefIdeal.main_arg0) = m ((c.tc : Thread Cert.ProjSlabRefIdeal.nD Cert.ProjSlabRefIdeal.τ).loc Cert.ProjSlabRefIdeal.main_arg0)
      ∧ r.2.mem ((c.tc : Thread Cert.ProjSlabRefIdeal.nD Cert.ProjSlabRefIdeal.τ).loc Cert.ProjSlabRefIdeal.main_arg1) = m ((c.tc : Thread Cert.ProjSlabRefIdeal.nD Cert.ProjSlabRefIdeal.τ).loc Cert.ProjSlabRefIdeal.main_arg1)
      ∧ r.2.mem ((c.tc : Thread Cert.ProjSlabRefIdeal.nD Cert.ProjSlabRefIdeal.τ).loc Cert.ProjSlabRefIdeal.main_arg2) = m ((c.tc : Thread Cert.ProjSlabRefIdeal.nD Cert.ProjSlabRefIdeal.τ).loc Cert.ProjSlabRefIdeal.main_arg2))
      ∧ r.2.sem = fun _ => 0)

def quiescent_AddPieces [hAddPieces : Cert.AddPieces.Facts] : Prop :=
  ∀ (m : (ℓ : Loc Cert.AddPieces.nD Cert.AddPieces.τ Cert.AddPieces.sig) → Buf (Elt Bits) ℓ) (g : Dev Cert.AddPieces.nD → PrngReg), Pre_AddPieces m →
    θ_run (Cert.AddPieces.defs (F := Bits)) (onTc (τ := Cert.AddPieces.τ) (Cert.AddPieces.main (F := Bits))) ⟨m, fun _ => 0, g⟩ (fun r => (∀ c : Dev Cert.AddPieces.nD,
      r.2.mem ((c.tc : Thread Cert.AddPieces.nD Cert.AddPieces.τ).loc Cert.AddPieces.main_arg0) = m ((c.tc : Thread Cert.AddPieces.nD Cert.AddPieces.τ).loc Cert.AddPieces.main_arg0)
      ∧ r.2.mem ((c.tc : Thread Cert.AddPieces.nD Cert.AddPieces.τ).loc Cert.AddPieces.main_arg1) = m ((c.tc : Thread Cert.AddPieces.nD Cert.AddPieces.τ).loc Cert.AddPieces.main_arg1))
      ∧ r.2.sem = fun _ => 0)

def quiescent_AddPiecesIdeal [hAddPiecesIdeal : Cert.AddPiecesIdeal.Facts] : Prop :=
  ∀ (m : (ℓ : Loc Cert.AddPiecesIdeal.nD Cert.AddPiecesIdeal.τ Cert.AddPiecesIdeal.sig) → Buf (Elt Ideal) ℓ) (g : Dev Cert.AddPiecesIdeal.nD → PrngReg), Pre_AddPiecesIdeal m →
    θ_run (Cert.AddPiecesIdeal.defs (F := Ideal)) (onTc (τ := Cert.AddPiecesIdeal.τ) (Cert.AddPiecesIdeal.main (F := Ideal))) ⟨m, fun _ => 0, g⟩ (fun r => (∀ c : Dev Cert.AddPiecesIdeal.nD,
      r.2.mem ((c.tc : Thread Cert.AddPiecesIdeal.nD Cert.AddPiecesIdeal.τ).loc Cert.AddPiecesIdeal.main_arg0) = m ((c.tc : Thread Cert.AddPiecesIdeal.nD Cert.AddPiecesIdeal.τ).loc Cert.AddPiecesIdeal.main_arg0)
      ∧ r.2.mem ((c.tc : Thread Cert.AddPiecesIdeal.nD Cert.AddPiecesIdeal.τ).loc Cert.AddPiecesIdeal.main_arg1) = m ((c.tc : Thread Cert.AddPiecesIdeal.nD Cert.AddPiecesIdeal.τ).loc Cert.AddPiecesIdeal.main_arg1))
      ∧ r.2.sem = fun _ => 0)

def quiescent_AddPiecesRefIdeal [hAddPiecesRefIdeal : Cert.AddPiecesRefIdeal.Facts] : Prop :=
  ∀ (m : (ℓ : Loc Cert.AddPiecesRefIdeal.nD Cert.AddPiecesRefIdeal.τ Cert.AddPiecesRefIdeal.sig) → Buf (Elt Ideal) ℓ) (g : Dev Cert.AddPiecesRefIdeal.nD → PrngReg), Pre_AddPiecesRefIdeal m →
    θ_run (Cert.AddPiecesRefIdeal.defs (F := Ideal)) (onTc (τ := Cert.AddPiecesRefIdeal.τ) (Cert.AddPiecesRefIdeal.main (F := Ideal))) ⟨m, fun _ => 0, g⟩ (fun r => (∀ c : Dev Cert.AddPiecesRefIdeal.nD,
      r.2.mem ((c.tc : Thread Cert.AddPiecesRefIdeal.nD Cert.AddPiecesRefIdeal.τ).loc Cert.AddPiecesRefIdeal.main_arg0) = m ((c.tc : Thread Cert.AddPiecesRefIdeal.nD Cert.AddPiecesRefIdeal.τ).loc Cert.AddPiecesRefIdeal.main_arg0)
      ∧ r.2.mem ((c.tc : Thread Cert.AddPiecesRefIdeal.nD Cert.AddPiecesRefIdeal.τ).loc Cert.AddPiecesRefIdeal.main_arg1) = m ((c.tc : Thread Cert.AddPiecesRefIdeal.nD Cert.AddPiecesRefIdeal.τ).loc Cert.AddPiecesRefIdeal.main_arg1))
      ∧ r.2.sem = fun _ => 0)

def quiescent_PlaceOwn [hPlaceOwn : Cert.PlaceOwn.Facts] : Prop :=
  ∀ (m : (ℓ : Loc Cert.PlaceOwn.nD Cert.PlaceOwn.τ Cert.PlaceOwn.sig) → Buf (Elt Bits) ℓ) (g : Dev Cert.PlaceOwn.nD → PrngReg), Pre_PlaceOwn m →
    θ_run (Cert.PlaceOwn.defs (F := Bits)) (onTc (τ := Cert.PlaceOwn.τ) (Cert.PlaceOwn.main (F := Bits))) ⟨m, fun _ => 0, g⟩ (fun r => (∀ c : Dev Cert.PlaceOwn.nD,
      r.2.mem ((c.tc : Thread Cert.PlaceOwn.nD Cert.PlaceOwn.τ).loc Cert.PlaceOwn.main_arg0) = m ((c.tc : Thread Cert.PlaceOwn.nD Cert.PlaceOwn.τ).loc Cert.PlaceOwn.main_arg0))
      ∧ r.2.sem = fun _ => 0)

def quiescent_PlaceOwnIdeal [hPlaceOwnIdeal : Cert.PlaceOwnIdeal.Facts] : Prop :=
  ∀ (m : (ℓ : Loc Cert.PlaceOwnIdeal.nD Cert.PlaceOwnIdeal.τ Cert.PlaceOwnIdeal.sig) → Buf (Elt Ideal) ℓ) (g : Dev Cert.PlaceOwnIdeal.nD → PrngReg), Pre_PlaceOwnIdeal m →
    θ_run (Cert.PlaceOwnIdeal.defs (F := Ideal)) (onTc (τ := Cert.PlaceOwnIdeal.τ) (Cert.PlaceOwnIdeal.main (F := Ideal))) ⟨m, fun _ => 0, g⟩ (fun r => (∀ c : Dev Cert.PlaceOwnIdeal.nD,
      r.2.mem ((c.tc : Thread Cert.PlaceOwnIdeal.nD Cert.PlaceOwnIdeal.τ).loc Cert.PlaceOwnIdeal.main_arg0) = m ((c.tc : Thread Cert.PlaceOwnIdeal.nD Cert.PlaceOwnIdeal.τ).loc Cert.PlaceOwnIdeal.main_arg0))
      ∧ r.2.sem = fun _ => 0)

def quiescent_PlaceOwnRefIdeal [hPlaceOwnRefIdeal : Cert.PlaceOwnRefIdeal.Facts] : Prop :=
  ∀ (m : (ℓ : Loc Cert.PlaceOwnRefIdeal.nD Cert.PlaceOwnRefIdeal.τ Cert.PlaceOwnRefIdeal.sig) → Buf (Elt Ideal) ℓ) (g : Dev Cert.PlaceOwnRefIdeal.nD → PrngReg), Pre_PlaceOwnRefIdeal m →
    θ_run (Cert.PlaceOwnRefIdeal.defs (F := Ideal)) (onTc (τ := Cert.PlaceOwnRefIdeal.τ) (Cert.PlaceOwnRefIdeal.main (F := Ideal))) ⟨m, fun _ => 0, g⟩ (fun r => (∀ c : Dev Cert.PlaceOwnRefIdeal.nD,
      r.2.mem ((c.tc : Thread Cert.PlaceOwnRefIdeal.nD Cert.PlaceOwnRefIdeal.τ).loc Cert.PlaceOwnRefIdeal.main_arg0) = m ((c.tc : Thread Cert.PlaceOwnRefIdeal.nD Cert.PlaceOwnRefIdeal.τ).loc Cert.PlaceOwnRefIdeal.main_arg0))
      ∧ r.2.sem = fun _ => 0)

def quiescent_PlaceOwnRef [hPlaceOwnRef : Cert.PlaceOwnRef.Facts] : Prop :=
  ∀ (m : (ℓ : Loc Cert.PlaceOwnRef.nD Cert.PlaceOwnRef.τ Cert.PlaceOwnRef.sig) → Buf (Elt Bits) ℓ) (g : Dev Cert.PlaceOwnRef.nD → PrngReg), Pre_PlaceOwnRef m →
    θ_run (Cert.PlaceOwnRef.defs (F := Bits)) (onTc (τ := Cert.PlaceOwnRef.τ) (Cert.PlaceOwnRef.main (F := Bits))) ⟨m, fun _ => 0, g⟩ (fun r => (∀ c : Dev Cert.PlaceOwnRef.nD,
      r.2.mem ((c.tc : Thread Cert.PlaceOwnRef.nD Cert.PlaceOwnRef.τ).loc Cert.PlaceOwnRef.main_arg0) = m ((c.tc : Thread Cert.PlaceOwnRef.nD Cert.PlaceOwnRef.τ).loc Cert.PlaceOwnRef.main_arg0))
      ∧ r.2.sem = fun _ => 0)

def preserves_AProjDx_AProjDxIdeal : Prop :=
  True

def algebraic_AProjDxIdeal_AProjDxRefIdeal [hAProjDxIdeal : Cert.AProjDxIdeal.Facts] [hAProjDxRefIdeal : Cert.AProjDxRefIdeal.Facts] : Prop :=
  ∀ (m : (ℓ : Loc Cert.AProjDxIdeal.nD Cert.AProjDxIdeal.τ Cert.AProjDxIdeal.sig) → Buf (Elt Ideal) ℓ) (g : Dev Cert.AProjDxIdeal.nD → PrngReg)
    (m' : (ℓ : Loc Cert.AProjDxRefIdeal.nD Cert.AProjDxRefIdeal.τ Cert.AProjDxRefIdeal.sig) → Buf (Elt Ideal) ℓ) (g' : Dev Cert.AProjDxRefIdeal.nD → PrngReg), Pre_AProjDxIdeal m →
    (∀ c : Dev Cert.AProjDxIdeal.nD,
      m' ((c.tc : Thread Cert.AProjDxRefIdeal.nD Cert.AProjDxRefIdeal.τ).loc Cert.AProjDxRefIdeal.main_arg0) = m ((c.tc : Thread Cert.AProjDxIdeal.nD Cert.AProjDxIdeal.τ).loc Cert.AProjDxIdeal.main_arg0)
      ∧ m' ((c.tc : Thread Cert.AProjDxRefIdeal.nD Cert.AProjDxRefIdeal.τ).loc Cert.AProjDxRefIdeal.main_arg1) = m ((c.tc : Thread Cert.AProjDxIdeal.nD Cert.AProjDxIdeal.τ).loc Cert.AProjDxIdeal.main_arg1)
      ∧ m' ((c.tc : Thread Cert.AProjDxRefIdeal.nD Cert.AProjDxRefIdeal.τ).loc Cert.AProjDxRefIdeal.main_arg2) = m ((c.tc : Thread Cert.AProjDxIdeal.nD Cert.AProjDxIdeal.τ).loc Cert.AProjDxIdeal.main_arg2)
      ∧ m' ((c.tc : Thread Cert.AProjDxRefIdeal.nD Cert.AProjDxRefIdeal.τ).loc Cert.AProjDxRefIdeal.main_arg3) = m ((c.tc : Thread Cert.AProjDxIdeal.nD Cert.AProjDxIdeal.τ).loc Cert.AProjDxIdeal.main_arg3)
      ∧ m' ((c.tc : Thread Cert.AProjDxRefIdeal.nD Cert.AProjDxRefIdeal.τ).loc Cert.AProjDxRefIdeal.main_arg4) = m ((c.tc : Thread Cert.AProjDxIdeal.nD Cert.AProjDxIdeal.τ).loc Cert.AProjDxIdeal.main_arg4)
      ∧ m' ((c.tc : Thread Cert.AProjDxRefIdeal.nD Cert.AProjDxRefIdeal.τ).loc Cert.AProjDxRefIdeal.main_arg5) = m ((c.tc : Thread Cert.AProjDxIdeal.nD Cert.AProjDxIdeal.τ).loc Cert.AProjDxIdeal.main_arg5)) →
    ∃ (v0 : (c : Dev Cert.AProjDxIdeal.nD) → Buf (Elt Ideal) ((c.tc : Thread Cert.AProjDxIdeal.nD Cert.AProjDxIdeal.τ).loc Cert.AProjDxIdeal.main_v10_0)) (v1 : (c : Dev Cert.AProjDxIdeal.nD) → Buf (Elt Ideal) ((c.tc : Thread Cert.AProjDxIdeal.nD Cert.AProjDxIdeal.τ).loc Cert.AProjDxIdeal.main_v10_1)) (v2 : (c : Dev Cert.AProjDxIdeal.nD) → Buf (Elt Ideal) ((c.tc : Thread Cert.AProjDxIdeal.nD Cert.AProjDxIdeal.τ).loc Cert.AProjDxIdeal.main_v10_2)) (v3 : (c : Dev Cert.AProjDxIdeal.nD) → Buf (Elt Ideal) ((c.tc : Thread Cert.AProjDxIdeal.nD Cert.AProjDxIdeal.τ).loc Cert.AProjDxIdeal.main_v10_3)),
      θ_run (Cert.AProjDxIdeal.defs (F := Ideal)) (onTc (τ := Cert.AProjDxIdeal.τ) (Cert.AProjDxIdeal.main (F := Ideal))) ⟨m, fun _ => 0, g⟩ (fun r => ∀ c : Dev Cert.AProjDxIdeal.nD,
          r.2.mem ((c.tc : Thread Cert.AProjDxIdeal.nD Cert.AProjDxIdeal.τ).loc Cert.AProjDxIdeal.main_v10_0) = v0 c
          ∧ r.2.mem ((c.tc : Thread Cert.AProjDxIdeal.nD Cert.AProjDxIdeal.τ).loc Cert.AProjDxIdeal.main_v10_1) = v1 c
          ∧ r.2.mem ((c.tc : Thread Cert.AProjDxIdeal.nD Cert.AProjDxIdeal.τ).loc Cert.AProjDxIdeal.main_v10_2) = v2 c
          ∧ r.2.mem ((c.tc : Thread Cert.AProjDxIdeal.nD Cert.AProjDxIdeal.τ).loc Cert.AProjDxIdeal.main_v10_3) = v3 c
          ∧ r.2.mem ((c.tc : Thread Cert.AProjDxIdeal.nD Cert.AProjDxIdeal.τ).loc Cert.AProjDxIdeal.main_arg0) = m ((c.tc : Thread Cert.AProjDxIdeal.nD Cert.AProjDxIdeal.τ).loc Cert.AProjDxIdeal.main_arg0)
          ∧ r.2.mem ((c.tc : Thread Cert.AProjDxIdeal.nD Cert.AProjDxIdeal.τ).loc Cert.AProjDxIdeal.main_arg1) = m ((c.tc : Thread Cert.AProjDxIdeal.nD Cert.AProjDxIdeal.τ).loc Cert.AProjDxIdeal.main_arg1)
          ∧ r.2.mem ((c.tc : Thread Cert.AProjDxIdeal.nD Cert.AProjDxIdeal.τ).loc Cert.AProjDxIdeal.main_arg2) = m ((c.tc : Thread Cert.AProjDxIdeal.nD Cert.AProjDxIdeal.τ).loc Cert.AProjDxIdeal.main_arg2)
          ∧ r.2.mem ((c.tc : Thread Cert.AProjDxIdeal.nD Cert.AProjDxIdeal.τ).loc Cert.AProjDxIdeal.main_arg3) = m ((c.tc : Thread Cert.AProjDxIdeal.nD Cert.AProjDxIdeal.τ).loc Cert.AProjDxIdeal.main_arg3)
          ∧ r.2.mem ((c.tc : Thread Cert.AProjDxIdeal.nD Cert.AProjDxIdeal.τ).loc Cert.AProjDxIdeal.main_arg4) = m ((c.tc : Thread Cert.AProjDxIdeal.nD Cert.AProjDxIdeal.τ).loc Cert.AProjDxIdeal.main_arg4)
          ∧ r.2.mem ((c.tc : Thread Cert.AProjDxIdeal.nD Cert.AProjDxIdeal.τ).loc Cert.AProjDxIdeal.main_arg5) = m ((c.tc : Thread Cert.AProjDxIdeal.nD Cert.AProjDxIdeal.τ).loc Cert.AProjDxIdeal.main_arg5))
      ∧ θ_run (Cert.AProjDxRefIdeal.defs (F := Ideal)) (onTc (τ := Cert.AProjDxRefIdeal.τ) (Cert.AProjDxRefIdeal.main (F := Ideal))) ⟨m', fun _ => 0, g'⟩ (fun r => ∀ c : Dev Cert.AProjDxRefIdeal.nD,
          r.2.mem ((c.tc : Thread Cert.AProjDxRefIdeal.nD Cert.AProjDxRefIdeal.τ).loc Cert.AProjDxRefIdeal.main_v60) = v0 c
          ∧ r.2.mem ((c.tc : Thread Cert.AProjDxRefIdeal.nD Cert.AProjDxRefIdeal.τ).loc Cert.AProjDxRefIdeal.main_v61) = v1 c
          ∧ r.2.mem ((c.tc : Thread Cert.AProjDxRefIdeal.nD Cert.AProjDxRefIdeal.τ).loc Cert.AProjDxRefIdeal.main_v62) = v2 c
          ∧ r.2.mem ((c.tc : Thread Cert.AProjDxRefIdeal.nD Cert.AProjDxRefIdeal.τ).loc Cert.AProjDxRefIdeal.main_v59) = v3 c
          ∧ r.2.mem ((c.tc : Thread Cert.AProjDxRefIdeal.nD Cert.AProjDxRefIdeal.τ).loc Cert.AProjDxRefIdeal.main_arg0) = m' ((c.tc : Thread Cert.AProjDxRefIdeal.nD Cert.AProjDxRefIdeal.τ).loc Cert.AProjDxRefIdeal.main_arg0)
          ∧ r.2.mem ((c.tc : Thread Cert.AProjDxRefIdeal.nD Cert.AProjDxRefIdeal.τ).loc Cert.AProjDxRefIdeal.main_arg1) = m' ((c.tc : Thread Cert.AProjDxRefIdeal.nD Cert.AProjDxRefIdeal.τ).loc Cert.AProjDxRefIdeal.main_arg1)
          ∧ r.2.mem ((c.tc : Thread Cert.AProjDxRefIdeal.nD Cert.AProjDxRefIdeal.τ).loc Cert.AProjDxRefIdeal.main_arg2) = m' ((c.tc : Thread Cert.AProjDxRefIdeal.nD Cert.AProjDxRefIdeal.τ).loc Cert.AProjDxRefIdeal.main_arg2)
          ∧ r.2.mem ((c.tc : Thread Cert.AProjDxRefIdeal.nD Cert.AProjDxRefIdeal.τ).loc Cert.AProjDxRefIdeal.main_arg3) = m' ((c.tc : Thread Cert.AProjDxRefIdeal.nD Cert.AProjDxRefIdeal.τ).loc Cert.AProjDxRefIdeal.main_arg3)
          ∧ r.2.mem ((c.tc : Thread Cert.AProjDxRefIdeal.nD Cert.AProjDxRefIdeal.τ).loc Cert.AProjDxRefIdeal.main_arg4) = m' ((c.tc : Thread Cert.AProjDxRefIdeal.nD Cert.AProjDxRefIdeal.τ).loc Cert.AProjDxRefIdeal.main_arg4)
          ∧ r.2.mem ((c.tc : Thread Cert.AProjDxRefIdeal.nD Cert.AProjDxRefIdeal.τ).loc Cert.AProjDxRefIdeal.main_arg5) = m' ((c.tc : Thread Cert.AProjDxRefIdeal.nD Cert.AProjDxRefIdeal.τ).loc Cert.AProjDxRefIdeal.main_arg5))

def preserves_BProjDx_BProjDxIdeal : Prop :=
  True

def algebraic_BProjDxIdeal_BProjDxRefIdeal [hBProjDxIdeal : Cert.BProjDxIdeal.Facts] [hBProjDxRefIdeal : Cert.BProjDxRefIdeal.Facts] : Prop :=
  ∀ (m : (ℓ : Loc Cert.BProjDxIdeal.nD Cert.BProjDxIdeal.τ Cert.BProjDxIdeal.sig) → Buf (Elt Ideal) ℓ) (g : Dev Cert.BProjDxIdeal.nD → PrngReg)
    (m' : (ℓ : Loc Cert.BProjDxRefIdeal.nD Cert.BProjDxRefIdeal.τ Cert.BProjDxRefIdeal.sig) → Buf (Elt Ideal) ℓ) (g' : Dev Cert.BProjDxRefIdeal.nD → PrngReg), Pre_BProjDxIdeal m →
    (∀ c : Dev Cert.BProjDxIdeal.nD,
      m' ((c.tc : Thread Cert.BProjDxRefIdeal.nD Cert.BProjDxRefIdeal.τ).loc Cert.BProjDxRefIdeal.main_arg0) = m ((c.tc : Thread Cert.BProjDxIdeal.nD Cert.BProjDxIdeal.τ).loc Cert.BProjDxIdeal.main_arg0)
      ∧ m' ((c.tc : Thread Cert.BProjDxRefIdeal.nD Cert.BProjDxRefIdeal.τ).loc Cert.BProjDxRefIdeal.main_arg1) = m ((c.tc : Thread Cert.BProjDxIdeal.nD Cert.BProjDxIdeal.τ).loc Cert.BProjDxIdeal.main_arg1)
      ∧ m' ((c.tc : Thread Cert.BProjDxRefIdeal.nD Cert.BProjDxRefIdeal.τ).loc Cert.BProjDxRefIdeal.main_arg2) = m ((c.tc : Thread Cert.BProjDxIdeal.nD Cert.BProjDxIdeal.τ).loc Cert.BProjDxIdeal.main_arg2)
      ∧ m' ((c.tc : Thread Cert.BProjDxRefIdeal.nD Cert.BProjDxRefIdeal.τ).loc Cert.BProjDxRefIdeal.main_arg3) = m ((c.tc : Thread Cert.BProjDxIdeal.nD Cert.BProjDxIdeal.τ).loc Cert.BProjDxIdeal.main_arg3)
      ∧ m' ((c.tc : Thread Cert.BProjDxRefIdeal.nD Cert.BProjDxRefIdeal.τ).loc Cert.BProjDxRefIdeal.main_arg4) = m ((c.tc : Thread Cert.BProjDxIdeal.nD Cert.BProjDxIdeal.τ).loc Cert.BProjDxIdeal.main_arg4)
      ∧ m' ((c.tc : Thread Cert.BProjDxRefIdeal.nD Cert.BProjDxRefIdeal.τ).loc Cert.BProjDxRefIdeal.main_arg5) = m ((c.tc : Thread Cert.BProjDxIdeal.nD Cert.BProjDxIdeal.τ).loc Cert.BProjDxIdeal.main_arg5)
      ∧ m' ((c.tc : Thread Cert.BProjDxRefIdeal.nD Cert.BProjDxRefIdeal.τ).loc Cert.BProjDxRefIdeal.main_arg6) = m ((c.tc : Thread Cert.BProjDxIdeal.nD Cert.BProjDxIdeal.τ).loc Cert.BProjDxIdeal.main_arg6)
      ∧ m' ((c.tc : Thread Cert.BProjDxRefIdeal.nD Cert.BProjDxRefIdeal.τ).loc Cert.BProjDxRefIdeal.main_arg7) = m ((c.tc : Thread Cert.BProjDxIdeal.nD Cert.BProjDxIdeal.τ).loc Cert.BProjDxIdeal.main_arg7)) →
    ∃ (v0 : (c : Dev Cert.BProjDxIdeal.nD) → Buf (Elt Ideal) ((c.tc : Thread Cert.BProjDxIdeal.nD Cert.BProjDxIdeal.τ).loc Cert.BProjDxIdeal.main_v16_0)) (v1 : (c : Dev Cert.BProjDxIdeal.nD) → Buf (Elt Ideal) ((c.tc : Thread Cert.BProjDxIdeal.nD Cert.BProjDxIdeal.τ).loc Cert.BProjDxIdeal.main_v16_1)) (v2 : (c : Dev Cert.BProjDxIdeal.nD) → Buf (Elt Ideal) ((c.tc : Thread Cert.BProjDxIdeal.nD Cert.BProjDxIdeal.τ).loc Cert.BProjDxIdeal.main_v16_2)) (v3 : (c : Dev Cert.BProjDxIdeal.nD) → Buf (Elt Ideal) ((c.tc : Thread Cert.BProjDxIdeal.nD Cert.BProjDxIdeal.τ).loc Cert.BProjDxIdeal.main_v16_3)) (v4 : (c : Dev Cert.BProjDxIdeal.nD) → Buf (Elt Ideal) ((c.tc : Thread Cert.BProjDxIdeal.nD Cert.BProjDxIdeal.τ).loc Cert.BProjDxIdeal.main_v16_4)) (v5 : (c : Dev Cert.BProjDxIdeal.nD) → Buf (Elt Ideal) ((c.tc : Thread Cert.BProjDxIdeal.nD Cert.BProjDxIdeal.τ).loc Cert.BProjDxIdeal.main_v16_5)),
      θ_run (Cert.BProjDxIdeal.defs (F := Ideal)) (onTc (τ := Cert.BProjDxIdeal.τ) (Cert.BProjDxIdeal.main (F := Ideal))) ⟨m, fun _ => 0, g⟩ (fun r => ∀ c : Dev Cert.BProjDxIdeal.nD,
          r.2.mem ((c.tc : Thread Cert.BProjDxIdeal.nD Cert.BProjDxIdeal.τ).loc Cert.BProjDxIdeal.main_v16_0) = v0 c
          ∧ r.2.mem ((c.tc : Thread Cert.BProjDxIdeal.nD Cert.BProjDxIdeal.τ).loc Cert.BProjDxIdeal.main_v16_1) = v1 c
          ∧ r.2.mem ((c.tc : Thread Cert.BProjDxIdeal.nD Cert.BProjDxIdeal.τ).loc Cert.BProjDxIdeal.main_v16_2) = v2 c
          ∧ r.2.mem ((c.tc : Thread Cert.BProjDxIdeal.nD Cert.BProjDxIdeal.τ).loc Cert.BProjDxIdeal.main_v16_3) = v3 c
          ∧ r.2.mem ((c.tc : Thread Cert.BProjDxIdeal.nD Cert.BProjDxIdeal.τ).loc Cert.BProjDxIdeal.main_v16_4) = v4 c
          ∧ r.2.mem ((c.tc : Thread Cert.BProjDxIdeal.nD Cert.BProjDxIdeal.τ).loc Cert.BProjDxIdeal.main_v16_5) = v5 c
          ∧ r.2.mem ((c.tc : Thread Cert.BProjDxIdeal.nD Cert.BProjDxIdeal.τ).loc Cert.BProjDxIdeal.main_arg0) = m ((c.tc : Thread Cert.BProjDxIdeal.nD Cert.BProjDxIdeal.τ).loc Cert.BProjDxIdeal.main_arg0)
          ∧ r.2.mem ((c.tc : Thread Cert.BProjDxIdeal.nD Cert.BProjDxIdeal.τ).loc Cert.BProjDxIdeal.main_arg1) = m ((c.tc : Thread Cert.BProjDxIdeal.nD Cert.BProjDxIdeal.τ).loc Cert.BProjDxIdeal.main_arg1)
          ∧ r.2.mem ((c.tc : Thread Cert.BProjDxIdeal.nD Cert.BProjDxIdeal.τ).loc Cert.BProjDxIdeal.main_arg2) = m ((c.tc : Thread Cert.BProjDxIdeal.nD Cert.BProjDxIdeal.τ).loc Cert.BProjDxIdeal.main_arg2)
          ∧ r.2.mem ((c.tc : Thread Cert.BProjDxIdeal.nD Cert.BProjDxIdeal.τ).loc Cert.BProjDxIdeal.main_arg3) = m ((c.tc : Thread Cert.BProjDxIdeal.nD Cert.BProjDxIdeal.τ).loc Cert.BProjDxIdeal.main_arg3)
          ∧ r.2.mem ((c.tc : Thread Cert.BProjDxIdeal.nD Cert.BProjDxIdeal.τ).loc Cert.BProjDxIdeal.main_arg4) = m ((c.tc : Thread Cert.BProjDxIdeal.nD Cert.BProjDxIdeal.τ).loc Cert.BProjDxIdeal.main_arg4)
          ∧ r.2.mem ((c.tc : Thread Cert.BProjDxIdeal.nD Cert.BProjDxIdeal.τ).loc Cert.BProjDxIdeal.main_arg5) = m ((c.tc : Thread Cert.BProjDxIdeal.nD Cert.BProjDxIdeal.τ).loc Cert.BProjDxIdeal.main_arg5)
          ∧ r.2.mem ((c.tc : Thread Cert.BProjDxIdeal.nD Cert.BProjDxIdeal.τ).loc Cert.BProjDxIdeal.main_arg6) = m ((c.tc : Thread Cert.BProjDxIdeal.nD Cert.BProjDxIdeal.τ).loc Cert.BProjDxIdeal.main_arg6)
          ∧ r.2.mem ((c.tc : Thread Cert.BProjDxIdeal.nD Cert.BProjDxIdeal.τ).loc Cert.BProjDxIdeal.main_arg7) = m ((c.tc : Thread Cert.BProjDxIdeal.nD Cert.BProjDxIdeal.τ).loc Cert.BProjDxIdeal.main_arg7))
      ∧ θ_run (Cert.BProjDxRefIdeal.defs (F := Ideal)) (onTc (τ := Cert.BProjDxRefIdeal.τ) (Cert.BProjDxRefIdeal.main (F := Ideal))) ⟨m', fun _ => 0, g'⟩ (fun r => ∀ c : Dev Cert.BProjDxRefIdeal.nD,
          r.2.mem ((c.tc : Thread Cert.BProjDxRefIdeal.nD Cert.BProjDxRefIdeal.τ).loc Cert.BProjDxRefIdeal.main_v73) = v0 c
          ∧ r.2.mem ((c.tc : Thread Cert.BProjDxRefIdeal.nD Cert.BProjDxRefIdeal.τ).loc Cert.BProjDxRefIdeal.main_v74) = v1 c
          ∧ r.2.mem ((c.tc : Thread Cert.BProjDxRefIdeal.nD Cert.BProjDxRefIdeal.τ).loc Cert.BProjDxRefIdeal.main_v75) = v2 c
          ∧ r.2.mem ((c.tc : Thread Cert.BProjDxRefIdeal.nD Cert.BProjDxRefIdeal.τ).loc Cert.BProjDxRefIdeal.main_v66) = v3 c
          ∧ r.2.mem ((c.tc : Thread Cert.BProjDxRefIdeal.nD Cert.BProjDxRefIdeal.τ).loc Cert.BProjDxRefIdeal.main_v77) = v4 c
          ∧ r.2.mem ((c.tc : Thread Cert.BProjDxRefIdeal.nD Cert.BProjDxRefIdeal.τ).loc Cert.BProjDxRefIdeal.main_v78) = v5 c
          ∧ r.2.mem ((c.tc : Thread Cert.BProjDxRefIdeal.nD Cert.BProjDxRefIdeal.τ).loc Cert.BProjDxRefIdeal.main_arg0) = m' ((c.tc : Thread Cert.BProjDxRefIdeal.nD Cert.BProjDxRefIdeal.τ).loc Cert.BProjDxRefIdeal.main_arg0)
          ∧ r.2.mem ((c.tc : Thread Cert.BProjDxRefIdeal.nD Cert.BProjDxRefIdeal.τ).loc Cert.BProjDxRefIdeal.main_arg1) = m' ((c.tc : Thread Cert.BProjDxRefIdeal.nD Cert.BProjDxRefIdeal.τ).loc Cert.BProjDxRefIdeal.main_arg1)
          ∧ r.2.mem ((c.tc : Thread Cert.BProjDxRefIdeal.nD Cert.BProjDxRefIdeal.τ).loc Cert.BProjDxRefIdeal.main_arg2) = m' ((c.tc : Thread Cert.BProjDxRefIdeal.nD Cert.BProjDxRefIdeal.τ).loc Cert.BProjDxRefIdeal.main_arg2)
          ∧ r.2.mem ((c.tc : Thread Cert.BProjDxRefIdeal.nD Cert.BProjDxRefIdeal.τ).loc Cert.BProjDxRefIdeal.main_arg3) = m' ((c.tc : Thread Cert.BProjDxRefIdeal.nD Cert.BProjDxRefIdeal.τ).loc Cert.BProjDxRefIdeal.main_arg3)
          ∧ r.2.mem ((c.tc : Thread Cert.BProjDxRefIdeal.nD Cert.BProjDxRefIdeal.τ).loc Cert.BProjDxRefIdeal.main_arg4) = m' ((c.tc : Thread Cert.BProjDxRefIdeal.nD Cert.BProjDxRefIdeal.τ).loc Cert.BProjDxRefIdeal.main_arg4)
          ∧ r.2.mem ((c.tc : Thread Cert.BProjDxRefIdeal.nD Cert.BProjDxRefIdeal.τ).loc Cert.BProjDxRefIdeal.main_arg5) = m' ((c.tc : Thread Cert.BProjDxRefIdeal.nD Cert.BProjDxRefIdeal.τ).loc Cert.BProjDxRefIdeal.main_arg5)
          ∧ r.2.mem ((c.tc : Thread Cert.BProjDxRefIdeal.nD Cert.BProjDxRefIdeal.τ).loc Cert.BProjDxRefIdeal.main_arg6) = m' ((c.tc : Thread Cert.BProjDxRefIdeal.nD Cert.BProjDxRefIdeal.τ).loc Cert.BProjDxRefIdeal.main_arg6)
          ∧ r.2.mem ((c.tc : Thread Cert.BProjDxRefIdeal.nD Cert.BProjDxRefIdeal.τ).loc Cert.BProjDxRefIdeal.main_arg7) = m' ((c.tc : Thread Cert.BProjDxRefIdeal.nD Cert.BProjDxRefIdeal.τ).loc Cert.BProjDxRefIdeal.main_arg7))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v14_0)) (v1 : (c : Dev Cert.ConvBwdIdeal.nD) → Buf (Elt Ideal) ((c.tc : Thread Cert.ConvBwdIdeal.nD Cert.ConvBwdIdeal.τ).loc Cert.ConvBwdIdeal.main_v14_1)) (v2 : (c : Dev Cert.ConvBwdIdeal.nD) → Buf (Elt Ideal) ((c.tc : Thread Cert.ConvBwdIdeal.nD Cert.ConvBwdIdeal.τ).loc Cert.ConvBwdIdeal.main_v14_2)) (v3 : (c : Dev Cert.ConvBwdIdeal.nD) → Buf (Elt Ideal) ((c.tc : Thread Cert.ConvBwdIdeal.nD Cert.ConvBwdIdeal.τ).loc Cert.ConvBwdIdeal.main_v14_3)) (v4 : (c : Dev Cert.ConvBwdIdeal.nD) → Buf (Elt Ideal) ((c.tc : Thread Cert.ConvBwdIdeal.nD Cert.ConvBwdIdeal.τ).loc Cert.ConvBwdIdeal.main_v14_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v14_0) = v0 c
          ∧ r.2.mem ((c.tc : Thread Cert.ConvBwdIdeal.nD Cert.ConvBwdIdeal.τ).loc Cert.ConvBwdIdeal.main_v14_1) = v1 c
          ∧ r.2.mem ((c.tc : Thread Cert.ConvBwdIdeal.nD Cert.ConvBwdIdeal.τ).loc Cert.ConvBwdIdeal.main_v14_2) = v2 c
          ∧ r.2.mem ((c.tc : Thread Cert.ConvBwdIdeal.nD Cert.ConvBwdIdeal.τ).loc Cert.ConvBwdIdeal.main_v14_3) = v3 c
          ∧ r.2.mem ((c.tc : Thread Cert.ConvBwdIdeal.nD Cert.ConvBwdIdeal.τ).loc Cert.ConvBwdIdeal.main_v14_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v93) = v0 c
          ∧ r.2.mem ((c.tc : Thread Cert.ConvBwdRefIdeal.nD Cert.ConvBwdRefIdeal.τ).loc Cert.ConvBwdRefIdeal.main_v95) = v1 c
          ∧ r.2.mem ((c.tc : Thread Cert.ConvBwdRefIdeal.nD Cert.ConvBwdRefIdeal.τ).loc Cert.ConvBwdRefIdeal.main_v97) = v2 c
          ∧ r.2.mem ((c.tc : Thread Cert.ConvBwdRefIdeal.nD Cert.ConvBwdRefIdeal.τ).loc Cert.ConvBwdRefIdeal.main_v99) = v3 c
          ∧ r.2.mem ((c.tc : Thread Cert.ConvBwdRefIdeal.nD Cert.ConvBwdRefIdeal.τ).loc Cert.ConvBwdRefIdeal.main_v81) = v4 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_GmlpBwd_GmlpBwdIdeal : Prop :=
  IdealRules.named_const.Statement Cert.GmlpBwdIdeal.κ "inv_sqrt_2" .f32 0x3F3504F3#32 (((Real.sqrt 2)⁻¹ : ℝ) : EReal)
  ∧ IdealRules.named_const.Statement Cert.GmlpBwdIdeal.κ "inv_sqrt_2pi" .f32 0x3ECC422A#32 (((9465531 / 16777216) * (Real.sqrt 2)⁻¹ : ℝ) : EReal)

def algebraic_GmlpBwdIdeal_GmlpBwdRefIdeal_pre_gmlp_finite [hGmlpBwdIdeal : Cert.GmlpBwdIdeal.Facts] [hGmlpBwdRefIdeal : Cert.GmlpBwdRefIdeal.Facts] [hPre_gmlp_finite : Cert.Pre_gmlp_finite.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal_gmlp_finite m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)
      ∧ m' ((c.tc : Thread Cert.GmlpBwdRefIdeal.nD Cert.GmlpBwdRefIdeal.τ).loc Cert.GmlpBwdRefIdeal.main_arg5) = m ((c.tc : Thread Cert.GmlpBwdIdeal.nD Cert.GmlpBwdIdeal.τ).loc Cert.GmlpBwdIdeal.main_arg5)
      ∧ m' ((c.tc : Thread Cert.GmlpBwdRefIdeal.nD Cert.GmlpBwdRefIdeal.τ).loc Cert.GmlpBwdRefIdeal.main_arg6) = m ((c.tc : Thread Cert.GmlpBwdIdeal.nD Cert.GmlpBwdIdeal.τ).loc Cert.GmlpBwdIdeal.main_arg6)) →
    ∃ (v0 : (c : Dev Cert.GmlpBwdIdeal.nD) → Buf (Elt Ideal) ((c.tc : Thread Cert.GmlpBwdIdeal.nD Cert.GmlpBwdIdeal.τ).loc Cert.GmlpBwdIdeal.main_v12_0)) (v1 : (c : Dev Cert.GmlpBwdIdeal.nD) → Buf (Elt Ideal) ((c.tc : Thread Cert.GmlpBwdIdeal.nD Cert.GmlpBwdIdeal.τ).loc Cert.GmlpBwdIdeal.main_v12_1)) (v2 : (c : Dev Cert.GmlpBwdIdeal.nD) → Buf (Elt Ideal) ((c.tc : Thread Cert.GmlpBwdIdeal.nD Cert.GmlpBwdIdeal.τ).loc Cert.GmlpBwdIdeal.main_v12_2)) (v3 : (c : Dev Cert.GmlpBwdIdeal.nD) → Buf (Elt Ideal) ((c.tc : Thread Cert.GmlpBwdIdeal.nD Cert.GmlpBwdIdeal.τ).loc Cert.GmlpBwdIdeal.main_v12_3)) (v4 : (c : Dev Cert.GmlpBwdIdeal.nD) → Buf (Elt Ideal) ((c.tc : Thread Cert.GmlpBwdIdeal.nD Cert.GmlpBwdIdeal.τ).loc Cert.GmlpBwdIdeal.main_v12_4)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v12_0) = v0 c
          ∧ r.2.mem ((c.tc : Thread Cert.GmlpBwdIdeal.nD Cert.GmlpBwdIdeal.τ).loc Cert.GmlpBwdIdeal.main_v12_1) = v1 c
          ∧ r.2.mem ((c.tc : Thread Cert.GmlpBwdIdeal.nD Cert.GmlpBwdIdeal.τ).loc Cert.GmlpBwdIdeal.main_v12_2) = v2 c
          ∧ r.2.mem ((c.tc : Thread Cert.GmlpBwdIdeal.nD Cert.GmlpBwdIdeal.τ).loc Cert.GmlpBwdIdeal.main_v12_3) = v3 c
          ∧ r.2.mem ((c.tc : Thread Cert.GmlpBwdIdeal.nD Cert.GmlpBwdIdeal.τ).loc Cert.GmlpBwdIdeal.main_v12_4) = v4 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5)
          ∧ r.2.mem ((c.tc : Thread Cert.GmlpBwdIdeal.nD Cert.GmlpBwdIdeal.τ).loc Cert.GmlpBwdIdeal.main_arg6) = m ((c.tc : Thread Cert.GmlpBwdIdeal.nD Cert.GmlpBwdIdeal.τ).loc Cert.GmlpBwdIdeal.main_arg6))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v146) = v0 c
          ∧ r.2.mem ((c.tc : Thread Cert.GmlpBwdRefIdeal.nD Cert.GmlpBwdRefIdeal.τ).loc Cert.GmlpBwdRefIdeal.main_v147) = v1 c
          ∧ r.2.mem ((c.tc : Thread Cert.GmlpBwdRefIdeal.nD Cert.GmlpBwdRefIdeal.τ).loc Cert.GmlpBwdRefIdeal.main_v149) = v2 c
          ∧ r.2.mem ((c.tc : Thread Cert.GmlpBwdRefIdeal.nD Cert.GmlpBwdRefIdeal.τ).loc Cert.GmlpBwdRefIdeal.main_v137) = v3 c
          ∧ r.2.mem ((c.tc : Thread Cert.GmlpBwdRefIdeal.nD Cert.GmlpBwdRefIdeal.τ).loc Cert.GmlpBwdRefIdeal.main_v136) = v4 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4)
          ∧ r.2.mem ((c.tc : Thread Cert.GmlpBwdRefIdeal.nD Cert.GmlpBwdRefIdeal.τ).loc Cert.GmlpBwdRefIdeal.main_arg5) = m' ((c.tc : Thread Cert.GmlpBwdRefIdeal.nD Cert.GmlpBwdRefIdeal.τ).loc Cert.GmlpBwdRefIdeal.main_arg5)
          ∧ r.2.mem ((c.tc : Thread Cert.GmlpBwdRefIdeal.nD Cert.GmlpBwdRefIdeal.τ).loc Cert.GmlpBwdRefIdeal.main_arg6) = m' ((c.tc : Thread Cert.GmlpBwdRefIdeal.nD Cert.GmlpBwdRefIdeal.τ).loc Cert.GmlpBwdRefIdeal.main_arg6))

def preserves_GmlpHead_GmlpHeadIdeal : Prop :=
  True

def algebraic_GmlpHeadIdeal_GmlpHeadRefIdeal [hGmlpHeadIdeal : Cert.GmlpHeadIdeal.Facts] [hGmlpHeadRefIdeal : Cert.GmlpHeadRefIdeal.Facts] : Prop :=
  ∀ (m : (ℓ : Loc Cert.GmlpHeadIdeal.nD Cert.GmlpHeadIdeal.τ Cert.GmlpHeadIdeal.sig) → Buf (Elt Ideal) ℓ) (g : Dev Cert.GmlpHeadIdeal.nD → PrngReg)
    (m' : (ℓ : Loc Cert.GmlpHeadRefIdeal.nD Cert.GmlpHeadRefIdeal.τ Cert.GmlpHeadRefIdeal.sig) → Buf (Elt Ideal) ℓ) (g' : Dev Cert.GmlpHeadRefIdeal.nD → PrngReg), Pre_GmlpHeadIdeal m →
    (∀ c : Dev Cert.GmlpHeadIdeal.nD,
      m' ((c.tc : Thread Cert.GmlpHeadRefIdeal.nD Cert.GmlpHeadRefIdeal.τ).loc Cert.GmlpHeadRefIdeal.main_arg0) = m ((c.tc : Thread Cert.GmlpHeadIdeal.nD Cert.GmlpHeadIdeal.τ).loc Cert.GmlpHeadIdeal.main_arg0)
      ∧ m' ((c.tc : Thread Cert.GmlpHeadRefIdeal.nD Cert.GmlpHeadRefIdeal.τ).loc Cert.GmlpHeadRefIdeal.main_arg1) = m ((c.tc : Thread Cert.GmlpHeadIdeal.nD Cert.GmlpHeadIdeal.τ).loc Cert.GmlpHeadIdeal.main_arg1)
      ∧ m' ((c.tc : Thread Cert.GmlpHeadRefIdeal.nD Cert.GmlpHeadRefIdeal.τ).loc Cert.GmlpHeadRefIdeal.main_arg2) = m ((c.tc : Thread Cert.GmlpHeadIdeal.nD Cert.GmlpHeadIdeal.τ).loc Cert.GmlpHeadIdeal.main_arg2)
      ∧ m' ((c.tc : Thread Cert.GmlpHeadRefIdeal.nD Cert.GmlpHeadRefIdeal.τ).loc Cert.GmlpHeadRefIdeal.main_arg3) = m ((c.tc : Thread Cert.GmlpHeadIdeal.nD Cert.GmlpHeadIdeal.τ).loc Cert.GmlpHeadIdeal.main_arg3)
      ∧ m' ((c.tc : Thread Cert.GmlpHeadRefIdeal.nD Cert.GmlpHeadRefIdeal.τ).loc Cert.GmlpHeadRefIdeal.main_arg4) = m ((c.tc : Thread Cert.GmlpHeadIdeal.nD Cert.GmlpHeadIdeal.τ).loc Cert.GmlpHeadIdeal.main_arg4)
      ∧ m' ((c.tc : Thread Cert.GmlpHeadRefIdeal.nD Cert.GmlpHeadRefIdeal.τ).loc Cert.GmlpHeadRefIdeal.main_arg5) = m ((c.tc : Thread Cert.GmlpHeadIdeal.nD Cert.GmlpHeadIdeal.τ).loc Cert.GmlpHeadIdeal.main_arg5)
      ∧ m' ((c.tc : Thread Cert.GmlpHeadRefIdeal.nD Cert.GmlpHeadRefIdeal.τ).loc Cert.GmlpHeadRefIdeal.main_arg6) = m ((c.tc : Thread Cert.GmlpHeadIdeal.nD Cert.GmlpHeadIdeal.τ).loc Cert.GmlpHeadIdeal.main_arg6)
      ∧ m' ((c.tc : Thread Cert.GmlpHeadRefIdeal.nD Cert.GmlpHeadRefIdeal.τ).loc Cert.GmlpHeadRefIdeal.main_arg7) = m ((c.tc : Thread Cert.GmlpHeadIdeal.nD Cert.GmlpHeadIdeal.τ).loc Cert.GmlpHeadIdeal.main_arg7)
      ∧ m' ((c.tc : Thread Cert.GmlpHeadRefIdeal.nD Cert.GmlpHeadRefIdeal.τ).loc Cert.GmlpHeadRefIdeal.main_arg8) = m ((c.tc : Thread Cert.GmlpHeadIdeal.nD Cert.GmlpHeadIdeal.τ).loc Cert.GmlpHeadIdeal.main_arg8)
      ∧ m' ((c.tc : Thread Cert.GmlpHeadRefIdeal.nD Cert.GmlpHeadRefIdeal.τ).loc Cert.GmlpHeadRefIdeal.main_arg9) = m ((c.tc : Thread Cert.GmlpHeadIdeal.nD Cert.GmlpHeadIdeal.τ).loc Cert.GmlpHeadIdeal.main_arg9)) →
    ∃ (v0 : (c : Dev Cert.GmlpHeadIdeal.nD) → Buf (Elt Ideal) ((c.tc : Thread Cert.GmlpHeadIdeal.nD Cert.GmlpHeadIdeal.τ).loc Cert.GmlpHeadIdeal.main_v12_0)) (v1 : (c : Dev Cert.GmlpHeadIdeal.nD) → Buf (Elt Ideal) ((c.tc : Thread Cert.GmlpHeadIdeal.nD Cert.GmlpHeadIdeal.τ).loc Cert.GmlpHeadIdeal.main_v12_1)) (v2 : (c : Dev Cert.GmlpHeadIdeal.nD) → Buf (Elt Ideal) ((c.tc : Thread Cert.GmlpHeadIdeal.nD Cert.GmlpHeadIdeal.τ).loc Cert.GmlpHeadIdeal.main_v12_2)) (v3 : (c : Dev Cert.GmlpHeadIdeal.nD) → Buf (Elt Ideal) ((c.tc : Thread Cert.GmlpHeadIdeal.nD Cert.GmlpHeadIdeal.τ).loc Cert.GmlpHeadIdeal.main_v12_3)) (v4 : (c : Dev Cert.GmlpHeadIdeal.nD) → Buf (Elt Ideal) ((c.tc : Thread Cert.GmlpHeadIdeal.nD Cert.GmlpHeadIdeal.τ).loc Cert.GmlpHeadIdeal.main_v12_4)) (v5 : (c : Dev Cert.GmlpHeadIdeal.nD) → Buf (Elt Ideal) ((c.tc : Thread Cert.GmlpHeadIdeal.nD Cert.GmlpHeadIdeal.τ).loc Cert.GmlpHeadIdeal.main_v12_5)),
      θ_run (Cert.GmlpHeadIdeal.defs (F := Ideal)) (onTc (τ := Cert.GmlpHeadIdeal.τ) (Cert.GmlpHeadIdeal.main (F := Ideal))) ⟨m, fun _ => 0, g⟩ (fun r => ∀ c : Dev Cert.GmlpHeadIdeal.nD,
          r.2.mem ((c.tc : Thread Cert.GmlpHeadIdeal.nD Cert.GmlpHeadIdeal.τ).loc Cert.GmlpHeadIdeal.main_v12_0) = v0 c
          ∧ r.2.mem ((c.tc : Thread Cert.GmlpHeadIdeal.nD Cert.GmlpHeadIdeal.τ).loc Cert.GmlpHeadIdeal.main_v12_1) = v1 c
          ∧ r.2.mem ((c.tc : Thread Cert.GmlpHeadIdeal.nD Cert.GmlpHeadIdeal.τ).loc Cert.GmlpHeadIdeal.main_v12_2) = v2 c
          ∧ r.2.mem ((c.tc : Thread Cert.GmlpHeadIdeal.nD Cert.GmlpHeadIdeal.τ).loc Cert.GmlpHeadIdeal.main_v12_3) = v3 c
          ∧ r.2.mem ((c.tc : Thread Cert.GmlpHeadIdeal.nD Cert.GmlpHeadIdeal.τ).loc Cert.GmlpHeadIdeal.main_v12_4) = v4 c
          ∧ r.2.mem ((c.tc : Thread Cert.GmlpHeadIdeal.nD Cert.GmlpHeadIdeal.τ).loc Cert.GmlpHeadIdeal.main_v12_5) = v5 c
          ∧ r.2.mem ((c.tc : Thread Cert.GmlpHeadIdeal.nD Cert.GmlpHeadIdeal.τ).loc Cert.GmlpHeadIdeal.main_arg0) = m ((c.tc : Thread Cert.GmlpHeadIdeal.nD Cert.GmlpHeadIdeal.τ).loc Cert.GmlpHeadIdeal.main_arg0)
          ∧ r.2.mem ((c.tc : Thread Cert.GmlpHeadIdeal.nD Cert.GmlpHeadIdeal.τ).loc Cert.GmlpHeadIdeal.main_arg1) = m ((c.tc : Thread Cert.GmlpHeadIdeal.nD Cert.GmlpHeadIdeal.τ).loc Cert.GmlpHeadIdeal.main_arg1)
          ∧ r.2.mem ((c.tc : Thread Cert.GmlpHeadIdeal.nD Cert.GmlpHeadIdeal.τ).loc Cert.GmlpHeadIdeal.main_arg2) = m ((c.tc : Thread Cert.GmlpHeadIdeal.nD Cert.GmlpHeadIdeal.τ).loc Cert.GmlpHeadIdeal.main_arg2)
          ∧ r.2.mem ((c.tc : Thread Cert.GmlpHeadIdeal.nD Cert.GmlpHeadIdeal.τ).loc Cert.GmlpHeadIdeal.main_arg3) = m ((c.tc : Thread Cert.GmlpHeadIdeal.nD Cert.GmlpHeadIdeal.τ).loc Cert.GmlpHeadIdeal.main_arg3)
          ∧ r.2.mem ((c.tc : Thread Cert.GmlpHeadIdeal.nD Cert.GmlpHeadIdeal.τ).loc Cert.GmlpHeadIdeal.main_arg4) = m ((c.tc : Thread Cert.GmlpHeadIdeal.nD Cert.GmlpHeadIdeal.τ).loc Cert.GmlpHeadIdeal.main_arg4)
          ∧ r.2.mem ((c.tc : Thread Cert.GmlpHeadIdeal.nD Cert.GmlpHeadIdeal.τ).loc Cert.GmlpHeadIdeal.main_arg5) = m ((c.tc : Thread Cert.GmlpHeadIdeal.nD Cert.GmlpHeadIdeal.τ).loc Cert.GmlpHeadIdeal.main_arg5)
          ∧ r.2.mem ((c.tc : Thread Cert.GmlpHeadIdeal.nD Cert.GmlpHeadIdeal.τ).loc Cert.GmlpHeadIdeal.main_arg6) = m ((c.tc : Thread Cert.GmlpHeadIdeal.nD Cert.GmlpHeadIdeal.τ).loc Cert.GmlpHeadIdeal.main_arg6)
          ∧ r.2.mem ((c.tc : Thread Cert.GmlpHeadIdeal.nD Cert.GmlpHeadIdeal.τ).loc Cert.GmlpHeadIdeal.main_arg7) = m ((c.tc : Thread Cert.GmlpHeadIdeal.nD Cert.GmlpHeadIdeal.τ).loc Cert.GmlpHeadIdeal.main_arg7)
          ∧ r.2.mem ((c.tc : Thread Cert.GmlpHeadIdeal.nD Cert.GmlpHeadIdeal.τ).loc Cert.GmlpHeadIdeal.main_arg8) = m ((c.tc : Thread Cert.GmlpHeadIdeal.nD Cert.GmlpHeadIdeal.τ).loc Cert.GmlpHeadIdeal.main_arg8)
          ∧ r.2.mem ((c.tc : Thread Cert.GmlpHeadIdeal.nD Cert.GmlpHeadIdeal.τ).loc Cert.GmlpHeadIdeal.main_arg9) = m ((c.tc : Thread Cert.GmlpHeadIdeal.nD Cert.GmlpHeadIdeal.τ).loc Cert.GmlpHeadIdeal.main_arg9))
      ∧ θ_run (Cert.GmlpHeadRefIdeal.defs (F := Ideal)) (onTc (τ := Cert.GmlpHeadRefIdeal.τ) (Cert.GmlpHeadRefIdeal.main (F := Ideal))) ⟨m', fun _ => 0, g'⟩ (fun r => ∀ c : Dev Cert.GmlpHeadRefIdeal.nD,
          r.2.mem ((c.tc : Thread Cert.GmlpHeadRefIdeal.nD Cert.GmlpHeadRefIdeal.τ).loc Cert.GmlpHeadRefIdeal.main_v122) = v0 c
          ∧ r.2.mem ((c.tc : Thread Cert.GmlpHeadRefIdeal.nD Cert.GmlpHeadRefIdeal.τ).loc Cert.GmlpHeadRefIdeal.main_v123) = v1 c
          ∧ r.2.mem ((c.tc : Thread Cert.GmlpHeadRefIdeal.nD Cert.GmlpHeadRefIdeal.τ).loc Cert.GmlpHeadRefIdeal.main_v125) = v2 c
          ∧ r.2.mem ((c.tc : Thread Cert.GmlpHeadRefIdeal.nD Cert.GmlpHeadRefIdeal.τ).loc Cert.GmlpHeadRefIdeal.main_v126) = v3 c
          ∧ r.2.mem ((c.tc : Thread Cert.GmlpHeadRefIdeal.nD Cert.GmlpHeadRefIdeal.τ).loc Cert.GmlpHeadRefIdeal.main_v127) = v4 c
          ∧ r.2.mem ((c.tc : Thread Cert.GmlpHeadRefIdeal.nD Cert.GmlpHeadRefIdeal.τ).loc Cert.GmlpHeadRefIdeal.main_v128) = v5 c
          ∧ r.2.mem ((c.tc : Thread Cert.GmlpHeadRefIdeal.nD Cert.GmlpHeadRefIdeal.τ).loc Cert.GmlpHeadRefIdeal.main_arg0) = m' ((c.tc : Thread Cert.GmlpHeadRefIdeal.nD Cert.GmlpHeadRefIdeal.τ).loc Cert.GmlpHeadRefIdeal.main_arg0)
          ∧ r.2.mem ((c.tc : Thread Cert.GmlpHeadRefIdeal.nD Cert.GmlpHeadRefIdeal.τ).loc Cert.GmlpHeadRefIdeal.main_arg1) = m' ((c.tc : Thread Cert.GmlpHeadRefIdeal.nD Cert.GmlpHeadRefIdeal.τ).loc Cert.GmlpHeadRefIdeal.main_arg1)
          ∧ r.2.mem ((c.tc : Thread Cert.GmlpHeadRefIdeal.nD Cert.GmlpHeadRefIdeal.τ).loc Cert.GmlpHeadRefIdeal.main_arg2) = m' ((c.tc : Thread Cert.GmlpHeadRefIdeal.nD Cert.GmlpHeadRefIdeal.τ).loc Cert.GmlpHeadRefIdeal.main_arg2)
          ∧ r.2.mem ((c.tc : Thread Cert.GmlpHeadRefIdeal.nD Cert.GmlpHeadRefIdeal.τ).loc Cert.GmlpHeadRefIdeal.main_arg3) = m' ((c.tc : Thread Cert.GmlpHeadRefIdeal.nD Cert.GmlpHeadRefIdeal.τ).loc Cert.GmlpHeadRefIdeal.main_arg3)
          ∧ r.2.mem ((c.tc : Thread Cert.GmlpHeadRefIdeal.nD Cert.GmlpHeadRefIdeal.τ).loc Cert.GmlpHeadRefIdeal.main_arg4) = m' ((c.tc : Thread Cert.GmlpHeadRefIdeal.nD Cert.GmlpHeadRefIdeal.τ).loc Cert.GmlpHeadRefIdeal.main_arg4)
          ∧ r.2.mem ((c.tc : Thread Cert.GmlpHeadRefIdeal.nD Cert.GmlpHeadRefIdeal.τ).loc Cert.GmlpHeadRefIdeal.main_arg5) = m' ((c.tc : Thread Cert.GmlpHeadRefIdeal.nD Cert.GmlpHeadRefIdeal.τ).loc Cert.GmlpHeadRefIdeal.main_arg5)
          ∧ r.2.mem ((c.tc : Thread Cert.GmlpHeadRefIdeal.nD Cert.GmlpHeadRefIdeal.τ).loc Cert.GmlpHeadRefIdeal.main_arg6) = m' ((c.tc : Thread Cert.GmlpHeadRefIdeal.nD Cert.GmlpHeadRefIdeal.τ).loc Cert.GmlpHeadRefIdeal.main_arg6)
          ∧ r.2.mem ((c.tc : Thread Cert.GmlpHeadRefIdeal.nD Cert.GmlpHeadRefIdeal.τ).loc Cert.GmlpHeadRefIdeal.main_arg7) = m' ((c.tc : Thread Cert.GmlpHeadRefIdeal.nD Cert.GmlpHeadRefIdeal.τ).loc Cert.GmlpHeadRefIdeal.main_arg7)
          ∧ r.2.mem ((c.tc : Thread Cert.GmlpHeadRefIdeal.nD Cert.GmlpHeadRefIdeal.τ).loc Cert.GmlpHeadRefIdeal.main_arg8) = m' ((c.tc : Thread Cert.GmlpHeadRefIdeal.nD Cert.GmlpHeadRefIdeal.τ).loc Cert.GmlpHeadRefIdeal.main_arg8)
          ∧ r.2.mem ((c.tc : Thread Cert.GmlpHeadRefIdeal.nD Cert.GmlpHeadRefIdeal.τ).loc Cert.GmlpHeadRefIdeal.main_arg9) = m' ((c.tc : Thread Cert.GmlpHeadRefIdeal.nD Cert.GmlpHeadRefIdeal.τ).loc Cert.GmlpHeadRefIdeal.main_arg9))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v1_0)) (v1 : (c : Dev Cert.ModFwdIdeal.nD) → Buf (Elt Ideal) ((c.tc : Thread Cert.ModFwdIdeal.nD Cert.ModFwdIdeal.τ).loc Cert.ModFwdIdeal.main_v1_1)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v1_0) = v0 c
          ∧ r.2.mem ((c.tc : Thread Cert.ModFwdIdeal.nD Cert.ModFwdIdeal.τ).loc Cert.ModFwdIdeal.main_v1_1) = v1 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v0) = v0 c
          ∧ r.2.mem ((c.tc : Thread Cert.ModFwdRefIdeal.nD Cert.ModFwdRefIdeal.τ).loc Cert.ModFwdRefIdeal.main_v17) = v1 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)) →
    ∃ (v0 : (c : Dev Cert.NormProjIdeal.nD) → Buf (Elt Ideal) ((c.tc : Thread Cert.NormProjIdeal.nD Cert.NormProjIdeal.τ).loc Cert.NormProjIdeal.main_v7_0)) (v1 : (c : Dev Cert.NormProjIdeal.nD) → Buf (Elt Ideal) ((c.tc : Thread Cert.NormProjIdeal.nD Cert.NormProjIdeal.τ).loc Cert.NormProjIdeal.main_v9)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v7_0) = v0 c
          ∧ r.2.mem ((c.tc : Thread Cert.NormProjIdeal.nD Cert.NormProjIdeal.τ).loc Cert.NormProjIdeal.main_v9) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v27) = v0 c
          ∧ r.2.mem ((c.tc : Thread Cert.NormProjRefIdeal.nD Cert.NormProjRefIdeal.τ).loc Cert.NormProjRefIdeal.main_v32) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v6)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v6) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v4)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v4) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ModUpdate_ModUpdateIdeal : Prop :=
  True

def algebraic_ModUpdateIdeal_ModUpdateRefIdeal [hModUpdateIdeal : Cert.ModUpdateIdeal.Facts] [hModUpdateRefIdeal : Cert.ModUpdateRefIdeal.Facts] : Prop :=
  ∀ (m : (ℓ : Loc Cert.ModUpdateIdeal.nD Cert.ModUpdateIdeal.τ Cert.ModUpdateIdeal.sig) → Buf (Elt Ideal) ℓ) (g : Dev Cert.ModUpdateIdeal.nD → PrngReg)
    (m' : (ℓ : Loc Cert.ModUpdateRefIdeal.nD Cert.ModUpdateRefIdeal.τ Cert.ModUpdateRefIdeal.sig) → Buf (Elt Ideal) ℓ) (g' : Dev Cert.ModUpdateRefIdeal.nD → PrngReg), Pre_ModUpdateIdeal m →
    (∀ c : Dev Cert.ModUpdateIdeal.nD,
      m' ((c.tc : Thread Cert.ModUpdateRefIdeal.nD Cert.ModUpdateRefIdeal.τ).loc Cert.ModUpdateRefIdeal.main_arg0) = m ((c.tc : Thread Cert.ModUpdateIdeal.nD Cert.ModUpdateIdeal.τ).loc Cert.ModUpdateIdeal.main_arg0)
      ∧ m' ((c.tc : Thread Cert.ModUpdateRefIdeal.nD Cert.ModUpdateRefIdeal.τ).loc Cert.ModUpdateRefIdeal.main_arg1) = m ((c.tc : Thread Cert.ModUpdateIdeal.nD Cert.ModUpdateIdeal.τ).loc Cert.ModUpdateIdeal.main_arg1)
      ∧ m' ((c.tc : Thread Cert.ModUpdateRefIdeal.nD Cert.ModUpdateRefIdeal.τ).loc Cert.ModUpdateRefIdeal.main_arg2) = m ((c.tc : Thread Cert.ModUpdateIdeal.nD Cert.ModUpdateIdeal.τ).loc Cert.ModUpdateIdeal.main_arg2)
      ∧ m' ((c.tc : Thread Cert.ModUpdateRefIdeal.nD Cert.ModUpdateRefIdeal.τ).loc Cert.ModUpdateRefIdeal.main_arg3) = m ((c.tc : Thread Cert.ModUpdateIdeal.nD Cert.ModUpdateIdeal.τ).loc Cert.ModUpdateIdeal.main_arg3)
      ∧ m' ((c.tc : Thread Cert.ModUpdateRefIdeal.nD Cert.ModUpdateRefIdeal.τ).loc Cert.ModUpdateRefIdeal.main_arg4) = m ((c.tc : Thread Cert.ModUpdateIdeal.nD Cert.ModUpdateIdeal.τ).loc Cert.ModUpdateIdeal.main_arg4)) →
    ∃ (v0 : (c : Dev Cert.ModUpdateIdeal.nD) → Buf (Elt Ideal) ((c.tc : Thread Cert.ModUpdateIdeal.nD Cert.ModUpdateIdeal.τ).loc Cert.ModUpdateIdeal.main_v1_0)) (v1 : (c : Dev Cert.ModUpdateIdeal.nD) → Buf (Elt Ideal) ((c.tc : Thread Cert.ModUpdateIdeal.nD Cert.ModUpdateIdeal.τ).loc Cert.ModUpdateIdeal.main_v1_1)) (v2 : (c : Dev Cert.ModUpdateIdeal.nD) → Buf (Elt Ideal) ((c.tc : Thread Cert.ModUpdateIdeal.nD Cert.ModUpdateIdeal.τ).loc Cert.ModUpdateIdeal.main_v1_2)) (v3 : (c : Dev Cert.ModUpdateIdeal.nD) → Buf (Elt Ideal) ((c.tc : Thread Cert.ModUpdateIdeal.nD Cert.ModUpdateIdeal.τ).loc Cert.ModUpdateIdeal.main_v1_3)),
      θ_run (Cert.ModUpdateIdeal.defs (F := Ideal)) (onTc (τ := Cert.ModUpdateIdeal.τ) (Cert.ModUpdateIdeal.main (F := Ideal))) ⟨m, fun _ => 0, g⟩ (fun r => ∀ c : Dev Cert.ModUpdateIdeal.nD,
          r.2.mem ((c.tc : Thread Cert.ModUpdateIdeal.nD Cert.ModUpdateIdeal.τ).loc Cert.ModUpdateIdeal.main_v1_0) = v0 c
          ∧ r.2.mem ((c.tc : Thread Cert.ModUpdateIdeal.nD Cert.ModUpdateIdeal.τ).loc Cert.ModUpdateIdeal.main_v1_1) = v1 c
          ∧ r.2.mem ((c.tc : Thread Cert.ModUpdateIdeal.nD Cert.ModUpdateIdeal.τ).loc Cert.ModUpdateIdeal.main_v1_2) = v2 c
          ∧ r.2.mem ((c.tc : Thread Cert.ModUpdateIdeal.nD Cert.ModUpdateIdeal.τ).loc Cert.ModUpdateIdeal.main_v1_3) = v3 c
          ∧ r.2.mem ((c.tc : Thread Cert.ModUpdateIdeal.nD Cert.ModUpdateIdeal.τ).loc Cert.ModUpdateIdeal.main_arg0) = m ((c.tc : Thread Cert.ModUpdateIdeal.nD Cert.ModUpdateIdeal.τ).loc Cert.ModUpdateIdeal.main_arg0)
          ∧ r.2.mem ((c.tc : Thread Cert.ModUpdateIdeal.nD Cert.ModUpdateIdeal.τ).loc Cert.ModUpdateIdeal.main_arg1) = m ((c.tc : Thread Cert.ModUpdateIdeal.nD Cert.ModUpdateIdeal.τ).loc Cert.ModUpdateIdeal.main_arg1)
          ∧ r.2.mem ((c.tc : Thread Cert.ModUpdateIdeal.nD Cert.ModUpdateIdeal.τ).loc Cert.ModUpdateIdeal.main_arg2) = m ((c.tc : Thread Cert.ModUpdateIdeal.nD Cert.ModUpdateIdeal.τ).loc Cert.ModUpdateIdeal.main_arg2)
          ∧ r.2.mem ((c.tc : Thread Cert.ModUpdateIdeal.nD Cert.ModUpdateIdeal.τ).loc Cert.ModUpdateIdeal.main_arg3) = m ((c.tc : Thread Cert.ModUpdateIdeal.nD Cert.ModUpdateIdeal.τ).loc Cert.ModUpdateIdeal.main_arg3)
          ∧ r.2.mem ((c.tc : Thread Cert.ModUpdateIdeal.nD Cert.ModUpdateIdeal.τ).loc Cert.ModUpdateIdeal.main_arg4) = m ((c.tc : Thread Cert.ModUpdateIdeal.nD Cert.ModUpdateIdeal.τ).loc Cert.ModUpdateIdeal.main_arg4))
      ∧ θ_run (Cert.ModUpdateRefIdeal.defs (F := Ideal)) (onTc (τ := Cert.ModUpdateRefIdeal.τ) (Cert.ModUpdateRefIdeal.main (F := Ideal))) ⟨m', fun _ => 0, g'⟩ (fun r => ∀ c : Dev Cert.ModUpdateRefIdeal.nD,
          r.2.mem ((c.tc : Thread Cert.ModUpdateRefIdeal.nD Cert.ModUpdateRefIdeal.τ).loc Cert.ModUpdateRefIdeal.main_v21) = v0 c
          ∧ r.2.mem ((c.tc : Thread Cert.ModUpdateRefIdeal.nD Cert.ModUpdateRefIdeal.τ).loc Cert.ModUpdateRefIdeal.main_v45) = v1 c
          ∧ r.2.mem ((c.tc : Thread Cert.ModUpdateRefIdeal.nD Cert.ModUpdateRefIdeal.τ).loc Cert.ModUpdateRefIdeal.main_v26) = v2 c
          ∧ r.2.mem ((c.tc : Thread Cert.ModUpdateRefIdeal.nD Cert.ModUpdateRefIdeal.τ).loc Cert.ModUpdateRefIdeal.main_v32) = v3 c
          ∧ r.2.mem ((c.tc : Thread Cert.ModUpdateRefIdeal.nD Cert.ModUpdateRefIdeal.τ).loc Cert.ModUpdateRefIdeal.main_arg0) = m' ((c.tc : Thread Cert.ModUpdateRefIdeal.nD Cert.ModUpdateRefIdeal.τ).loc Cert.ModUpdateRefIdeal.main_arg0)
          ∧ r.2.mem ((c.tc : Thread Cert.ModUpdateRefIdeal.nD Cert.ModUpdateRefIdeal.τ).loc Cert.ModUpdateRefIdeal.main_arg1) = m' ((c.tc : Thread Cert.ModUpdateRefIdeal.nD Cert.ModUpdateRefIdeal.τ).loc Cert.ModUpdateRefIdeal.main_arg1)
          ∧ r.2.mem ((c.tc : Thread Cert.ModUpdateRefIdeal.nD Cert.ModUpdateRefIdeal.τ).loc Cert.ModUpdateRefIdeal.main_arg2) = m' ((c.tc : Thread Cert.ModUpdateRefIdeal.nD Cert.ModUpdateRefIdeal.τ).loc Cert.ModUpdateRefIdeal.main_arg2)
          ∧ r.2.mem ((c.tc : Thread Cert.ModUpdateRefIdeal.nD Cert.ModUpdateRefIdeal.τ).loc Cert.ModUpdateRefIdeal.main_arg3) = m' ((c.tc : Thread Cert.ModUpdateRefIdeal.nD Cert.ModUpdateRefIdeal.τ).loc Cert.ModUpdateRefIdeal.main_arg3)
          ∧ r.2.mem ((c.tc : Thread Cert.ModUpdateRefIdeal.nD Cert.ModUpdateRefIdeal.τ).loc Cert.ModUpdateRefIdeal.main_arg4) = m' ((c.tc : Thread Cert.ModUpdateRefIdeal.nD Cert.ModUpdateRefIdeal.τ).loc Cert.ModUpdateRefIdeal.main_arg4))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)) (v3 : (c : Dev Cert.AdamWIdeal.nD) → Buf (Elt Ideal) ((c.tc : Thread Cert.AdamWIdeal.nD Cert.AdamWIdeal.τ).loc Cert.AdamWIdeal.main_v4_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_v4_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v24) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v26) = v2 c
          ∧ r.2.mem ((c.tc : Thread Cert.AdamWRefIdeal.nD Cert.AdamWRefIdeal.τ).loc Cert.AdamWRefIdeal.main_v27) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v1)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v1) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_ProjSlab_ProjSlabIdeal : Prop :=
  True

def algebraic_ProjSlabIdeal_ProjSlabRefIdeal [hProjSlabIdeal : Cert.ProjSlabIdeal.Facts] [hProjSlabRefIdeal : Cert.ProjSlabRefIdeal.Facts] : Prop :=
  ∀ (m : (ℓ : Loc Cert.ProjSlabIdeal.nD Cert.ProjSlabIdeal.τ Cert.ProjSlabIdeal.sig) → Buf (Elt Ideal) ℓ) (g : Dev Cert.ProjSlabIdeal.nD → PrngReg)
    (m' : (ℓ : Loc Cert.ProjSlabRefIdeal.nD Cert.ProjSlabRefIdeal.τ Cert.ProjSlabRefIdeal.sig) → Buf (Elt Ideal) ℓ) (g' : Dev Cert.ProjSlabRefIdeal.nD → PrngReg), Pre_ProjSlabIdeal m →
    (∀ c : Dev Cert.ProjSlabIdeal.nD,
      m' ((c.tc : Thread Cert.ProjSlabRefIdeal.nD Cert.ProjSlabRefIdeal.τ).loc Cert.ProjSlabRefIdeal.main_arg0) = m ((c.tc : Thread Cert.ProjSlabIdeal.nD Cert.ProjSlabIdeal.τ).loc Cert.ProjSlabIdeal.main_arg0)
      ∧ m' ((c.tc : Thread Cert.ProjSlabRefIdeal.nD Cert.ProjSlabRefIdeal.τ).loc Cert.ProjSlabRefIdeal.main_arg1) = m ((c.tc : Thread Cert.ProjSlabIdeal.nD Cert.ProjSlabIdeal.τ).loc Cert.ProjSlabIdeal.main_arg1)
      ∧ m' ((c.tc : Thread Cert.ProjSlabRefIdeal.nD Cert.ProjSlabRefIdeal.τ).loc Cert.ProjSlabRefIdeal.main_arg2) = m ((c.tc : Thread Cert.ProjSlabIdeal.nD Cert.ProjSlabIdeal.τ).loc Cert.ProjSlabIdeal.main_arg2)) →
    ∃ (v0 : (c : Dev Cert.ProjSlabIdeal.nD) → Buf (Elt Ideal) ((c.tc : Thread Cert.ProjSlabIdeal.nD Cert.ProjSlabIdeal.τ).loc Cert.ProjSlabIdeal.main_v9)),
      θ_run (Cert.ProjSlabIdeal.defs (F := Ideal)) (onTc (τ := Cert.ProjSlabIdeal.τ) (Cert.ProjSlabIdeal.main (F := Ideal))) ⟨m, fun _ => 0, g⟩ (fun r => ∀ c : Dev Cert.ProjSlabIdeal.nD,
          r.2.mem ((c.tc : Thread Cert.ProjSlabIdeal.nD Cert.ProjSlabIdeal.τ).loc Cert.ProjSlabIdeal.main_v9) = v0 c
          ∧ r.2.mem ((c.tc : Thread Cert.ProjSlabIdeal.nD Cert.ProjSlabIdeal.τ).loc Cert.ProjSlabIdeal.main_arg0) = m ((c.tc : Thread Cert.ProjSlabIdeal.nD Cert.ProjSlabIdeal.τ).loc Cert.ProjSlabIdeal.main_arg0)
          ∧ r.2.mem ((c.tc : Thread Cert.ProjSlabIdeal.nD Cert.ProjSlabIdeal.τ).loc Cert.ProjSlabIdeal.main_arg1) = m ((c.tc : Thread Cert.ProjSlabIdeal.nD Cert.ProjSlabIdeal.τ).loc Cert.ProjSlabIdeal.main_arg1)
          ∧ r.2.mem ((c.tc : Thread Cert.ProjSlabIdeal.nD Cert.ProjSlabIdeal.τ).loc Cert.ProjSlabIdeal.main_arg2) = m ((c.tc : Thread Cert.ProjSlabIdeal.nD Cert.ProjSlabIdeal.τ).loc Cert.ProjSlabIdeal.main_arg2))
      ∧ θ_run (Cert.ProjSlabRefIdeal.defs (F := Ideal)) (onTc (τ := Cert.ProjSlabRefIdeal.τ) (Cert.ProjSlabRefIdeal.main (F := Ideal))) ⟨m', fun _ => 0, g'⟩ (fun r => ∀ c : Dev Cert.ProjSlabRefIdeal.nD,
          r.2.mem ((c.tc : Thread Cert.ProjSlabRefIdeal.nD Cert.ProjSlabRefIdeal.τ).loc Cert.ProjSlabRefIdeal.main_v10) = v0 c
          ∧ r.2.mem ((c.tc : Thread Cert.ProjSlabRefIdeal.nD Cert.ProjSlabRefIdeal.τ).loc Cert.ProjSlabRefIdeal.main_arg0) = m' ((c.tc : Thread Cert.ProjSlabRefIdeal.nD Cert.ProjSlabRefIdeal.τ).loc Cert.ProjSlabRefIdeal.main_arg0)
          ∧ r.2.mem ((c.tc : Thread Cert.ProjSlabRefIdeal.nD Cert.ProjSlabRefIdeal.τ).loc Cert.ProjSlabRefIdeal.main_arg1) = m' ((c.tc : Thread Cert.ProjSlabRefIdeal.nD Cert.ProjSlabRefIdeal.τ).loc Cert.ProjSlabRefIdeal.main_arg1)
          ∧ r.2.mem ((c.tc : Thread Cert.ProjSlabRefIdeal.nD Cert.ProjSlabRefIdeal.τ).loc Cert.ProjSlabRefIdeal.main_arg2) = m' ((c.tc : Thread Cert.ProjSlabRefIdeal.nD Cert.ProjSlabRefIdeal.τ).loc Cert.ProjSlabRefIdeal.main_arg2))

def preserves_AddPieces_AddPiecesIdeal : Prop :=
  True

def algebraic_AddPiecesIdeal_AddPiecesRefIdeal [hAddPiecesIdeal : Cert.AddPiecesIdeal.Facts] [hAddPiecesRefIdeal : Cert.AddPiecesRefIdeal.Facts] : Prop :=
  ∀ (m : (ℓ : Loc Cert.AddPiecesIdeal.nD Cert.AddPiecesIdeal.τ Cert.AddPiecesIdeal.sig) → Buf (Elt Ideal) ℓ) (g : Dev Cert.AddPiecesIdeal.nD → PrngReg)
    (m' : (ℓ : Loc Cert.AddPiecesRefIdeal.nD Cert.AddPiecesRefIdeal.τ Cert.AddPiecesRefIdeal.sig) → Buf (Elt Ideal) ℓ) (g' : Dev Cert.AddPiecesRefIdeal.nD → PrngReg), Pre_AddPiecesIdeal m →
    (∀ c : Dev Cert.AddPiecesIdeal.nD,
      m' ((c.tc : Thread Cert.AddPiecesRefIdeal.nD Cert.AddPiecesRefIdeal.τ).loc Cert.AddPiecesRefIdeal.main_arg0) = m ((c.tc : Thread Cert.AddPiecesIdeal.nD Cert.AddPiecesIdeal.τ).loc Cert.AddPiecesIdeal.main_arg0)
      ∧ m' ((c.tc : Thread Cert.AddPiecesRefIdeal.nD Cert.AddPiecesRefIdeal.τ).loc Cert.AddPiecesRefIdeal.main_arg1) = m ((c.tc : Thread Cert.AddPiecesIdeal.nD Cert.AddPiecesIdeal.τ).loc Cert.AddPiecesIdeal.main_arg1)) →
    ∃ (v0 : (c : Dev Cert.AddPiecesIdeal.nD) → Buf (Elt Ideal) ((c.tc : Thread Cert.AddPiecesIdeal.nD Cert.AddPiecesIdeal.τ).loc Cert.AddPiecesIdeal.main_v3)),
      θ_run (Cert.AddPiecesIdeal.defs (F := Ideal)) (onTc (τ := Cert.AddPiecesIdeal.τ) (Cert.AddPiecesIdeal.main (F := Ideal))) ⟨m, fun _ => 0, g⟩ (fun r => ∀ c : Dev Cert.AddPiecesIdeal.nD,
          r.2.mem ((c.tc : Thread Cert.AddPiecesIdeal.nD Cert.AddPiecesIdeal.τ).loc Cert.AddPiecesIdeal.main_v3) = v0 c
          ∧ r.2.mem ((c.tc : Thread Cert.AddPiecesIdeal.nD Cert.AddPiecesIdeal.τ).loc Cert.AddPiecesIdeal.main_arg0) = m ((c.tc : Thread Cert.AddPiecesIdeal.nD Cert.AddPiecesIdeal.τ).loc Cert.AddPiecesIdeal.main_arg0)
          ∧ r.2.mem ((c.tc : Thread Cert.AddPiecesIdeal.nD Cert.AddPiecesIdeal.τ).loc Cert.AddPiecesIdeal.main_arg1) = m ((c.tc : Thread Cert.AddPiecesIdeal.nD Cert.AddPiecesIdeal.τ).loc Cert.AddPiecesIdeal.main_arg1))
      ∧ θ_run (Cert.AddPiecesRefIdeal.defs (F := Ideal)) (onTc (τ := Cert.AddPiecesRefIdeal.τ) (Cert.AddPiecesRefIdeal.main (F := Ideal))) ⟨m', fun _ => 0, g'⟩ (fun r => ∀ c : Dev Cert.AddPiecesRefIdeal.nD,
          r.2.mem ((c.tc : Thread Cert.AddPiecesRefIdeal.nD Cert.AddPiecesRefIdeal.τ).loc Cert.AddPiecesRefIdeal.main_v4) = v0 c
          ∧ r.2.mem ((c.tc : Thread Cert.AddPiecesRefIdeal.nD Cert.AddPiecesRefIdeal.τ).loc Cert.AddPiecesRefIdeal.main_arg0) = m' ((c.tc : Thread Cert.AddPiecesRefIdeal.nD Cert.AddPiecesRefIdeal.τ).loc Cert.AddPiecesRefIdeal.main_arg0)
          ∧ r.2.mem ((c.tc : Thread Cert.AddPiecesRefIdeal.nD Cert.AddPiecesRefIdeal.τ).loc Cert.AddPiecesRefIdeal.main_arg1) = m' ((c.tc : Thread Cert.AddPiecesRefIdeal.nD Cert.AddPiecesRefIdeal.τ).loc Cert.AddPiecesRefIdeal.main_arg1))

def preserves_PlaceOwn_PlaceOwnIdeal : Prop :=
  True

def algebraic_PlaceOwnIdeal_PlaceOwnRefIdeal [hPlaceOwnIdeal : Cert.PlaceOwnIdeal.Facts] [hPlaceOwnRefIdeal : Cert.PlaceOwnRefIdeal.Facts] : Prop :=
  ∀ (m : (ℓ : Loc Cert.PlaceOwnIdeal.nD Cert.PlaceOwnIdeal.τ Cert.PlaceOwnIdeal.sig) → Buf (Elt Ideal) ℓ) (g : Dev Cert.PlaceOwnIdeal.nD → PrngReg)
    (m' : (ℓ : Loc Cert.PlaceOwnRefIdeal.nD Cert.PlaceOwnRefIdeal.τ Cert.PlaceOwnRefIdeal.sig) → Buf (Elt Ideal) ℓ) (g' : Dev Cert.PlaceOwnRefIdeal.nD → PrngReg), Pre_PlaceOwnIdeal m →
    (∀ c : Dev Cert.PlaceOwnIdeal.nD,
      m' ((c.tc : Thread Cert.PlaceOwnRefIdeal.nD Cert.PlaceOwnRefIdeal.τ).loc Cert.PlaceOwnRefIdeal.main_arg0) = m ((c.tc : Thread Cert.PlaceOwnIdeal.nD Cert.PlaceOwnIdeal.τ).loc Cert.PlaceOwnIdeal.main_arg0)) →
    ∃ (v0 : (c : Dev Cert.PlaceOwnIdeal.nD) → Buf (Elt Ideal) ((c.tc : Thread Cert.PlaceOwnIdeal.nD Cert.PlaceOwnIdeal.τ).loc Cert.PlaceOwnIdeal.main_v3)),
      θ_run (Cert.PlaceOwnIdeal.defs (F := Ideal)) (onTc (τ := Cert.PlaceOwnIdeal.τ) (Cert.PlaceOwnIdeal.main (F := Ideal))) ⟨m, fun _ => 0, g⟩ (fun r => ∀ c : Dev Cert.PlaceOwnIdeal.nD,
          r.2.mem ((c.tc : Thread Cert.PlaceOwnIdeal.nD Cert.PlaceOwnIdeal.τ).loc Cert.PlaceOwnIdeal.main_v3) = v0 c
          ∧ r.2.mem ((c.tc : Thread Cert.PlaceOwnIdeal.nD Cert.PlaceOwnIdeal.τ).loc Cert.PlaceOwnIdeal.main_arg0) = m ((c.tc : Thread Cert.PlaceOwnIdeal.nD Cert.PlaceOwnIdeal.τ).loc Cert.PlaceOwnIdeal.main_arg0))
      ∧ θ_run (Cert.PlaceOwnRefIdeal.defs (F := Ideal)) (onTc (τ := Cert.PlaceOwnRefIdeal.τ) (Cert.PlaceOwnRefIdeal.main (F := Ideal))) ⟨m', fun _ => 0, g'⟩ (fun r => ∀ c : Dev Cert.PlaceOwnRefIdeal.nD,
          r.2.mem ((c.tc : Thread Cert.PlaceOwnRefIdeal.nD Cert.PlaceOwnRefIdeal.τ).loc Cert.PlaceOwnRefIdeal.main_v1) = v0 c
          ∧ r.2.mem ((c.tc : Thread Cert.PlaceOwnRefIdeal.nD Cert.PlaceOwnRefIdeal.τ).loc Cert.PlaceOwnRefIdeal.main_arg0) = m' ((c.tc : Thread Cert.PlaceOwnRefIdeal.nD Cert.PlaceOwnRefIdeal.τ).loc Cert.PlaceOwnRefIdeal.main_arg0))

def bitexact_PlaceOwn_PlaceOwnRef [hPlaceOwn : Cert.PlaceOwn.Facts] [hPlaceOwnRef : Cert.PlaceOwnRef.Facts] : Prop :=
  ∀ (m : (ℓ : Loc Cert.PlaceOwn.nD Cert.PlaceOwn.τ Cert.PlaceOwn.sig) → Buf (Elt Bits) ℓ) (g : Dev Cert.PlaceOwn.nD → PrngReg)
    (m' : (ℓ : Loc Cert.PlaceOwnRef.nD Cert.PlaceOwnRef.τ Cert.PlaceOwnRef.sig) → Buf (Elt Bits) ℓ) (g' : Dev Cert.PlaceOwnRef.nD → PrngReg), Pre_PlaceOwn m →
    (∀ c : Dev Cert.PlaceOwn.nD,
      m' ((c.tc : Thread Cert.PlaceOwnRef.nD Cert.PlaceOwnRef.τ).loc Cert.PlaceOwnRef.main_arg0) = m ((c.tc : Thread Cert.PlaceOwn.nD Cert.PlaceOwn.τ).loc Cert.PlaceOwn.main_arg0)) →
    ∃ (v0 : (c : Dev Cert.PlaceOwn.nD) → Buf (Elt Bits) ((c.tc : Thread Cert.PlaceOwn.nD Cert.PlaceOwn.τ).loc Cert.PlaceOwn.main_v3)),
      θ_run (Cert.PlaceOwn.defs (F := Bits)) (onTc (τ := Cert.PlaceOwn.τ) (Cert.PlaceOwn.main (F := Bits))) ⟨m, fun _ => 0, g⟩ (fun r => ∀ c : Dev Cert.PlaceOwn.nD,
          r.2.mem ((c.tc : Thread Cert.PlaceOwn.nD Cert.PlaceOwn.τ).loc Cert.PlaceOwn.main_v3) = v0 c
          ∧ r.2.mem ((c.tc : Thread Cert.PlaceOwn.nD Cert.PlaceOwn.τ).loc Cert.PlaceOwn.main_arg0) = m ((c.tc : Thread Cert.PlaceOwn.nD Cert.PlaceOwn.τ).loc Cert.PlaceOwn.main_arg0))
      ∧ θ_run (Cert.PlaceOwnRef.defs (F := Bits)) (onTc (τ := Cert.PlaceOwnRef.τ) (Cert.PlaceOwnRef.main (F := Bits))) ⟨m', fun _ => 0, g'⟩ (fun r => ∀ c : Dev Cert.PlaceOwnRef.nD,
          r.2.mem ((c.tc : Thread Cert.PlaceOwnRef.nD Cert.PlaceOwnRef.τ).loc Cert.PlaceOwnRef.main_v1) = v0 c
          ∧ r.2.mem ((c.tc : Thread Cert.PlaceOwnRef.nD Cert.PlaceOwnRef.τ).loc Cert.PlaceOwnRef.main_arg0) = m' ((c.tc : Thread Cert.PlaceOwnRef.nD Cert.PlaceOwnRef.τ).loc Cert.PlaceOwnRef.main_arg0))

def Claim : Prop :=
  ∃ (hAProjDx : Cert.AProjDx.Facts) (hAProjDxIdeal : Cert.AProjDxIdeal.Facts) (hAProjDxRefIdeal : Cert.AProjDxRefIdeal.Facts) (hBProjDx : Cert.BProjDx.Facts) (hBProjDxIdeal : Cert.BProjDxIdeal.Facts) (hBProjDxRefIdeal : Cert.BProjDxRefIdeal.Facts) (hConvBwd : Cert.ConvBwd.Facts) (hConvBwdIdeal : Cert.ConvBwdIdeal.Facts) (hConvBwdRefIdeal : Cert.ConvBwdRefIdeal.Facts) (hGmlpBwd : Cert.GmlpBwd.Facts) (hGmlpBwdIdeal : Cert.GmlpBwdIdeal.Facts) (hGmlpBwdRefIdeal : Cert.GmlpBwdRefIdeal.Facts) (hGmlpHead : Cert.GmlpHead.Facts) (hGmlpHeadIdeal : Cert.GmlpHeadIdeal.Facts) (hGmlpHeadRefIdeal : Cert.GmlpHeadRefIdeal.Facts) (hModFwd : Cert.ModFwd.Facts) (hModFwdIdeal : Cert.ModFwdIdeal.Facts) (hModFwdRefIdeal : Cert.ModFwdRefIdeal.Facts) (hNormProj : Cert.NormProj.Facts) (hNormProjIdeal : Cert.NormProjIdeal.Facts) (hNormProjRefIdeal : Cert.NormProjRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hProj : Cert.Proj.Facts) (hProjIdeal : Cert.ProjIdeal.Facts) (hProjRefIdeal : Cert.ProjRefIdeal.Facts) (hModUpdate : Cert.ModUpdate.Facts) (hModUpdateIdeal : Cert.ModUpdateIdeal.Facts) (hModUpdateRefIdeal : Cert.ModUpdateRefIdeal.Facts) (hAdamW : Cert.AdamW.Facts) (hAdamWIdeal : Cert.AdamWIdeal.Facts) (hAdamWRefIdeal : Cert.AdamWRefIdeal.Facts) (hSumDevices : Cert.SumDevices.Facts) (hSumDevicesIdeal : Cert.SumDevicesIdeal.Facts) (hSumDevicesRefIdeal : Cert.SumDevicesRefIdeal.Facts) (hProjSlab : Cert.ProjSlab.Facts) (hProjSlabIdeal : Cert.ProjSlabIdeal.Facts) (hProjSlabRefIdeal : Cert.ProjSlabRefIdeal.Facts) (hAddPieces : Cert.AddPieces.Facts) (hAddPiecesIdeal : Cert.AddPiecesIdeal.Facts) (hAddPiecesRefIdeal : Cert.AddPiecesRefIdeal.Facts) (hPlaceOwn : Cert.PlaceOwn.Facts) (hPlaceOwnIdeal : Cert.PlaceOwnIdeal.Facts) (hPlaceOwnRefIdeal : Cert.PlaceOwnRefIdeal.Facts) (hPlaceOwnRef : Cert.PlaceOwnRef.Facts) (hPre_conv_finite : Cert.Pre_conv_finite.Facts) (hPre_gmlp_finite : Cert.Pre_gmlp_finite.Facts),
    quiescent_AProjDx (hAProjDx := hAProjDx)
    ∧ quiescent_AProjDxIdeal (hAProjDxIdeal := hAProjDxIdeal)
    ∧ quiescent_AProjDxRefIdeal (hAProjDxRefIdeal := hAProjDxRefIdeal)
    ∧ quiescent_BProjDx (hBProjDx := hBProjDx)
    ∧ quiescent_BProjDxIdeal (hBProjDxIdeal := hBProjDxIdeal)
    ∧ quiescent_BProjDxRefIdeal (hBProjDxRefIdeal := hBProjDxRefIdeal)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_GmlpBwd (hGmlpBwd := hGmlpBwd)
    ∧ quiescent_GmlpBwdIdeal (hGmlpBwdIdeal := hGmlpBwdIdeal)
    ∧ quiescent_GmlpBwdIdeal_pre_gmlp_finite (hGmlpBwdIdeal := hGmlpBwdIdeal) (hPre_gmlp_finite := hPre_gmlp_finite)
    ∧ quiescent_GmlpBwdRefIdeal (hGmlpBwdRefIdeal := hGmlpBwdRefIdeal)
    ∧ quiescent_GmlpBwdRefIdeal_pre_gmlp_finite (hGmlpBwdRefIdeal := hGmlpBwdRefIdeal) (hPre_gmlp_finite := hPre_gmlp_finite)
    ∧ quiescent_GmlpHead (hGmlpHead := hGmlpHead)
    ∧ quiescent_GmlpHeadIdeal (hGmlpHeadIdeal := hGmlpHeadIdeal)
    ∧ quiescent_GmlpHeadRefIdeal (hGmlpHeadRefIdeal := hGmlpHeadRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Proj (hProj := hProj)
    ∧ quiescent_ProjIdeal (hProjIdeal := hProjIdeal)
    ∧ quiescent_ProjRefIdeal (hProjRefIdeal := hProjRefIdeal)
    ∧ quiescent_ModUpdate (hModUpdate := hModUpdate)
    ∧ quiescent_ModUpdateIdeal (hModUpdateIdeal := hModUpdateIdeal)
    ∧ quiescent_ModUpdateRefIdeal (hModUpdateRefIdeal := hModUpdateRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_ProjSlab (hProjSlab := hProjSlab)
    ∧ quiescent_ProjSlabIdeal (hProjSlabIdeal := hProjSlabIdeal)
    ∧ quiescent_ProjSlabRefIdeal (hProjSlabRefIdeal := hProjSlabRefIdeal)
    ∧ quiescent_AddPieces (hAddPieces := hAddPieces)
    ∧ quiescent_AddPiecesIdeal (hAddPiecesIdeal := hAddPiecesIdeal)
    ∧ quiescent_AddPiecesRefIdeal (hAddPiecesRefIdeal := hAddPiecesRefIdeal)
    ∧ quiescent_PlaceOwn (hPlaceOwn := hPlaceOwn)
    ∧ quiescent_PlaceOwnIdeal (hPlaceOwnIdeal := hPlaceOwnIdeal)
    ∧ quiescent_PlaceOwnRefIdeal (hPlaceOwnRefIdeal := hPlaceOwnRefIdeal)
    ∧ quiescent_PlaceOwnRef (hPlaceOwnRef := hPlaceOwnRef)
    ∧ preserves_AProjDx_AProjDxIdeal
    ∧ algebraic_AProjDxIdeal_AProjDxRefIdeal (hAProjDxIdeal := hAProjDxIdeal) (hAProjDxRefIdeal := hAProjDxRefIdeal)
    ∧ preserves_BProjDx_BProjDxIdeal
    ∧ algebraic_BProjDxIdeal_BProjDxRefIdeal (hBProjDxIdeal := hBProjDxIdeal) (hBProjDxRefIdeal := hBProjDxRefIdeal)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_GmlpBwd_GmlpBwdIdeal
    ∧ algebraic_GmlpBwdIdeal_GmlpBwdRefIdeal_pre_gmlp_finite (hGmlpBwdIdeal := hGmlpBwdIdeal) (hGmlpBwdRefIdeal := hGmlpBwdRefIdeal) (hPre_gmlp_finite := hPre_gmlp_finite)
    ∧ preserves_GmlpHead_GmlpHeadIdeal
    ∧ algebraic_GmlpHeadIdeal_GmlpHeadRefIdeal (hGmlpHeadIdeal := hGmlpHeadIdeal) (hGmlpHeadRefIdeal := hGmlpHeadRefIdeal)
    ∧ preserves_ModFwd_ModFwdIdeal
    ∧ algebraic_ModFwdIdeal_ModFwdRefIdeal (hModFwdIdeal := hModFwdIdeal) (hModFwdRefIdeal := hModFwdRefIdeal)
    ∧ preserves_NormProj_NormProjIdeal
    ∧ algebraic_NormProjIdeal_NormProjRefIdeal (hNormProjIdeal := hNormProjIdeal) (hNormProjRefIdeal := hNormProjRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_Proj_ProjIdeal
    ∧ algebraic_ProjIdeal_ProjRefIdeal (hProjIdeal := hProjIdeal) (hProjRefIdeal := hProjRefIdeal)
    ∧ preserves_ModUpdate_ModUpdateIdeal
    ∧ algebraic_ModUpdateIdeal_ModUpdateRefIdeal (hModUpdateIdeal := hModUpdateIdeal) (hModUpdateRefIdeal := hModUpdateRefIdeal)
    ∧ preserves_AdamW_AdamWIdeal
    ∧ algebraic_AdamWIdeal_AdamWRefIdeal (hAdamWIdeal := hAdamWIdeal) (hAdamWRefIdeal := hAdamWRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_ProjSlab_ProjSlabIdeal
    ∧ algebraic_ProjSlabIdeal_ProjSlabRefIdeal (hProjSlabIdeal := hProjSlabIdeal) (hProjSlabRefIdeal := hProjSlabRefIdeal)
    ∧ preserves_AddPieces_AddPiecesIdeal
    ∧ algebraic_AddPiecesIdeal_AddPiecesRefIdeal (hAddPiecesIdeal := hAddPiecesIdeal) (hAddPiecesRefIdeal := hAddPiecesRefIdeal)
    ∧ preserves_PlaceOwn_PlaceOwnIdeal
    ∧ algebraic_PlaceOwnIdeal_PlaceOwnRefIdeal (hPlaceOwnIdeal := hPlaceOwnIdeal) (hPlaceOwnRefIdeal := hPlaceOwnRefIdeal)
    ∧ bitexact_PlaceOwn_PlaceOwnRef (hPlaceOwn := hPlaceOwn) (hPlaceOwnRef := hPlaceOwnRef)
-- ==== Pre_conv_finite.lean ====
abbrev S1x8192x8192 : Shape := ⟨3, ![1, 8192, 8192]⟩
abbrev S1x3x2048 : Shape := ⟨3, ![1, 3, 2048]⟩
abbrev S1x2048 : Shape := ⟨2, ![1, 2048]⟩
abbrev S1x2048x1024 : Shape := ⟨3, ![1, 2048, 1024]⟩
abbrev S1x8192x1024 : Shape := ⟨3, ![1, 8192, 1024]⟩
abbrev S_ : Shape := ⟨0, ![]⟩

class Facts : Prop where
  bcast_S_S1x8192x8192 : S_.BroadcastsInDim S1x8192x8192 (![] : Fin 0 → Fin S1x8192x8192.rank)
  bcast_S_S1x3x2048 : S_.BroadcastsInDim S1x3x2048 (![] : Fin 0 → Fin S1x3x2048.rank)
  bcast_S_S1x2048 : S_.BroadcastsInDim S1x2048 (![] : Fin 0 → Fin S1x2048.rank)
  bcast_S_S1x2048x1024 : S_.BroadcastsInDim S1x2048x1024 (![] : Fin 0 → Fin S1x2048x1024.rank)
  bcast_S_S1x8192x1024 : S_.BroadcastsInDim S1x8192x1024 (![] : Fin 0 → Fin S1x8192x1024.rank)

variable [Facts]

def fn {F : FTy → Type} [FloatOps F] (main_arg0 : FVec F S1x8192x8192 .f32) (main_arg1 : FVec F S1x3x2048 .f32) (main_arg2 : FVec F S1x2048 .f32) (main_arg3 : FVec F S1x2048x1024 .f32) (main_arg4 : FVec F S1x8192x1024 .f32) : IVec S1x8192x8192 1 × IVec S1x3x2048 1 × IVec S1x2048 1 × IVec S1x2048x1024 1 × IVec S1x8192x1024 1 :=
  let main_v0 : FVec F S1x8192x8192 .f32 := Host.absf main_arg0
  let main_cst : FVec F S_ .f32 := constant S_ .f32 0x7F800000#32
  let main_v1 : FVec F S1x8192x8192 .f32 := broadcastInDim S1x8192x8192 ![] bcast_S_S1x8192x8192 main_cst
  let main_v2 : IVec S1x8192x8192 1 := cmpf .olt main_v0 main_v1
  let main_v3 : FVec F S1x3x2048 .f32 := Host.absf main_arg1
  let main_cst_0 : FVec F S_ .f32 := constant S_ .f32 0x7F800000#32
  let main_v4 : FVec F S1x3x2048 .f32 := broadcastInDim S1x3x2048 ![] bcast_S_S1x3x2048 main_cst_0
  let main_v5 : IVec S1x3x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x1024 .f32 := Host.absf main_arg3
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_v12 : FVec F S1x8192x1024 .f32 := Host.absf main_arg4
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  (main_v2, main_v5, main_v8, main_v11, main_v14)
-- ==== Pre_gmlp_finite.lean ====
abbrev S1x8192x6144 : Shape := ⟨3, ![1, 8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x8192x1024 : Shape := ⟨3, ![1, 8192, 1024]⟩
abbrev S_ : Shape := ⟨0, ![]⟩

class Facts : Prop where
  bcast_S_S1x8192x6144 : S_.BroadcastsInDim S1x8192x6144 (![] : Fin 0 → Fin S1x8192x6144.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x2048x1024 : S_.BroadcastsInDim S1x2048x1024 (![] : Fin 0 → Fin S1x2048x1024.rank)
  bcast_S_S1x8192x1024 : S_.BroadcastsInDim S1x8192x1024 (![] : Fin 0 → Fin S1x8192x1024.rank)

variable [Facts]

def fn_part1 {F : FTy → Type} [FloatOps F] (main_arg6 : FVec F S1x8192x1024 .f32) (main_v2 : IVec S1x8192x6144 1) (main_v5 : IVec S1x2048 1) (main_v8 : IVec S1x2048 1) (main_v11 : IVec S1x8x128x128 1) (main_v14 : IVec S1x8x128 1) (main_v17 : IVec S1x2048x1024 1) : IVec S1x8192x6144 1 × IVec S1x2048 1 × IVec S1x2048 1 × IVec S1x8x128x128 1 × IVec S1x8x128 1 × IVec S1x2048x1024 1 × IVec S1x8192x1024 1 :=
  let main_v18 : FVec F S1x8192x1024 .f32 := Host.absf main_arg6
  let main_cst_5 : FVec F S_ .f32 := constant S_ .f32 0x7F800000#32
  let main_v19 : FVec F S1x8192x1024 .f32 := broadcastInDim S1x8192x1024 ![] bcast_S_S1x8192x1024 main_cst_5
  let main_v20 : IVec S1x8192x1024 1 := cmpf .olt main_v18 main_v19
  (main_v2, main_v5, main_v8, main_v11, main_v14, main_v17, main_v20)

def fn {F : FTy → Type} [FloatOps F] (main_arg0 : FVec F S1x8192x6144 .f32) (main_arg1 : FVec F S1x2048 .f32) (main_arg2 : FVec F S1x2048 .f32) (main_arg3 : FVec F S1x8x128x128 .f32) (main_arg4 : FVec F S1x8x128 .f32) (main_arg5 : FVec F S1x2048x1024 .f32) (main_arg6 : FVec F S1x8192x1024 .f32) : IVec S1x8192x6144 1 × IVec S1x2048 1 × IVec S1x2048 1 × IVec S1x8x128x128 1 × IVec S1x8x128 1 × IVec S1x2048x1024 1 × IVec S1x8192x1024 1 :=
  let main_v0 : FVec F S1x8192x6144 .f32 := Host.absf main_arg0
  let main_cst : FVec F S_ .f32 := constant S_ .f32 0x7F800000#32
  let main_v1 : FVec F S1x8192x6144 .f32 := broadcastInDim S1x8192x6144 ![] bcast_S_S1x8192x6144 main_cst
  let main_v2 : IVec S1x8192x6144 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x8x128x128 .f32 := Host.absf main_arg3
  let main_cst_2 : FVec F S_ .f32 := constant S_ .f32 0x7F800000#32
  let main_v10 : FVec F S1x8x128x128 .f32 := broadcastInDim S1x8x128x128 ![] bcast_S_S1x8x128x128 main_cst_2
  let main_v11 : IVec S1x8x128x128 1 := cmpf .olt main_v9 main_v10
  let main_v12 : FVec F S1x8x128 .f32 := Host.absf main_arg4
  let main_cst_3 : FVec F S_ .f32 := constant S_ .f32 0x7F800000#32
  let main_v13 : FVec F S1x8x128 .f32 := broadcastInDim S1x8x128 ![] bcast_S_S1x8x128 main_cst_3
  let main_v14 : IVec S1x8x128 1 := cmpf .olt main_v12 main_v13
  let main_v15 : FVec F S1x2048x1024 .f32 := Host.absf main_arg5
  let main_cst_4 : FVec F S_ .f32 := constant S_ .f32 0x7F800000#32
  let main_v16 : FVec F S1x2048x1024 .f32 := broadcastInDim S1x2048x1024 ![] bcast_S_S1x2048x1024 main_cst_4
  let main_v17 : IVec S1x2048x1024 1 := cmpf .olt main_v15 main_v16
  fn_part1 (F := F) main_arg6 main_v2 main_v5 main_v8 main_v11 main_v14 main_v17
-- ==== AProjDx.lean ====
abbrev S1x8192x1024 : Shape := ⟨3, ![1, 8192, 1024]⟩
abbrev S1x1024 : Shape := ⟨2, ![1, 1024]⟩
abbrev S1x3072 : Shape := ⟨2, ![1, 3072]⟩
abbrev S1x1024x8192 : Shape := ⟨3, ![1, 1024, 8192]⟩
abbrev S1x8192x8192 : Shape := ⟨3, ![1, 8192, 8192]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S1024x8192 : Shape := ⟨2, ![1024, 8192]⟩
abbrev S8192x1024 : Shape := ⟨2, ![8192, 1024]⟩
abbrev S_ : Shape := ⟨0, ![]⟩
abbrev S8x128 : Shape := ⟨2, ![8, 128]⟩
abbrev S1x1024x2048 : Shape := ⟨3, ![1, 1024, 2048]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x3072, .f32⟩
  | .hbm, ⟨3, _⟩ => ⟨S1x1024x8192, .f32⟩
  | .hbm, ⟨4, _⟩ => ⟨S1x8192x1024, .f32⟩
  | .hbm, ⟨5, _⟩ => ⟨S1x8192x8192, .f32⟩
  | .hbm, ⟨6, _⟩ => ⟨S8192x8192, .f32⟩
  | .hbm, ⟨7, _⟩ => ⟨S8192x4x2048, .f32⟩
  | .hbm, ⟨8, _⟩ => ⟨S4x8192x2048, .f32⟩
  | .hbm, ⟨9, _⟩ => ⟨S4x8192x2048, .bf16⟩
  | .hbm, ⟨10, _⟩ => ⟨S1x1024, .f32⟩
  | .hbm, ⟨11, _⟩ => ⟨S1024x8192, .f32⟩
  | .hbm, ⟨12, _⟩ => ⟨S1024x8192, .bf16⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8x128, .f32⟩
  | .hbm, ⟨17, _⟩ => ⟨S8192x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== AProjDxRefIdeal.lean ====
abbrev S1x8192x1024 : Shape := ⟨3, ![1, 8192, 1024]⟩
abbrev S1x1024 : Shape := ⟨2, ![1, 1024]⟩
abbrev S1x3072 : Shape := ⟨2, ![1, 3072]⟩
abbrev S1x1024x8192 : Shape := ⟨3, ![1, 1024, 8192]⟩
abbrev S1x8192x8192 : Shape := ⟨3, ![1, 8192, 8192]⟩
abbrev S1x1x3072 : Shape := ⟨3, ![1, 1, 3072]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1024x8192 : Shape := ⟨2, ![1024, 8192]⟩
abbrev S8192 : Shape := ⟨1, ![8192]⟩
abbrev S8192x1024 : Shape := ⟨2, ![8192, 1024]⟩

abbrev nBuf : Space → Nat
  | .hbm => 81
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x3072, .f32⟩
  | .hbm, ⟨3, _⟩ => ⟨S1x1024x8192, .f32⟩
  | .hbm, ⟨4, _⟩ => ⟨S1x8192x1024, .f32⟩
  | .hbm, ⟨5, _⟩ => ⟨S1x8192x8192, .f32⟩
  | .hbm, ⟨6, _⟩ => ⟨S1x1x3072, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1024x8192, .f32⟩
  | .hbm, ⟨39, _⟩ => ⟨S1x8192x8192, .f32⟩
  | .hbm, ⟨40, _⟩ => ⟨S1x8192x1024, .f32⟩
  | .hbm, ⟨41, _⟩ => ⟨S_, .f32⟩
  | .hbm, ⟨42, _⟩ => ⟨S1x1024, .f32⟩
  | .hbm, ⟨43, _⟩ => ⟨S1x1x1024, .f32⟩
  | .hbm, ⟨44, _⟩ => ⟨S1x8192x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S1x8192x1024, .f32⟩
  | .hbm, ⟨55, _⟩ => ⟨S1x8192x1024, .f32⟩
  | .hbm, ⟨56, _⟩ => ⟨S_, .f32⟩
  | .hbm, ⟨57, _⟩ => ⟨S1024, .f32⟩
  | .hbm, ⟨58, _⟩ => ⟨S1x8192x1024, .f32⟩
  | .hbm, ⟨59, _⟩ => ⟨S_, .f32⟩
  | .hbm, ⟨60, _⟩ => ⟨S1x8192, .f32⟩
  | .hbm, ⟨61, _⟩ => ⟨S1x8192x1, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1, .f32⟩
  | .hbm, ⟨66, _⟩ => ⟨S_, .f32⟩
  | .hbm, ⟨67, _⟩ => ⟨S1x8192x1, .f32⟩
  | .hbm, ⟨68, _⟩ => ⟨S1x8192x1, .f32⟩
  | .hbm, ⟨69, _⟩ => ⟨S_, .f32⟩
  | .hbm, ⟨70, _⟩ => ⟨S8192, .f32⟩
  | .hbm, ⟨71, _⟩ => ⟨S1x8192, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x1024, .f32⟩
  | .hbm, ⟨78, _⟩ => ⟨S8192x1024, .f32⟩
  | .hbm, ⟨79, _⟩ => ⟨S1x1024, .f32⟩
  | .hbm, ⟨80, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== BProjDx.lean ====
abbrev S1x8192x1024 : Shape := ⟨3, ![1, 8192, 1024]⟩
abbrev S1x3072 : Shape := ⟨2, ![1, 3072]⟩
abbrev S1x1024 : Shape := ⟨2, ![1, 1024]⟩
abbrev S1x1024x6144 : Shape := ⟨3, ![1, 1024, 6144]⟩
abbrev S1x8192x6144 : Shape := ⟨3, ![1, 8192, 6144]⟩
abbrev S8192x6144 : Shape := ⟨2, ![8192, 6144]⟩
abbrev S8192x3x2048 : Shape := ⟨3, ![8192, 3, 2048]⟩
abbrev S3x8192x2048 : Shape := ⟨3, ![3, 8192, 2048]⟩
abbrev S8192x1024 : Shape := ⟨2, ![8192, 1024]⟩
abbrev S1024x6144 : Shape := ⟨2, ![1024, 6144]⟩
abbrev S_ : Shape := ⟨0, ![]⟩
abbrev S8x128 : Shape := ⟨2, ![8, 128]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 31
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x3072, .f32⟩
  | .hbm, ⟨3, _⟩ => ⟨S1x1024, .f32⟩
  | .hbm, ⟨4, _⟩ => ⟨S1x3072, .f32⟩
  | .hbm, ⟨5, _⟩ => ⟨S1x1024x6144, .f32⟩
  | .hbm, ⟨6, _⟩ => ⟨S1x8192x1024, .f32⟩
  | .hbm, ⟨7, _⟩ => ⟨S1x8192x6144, .f32⟩
  | .hbm, ⟨8, _⟩ => ⟨S8192x6144, .f32⟩
  | .hbm, ⟨9, _⟩ => ⟨S8192x3x2048, .f32⟩
  | .hbm, ⟨10, _⟩ => ⟨S3x8192x2048, .f32⟩
  | .hbm, ⟨11, _⟩ => ⟨S3x8192x2048, .bf16⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x6144, .f32⟩
  | .hbm, ⟨20, _⟩ => ⟨S1024x6144, .bf16⟩
  | .hbm, ⟨21, _⟩ => ⟨S8192x1024, .f32⟩
  | .hbm, ⟨22, _⟩ => ⟨S_, .f32⟩
  | .hbm, ⟨23, _⟩ => ⟨S8x128, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .bf16⟩
  | .hbm, ⟨30, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨2, ![8, 6], ![false, false]⟩

def k0_cond4 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== BProjDxRefIdeal.lean ====
abbrev S1x8192x1024 : Shape := ⟨3, ![1, 8192, 1024]⟩
abbrev S1x3072 : Shape := ⟨2, ![1, 3072]⟩
abbrev S1x1024 : Shape := ⟨2, ![1, 1024]⟩
abbrev S1x1024x6144 : Shape := ⟨3, ![1, 1024, 6144]⟩
abbrev S1x8192x6144 : Shape := ⟨3, ![1, 8192, 6144]⟩
abbrev S1x1x3072 : Shape := ⟨3, ![1, 1, 3072]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1024x6144 : Shape := ⟨2, ![1024, 6144]⟩
abbrev S8192 : Shape := ⟨1, ![8192]⟩
abbrev S8192x1024 : Shape := ⟨2, ![8192, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x3072, .f32⟩
  | .hbm, ⟨3, _⟩ => ⟨S1x1024, .f32⟩
  | .hbm, ⟨4, _⟩ => ⟨S1x3072, .f32⟩
  | .hbm, ⟨5, _⟩ => ⟨S1x1024x6144, .f32⟩
  | .hbm, ⟨6, _⟩ => ⟨S1x8192x1024, .f32⟩
  | .hbm, ⟨7, _⟩ => ⟨S1x8192x6144, .f32⟩
  | .hbm, ⟨8, _⟩ => ⟨S1x1x3072, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x3072, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S1024, .f32⟩
  | .hbm, ⟨20, _⟩ => ⟨S1x8192x1024, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x1, .f32⟩
  | .hbm, ⟨32, _⟩ => ⟨S_, .f32⟩
  | .hbm, ⟨33, _⟩ => ⟨S1x8192x1, .f32⟩
  | .hbm, ⟨34, _⟩ => ⟨S1x8192x1, .f32⟩
  | .hbm, ⟨35, _⟩ => ⟨S1x8192x1024, .f32⟩
  | .hbm, ⟨36, _⟩ => ⟨S1x8192x1024, .f32⟩
  | .hbm, ⟨37, _⟩ => ⟨S1x1x1024, .f32⟩
  | .hbm, ⟨38, _⟩ => ⟨S1x8192x1024, .f32⟩
  | .hbm, ⟨39, _⟩ => ⟨S1x8192x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1024x6144, .f32⟩
  | .hbm, ⟨48, _⟩ => ⟨S1x8192x6144, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x8192x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S1x8192x1, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x1024, .f32⟩
  | .hbm, ⟨87, _⟩ => ⟨S1x8192x1024, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S_, .f32⟩
  | .hbm, ⟨92, _⟩ => ⟨S1x1024, .f32⟩
  | .hbm, ⟨93, _⟩ => ⟨S1x1x1024, .f32⟩
  | .hbm, ⟨94, _⟩ => ⟨S8192x1024, .f32⟩
  | .hbm, ⟨95, _⟩ => ⟨S1x1024, .f32⟩
  | .hbm, ⟨96, _⟩ => ⟨S1x1024, .f32⟩
  | .hbm, ⟨97, _⟩ => ⟨S8192x1024, .f32⟩
  | .hbm, ⟨98, _⟩ => ⟨S8192x1024, .bf16⟩
  | .hbm, ⟨99, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== ConvBwd.lean ====
abbrev S1x8192x8192 : Shape := ⟨3, ![1, 8192, 8192]⟩
abbrev S1x3x2048 : Shape := ⟨3, ![1, 3, 2048]⟩
abbrev S1x2048 : Shape := ⟨2, ![1, 2048]⟩
abbrev S1x2048x1024 : Shape := ⟨3, ![1, 2048, 1024]⟩
abbrev S1x8192x1024 : Shape := ⟨3, ![1, 8192, 1024]⟩
abbrev S1x1x2048 : Shape := ⟨3, ![1, 1, 2048]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S8192x1024 : Shape := ⟨2, ![8192, 1024]⟩
abbrev S2048x1024 : Shape := ⟨2, ![2048, 1024]⟩
abbrev S_ : Shape := ⟨0, ![]⟩
abbrev S8x128 : Shape := ⟨2, ![8, 128]⟩
abbrev S1x512x1024 : Shape := ⟨3, ![1, 512, 1024]⟩
abbrev S512x1024 : Shape := ⟨2, ![512, 1024]⟩
abbrev S1x16x1024 : Shape := ⟨3, ![1, 16, 1024]⟩
abbrev S16x1024 : Shape := ⟨2, ![16, 1024]⟩
abbrev S1024x1024 : Shape := ⟨2, ![1024, 1024]⟩
abbrev S1x1024 : Shape := ⟨2, ![1, 1024]⟩
abbrev S4x512x1024 : Shape := ⟨3, ![4, 512, 1024]⟩
abbrev S256x1024 : Shape := ⟨2, ![256, 1024]⟩
abbrev S512x256 : Shape := ⟨2, ![512, 256]⟩
abbrev S16x256 : Shape := ⟨2, ![16, 256]⟩
abbrev S8x256 : Shape := ⟨2, ![8, 256]⟩
abbrev S1x512x256 : Shape := ⟨3, ![1, 512, 256]⟩
abbrev S1x256 : Shape := ⟨2, ![1, 256]⟩
abbrev S1x16x256 : Shape := ⟨3, ![1, 16, 256]⟩
abbrev S504x256 : Shape := ⟨2, ![504, 256]⟩
abbrev S256 : Shape := ⟨1, ![256]⟩

abbrev nBuf : Space → Nat
  | .hbm => 25
  | .vmem => 41
  | .smem => 0
  | _ => 0

abbrev bufTy : (tb : Table) → Fin (tcTables nBuf tb) → BufTy
  | .hbm, ⟨0, _⟩ => ⟨S1x8192x8192, .f32⟩
  | .hbm, ⟨1, _⟩ => ⟨S1x3x2048, .f32⟩
  | .hbm, ⟨2, _⟩ => ⟨S1x2048, .f32⟩
  | .hbm, ⟨3, _⟩ => ⟨S1x2048x1024, .f32⟩
  | .hbm, ⟨4, _⟩ => ⟨S1x8192x1024, .f32⟩
  | .hbm, ⟨5, _⟩ => ⟨S1x1x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S8192x8192, .f32⟩
  | .hbm, ⟨12, _⟩ => ⟨S8192x4x2048, .f32⟩
  | .hbm, ⟨13, _⟩ => ⟨S4x8192x2048, .f32⟩
  | .hbm, ⟨14, _⟩ => ⟨S8192x1024, .f32⟩
  | .hbm, ⟨15, _⟩ => ⟨S8192x1024, .bf16⟩
  | .hbm, ⟨16, _⟩ => ⟨S2048x1024, .f32⟩
  | .hbm, ⟨17, _⟩ => ⟨S2048x1024, .bf16⟩
  | .hbm, ⟨18, _⟩ => ⟨S_, .f32⟩
  | .hbm, ⟨19, _⟩ => ⟨S8x128, .f32⟩
  | .hbm, ⟨20, _⟩ => ⟨S4x8192x2048, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1x16x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x16x1024, .f32⟩
  | .local _ .vmem, ⟨18, _⟩ => ⟨S16x1024, .bf16⟩
  | .local _ .vmem, ⟨19, _⟩ => ⟨S16x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S8x128, .f32⟩
  | .local _ .vmem, ⟨31, _⟩ => ⟨S4x512x1024, .bf16⟩
  | .local _ .vmem, ⟨32, _⟩ => ⟨S4x512x1024, .bf16⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![c3_i32.toNat, v2.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== ConvBwdRefIdeal.lean ====
abbrev S1x8192x8192 : Shape := ⟨3, ![1, 8192, 8192]⟩
abbrev S1x3x2048 : Shape := ⟨3, ![1, 3, 2048]⟩
abbrev S1x2048 : Shape := ⟨2, ![1, 2048]⟩
abbrev S1x2048x1024 : Shape := ⟨3, ![1, 2048, 1024]⟩
abbrev S1x8192x1024 : Shape := ⟨3, ![1, 8192, 1024]⟩
abbrev S3x2048 : Shape := ⟨2, ![3, 2048]⟩
abbrev S2048 : Shape := ⟨1, ![2048]⟩
abbrev S2048x1024 : Shape := ⟨2, ![2048, 1024]⟩
abbrev S1x8192x2048 : Shape := ⟨3, ![1, 8192, 2048]⟩
abbrev S_ : Shape := ⟨0, ![]⟩
abbrev S1x2x2048 : Shape := ⟨3, ![1, 2, 2048]⟩
abbrev S1x8194x2048 : Shape := ⟨3, ![1, 8194, 2048]⟩
abbrev S1x1x2048 : Shape := ⟨3, ![1, 1, 2048]⟩
abbrev S8192x8192 : Shape := ⟨2, ![8192, 8192]⟩
abbrev S8192x2048 : Shape := ⟨2, ![8192, 2048]⟩
abbrev S4x8192x2048 : Shape := ⟨3, ![4, 8192, 2048]⟩

abbrev nBuf : Space → Nat
  | .hbm => 135
  | .vmem => 0
  | .smem => 0
  | _ => 0

abbrev hbmTy0_0 (i : Nat) : BufTy := match i % 128 with
  | 0 => ⟨S1x8192x8192, .f32⟩
  | 1 => ⟨S1x3x2048, .f32⟩
  | 2 => ⟨S1x2048, .f32⟩
  | 3 => ⟨S1x2048x1024, .f32⟩
  | 4 => ⟨S1x8192x1024, .f32⟩
  | 5 => ⟨S3x2048, .f32⟩
  | 6 => ⟨S2048, .f32⟩
  | 7 => ⟨S2048x1024, .f32⟩
  | 8 => ⟨S1x8192x2048, .f32⟩
  | 9 => ⟨S1x8192x2048, .f32⟩
  | 10 => ⟨S1x8192x2048, .f32⟩
  | 11 => ⟨S1x8192x2048, .f32⟩
  | 12 => ⟨S1x8192x2048, .f32⟩
  | 13 => ⟨S_, .f32⟩
  | 14 => ⟨S1x2x2048, .f32⟩
  | 15 => ⟨S1x8194x2048, .f32⟩
  | 16 => ⟨S_, .f32⟩
  | 17 => ⟨S1x2x2048, .f32⟩
  | 18 => ⟨S1x2048, .f32⟩
  | 19 => ⟨S2048, .f32⟩
  | 20 => ⟨S1x1x2048, .f32⟩
  | 21 => ⟨S1x8192x2048, .f32⟩
  | 22 => ⟨S1x8192x2048, .f32⟩
  | 23 => ⟨S1x1x2048, .f32⟩
  | 24 => ⟨S1x8192x2048, .f32⟩
  | 25 => ⟨S1x8192x2048, .f32⟩
  | 26 => ⟨S1x2048, .f32⟩
  | 27 => ⟨S2048, .f32⟩
  | 28 => ⟨S1x8192x2048, .f32⟩
  | 29 => ⟨S1x1x2048, .f32⟩
  | 30 => ⟨S1x8192x2048, .f32⟩
  | 31 => ⟨S1x8192x2048, .f32⟩
  | 32 => ⟨S1x8192x2048, .f32⟩
  | 33 => ⟨S1x2048, .f32⟩
  | 34 => ⟨S2048, .f32⟩
  | 35 => ⟨S1x8192x2048, .f32⟩
  | 36 => ⟨S1x1x2048, .f32⟩
  | 37 => ⟨S1x8192x2048, .f32⟩
  | 38 => ⟨S1x8192x2048, .f32⟩
  | 39 => ⟨S1x8192x2048, .f32⟩
  | 40 => ⟨S1x8192x2048, .f32⟩
  | 41 => ⟨S1x8192x2048, .f32⟩
  | 42 => ⟨S_, .f32⟩
  | 43 => ⟨S1x8192x2048, .f32⟩
  | 44 => ⟨S1x8192x2048, .f32⟩
  | 45 => ⟨S_, .f32⟩
  | 46 => ⟨S1x8192x2048, .f32⟩
  | 47 => ⟨S1x8192x2048, .f32⟩
  | 48 => ⟨S_, .f32⟩
  | 49 => ⟨S1x8192x2048, .f32⟩
  | 50 => ⟨S1x8192x2048, .f32⟩
  | 51 => ⟨S1x8192x2048, .f32⟩
  | 52 => ⟨S1x8192x2048, .f32⟩
  | 53 => ⟨S1x8192x2048, .f32⟩
  | 54 => ⟨S1x8192x2048, .f32⟩
  | 55 => ⟨S1x8192x1024, .f32⟩
  | 56 => ⟨S1x8192x2048, .f32⟩
  | 57 => ⟨S1x8192x2048, .f32⟩
  | 58 => ⟨S1x8192x2048, .f32⟩
  | 59 => ⟨S1x8192x2048, .f32⟩
  | 60 => ⟨S1x8192x2048, .f32⟩
  | 61 => ⟨S1x8192x2048, .f32⟩
  | 62 => ⟨S1x8192x2048, .f32⟩
  | 63 => ⟨S1x8192x2048, .f32⟩
  | 64 => ⟨S1x8192x2048, .f32⟩
  | 65 => ⟨S1x8192x2048, .f32⟩
  | 66 => ⟨S1x8192x2048, .f32⟩
  | 67 => ⟨S1x8192x2048, .f32⟩
  | 68 => ⟨S_, .f32⟩
  | 69 => ⟨S1x2048, .f32⟩
  | 70 => ⟨S1x1x2048, .f32⟩
  | 71 => ⟨S_, .f32⟩
  | 72 => ⟨S2048, .f32⟩
  | 73 => ⟨S_, .f32⟩
  | 74 => ⟨S1x8194x2048, .f32⟩
  | 75 => ⟨S1x2048, .f32⟩
  | 76 => ⟨S_, .f32⟩
  | 77 => ⟨S3x2048, .f32⟩
  | 78 => ⟨S1x8192x2048, .f32⟩
  | 79 => ⟨S1x8192x2048, .f32⟩
  | 80 => ⟨S1x8192x2048, .f32⟩
  | 81 => ⟨S_, .f32⟩
  | 82 => ⟨S1x2048, .f32⟩
  | 83 => ⟨S1x1x2048, .f32⟩
  | 84 => ⟨S_, .f32⟩
  | 85 => ⟨S2048, .f32⟩
  | 86 => ⟨S_, .f32⟩
  | 87 => ⟨S1x8194x2048, .f32⟩
  | 88 => ⟨S1x8194x2048, .f32⟩
  | 89 => ⟨S1x2048, .f32⟩
  | 90 => ⟨S_, .f32⟩
  | 91 => ⟨S3x2048, .f32⟩
  | 92 => ⟨S3x2048, .f32⟩
  | 93 => ⟨S_, .f32⟩
  | 94 => ⟨S1x2048, .f32⟩
  | 95 => ⟨S1x1x2048, .f32⟩
  | 96 => ⟨S_, .f32⟩
  | 97 => ⟨S2048, .f32⟩
  | 98 => ⟨S1x8192x2048, .f32⟩
  | 99 => ⟨S1x8192x2048, .f32⟩
  | 100 => ⟨S1x8192x2048, .f32⟩
  | 101 => ⟨S_, .f32⟩
  | 102 => ⟨S1x2048, .f32⟩
  | 103 => ⟨S1x1x2048, .f32⟩
  | 104 => ⟨S_, .f32⟩
  | 105 => ⟨S2048, .f32⟩
  | 106 => ⟨S1x2048, .f32⟩
  | 107 => ⟨S_, .f32⟩
  | 108 => ⟨S3x2048, .f32⟩
  | 109 => ⟨S3x2048, .f32⟩
  | 110 => ⟨S1x2x2048, .f32⟩
  | 111 => ⟨S1x8192x2048, .f32⟩
  | 112 => ⟨S1x8192x2048, .f32⟩
  | 113 => ⟨S1x8192x2048, .f32⟩
  | 114 => ⟨S1x8192x2048, .f32⟩
  | 115 => ⟨S1x8192x8192, .f32⟩
  | 116 => ⟨S1x2048, .f32⟩
  | 117 => ⟨S1x3x2048, .f32⟩
  | 118 => ⟨S8192x8192, .f32⟩
  | 119 => ⟨S8192x2048, .f32⟩
  | 120 => ⟨S8192x2048, .f32⟩
  | 121 => ⟨S8192x2048, .f32⟩
  | 122 => ⟨S8192x2048, .f32⟩
  | 123 => ⟨S1x8192x2048, .f32⟩
  | 124 => ⟨S1x8192x2048, .f32⟩
  | 125 => ⟨S1x8192x2048, .f32⟩
  | 126 => ⟨S1x8192x2048, .f32⟩
  | 127 => ⟨S4x8192x2048, .f32⟩
  | _ => ⟨S1x8192x8192, .f32⟩

abbrev hbmTy0_1 (i : Nat) : BufTy := match i % 128 with
  | 0 => ⟨S4x8192x2048, .bf16⟩
  | 1 => ⟨S1x1x2048, .f32⟩
  | 2 => ⟨S1x2048, .f32⟩
  | 3 => ⟨S1x1x2048, .f32⟩
  | 4 => ⟨S1x2048, .f32⟩
  | 5 => ⟨S1x1x2048, .f32⟩
  | 6 => ⟨S1x2048, .f32⟩
  | _ => ⟨S1x8192x8192, .f32⟩

abbrev hbmTy (i : Nat) : BufTy := match i / 128 with
  | 0 => hbmTy0_0 i
  | 1 => hbmTy0_1 i
  | _ => ⟨S1x8192x8192, .f32⟩

abbrev bufTy : (tb : Table) → Fin (tcTables nBuf tb) → BufTy
  | .hbm, ⟨i, _⟩ => hbmTy i
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_1 : Ref sig .tc := ⟨.hbm, 68, rfl⟩
abbrev main_v46 : Ref sig .tc := ⟨.hbm, 69, rfl⟩
abbrev main_v47 : Ref sig .tc := ⟨.hbm, 70, rfl⟩
abbrev main_cst_2 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]
-- ==== GmlpBwd.lean ====
abbrev S1x8192x6144 : Shape := ⟨3, ![1, 8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x8192x1024 : Shape := ⟨3, ![1, 8192, 1024]⟩
abbrev S8192x6144 : Shape := ⟨2, ![8192, 6144]⟩
abbrev S8192x3x2048 : Shape := ⟨3, ![8192, 3, 2048]⟩
abbrev S3x8192x2048 : Shape := ⟨3, ![3, 8192, 2048]⟩
abbrev S8192x1024 : Shape := ⟨2, ![8192, 1024]⟩
abbrev S2048x1024 : Shape := ⟨2, ![2048, 1024]⟩
abbrev S8x128x128 : Shape := ⟨3, ![8, 128, 128]⟩
abbrev S8x128 : Shape := ⟨2, ![8, 128]⟩
abbrev S128x8 : Shape := ⟨2, ![128, 8]⟩
abbrev S1x256x2048 : Shape := ⟨3, ![1, 256, 2048]⟩
abbrev S256x1024 : Shape := ⟨2, ![256, 1024]⟩
abbrev S3x256x2048 : Shape := ⟨3, ![3, 256, 2048]⟩
abbrev S256x2048 : Shape := ⟨2, ![256, 2048]⟩
abbrev S128x2048 : Shape := ⟨2, ![128, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S2048 : Shape := ⟨1, ![2048]⟩
abbrev S128 : Shape := ⟨1, ![128]⟩

abbrev nBuf : Space → Nat
  | .hbm => 24
  | .vmem => 25
  | .smem => 0
  | _ => 0

abbrev bufTy : (tb : Table) → Fin (tcTables nBuf tb) → BufTy
  | .hbm, ⟨0, _⟩ => ⟨S1x8192x6144, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S1x2048x1024, .f32⟩
  | .hbm, ⟨6, _⟩ => ⟨S1x8192x1024, .f32⟩
  | .hbm, ⟨7, _⟩ => ⟨S8192x6144, .f32⟩
  | .hbm, ⟨8, _⟩ => ⟨S8192x3x2048, .f32⟩
  | .hbm, ⟨9, _⟩ => ⟨S3x8192x2048, .f32⟩
  | .hbm, ⟨10, _⟩ => ⟨S8192x1024, .f32⟩
  | .hbm, ⟨11, _⟩ => ⟨S8192x1024, .bf16⟩
  | .hbm, ⟨12, _⟩ => ⟨S2048x1024, .f32⟩
  | .hbm, ⟨13, _⟩ => ⟨S2048x1024, .bf16⟩
  | .hbm, ⟨14, _⟩ => ⟨S8x128x128, .f32⟩
  | .hbm, ⟨15, _⟩ => ⟨S8x128x128, .f32⟩
  | .hbm, ⟨16, _⟩ => ⟨S8x128x128, .f32⟩
  | .hbm, ⟨17, _⟩ => ⟨S8x128, .f32⟩
  | .hbm, ⟨18, _⟩ => ⟨S128x8, .f32⟩
  | .hbm, ⟨19, _⟩ => ⟨S3x8192x2048, .bf16⟩
  | .hbm, ⟨20, _⟩ => ⟨S8x128x128, .f32⟩
  | .hbm, ⟨21, _⟩ => ⟨S128x8, .f32⟩
  | .hbm, ⟨22, _⟩ => ⟨S1x2048, .f32⟩
  | .hbm, ⟨23, _⟩ => ⟨S1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S8x128x128, .f32⟩
  | .local _ .vmem, ⟨12, _⟩ => ⟨S8x128x128, .f32⟩
  | .local _ .vmem, ⟨13, _⟩ => ⟨S128x8, .f32⟩
  | .local _ .vmem, ⟨14, _⟩ => ⟨S3x256x2048, .bf16⟩
  | .local _ .vmem, ⟨15, _⟩ => ⟨S3x256x2048, .bf16⟩
  | .local _ .vmem, ⟨16, _⟩ => ⟨S8x128x128, .f32⟩
  | .local _ .vmem, ⟨17, _⟩ => ⟨S128x8, .f32⟩
  | .local _ .vmem, ⟨18, _⟩ => ⟨S1x2048, .f32⟩
  | .local _ .vmem, ⟨19, _⟩ => ⟨S1x2048, .f32⟩
  | .local _ .vmem, ⟨20, _⟩ => ⟨S256x2048, .bf16⟩
  | .local _ .vmem, ⟨21, _⟩ => ⟨S256x2048, .f32⟩
  | .local _ .vmem, ⟨22, _⟩ => ⟨S256x2048, .bf16⟩
  | .local _ .vmem, ⟨23, _⟩ => ⟨S256x2048, .f32⟩
  | .local _ .vmem, ⟨24, _⟩ => ⟨S128x2048, .f32⟩
  | _, _ => ⟨S1x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v651 : BitVec 1 := Scalar.cmpi .eq arg0 c31_i32
  let v652 : BitVec 32 := Scalar.extui v651
  let c0_i32_493 : BitVec 32 := 0#32
  let v653 : BitVec 1 := Scalar.cmpi .ne v652 c0_i32_493
  v653

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GmlpBwdIdeal.lean ====
variable {F : FTy → Type} [FloatOps F] [Named F]
def κ : String → Option EReal := fun
  | "inv_sqrt_2" => some (((Real.sqrt 2)⁻¹ : ℝ) : EReal)
  | "inv_sqrt_2pi" => some (((9465531 / 16777216) * (Real.sqrt 2)⁻¹ : ℝ) : EReal)
  | _ => none
-- ==== GmlpBwdRefIdeal.lean ====
abbrev S1x8192x6144 : Shape := ⟨3, ![1, 8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x8192x1024 : Shape := ⟨3, ![1, 8192, 1024]⟩
abbrev S2048 : Shape := ⟨1, ![2048]⟩
abbrev S8x128x128 : Shape := ⟨3, ![8, 128, 128]⟩
abbrev S8x128 : Shape := ⟨2, ![8, 128]⟩
abbrev S1x8192x4096 : Shape := ⟨3, ![1, 8192, 4096]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x64x128x8x256 : Shape := ⟨5, ![1, 64, 128, 8, 256]⟩
abbrev S128x128 : Shape := ⟨2, ![128, 128]⟩
abbrev S1x128x128 : Shape := ⟨3, ![1, 128, 128]⟩
abbrev S8x1x64x256x128 : Shape := ⟨5, ![8, 1, 64, 256, 128]⟩
abbrev S128x8 : Shape := ⟨2, ![128, 8]⟩
abbrev S1x1x128x8x1 : Shape := ⟨5, ![1, 1, 128, 8, 1]⟩
abbrev S2048x1024 : Shape := ⟨2, ![2048, 1024]⟩
abbrev S1x128x8 : Shape := ⟨3, ![1, 128, 8]⟩
abbrev S8192 : Shape := ⟨1, ![8192]⟩
abbrev S8192x6144 : Shape := ⟨2, ![8192, 6144]⟩
abbrev S8192x2048 : Shape := ⟨2, ![8192, 2048]⟩
abbrev S3x8192x2048 : Shape := ⟨3, ![3, 8192, 2048]⟩

abbrev nBuf : Space → Nat
  | .hbm => 213
  | .vmem => 0
  | .smem => 0
  | _ => 0

abbrev hbmTy0_0 (i : Nat) : BufTy := match i % 128 with
  | 0 => ⟨S1x8192x6144, .f32⟩
  | 1 => ⟨S1x2048, .f32⟩
  | 2 => ⟨S1x2048, .f32⟩
  | 3 => ⟨S1x8x128x128, .f32⟩
  | 4 => ⟨S1x8x128, .f32⟩
  | 5 => ⟨S1x2048x1024, .f32⟩
  | 6 => ⟨S1x8192x1024, .f32⟩
  | 7 => ⟨S2048, .f32⟩
  | 8 => ⟨S2048, .f32⟩
  | 9 => ⟨S8x128x128, .f32⟩
  | 10 => ⟨S8x128, .f32⟩
  | 11 => ⟨S1x8192x4096, .f32⟩
  | 12 => ⟨S1x8192x2048, .f32⟩
  | 13 => ⟨S_, .f32⟩
  | 14 => ⟨S1x8192x4096, .f32⟩
  | 15 => ⟨S1x8192x4096, .f32⟩
  | 16 => ⟨S1x8192x4096, .f32⟩
  | 17 => ⟨S_, .f32⟩
  | 18 => ⟨S_, .f32⟩
  | 19 => ⟨S_, .f32⟩
  | 20 => ⟨S1x8192x4096, .f32⟩
  | 21 => ⟨S1x8192x4096, .f32⟩
  | 22 => ⟨S1x8192x4096, .f32⟩
  | 23 => ⟨S1x8192x4096, .f32⟩
  | 24 => ⟨S1x8192x4096, .f32⟩
  | 25 => ⟨S1x8192x4096, .f32⟩
  | 26 => ⟨S1x8192x4096, .f32⟩
  | 27 => ⟨S1x8192x2048, .f32⟩
  | 28 => ⟨S1x8192x2048, .f32⟩
  | 29 => ⟨S_, .f32⟩
  | 30 => ⟨S1x8192, .f32⟩
  | 31 => ⟨S1x8192x1, .f32⟩
  | 32 => ⟨S_, .f32⟩
  | 33 => ⟨S1x8192x1, .f32⟩
  | 34 => ⟨S1x8192x1, .f32⟩
  | 35 => ⟨S1x8192x2048, .f32⟩
  | 36 => ⟨S1x8192x2048, .f32⟩
  | 37 => ⟨S1x8192x2048, .f32⟩
  | 38 => ⟨S_, .f32⟩
  | 39 => ⟨S1x8192x2048, .f32⟩
  | 40 => ⟨S1x8192x2048, .f32⟩
  | 41 => ⟨S_, .f32⟩
  | 42 => ⟨S1x8192, .f32⟩
  | 43 => ⟨S1x8192x1, .f32⟩
  | 44 => ⟨S_, .f32⟩
  | 45 => ⟨S1x8192x1, .f32⟩
  | 46 => ⟨S1x8192x1, .f32⟩
  | 47 => ⟨S1x8192x2048, .f32⟩
  | 48 => ⟨S1x8192x2048, .f32⟩
  | 49 => ⟨S_, .f32⟩
  | 50 => ⟨S1x8192x1, .f32⟩
  | 51 => ⟨S1x8192x1, .f32⟩
  | 52 => ⟨S1x8192x1, .f32⟩
  | 53 => ⟨S1x8192x1, .f32⟩
  | 54 => ⟨S_, .f32⟩
  | 55 => ⟨S1x8192x1, .f32⟩
  | 56 => ⟨S1x8192x1, .f32⟩
  | 57 => ⟨S1x8192x2048, .f32⟩
  | 58 => ⟨S1x8192x2048, .f32⟩
  | 59 => ⟨S1x1x2048, .f32⟩
  | 60 => ⟨S1x8192x2048, .f32⟩
  | 61 => ⟨S1x8192x2048, .f32⟩
  | 62 => ⟨S1x1x2048, .f32⟩
  | 63 => ⟨S1x8192x2048, .f32⟩
  | 64 => ⟨S1x8192x2048, .f32⟩
  | 65 => ⟨S1x64x128x8x256, .f32⟩
  | 66 => ⟨S_, .i1⟩
  | 67 => ⟨S128x128, .i1⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .i1⟩
  | 75 => ⟨S128x128, .i1⟩
  | 76 => ⟨S128x128, .i1⟩
  | 77 => ⟨S1x128x128, .i1⟩
  | 78 => ⟨S_, .f32⟩
  | 79 => ⟨S8x128x128, .f32⟩
  | 80 => ⟨S8x128x128, .i1⟩
  | 81 => ⟨S8x128x128, .f32⟩
  | 82 => ⟨S_, .f32⟩
  | 83 => ⟨S8x128x128, .f32⟩
  | 84 => ⟨S8x1x64x256x128, .f32⟩
  | 85 => ⟨S1x64x128x8x256, .f32⟩
  | 86 => ⟨S128x8, .f32⟩
  | 87 => ⟨S1x1x128x8x1, .f32⟩
  | 88 => ⟨S1x64x128x8x256, .f32⟩
  | 89 => ⟨S1x64x128x8x256, .f32⟩
  | 90 => ⟨S1x8192x2048, .f32⟩
  | 91 => ⟨S1x8192x2048, .f32⟩
  | 92 => ⟨S1x8192x2048, .f32⟩
  | 93 => ⟨S1x8192x2048, .f32⟩
  | 94 => ⟨S_, .f32⟩
  | 95 => ⟨S1x8192x2048, .f32⟩
  | 96 => ⟨S1x8192x2048, .f32⟩
  | 97 => ⟨S_, .f32⟩
  | 98 => ⟨S1x8192x2048, .f32⟩
  | 99 => ⟨S1x8192x2048, .f32⟩
  | 100 => ⟨S_, .f32⟩
  | 101 => ⟨S1x8192x2048, .f32⟩
  | 102 => ⟨S1x8192x2048, .f32⟩
  | 103 => ⟨S1x8192x2048, .f32⟩
  | 104 => ⟨S1x8192x2048, .f32⟩
  | 105 => ⟨S1x8192x2048, .f32⟩
  | 106 => ⟨S2048x1024, .f32⟩
  | 107 => ⟨S1x8192x1024, .f32⟩
  | 108 => ⟨S1x8192x2048, .f32⟩
  | 109 => ⟨S1x8192x2048, .f32⟩
  | 110 => ⟨S1x8192x2048, .f32⟩
  | 111 => ⟨S1x8192x2048, .f32⟩
  | 112 => ⟨S1x8192x2048, .f32⟩
  | 113 => ⟨S1x8192x2048, .f32⟩
  | 114 => ⟨S1x8192x2048, .f32⟩
  | 115 => ⟨S1x8192x2048, .f32⟩
  | 116 => ⟨S1x8192x2048, .f32⟩
  | 117 => ⟨S1x64x128x8x256, .f32⟩
  | 118 => ⟨S_, .f32⟩
  | 119 => ⟨S1x128x8, .f32⟩
  | 120 => ⟨S1x1x128x8x1, .f32⟩
  | 121 => ⟨S_, .f32⟩
  | 122 => ⟨S128x8, .f32⟩
  | 123 => ⟨S8x128, .f32⟩
  | 124 => ⟨S8x1x64x256x128, .f32⟩
  | 125 => ⟨S8x128x128, .f32⟩
  | 126 => ⟨S8x1x64x256x128, .f32⟩
  | 127 => ⟨S1x64x128x8x256, .f32⟩
  | _ => ⟨S1x8192x6144, .f32⟩

abbrev hbmTy0_1 (i : Nat) : BufTy := match i % 128 with
  | 0 => ⟨S_, .f32⟩
  | 1 => ⟨S8x128x128, .f32⟩
  | 2 => ⟨S8x128x128, .f32⟩
  | 3 => ⟨S1x8192x2048, .f32⟩
  | 4 => ⟨S_, .f32⟩
  | 5 => ⟨S1x2048, .f32⟩
  | 6 => ⟨S1x1x2048, .f32⟩
  | 7 => ⟨S_, .f32⟩
  | 8 => ⟨S2048, .f32⟩
  | 9 => ⟨S1x8192x2048, .f32⟩
  | 10 => ⟨S_, .f32⟩
  | 11 => ⟨S1x2048, .f32⟩
  | 12 => ⟨S1x1x2048, .f32⟩
  | 13 => ⟨S1x8192x2048, .f32⟩
  | 14 => ⟨S1x8192x2048, .f32⟩
  | 15 => ⟨S_, .f32⟩
  | 16 => ⟨S2048, .f32⟩
  | 17 => ⟨S1x8192x2048, .f32⟩
  | 18 => ⟨S_, .f32⟩
  | 19 => ⟨S1x8192, .f32⟩
  | 20 => ⟨S1x8192x1, .f32⟩
  | 21 => ⟨S1x8192x2048, .f32⟩
  | 22 => ⟨S1x8192x2048, .f32⟩
  | 23 => ⟨S1x8192x1, .f32⟩
  | 24 => ⟨S1x8192x2048, .f32⟩
  | 25 => ⟨S_, .f32⟩
  | 26 => ⟨S1x8192, .f32⟩
  | 27 => ⟨S1x8192x1, .f32⟩
  | 28 => ⟨S_, .f32⟩
  | 29 => ⟨S1x8192x1, .f32⟩
  | 30 => ⟨S1x8192x1, .f32⟩
  | 31 => ⟨S_, .f32⟩
  | 32 => ⟨S8192, .f32⟩
  | 33 => ⟨S1x8192, .f32⟩
  | 34 => ⟨S1x8192x2048, .f32⟩
  | 35 => ⟨S1x8192x2048, .f32⟩
  | 36 => ⟨S1x8192x2048, .f32⟩
  | 37 => ⟨S_, .f32⟩
  | 38 => ⟨S1x8192, .f32⟩
  | 39 => ⟨S1x8192x1, .f32⟩
  | 40 => ⟨S1x8192x2048, .f32⟩
  | 41 => ⟨S1x8192x1, .f32⟩
  | 42 => ⟨S_, .f32⟩
  | 43 => ⟨S1x8192x1, .f32⟩
  | 44 => ⟨S1x8192x1, .f32⟩
  | 45 => ⟨S_, .f32⟩
  | 46 => ⟨S8192, .f32⟩
  | 47 => ⟨S1x8192, .f32⟩
  | 48 => ⟨S1x8192x2048, .f32⟩
  | 49 => ⟨S1x8192x2048, .f32⟩
  | 50 => ⟨S1x8192x4096, .f32⟩
  | 51 => ⟨S1x8192x4096, .f32⟩
  | 52 => ⟨S1x8192x4096, .f32⟩
  | 53 => ⟨S_, .f32⟩
  | 54 => ⟨S1x8192x4096, .f32⟩
  | 55 => ⟨S1x8192x4096, .f32⟩
  | 56 => ⟨S1x8192x4096, .f32⟩
  | 57 => ⟨S1x8192x4096, .f32⟩
  | 58 => ⟨S1x8192x4096, .f32⟩
  | 59 => ⟨S1x8192x4096, .f32⟩
  | 60 => ⟨S_, .f32⟩
  | 61 => ⟨S1x8192x4096, .f32⟩
  | 62 => ⟨S1x8192x4096, .f32⟩
  | 63 => ⟨S1x8192x4096, .f32⟩
  | 64 => ⟨S_, .f32⟩
  | 65 => ⟨S1x8192x6144, .f32⟩
  | 66 => ⟨S_, .f32⟩
  | 67 => ⟨S1x8192x6144, .f32⟩
  | 68 => ⟨S1x8192x6144, .f32⟩
  | 69 => ⟨S1x8x128, .f32⟩
  | 70 => ⟨S1x8x128x128, .f32⟩
  | 71 => ⟨S1x2048, .f32⟩
  | 72 => ⟨S1x2048, .f32⟩
  | 73 => ⟨S8192x6144, .f32⟩
  | 74 => ⟨S8192x2048, .f32⟩
  | 75 => ⟨S8192x2048, .f32⟩
  | 76 => ⟨S8192x2048, .f32⟩
  | 77 => ⟨S1x8192x2048, .f32⟩
  | 78 => ⟨S1x8192x2048, .f32⟩
  | 79 => ⟨S1x8192x2048, .f32⟩
  | 80 => ⟨S3x8192x2048, .f32⟩
  | 81 => ⟨S3x8192x2048, .bf16⟩
  | 82 => ⟨S8x128x128, .f32⟩
  | 83 => ⟨S8x128, .f32⟩
  | 84 => ⟨S128x8, .f32⟩
  | _ => ⟨S1x8192x6144, .f32⟩

abbrev hbmTy (i : Nat) : BufTy := match i / 128 with
  | 0 => hbmTy0_0 i
  | 1 => hbmTy0_1 i
  | _ => ⟨S1x8192x6144, .f32⟩

abbrev bufTy : (tb : Table) → Fin (tcTables nBuf tb) → BufTy
  | .hbm, ⟨i, _⟩ => hbmTy i
  | _, _ => ⟨S1x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c : Ref sig .tc := ⟨.hbm, 66, rfl⟩
abbrev main_v50 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54_1 : Ref sig .tc := ⟨.hbm, 80, rfl⟩
abbrev main_v54_0 : Ref sig .tc := ⟨.hbm, 81, rfl⟩
abbrev main_call1_cst : Ref sig .tc := ⟨.hbm, 82, rfl⟩
abbrev main_v54_2 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_v63_2 : Ref sig .tc := ⟨.hbm, 99, rfl⟩
abbrev main_call2_cst_1 : Ref sig .tc := ⟨.hbm, 100, rfl⟩
abbrev main_call2_v6 : Ref sig .tc := ⟨.hbm, 101, rfl⟩
abbrev main_call2_v7 : Ref sig .tc := ⟨.hbm, 102, rfl⟩
abbrev main_v63_1 : Ref sig .tc := ⟨.hbm, 103, rfl⟩
abbrev main_v63_0 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_9 : Ref sig .tc := ⟨.hbm, 118, rfl⟩
abbrev main_v74 : Ref sig .tc := ⟨.hbm, 119, rfl⟩
abbrev main_v75 : Ref sig .tc := ⟨.hbm, 120, rfl⟩
abbrev main_cst_10 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_call4_cst : Ref sig .tc := ⟨.hbm, 128, rfl⟩
abbrev main_call4_v0 : Ref sig .tc := ⟨.hbm, 129, rfl⟩
abbrev main_v82 : Ref sig .tc := ⟨.hbm, 130, rfl⟩
abbrev main_v83 : Ref sig .tc := ⟨.hbm, 131, rfl⟩
abbrev main_cst_11 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_v86 : Ref sig .tc := ⟨.hbm, 136, rfl⟩
abbrev main_v87 : Ref sig .tc := ⟨.hbm, 137, rfl⟩
abbrev main_cst_13 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_14 : Ref sig .tc := ⟨.hbm, 143, rfl⟩
abbrev main_v92 : Ref sig .tc := ⟨.hbm, 144, rfl⟩
abbrev main_v93 : Ref sig .tc := ⟨.hbm, 145, rfl⟩
abbrev main_cst_15 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_16 : Ref sig .tc := ⟨.hbm, 153, rfl⟩
abbrev main_v100 : Ref sig .tc := ⟨.hbm, 154, rfl⟩
abbrev main_v101 : Ref sig .tc := ⟨.hbm, 155, rfl⟩
abbrev main_cst_17 : Ref sig .tc := ⟨.hbm, 156, rfl⟩
abbrev main_v102 : Ref sig .tc := ⟨.hbm, 157, rfl⟩
abbrev main_v103 : Ref sig .tc := ⟨.hbm, 158, rfl⟩
abbrev main_cst_18 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_19 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_20 : Ref sig .tc := ⟨.hbm, 170, rfl⟩
abbrev main_v113 : Ref sig .tc := ⟨.hbm, 171, rfl⟩
abbrev main_v114 : Ref sig .tc := ⟨.hbm, 172, rfl⟩
abbrev main_cst_21 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_22 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_23 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_24 : Ref sig .tc := ⟨.hbm, 192, rfl⟩
abbrev main_v131 : Ref sig .tc := ⟨.hbm, 193, rfl⟩
abbrev main_cst_25 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩

abbrev nD : Nat := 1
abbrev τ : Topo := Topo.v7x

variable {F : FTy → Type} [FloatOps F]
-- ==== GmlpHead.lean ====
abbrev S1x8192x6144 : Shape := ⟨3, ![1, 8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x8192x1024 : Shape := ⟨3, ![1, 8192, 1024]⟩
abbrev S1x3072 : Shape := ⟨2, ![1, 3072]⟩
abbrev S1024 : Shape := ⟨1, ![1024]⟩
abbrev S8192x6144 : Shape := ⟨2, ![8192, 6144]⟩
abbrev S8192x3x2048 : Shape := ⟨3, ![8192, 3, 2048]⟩
abbrev S3x8192x2048 : Shape := ⟨3, ![3, 8192, 2048]⟩
abbrev S8x128x128 : Shape := ⟨3, ![8, 128, 128]⟩
abbrev S8x128 : Shape := ⟨2, ![8, 128]⟩
abbrev S128x8 : Shape := ⟨2, ![128, 8]⟩
abbrev S2048x1024 : Shape := ⟨2, ![2048, 1024]⟩
abbrev S8192x1024 : Shape := ⟨2, ![8192, 1024]⟩
abbrev S1x1024 : Shape := ⟨2, ![1, 1024]⟩
abbrev S8192x2048 : Shape := ⟨2, ![8192, 2048]⟩
abbrev S1x512x2048 : Shape := ⟨3, ![1, 512, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 28
  | .vmem => 28
  | .smem => 0
  | _ => 0

abbrev bufTy : (tb : Table) → Fin (tcTables nBuf tb) → BufTy
  | .hbm, ⟨0, _⟩ => ⟨S1x8192x6144, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S1x2048x1024, .f32⟩
  | .hbm, ⟨6, _⟩ => ⟨S1x8192x1024, .f32⟩
  | .hbm, ⟨7, _⟩ => ⟨S1x3072, .f32⟩
  | .hbm, ⟨8, _⟩ => ⟨S1024, .f32⟩
  | .hbm, ⟨9, _⟩ => ⟨S1x8192x1024, .f32⟩
  | .hbm, ⟨10, _⟩ => ⟨S8192x6144, .f32⟩
  | .hbm, ⟨11, _⟩ => ⟨S8192x3x2048, .f32⟩
  | .hbm, ⟨12, _⟩ => ⟨S3x8192x2048, .f32⟩
  | .hbm, ⟨13, _⟩ => ⟨S8x128x128, .f32⟩
  | .hbm, ⟨14, _⟩ => ⟨S8x128, .f32⟩
  | .hbm, ⟨15, _⟩ => ⟨S128x8, .f32⟩
  | .hbm, ⟨16, _⟩ => ⟨S2048x1024, .f32⟩
  | .hbm, ⟨17, _⟩ => ⟨S2048x1024, .bf16⟩
  | .hbm, ⟨18, _⟩ => ⟨S8192x1024, .f32⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x2048, .bf16⟩
  | .hbm, ⟨23, _⟩ => ⟨S8192x1024, .f32⟩
  | .hbm, ⟨24, _⟩ => ⟨S8192x1024, .bf16⟩
  | .hbm, ⟨25, _⟩ => ⟨S8x128, .f32⟩
  | .hbm, ⟨26, _⟩ => ⟨S1x1024, .f32⟩
  | .hbm, ⟨27, _⟩ => ⟨S1x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x8, .f32⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S8x128, .f32⟩
  | .local _ .vmem, ⟨24, _⟩ => ⟨S1x1024, .f32⟩
  | .local _ .vmem, ⟨25, _⟩ => ⟨S1x1024, .f32⟩
  | .local _ .vmem, ⟨26, _⟩ => ⟨S512x2048, .bf16⟩
  | .local _ .vmem, ⟨27, _⟩ => ⟨S512x2048, .f32⟩
  | _, _ => ⟨S1x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== GmlpHeadRefIdeal.lean ====
abbrev S1x8192x6144 : Shape := ⟨3, ![1, 8192, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x8192x1024 : Shape := ⟨3, ![1, 8192, 1024]⟩
abbrev S1x3072 : Shape := ⟨2, ![1, 3072]⟩
abbrev S1024 : Shape := ⟨1, ![1024]⟩
abbrev S1x1x3072 : Shape := ⟨3, ![1, 1, 3072]⟩
abbrev S1x1x1024 : Shape := ⟨3, ![1, 1, 1024]⟩
abbrev S2048 : Shape := ⟨1, ![2048]⟩
abbrev S8x128x128 : Shape := ⟨3, ![8, 128, 128]⟩
abbrev S8x128 : Shape := ⟨2, ![8, 128]⟩
abbrev S1x8192x4096 : Shape := ⟨3, ![1, 8192, 4096]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x64x128x8x256 : Shape := ⟨5, ![1, 64, 128, 8, 256]⟩
abbrev S128x128 : Shape := ⟨2, ![128, 128]⟩
abbrev S1x128x128 : Shape := ⟨3, ![1, 128, 128]⟩
abbrev S8x1x64x256x128 : Shape := ⟨5, ![8, 1, 64, 256, 128]⟩
abbrev S128x8 : Shape := ⟨2, ![128, 8]⟩
abbrev S1x1x128x8x1 : Shape := ⟨5, ![1, 1, 128, 8, 1]⟩
abbrev S2048x1024 : Shape := ⟨2, ![2048, 1024]⟩
abbrev S1x1024 : Shape := ⟨2, ![1, 1024]⟩
abbrev S8192 : Shape := ⟨1, ![8192]⟩
abbrev S8192x2048 : Shape := ⟨2, ![8192, 2048]⟩
abbrev S8192x1024 : Shape := ⟨2, ![8192, 1024]⟩

abbrev nBuf : Space → Nat
  | .hbm => 183
  | .vmem => 0
  | .smem => 0
  | _ => 0

abbrev hbmTy0_0 (i : Nat) : BufTy := match i % 128 with
  | 0 => ⟨S1x8192x6144, .f32⟩
  | 1 => ⟨S1x2048, .f32⟩
  | 2 => ⟨S1x2048, .f32⟩
  | 3 => ⟨S1x8x128x128, .f32⟩
  | 4 => ⟨S1x8x128, .f32⟩
  | 5 => ⟨S1x2048x1024, .f32⟩
  | 6 => ⟨S1x8192x1024, .f32⟩
  | 7 => ⟨S1x3072, .f32⟩
  | 8 => ⟨S1024, .f32⟩
  | 9 => ⟨S1x8192x1024, .f32⟩
  | 10 => ⟨S1x1x3072, .f32⟩
  | 11 => ⟨S1x1x1024, .f32⟩
  | 12 => ⟨S1x1x1024, .f32⟩
  | 13 => ⟨S1x1x1024, .f32⟩
  | 14 => ⟨S2048, .f32⟩
  | 15 => ⟨S2048, .f32⟩
  | 16 => ⟨S8x128x128, .f32⟩
  | 17 => ⟨S8x128, .f32⟩
  | 18 => ⟨S1x8192x4096, .f32⟩
  | 19 => ⟨S1x8192x2048, .f32⟩
  | 20 => ⟨S_, .f32⟩
  | 21 => ⟨S1x8192x4096, .f32⟩
  | 22 => ⟨S1x8192x4096, .f32⟩
  | 23 => ⟨S1x8192x4096, .f32⟩
  | 24 => ⟨S_, .f32⟩
  | 25 => ⟨S1x8192x4096, .f32⟩
  | 26 => ⟨S1x8192x4096, .f32⟩
  | 27 => ⟨S1x8192x4096, .f32⟩
  | 28 => ⟨S1x8192x4096, .f32⟩
  | 29 => ⟨S1x8192x2048, .f32⟩
  | 30 => ⟨S1x8192x2048, .f32⟩
  | 31 => ⟨S_, .f32⟩
  | 32 => ⟨S1x8192, .f32⟩
  | 33 => ⟨S1x8192x1, .f32⟩
  | 34 => ⟨S_, .f32⟩
  | 35 => ⟨S1x8192x1, .f32⟩
  | 36 => ⟨S1x8192x1, .f32⟩
  | 37 => ⟨S1x8192x2048, .f32⟩
  | 38 => ⟨S1x8192x2048, .f32⟩
  | 39 => ⟨S1x8192x2048, .f32⟩
  | 40 => ⟨S_, .f32⟩
  | 41 => ⟨S1x8192, .f32⟩
  | 42 => ⟨S1x8192x1, .f32⟩
  | 43 => ⟨S_, .f32⟩
  | 44 => ⟨S1x8192x1, .f32⟩
  | 45 => ⟨S1x8192x1, .f32⟩
  | 46 => ⟨S1x8192x2048, .f32⟩
  | 47 => ⟨S1x8192x2048, .f32⟩
  | 48 => ⟨S_, .f32⟩
  | 49 => ⟨S1x8192x1, .f32⟩
  | 50 => ⟨S1x8192x1, .f32⟩
  | 51 => ⟨S1x8192x1, .f32⟩
  | 52 => ⟨S1x8192x2048, .f32⟩
  | 53 => ⟨S1x8192x2048, .f32⟩
  | 54 => ⟨S1x1x2048, .f32⟩
  | 55 => ⟨S1x8192x2048, .f32⟩
  | 56 => ⟨S1x8192x2048, .f32⟩
  | 57 => ⟨S1x1x2048, .f32⟩
  | 58 => ⟨S1x8192x2048, .f32⟩
  | 59 => ⟨S1x8192x2048, .f32⟩
  | 60 => ⟨S1x64x128x8x256, .f32⟩
  | 61 => ⟨S_, .i1⟩
  | 62 => ⟨S128x128, .i1⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .i1⟩
  | 70 => ⟨S128x128, .i1⟩
  | 71 => ⟨S128x128, .i1⟩
  | 72 => ⟨S1x128x128, .i1⟩
  | 73 => ⟨S_, .f32⟩
  | 74 => ⟨S8x128x128, .f32⟩
  | 75 => ⟨S8x128x128, .i1⟩
  | 76 => ⟨S8x128x128, .f32⟩
  | 77 => ⟨S8x1x64x256x128, .f32⟩
  | 78 => ⟨S1x64x128x8x256, .f32⟩
  | 79 => ⟨S128x8, .f32⟩
  | 80 => ⟨S1x1x128x8x1, .f32⟩
  | 81 => ⟨S1x64x128x8x256, .f32⟩
  | 82 => ⟨S1x64x128x8x256, .f32⟩
  | 83 => ⟨S1x8192x2048, .f32⟩
  | 84 => ⟨S1x8192x2048, .f32⟩
  | 85 => ⟨S1x8192x2048, .f32⟩
  | 86 => ⟨S1x8192x2048, .f32⟩
  | 87 => ⟨S_, .f32⟩
  | 88 => ⟨S1x8192x2048, .f32⟩
  | 89 => ⟨S1x8192x2048, .f32⟩
  | 90 => ⟨S_, .f32⟩
  | 91 => ⟨S1x8192x2048, .f32⟩
  | 92 => ⟨S1x8192x2048, .f32⟩
  | 93 => ⟨S1x8192x2048, .f32⟩
  | 94 => ⟨S1x8192x2048, .f32⟩
  | 95 => ⟨S2048x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S1x8192x1024, .f32⟩
  | 101 => ⟨S_, .f32⟩
  | 102 => ⟨S1x8192, .f32⟩
  | 103 => ⟨S1x8192x1, .f32⟩
  | 104 => ⟨S_, .f32⟩
  | 105 => ⟨S1x8192x1, .f32⟩
  | 106 => ⟨S1x8192x1, .f32⟩
  | 107 => ⟨S_, .f32⟩
  | 108 => ⟨S1x8192x1, .f32⟩
  | 109 => ⟨S1x8192x1, .f32⟩
  | 110 => ⟨S1x8192x1, .f32⟩
  | 111 => ⟨S1x8192x1, .f32⟩
  | 112 => ⟨S_, .f32⟩
  | 113 => ⟨S1x8192x1, .f32⟩
  | 114 => ⟨S1x8192x1, .f32⟩
  | 115 => ⟨S1x8192x1024, .f32⟩
  | 116 => ⟨S1x8192x1024, .f32⟩
  | 117 => ⟨S1x1x1024, .f32⟩
  | 118 => ⟨S1x8192x1024, .f32⟩
  | 119 => ⟨S1x8192x1024, .f32⟩
  | 120 => ⟨S1x8192x1024, .f32⟩
  | 121 => ⟨S1x8192x1024, .f32⟩
  | 122 => ⟨S_, .f32⟩
  | 123 => ⟨S1x8192x1024, .f32⟩
  | 124 => ⟨S1x8192x1024, .f32⟩
  | 125 => ⟨S_, .f32⟩
  | 126 => ⟨S1x8192, .f32⟩
  | 127 => ⟨S_, .f32⟩
  | _ => ⟨S1x8192x6144, .f32⟩

abbrev hbmTy0_1 (i : Nat) : BufTy := match i % 128 with
  | 0 => ⟨S1x8192, .f32⟩
  | 1 => ⟨S1x8192, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1x8192, .f32⟩
  | 10 => ⟨S_, .f32⟩
  | 11 => ⟨S1x8192, .f32⟩
  | 12 => ⟨S1x8192, .f32⟩
  | 13 => ⟨S1x8192x1024, .f32⟩
  | 14 => ⟨S1x8192x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S1x8192x1024, .f32⟩
  | 21 => ⟨S_, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S1x8192x1024, .f32⟩
  | 28 => ⟨S1x8192x1024, .f32⟩
  | 29 => ⟨S1x8192x1, .f32⟩
  | 30 => ⟨S_, .f32⟩
  | 31 => ⟨S1x8192x1, .f32⟩
  | 32 => ⟨S1x8192x1, .f32⟩
  | 33 => ⟨S_, .f32⟩
  | 34 => ⟨S8192, .f32⟩
  | 35 => ⟨S1x8192, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S_, .f32⟩
  | 45 => ⟨S1x1024, .f32⟩
  | 46 => ⟨S1x1x1024, .f32⟩
  | 47 => ⟨S8192x2048, .f32⟩
  | 48 => ⟨S8192x2048, .bf16⟩
  | 49 => ⟨S8192x1024, .f32⟩
  | 50 => ⟨S8192x1024, .f32⟩
  | 51 => ⟨S8192x1024, .bf16⟩
  | 52 => ⟨S8x128, .f32⟩
  | 53 => ⟨S1x1024, .f32⟩
  | 54 => ⟨S1x1024, .f32⟩
  | _ => ⟨S1x8192x6144, .f32⟩

abbrev hbmTy (i : Nat) : BufTy := match i / 128 with
  | 0 => hbmTy0_0 i
  | 1 => hbmTy0_1 i
  | _ => ⟨S1x8192x6144, .f32⟩

abbrev bufTy : (tb : Table) → Fin (tcTables nBuf tb) → BufTy
  | .hbm, ⟨i, _⟩ => hbmTy i
  | _, _ => ⟨S1x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_7 : Ref sig .tc := ⟨.hbm, 101, rfl⟩
abbrev main_v65 : Ref sig .tc := ⟨.hbm, 102, rfl⟩
abbrev main_v66 : Ref sig .tc := ⟨.hbm, 103, rfl⟩
abbrev main_cst_8 : Ref sig .tc := ⟨.hbm, 104, rfl⟩
abbrev main_v67 : Ref sig .tc := ⟨.hbm, 105, rfl⟩
abbrev main_v68 : Ref sig .tc := ⟨.hbm, 106, rfl⟩
abbrev main_cst_9 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_10 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_11 : Ref sig .tc := ⟨.hbm, 122, rfl⟩
abbrev main_v82 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_cst_13 : Ref sig .tc := ⟨.hbm, 127, rfl⟩
abbrev main_v85 : Ref sig .tc := ⟨.hbm, 128, rfl⟩
abbrev main_v86 : Ref sig .tc := ⟨.hbm, 129, rfl⟩
abbrev main_cst_14 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_cst_16 : Ref sig .tc := ⟨.hbm, 134, rfl⟩
abbrev main_cst_17 : Ref sig .tc := ⟨.hbm, 135, rfl⟩
abbrev main_v89 : Ref sig .tc := ⟨.hbm, 136, rfl⟩
abbrev main_v90 : Ref sig .tc := ⟨.hbm, 137, rfl⟩
abbrev main_cst_18 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_19 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_cst_21 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_22 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_24 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩

abbrev nD : Nat := 1
abbrev τ : Topo := Topo.v7x

variable {F : FTy → Type} [FloatOps F]
-- ==== ModFwd.lean ====
abbrev S8x1024 : Shape := ⟨2, ![8, 1024]⟩
abbrev S2x1024x768 : Shape := ⟨3, ![2, 1024, 768]⟩
abbrev S2x768 : Shape := ⟨2, ![2, 768]⟩
abbrev S2x1x768 : Shape := ⟨3, ![2, 1, 768]⟩
abbrev S16x768 : Shape := ⟨2, ![16, 768]⟩
abbrev S1x1024x768 : Shape := ⟨3, ![1, 1024, 768]⟩
abbrev S1024x768 : Shape := ⟨2, ![1024, 768]⟩
abbrev S8x768 : Shape := ⟨2, ![8, 768]⟩
abbrev S1x1x768 : Shape := ⟨3, ![1, 1, 768]⟩
abbrev S1x768 : Shape := ⟨2, ![1, 768]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S2x1x768, .f32⟩
  | .hbm, ⟨4, _⟩ => ⟨S8x1024, .f32⟩
  | .hbm, ⟨5, _⟩ => ⟨S16x768, .f32⟩
  | .local _ .vmem, ⟨0, _⟩ => ⟨S8x1024, .f32⟩
  | .local _ .vmem, ⟨1, _⟩ => ⟨S2x1024x768, .f32⟩
  | .local _ .vmem, ⟨2, _⟩ => ⟨S2x1x768, .f32⟩
  | .local _ .vmem, ⟨3, _⟩ => ⟨S8x1024, .f32⟩
  | .local _ .vmem, ⟨4, _⟩ => ⟨S16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModFwdRefIdeal.lean ====
abbrev S8x1024 : Shape := ⟨2, ![8, 1024]⟩
abbrev S2x1024x768 : Shape := ⟨3, ![2, 1024, 768]⟩
abbrev S2x768 : Shape := ⟨2, ![2, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S16x768 : Shape := ⟨2, ![16, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x768, .f32⟩
  | .hbm, ⟨13, _⟩ => ⟨S1024x768, .f32⟩
  | .hbm, ⟨14, _⟩ => ⟨S8x768, .f32⟩
  | .hbm, ⟨15, _⟩ => ⟨S1x768, .f32⟩
  | .hbm, ⟨16, _⟩ => ⟨S768, .f32⟩
  | .hbm, ⟨17, _⟩ => ⟨S1x768, .f32⟩
  | .hbm, ⟨18, _⟩ => ⟨S8x768, .f32⟩
  | .hbm, ⟨19, _⟩ => ⟨S8x768, .f32⟩
  | .hbm, ⟨20, _⟩ => ⟨S1x1024x768, .f32⟩
  | .hbm, ⟨21, _⟩ => ⟨S1024x768, .f32⟩
  | .hbm, ⟨22, _⟩ => ⟨S8x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S8x768, .f32⟩
  | .hbm, ⟨27, _⟩ => ⟨S8x768, .f32⟩
  | .hbm, ⟨28, _⟩ => ⟨S16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== NormProj.lean ====
abbrev S1x8192x1024 : Shape := ⟨3, ![1, 8192, 1024]⟩
abbrev S1x1024 : Shape := ⟨2, ![1, 1024]⟩
abbrev S1x3072 : Shape := ⟨2, ![1, 3072]⟩
abbrev S1x1024x8192 : Shape := ⟨3, ![1, 1024, 8192]⟩
abbrev S8192x1024 : Shape := ⟨2, ![8192, 1024]⟩
abbrev S1024x8192 : Shape := ⟨2, ![1024, 8192]⟩
abbrev S_ : Shape := ⟨0, ![]⟩
abbrev S1 : Shape := ⟨1, ![1]⟩
abbrev S8x128 : Shape := ⟨2, ![8, 128]⟩
abbrev S4x8192x2048 : Shape := ⟨3, ![4, 8192, 2048]⟩
abbrev S1024x1024 : Shape := ⟨2, ![1024, 1024]⟩
abbrev S1024x2048 : Shape := ⟨2, ![1024, 2048]⟩
abbrev S1x1024x2048 : Shape := ⟨3, ![1, 1024, 2048]⟩
abbrev S1024 : Shape := ⟨1, ![1024]⟩
abbrev S1024x1 : Shape := ⟨2, ![1024, 1]⟩
abbrev S1x8192x2048 : Shape := ⟨3, ![1, 8192, 2048]⟩
abbrev S8192x2048 : Shape := ⟨2, ![8192, 2048]⟩

abbrev nBuf : Space → Nat
  | .hbm => 16
  | .vmem => 11
  | .smem => 1
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x3072, .f32⟩
  | .hbm, ⟨3, _⟩ => ⟨S1x1024x8192, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x8192, .f32⟩
  | .hbm, ⟨8, _⟩ => ⟨S1024x8192, .bf16⟩
  | .hbm, ⟨9, _⟩ => ⟨S_, .i32⟩
  | .hbm, ⟨10, _⟩ => ⟨S_, .f32⟩
  | .hbm, ⟨11, _⟩ => ⟨S8x128, .f32⟩
  | .hbm, ⟨12, _⟩ => ⟨S8192x1024, .bf16⟩
  | .hbm, ⟨13, _⟩ => ⟨S4x8192x2048, .f32⟩
  | .hbm, ⟨14, _⟩ => ⟨S1x8192x2048, .f32⟩
  | .hbm, ⟨15, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2048, .bf16⟩
  | .local _ .vmem, ⟨6, _⟩ => ⟨S8x128, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x2048, .f32⟩
  | .local _ .vmem, ⟨10, _⟩ => ⟨S1x1024x2048, .f32⟩
  | .local _ .smem, ⟨0, _⟩ => ⟨S1, .i32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_cst : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormProjRefIdeal.lean ====
abbrev S1x8192x1024 : Shape := ⟨3, ![1, 8192, 1024]⟩
abbrev S1x1024 : Shape := ⟨2, ![1, 1024]⟩
abbrev S1x3072 : Shape := ⟨2, ![1, 3072]⟩
abbrev S1x1024x8192 : Shape := ⟨3, ![1, 1024, 8192]⟩
abbrev S1x1x3072 : Shape := ⟨3, ![1, 1, 3072]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1024x8192 : Shape := ⟨2, ![1024, 8192]⟩
abbrev S1x8192x8192 : Shape := ⟨3, ![1, 8192, 8192]⟩
abbrev S8192x1024 : Shape := ⟨2, ![8192, 1024]⟩
abbrev S1x8192x2048 : Shape := ⟨3, ![1, 8192, 2048]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x3072, .f32⟩
  | .hbm, ⟨3, _⟩ => ⟨S1x1024x8192, .f32⟩
  | .hbm, ⟨4, _⟩ => ⟨S1x1x3072, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1024, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1024x8192, .f32⟩
  | .hbm, ⟨33, _⟩ => ⟨S1x8192x8192, .f32⟩
  | .hbm, ⟨34, _⟩ => ⟨S8192x1024, .f32⟩
  | .hbm, ⟨35, _⟩ => ⟨S8192x1024, .bf16⟩
  | .hbm, ⟨36, _⟩ => ⟨S1x8192x2048, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S8192x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== DwIn.lean ====
abbrev S1x8192x1024 : Shape := ⟨3, ![1, 8192, 1024]⟩
abbrev S1x8192x8192 : Shape := ⟨3, ![1, 8192, 8192]⟩
abbrev S8192x1024 : Shape := ⟨2, ![8192, 1024]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S1024x8192 : Shape := ⟨2, ![1024, 8192]⟩
abbrev S2048x1024 : Shape := ⟨2, ![2048, 1024]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x8192, .f32⟩
  | .hbm, ⟨2, _⟩ => ⟨S8192x1024, .f32⟩
  | .hbm, ⟨3, _⟩ => ⟨S8192x1024, .bf16⟩
  | .hbm, ⟨4, _⟩ => ⟨S8192x8192, .f32⟩
  | .hbm, ⟨5, _⟩ => ⟨S8192x4x2048, .f32⟩
  | .hbm, ⟨6, _⟩ => ⟨S4x8192x2048, .f32⟩
  | .hbm, ⟨7, _⟩ => ⟨S4x8192x2048, .bf16⟩
  | .hbm, ⟨8, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S1x8192x1024 : Shape := ⟨3, ![1, 8192, 1024]⟩
abbrev S1x8192x8192 : Shape := ⟨3, ![1, 8192, 8192]⟩
abbrev S_ : Shape := ⟨0, ![]⟩
abbrev S1x1024x8192 : Shape := ⟨3, ![1, 1024, 8192]⟩
abbrev S1024x8192 : Shape := ⟨2, ![1024, 8192]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x8192, .f32⟩
  | .hbm, ⟨2, _⟩ => ⟨S_, .f32⟩
  | .hbm, ⟨3, _⟩ => ⟨S1x1024x8192, .f32⟩
  | .hbm, ⟨4, _⟩ => ⟨S1024x8192, .f32⟩
  | .hbm, ⟨5, _⟩ => ⟨S1x8192x8192, .f32⟩
  | .hbm, ⟨6, _⟩ => ⟨S8192x1024, .f32⟩
  | .hbm, ⟨7, _⟩ => ⟨S1024x8192, .f32⟩
  | .hbm, ⟨8, _⟩ => ⟨S1x1024x8192, .f32⟩
  | .hbm, ⟨9, _⟩ => ⟨S1024x8192, .f32⟩
  | .hbm, ⟨10, _⟩ => ⟨S1024x8192, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S1x8192x2048 : Shape := ⟨3, ![1, 8192, 2048]⟩
abbrev S1x8192x1024 : Shape := ⟨3, ![1, 8192, 1024]⟩
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x8192x1024, .f32⟩
  | .hbm, ⟨2, _⟩ => ⟨S8192x2048, .f32⟩
  | .hbm, ⟨3, _⟩ => ⟨S8192x2048, .bf16⟩
  | .hbm, ⟨4, _⟩ => ⟨S8192x1024, .f32⟩
  | .hbm, ⟨5, _⟩ => ⟨S8192x1024, .bf16⟩
  | .hbm, ⟨6, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S1x8192x2048 : Shape := ⟨3, ![1, 8192, 2048]⟩
abbrev S1x8192x1024 : Shape := ⟨3, ![1, 8192, 1024]⟩
abbrev S_ : Shape := ⟨0, ![]⟩
abbrev S1x2048x1024 : Shape := ⟨3, ![1, 2048, 1024]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x1024, .f32⟩
  | .hbm, ⟨2, _⟩ => ⟨S_, .f32⟩
  | .hbm, ⟨3, _⟩ => ⟨S1x2048x1024, .f32⟩
  | .hbm, ⟨4, _⟩ => ⟨S2048x1024, .f32⟩
  | .hbm, ⟨5, _⟩ => ⟨S1x8192x1024, .f32⟩
  | .hbm, ⟨6, _⟩ => ⟨S1024x2048, .f32⟩
  | .hbm, ⟨7, _⟩ => ⟨S2048x1024, .f32⟩
  | .hbm, ⟨8, _⟩ => ⟨S1x2048x1024, .f32⟩
  | .hbm, ⟨9, _⟩ => ⟨S2048x1024, .f32⟩
  | .hbm, ⟨10, _⟩ => ⟨S2048x1024, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proj.lean ====
abbrev S1x8192x1024 : Shape := ⟨3, ![1, 8192, 1024]⟩
abbrev S1x1024x6144 : Shape := ⟨3, ![1, 1024, 6144]⟩
abbrev S8192x1024 : Shape := ⟨2, ![8192, 1024]⟩
abbrev S1024x6144 : Shape := ⟨2, ![1024, 6144]⟩
abbrev S_ : Shape := ⟨0, ![]⟩
abbrev S8x128 : Shape := ⟨2, ![8, 128]⟩
abbrev S3x8192x2048 : Shape := ⟨3, ![3, 8192, 2048]⟩
abbrev S2048x1024 : Shape := ⟨2, ![2048, 1024]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024x6144, .f32⟩
  | .hbm, ⟨2, _⟩ => ⟨S8192x1024, .f32⟩
  | .hbm, ⟨3, _⟩ => ⟨S8192x1024, .bf16⟩
  | .hbm, ⟨4, _⟩ => ⟨S1024x6144, .f32⟩
  | .hbm, ⟨5, _⟩ => ⟨S1024x6144, .bf16⟩
  | .hbm, ⟨6, _⟩ => ⟨S_, .f32⟩
  | .hbm, ⟨7, _⟩ => ⟨S8x128, .f32⟩
  | .hbm, ⟨8, _⟩ => ⟨S3x8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1x2048x2048, .f32⟩
  | .local _ .vmem, ⟨6, _⟩ => ⟨S1x2048x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S1x8192x1024 : Shape := ⟨3, ![1, 8192, 1024]⟩
abbrev S1x1024x6144 : Shape := ⟨3, ![1, 1024, 6144]⟩
abbrev S1024x6144 : Shape := ⟨2, ![1024, 6144]⟩
abbrev S1x8192x6144 : Shape := ⟨3, ![1, 8192, 6144]⟩
abbrev S1x8192x2048 : Shape := ⟨3, ![1, 8192, 2048]⟩
abbrev S3x8192x2048 : Shape := ⟨3, ![3, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x6144, .f32⟩
  | .hbm, ⟨2, _⟩ => ⟨S1024x6144, .f32⟩
  | .hbm, ⟨3, _⟩ => ⟨S1x8192x6144, .f32⟩
  | .hbm, ⟨4, _⟩ => ⟨S1x8192x2048, .f32⟩
  | .hbm, ⟨5, _⟩ => ⟨S1x8192x2048, .f32⟩
  | .hbm, ⟨6, _⟩ => ⟨S1x8192x2048, .f32⟩
  | .hbm, ⟨7, _⟩ => ⟨S3x8192x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ModUpdate.lean ====
abbrev S8x1024 : Shape := ⟨2, ![8, 1024]⟩
abbrev S2x8x768 : Shape := ⟨3, ![2, 8, 768]⟩
abbrev S2x1024x768 : Shape := ⟨3, ![2, 1024, 768]⟩
abbrev S1024x8 : Shape := ⟨2, ![1024, 8]⟩
abbrev S256x8 : Shape := ⟨2, ![256, 8]⟩
abbrev S1x8x768 : Shape := ⟨3, ![1, 8, 768]⟩
abbrev S1x256x768 : Shape := ⟨3, ![1, 256, 768]⟩
abbrev S8x768 : Shape := ⟨2, ![8, 768]⟩
abbrev S256x1 : Shape := ⟨2, ![256, 1]⟩
abbrev S1x768 : Shape := ⟨2, ![1, 768]⟩
abbrev S256x768 : Shape := ⟨2, ![256, 768]⟩

abbrev nBuf : Space → Nat
  | .hbm => 10
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1024x8, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ModUpdateRefIdeal.lean ====
abbrev S8x1024 : Shape := ⟨2, ![8, 1024]⟩
abbrev S2x8x768 : Shape := ⟨3, ![2, 8, 768]⟩
abbrev S2x1024x768 : Shape := ⟨3, ![2, 1024, 768]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S768x1024 : Shape := ⟨2, ![768, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1x1024x768, .f32⟩
  | .hbm, ⟨6, _⟩ => ⟨S1024x768, .f32⟩
  | .hbm, ⟨7, _⟩ => ⟨S8x768, .f32⟩
  | .hbm, ⟨8, _⟩ => ⟨S1x1024x768, .f32⟩
  | .hbm, ⟨9, _⟩ => ⟨S1024x768, .f32⟩
  | .hbm, ⟨10, _⟩ => ⟨S8x768, .f32⟩
  | .hbm, ⟨11, _⟩ => ⟨S1x8x768, .f32⟩
  | .hbm, ⟨12, _⟩ => ⟨S1x8x768, .f32⟩
  | .hbm, ⟨13, _⟩ => ⟨S2x8x768, .f32⟩
  | .hbm, ⟨14, _⟩ => ⟨S1x8x768, .f32⟩
  | .hbm, ⟨15, _⟩ => ⟨S8x768, .f32⟩
  | .hbm, ⟨16, _⟩ => ⟨S1x8x768, .f32⟩
  | .hbm, ⟨17, _⟩ => ⟨S8x768, .f32⟩
  | .hbm, ⟨18, _⟩ => ⟨S768x1024, .f32⟩
  | .hbm, ⟨19, _⟩ => ⟨S1024x768, .f32⟩
  | .hbm, ⟨20, _⟩ => ⟨S1x1024x768, .f32⟩
  | .hbm, ⟨21, _⟩ => ⟨S_, .f32⟩
  | .hbm, ⟨22, _⟩ => ⟨S2x1024x768, .f32⟩
  | .hbm, ⟨23, _⟩ => ⟨S768x1024, .f32⟩
  | .hbm, ⟨24, _⟩ => ⟨S1024x768, .f32⟩
  | .hbm, ⟨25, _⟩ => ⟨S1x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S_, .f32⟩
  | .hbm, ⟨30, _⟩ => ⟨S2x1024x768, .f32⟩
  | .hbm, ⟨31, _⟩ => ⟨S2x1024x768, .f32⟩
  | .hbm, ⟨32, _⟩ => ⟨S_, .f32⟩
  | .hbm, ⟨33, _⟩ => ⟨S2x1024x768, .f32⟩
  | .hbm, ⟨34, _⟩ => ⟨S2x1024x768, .f32⟩
  | .hbm, ⟨35, _⟩ => ⟨S2x1024x768, .f32⟩
  | .hbm, ⟨36, _⟩ => ⟨S_, .f32⟩
  | .hbm, ⟨37, _⟩ => ⟨S2x1024x768, .f32⟩
  | .hbm, ⟨38, _⟩ => ⟨S2x1024x768, .f32⟩
  | .hbm, ⟨39, _⟩ => ⟨S2x1024x768, .f32⟩
  | .hbm, ⟨40, _⟩ => ⟨S_, .f32⟩
  | .hbm, ⟨41, _⟩ => ⟨S2x1024x768, .f32⟩
  | .hbm, ⟨42, _⟩ => ⟨S2x1024x768, .f32⟩
  | .hbm, ⟨43, _⟩ => ⟨S2x1024x768, .f32⟩
  | .hbm, ⟨44, _⟩ => ⟨S_, .f32⟩
  | .hbm, ⟨45, _⟩ => ⟨S2x1024x768, .f32⟩
  | .hbm, ⟨46, _⟩ => ⟨S2x1024x768, .f32⟩
  | .hbm, ⟨47, _⟩ => ⟨S_, .f32⟩
  | .hbm, ⟨48, _⟩ => ⟨S2x1024x768, .f32⟩
  | .hbm, ⟨49, _⟩ => ⟨S2x1024x768, .f32⟩
  | .hbm, ⟨50, _⟩ => ⟨S2x1024x768, .f32⟩
  | .hbm, ⟨51, _⟩ => ⟨S_, .f32⟩
  | .hbm, ⟨52, _⟩ => ⟨S2x1024x768, .f32⟩
  | .hbm, ⟨53, _⟩ => ⟨S2x1024x768, .f32⟩
  | .hbm, ⟨54, _⟩ => ⟨S2x1024x768, .f32⟩
  | .hbm, ⟨55, _⟩ => ⟨S_, .f32⟩
  | .hbm, ⟨56, _⟩ => ⟨S2x1024x768, .f32⟩
  | .hbm, ⟨57, _⟩ => ⟨S2x1024x768, .f32⟩
  | .hbm, ⟨58, _⟩ => ⟨S2x1024x768, .f32⟩
  | .hbm, ⟨59, _⟩ => ⟨S_, .f32⟩
  | .hbm, ⟨60, _⟩ => ⟨S2x1024x768, .f32⟩
  | .hbm, ⟨61, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== AdamW.lean ====
abbrev S1x1024x2048 : Shape := ⟨3, ![1, 1024, 2048]⟩
abbrev S1024x2048 : Shape := ⟨2, ![1024, 2048]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWRefIdeal.lean ====
abbrev S1x1024x2048 : Shape := ⟨3, ![1, 1024, 2048]⟩
abbrev S_ : Shape := ⟨0, ![]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== SumDevices.lean ====
abbrev S8x144x1024 : Shape := ⟨3, ![8, 144, 1024]⟩
abbrev S1152x1024 : Shape := ⟨2, ![1152, 1024]⟩
abbrev S144x1024 : Shape := ⟨2, ![144, 1024]⟩

abbrev nBuf : Space → Nat
  | .hbm => 3
  | .vmem => 2
  | .smem => 0
  | _ => 0

abbrev bufTy : (tb : Table) → Fin (tcTables nBuf tb) → BufTy
  | .hbm, ⟨0, _⟩ => ⟨S8x144x1024, .f32⟩
  | .hbm, ⟨1, _⟩ => ⟨S1152x1024, .f32⟩
  | .hbm, ⟨2, _⟩ => ⟨S144x1024, .f32⟩
  | .local _ .vmem, ⟨0, _⟩ => ⟨S1152x1024, .f32⟩
  | .local _ .vmem, ⟨1, _⟩ => ⟨S144x1024, .f32⟩
  | _, _ => ⟨S8x144x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1152x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevicesRefIdeal.lean ====
abbrev S8x144x1024 : Shape := ⟨3, ![8, 144, 1024]⟩
abbrev S_ : Shape := ⟨0, ![]⟩
abbrev S144x1024 : Shape := ⟨2, ![144, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S_, .f32⟩
  | .hbm, ⟨2, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjSlab.lean ====
abbrev S1x8192x1024 : Shape := ⟨3, ![1, 8192, 1024]⟩
abbrev S1x1024x8192 : Shape := ⟨3, ![1, 1024, 8192]⟩
abbrev S1x8192x8192 : Shape := ⟨3, ![1, 8192, 8192]⟩
abbrev S8192x1024 : Shape := ⟨2, ![8192, 1024]⟩
abbrev S1024x8192 : Shape := ⟨2, ![1024, 8192]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S_ : Shape := ⟨0, ![]⟩
abbrev S1 : Shape := ⟨1, ![1]⟩
abbrev S8x128 : Shape := ⟨2, ![8, 128]⟩
abbrev S1024x1024 : Shape := ⟨2, ![1024, 1024]⟩
abbrev S1024x2048 : Shape := ⟨2, ![1024, 2048]⟩
abbrev S1x1024x2048 : Shape := ⟨3, ![1, 1024, 2048]⟩

abbrev nBuf : Space → Nat
  | .hbm => 14
  | .vmem => 6
  | .smem => 1
  | _ => 0

abbrev bufTy : (tb : Table) → Fin (tcTables nBuf tb) → BufTy
  | .hbm, ⟨0, _⟩ => ⟨S1x8192x1024, .f32⟩
  | .hbm, ⟨1, _⟩ => ⟨S1x1024x8192, .f32⟩
  | .hbm, ⟨2, _⟩ => ⟨S1x8192x8192, .f32⟩
  | .hbm, ⟨3, _⟩ => ⟨S8192x1024, .f32⟩
  | .hbm, ⟨4, _⟩ => ⟨S8192x1024, .bf16⟩
  | .hbm, ⟨5, _⟩ => ⟨S1024x8192, .f32⟩
  | .hbm, ⟨6, _⟩ => ⟨S1024x8192, .bf16⟩
  | .hbm, ⟨7, _⟩ => ⟨S8192x8192, .f32⟩
  | .hbm, ⟨8, _⟩ => ⟨S8192x4x2048, .f32⟩
  | .hbm, ⟨9, _⟩ => ⟨S4x8192x2048, .f32⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S4x8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S8x128, .f32⟩
  | .local _ .vmem, ⟨4, _⟩ => ⟨S1x1024x2048, .f32⟩
  | .local _ .vmem, ⟨5, _⟩ => ⟨S1x1024x2048, .f32⟩
  | .local _ .smem, ⟨0, _⟩ => ⟨S1, .i32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjSlabRefIdeal.lean ====
abbrev S1x8192x1024 : Shape := ⟨3, ![1, 8192, 1024]⟩
abbrev S1x1024x8192 : Shape := ⟨3, ![1, 1024, 8192]⟩
abbrev S1x8192x8192 : Shape := ⟨3, ![1, 8192, 8192]⟩
abbrev S1024x8192 : Shape := ⟨2, ![1024, 8192]⟩
abbrev S1x8192x2048 : Shape := ⟨3, ![1, 8192, 2048]⟩
abbrev S4x8192x2048 : Shape := ⟨3, ![4, 8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024x8192, .f32⟩
  | .hbm, ⟨2, _⟩ => ⟨S1x8192x8192, .f32⟩
  | .hbm, ⟨3, _⟩ => ⟨S1024x8192, .f32⟩
  | .hbm, ⟨4, _⟩ => ⟨S1x8192x8192, .f32⟩
  | .hbm, ⟨5, _⟩ => ⟨S1x8192x2048, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S4x8192x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== AddPieces.lean ====
abbrev S1024x8192 : Shape := ⟨2, ![1024, 8192]⟩
abbrev S7x512x2048 : Shape := ⟨3, ![7, 512, 2048]⟩
abbrev S_ : Shape := ⟨0, ![]⟩
abbrev S1 : Shape := ⟨1, ![1]⟩
abbrev S1024x2048 : Shape := ⟨2, ![1024, 2048]⟩
abbrev S256x2048 : Shape := ⟨2, ![256, 2048]⟩
abbrev S7x256x2048 : Shape := ⟨3, ![7, 256, 2048]⟩
abbrev S1x256x2048 : Shape := ⟨3, ![1, 256, 2048]⟩
abbrev S512x2048 : Shape := ⟨2, ![512, 2048]⟩

abbrev nBuf : Space → Nat
  | .hbm => 6
  | .vmem => 6
  | .smem => 2
  | _ => 0

abbrev bufTy : (tb : Table) → Fin (tcTables nBuf tb) → BufTy
  | .hbm, ⟨0, _⟩ => ⟨S1024x8192, .bf16⟩
  | .hbm, ⟨1, _⟩ => ⟨S7x512x2048, .bf16⟩
  | .hbm, ⟨2, _⟩ => ⟨S_, .i32⟩
  | .hbm, ⟨3, _⟩ => ⟨S_, .i32⟩
  | .hbm, ⟨4, _⟩ => ⟨S1024x2048, .f32⟩
  | .hbm, ⟨5, _⟩ => ⟨S512x2048, .f32⟩
  | .local _ .vmem, ⟨0, _⟩ => ⟨S256x2048, .bf16⟩
  | .local _ .vmem, ⟨1, _⟩ => ⟨S256x2048, .bf16⟩
  | .local _ .vmem, ⟨2, _⟩ => ⟨S7x256x2048, .bf16⟩
  | .local _ .vmem, ⟨3, _⟩ => ⟨S7x256x2048, .bf16⟩
  | .local _ .vmem, ⟨4, _⟩ => ⟨S256x2048, .f32⟩
  | .local _ .vmem, ⟨5, _⟩ => ⟨S256x2048, .f32⟩
  | .local _ .smem, ⟨0, _⟩ => ⟨S1, .i32⟩
  | .local _ .smem, ⟨1, _⟩ => ⟨S1, .i32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_0 : Index := 0#32
  let v3 : BitVec 32 := pf.at 0 (Rect.unit (s := S1) ![0] S1.size inb_S1_S1_0) numel1_S1
  let c1_i32 : BitVec 32 := 1#32
  let v4 : BitVec 32 := Scalar.muli v3 c1_i32
  let v5 : BitVec 32 := Scalar.addi v4 arg1
  let c0_i32 : BitVec 32 := 0#32
  ![v2.toNat, v5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  ![v2.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddPiecesRefIdeal.lean ====
abbrev S1024x8192 : Shape := ⟨2, ![1024, 8192]⟩
abbrev S7x512x2048 : Shape := ⟨3, ![7, 512, 2048]⟩
abbrev S512x2048 : Shape := ⟨2, ![512, 2048]⟩
abbrev S1x512x2048 : Shape := ⟨3, ![1, 512, 2048]⟩
abbrev S8x512x2048 : Shape := ⟨3, ![8, 512, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S7x512x2048, .bf16⟩
  | .hbm, ⟨2, _⟩ => ⟨S512x2048, .bf16⟩
  | .hbm, ⟨3, _⟩ => ⟨S1x512x2048, .bf16⟩
  | .hbm, ⟨4, _⟩ => ⟨S8x512x2048, .bf16⟩
  | .hbm, ⟨5, _⟩ => ⟨S8x512x2048, .f32⟩
  | .hbm, ⟨6, _⟩ => ⟨S_, .f32⟩
  | .hbm, ⟨7, _⟩ => ⟨S512x2048, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PlaceOwn.lean ====
abbrev S1x1024x2048 : Shape := ⟨3, ![1, 1024, 2048]⟩
abbrev S1024x2048 : Shape := ⟨2, ![1024, 2048]⟩
abbrev S_ : Shape := ⟨0, ![]⟩
abbrev S1 : Shape := ⟨1, ![1]⟩
abbrev S1024x8192 : Shape := ⟨2, ![1024, 8192]⟩
abbrev S512x1024 : Shape := ⟨2, ![512, 1024]⟩

abbrev nBuf : Space → Nat
  | .hbm => 5
  | .vmem => 4
  | .smem => 1
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S_, .i32⟩
  | .hbm, ⟨3, _⟩ => ⟨S1024x8192, .bf16⟩
  | .hbm, ⟨4, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .smem, ⟨0, _⟩ => ⟨S1, .i32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v2 : Ref sig .tc := ⟨.hbm, 3, rfl⟩
abbrev main_v3 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  ![arg0.toNat, v2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PlaceOwnRef.lean ====
abbrev S1x1024x2048 : Shape := ⟨3, ![1, 1024, 2048]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1024x2048, .f32⟩
  | .hbm, ⟨2, _⟩ => ⟨S1024x2048, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Sums.lean ====
/-
  Sums over the points of a grid whose points come in runs: an accumulator that is added to at the last point of each
  run of `J` points, and kept at every other point.
-/
module

public import Idealize.ShloMosaic.Lib.Pointwise

@[expose] public section

open Finset

namespace Cert.Math

variable {M : Type*} [AddCommMonoid M]

/-- A value that starts at zero, is kept at a point that does not end a run of `J` points, and gains `X q` at the last
    point of run `q`, is at point `n` the sum of the `X` of the runs ended by then. -/
theorem carry_sum_range {N : ℕ} (J : ℕ) (hJ : 1 < J) (f : (n : ℕ) → n < N → M) (X : ℕ → M)
    (h0 : ∀ h, f 0 h = 0)
    (hs : ∀ n (h : n < N), n ≠ 0 → ¬ n % J = J - 1 → f n h = f (n - 1) (by omega))
    (hf : ∀ n (h : n < N), n % J = J - 1 → f n h = f (n - 1) (by omega) + X (n / J)) :
    ∀ n (h : n < N), f n h = ∑ q ∈ range ((n + 1) / J), X q := by
  intro n
  induction n with
  | zero =>
    intro h
    rw [h0 h, show (0 + 1) / J = 0 from Nat.div_eq_of_lt (by omega)]
    simp
  | succ n ih =>
    intro h
    have hd := Nat.div_add_mod (n + 1) J
    have hlt := Nat.mod_lt (n + 1) (show 0 < J by omega)
    by_cases hr : (n + 1) % J = J - 1
    · rw [hf (n + 1) h hr]
      have e1 : (n + 1) / J = (n + 1) / J := rfl
      have e2 : (n + 1 + 1) / J = (n + 1) / J + 1 := by
        rw [Nat.div_eq_of_lt_le (k := (n + 1) / J + 1)]
        · rw [Nat.add_mul, Nat.mul_comm]; omega
        · rw [Nat.add_mul, Nat.add_mul, Nat.mul_comm]; omega
      rw [e2, sum_range_succ]
      exact congrArg (· + X ((n + 1) / J)) (ih _)
    · rw [hs (n + 1) h (by omega) hr]
      have e2 : (n + 1 + 1) / J = (n + 1) / J := by
        rw [Nat.div_eq_of_lt_le (k := (n + 1) / J)]
        · rw [Nat.mul_comm]; omega
        · rw [Nat.add_mul, Nat.mul_comm]; omega
      rw [e2]
      exact ih _

/-- The same at the last point of a grid of `Q` runs, the gains indexed by the run. -/
theorem carry_sum {N : ℕ} (J Q : ℕ) (hN : N = Q * J) (hJ : 1 < J) (f : (n : ℕ) → n < N → M) (X : Fin Q → M)
    (h0 : ∀ h, f 0 h = 0)
    (hs : ∀ n (h : n < N), n ≠ 0 → ¬ n % J = J - 1 → f n h = f (n - 1) (by omega))
    (hf : ∀ n (h : n < N), n % J = J - 1 →
      f n h = f (n - 1) (by omega) + X ⟨n / J, Nat.div_lt_of_lt_mul (by rw [Nat.mul_comm]; omega)⟩)
    (n : ℕ) (h : n < N) (hn : n + 1 = N) : f n h = ∑ q : Fin Q, X q := by
  have := carry_sum_range J hJ f (fun q => if hq : q < Q then X ⟨q, hq⟩ else 0) h0 hs (fun n h hr => by
    rw [hf n h hr, dif_pos (Nat.div_lt_of_lt_mul (by rw [Nat.mul_comm]; omega))]) n h
  rw [this, hn, hN, Nat.mul_div_cancel _ (by omega), Finset.sum_range]
  exact Finset.sum_congr rfl fun q _ => dif_pos q.isLt

end Cert.Math
end
-- ==== Proof.RmsRow.lean ====
/- The gradient of the root-mean-square norm of one row, over the extended reals.
   The kernel writes it in one closed form; the derivative of the forward line comes out in another. The two agree
   on every row, finite or not: the row's mean square is a sum of squares, so it is either a non-negative real, and
   then the row's scale is a positive real and distributes over every sum, or it is `⊤`, and then the scale is zero
   and both forms leave the other summand alone. -/
module

public import Idealize.ShloMosaic.PureOps.Ideal
public import Idealize.ShloMosaic.Lib.IdealHost

@[expose] public section

noncomputable section

namespace Cert.Math

open Idealize.ShloMosaic

/-- The f32 pattern of 1024. -/
theorem ofBits_1024 : Ideal.ofBits .f32 0x44800000#32 = ((1024 : ℝ) : EReal) := by
  simp [Ideal.ofBits, Ideal.ieee, -EReal.coe_mul]; norm_num

/-- The f32 pattern of minus one half. -/
theorem ofBits_neg_half : Ideal.ofBits .f32 0xBF000000#32 = ((-(1 / 2) : ℝ) : EReal) := by
  simp [Ideal.ofBits, Ideal.ieee, -EReal.coe_mul, -EReal.coe_neg]; norm_num

/-- The norm's epsilon, as the number its f32 pattern denotes. -/
def eps : ℝ := 8796093 / 8796093022208

theorem eps_pos : 0 < eps := by unfold eps; norm_num

/-- The f32 pattern of the norm's epsilon. -/
theorem ofBits_eps : Ideal.ofBits .f32 0x358637BD#32 = (eps : EReal) := by
  unfold eps
  simp [Ideal.ofBits, Ideal.ieee, -EReal.coe_mul]; norm_num

/-- A non-negative real factor goes into a finite sum of extended reals. -/
theorem coe_mul_sum {ι : Type*} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A square is not negative. -/
theorem mul_self_nonneg (x : EReal) : 0 ≤ x * x := by
  induction x using EReal.rec with
  | bot => simp
  | coe r => exact_mod_cast _root_.mul_self_nonneg r
  | top => simp

/-- The row's scale: the reciprocal root of its mean square plus epsilon. -/
def rowScale {n : ℕ} (N e : ℝ) (x : Fin n → EReal) : EReal :=
  Ideal.rsqrt (Ideal.div (∑ k, x k * x k) (N : EReal) + (e : EReal))

/-- The two forms of the row's gradient agree. -/
theorem rms_row {n : ℕ} {N e : ℝ} (hN : 0 < N) (he : 0 < e) (x dy : Fin n → EReal) (d0 : EReal) (j : Fin n)
    (a : EReal) (ha : a = Ideal.div (∑ k, x k * x k) (N : EReal) + (e : EReal)) :
    d0 + Ideal.rsqrt a * (dy j - x j * Ideal.rsqrt a * Ideal.div (∑ k, dy k * (x k * Ideal.rsqrt a)) (N : EReal))
      = d0 + dy j * Ideal.rsqrt a
          + x j * Ideal.div ((∑ k, x k * dy k) * (((-(1 / 2) : ℝ) : EReal) * Ideal.div (Ideal.rsqrt a) a)) (N : EReal)
          + Ideal.div ((∑ k, x k * dy k) * (((-(1 / 2) : ℝ) : EReal) * Ideal.div (Ideal.rsqrt a) a)) (N : EReal) * x j := by
  have hS : 0 ≤ ∑ k, x k * x k := Finset.sum_nonneg fun k _ => mul_self_nonneg _
  have hN' : N ≠ 0 := hN.ne'
  generalize (∑ k, x k * x k) = S at hS ha
  simp only [Ideal.div_coe hN'] at ha ⊢
  have hinv : 0 < 1 / N := by positivity
  induction S using EReal.rec with
  | bot => simp at hS
  | top =>
    have : a = ⊤ := by
      rw [ha, EReal.top_mul_coe_of_pos hinv, EReal.top_add_coe]
    subst this
    simp [Ideal.div]
  | coe s =>
    have hs : 0 ≤ s := by exact_mod_cast hS
    obtain ⟨α, hα, haα⟩ : ∃ α : ℝ, 0 < α ∧ a = (α : EReal) :=
      ⟨s * (1 / N) + e, by positivity, by rw [ha]; push_cast; rfl⟩
    obtain ⟨r, hr, har⟩ : ∃ r : ℝ, 0 < r ∧ r = (Real.sqrt α)⁻¹ := ⟨_, inv_pos.2 (Real.sqrt_pos.2 hα), rfl⟩
    have hrr : r * r = 1 / α := by
      rw [har, ← mul_inv, Real.mul_self_sqrt hα.le, one_div]
    have hR : Ideal.rsqrt a = (r : EReal) := by
      rw [haα, Ideal.rsqrt_coe, if_neg (not_lt.2 hα.le), if_neg hα.ne', har]
    have hD : ∑ k, dy k * (x k * (r : EReal)) = (r : EReal) * ∑ k, x k * dy k := by
      rw [coe_mul_sum _ _ hr.le]
      exact Finset.sum_congr rfl fun k _ => by ac_rfl
    rw [hR, hD, haα, Ideal.div_coe hα.ne']
    generalize (∑ k, x k * dy k) = D
    have hc : 0 ≤ r * r * r / N / 2 := by positivity
    -- the kernel's second summand, and each of the reference's two, as a real multiple of `-(x j * D)`
    have h1 : (r : EReal) * (dy j - x j * r * ((r : EReal) * D * ((1 / N : ℝ) : EReal)))
        = dy j * r + -(x j * D) * ((r * r * r / N : ℝ) : EReal) := by
      rw [sub_eq_add_neg, EReal.left_distrib_of_nonneg_of_ne_top (by exact_mod_cast hr.le) (EReal.coe_ne_top r), mul_comm (r : EReal) (dy j)]
      congr 1
      rw [show (r * r * r / N : ℝ) = r * r * r * (1 / N) by ring, EReal.coe_mul, EReal.coe_mul, EReal.coe_mul, mul_neg, neg_mul]
      congr 1
      ac_rfl
    have h2 : x j * (D * (((-(1 / 2) : ℝ) : EReal) * ((r : EReal) * ((1 / α : ℝ) : EReal))) * ((1 / N : ℝ) : EReal))
        = -(x j * D) * ((r * r * r / N / 2 : ℝ) : EReal) := by
      rw [← hrr, show (r * r * r / N / 2 : ℝ) = (1 / 2) * (r * (r * r)) * (1 / N) by ring]
      simp only [EReal.coe_mul, EReal.coe_neg, neg_mul, mul_neg]
      congr 1
      ac_rfl
    have h3 : ((r * r * r / N : ℝ) : EReal) = ((r * r * r / N / 2 : ℝ) : EReal) + ((r * r * r / N / 2 : ℝ) : EReal) := by
      rw [← EReal.coe_add]; congr 1; ring
    rw [h1, mul_comm _ (x j), h2, h3,
      EReal.left_distrib_of_nonneg (by exact_mod_cast hc) (by exact_mod_cast hc)]
    ac_rfl

end Cert.Math

end
-- ==== Proof.NormBwd.lean ====
/-
  The gradients of a row-normalised, scaled and shifted activation, index by index: with `X` the rows that are normalised,
  `g` the gain, `sc` the modulation's scale, `DH` the cotangent of the modulated rows and `D0` the cotangent that reaches
  the rows by the other way, the normalised row is `X s * r s` with `r s` the reciprocal root of the mean square plus a
  constant, and its modulation is `(X s * r s * g) * (1 + sc) + shift`.
-/
module

public import proofs.«01_k».proof.Proof.RmsRow

@[expose] public section

noncomputable section

open Idealize.ShloMosaic

namespace Cert.NormBwd

/-- The product of the cotangent of a projection with the transposed weight, at row `s` and channel `d`. -/
def dh {S E K : ℕ} (dp : Fin S → Fin K → EReal) (w : Fin E → Fin K → EReal) (s : Fin S) (d : Fin E) : EReal :=
  ∑ k : Fin K, dp s k * w d k

variable {S : ℕ}

/-- A row's mean square plus the constant. -/
def msq (X : Fin S → Fin 1024 → EReal) (s : Fin S) : EReal :=
  Ideal.div (∑ k, X s k * X s k) (Ideal.ofBits .f32 1149239296#32) + Ideal.ofBits .f32 897988541#32

/-- The reciprocal root that normalises a row. -/
def rs (X : Fin S → Fin 1024 → EReal) (s : Fin S) : EReal := Ideal.rsqrt (msq X s)

/-- The gradient of the rows. -/
def dx (X : Fin S → Fin 1024 → EReal) (g sc : Fin 1024 → EReal) (DH D0 : Fin S → Fin 1024 → EReal) (s : Fin S) (d : Fin 1024) : EReal :=
  D0 s d + rs X s * (DH s d * (1 + sc d) * g d
    - X s d * rs X s * Ideal.div (∑ k, DH s k * (1 + sc k) * g k * (X s k * rs X s)) (Ideal.ofBits .f32 1149239296#32))

/-- The gradient of the shift: the sum of the cotangent over the rows. -/
def dshift (DH : Fin S → Fin 1024 → EReal) (d : Fin 1024) : EReal := ∑ s, DH s d

/-- The gradient of the scale. -/
def dscale (X : Fin S → Fin 1024 → EReal) (g : Fin 1024 → EReal) (DH : Fin S → Fin 1024 → EReal) (d : Fin 1024) : EReal :=
  ∑ s, DH s d * (X s d * rs X s * g d)

/-- The gradient of the gain. -/
def dgain (X : Fin S → Fin 1024 → EReal) (sc : Fin 1024 → EReal) (DH : Fin S → Fin 1024 → EReal) (d : Fin 1024) : EReal :=
  ∑ s, DH s d * (1 + sc d) * (X s d * rs X s)

/-- The factor `-½ (r³ / …)` by which a row enters its own gradient when the reciprocal root is differentiated by rule:
    the row's product with its cotangent, times `-½` of the root over its argument, over the number of channels. -/
def rowFactor (X : Fin S → Fin 1024 → EReal) (g sc : Fin 1024 → EReal) (DH : Fin S → Fin 1024 → EReal) (s : Fin S) : EReal :=
  Ideal.div ((∑ k, X s k * (DH s k * (1 + sc k) * g k))
    * (Ideal.ofBits .f32 3204448256#32 * Ideal.div (rs X s) (msq X s))) (Ideal.ofBits .f32 1149239296#32)

/-- The gradient of the rows in the form the rule of differentiation gives it: the direct term, and the row times its
    factor once for each of the two factors of the square. No finiteness is asked. -/
theorem dx_eq (X : Fin S → Fin 1024 → EReal) (g sc : Fin 1024 → EReal) (DH D0 : Fin S → Fin 1024 → EReal) (s : Fin S) (d : Fin 1024) :
    dx X g sc DH D0 s d = D0 s d + DH s d * (1 + sc d) * g d * rs X s
      + X s d * rowFactor X g sc DH s + rowFactor X g sc DH s * X s d := by
  unfold dx rowFactor
  rw [Cert.Math.ofBits_1024, Cert.Math.ofBits_neg_half]
  exact Cert.Math.rms_row (by norm_num) Cert.Math.eps_pos (X s) (fun k => DH s k * (1 + sc k) * g k) (D0 s d) d (msq X s)
    (by unfold msq; rw [Cert.Math.ofBits_1024, Cert.Math.ofBits_eps])

end Cert.NormBwd
end
end
-- ==== Proof.AFold.lean ====
/-
  The kernel's four results, read: the projection's cotangent is accumulated over the four column blocks of a row block,
  and at the last of them the row block's gradient is stored and the three sums over the rows are added to.
-/
module

public import proofs.«01_k».proof.Proof.Gen.AProjDxIdeal.Value
public import proofs.«01_k».proof.Proof.Sums
public import proofs.«01_k».proof.Proof.NormBwd
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AProjDxIdeal.Fold
open Cert.AProjDxIdeal Cert.AProjDxIdeal.Gen

variable (m : (ℓ : Loc nD τ sig) → Buf (Elt Ideal) ℓ)

/-- The argument arrays, by row and channel. -/
def X (c : Dev nD) (s : Fin 8192) (d : Fin 1024) : EReal := m ((c : Thread nD τ).loc main_arg0) (ix3 0 s d)
def G (c : Dev nD) (d : Fin 1024) : EReal := m ((c : Thread nD τ).loc main_arg1) (ix2 0 d)
def SC (c : Dev nD) (d : Fin 1024) : EReal := m ((c : Thread nD τ).loc main_arg2) (ix2 0 ⟨1024 + d.val, by omega⟩)
def W (c : Dev nD) (d : Fin 1024) (k : Fin 8192) : EReal := m ((c : Thread nD τ).loc main_arg3) (ix3 0 d k)
def D0 (c : Dev nD) (s : Fin 8192) (d : Fin 1024) : EReal := m ((c : Thread nD τ).loc main_arg4) (ix3 0 s d)
def DP (c : Dev nD) (s : Fin 8192) (k : Fin 8192) : EReal := m ((c : Thread nD τ).loc main_arg5) (ix3 0 s k)

/-- The cotangent of the modulated rows. -/
abbrev DH (c : Dev nD) : Fin 8192 → Fin 1024 → EReal := NormBwd.dh (DP m c) (W m c)

/-- Row `r` of the row block of point `t`. -/
abbrev row (t : Fin cfg0.N) (r : Fin 1024) : Fin 8192 :=
  ⟨t.val / 4 * 1024 + r.val, by have := t.isLt; have : cfg0.N = 32 := N_0; omega⟩

theorem idx : ∀ t : Fin cfg0.N, win0_0.index t = ![t.val % 4, t.val / 4, 0] ∧ win0_1.index t = ![0, t.val % 4]
    ∧ win0_3.index t = ![t.val / 4, 0] ∧ win0_4.index t = ![t.val / 4, 0] ∧ win0_5.index t = ![0, 0] ∧ win0_6.index t = ![0, 0]
    ∧ win0_7.index t = ![t.val / 4, 0] :=
  (by decide +kernel : ∀ t : Fin grid0.N, _)

/-! ## The staged blocks are the arguments at the point's place -/

theorem blk0 (c : Dev nD) (t : Fin cfg0.N) (r : Fin 1024) (k : Fin 2048) :
    iblk m c 0 t (ix3 0 r k) = DP m c (row t r) ⟨t.val % 4 * 2048 + k.val, by omega⟩ := by
  unfold DP
  blk_simp [iblk, idx t]
  entry_read
  pointwise
  blk_ext [idx t]

theorem blk1 (c : Dev nD) (t : Fin cfg0.N) (d : Fin 1024) (k : Fin 2048) :
    iblk m c 1 t (ix2 d k) = W m c d ⟨t.val % 4 * 2048 + k.val, by omega⟩ := by
  unfold W
  blk_simp [iblk, idx t]
  entry_read
  pointwise
  blk_ext [idx t]

theorem blk3 (c : Dev nD) (t : Fin cfg0.N) (r d : Fin 1024) : iblk m c 3 t (ix2 r d) = X m c (row t r) d := by
  unfold X
  blk_simp [iblk, idx t]
  entry_read
  pointwise
  blk_ext [idx t]

theorem blk4 (c : Dev nD) (t : Fin cfg0.N) (r d : Fin 1024) : iblk m c 4 t (ix2 r d) = D0 m c (row t r) d := by
  unfold D0
  blk_simp [iblk, idx t]
  entry_read
  pointwise
  blk_ext [idx t]

theorem blk5 (c : Dev nD) (t : Fin cfg0.N) (d : Fin 1024) : iblk m c 5 t (ix2 0 d) = G m c d := by
  unfold G
  blk_simp [iblk, idx t]
  entry_read
  blk_ext [idx t]

theorem blk6 (c : Dev nD) (t : Fin cfg0.N) (d : Fin 1024) : iblk m c 6 t (ix2 0 d) = SC m c d := by
  unfold SC
  blk_simp [iblk, idx t]
  entry_read
  pointwise
  blk_ext [idx t]

/-! ## What a point computes from its blocks -/

theorem p4 (c : Dev nD) (t : Fin cfg0.N) (r d : Fin 1024) : k0_pay4 (iblk m c 0 t) (iblk m c 1 t) (ix2 r d)
    = ∑ k : Fin 2048, DP m c (row t r) ⟨t.val % 4 * 2048 + k.val, by omega⟩ * W m c d ⟨t.val % 4 * 2048 + k.val, by omega⟩ := by
  pointwise [k0_pay4]
  exact Finset.sum_congr rfl fun k _ => congrArg₂ (· * ·) (blk0 m c t r k) (blk1 m c t d k)

theorem p5 (s x w) (j : S1024x1024.Idx) : k0_pay5 (F := Ideal) s x w j = s j + k0_pay4 x w j := by
  idx_vars j
  pointwise [k0_pay5, k0_pay4]

theorem p9 (c : Dev nD) (t : Fin cfg0.N) (r : Fin 1024) : k0_pay9 (F := Ideal) (iblk m c 3 t) (ix2 r 0) = NormBwd.rs (X m c) (row t r) := by
  unfold NormBwd.rs NormBwd.msq
  pointwise [k0_pay9, k0_pay8]
  simp only [blk3]

theorem p10 (c : Dev nD) (t : Fin cfg0.N) (r d : Fin 1024) : k0_pay10 (F := Ideal) (iblk m c 3 t) (ix2 r d) = X m c (row t r) d * NormBwd.rs (X m c) (row t r) := by
  rw [← p9]
  pointwise [k0_pay10, k0_pay8]
  rw [blk3]

/-! ## The accumulated product -/

/-- At the last column block the scratch holds the whole product of the row block. -/
theorem scratch (c : Dev nD) (t : Fin cfg0.N) (ht : t.val % 4 = 3) (r d : Fin 1024) :
    (outsAt0 m c t.val t.isLt).2.2.2.2 (ix2 r d) = DH m c (row t r) d := by
  rw [Pipeline.eq_sum_fin_of_reset_step_apply_of_flush (fun n h => (outsAt0 m c n h).2.2.2.2) 4 (fun _ => 0)
    (fun t => k0_pay4 (iblk m c 0 t) (iblk m c 1 t)) ?_ ?_ t ht (ix2 r d)]
  · rw [zero_add]
    unfold DH NormBwd.dh
    rw [Fin.sum_univ_tiles 4 2048 rfl]
    refine Finset.sum_congr rfl fun s _ => ?_
    rw [p4]
    have e1 : (4 * (t.val / 4) + s.val) % 4 = s.val := by omega
    have e2 : (4 * (t.val / 4) + s.val) / 4 = t.val / 4 := by omega
    refine Finset.sum_congr rfl fun k _ => ?_
    simp only [row, e1, e2]
  · intro t h j
    rw [zero_add]
    by_cases h0 : t.val % 32 = 0
    · rw [outsAt0_A m c t h0 h (by omega) (by omega)]
      frame_out
    · rw [outsAt0_D m c t h0 h (by omega) (by omega)]
      frame_out
  · intro t h j
    rw [← p5]
    by_cases h3 : t.val % 4 = 3
    · rw [outsAt0_C m c t (by omega) h (by omega) h3]
      frame_out
      rw [read_unread_whole]
    · rw [outsAt0_B m c t (by omega) h (by omega) h3]
      frame_out
      rw [read_unread_whole]

/-- What the last column block's point leaves: the accumulated product in the scratch, and the four results' blocks. -/
theorem last (c : Dev nD) (t : Fin cfg0.N) (h3 : t.val % 4 = 3) :
    ∃ S : Vec Ideal S1024x1024 .f32, (∀ r d, S (ix2 r d) = DH m c (row t r) d) ∧
    (outsAt0 m c t.val t.isLt) = (k0_pay7 (iblk m c 5 t) (k0_pay9 (iblk m c 3 t)) (k0_pay10 (iblk m c 3 t)) (k0_pay13 S (iblk m c 6 t)) (iblk m c 4 t),
      k0_pay11 S (outsAt0 m c (t.val - 1) (by omega)).2.1,
      k0_pay12 S (iblk m c 5 t) (iblk m c 3 t) (outsAt0 m c (t.val - 1) (by omega)).2.2.1,
      k0_pay6 (k0_pay10 (iblk m c 3 t)) (k0_pay13 S (iblk m c 6 t)) (outsAt0 m c (t.val - 1) (by omega)).2.2.2.1, S) := by
  refine ⟨(outsAt0 m c t.val t.isLt).2.2.2.2, scratch m c t h3, ?_⟩
  rw [outsAt0_C m c t (by omega) (by omega) (by omega) h3]
  frame_out

/-- Any other point after the first keeps the three sums. -/
theorem kept (c : Dev nD) (t : Fin cfg0.N) (h : t.val ≠ 0) (h3 : ¬ t.val % 4 = 3) :
    (outsAt0 m c t.val t.isLt).2.1 = (outsAt0 m c (t.val - 1) (by omega)).2.1
    ∧ (outsAt0 m c t.val t.isLt).2.2.1 = (outsAt0 m c (t.val - 1) (by omega)).2.2.1
    ∧ (outsAt0 m c t.val t.isLt).2.2.2.1 = (outsAt0 m c (t.val - 1) (by omega)).2.2.2.1 := by
  have hN : t.val < 32 := lt_of_lt_of_eq t.isLt N_0
  by_cases h1 : t.val % 4 = 0
  · rw [outsAt0_D m c t (by omega) h1 (by omega) h3]
    exact ⟨rfl, rfl, rfl⟩
  · rw [outsAt0_B m c t (by omega) h1 (by omega) h3]
    exact ⟨rfl, rfl, rfl⟩

/-- The first point sets the three sums to zero. -/
theorem start (c : Dev nD) (h : 0 < cfg0.N) (d : Fin 1024) :
    (outsAt0 m c 0 h).2.1 (ix2 0 d) = 0 ∧ (outsAt0 m c 0 h).2.2.1 (ix2 0 d) = 0 ∧ (outsAt0 m c 0 h).2.2.2.1 (ix2 0 d) = 0 := by
  have := outsAt0_A m c ⟨0, h⟩ rfl rfl (by simp) (by simp)
  rw [show outsAt0 m c 0 h = _ from this]
  frame_out
  refine ⟨?_, ?_, ?_⟩
  · pointwise [k0_pay1]
  · pointwise [k0_pay2]
  · pointwise [k0_pay3]

/-- A sum over all rows, one row block at a time. -/
theorem rows_sum (f : Fin 8192 → EReal) (L : ∀ q : Fin 8, ∀ r : Fin 1024, Fin 8192) (hL : ∀ q r, (L q r).val = q.val * 1024 + r.val) :
    ∑ q : Fin 8, ∑ r : Fin 1024, f (L q r) = ∑ s, f s := by
  rw [Fin.sum_univ_tiles 8 1024 rfl]
  exact Finset.sum_congr rfl fun q _ => Finset.sum_congr rfl fun r _ => congrArg f (Fin.ext (hL q r))

/-- Row `r` of row block `q`. -/
abbrev qrow (q : Fin 8) (r : Fin 1024) : Fin 8192 := ⟨q.val * 1024 + r.val, by omega⟩

/-- The gradient of the shift, after the last point. -/
theorem shift_last (c : Dev nD) (h : 31 < cfg0.N) (d : Fin 1024) :
    (outsAt0 m c 31 h).2.1 (ix2 0 d) = NormBwd.dshift (DH m c) d := by
  rw [Math.carry_sum 4 8 N_0 (by decide) (fun n h => (outsAt0 m c n h).2.1 (ix2 0 d))
    (fun q => ∑ r, DH m c (qrow q r) d) (fun h => (start m c h d).1)
    (fun n h hn hr => by rw [(kept m c ⟨n, h⟩ hn hr).1]) ?_ 31 h N_0.symm]
  · exact rows_sum (fun s => DH m c s d) qrow fun _ _ => rfl
  · intro n h hr
    obtain ⟨S, hS, e⟩ := last m c ⟨n, h⟩ hr
    rw [show outsAt0 m c n h = _ from e]
    pointwise [k0_pay11]
    exact congrArg _ (Finset.sum_congr rfl fun r _ => hS r d)

/-- The gradient of the scale, after the last point. -/
theorem scale_last (c : Dev nD) (h : 31 < cfg0.N) (d : Fin 1024) :
    (outsAt0 m c 31 h).2.2.1 (ix2 0 d) = NormBwd.dscale (X m c) (G m c) (DH m c) d := by
  rw [Math.carry_sum 4 8 N_0 (by decide) (fun n h => (outsAt0 m c n h).2.2.1 (ix2 0 d))
    (fun q => ∑ r, DH m c (qrow q r) d * (X m c (qrow q r) d * NormBwd.rs (X m c) (qrow q r) * G m c d)) (fun h => (start m c h d).2.1)
    (fun n h hn hr => by rw [(kept m c ⟨n, h⟩ hn hr).2.1]) ?_ 31 h N_0.symm]
  · exact rows_sum (fun s => DH m c s d * (X m c s d * NormBwd.rs (X m c) s * G m c d)) qrow fun _ _ => rfl
  · intro n h hr
    obtain ⟨S, hS, e⟩ := last m c ⟨n, h⟩ hr
    rw [show outsAt0 m c n h = _ from e]
    pointwise [k0_pay12]
    refine congrArg _ (Finset.sum_congr rfl fun r _ => ?_)
    rw [hS r d, p10 m c ⟨n, h⟩, blk5 m c ⟨n, h⟩]

/-- The gradient of the gain, after the last point. -/
theorem gain_last (c : Dev nD) (h : 31 < cfg0.N) (d : Fin 1024) :
    (outsAt0 m c 31 h).2.2.2.1 (ix2 0 d) = NormBwd.dgain (X m c) (SC m c) (DH m c) d := by
  rw [Math.carry_sum 4 8 N_0 (by decide) (fun n h => (outsAt0 m c n h).2.2.2.1 (ix2 0 d))
    (fun q => ∑ r, DH m c (qrow q r) d * (1 + SC m c d) * (X m c (qrow q r) d * NormBwd.rs (X m c) (qrow q r))) (fun h => (start m c h d).2.2)
    (fun n h hn hr => by rw [(kept m c ⟨n, h⟩ hn hr).2.2]) ?_ 31 h N_0.symm]
  · exact rows_sum (fun s => DH m c s d * (1 + SC m c d) * (X m c s d * NormBwd.rs (X m c) s)) qrow fun _ _ => rfl
  · intro n h hr
    obtain ⟨S, hS, e⟩ := last m c ⟨n, h⟩ hr
    rw [show outsAt0 m c n h = _ from e]
    pointwise [k0_pay6, k0_pay13]
    refine congrArg _ (Finset.sum_congr rfl fun r _ => ?_)
    rw [hS r d, p10 m c ⟨n, h⟩, blk6 m c ⟨n, h⟩]

/-- The row block's gradient, stored at its last column block. -/
theorem dx_last (c : Dev nD) (t : Fin cfg0.N) (h3 : t.val % 4 = 3) (r d : Fin 1024) :
    (outsAt0 m c t.val t.isLt).1 (ix2 r d) = NormBwd.dx (X m c) (G m c) (SC m c) (DH m c) (D0 m c) (row t r) d := by
  obtain ⟨S, hS, e⟩ := last m c t h3
  rw [e]
  unfold NormBwd.dx
  pointwise [k0_pay7, k0_pay13]
  simp only [hS, p10, p9, blk4, blk5, blk6]

/-! ## The result arrays -/

theorem dx_arr (c : Dev nD) : Value.G7 m c = fun i : S8192x1024.Idx =>
    NormBwd.dx (X m c) (G m c) (SC m c) (DH m c) (D0 m c) (i 0) (i 1) := by
  rw [← Value.final7]
  refine (dats m 0 c).arrAt_eq_of_covers 7 _ (by decide +kernel) fun t hf y => ?_
  idx_vars y
  have hm : t.val % 4 = 3 := (flush0_7 t).mp hf
  blk_simp
  rw [after0_7]
  exact (dx_last m c t hm y0 y1).trans (congrArg₂ (NormBwd.dx (X m c) (G m c) (SC m c) (DH m c) (D0 m c))
    (Fin.ext (by blk_simp [idx t])) (Fin.ext (by blk_simp [idx t])))

theorem shift_arr (c : Dev nD) : Value.G8 m c = fun i : S1x1024.Idx => NormBwd.dshift (DH m c) (i 1) := by
  rw [Value.G8_last, ← Value.outsAt0_sweep m c 31 (lt_of_lt_of_eq (by decide) N_0.symm)]
  funext i
  idx_vars i
  obtain rfl : i0 = 0 := Subsingleton.elim _ _
  exact shift_last m c _ i1

theorem scale_arr (c : Dev nD) : Value.G9 m c = fun i : S1x1024.Idx => NormBwd.dscale (X m c) (G m c) (DH m c) (i 1) := by
  rw [Value.G9_last, ← Value.outsAt0_sweep m c 31 (lt_of_lt_of_eq (by decide) N_0.symm)]
  funext i
  idx_vars i
  obtain rfl : i0 = 0 := Subsingleton.elim _ _
  exact scale_last m c _ i1

theorem gain_arr (c : Dev nD) : Value.G10 m c = fun i : S1x1024.Idx => NormBwd.dgain (X m c) (SC m c) (DH m c) (i 1) := by
  rw [Value.G10_last, ← Value.outsAt0_sweep m c 31 (lt_of_lt_of_eq (by decide) N_0.symm)]
  funext i
  idx_vars i
  obtain rfl : i0 = 0 := Subsingleton.elim _ _
  exact gain_last m c _ i1

end Cert.AProjDxIdeal.Fold
end
-- ==== Proof.HostSum.lean ====
/-
  The host's sum over two axes of an array of rank three, read at an index where one or both of the axes have size one.
-/
module

public import Idealize.ShloMosaic.Lib.Pointwise

@[expose] public section

noncomputable section

open Idealize.ShloMosaic

namespace Cert.Math

/-- Where one source index alone lies over a result index, the sum is the initial value plus that element. -/
theorem hostReduceAdd_unique {s t : Shape} {axes : List (Fin s.rank)} (h : s.ReducesTo axes t) (x : s.Idx → EReal)
    (init : EReal) (j : t.Idx) (i0 : s.Idx) (hi : h.drop i0 = j) (hu : ∀ i, h.drop i = j → i = i0) :
    Ideal.hostReduceAdd h x init j = init + x i0 := by
  unfold Ideal.hostReduceAdd
  rw [Finset.sum_eq_single_of_mem i0 (by simp [hi]) fun i hm hne => absurd (hu i (by simpa using hm)) hne]

/-- Axes 0 and 1 of size one. -/
theorem hostReduceAdd_unit01 {n : ℕ} (h : Shape.ReducesTo ⟨3, ![1, 1, n]⟩ [0, 1] ⟨1, ![n]⟩)
    (x : (⟨3, ![1, 1, n]⟩ : Shape).Idx → EReal) (init : EReal) (j : Fin n) :
    Ideal.hostReduceAdd h x init (ix1 j) = init + x (ix3 0 0 j) := by
  refine hostReduceAdd_unique h x init _ _ ?_ fun i hi => ?_
  · funext b
    fin_cases b
    exact Fin.ext rfl
  · have this : (i 2).val = j.val := congrArg Fin.val (congrFun hi (0 : Fin 1))
    funext b
    match b with
    | ⟨0, _⟩ => exact Subsingleton.elim (α := Fin 1) _ _
    | ⟨1, _⟩ => exact Subsingleton.elim (α := Fin 1) _ _
    | ⟨2, _⟩ => exact Fin.ext this

/-- Axes 0 and 2 of size one. -/
theorem hostReduceAdd_unit02 {n : ℕ} (h : Shape.ReducesTo ⟨3, ![1, n, 1]⟩ [0, 2] ⟨1, ![n]⟩)
    (x : (⟨3, ![1, n, 1]⟩ : Shape).Idx → EReal) (init : EReal) (j : Fin n) :
    Ideal.hostReduceAdd h x init (ix1 j) = init + x (ix3 0 j 0) := by
  refine hostReduceAdd_unique h x init _ _ ?_ fun i hi => ?_
  · funext b
    fin_cases b
    exact Fin.ext rfl
  · have this : (i 1).val = j.val := congrArg Fin.val (congrFun hi (0 : Fin 1))
    funext b
    match b with
    | ⟨0, _⟩ => exact Subsingleton.elim (α := Fin 1) _ _
    | ⟨1, _⟩ => exact Fin.ext this
    | ⟨2, _⟩ => exact Subsingleton.elim (α := Fin 1) _ _

/-- Both axes of a one-row array, to a scalar. -/
theorem hostReduceAdd_all1 {n : ℕ} {t : Shape} (h : Shape.ReducesTo ⟨2, ![1, n]⟩ [0, 1] t)
    (x : (⟨2, ![1, n]⟩ : Shape).Idx → EReal) (init : EReal) (j : t.Idx) :
    Ideal.hostReduceAdd h x init j = init + ∑ s, x (ix2 0 s) := by
  have ht : t.rank = 0 := h.choose
  unfold Ideal.hostReduceAdd
  rw [Finset.filter_true_of_mem fun i _ => funext fun a => absurd a.isLt (by omega), sum_idx2]
  simp only [Finset.univ_unique, Finset.sum_singleton]
  rfl

end Cert.Math
end
end
-- ==== Proof.ARef.lean ====
/-
  The reference's four results, read index by index.
-/
module

public import proofs.«01_k».proof.Proof.Gen.AProjDxRefIdeal.Read
public import proofs.«01_k».proof.Proof.NormBwd
public import proofs.«01_k».proof.Proof.HostSum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AProjDxRefIdeal.Forms
open Cert.AProjDxRefIdeal Cert.AProjDxRefIdeal.Read

variable (x : (⟨S1x8192x1024, .f32⟩ : BufTy).Contents (Elt Ideal)) (g : (⟨S1x1024, .f32⟩ : BufTy).Contents (Elt Ideal))
  (md : (⟨S1x3072, .f32⟩ : BufTy).Contents (Elt Ideal)) (w : (⟨S1x1024x8192, .f32⟩ : BufTy).Contents (Elt Ideal))
  (dx0 : (⟨S1x8192x1024, .f32⟩ : BufTy).Contents (Elt Ideal)) (dp : (⟨S1x8192x8192, .f32⟩ : BufTy).Contents (Elt Ideal))

/-- The arguments by row and channel. -/
abbrev X (s : Fin 8192) (d : Fin 1024) : EReal := x (ix3 0 s d)
abbrev G (d : Fin 1024) : EReal := g (ix2 0 d)
abbrev SC (d : Fin 1024) : EReal := md (ix2 0 ⟨1024 + d.val, by omega⟩)
abbrev W (d : Fin 1024) (k : Fin 8192) : EReal := w (ix3 0 d k)
abbrev DP (s : Fin 8192) (k : Fin 8192) : EReal := dp (ix3 0 s k)
abbrev DH : Fin 8192 → Fin 1024 → EReal := NormBwd.dh (DP dp) (W w)

theorem v11 (s : Fin 8192) : val_main_v11 (F := Ideal) x (ix3 0 s 0) = NormBwd.msq (X x) s := by
  unfold NormBwd.msq
  pointwise [val_main_v11, val_main_v10, val_main_cst_1, val_main_v9, val_main_v8, val_main_cst_0, val_main_v7, val_main_v6, val_main_v5, val_main_cst]

theorem v12 (s : Fin 8192) : val_main_v12 (F := Ideal) x (ix3 0 s 0) = NormBwd.rs (X x) s := by
  pointwise [val_main_v12]
  rw [v11]; rfl

theorem v15 (s : Fin 8192) : val_main_v15 (F := Ideal) x (ix3 0 s 0)
    = Ideal.ofBits .f32 3204448256#32 * Ideal.div (NormBwd.rs (X x) s) (NormBwd.msq (X x) s) := by
  pointwise [val_main_v15, val_main_v14, val_main_cst_2, val_main_v13]
  rw [v11, v12]

theorem v17 (s : Fin 8192) (d : Fin 1024) : val_main_v17 (F := Ideal) x (ix3 0 s d) = X x s d * NormBwd.rs (X x) s := by
  pointwise [val_main_v17, val_main_v16]
  rw [v12]

theorem v20 (s : Fin 8192) (d : Fin 1024) : val_main_v20 (F := Ideal) x g (ix3 0 s d) = X x s d * NormBwd.rs (X x) s * G g d := by
  pointwise [val_main_v20, val_main_v19, val_main_v18, val_main_v4]
  rw [v17]

theorem v22 (d : Fin 1024) : val_main_v22 (F := Ideal) md (ix3 0 0 d) = 1 + SC md d := by
  pointwise [val_main_v22, val_main_v21, val_main_cst_3, val_main_v2, val_main_v0]

theorem v29 (s : Fin 8192) (d : Fin 1024) : val_main_v29 (F := Ideal) w dp (ix3 0 s d) = DH w dp s d := by
  unfold DH NormBwd.dh
  pointwise [val_main_v29, val_main_v27]

theorem v36 (s : Fin 8192) (d : Fin 1024) : val_main_v36 (F := Ideal) md w dp (ix3 0 s d) = DH w dp s d * (1 + SC md d) := by
  pointwise [val_main_v36, val_main_v35]
  rw [v29, v22]

theorem v41 (s : Fin 8192) (d : Fin 1024) : val_main_v41 (F := Ideal) g md w dp (ix3 0 s d) = DH w dp s d * (1 + SC md d) * G g d := by
  pointwise [val_main_v41, val_main_v40, val_main_v18, val_main_v4]
  rw [v36]

theorem v51 (s : Fin 8192) : val_main_v51 (F := Ideal) x g md w dp (ix3 0 s 0) = NormBwd.rowFactor (X x) (G g) (SC md) (DH w dp) s := by
  unfold NormBwd.rowFactor
  pointwise [val_main_v51, val_main_v50, val_main_cst_9, val_main_v49, val_main_v45, val_main_v44, val_main_cst_8, val_main_v43]
  simp only [v15, v41]

theorem v52 (s : Fin 8192) : val_main_v52 (F := Ideal) x g md w dp (ix1 s) = NormBwd.rowFactor (X x) (G g) (SC md) (DH w dp) s := by
  unfold val_main_v52
  simp only [Host.reduceAdd, Ideal.hostReduceAdd_def]
  rw [Cert.Math.hostReduceAdd_unit02 _ _ _ s, v51]
  pointwise [val_main_cst_10]

/-- The gradient of the rows. -/
theorem dx_ref : val_main_v60 (F := Ideal) x g md w dx0 dp = fun i : S8192x1024.Idx =>
    NormBwd.dx (X x) (G g) (SC md) (DH w dp) (X dx0) (i 0) (i 1) := by
  funext i
  idx_vars i
  rw [NormBwd.dx_eq]
  pointwise [val_main_v60, val_main_v58, val_main_v57, val_main_v56, val_main_v55, val_main_v54, val_main_v53, val_main_v48, val_main_v47, val_main_v46]
  simp only [v52, v41, v12]

/-- The gradient of the shift. -/
theorem shift_ref : val_main_v61 (F := Ideal) w dp = fun i : S1x1024.Idx => NormBwd.dshift (DH w dp) (i 1) := by
  funext i
  idx_vars i
  unfold NormBwd.dshift
  pointwise [val_main_v61, val_main_v31, val_main_v30, val_main_cst_4]
  simp only [v29]

/-- The gradient of the scale. -/
theorem scale_ref : val_main_v62 (F := Ideal) x g w dp = fun i : S1x1024.Idx => NormBwd.dscale (X x) (G g) (DH w dp) (i 1) := by
  funext i
  idx_vars i
  unfold NormBwd.dscale
  pointwise [val_main_v62, val_main_v34, val_main_v33, val_main_cst_5, val_main_v32]
  exact Finset.sum_congr rfl fun s _ => by rw [v29, v20, mul_comm]

/-- The gradient of the gain. -/
theorem gain_ref : val_main_v59 (F := Ideal) x md w dp = fun i : S1x1024.Idx => NormBwd.dgain (X x) (SC md) (DH w dp) (i 1) := by
  have h42 : ∀ d, val_main_v42 (F := Ideal) x md w dp (ix1 d) = NormBwd.dgain (X x) (SC md) (DH w dp) d := by
    intro d
    unfold val_main_v42 NormBwd.dgain
    simp only [Host.reduceAdd, Ideal.hostReduceAdd_def]
    rw [Cert.Math.hostReduceAdd_unit01 _ _ _ d]
    pointwise [val_main_cst_7, val_main_v39, val_main_v38, val_main_cst_6, val_main_v37]
    exact Finset.sum_congr rfl fun s _ => by rw [v17, v36, mul_comm]
  funext i
  idx_vars i
  pointwise [val_main_v59]
  exact h42 _

end Cert.AProjDxRefIdeal.Forms
end
end
-- ==== Proof.AValue.lean ====
/-
  The kernel and the reference compute the same gradients of the first block's normalisation and projection.
-/
module

public import proofs.«01_k».proof.Defs
public import proofs.«01_k».proof.Proof.AFold
public import proofs.«01_k».proof.Proof.ARef
public import proofs.«01_k».proof.Proof.Gen.AProjDxRefIdeal.Run

@[expose] public section

set_option maxRecDepth 16384

noncomputable section

open Idealize.ShloMosaic Idealize.ShloMosaic.TcCoe Idealize.SL.Sem

namespace Cert.AProjDxIdeal.Fold

/-- At every memory the kernel's run and the reference's run, on the same arguments, end with the same four arrays: the
    gradients of the rows, the shift, the scale and the gain. Nothing is asked of the arguments. -/
theorem algebraic : Cert.algebraic_AProjDxIdeal_AProjDxRefIdeal := fun m ρ m' ρ' _ hag =>
  ⟨fun c => Value.G7 m c, fun c => Value.G8 m c, fun c => Value.G9 m c, fun c => Value.G10 m c, Value.run m ρ,
    (θ_run _ _ _).mono (fun r h c => by
      obtain ⟨e0, e1, e2, e3, e4, e5⟩ := hag c
      refine ⟨?_, ?_, ?_, ?_, (h c).2.2.2.2⟩
      · rw [(h c).1, AProjDxRefIdeal.Read.val_main_v60_eq, e0, e1, e2, e3, e4, e5]
        exact (AProjDxRefIdeal.Forms.dx_ref _ _ _ _ _ _).trans (dx_arr m c).symm
      · rw [(h c).2.1, AProjDxRefIdeal.Read.val_main_v61_eq, e3, e5]
        exact (AProjDxRefIdeal.Forms.shift_ref _ _).trans (shift_arr m c).symm
      · rw [(h c).2.2.1, AProjDxRefIdeal.Read.val_main_v62_eq, e0, e1, e3, e5]
        exact (AProjDxRefIdeal.Forms.scale_ref _ _ _ _).trans (scale_arr m c).symm
      · rw [(h c).2.2.2.1, AProjDxRefIdeal.Read.val_main_v59_eq, e0, e2, e3, e5]
        exact (AProjDxRefIdeal.Forms.gain_ref _ _ _ _).trans (gain_arr m c).symm) (AProjDxRefIdeal.Value.run m' ρ')⟩

end Cert.AProjDxIdeal.Fold
end
end
-- ==== Proof.BFold.lean ====
/-
  The second block's kernel, its six results read: the projection's cotangent is accumulated over the six column blocks of
  a row block; at the last of them the row block's gradient and the branch's gradient are stored, and the four sums over
  the rows are added to.
-/
module

public import proofs.«01_k».proof.Proof.Gen.BProjDxIdeal.Value
public import proofs.«01_k».proof.Proof.Sums
public import proofs.«01_k».proof.Proof.NormBwd
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.BProjDxIdeal.Fold
open Cert.BProjDxIdeal Cert.BProjDxIdeal.Gen

variable (m : (ℓ : Loc nD τ sig) → Buf (Elt Ideal) ℓ)

/-- The argument arrays, by row and channel; `X` is the residual stream after the gated branch. -/
def R (c : Dev nD) (s : Fin 8192) (d : Fin 1024) : EReal := m ((c : Thread nD τ).loc main_arg0) (ix3 0 s d)
def BR (c : Dev nD) (s : Fin 8192) (d : Fin 1024) : EReal := m ((c : Thread nD τ).loc main_arg1) (ix3 0 s d)
def GT (c : Dev nD) (d : Fin 1024) : EReal := m ((c : Thread nD τ).loc main_arg2) (ix2 0 ⟨2048 + d.val, by omega⟩)
def X (c : Dev nD) (s : Fin 8192) (d : Fin 1024) : EReal := R m c s d + GT m c d * BR m c s d
def G (c : Dev nD) (d : Fin 1024) : EReal := m ((c : Thread nD τ).loc main_arg3) (ix2 0 d)
def SC (c : Dev nD) (d : Fin 1024) : EReal := m ((c : Thread nD τ).loc main_arg4) (ix2 0 ⟨1024 + d.val, by omega⟩)
def W (c : Dev nD) (d : Fin 1024) (k : Fin 6144) : EReal := m ((c : Thread nD τ).loc main_arg5) (ix3 0 d k)
def D0 (c : Dev nD) (s : Fin 8192) (d : Fin 1024) : EReal := m ((c : Thread nD τ).loc main_arg6) (ix3 0 s d)
def DP (c : Dev nD) (s : Fin 8192) (k : Fin 6144) : EReal := m ((c : Thread nD τ).loc main_arg7) (ix3 0 s k)

/-- The cotangent of the modulated rows, and the gradient of the residual stream. -/
abbrev DH (c : Dev nD) : Fin 8192 → Fin 1024 → EReal := NormBwd.dh (DP m c) (W m c)
abbrev DX (c : Dev nD) : Fin 8192 → Fin 1024 → EReal := NormBwd.dx (X m c) (G m c) (SC m c) (DH m c) (D0 m c)

/-- Row `r` of the row block of point `t`. -/
abbrev row (t : Fin cfg0.N) (r : Fin 1024) : Fin 8192 :=
  ⟨t.val / 6 * 1024 + r.val, by have := t.isLt; have : cfg0.N = 48 := N_0; omega⟩

theorem idx : ∀ t : Fin cfg0.N, win0_0.index t = ![t.val % 6 / 2, t.val / 6, t.val % 2] ∧ win0_1.index t = ![0, t.val % 6]
    ∧ win0_3.index t = ![t.val / 6, 0] ∧ win0_4.index t = ![t.val / 6, 0] ∧ win0_5.index t = ![0, 0] ∧ win0_6.index t = ![0, 0]
    ∧ win0_7.index t = ![t.val / 6, 0] ∧ win0_8.index t = ![0, 0] ∧ win0_9.index t = ![t.val / 6, 0]
    ∧ win0_13.index t = ![t.val / 6, 0] :=
  (by decide +kernel : ∀ t : Fin grid0.N, _)

/-! ## The staged blocks are the arguments at the point's place -/

theorem blk0 (c : Dev nD) (t : Fin cfg0.N) (r k : Fin 1024) :
    iblk m c 0 t (ix3 0 r k) = DP m c (row t r) ⟨t.val % 6 * 1024 + k.val, by omega⟩ := by
  unfold DP
  blk_simp [iblk, idx t]
  entry_read
  pointwise
  blk_ext [idx t]

theorem blk1 (c : Dev nD) (t : Fin cfg0.N) (d k : Fin 1024) :
    iblk m c 1 t (ix2 d k) = W m c d ⟨t.val % 6 * 1024 + k.val, by omega⟩ := by
  unfold W
  blk_simp [iblk, idx t]
  entry_read
  pointwise
  blk_ext [idx t]

theorem place3 (t : Fin cfg0.N) (r d : Fin 1024) (f : S8192x1024.Idx → EReal) :
    f ((win0_3.blk t).view.emb (ix2 r d)) = f (ix2 (row t r) d) := by
  blk_ext [idx t]

theorem blk3 (c : Dev nD) (t : Fin cfg0.N) (r d : Fin 1024) : iblk m c 3 t (ix2 r d) = X m c (row t r) d := by
  unfold X R GT BR
  blk_simp [iblk, idx t]
  refine (place3 t r d _).trans ?_
  entry_read
  pointwise

theorem blk4 (c : Dev nD) (t : Fin cfg0.N) (r d : Fin 1024) : iblk m c 4 t (ix2 r d) = D0 m c (row t r) d := by
  unfold D0
  blk_simp [iblk, idx t]
  entry_read
  pointwise
  blk_ext [idx t]

theorem blk5 (c : Dev nD) (t : Fin cfg0.N) (d : Fin 1024) : iblk m c 5 t (ix2 0 d) = G m c d := by
  unfold G
  blk_simp [iblk, idx t]
  entry_read
  blk_ext [idx t]

theorem blk6 (c : Dev nD) (t : Fin cfg0.N) (d : Fin 1024) : iblk m c 6 t (ix2 0 d) = SC m c d := by
  unfold SC
  blk_simp [iblk, idx t]
  entry_read
  pointwise
  blk_ext [idx t]

theorem blk7 (c : Dev nD) (t : Fin cfg0.N) (r d : Fin 1024) : iblk m c 7 t (ix2 r d) = BR m c (row t r) d := by
  unfold BR
  blk_simp [iblk, idx t]
  entry_read
  pointwise
  blk_ext [idx t]

theorem blk8 (c : Dev nD) (t : Fin cfg0.N) (d : Fin 1024) : iblk m c 8 t (ix2 0 d) = GT m c d := by
  unfold GT
  blk_simp [iblk, idx t]
  entry_read
  pointwise
  blk_ext [idx t]

/-! ## What a point computes from its blocks -/

theorem p5 (c : Dev nD) (t : Fin cfg0.N) (r d : Fin 1024) : k0_pay5 (iblk m c 0 t) (iblk m c 1 t) (ix2 r d)
    = ∑ k : Fin 1024, DP m c (row t r) ⟨t.val % 6 * 1024 + k.val, by omega⟩ * W m c d ⟨t.val % 6 * 1024 + k.val, by omega⟩ := by
  pointwise [k0_pay5]
  exact Finset.sum_congr rfl fun k _ => congrArg₂ (· * ·) (blk0 m c t r k) (blk1 m c t d k)

theorem p6 (s x w) (j : S1024x1024.Idx) : k0_pay6 (F := Ideal) s x w j = s j + k0_pay5 x w j := by
  idx_vars j
  pointwise [k0_pay6, k0_pay5]

theorem p8 (c : Dev nD) (t : Fin cfg0.N) (r : Fin 1024) : k0_pay8 (F := Ideal) (iblk m c 3 t) (ix2 r 0) = NormBwd.rs (X m c) (row t r) := by
  unfold NormBwd.rs NormBwd.msq
  pointwise [k0_pay8, k0_pay7]
  simp only [blk3]

theorem p9 (c : Dev nD) (t : Fin cfg0.N) (r d : Fin 1024) : k0_pay9 (F := Ideal) (iblk m c 3 t) (ix2 r d) = X m c (row t r) d * NormBwd.rs (X m c) (row t r) := by
  rw [← p8]
  pointwise [k0_pay9, k0_pay7]
  rw [blk3]

/-- The row block's gradient from the blocks and the accumulated product `S`. -/
abbrev dxBlk (c : Dev nD) (t : Fin cfg0.N) (S : Vec Ideal S1024x1024 .f32) : FVec Ideal S1024x1024 .f32 :=
  k0_pay14 (iblk m c 5 t) (k0_pay8 (iblk m c 3 t)) (k0_pay9 (iblk m c 3 t)) (k0_pay12 S (iblk m c 6 t)) (iblk m c 4 t)

theorem p14 (c : Dev nD) (t : Fin cfg0.N) (S : Vec Ideal S1024x1024 .f32) (hS : ∀ r d, S (ix2 r d) = DH m c (row t r) d) (r d : Fin 1024) :
    dxBlk m c t S (ix2 r d) = DX m c (row t r) d := by
  unfold DX NormBwd.dx dxBlk
  pointwise [k0_pay14, k0_pay12]
  simp only [hS, p9, p8, blk4, blk5, blk6]

/-! ## The accumulated product -/

/-- At the last column block the scratch holds the whole product of the row block. -/
theorem scratch (c : Dev nD) (t : Fin cfg0.N) (ht : t.val % 6 = 5) (r d : Fin 1024) :
    (outsAt0 m c t.val t.isLt).2.2.2.2.2.2 (ix2 r d) = DH m c (row t r) d := by
  rw [Pipeline.eq_sum_fin_of_reset_step_apply_of_flush (fun n h => (outsAt0 m c n h).2.2.2.2.2.2) 6 (fun _ => 0)
    (fun t => k0_pay5 (iblk m c 0 t) (iblk m c 1 t)) ?_ ?_ t ht (ix2 r d)]
  · rw [zero_add]
    unfold DH NormBwd.dh
    rw [Fin.sum_univ_tiles 6 1024 rfl]
    refine Finset.sum_congr rfl fun s _ => ?_
    rw [p5]
    have e1 : (6 * (t.val / 6) + s.val) % 6 = s.val := by omega
    have e2 : (6 * (t.val / 6) + s.val) / 6 = t.val / 6 := by omega
    refine Finset.sum_congr rfl fun k _ => ?_
    simp only [row, e1, e2]
  · intro t h j
    rw [zero_add]
    by_cases h0 : t.val % 48 = 0
    · rw [outsAt0_A m c t h0 h (by omega) (by omega)]
      frame_out
    · rw [outsAt0_D m c t h0 h (by omega) (by omega)]
      frame_out
  · intro t h j
    rw [← p6]
    by_cases h3 : t.val % 6 = 5
    · rw [outsAt0_C m c t (by omega) h (by omega) h3]
      frame_out
      rw [read_unread_whole]
    · rw [outsAt0_B m c t (by omega) h (by omega) h3]
      frame_out
      rw [read_unread_whole]

/-- What the last column block's point leaves: the accumulated product in the scratch, and the six results' blocks. -/
theorem last (c : Dev nD) (t : Fin cfg0.N) (h3 : t.val % 6 = 5) :
    ∃ S : Vec Ideal S1024x1024 .f32, (∀ r d, S (ix2 r d) = DH m c (row t r) d) ∧
    (outsAt0 m c t.val t.isLt) = (dxBlk m c t S,
      k0_pay10 S (outsAt0 m c (t.val - 1) (by omega)).2.1,
      k0_pay11 S (iblk m c 5 t) (iblk m c 3 t) (outsAt0 m c (t.val - 1) (by omega)).2.2.1,
      k0_pay13 (k0_pay9 (iblk m c 3 t)) (k0_pay12 S (iblk m c 6 t)) (outsAt0 m c (t.val - 1) (by omega)).2.2.2.1,
      k0_pay16 (iblk m c 5 t) (k0_pay8 (iblk m c 3 t)) (k0_pay9 (iblk m c 3 t)) (k0_pay12 S (iblk m c 6 t)) (iblk m c 4 t) (iblk m c 8 t),
      k0_pay15 (iblk m c 5 t) (k0_pay8 (iblk m c 3 t)) (k0_pay9 (iblk m c 3 t)) (k0_pay12 S (iblk m c 6 t)) (iblk m c 4 t)
        (outsAt0 m c (t.val - 1) (by omega)).2.2.2.2.2.1 (iblk m c 7 t), S) := by
  refine ⟨(outsAt0 m c t.val t.isLt).2.2.2.2.2.2, scratch m c t h3, ?_⟩
  rw [outsAt0_C m c t (by omega) (by omega) (by omega) h3]
  frame_out

/-- Any other point after the first keeps the four sums. -/
theorem kept (c : Dev nD) (t : Fin cfg0.N) (h : t.val ≠ 0) (h3 : ¬ t.val % 6 = 5) :
    (outsAt0 m c t.val t.isLt).2.1 = (outsAt0 m c (t.val - 1) (by omega)).2.1
    ∧ (outsAt0 m c t.val t.isLt).2.2.1 = (outsAt0 m c (t.val - 1) (by omega)).2.2.1
    ∧ (outsAt0 m c t.val t.isLt).2.2.2.1 = (outsAt0 m c (t.val - 1) (by omega)).2.2.2.1
    ∧ (outsAt0 m c t.val t.isLt).2.2.2.2.2.1 = (outsAt0 m c (t.val - 1) (by omega)).2.2.2.2.2.1 := by
  have hN : t.val < 48 := lt_of_lt_of_eq t.isLt N_0
  by_cases h1 : t.val % 6 = 0
  · rw [outsAt0_D m c t (by omega) h1 (by omega) h3]
    exact ⟨rfl, rfl, rfl, rfl⟩
  · rw [outsAt0_B m c t (by omega) h1 (by omega) h3]
    exact ⟨rfl, rfl, rfl, rfl⟩

/-- The first point sets the four sums to zero. -/
theorem start (c : Dev nD) (h : 0 < cfg0.N) (d : Fin 1024) :
    (outsAt0 m c 0 h).2.1 (ix2 0 d) = 0 ∧ (outsAt0 m c 0 h).2.2.1 (ix2 0 d) = 0 ∧ (outsAt0 m c 0 h).2.2.2.1 (ix2 0 d) = 0
    ∧ (outsAt0 m c 0 h).2.2.2.2.2.1 (ix2 0 d) = 0 := by
  have := outsAt0_A m c ⟨0, h⟩ rfl rfl (by simp) (by simp)
  rw [show outsAt0 m c 0 h = _ from this]
  frame_out
  refine ⟨?_, ?_, ?_, ?_⟩
  · pointwise [k0_pay1]
  · pointwise [k0_pay2]
  · pointwise [k0_pay3]
  · pointwise [k0_pay4]

/-- Row `r` of row block `q`. -/
abbrev qrow (q : Fin 8) (r : Fin 1024) : Fin 8192 := ⟨q.val * 1024 + r.val, by omega⟩

/-- A sum the kernel adds to at the end of each row block is, after the last point, the sum over all rows of what a row adds. -/
theorem swept (c : Dev nD) (p : (n : ℕ) → n < cfg0.N → EReal) (f : Fin 8192 → EReal) (h0 : ∀ h, p 0 h = 0)
    (hs : ∀ n (h : n < cfg0.N), n ≠ 0 → ¬ n % 6 = 6 - 1 → p n h = p (n - 1) (by omega))
    (hf : ∀ (t : Fin cfg0.N), t.val % 6 = 5 → p t.val t.isLt = p (t.val - 1) (by omega) + ∑ r, f (row t r))
    (h : 47 < cfg0.N) : p 47 h = ∑ s, f s := by
  rw [Math.carry_sum 6 8 N_0 (by decide) p (fun q => ∑ r, f (qrow q r)) h0 hs (fun n h hr => hf ⟨n, h⟩ hr) 47 h N_0.symm]
  exact (Fin.sum_univ_tiles 8 1024 rfl f).symm

/-- The gradient of the shift, after the last point. -/
theorem shift_last (c : Dev nD) (h : 47 < cfg0.N) (d : Fin 1024) :
    (outsAt0 m c 47 h).2.1 (ix2 0 d) = NormBwd.dshift (DH m c) d := by
  refine swept c (fun n h => (outsAt0 m c n h).2.1 (ix2 0 d)) (fun s => DH m c s d) (fun h => (start m c h d).1)
    (fun n h hn hr => by rw [(kept m c ⟨n, h⟩ hn hr).1]) (fun t hr => ?_) h
  obtain ⟨S, hS, e⟩ := last m c t hr
  rw [e]
  pointwise [k0_pay10]
  exact congrArg _ (Finset.sum_congr rfl fun r _ => hS r d)

/-- The gradient of the scale, after the last point. -/
theorem scale_last (c : Dev nD) (h : 47 < cfg0.N) (d : Fin 1024) :
    (outsAt0 m c 47 h).2.2.1 (ix2 0 d) = NormBwd.dscale (X m c) (G m c) (DH m c) d := by
  refine swept c (fun n h => (outsAt0 m c n h).2.2.1 (ix2 0 d)) (fun s => DH m c s d * (X m c s d * NormBwd.rs (X m c) s * G m c d))
    (fun h => (start m c h d).2.1) (fun n h hn hr => by rw [(kept m c ⟨n, h⟩ hn hr).2.1]) (fun t hr => ?_) h
  obtain ⟨S, hS, e⟩ := last m c t hr
  rw [e]
  pointwise [k0_pay11]
  exact congrArg _ (Finset.sum_congr rfl fun r _ => by rw [hS r d, p9 m c t, blk5 m c t])

/-- The gradient of the gain, after the last point. -/
theorem gain_last (c : Dev nD) (h : 47 < cfg0.N) (d : Fin 1024) :
    (outsAt0 m c 47 h).2.2.2.1 (ix2 0 d) = NormBwd.dgain (X m c) (SC m c) (DH m c) d := by
  refine swept c (fun n h => (outsAt0 m c n h).2.2.2.1 (ix2 0 d)) (fun s => DH m c s d * (1 + SC m c d) * (X m c s d * NormBwd.rs (X m c) s))
    (fun h => (start m c h d).2.2.1) (fun n h hn hr => by rw [(kept m c ⟨n, h⟩ hn hr).2.2.1]) (fun t hr => ?_) h
  obtain ⟨S, hS, e⟩ := last m c t hr
  rw [e]
  pointwise [k0_pay13, k0_pay12]
  exact congrArg _ (Finset.sum_congr rfl fun r _ => by rw [hS r d, p9 m c t, blk6 m c t])

/-- The gradient of the gate, after the last point. -/
theorem gate_last (c : Dev nD) (h : 47 < cfg0.N) (d : Fin 1024) :
    (outsAt0 m c 47 h).2.2.2.2.2.1 (ix2 0 d) = ∑ s, DX m c s d * BR m c s d := by
  refine swept c (fun n h => (outsAt0 m c n h).2.2.2.2.2.1 (ix2 0 d)) (fun s => DX m c s d * BR m c s d)
    (fun h => (start m c h d).2.2.2) (fun n h hn hr => by rw [(kept m c ⟨n, h⟩ hn hr).2.2.2]) (fun t hr => ?_) h
  obtain ⟨S, hS, e⟩ := last m c t hr
  rw [e]
  pointwise [k0_pay15]
  exact congrArg _ (Finset.sum_congr rfl fun r _ => by rw [blk7 m c t, ← p14 m c t S hS r d])

/-! ## The result arrays -/

theorem dx_arr (c : Dev nD) : Value.G9 m c = fun i : S8192x1024.Idx => DX m c (i 0) (i 1) := by
  rw [← Value.final9]
  refine (dats m 0 c).arrAt_eq_of_covers 9 _ (by decide +kernel) fun t hf y => ?_
  idx_vars y
  have hm : t.val % 6 = 5 := (flush0_9 t).mp hf
  obtain ⟨S, hS, e⟩ := last m c t hm
  blk_simp
  rw [after0_9, e]
  exact (p14 m c t S hS y0 y1).trans (congrArg₂ (DX m c) (Fin.ext (by blk_simp [idx t])) (Fin.ext (by blk_simp [idx t])))

theorem branch_arr (c : Dev nD) : Value.G13 m c = fun i : S8192x1024.Idx => GT m c (i 1) * DX m c (i 0) (i 1) := by
  rw [← Value.final13]
  refine (dats m 0 c).arrAt_eq_of_covers 13 _ (by decide +kernel) fun t hf y => ?_
  idx_vars y
  have hm : t.val % 6 = 5 := (flush0_13 t).mp hf
  obtain ⟨S, hS, e⟩ := last m c t hm
  have key : k0_pay16 (iblk m c 5 t) (k0_pay8 (iblk m c 3 t)) (k0_pay9 (iblk m c 3 t)) (k0_pay12 S (iblk m c 6 t)) (iblk m c 4 t)
      (iblk m c 8 t) (ix2 y0 y1) = GT m c y1 * DX m c (row t y0) y1 := by
    rw [← p14 m c t S hS y0 y1, ← blk8 m c t y1]
    pointwise [k0_pay16]
  blk_simp
  rw [after0_13, e]
  exact key.trans (congrArg₂ (fun s d => GT m c d * DX m c s d) (Fin.ext (by blk_simp [idx t])) (Fin.ext (by blk_simp [idx t])))

theorem shift_arr (c : Dev nD) : Value.G10 m c = fun i : S1x1024.Idx => NormBwd.dshift (DH m c) (i 1) := by
  rw [Value.G10_last, ← Value.outsAt0_sweep m c 47 (lt_of_lt_of_eq (by decide) N_0.symm)]
  funext i
  idx_vars i
  obtain rfl : i0 = 0 := Subsingleton.elim _ _
  exact shift_last m c _ i1

theorem scale_arr (c : Dev nD) : Value.G11 m c = fun i : S1x1024.Idx => NormBwd.dscale (X m c) (G m c) (DH m c) (i 1) := by
  rw [Value.G11_last, ← Value.outsAt0_sweep m c 47 (lt_of_lt_of_eq (by decide) N_0.symm)]
  funext i
  idx_vars i
  obtain rfl : i0 = 0 := Subsingleton.elim _ _
  exact scale_last m c _ i1

theorem gain_arr (c : Dev nD) : Value.G12 m c = fun i : S1x1024.Idx => NormBwd.dgain (X m c) (SC m c) (DH m c) (i 1) := by
  rw [Value.G12_last, ← Value.outsAt0_sweep m c 47 (lt_of_lt_of_eq (by decide) N_0.symm)]
  funext i
  idx_vars i
  obtain rfl : i0 = 0 := Subsingleton.elim _ _
  exact gain_last m c _ i1

theorem gate_arr (c : Dev nD) : Value.G14 m c = fun i : S1x1024.Idx => ∑ s, DX m c s (i 1) * BR m c s (i 1) := by
  rw [Value.G14_last, ← Value.outsAt0_sweep m c 47 (lt_of_lt_of_eq (by decide) N_0.symm)]
  funext i
  idx_vars i
  obtain rfl : i0 = 0 := Subsingleton.elim _ _
  exact gate_last m c _ i1

end Cert.BProjDxIdeal.Fold
end
-- ==== Proof.BRef.lean ====
/-
  The reference's six results of the second block's gradient, read index by index.
-/
module

public import proofs.«01_k».proof.Proof.Gen.BProjDxRefIdeal.Read
public import proofs.«01_k».proof.Proof.NormBwd
public import proofs.«01_k».proof.Proof.HostSum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.BProjDxRefIdeal.Forms
open Cert.BProjDxRefIdeal Cert.BProjDxRefIdeal.Read

variable (x br : (⟨S1x8192x1024, .f32⟩ : BufTy).Contents (Elt Ideal)) (md0 : (⟨S1x3072, .f32⟩ : BufTy).Contents (Elt Ideal))
  (g : (⟨S1x1024, .f32⟩ : BufTy).Contents (Elt Ideal)) (md : (⟨S1x3072, .f32⟩ : BufTy).Contents (Elt Ideal))
  (w : (⟨S1x1024x6144, .f32⟩ : BufTy).Contents (Elt Ideal)) (dx0 : (⟨S1x8192x1024, .f32⟩ : BufTy).Contents (Elt Ideal))
  (dp : (⟨S1x8192x6144, .f32⟩ : BufTy).Contents (Elt Ideal))

/-- The arguments by row and channel; `X` is the residual stream after the gated branch. -/
abbrev R (s : Fin 8192) (d : Fin 1024) : EReal := x (ix3 0 s d)
abbrev GT (d : Fin 1024) : EReal := md0 (ix2 0 ⟨2048 + d.val, by omega⟩)
abbrev X (s : Fin 8192) (d : Fin 1024) : EReal := R x s d + GT md0 d * R br s d
abbrev G (d : Fin 1024) : EReal := g (ix2 0 d)
abbrev SC (d : Fin 1024) : EReal := md (ix2 0 ⟨1024 + d.val, by omega⟩)
abbrev W (d : Fin 1024) (k : Fin 6144) : EReal := w (ix3 0 d k)
abbrev DP (s : Fin 8192) (k : Fin 6144) : EReal := dp (ix3 0 s k)
abbrev DH : Fin 8192 → Fin 1024 → EReal := NormBwd.dh (DP dp) (W w)
/-- The gradient of the residual stream. -/
abbrev DX : Fin 8192 → Fin 1024 → EReal := NormBwd.dx (X x br md0) (G g) (SC md) (DH w dp) (R dx0)

theorem v10 (s : Fin 8192) (d : Fin 1024) : val_main_v10 (F := Ideal) x br md0 (ix3 0 s d) = X x br md0 s d := by
  pointwise [val_main_v10, val_main_v9, val_main_v8, val_main_v3, val_main_v0]

theorem v18 (s : Fin 8192) : val_main_v18 (F := Ideal) x br md0 (ix3 0 s 0) = NormBwd.msq (X x br md0) s := by
  unfold NormBwd.msq
  pointwise [val_main_v18, val_main_v17, val_main_cst_1, val_main_v16, val_main_v15, val_main_cst_0, val_main_v14, val_main_v13, val_main_v12, val_main_cst]
  simp only [v10]

theorem v19 (s : Fin 8192) : val_main_v19 (F := Ideal) x br md0 (ix3 0 s 0) = NormBwd.rs (X x br md0) s := by
  pointwise [val_main_v19]
  rw [v18]; rfl

theorem v22 (s : Fin 8192) : val_main_v22 (F := Ideal) x br md0 (ix3 0 s 0)
    = Ideal.ofBits .f32 3204448256#32 * Ideal.div (NormBwd.rs (X x br md0) s) (NormBwd.msq (X x br md0) s) := by
  pointwise [val_main_v22, val_main_v21, val_main_cst_2, val_main_v20]
  rw [v18, v19]

theorem v24 (s : Fin 8192) (d : Fin 1024) : val_main_v24 (F := Ideal) x br md0 (ix3 0 s d) = X x br md0 s d * NormBwd.rs (X x br md0) s := by
  pointwise [val_main_v24, val_main_v23]
  rw [v19, v10]

theorem v27 (s : Fin 8192) (d : Fin 1024) :
    val_main_v27 (F := Ideal) x br md0 g (ix3 0 s d) = X x br md0 s d * NormBwd.rs (X x br md0) s * G g d := by
  pointwise [val_main_v27, val_main_v26, val_main_v25, val_main_v11]
  rw [v24]

theorem v29 (d : Fin 1024) : val_main_v29 (F := Ideal) md (ix3 0 0 d) = 1 + SC md d := by
  pointwise [val_main_v29, val_main_v28, val_main_cst_3, val_main_v6, val_main_v4]

theorem v36 (s : Fin 8192) (d : Fin 1024) : val_main_v36 (F := Ideal) w dp (ix3 0 s d) = DH w dp s d := by
  unfold DH NormBwd.dh
  pointwise [val_main_v36, val_main_v34]

theorem v43 (s : Fin 8192) (d : Fin 1024) : val_main_v43 (F := Ideal) md w dp (ix3 0 s d) = DH w dp s d * (1 + SC md d) := by
  pointwise [val_main_v43, val_main_v42]
  rw [v36, v29]

theorem v48 (s : Fin 8192) (d : Fin 1024) : val_main_v48 (F := Ideal) g md w dp (ix3 0 s d) = DH w dp s d * (1 + SC md d) * G g d := by
  pointwise [val_main_v48, val_main_v47, val_main_v25, val_main_v11]
  rw [v43]

theorem v58 (s : Fin 8192) : val_main_v58 (F := Ideal) x br md0 g md w dp (ix3 0 s 0)
    = NormBwd.rowFactor (X x br md0) (G g) (SC md) (DH w dp) s := by
  unfold NormBwd.rowFactor
  pointwise [val_main_v58, val_main_v57, val_main_cst_9, val_main_v56, val_main_v52, val_main_v51, val_main_cst_8, val_main_v50]
  simp only [v22, v48, v10]

theorem v59 (s : Fin 8192) : val_main_v59 (F := Ideal) x br md0 g md w dp (ix1 s)
    = NormBwd.rowFactor (X x br md0) (G g) (SC md) (DH w dp) s := by
  unfold val_main_v59
  simp only [Host.reduceAdd, Ideal.hostReduceAdd_def]
  rw [Cert.Math.hostReduceAdd_unit02 _ _ _ s, v58]
  pointwise [val_main_cst_10]

theorem v65 (s : Fin 8192) (d : Fin 1024) : val_main_v65 (F := Ideal) x br md0 g md w dx0 dp (ix3 0 s d)
    = DX x br md0 g md w dx0 dp s d := by
  unfold DX
  rw [NormBwd.dx_eq]
  pointwise [val_main_v65, val_main_v64, val_main_v63, val_main_v62, val_main_v61, val_main_v60, val_main_v55, val_main_v54, val_main_v53]
  simp only [v59, v48, v19, v10]

/-- The gradient of the rows. -/
theorem dx_ref : val_main_v73 (F := Ideal) x br md0 g md w dx0 dp = fun i : S8192x1024.Idx =>
    DX x br md0 g md w dx0 dp (i 0) (i 1) := by
  funext i
  idx_vars i
  pointwise [val_main_v73]
  simp only [v65]

/-- The gradient of the shift. -/
theorem shift_ref : val_main_v74 (F := Ideal) w dp = fun i : S1x1024.Idx => NormBwd.dshift (DH w dp) (i 1) := by
  funext i
  idx_vars i
  unfold NormBwd.dshift
  pointwise [val_main_v74, val_main_v38, val_main_v37, val_main_cst_4]
  simp only [v36]

/-- The gradient of the scale. -/
theorem scale_ref : val_main_v75 (F := Ideal) x br md0 g w dp = fun i : S1x1024.Idx =>
    NormBwd.dscale (X x br md0) (G g) (DH w dp) (i 1) := by
  funext i
  idx_vars i
  unfold NormBwd.dscale
  pointwise [val_main_v75, val_main_v41, val_main_v40, val_main_cst_5, val_main_v39]
  exact Finset.sum_congr rfl fun s _ => by rw [v36, v27, mul_comm]

/-- The gradient of the gain. -/
theorem gain_ref : val_main_v66 (F := Ideal) x br md0 md w dp = fun i : S1x1024.Idx =>
    NormBwd.dgain (X x br md0) (SC md) (DH w dp) (i 1) := by
  have h49 : ∀ d, val_main_v49 (F := Ideal) x br md0 md w dp (ix1 d) = NormBwd.dgain (X x br md0) (SC md) (DH w dp) d := by
    intro d
    unfold val_main_v49 NormBwd.dgain
    simp only [Host.reduceAdd, Ideal.hostReduceAdd_def]
    rw [Cert.Math.hostReduceAdd_unit01 _ _ _ d]
    pointwise [val_main_cst_7, val_main_v46, val_main_v45, val_main_cst_6, val_main_v44]
    exact Finset.sum_congr rfl fun s _ => by rw [v24, v43, mul_comm]
  funext i
  idx_vars i
  pointwise [val_main_v66]
  exact h49 _

/-- The gradient of the branch: the gate times the rows' gradient. -/
theorem branch_ref : val_main_v77 (F := Ideal) x br md0 g md w dx0 dp = fun i : S8192x1024.Idx =>
    GT md0 (i 1) * DX x br md0 g md w dx0 dp (i 0) (i 1) := by
  funext i
  idx_vars i
  pointwise [val_main_v77, val_main_v76, val_main_v69, val_main_v68, val_main_v67, val_main_v3, val_main_v0]
  simp only [v65]

/-- The gradient of the gate: the sum over the rows of the rows' gradient times the branch. -/
theorem gate_ref : val_main_v78 (F := Ideal) x br md0 g md w dx0 dp = fun i : S1x1024.Idx =>
    ∑ s, DX x br md0 g md w dx0 dp s (i 1) * R br s (i 1) := by
  funext i
  idx_vars i
  pointwise [val_main_v78, val_main_v72, val_main_v71, val_main_cst_11, val_main_v70, val_main_v67]
  simp only [v65]

end Cert.BProjDxRefIdeal.Forms
end
end
-- ==== Proof.BValue.lean ====
/-
  The kernel and the reference compute the same gradients of the second block's normalisation and projection.
-/
module

public import proofs.«01_k».proof.Defs
public import proofs.«01_k».proof.Proof.BFold
public import proofs.«01_k».proof.Proof.BRef
public import proofs.«01_k».proof.Proof.Gen.BProjDxRefIdeal.Run

@[expose] public section

set_option maxRecDepth 16384

noncomputable section

open Idealize.ShloMosaic Idealize.ShloMosaic.TcCoe Idealize.SL.Sem

namespace Cert.BProjDxIdeal.Fold

/-- At every memory the kernel's run and the reference's run, on the same arguments, end with the same six arrays: the
    gradients of the rows, the shift, the scale, the gain, the branch and its gate. Nothing is asked of the arguments. -/
theorem algebraic : Cert.algebraic_BProjDxIdeal_BProjDxRefIdeal := fun m ρ m' ρ' _ hag =>
  ⟨fun c => Value.G9 m c, fun c => Value.G10 m c, fun c => Value.G11 m c, fun c => Value.G12 m c, fun c => Value.G13 m c,
    fun c => Value.G14 m c, Value.run m ρ,
    (θ_run _ _ _).mono (fun r h c => by
      obtain ⟨e0, e1, e2, e3, e4, e5, e6, e7⟩ := hag c
      refine ⟨?_, ?_, ?_, ?_, ?_, ?_, (h c).2.2.2.2.2.2⟩
      · rw [(h c).1, BProjDxRefIdeal.Read.val_main_v73_eq, e0, e1, e2, e3, e4, e5, e6, e7]
        exact (BProjDxRefIdeal.Forms.dx_ref _ _ _ _ _ _ _ _).trans (dx_arr m c).symm
      · rw [(h c).2.1, BProjDxRefIdeal.Read.val_main_v74_eq, e5, e7]
        exact (BProjDxRefIdeal.Forms.shift_ref _ _).trans (shift_arr m c).symm
      · rw [(h c).2.2.1, BProjDxRefIdeal.Read.val_main_v75_eq, e0, e1, e2, e3, e5, e7]
        exact (BProjDxRefIdeal.Forms.scale_ref _ _ _ _ _ _).trans (scale_arr m c).symm
      · rw [(h c).2.2.2.1, BProjDxRefIdeal.Read.val_main_v66_eq, e0, e1, e2, e4, e5, e7]
        exact (BProjDxRefIdeal.Forms.gain_ref _ _ _ _ _ _).trans (gain_arr m c).symm
      · rw [(h c).2.2.2.2.1, BProjDxRefIdeal.Read.val_main_v77_eq, e0, e1, e2, e3, e4, e5, e6, e7]
        exact (BProjDxRefIdeal.Forms.branch_ref _ _ _ _ _ _ _ _).trans (branch_arr m c).symm
      · rw [(h c).2.2.2.2.2.1, BProjDxRefIdeal.Read.val_main_v78_eq, e0, e1, e2, e3, e4, e5, e6, e7]
        exact (BProjDxRefIdeal.Forms.gate_ref _ _ _ _ _ _ _ _).trans (gate_arr m c).symm) (BProjDxRefIdeal.Value.run m' ρ')⟩

end Cert.BProjDxIdeal.Fold
end
end
-- ==== Proof.ConvGrad.lean ====
/-
  The gradient of the gated short convolution, of one channel over the rows: the forms that kernel and reference are both
  read to, the logistic function in its two spellings, and the two ways to group the gradient of `silu`.
-/
module

public import Idealize.ShloMosaic.PureOps.Ideal
public import Idealize.ShloMosaic.Lib.Pointwise

@[expose] public section

noncomputable section

open Idealize.ShloMosaic

namespace ConvGrad

/-- The logistic function by the hyperbolic tangent. -/
def sg (z : EReal) : EReal := Ideal.ofBits .f32 1056964608#32 * Ideal.tanh (Ideal.ofBits .f32 1056964608#32 * z) + Ideal.ofBits .f32 1056964608#32

theorem half_eq : Ideal.ofBits .f32 1056964608#32 = ((1 / 2 : ℝ) : EReal) := by
  simp [Ideal.ofBits, Ideal.ieee, -EReal.coe_mul]; norm_num

theorem tanh_half (x : ℝ) : 1 / 2 * Real.tanh (1 / 2 * x) + 1 / 2 = (1 + Real.exp (-x))⁻¹ := by
  rw [Real.tanh_eq_sinh_div_cosh, Real.sinh_eq, Real.cosh_eq]
  have h : Real.exp (-x) = Real.exp (-(1 / 2 * x)) / Real.exp (1 / 2 * x) := by rw [← Real.exp_sub]; congr 1; ring
  rw [h]
  have ha := Real.exp_pos (1 / 2 * x)
  have hb := Real.exp_pos (-(1 / 2 * x))
  field_simp
  ring

theorem sg_coe (x : ℝ) : sg x = (((1 + Real.exp (-x))⁻¹ : ℝ) : EReal) := by
  unfold sg
  rw [half_eq, ← EReal.coe_mul, Ideal.tanh_coe, ← EReal.coe_mul, ← EReal.coe_add, tanh_half]

/-- The logistic function as a quotient is the same, at the infinities too. -/
theorem logistic_eq (z : EReal) : Ideal.logistic z = sg z := by
  induction z with
  | coe x => rw [sg_coe, Ideal.logistic_coe]
  | bot =>
    unfold sg
    rw [half_eq, EReal.coe_mul_bot_of_pos (by norm_num), Ideal.tanh_bot, Ideal.logistic_bot, mul_neg, mul_one]
    norm_cast; norm_num
  | top =>
    unfold sg
    rw [half_eq, EReal.coe_mul_top_of_pos (by norm_num), Ideal.tanh_top, Ideal.logistic_top, mul_one]
    norm_cast; norm_num

theorem div_eq (z : EReal) : Ideal.div 1 (1 + Ideal.exp (-z)) = sg z := logistic_eq z

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.sum {ι : Type*} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

theorem IsReal.of_ne {x : EReal} (ht : x ≠ ⊤) (hb : x ≠ ⊥) : IsReal x := ⟨x.toReal, (EReal.coe_toReal ht hb).symm⟩

/-- The gradient of `silu` at a real point, for a real cotangent: one product, or the sum of the product rule. -/
theorem silu_grad {a z : EReal} (ha : IsReal a) (hz : IsReal z) :
    a * (sg z * (1 + z * (1 - sg z))) = a * sg z + a * z * (sg z * (1 - sg z)) := by
  obtain ⟨a, rfl⟩ := ha
  obtain ⟨z, rfl⟩ := hz
  rw [sg_coe]
  generalize (1 + Real.exp (-z))⁻¹ = σ
  norm_cast
  ring

/-! ## One channel -/

variable (dy z bg cg xi : Fin 8192 → EReal) (w0 w1 w2 b : EReal)

/-- `k` rows earlier, zero before the first row. -/
def down (k : ℕ) (f : Fin 8192 → EReal) (s : Fin 8192) : EReal := if h : s.val < k then 0 else f ⟨s.val - k, by omega⟩

/-- `k` rows later, zero after the last row. -/
def up (k : ℕ) (f : Fin 8192 → EReal) (s : Fin 8192) : EReal := if h : s.val + k < 8192 then f ⟨s.val + k, h⟩ else 0

def cx (s : Fin 8192) : EReal := cg s * xi s
def silu (s : Fin 8192) : EReal := z s * sg (z s)
def conv (s : Fin 8192) : EReal := b + w2 * cx cg xi s + w0 * down 2 (cx cg xi) s + w1 * down 1 (cx cg xi) s
/-- The gradient of the convolution's result. -/
def dconv (s : Fin 8192) : EReal := dy s * silu z s * bg s
/-- The gradient of the convolved product. -/
def dcx (s : Fin 8192) : EReal := w2 * dconv dy z bg s + w1 * up 1 (dconv dy z bg) s + w0 * up 2 (dconv dy z bg) s
/-- The four gradients of the projection's parts: the gate before, the gate of the input, the input, the gate after. -/
def dbg (s : Fin 8192) : EReal := dy s * silu z s * conv cg xi w0 w1 w2 b s
def dcg (s : Fin 8192) : EReal := dcx dy z bg w0 w1 w2 s * xi s
def dxi (s : Fin 8192) : EReal := dcx dy z bg w0 w1 w2 s * cg s
def dz (s : Fin 8192) : EReal :=
  dy s * bg s * conv cg xi w0 w1 w2 b s * (sg (z s) * (1 + z s * (1 - sg (z s))))
/-- The four of them, by the part's number. -/
def part (q : Fin 4) (s : Fin 8192) : EReal :=
  if q.val = 0 then dbg dy z cg xi w0 w1 w2 b s
  else if q.val = 1 then dcg dy z bg xi w0 w1 w2 s
  else if q.val = 2 then dxi dy z bg cg w0 w1 w2 s
  else dz dy z bg cg xi w0 w1 w2 b s
/-- The gradients of the taps and of the bias. -/
def dw2 : EReal := ∑ s, dconv dy z bg s * cx cg xi s
def dw1 : EReal := ∑ s, dconv dy z bg s * down 1 (cx cg xi) s
def dw0 : EReal := ∑ s, dconv dy z bg s * down 2 (cx cg xi) s
def db : EReal := ∑ s, dconv dy z bg s

theorem IsReal.down {k : ℕ} {f : Fin 8192 → EReal} (h : ∀ s, IsReal (f s)) (s : Fin 8192) : IsReal (down k f s) := by
  unfold ConvGrad.down
  split
  · exact IsReal.zero
  · exact h _

theorem IsReal.cx {cg xi : Fin 8192 → EReal} (hc : ∀ s, IsReal (cg s)) (hx : ∀ s, IsReal (xi s)) (s : Fin 8192) :
    IsReal (cx cg xi s) := (hc s).mul (hx s)

theorem IsReal.conv {cg xi : Fin 8192 → EReal} {w0 w1 w2 b : EReal} (hc : ∀ s, IsReal (cg s)) (hx : ∀ s, IsReal (xi s))
    (h0 : IsReal w0) (h1 : IsReal w1) (h2 : IsReal w2) (hb : IsReal b) (s : Fin 8192) : IsReal (conv cg xi w0 w1 w2 b s) :=
  ((hb.add (h2.mul (IsReal.cx hc hx s))).add (h0.mul (IsReal.down (IsReal.cx hc hx) s))).add
    (h1.mul (IsReal.down (IsReal.cx hc hx) s))

end ConvGrad
-- ==== Proof.ConvTile.lean ====
/-
  One part of 256 channels of the short convolution's kernel over one row block: what its stores hold, from what its loads
  hold. The kernel runs through four such parts; their texts are one function of the loaded vectors.
-/
module

public import proofs.«01_k».proof.Proof.Gen.ConvBwdIdeal.Skeleton
public import proofs.«01_k».proof.Proof.ConvGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvBwdIdeal.Tile
open Cert.ConvBwdIdeal Cert.ConvBwdIdeal.Gen ConvGrad

/-- Row `r` of row block `q`. -/
abbrev row (q : Fin 16) (r : Fin 512) : Fin 8192 := ⟨q.val * 512 + r.val, by omega⟩

/-- What the loads of one part hold, channel by channel: the row block of each array, and next to it the eight rows
    before and after, where there are such rows. -/
structure Holds (q : Fin 16) (dy z bg cg xi : Fin 256 → Fin 8192 → EReal) (w0 w1 w2 b : Fin 256 → EReal)
    (xwo : Vec Ideal S256x1024 .bf16) (xdb : Vec Ideal S512x1024 .bf16) (xdbn : Vec Ideal S16x1024 .bf16)
    (xbg xcg xxi xz : Vec Ideal S1x512x256 .f32) (x0 x1 x2 xb : Vec Ideal S1x256 .f32)
    (hcg hxi hz hbg : Vec Ideal S1x16x256 .f32) (pos last : BitVec 1) : Prop where
  e_dy : ∀ r k, ∑ d : Fin 1024, xdb (ix2 r d) * xwo (ix2 k d) = dy k (row q r)
  e_dyn : ∀ (h : q.val < 15) (r : Fin 8) k,
    ∑ d : Fin 1024, xdbn (ix2 ⟨r.val, by omega⟩ d) * xwo (ix2 k d) = dy k ⟨q.val * 512 + 512 + r.val, by omega⟩
  e_bg : ∀ r k, xbg (ix3 0 r k) = bg k (row q r)
  e_cg : ∀ r k, xcg (ix3 0 r k) = cg k (row q r)
  e_xi : ∀ r k, xxi (ix3 0 r k) = xi k (row q r)
  e_z : ∀ r k, xz (ix3 0 r k) = z k (row q r)
  e_w0 : ∀ k, x0 (ix2 0 k) = w0 k
  e_w1 : ∀ k, x1 (ix2 0 k) = w1 k
  e_w2 : ∀ k, x2 (ix2 0 k) = w2 k
  e_b : ∀ k, xb (ix2 0 k) = b k
  e_hcg : 0 < q.val → ∀ (r : Fin 8) k, hcg (ix3 0 ⟨8 + r.val, by omega⟩ k) = cg k ⟨q.val * 512 + r.val - 8, by omega⟩
  e_hxi : 0 < q.val → ∀ (r : Fin 8) k, hxi (ix3 0 ⟨8 + r.val, by omega⟩ k) = xi k ⟨q.val * 512 + r.val - 8, by omega⟩
  e_hz : ∀ (h : q.val < 15) (r : Fin 8) k, hz (ix3 0 ⟨r.val, by omega⟩ k) = z k ⟨q.val * 512 + 512 + r.val, by omega⟩
  e_hbg : ∀ (h : q.val < 15) (r : Fin 8) k, hbg (ix3 0 ⟨r.val, by omega⟩ k) = bg k ⟨q.val * 512 + 512 + r.val, by omega⟩
  e_pos : pos = if 0 < q.val then 1#1 else 0#1
  e_last : last = if q.val < 15 then 1#1 else 0#1

theorem select_one (x y : EReal) : Scalar.select 1#1 x y = x := rfl
theorem select_zero (x y : EReal) : Scalar.select 0#1 x y = y := rfl

theorem slt1 (r : ℕ) (h : r < 8) :
    IntOp.cmpi CmpIPredicate.slt (BitVec.ofNat 32 r) 1#32 = if r < 1 then 1#1 else 0#1 := by
  interval_cases r <;> rfl
theorem slt2 (r : ℕ) (h : r < 8) :
    IntOp.cmpi CmpIPredicate.slt (BitVec.ofNat 32 r) 2#32 = if r < 2 then 1#1 else 0#1 := by
  interval_cases r <;> rfl
theorem sge7 (r : ℕ) (h : r < 8) :
    IntOp.cmpi CmpIPredicate.sge (BitVec.ofNat 32 r) 7#32 = if 7 ≤ r then 1#1 else 0#1 := by
  interval_cases r <;> rfl
theorem sge6 (r : ℕ) (h : r < 8) :
    IntOp.cmpi CmpIPredicate.sge (BitVec.ofNat 32 r) 6#32 = if 6 ≤ r then 1#1 else 0#1 := by
  interval_cases r <;> rfl

variable {q : Fin 16} {dy z bg cg xi : Fin 256 → Fin 8192 → EReal} {w0 w1 w2 b : Fin 256 → EReal}
    {xwo : Vec Ideal S256x1024 .bf16} {xdb : Vec Ideal S512x1024 .bf16} {xdbn : Vec Ideal S16x1024 .bf16}
    {xbg xcg xxi xz : Vec Ideal S1x512x256 .f32} {x0 x1 x2 xb : Vec Ideal S1x256 .f32}
    {hcg hxi hz hbg : Vec Ideal S1x16x256 .f32} {pos last : BitVec 1}
    (H : Holds q dy z bg cg xi w0 w1 w2 b xwo xdb xdbn xbg xcg xxi xz x0 x1 x2 xb hcg hxi hz hbg pos last)

include H

theorem pDy (r : Fin 512) (k : Fin 256) : k0_pay9 (F := Ideal) xwo xdb (ix2 r k) = dy k (row q r) := by
  rw [← H.e_dy]
  pointwise [k0_pay9, k0_pay8]

theorem pDyn (h : q.val < 15) (r : Fin 8) (k : Fin 256) :
    k0_pay10 (F := Ideal) xwo xdbn (ix2 r k) = dy k ⟨q.val * 512 + 512 + r.val, by omega⟩ := by
  rw [← H.e_dyn h]
  pointwise [k0_pay10, k0_pay8]

theorem pCx (r : Fin 512) (k : Fin 256) : k0_pay18 (F := Ideal) xcg xxi (ix2 r k) = cx (cg k) (xi k) (row q r) := by
  unfold cx
  rw [← H.e_cg, ← H.e_xi]
  pointwise [k0_pay18, k0_pay12, k0_pay13]

theorem pBefore (r : Fin 8) (k : Fin 256) : k0_pay19 (F := Ideal) pos hcg hxi (ix2 r k)
    = if h : 0 < q.val then cx (cg k) (xi k) ⟨q.val * 512 + r.val - 8, by omega⟩ else 0 := by
  rw [H.e_pos]
  by_cases h : 0 < q.val
  · rw [if_pos h, dif_pos h]
    unfold cx
    rw [← H.e_hcg h, ← H.e_hxi h]
    pointwise [k0_pay19]
  · rw [if_neg h, dif_neg h]
    pointwise [k0_pay19]

theorem pDown1 (r : Fin 512) (k : Fin 256) :
    k0_pay20 (F := Ideal) (k0_pay18 xcg xxi) pos hcg hxi (ix2 r k) = down 1 (cx (cg k) (xi k)) (row q r) := by
  unfold down
  pointwise [k0_pay20]
  simp only [pBefore H, pCx H]
  by_cases h8 : r.val < 8
  · rw [dif_pos h8, slt1 _ h8]
    by_cases h : r.val < 1
    · rw [if_pos h, select_one]
      by_cases hq : 0 < q.val
      · rw [dif_pos hq, dif_neg (by omega)]
        exact congrArg _ (Fin.ext (by simp only; omega))
      · rw [dif_neg hq, dif_pos (by omega)]
    · rw [if_neg h, select_zero, dif_neg (by omega)]
      exact congrArg _ (Fin.ext (by simp only; omega))
  · rw [dif_neg h8, dif_neg (by omega)]
    exact congrArg _ (Fin.ext (by simp only; omega))

theorem pDown2 (r : Fin 512) (k : Fin 256) :
    k0_pay21 (F := Ideal) (k0_pay18 xcg xxi) pos hcg hxi (ix2 r k) = down 2 (cx (cg k) (xi k)) (row q r) := by
  unfold down
  pointwise [k0_pay21]
  simp only [pBefore H, pCx H]
  by_cases h8 : r.val < 8
  · rw [dif_pos h8, slt2 _ h8]
    by_cases h : r.val < 2
    · rw [if_pos h, select_one]
      by_cases hq : 0 < q.val
      · rw [dif_pos hq, dif_neg (by omega)]
        exact congrArg _ (Fin.ext (by simp only; omega))
      · rw [dif_neg hq, dif_pos (by omega)]
    · rw [if_neg h, select_zero, dif_neg (by omega)]
      exact congrArg _ (Fin.ext (by simp only; omega))
  · rw [dif_neg h8, dif_neg (by omega)]
    exact congrArg _ (Fin.ext (by simp only; omega))

theorem pConv (r : Fin 512) (k : Fin 256) :
    k0_pay22 (F := Ideal) (k0_pay15 x0) (k0_pay16 x1) (k0_pay17 x2) (k0_pay18 xcg xxi) pos hcg hxi xb (ix2 r k)
    = conv (cg k) (xi k) (w0 k) (w1 k) (w2 k) (b k) (row q r) := by
  unfold conv
  rw [← pCx H, ← pDown1 H, ← pDown2 H, ← H.e_w0, ← H.e_w1, ← H.e_w2, ← H.e_b]
  pointwise [k0_pay22, k0_pay15, k0_pay16, k0_pay17]

theorem pAfter (r : Fin 8) (k : Fin 256) :
    k0_pay31 (F := Ideal) last (k0_pay29 (k0_pay10 xwo xdbn) hz) (k0_pay30 hbg) (ix2 r k)
    = if h : q.val < 15 then dconv (dy k) (z k) (bg k) ⟨q.val * 512 + 512 + r.val, by omega⟩ else 0 := by
  rw [H.e_last]
  by_cases h : q.val < 15
  · rw [if_pos h, dif_pos h]
    unfold dconv silu sg
    rw [← H.e_hz h, ← H.e_hbg h, ← pDyn H h]
    pointwise [k0_pay31, k0_pay29, k0_pay30]
  · rw [if_neg h, dif_neg h]
    pointwise [k0_pay31]

theorem pSg (r : Fin 512) (k : Fin 256) :
    k0_pay24 (F := Ideal) (k0_pay23 (k0_pay14 xz)) (ix2 r k) = sg (z k (row q r)) := by
  unfold sg
  rw [← H.e_z]
  pointwise [k0_pay24, k0_pay23, k0_pay14]

theorem pDconv (r : Fin 512) (k : Fin 256) :
    k0_pay28 (F := Ideal) (k0_pay9 xwo xdb) (k0_pay11 xbg) (k0_pay14 xz) (k0_pay23 (k0_pay14 xz)) (ix2 r k)
    = dconv (dy k) (z k) (bg k) (row q r) := by
  unfold dconv silu
  rw [← pDy H, ← pSg H, ← H.e_z, ← H.e_bg]
  pointwise [k0_pay28, k0_pay25, k0_pay14, k0_pay11]

/-- The gradient of the convolved product, through the taps' rows after. -/
theorem pDcx (r : Fin 512) (k : Fin 256) :
    k0_pay38 (F := Ideal) (k0_pay15 x0) (k0_pay16 x1)
      (k0_pay28 (k0_pay9 xwo xdb) (k0_pay11 xbg) (k0_pay14 xz) (k0_pay23 (k0_pay14 xz)))
      (k0_pay31 last (k0_pay29 (k0_pay10 xwo xdbn) hz) (k0_pay30 hbg))
      (k0_pay36 (k0_pay17 x2) (k0_pay28 (k0_pay9 xwo xdb) (k0_pay11 xbg) (k0_pay14 xz) (k0_pay23 (k0_pay14 xz))))
      (k0_pay37 (k0_pay28 (k0_pay9 xwo xdb) (k0_pay11 xbg) (k0_pay14 xz) (k0_pay23 (k0_pay14 xz)))) (ix2 r k)
    = dcx (dy k) (z k) (bg k) (w0 k) (w1 k) (w2 k) (row q r) := by
  unfold dcx up
  pointwise [k0_pay38, k0_pay36, k0_pay37, k0_pay15, k0_pay16, k0_pay17]
  simp only [pDconv H, pAfter H, H.e_w0, H.e_w1, H.e_w2]
  refine congrArg₂ (· + ·) (congrArg₂ (· + ·) rfl (congrArg _ ?_)) (congrArg _ ?_)
  · by_cases h8 : r.val < 504
    · rw [dif_pos h8, dif_pos (by omega)]
      exact congrArg _ (Fin.ext (by simp only; omega))
    · rw [dif_neg h8, sge7 _ (by omega)]
      by_cases h : 7 ≤ r.val - 504
      · rw [if_pos h, select_one]
        by_cases hq : q.val < 15
        · rw [dif_pos hq, dif_pos (by omega)]
          exact congrArg _ (Fin.ext (by simp only; omega))
        · rw [dif_neg hq, dif_neg (by omega)]
      · rw [if_neg h, select_zero, dif_pos (by omega)]
        exact congrArg _ (Fin.ext (by simp only; omega))
  · by_cases h8 : r.val < 504
    · rw [dif_pos h8, dif_pos (by omega)]
      exact congrArg _ (Fin.ext (by simp only; omega))
    · rw [dif_neg h8, sge6 _ (by omega)]
      by_cases h : 6 ≤ r.val - 504
      · rw [if_pos h, select_one]
        by_cases hq : q.val < 15
        · rw [dif_pos hq, dif_pos (by omega)]
          exact congrArg _ (Fin.ext (by simp only; omega))
        · rw [dif_neg hq, dif_neg (by omega)]
      · rw [if_neg h, select_zero, dif_pos (by omega)]
        exact congrArg _ (Fin.ext (by simp only; omega))

/-! ## The four stores of the gradient's parts -/

theorem sDz (r : Fin 512) (k : Fin 256) :
    k0_pay26 (F := Ideal) (k0_pay9 xwo xdb) (k0_pay11 xbg) (k0_pay14 xz)
      (k0_pay22 (k0_pay15 x0) (k0_pay16 x1) (k0_pay17 x2) (k0_pay18 xcg xxi) pos hcg hxi xb) (k0_pay23 (k0_pay14 xz))
      (ix3 0 r k)
    = ConvGrad.dz (dy k) (z k) (bg k) (cg k) (xi k) (w0 k) (w1 k) (w2 k) (b k) (row q r) := by
  unfold ConvGrad.dz
  rw [← pDy H, ← pSg H, ← H.e_z, ← H.e_bg, ← pConv H]
  pointwise [k0_pay26, k0_pay14, k0_pay11]

theorem sDbg (r : Fin 512) (k : Fin 256) :
    k0_pay27 (F := Ideal) (k0_pay9 xwo xdb) (k0_pay14 xz)
      (k0_pay22 (k0_pay15 x0) (k0_pay16 x1) (k0_pay17 x2) (k0_pay18 xcg xxi) pos hcg hxi xb) (k0_pay23 (k0_pay14 xz))
      (ix3 0 r k)
    = ConvGrad.dbg (dy k) (z k) (cg k) (xi k) (w0 k) (w1 k) (w2 k) (b k) (row q r) := by
  unfold ConvGrad.dbg silu
  rw [← pDy H, ← pSg H, ← H.e_z, ← pConv H]
  pointwise [k0_pay27, k0_pay25, k0_pay14]

theorem sDcg (r : Fin 512) (k : Fin 256) :
    k0_pay39 (F := Ideal) (k0_pay13 xxi) (k0_pay15 x0) (k0_pay16 x1)
      (k0_pay28 (k0_pay9 xwo xdb) (k0_pay11 xbg) (k0_pay14 xz) (k0_pay23 (k0_pay14 xz)))
      (k0_pay31 last (k0_pay29 (k0_pay10 xwo xdbn) hz) (k0_pay30 hbg))
      (k0_pay36 (k0_pay17 x2) (k0_pay28 (k0_pay9 xwo xdb) (k0_pay11 xbg) (k0_pay14 xz) (k0_pay23 (k0_pay14 xz))))
      (k0_pay37 (k0_pay28 (k0_pay9 xwo xdb) (k0_pay11 xbg) (k0_pay14 xz) (k0_pay23 (k0_pay14 xz)))) (ix3 0 r k)
    = ConvGrad.dcg (dy k) (z k) (bg k) (xi k) (w0 k) (w1 k) (w2 k) (row q r) := by
  unfold ConvGrad.dcg
  rw [← pDcx H, ← H.e_xi]
  pointwise [k0_pay39, k0_pay13]

theorem sDxi (r : Fin 512) (k : Fin 256) :
    k0_pay40 (F := Ideal) (k0_pay12 xcg) (k0_pay15 x0) (k0_pay16 x1)
      (k0_pay28 (k0_pay9 xwo xdb) (k0_pay11 xbg) (k0_pay14 xz) (k0_pay23 (k0_pay14 xz)))
      (k0_pay31 last (k0_pay29 (k0_pay10 xwo xdbn) hz) (k0_pay30 hbg))
      (k0_pay36 (k0_pay17 x2) (k0_pay28 (k0_pay9 xwo xdb) (k0_pay11 xbg) (k0_pay14 xz) (k0_pay23 (k0_pay14 xz))))
      (k0_pay37 (k0_pay28 (k0_pay9 xwo xdb) (k0_pay11 xbg) (k0_pay14 xz) (k0_pay23 (k0_pay14 xz)))) (ix3 0 r k)
    = ConvGrad.dxi (dy k) (z k) (bg k) (cg k) (w0 k) (w1 k) (w2 k) (row q r) := by
  unfold ConvGrad.dxi
  rw [← pDcx H, ← H.e_cg]
  pointwise [k0_pay40, k0_pay12]

/-! ## The four sums over the rows -/

theorem sDb (acc : Vec Ideal S1x256 .f32) (k : Fin 256) :
    k0_pay32 (F := Ideal) (k0_pay28 (k0_pay9 xwo xdb) (k0_pay11 xbg) (k0_pay14 xz) (k0_pay23 (k0_pay14 xz))) acc (ix2 0 k)
    = acc (ix2 0 k) + ∑ r, dconv (dy k) (z k) (bg k) (row q r) := by
  simp only [← pDconv H]
  pointwise [k0_pay32]

theorem sDw2 (acc : Vec Ideal S1x256 .f32) (k : Fin 256) :
    k0_pay33 (F := Ideal) (k0_pay18 xcg xxi)
      (k0_pay28 (k0_pay9 xwo xdb) (k0_pay11 xbg) (k0_pay14 xz) (k0_pay23 (k0_pay14 xz))) acc (ix2 0 k)
    = acc (ix2 0 k) + ∑ r, dconv (dy k) (z k) (bg k) (row q r) * cx (cg k) (xi k) (row q r) := by
  simp only [← pDconv H, ← pCx H]
  pointwise [k0_pay33]

theorem sDw1 (acc : Vec Ideal S1x256 .f32) (k : Fin 256) :
    k0_pay34 (F := Ideal) (k0_pay20 (k0_pay18 xcg xxi) pos hcg hxi)
      (k0_pay28 (k0_pay9 xwo xdb) (k0_pay11 xbg) (k0_pay14 xz) (k0_pay23 (k0_pay14 xz))) acc (ix2 0 k)
    = acc (ix2 0 k) + ∑ r, dconv (dy k) (z k) (bg k) (row q r) * down 1 (cx (cg k) (xi k)) (row q r) := by
  simp only [← pDconv H, ← pDown1 H]
  pointwise [k0_pay34]

theorem sDw0 (acc : Vec Ideal S1x256 .f32) (k : Fin 256) :
    k0_pay35 (F := Ideal) (k0_pay21 (k0_pay18 xcg xxi) pos hcg hxi)
      (k0_pay28 (k0_pay9 xwo xdb) (k0_pay11 xbg) (k0_pay14 xz) (k0_pay23 (k0_pay14 xz))) acc (ix2 0 k)
    = acc (ix2 0 k) + ∑ r, dconv (dy k) (z k) (bg k) (row q r) * down 2 (cx (cg k) (xi k)) (row q r) := by
  simp only [← pDconv H, ← pDown2 H]
  pointwise [k0_pay35]

end Cert.ConvBwdIdeal.Tile

end
-- ==== Proof.CFold.lean ====
/-
  The short convolution's kernel read: what the blocks of a grid point hold of the arguments, what the body stores at the
  point, and the five results as whole arrays.
-/
module

public import proofs.«01_k».proof.Proof.Gen.ConvBwdIdeal.Value
public import proofs.«01_k».proof.Proof.ConvTile
public import proofs.«01_k».proof.Proof.Sums
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvBwdIdeal.Fold
open Cert.ConvBwdIdeal Cert.ConvBwdIdeal.Gen

variable (m : (ℓ : Loc nD τ sig) → Buf (Elt Ideal) ℓ)

/-- The argument arrays, by channel and row; `DY` is the cotangent through the output product. -/
def P (c : Dev nD) (e : Fin 8192) (s : Fin 8192) : EReal := m ((c : Thread nD τ).loc main_arg0) (ix3 0 s e)
abbrev BG (c : Dev nD) (e : Fin 2048) (s : Fin 8192) : EReal := P m c ⟨e.val, by omega⟩ s
abbrev CG (c : Dev nD) (e : Fin 2048) (s : Fin 8192) : EReal := P m c ⟨2048 + e.val, by omega⟩ s
abbrev XI (c : Dev nD) (e : Fin 2048) (s : Fin 8192) : EReal := P m c ⟨4096 + e.val, by omega⟩ s
abbrev Z (c : Dev nD) (e : Fin 2048) (s : Fin 8192) : EReal := P m c ⟨6144 + e.val, by omega⟩ s
def TAP (c : Dev nD) (k : Fin 3) (e : Fin 2048) : EReal := m ((c : Thread nD τ).loc main_arg1) (ix3 0 k e)
def BIAS (c : Dev nD) (e : Fin 2048) : EReal := m ((c : Thread nD τ).loc main_arg2) (ix2 0 e)
def WO (c : Dev nD) (e : Fin 2048) (d : Fin 1024) : EReal := m ((c : Thread nD τ).loc main_arg3) (ix3 0 e d)
def CT (c : Dev nD) (s : Fin 8192) (d : Fin 1024) : EReal := m ((c : Thread nD τ).loc main_arg4) (ix3 0 s d)
abbrev DY (c : Dev nD) (e : Fin 2048) (s : Fin 8192) : EReal := ∑ d : Fin 1024, CT m c s d * WO m c e d

/-- The row block of point `t`, and channel `k` of its column block. -/
abbrev rb (t : Fin cfg0.N) : Fin 16 := ⟨t.val % 16, by omega⟩
abbrev col (t : Fin cfg0.N) (k : Fin 1024) : Fin 2048 :=
  ⟨t.val / 16 * 1024 + k.val, by have := t.isLt; have : cfg0.N = 32 := N_0; omega⟩
/-- A row of sixteen next to the row block: before it and after it. -/
abbrev hb (t : Fin cfg0.N) (r : Fin 16) : Fin 8192 := ⟨(t.val % 16 * 32 - 1) * 16 + r.val, by omega⟩
abbrev ha (t : Fin cfg0.N) (r : Fin 16) : Fin 8192 := ⟨min (t.val % 16 * 32 + 32) 511 * 16 + r.val, by omega⟩

theorem idx : ∀ t : Fin cfg0.N, win0_0.index t = ![0, t.val % 16, t.val / 16] ∧ win0_1.index t = ![1, t.val % 16, t.val / 16]
    ∧ win0_2.index t = ![2, t.val % 16, t.val / 16] ∧ win0_3.index t = ![3, t.val % 16, t.val / 16]
    ∧ win0_4.index t = ![t.val % 16, 0] ∧ win0_5.index t = ![1, t.val % 16 * 32 - 1, t.val / 16]
    ∧ win0_6.index t = ![2, t.val % 16 * 32 - 1, t.val / 16] ∧ win0_7.index t = ![0, min (t.val % 16 * 32 + 32) 511, t.val / 16]
    ∧ win0_8.index t = ![3, min (t.val % 16 * 32 + 32) 511, t.val / 16] ∧ win0_9.index t = ![min (t.val % 16 * 32 + 32) 511, 0]
    ∧ win0_10.index t = ![t.val / 16, 0] ∧ win0_11.index t = ![0, t.val / 16] ∧ win0_12.index t = ![0, t.val / 16]
    ∧ win0_13.index t = ![0, t.val / 16] ∧ win0_14.index t = ![0, t.val / 16] ∧ win0_16.index t = ![0, t.val % 16, t.val / 16]
    ∧ win0_17.index t = ![0, t.val / 16] ∧ win0_18.index t = ![0, t.val / 16] ∧ win0_19.index t = ![0, t.val / 16]
    ∧ win0_20.index t = ![0, t.val / 16] :=
  (by decide +kernel : ∀ t : Fin grid0.N, _)

/-! ## The staged blocks are the arguments at the point's place -/

theorem blk0 (c : Dev nD) (t : Fin cfg0.N) (r : Fin 512) (k : Fin 1024) :
    iblk m c 0 t (ix3 0 r k) = BG m c (col t k) (Tile.row (rb t) r) := by
  unfold BG P
  blk_simp [iblk, idx t]
  entry_read
  pointwise
  blk_ext [idx t]

theorem blk1 (c : Dev nD) (t : Fin cfg0.N) (r : Fin 512) (k : Fin 1024) :
    iblk m c 1 t (ix3 0 r k) = CG m c (col t k) (Tile.row (rb t) r) := by
  unfold CG P
  blk_simp [iblk, idx t]
  entry_read
  pointwise
  blk_ext [idx t]

theorem blk2 (c : Dev nD) (t : Fin cfg0.N) (r : Fin 512) (k : Fin 1024) :
    iblk m c 2 t (ix3 0 r k) = XI m c (col t k) (Tile.row (rb t) r) := by
  unfold XI P
  blk_simp [iblk, idx t]
  entry_read
  pointwise
  blk_ext [idx t]

theorem blk3 (c : Dev nD) (t : Fin cfg0.N) (r : Fin 512) (k : Fin 1024) :
    iblk m c 3 t (ix3 0 r k) = Z m c (col t k) (Tile.row (rb t) r) := by
  unfold Z P
  blk_simp [iblk, idx t]
  entry_read
  pointwise
  blk_ext [idx t]

theorem blk4 (c : Dev nD) (t : Fin cfg0.N) (r : Fin 512) (d : Fin 1024) :
    iblk m c 4 t (ix2 r d) = CT m c (Tile.row (rb t) r) d := by
  unfold CT
  blk_simp [iblk, idx t]
  entry_read
  pointwise
  blk_ext [idx t]

theorem blk5 (c : Dev nD) (t : Fin cfg0.N) (r : Fin 16) (k : Fin 1024) :
    iblk m c 5 t (ix3 0 r k) = CG m c (col t k) (hb t r) := by
  unfold CG P
  blk_simp [iblk, idx t]
  entry_read
  pointwise
  blk_ext [idx t]

theorem blk6 (c : Dev nD) (t : Fin cfg0.N) (r : Fin 16) (k : Fin 1024) :
    iblk m c 6 t (ix3 0 r k) = XI m c (col t k) (hb t r) := by
  unfold XI P
  blk_simp [iblk, idx t]
  entry_read
  pointwise
  blk_ext [idx t]

theorem blk7 (c : Dev nD) (t : Fin cfg0.N) (r : Fin 16) (k : Fin 1024) :
    iblk m c 7 t (ix3 0 r k) = BG m c (col t k) (ha t r) := by
  unfold BG P
  blk_simp [iblk, idx t]
  entry_read
  pointwise
  blk_ext [idx t]

theorem blk8 (c : Dev nD) (t : Fin cfg0.N) (r : Fin 16) (k : Fin 1024) :
    iblk m c 8 t (ix3 0 r k) = Z m c (col t k) (ha t r) := by
  unfold Z P
  blk_simp [iblk, idx t]
  entry_read
  pointwise
  blk_ext [idx t]

theorem blk9 (c : Dev nD) (t : Fin cfg0.N) (r : Fin 16) (d : Fin 1024) :
    iblk m c 9 t (ix2 r d) = CT m c (ha t r) d := by
  unfold CT
  blk_simp [iblk, idx t]
  entry_read
  pointwise
  blk_ext [idx t]

theorem blk10 (c : Dev nD) (t : Fin cfg0.N) (k : Fin 1024) (d : Fin 1024) :
    iblk m c 10 t (ix2 k d) = WO m c (col t k) d := by
  unfold WO
  blk_simp [iblk, idx t]
  entry_read
  pointwise
  blk_ext [idx t]

theorem blk11 (c : Dev nD) (t : Fin cfg0.N) (k : Fin 1024) :
    iblk m c 11 t (ix2 0 k) = TAP m c 0 (col t k) := by
  unfold TAP
  blk_simp [iblk, idx t]
  entry_read
  pointwise
  blk_ext [idx t]

theorem blk12 (c : Dev nD) (t : Fin cfg0.N) (k : Fin 1024) :
    iblk m c 12 t (ix2 0 k) = TAP m c 1 (col t k) := by
  unfold TAP
  blk_simp [iblk, idx t]
  entry_read
  pointwise
  blk_ext [idx t]

theorem blk13 (c : Dev nD) (t : Fin cfg0.N) (k : Fin 1024) :
    iblk m c 13 t (ix2 0 k) = TAP m c 2 (col t k) := by
  unfold TAP
  blk_simp [iblk, idx t]
  entry_read
  pointwise
  blk_ext [idx t]

theorem blk14 (c : Dev nD) (t : Fin cfg0.N) (k : Fin 1024) :
    iblk m c 14 t (ix2 0 k) = BIAS m c (col t k) := by
  unfold BIAS
  blk_simp [iblk, idx t]
  entry_read
  blk_ext [idx t]

/-- The two conditions of the body on the row block. -/
theorem cond : ∀ t : Fin cfg0.N,
    Scalar.cmpi CmpIPredicate.sgt (BitVec.ofNat 32 ↑(grid0.coords t 1)) 0#32 = (if 0 < t.val % 16 then 1#1 else 0#1)
    ∧ Scalar.cmpi CmpIPredicate.slt (BitVec.ofNat 32 ↑(grid0.coords t 1)) 15#32 = (if t.val % 16 < 15 then 1#1 else 0#1) :=
  (by decide +kernel : ∀ t : Fin grid0.N, _)

/-- Channel `k` of the part of 256 channels at `o`. -/
abbrev ch (t : Fin cfg0.N) (o : ℕ) (ho : o + 256 ≤ 1024) (k : Fin 256) : Fin 2048 := col t ⟨o + k.val, by omega⟩

theorem after_row (t : Fin cfg0.N) (h : t.val % 16 < 15) (r : Fin 8) :
    ha t ⟨r.val, by omega⟩ = ⟨t.val % 16 * 512 + 512 + r.val, by omega⟩ := Fin.ext (by simp only [ha]; omega)
theorem before_row (t : Fin cfg0.N) (h : 0 < t.val % 16) (r : Fin 8) :
    hb t ⟨8 + r.val, by omega⟩ = ⟨t.val % 16 * 512 + r.val - 8, by omega⟩ := Fin.ext (by simp only [hb]; omega)

/-- The loads of the part at `o` hold the arguments' rows and channels. -/
theorem holds (c : Dev nD) (t : Fin cfg0.N) (o : ℕ) (ho : o + 256 ≤ 1024) (i0 i1 i2 i3) :
    Tile.Holds (rb t) (fun k => DY m c (ch t o ho k)) (fun k => Z m c (ch t o ho k)) (fun k => BG m c (ch t o ho k))
      (fun k => CG m c (ch t o ho k)) (fun k => XI m c (ch t o ho k)) (fun k => TAP m c 0 (ch t o ho k))
      (fun k => TAP m c 1 (ch t o ho k)) (fun k => TAP m c 2 (ch t o ho k)) (fun k => BIAS m c (ch t o ho k))
      (View.ld (iblk m c 10 t) (Rect.unit ![o, 0] ![256, 1024] i0)) (iblk m c 4 t) (iblk m c 9 t)
      (View.ld (iblk m c 0 t) (Rect.unit ![0, 0, o] ![1, 512, 256] i1))
      (View.ld (iblk m c 1 t) (Rect.unit ![0, 0, o] ![1, 512, 256] i1))
      (View.ld (iblk m c 2 t) (Rect.unit ![0, 0, o] ![1, 512, 256] i1))
      (View.ld (iblk m c 3 t) (Rect.unit ![0, 0, o] ![1, 512, 256] i1))
      (View.ld (iblk m c 11 t) (Rect.unit ![0, o] ![1, 256] i2)) (View.ld (iblk m c 12 t) (Rect.unit ![0, o] ![1, 256] i2))
      (View.ld (iblk m c 13 t) (Rect.unit ![0, o] ![1, 256] i2)) (View.ld (iblk m c 14 t) (Rect.unit ![0, o] ![1, 256] i2))
      (View.ld (iblk m c 5 t) (Rect.unit ![0, 0, o] ![1, 16, 256] i3))
      (View.ld (iblk m c 6 t) (Rect.unit ![0, 0, o] ![1, 16, 256] i3))
      (View.ld (iblk m c 8 t) (Rect.unit ![0, 0, o] ![1, 16, 256] i3))
      (View.ld (iblk m c 7 t) (Rect.unit ![0, 0, o] ![1, 16, 256] i3))
      (Scalar.cmpi CmpIPredicate.sgt (BitVec.ofNat 32 ↑(grid0.coords t 1)) 0#32)
      (Scalar.cmpi CmpIPredicate.slt (BitVec.ofNat 32 ↑(grid0.coords t 1)) 15#32) where
  e_dy r k := by
    pointwise
    exact Finset.sum_congr rfl fun d _ => congrArg₂ (· * ·) (blk4 m c t r d) (blk10 m c t _ d)
  e_dyn h r k := by
    pointwise
    refine Finset.sum_congr rfl fun d _ => congrArg₂ (· * ·) ((blk9 m c t _ d).trans ?_) (blk10 m c t _ d)
    exact congrArg (CT m c · d) (after_row t h r)
  e_bg r k := by
    pointwise
    exact blk0 m c t r _
  e_cg r k := by
    pointwise
    exact blk1 m c t r _
  e_xi r k := by
    pointwise
    exact blk2 m c t r _
  e_z r k := by
    pointwise
    exact blk3 m c t r _
  e_w0 k := by
    pointwise
    exact blk11 m c t _
  e_w1 k := by
    pointwise
    exact blk12 m c t _
  e_w2 k := by
    pointwise
    exact blk13 m c t _
  e_b k := by
    pointwise
    exact blk14 m c t _
  e_hcg h r k := by
    pointwise
    exact (blk5 m c t _ _).trans (congrArg (CG m c _) (before_row t h r))
  e_hxi h r k := by
    pointwise
    exact (blk6 m c t _ _).trans (congrArg (XI m c _) (before_row t h r))
  e_hz h r k := by
    pointwise
    exact (blk8 m c t _ _).trans (congrArg (Z m c _) (after_row t h r))
  e_hbg h r k := by
    pointwise
    exact (blk7 m c t _ _).trans (congrArg (BG m c _) (after_row t h r))
  e_pos := (cond t).1
  e_last := (cond t).2

/-! ## The gradient's four parts -/

/-- The gradient of the projection's part `q` at channel `e` and row `s`. -/
abbrev DP (c : Dev nD) (q : Fin 4) (s : Fin 8192) (e : Fin 2048) : EReal :=
  ConvGrad.part (DY m c e) (Z m c e) (BG m c e) (CG m c e) (XI m c e) (TAP m c 0 e) (TAP m c 1 e) (TAP m c 2 e) (BIAS m c e) q s

theorem fit (c : Dev nD) (t : Fin cfg0.N) (y : S4x512x1024.Idx) (q : Fin 4) (o : ℕ) (ho : o + 256 ≤ 1024) (r : Fin 512)
    (k : Fin 256) (h0 : (y 0 : ℕ) = q) (h1 : (y 1 : ℕ) = r) (h2 : (y 2 : ℕ) = o + k) :
    DP m c q (Tile.row (rb t) r) (ch t o ho k) = DP m c (y 0) (Tile.row (rb t) (y 1)) (col t (y 2)) := by
  have e0 : q = y 0 := Fin.ext h0.symm
  have e1 : r = y 1 := Fin.ext h1.symm
  have e2 : ch t o ho k = col t (y 2) := Fin.ext (by simp only [ch, col]; omega)
  rw [e0, e1, e2]

/-- A stored piece is the gradient's part at its place, if it is so by row and channel. -/
theorem piece (c : Dev nD) (t : Fin cfg0.N) (f : S1x512x256.Idx → EReal) (q : Fin 4) (o : ℕ) (ho : o + 256 ≤ 1024)
    (hf : ∀ r k, f (ix3 0 r k) = DP m c q (Tile.row (rb t) r) (ch t o ho k)) (x : S1x512x256.Idx) (y : S4x512x1024.Idx)
    (h0 : (y 0 : ℕ) = q + x 0) (h1 : (y 1 : ℕ) = x 1) (h2 : (y 2 : ℕ) = o + x 2) :
    f x = DP m c (y 0) (Tile.row (rb t) (y 1)) (col t (y 2)) := by
  have hx : (x 0 : ℕ) < 1 := (x 0).isLt
  have e : x = ix3 0 (x 1) (x 2) := by
    idx_vars x
    exact congrArg (ix3 · x1 x2) (Fin.ext (by omega))
  rw [e]
  exact (hf (x 1) (x 2)).trans (fit m c t y q o ho (x 1) (x 2) (by omega) h1 h2)

/-- Every point stores the gradient's parts of its rows and channels. -/
theorem store (c : Dev nD) (t : Fin cfg0.N) (y : S4x512x1024.Idx) :
    (outsAt0 m c t.val t.isLt).1 y = DP m c (y 0) (Tile.row (rb t) (y 1)) (col t (y 2)) := by
  by_cases h : t.val % 16 = 0
  on_goal 1 => rw [outsAt0_A m c t h]
  on_goal 2 => rw [outsAt0_B m c t h]
  all_goals
    frame_out
    clear h
    canon_tiles x h
    case piece0 => exact piece m c t _ 2 768 (by omega) (Tile.sDxi (holds m c t 768 (by omega) _ _ _ _)) x y (by simp only [Fin.isValue, Fin.val_ofNat]; omega) (by omega) (by omega)
    case piece1 => exact piece m c t _ 1 768 (by omega) (Tile.sDcg (holds m c t 768 (by omega) _ _ _ _)) x y (by simp only [Fin.isValue, Fin.val_ofNat]; omega) (by omega) (by omega)
    case piece2 => exact piece m c t _ 0 768 (by omega) (Tile.sDbg (holds m c t 768 (by omega) _ _ _ _)) x y (by simp only [Fin.isValue, Fin.val_ofNat]; omega) (by omega) (by omega)
    case piece3 => exact piece m c t _ 3 768 (by omega) (Tile.sDz (holds m c t 768 (by omega) _ _ _ _)) x y (by simp only [Fin.isValue, Fin.val_ofNat]; omega) (by omega) (by omega)
    case piece4 => exact piece m c t _ 2 512 (by omega) (Tile.sDxi (holds m c t 512 (by omega) _ _ _ _)) x y (by simp only [Fin.isValue, Fin.val_ofNat]; omega) (by omega) (by omega)
    case piece5 => exact piece m c t _ 1 512 (by omega) (Tile.sDcg (holds m c t 512 (by omega) _ _ _ _)) x y (by simp only [Fin.isValue, Fin.val_ofNat]; omega) (by omega) (by omega)
    case piece6 => exact piece m c t _ 0 512 (by omega) (Tile.sDbg (holds m c t 512 (by omega) _ _ _ _)) x y (by simp only [Fin.isValue, Fin.val_ofNat]; omega) (by omega) (by omega)
    case piece7 => exact piece m c t _ 3 512 (by omega) (Tile.sDz (holds m c t 512 (by omega) _ _ _ _)) x y (by simp only [Fin.isValue, Fin.val_ofNat]; omega) (by omega) (by omega)
    case piece8 => exact piece m c t _ 2 256 (by omega) (Tile.sDxi (holds m c t 256 (by omega) _ _ _ _)) x y (by simp only [Fin.isValue, Fin.val_ofNat]; omega) (by omega) (by omega)
    case piece9 => exact piece m c t _ 1 256 (by omega) (Tile.sDcg (holds m c t 256 (by omega) _ _ _ _)) x y (by simp only [Fin.isValue, Fin.val_ofNat]; omega) (by omega) (by omega)
    case piece10 => exact piece m c t _ 0 256 (by omega) (Tile.sDbg (holds m c t 256 (by omega) _ _ _ _)) x y (by simp only [Fin.isValue, Fin.val_ofNat]; omega) (by omega) (by omega)
    case piece11 => exact piece m c t _ 3 256 (by omega) (Tile.sDz (holds m c t 256 (by omega) _ _ _ _)) x y (by simp only [Fin.isValue, Fin.val_ofNat]; omega) (by omega) (by omega)
    case piece12 => exact piece m c t _ 2 0 (by omega) (Tile.sDxi (holds m c t 0 (by omega) _ _ _ _)) x y (by simp only [Fin.isValue, Fin.val_ofNat]; omega) (by omega) (by omega)
    case piece13 => exact piece m c t _ 1 0 (by omega) (Tile.sDcg (holds m c t 0 (by omega) _ _ _ _)) x y (by simp only [Fin.isValue, Fin.val_ofNat]; omega) (by omega) (by omega)
    case piece14 => exact piece m c t _ 0 0 (by omega) (Tile.sDbg (holds m c t 0 (by omega) _ _ _ _)) x y (by simp only [Fin.isValue, Fin.val_ofNat]; omega) (by omega) (by omega)
    case piece15 => exact piece m c t _ 3 0 (by omega) (Tile.sDz (holds m c t 0 (by omega) _ _ _ _)) x y (by simp only [Fin.isValue, Fin.val_ofNat]; omega) (by omega) (by omega)

end Cert.ConvBwdIdeal.Fold

end
-- ==== Proof.CAcc.lean ====
/-
  The short convolution's four sums over the rows: what a point adds to them, and their totals after a column block.
-/
module

public import proofs.«01_k».proof.Proof.CFold

@[expose] public section

set_option maxRecDepth 16384

noncomputable section

open Idealize.ShloMosaic Idealize.ShloMosaic.TcCoe Idealize.SL.Sem
open Idealize.ShloMosaic.Pipeline (Dat)

namespace Cert.ConvBwdIdeal.Fold
open Cert.ConvBwdIdeal Cert.ConvBwdIdeal.Gen

variable (m : (ℓ : Loc nD τ sig) → Buf (Elt Ideal) ℓ)

/-! ## The summands, by channel and row -/

abbrev DCONV (c : Dev nD) (e : Fin 2048) (s : Fin 8192) : EReal := ConvGrad.dconv (DY m c e) (Z m c e) (BG m c e) s
abbrev CX (c : Dev nD) (e : Fin 2048) : Fin 8192 → EReal := ConvGrad.cx (CG m c e) (XI m c e)
abbrev T0 (c : Dev nD) (e : Fin 2048) (s : Fin 8192) : EReal := DCONV m c e s * ConvGrad.down 2 (CX m c e) s
abbrev T1 (c : Dev nD) (e : Fin 2048) (s : Fin 8192) : EReal := DCONV m c e s * ConvGrad.down 1 (CX m c e) s
abbrev T2 (c : Dev nD) (e : Fin 2048) (s : Fin 8192) : EReal := DCONV m c e s * CX m c e s

/-- What a point adds to a sum at column `j` of its column block. -/
abbrev gain (t : Fin cfg0.N) (T : Fin 2048 → Fin 8192 → EReal) (j : Fin 1024) : EReal :=
  ∑ r : Fin 512, T (col t j) (Tile.row (rb t) r)

/-- A stored chunk of a sum's row is the row before it with the chunk's gains added, if it is so by channel. -/
theorem sum_piece (t : Fin cfg0.N) (T : Fin 2048 → Fin 8192 → EReal) (f acc : S1x256.Idx → EReal) (A : S1x1024.Idx → EReal)
    (o : ℕ) (ho : o + 256 ≤ 1024) (hf : ∀ k, f (ix2 0 k) = acc (ix2 0 k) + ∑ r : Fin 512, T (ch t o ho k) (Tile.row (rb t) r))
    (hacc : ∀ k : Fin 256, acc (ix2 0 k) = A (ix2 0 (⟨o + k.val, by omega⟩ : Fin 1024)))
    (x : S1x256.Idx) (y : S1x1024.Idx) (h1 : (y 1 : ℕ) = o + x 1) : f x = A y + gain t T (y 1) := by
  idx_vars x
  idx_vars y
  obtain rfl : x0 = 0 := Subsingleton.elim _ _
  obtain rfl : y0 = 0 := Subsingleton.elim _ _
  have hx : x1.val < 256 := x1.isLt
  have e : y1 = ⟨o + x1.val, by omega⟩ := Fin.ext h1
  have e2 : ch t o ho x1 = col t y1 := Fin.ext (by rw [e])
  exact (hf x1).trans (by rw [hacc, e2, ← e])

/-- The same over a row of zeros, with the chunk's place named by its rectangle. -/
theorem zero_piece (t : Fin cfg0.N) (T : Fin 2048 → Fin 8192 → EReal) (f acc : S1x256.Idx → EReal)
    (o : ℕ) (ho : o + 256 ≤ 1024) (i2) (hf : ∀ k, f (ix2 0 k) = acc (ix2 0 k) + ∑ r : Fin 512, T (ch t o ho k) (Tile.row (rb t) r))
    (hacc : ∀ k : Fin 256, acc (ix2 0 k) = 0) (x : S1x256.Idx) :
    f x = 0 + gain t T ((Rect.unit (s := S1x1024) ![0, o] ![1, 256] i2).emb x 1) :=
  sum_piece t T f acc (fun _ => 0) o ho hf hacc x _ (Rect.idx_unit_val (s := S1x1024) _ _ _ _ _)

/-- A chunk of a row, loaded. -/
theorem chunk (A : Vec Ideal S1x1024 .f32) (o : ℕ) (ho : o + 256 ≤ 1024) (i2) (k : Fin 256) :
    View.ld A (Rect.unit (s := S1x1024) ![0, o] ![1, 256] i2) (ix2 0 k) = A (ix2 0 (⟨o + k.val, by omega⟩ : Fin 1024)) := by
  pointwise

/-- A point that does not start a column block adds its gains to the first tap's sum. -/
theorem step_w0 (c : Dev nD) (t : Fin cfg0.N) (h : ¬ t.val % 16 = 0) (y : S1x1024.Idx) :
    (outsAt0 m c t.val t.isLt).2.1 y = (outsAt0 m c (t.val - 1) (by omega)).2.1 y + gain t (T0 m c) (y 1) := by
  rw [outsAt0_B m c t h]
  frame_out
  canon_tiles x h'
  case piece0 => exact sum_piece t (T0 m c) _ _ _ 768 (by omega) (Tile.sDw0 (holds m c t 768 (by omega) inb_S1024x1024_S256x1024_768_0 inb_S1x512x1024_S1x512x256_0_0_768 inb_S1x1024_S1x256_0_768 inb_S1x16x1024_S1x16x256_0_0_768) _) (chunk _ 768 (by omega) _) x y (by omega)
  case piece1 => exact sum_piece t (T0 m c) _ _ _ 512 (by omega) (Tile.sDw0 (holds m c t 512 (by omega) inb_S1024x1024_S256x1024_512_0 inb_S1x512x1024_S1x512x256_0_0_512 inb_S1x1024_S1x256_0_512 inb_S1x16x1024_S1x16x256_0_0_512) _) (chunk _ 512 (by omega) _) x y (by omega)
  case piece2 => exact sum_piece t (T0 m c) _ _ _ 256 (by omega) (Tile.sDw0 (holds m c t 256 (by omega) inb_S1024x1024_S256x1024_256_0 inb_S1x512x1024_S1x512x256_0_0_256 inb_S1x1024_S1x256_0_256 inb_S1x16x1024_S1x16x256_0_0_256) _) (chunk _ 256 (by omega) _) x y (by omega)
  case piece3 => exact sum_piece t (T0 m c) _ _ _ 0 (by omega) (Tile.sDw0 (holds m c t 0 (by omega) inb_S1024x1024_S256x1024_0_0 inb_S1x512x1024_S1x512x256_0_0_0 inb_S1x1024_S1x256_0_0 inb_S1x16x1024_S1x16x256_0_0_0) _) (chunk _ 0 (by omega) _) x y (by omega)

/-- A point that starts a column block leaves its gains alone in the first tap's sum. -/
theorem start_w0 (c : Dev nD) (t : Fin cfg0.N) (h : t.val % 16 = 0) (y : S1x1024.Idx) :
    (outsAt0 m c t.val t.isLt).2.1 y = 0 + gain t (T0 m c) (y 1) := by
  rw [outsAt0_A m c t h]
  frame_out
  clear h
  refine View.canon_append_of_piecesOf (Val := Elt Ideal) (e := .f32) (fun y : S1x1024.Idx => 0 + gain t (T0 m c) (y 1)) [_] [_, _, _, _]
    ⟨fun x => ?_, fun x => ?_, fun x => ?_, fun x => ?_, trivial⟩ y ?_
  · dsimp only
    refine zero_piece t (T0 m c) _ _ 768 (by omega) inb_S1x1024_S1x256_0_768 (Tile.sDw0 (holds m c t 768 (by omega) inb_S1024x1024_S256x1024_768_0 inb_S1x512x1024_S1x512x256_0_0_768 inb_S1x1024_S1x256_0_768 inb_S1x16x1024_S1x16x256_0_0_768) _) (fun k => ?_) x
    repeat rw [View.readCov_skip _ _ _ _ _ rfl]
    rw [View.readCov_fill _ _ _ _ _ (by decide)]
    pointwise [k0_pay4]
  · dsimp only
    refine zero_piece t (T0 m c) _ _ 512 (by omega) inb_S1x1024_S1x256_0_512 (Tile.sDw0 (holds m c t 512 (by omega) inb_S1024x1024_S256x1024_512_0 inb_S1x512x1024_S1x512x256_0_0_512 inb_S1x1024_S1x256_0_512 inb_S1x16x1024_S1x16x256_0_0_512) _) (fun k => ?_) x
    repeat rw [View.readCov_skip _ _ _ _ _ rfl]
    rw [View.readCov_fill _ _ _ _ _ (by decide)]
    pointwise [k0_pay4]
  · dsimp only
    refine zero_piece t (T0 m c) _ _ 256 (by omega) inb_S1x1024_S1x256_0_256 (Tile.sDw0 (holds m c t 256 (by omega) inb_S1024x1024_S256x1024_256_0 inb_S1x512x1024_S1x512x256_0_0_256 inb_S1x1024_S1x256_0_256 inb_S1x16x1024_S1x16x256_0_0_256) _) (fun k => ?_) x
    repeat rw [View.readCov_skip _ _ _ _ _ rfl]
    rw [View.readCov_fill _ _ _ _ _ (by decide)]
    pointwise [k0_pay4]
  · dsimp only
    refine zero_piece t (T0 m c) _ _ 0 (by omega) inb_S1x1024_S1x256_0_0 (Tile.sDw0 (holds m c t 0 (by omega) inb_S1024x1024_S256x1024_0_0 inb_S1x512x1024_S1x512x256_0_0_0 inb_S1x1024_S1x256_0_0 inb_S1x16x1024_S1x16x256_0_0_0) _) (fun k => ?_) x
    repeat rw [View.readCov_skip _ _ _ _ _ rfl]
    rw [View.readCov_fill _ _ _ _ _ (by decide)]
    pointwise [k0_pay4]
  exact View.cover_of_tiledL _ ![1, 256] rfl y

/-- A point that does not start a column block adds its gains to the second tap's sum. -/
theorem step_w1 (c : Dev nD) (t : Fin cfg0.N) (h : ¬ t.val % 16 = 0) (y : S1x1024.Idx) :
    (outsAt0 m c t.val t.isLt).2.2.1 y = (outsAt0 m c (t.val - 1) (by omega)).2.2.1 y + gain t (T1 m c) (y 1) := by
  rw [outsAt0_B m c t h]
  frame_out
  canon_tiles x h'
  case piece0 => exact sum_piece t (T1 m c) _ _ _ 768 (by omega) (Tile.sDw1 (holds m c t 768 (by omega) inb_S1024x1024_S256x1024_768_0 inb_S1x512x1024_S1x512x256_0_0_768 inb_S1x1024_S1x256_0_768 inb_S1x16x1024_S1x16x256_0_0_768) _) (chunk _ 768 (by omega) _) x y (by omega)
  case piece1 => exact sum_piece t (T1 m c) _ _ _ 512 (by omega) (Tile.sDw1 (holds m c t 512 (by omega) inb_S1024x1024_S256x1024_512_0 inb_S1x512x1024_S1x512x256_0_0_512 inb_S1x1024_S1x256_0_512 inb_S1x16x1024_S1x16x256_0_0_512) _) (chunk _ 512 (by omega) _) x y (by omega)
  case piece2 => exact sum_piece t (T1 m c) _ _ _ 256 (by omega) (Tile.sDw1 (holds m c t 256 (by omega) inb_S1024x1024_S256x1024_256_0 inb_S1x512x1024_S1x512x256_0_0_256 inb_S1x1024_S1x256_0_256 inb_S1x16x1024_S1x16x256_0_0_256) _) (chunk _ 256 (by omega) _) x y (by omega)
  case piece3 => exact sum_piece t (T1 m c) _ _ _ 0 (by omega) (Tile.sDw1 (holds m c t 0 (by omega) inb_S1024x1024_S256x1024_0_0 inb_S1x512x1024_S1x512x256_0_0_0 inb_S1x1024_S1x256_0_0 inb_S1x16x1024_S1x16x256_0_0_0) _) (chunk _ 0 (by omega) _) x y (by omega)

/-- A point that starts a column block leaves its gains alone in the second tap's sum. -/
theorem start_w1 (c : Dev nD) (t : Fin cfg0.N) (h : t.val % 16 = 0) (y : S1x1024.Idx) :
    (outsAt0 m c t.val t.isLt).2.2.1 y = 0 + gain t (T1 m c) (y 1) := by
  rw [outsAt0_A m c t h]
  frame_out
  clear h
  refine View.canon_append_of_piecesOf (Val := Elt Ideal) (e := .f32) (fun y : S1x1024.Idx => 0 + gain t (T1 m c) (y 1)) [_] [_, _, _, _]
    ⟨fun x => ?_, fun x => ?_, fun x => ?_, fun x => ?_, trivial⟩ y ?_
  · dsimp only
    refine zero_piece t (T1 m c) _ _ 768 (by omega) inb_S1x1024_S1x256_0_768 (Tile.sDw1 (holds m c t 768 (by omega) inb_S1024x1024_S256x1024_768_0 inb_S1x512x1024_S1x512x256_0_0_768 inb_S1x1024_S1x256_0_768 inb_S1x16x1024_S1x16x256_0_0_768) _) (fun k => ?_) x
    repeat rw [View.readCov_skip _ _ _ _ _ rfl]
    rw [View.readCov_fill _ _ _ _ _ (by decide)]
    pointwise [k0_pay5]
  · dsimp only
    refine zero_piece t (T1 m c) _ _ 512 (by omega) inb_S1x1024_S1x256_0_512 (Tile.sDw1 (holds m c t 512 (by omega) inb_S1024x1024_S256x1024_512_0 inb_S1x512x1024_S1x512x256_0_0_512 inb_S1x1024_S1x256_0_512 inb_S1x16x1024_S1x16x256_0_0_512) _) (fun k => ?_) x
    repeat rw [View.readCov_skip _ _ _ _ _ rfl]
    rw [View.readCov_fill _ _ _ _ _ (by decide)]
    pointwise [k0_pay5]
  · dsimp only
    refine zero_piece t (T1 m c) _ _ 256 (by omega) inb_S1x1024_S1x256_0_256 (Tile.sDw1 (holds m c t 256 (by omega) inb_S1024x1024_S256x1024_256_0 inb_S1x512x1024_S1x512x256_0_0_256 inb_S1x1024_S1x256_0_256 inb_S1x16x1024_S1x16x256_0_0_256) _) (fun k => ?_) x
    repeat rw [View.readCov_skip _ _ _ _ _ rfl]
    rw [View.readCov_fill _ _ _ _ _ (by decide)]
    pointwise [k0_pay5]
  · dsimp only
    refine zero_piece t (T1 m c) _ _ 0 (by omega) inb_S1x1024_S1x256_0_0 (Tile.sDw1 (holds m c t 0 (by omega) inb_S1024x1024_S256x1024_0_0 inb_S1x512x1024_S1x512x256_0_0_0 inb_S1x1024_S1x256_0_0 inb_S1x16x1024_S1x16x256_0_0_0) _) (fun k => ?_) x
    repeat rw [View.readCov_skip _ _ _ _ _ rfl]
    rw [View.readCov_fill _ _ _ _ _ (by decide)]
    pointwise [k0_pay5]
  exact View.cover_of_tiledL _ ![1, 256] rfl y

/-- A point that does not start a column block adds its gains to the third tap's sum. -/
theorem step_w2 (c : Dev nD) (t : Fin cfg0.N) (h : ¬ t.val % 16 = 0) (y : S1x1024.Idx) :
    (outsAt0 m c t.val t.isLt).2.2.2.1 y = (outsAt0 m c (t.val - 1) (by omega)).2.2.2.1 y + gain t (T2 m c) (y 1) := by
  rw [outsAt0_B m c t h]
  frame_out
  canon_tiles x h'
  case piece0 => exact sum_piece t (T2 m c) _ _ _ 768 (by omega) (Tile.sDw2 (holds m c t 768 (by omega) inb_S1024x1024_S256x1024_768_0 inb_S1x512x1024_S1x512x256_0_0_768 inb_S1x1024_S1x256_0_768 inb_S1x16x1024_S1x16x256_0_0_768) _) (chunk _ 768 (by omega) _) x y (by omega)
  case piece1 => exact sum_piece t (T2 m c) _ _ _ 512 (by omega) (Tile.sDw2 (holds m c t 512 (by omega) inb_S1024x1024_S256x1024_512_0 inb_S1x512x1024_S1x512x256_0_0_512 inb_S1x1024_S1x256_0_512 inb_S1x16x1024_S1x16x256_0_0_512) _) (chunk _ 512 (by omega) _) x y (by omega)
  case piece2 => exact sum_piece t (T2 m c) _ _ _ 256 (by omega) (Tile.sDw2 (holds m c t 256 (by omega) inb_S1024x1024_S256x1024_256_0 inb_S1x512x1024_S1x512x256_0_0_256 inb_S1x1024_S1x256_0_256 inb_S1x16x1024_S1x16x256_0_0_256) _) (chunk _ 256 (by omega) _) x y (by omega)
  case piece3 => exact sum_piece t (T2 m c) _ _ _ 0 (by omega) (Tile.sDw2 (holds m c t 0 (by omega) inb_S1024x1024_S256x1024_0_0 inb_S1x512x1024_S1x512x256_0_0_0 inb_S1x1024_S1x256_0_0 inb_S1x16x1024_S1x16x256_0_0_0) _) (chunk _ 0 (by omega) _) x y (by omega)

/-- A point that starts a column block leaves its gains alone in the third tap's sum. -/
theorem start_w2 (c : Dev nD) (t : Fin cfg0.N) (h : t.val % 16 = 0) (y : S1x1024.Idx) :
    (outsAt0 m c t.val t.isLt).2.2.2.1 y = 0 + gain t (T2 m c) (y 1) := by
  rw [outsAt0_A m c t h]
  frame_out
  clear h
  refine View.canon_append_of_piecesOf (Val := Elt Ideal) (e := .f32) (fun y : S1x1024.Idx => 0 + gain t (T2 m c) (y 1)) [_] [_, _, _, _]
    ⟨fun x => ?_, fun x => ?_, fun x => ?_, fun x => ?_, trivial⟩ y ?_
  · dsimp only
    refine zero_piece t (T2 m c) _ _ 768 (by omega) inb_S1x1024_S1x256_0_768 (Tile.sDw2 (holds m c t 768 (by omega) inb_S1024x1024_S256x1024_768_0 inb_S1x512x1024_S1x512x256_0_0_768 inb_S1x1024_S1x256_0_768 inb_S1x16x1024_S1x16x256_0_0_768) _) (fun k => ?_) x
    repeat rw [View.readCov_skip _ _ _ _ _ rfl]
    rw [View.readCov_fill _ _ _ _ _ (by decide)]
    pointwise [k0_pay6]
  · dsimp only
    refine zero_piece t (T2 m c) _ _ 512 (by omega) inb_S1x1024_S1x256_0_512 (Tile.sDw2 (holds m c t 512 (by omega) inb_S1024x1024_S256x1024_512_0 inb_S1x512x1024_S1x512x256_0_0_512 inb_S1x1024_S1x256_0_512 inb_S1x16x1024_S1x16x256_0_0_512) _) (fun k => ?_) x
    repeat rw [View.readCov_skip _ _ _ _ _ rfl]
    rw [View.readCov_fill _ _ _ _ _ (by decide)]
    pointwise [k0_pay6]
  · dsimp only
    refine zero_piece t (T2 m c) _ _ 256 (by omega) inb_S1x1024_S1x256_0_256 (Tile.sDw2 (holds m c t 256 (by omega) inb_S1024x1024_S256x1024_256_0 inb_S1x512x1024_S1x512x256_0_0_256 inb_S1x1024_S1x256_0_256 inb_S1x16x1024_S1x16x256_0_0_256) _) (fun k => ?_) x
    repeat rw [View.readCov_skip _ _ _ _ _ rfl]
    rw [View.readCov_fill _ _ _ _ _ (by decide)]
    pointwise [k0_pay6]
  · dsimp only
    refine zero_piece t (T2 m c) _ _ 0 (by omega) inb_S1x1024_S1x256_0_0 (Tile.sDw2 (holds m c t 0 (by omega) inb_S1024x1024_S256x1024_0_0 inb_S1x512x1024_S1x512x256_0_0_0 inb_S1x1024_S1x256_0_0 inb_S1x16x1024_S1x16x256_0_0_0) _) (fun k => ?_) x
    repeat rw [View.readCov_skip _ _ _ _ _ rfl]
    rw [View.readCov_fill _ _ _ _ _ (by decide)]
    pointwise [k0_pay6]
  exact View.cover_of_tiledL _ ![1, 256] rfl y

/-- A point that does not start a column block adds its gains to the bias's sum. -/
theorem step_b (c : Dev nD) (t : Fin cfg0.N) (h : ¬ t.val % 16 = 0) (y : S1x1024.Idx) :
    (outsAt0 m c t.val t.isLt).2.2.2.2 y = (outsAt0 m c (t.val - 1) (by omega)).2.2.2.2 y + gain t (DCONV m c) (y 1) := by
  rw [outsAt0_B m c t h]
  frame_out
  canon_tiles x h'
  case piece0 => exact sum_piece t (DCONV m c) _ _ _ 768 (by omega) (Tile.sDb (holds m c t 768 (by omega) inb_S1024x1024_S256x1024_768_0 inb_S1x512x1024_S1x512x256_0_0_768 inb_S1x1024_S1x256_0_768 inb_S1x16x1024_S1x16x256_0_0_768) _) (chunk _ 768 (by omega) _) x y (by omega)
  case piece1 => exact sum_piece t (DCONV m c) _ _ _ 512 (by omega) (Tile.sDb (holds m c t 512 (by omega) inb_S1024x1024_S256x1024_512_0 inb_S1x512x1024_S1x512x256_0_0_512 inb_S1x1024_S1x256_0_512 inb_S1x16x1024_S1x16x256_0_0_512) _) (chunk _ 512 (by omega) _) x y (by omega)
  case piece2 => exact sum_piece t (DCONV m c) _ _ _ 256 (by omega) (Tile.sDb (holds m c t 256 (by omega) inb_S1024x1024_S256x1024_256_0 inb_S1x512x1024_S1x512x256_0_0_256 inb_S1x1024_S1x256_0_256 inb_S1x16x1024_S1x16x256_0_0_256) _) (chunk _ 256 (by omega) _) x y (by omega)
  case piece3 => exact sum_piece t (DCONV m c) _ _ _ 0 (by omega) (Tile.sDb (holds m c t 0 (by omega) inb_S1024x1024_S256x1024_0_0 inb_S1x512x1024_S1x512x256_0_0_0 inb_S1x1024_S1x256_0_0 inb_S1x16x1024_S1x16x256_0_0_0) _) (chunk _ 0 (by omega) _) x y (by omega)

/-- A point that starts a column block leaves its gains alone in the bias's sum. -/
theorem start_b (c : Dev nD) (t : Fin cfg0.N) (h : t.val % 16 = 0) (y : S1x1024.Idx) :
    (outsAt0 m c t.val t.isLt).2.2.2.2 y = 0 + gain t (DCONV m c) (y 1) := by
  rw [outsAt0_A m c t h]
  frame_out
  clear h
  refine View.canon_append_of_piecesOf (Val := Elt Ideal) (e := .f32) (fun y : S1x1024.Idx => 0 + gain t (DCONV m c) (y 1)) [_] [_, _, _, _]
    ⟨fun x => ?_, fun x => ?_, fun x => ?_, fun x => ?_, trivial⟩ y ?_
  · dsimp only
    refine zero_piece t (DCONV m c) _ _ 768 (by omega) inb_S1x1024_S1x256_0_768 (Tile.sDb (holds m c t 768 (by omega) inb_S1024x1024_S256x1024_768_0 inb_S1x512x1024_S1x512x256_0_0_768 inb_S1x1024_S1x256_0_768 inb_S1x16x1024_S1x16x256_0_0_768) _) (fun k => ?_) x
    repeat rw [View.readCov_skip _ _ _ _ _ rfl]
    rw [View.readCov_fill _ _ _ _ _ (by decide)]
    pointwise [k0_pay7]
  · dsimp only
    refine zero_piece t (DCONV m c) _ _ 512 (by omega) inb_S1x1024_S1x256_0_512 (Tile.sDb (holds m c t 512 (by omega) inb_S1024x1024_S256x1024_512_0 inb_S1x512x1024_S1x512x256_0_0_512 inb_S1x1024_S1x256_0_512 inb_S1x16x1024_S1x16x256_0_0_512) _) (fun k => ?_) x
    repeat rw [View.readCov_skip _ _ _ _ _ rfl]
    rw [View.readCov_fill _ _ _ _ _ (by decide)]
    pointwise [k0_pay7]
  · dsimp only
    refine zero_piece t (DCONV m c) _ _ 256 (by omega) inb_S1x1024_S1x256_0_256 (Tile.sDb (holds m c t 256 (by omega) inb_S1024x1024_S256x1024_256_0 inb_S1x512x1024_S1x512x256_0_0_256 inb_S1x1024_S1x256_0_256 inb_S1x16x1024_S1x16x256_0_0_256) _) (fun k => ?_) x
    repeat rw [View.readCov_skip _ _ _ _ _ rfl]
    rw [View.readCov_fill _ _ _ _ _ (by decide)]
    pointwise [k0_pay7]
  · dsimp only
    refine zero_piece t (DCONV m c) _ _ 0 (by omega) inb_S1x1024_S1x256_0_0 (Tile.sDb (holds m c t 0 (by omega) inb_S1024x1024_S256x1024_0_0 inb_S1x512x1024_S1x512x256_0_0_0 inb_S1x1024_S1x256_0_0 inb_S1x16x1024_S1x16x256_0_0_0) _) (fun k => ?_) x
    repeat rw [View.readCov_skip _ _ _ _ _ rfl]
    rw [View.readCov_fill _ _ _ _ _ (by decide)]
    pointwise [k0_pay7]
  exact View.cover_of_tiledL _ ![1, 256] rfl y

end Cert.ConvBwdIdeal.Fold

end
-- ==== Proof.CArr.lean ====
/-
  The short convolution's five results as whole arrays.
-/
module

public import proofs.«01_k».proof.Proof.CAcc

@[expose] public section

set_option maxRecDepth 16384

noncomputable section

open Idealize.ShloMosaic Idealize.ShloMosaic.TcCoe Idealize.SL.Sem
open Idealize.ShloMosaic.Pipeline (Dat)

namespace Cert.ConvBwdIdeal.Fold
open Cert.ConvBwdIdeal Cert.ConvBwdIdeal.Gen

variable (m : (ℓ : Loc nD τ sig) → Buf (Elt Ideal) ℓ)

/-- The gains of a column block's sixteen points are the sum over all rows. -/
theorem total (T : Fin 2048 → Fin 8192 → EReal) (f : (n : ℕ) → n < cfg0.N → S1x1024.Idx → EReal)
    (h0 : ∀ t : Fin cfg0.N, t.val % 16 = 0 → ∀ y, f t.val t.isLt y = 0 + gain t T (y 1))
    (hs : ∀ t : Fin cfg0.N, ¬ t.val % 16 = 0 → ∀ y, f t.val t.isLt y = f (t.val - 1) (by omega) y + gain t T (y 1))
    (t : Fin cfg0.N) (ht : t.val % 16 = 15) (y : S1x1024.Idx) : f t.val t.isLt y = ∑ s, T (col t (y 1)) s := by
  rw [Pipeline.eq_sum_fin_of_reset_step_apply_of_flush f 16 (fun _ => 0) (fun t y => gain t T (y 1)) h0 hs t ht y, zero_add,
    Fin.sum_univ_tiles 16 512 rfl]
  refine Finset.sum_congr rfl fun q _ => Finset.sum_congr rfl fun r _ => congrArg₂ T (Fin.ext ?_) (Fin.ext ?_)
  · simp only [col]; omega
  · simp only [Tile.row, rb]; omega

theorem dp_congr (c : Dev nD) {q q' : Fin 4} {s s' : Fin 8192} {e e' : Fin 2048} (hq : q = q') (hs : s = s') (he : e = e') :
    DP m c q s e = DP m c q' s' e' := by
  rw [hq, hs, he]

theorem dp_arr (c : Dev nD) : (dats m 0 c).arrAt 16 cfg0.N = fun i : S4x8192x2048.Idx => DP m c (i 0) (i 1) (i 2) := by
  refine (dats m 0 c).arrAt_eq_of_covers 16 _ (by decide +kernel) fun t hf y => ?_
  idx_vars y
  blk_simp
  rw [after0_16]
  exact (store m c t (ix3 y0 y1 y2)).trans (dp_congr m c (Fin.ext (by blk_simp [idx t])) (Fin.ext (by blk_simp [idx t]; rfl))
    (Fin.ext (by blk_simp [idx t]; rfl)))

theorem w0_arr (c : Dev nD) : (dats m 0 c).arrAt 17 cfg0.N = fun i : S1x2048.Idx =>
    ConvGrad.dw0 (DY m c (i 1)) (Z m c (i 1)) (BG m c (i 1)) (CG m c (i 1)) (XI m c (i 1)) := by
  refine (dats m 0 c).arrAt_eq_of_covers 17 _ (by decide +kernel) fun t hf y => ?_
  idx_vars y
  blk_simp
  rw [after0_17]
  exact (total (T0 m c) (fun n h => (outsAt0 m c n h).2.1) (start_w0 m c) (step_w0 m c) t ((flush0_17 t).mp hf) (ix2 y0 y1)).trans
    (congrArg (fun e => ∑ s, T0 m c e s) (Fin.ext (by blk_simp [idx t]; rfl)))

theorem w1_arr (c : Dev nD) : (dats m 0 c).arrAt 18 cfg0.N = fun i : S1x2048.Idx =>
    ConvGrad.dw1 (DY m c (i 1)) (Z m c (i 1)) (BG m c (i 1)) (CG m c (i 1)) (XI m c (i 1)) := by
  refine (dats m 0 c).arrAt_eq_of_covers 18 _ (by decide +kernel) fun t hf y => ?_
  idx_vars y
  blk_simp
  rw [after0_18]
  exact (total (T1 m c) (fun n h => (outsAt0 m c n h).2.2.1) (start_w1 m c) (step_w1 m c) t ((flush0_18 t).mp hf) (ix2 y0 y1)).trans
    (congrArg (fun e => ∑ s, T1 m c e s) (Fin.ext (by blk_simp [idx t]; rfl)))

theorem w2_arr (c : Dev nD) : (dats m 0 c).arrAt 19 cfg0.N = fun i : S1x2048.Idx =>
    ConvGrad.dw2 (DY m c (i 1)) (Z m c (i 1)) (BG m c (i 1)) (CG m c (i 1)) (XI m c (i 1)) := by
  refine (dats m 0 c).arrAt_eq_of_covers 19 _ (by decide +kernel) fun t hf y => ?_
  idx_vars y
  blk_simp
  rw [after0_19]
  exact (total (T2 m c) (fun n h => (outsAt0 m c n h).2.2.2.1) (start_w2 m c) (step_w2 m c) t ((flush0_19 t).mp hf) (ix2 y0 y1)).trans
    (congrArg (fun e => ∑ s, T2 m c e s) (Fin.ext (by blk_simp [idx t]; rfl)))

theorem b_arr (c : Dev nD) : (dats m 0 c).arrAt 20 cfg0.N = fun i : S1x2048.Idx =>
    ConvGrad.db (DY m c (i 1)) (Z m c (i 1)) (BG m c (i 1)) := by
  refine (dats m 0 c).arrAt_eq_of_covers 20 _ (by decide +kernel) fun t hf y => ?_
  idx_vars y
  blk_simp
  rw [after0_20]
  exact (total (DCONV m c) (fun n h => (outsAt0 m c n h).2.2.2.2) (start_b m c) (step_b m c) t ((flush0_20 t).mp hf) (ix2 y0 y1)).trans
    (congrArg (fun e => ∑ s, DCONV m c e s) (Fin.ext (by blk_simp [idx t]; rfl)))

end Cert.ConvBwdIdeal.Fold

end
-- ==== Proof.CRef.lean ====
/-
  The reference's five results of the short convolution's gradient, read index by index.
-/
module

public import proofs.«01_k».proof.Proof.Gen.ConvBwdRefIdeal.Read
public import proofs.«01_k».proof.Proof.ConvGrad
public import proofs.«01_k».proof.Proof.HostSum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvBwdRefIdeal.Forms
open Cert.ConvBwdRefIdeal Cert.ConvBwdRefIdeal.Read

variable (p : (⟨S1x8192x8192, .f32⟩ : BufTy).Contents (Elt Ideal)) (cw : (⟨S1x3x2048, .f32⟩ : BufTy).Contents (Elt Ideal))
  (cb : (⟨S1x2048, .f32⟩ : BufTy).Contents (Elt Ideal)) (wo : (⟨S1x2048x1024, .f32⟩ : BufTy).Contents (Elt Ideal))
  (ct : (⟨S1x8192x1024, .f32⟩ : BufTy).Contents (Elt Ideal))

/-- The arguments by row and channel. -/
abbrev BG (e : Fin 2048) (s : Fin 8192) : EReal := p (ix3 0 s ⟨e.val, by omega⟩)
abbrev CG (e : Fin 2048) (s : Fin 8192) : EReal := p (ix3 0 s ⟨2048 + e.val, by omega⟩)
abbrev XI (e : Fin 2048) (s : Fin 8192) : EReal := p (ix3 0 s ⟨4096 + e.val, by omega⟩)
abbrev Z (e : Fin 2048) (s : Fin 8192) : EReal := p (ix3 0 s ⟨6144 + e.val, by omega⟩)
abbrev TAP (k : Fin 3) (e : Fin 2048) : EReal := cw (ix3 0 k e)
abbrev BIAS (e : Fin 2048) : EReal := cb (ix2 0 e)
/-- The cotangent through the output product. -/
abbrev DY (e : Fin 2048) (s : Fin 8192) : EReal := ∑ d : Fin 1024, ct (ix3 0 s d) * wo (ix3 0 e d)
abbrev CX (e : Fin 2048) : Fin 8192 → EReal := ConvGrad.cx (CG p e) (XI p e)
abbrev CONV (e : Fin 2048) : Fin 8192 → EReal := ConvGrad.conv (CG p e) (XI p e) (TAP cw 0 e) (TAP cw 1 e) (TAP cw 2 e) (BIAS cb e)
abbrev DC (e : Fin 2048) : Fin 8192 → EReal := ConvGrad.dconv (DY wo ct e) (Z p e) (BG p e)
abbrev DCX (e : Fin 2048) : Fin 8192 → EReal :=
  ConvGrad.dcx (DY wo ct e) (Z p e) (BG p e) (TAP cw 0 e) (TAP cw 1 e) (TAP cw 2 e)

theorem v7 (s : Fin 8192) (e : Fin 2048) : val_main_v7 (F := Ideal) p (ix3 0 s e) = CX p e s := by
  unfold CX ConvGrad.cx
  pointwise [val_main_v7, val_main_v4, val_main_v5]

theorem v21 (s : Fin 8192) (e : Fin 2048) : val_main_v21 (F := Ideal) p (ix3 0 s e) = ConvGrad.down 2 (CX p e) s := by
  unfold ConvGrad.down
  pointwise [val_main_v21, val_main_v9, val_main_v8, val_main_cst]
  simp only [v7]

theorem v28 (s : Fin 8192) (e : Fin 2048) : val_main_v28 (F := Ideal) p (ix3 0 s e) = ConvGrad.down 1 (CX p e) s := by
  unfold ConvGrad.down
  pointwise [val_main_v28, val_main_v9, val_main_v8, val_main_cst]
  simp only [v7]
  by_cases h : s.val < 1
  · rw [dif_pos (by omega), dif_pos h]
  · rw [dif_neg (by omega), dif_neg h]
    exact congrArg _ (Fin.ext (by simp only; omega))

theorem v32 (s : Fin 8192) (e : Fin 2048) : val_main_v32 (F := Ideal) p cw cb (ix3 0 s e) = CONV p cw cb e s := by
  unfold CONV ConvGrad.conv
  pointwise [val_main_v32, val_main_v31, val_main_v30, val_main_v29, val_main_v27, val_main_v26, val_main_v25, val_main_v24, val_main_v23, val_main_v22, val_main_v20, val_main_v19, val_main_v18, val_main_v17, val_main_v16, val_main_v15, val_main_v14, val_main_v13, val_main_v12, val_main_v11, val_main_v1, val_main_v0]
  simp only [v7, v21, v28]

theorem v33s (s : Fin 8192) (e : Fin 2048) : val_main_v33_2 (F := Ideal) p (ix3 0 s e) = ConvGrad.sg (Z p e s) := by
  rw [← ConvGrad.div_eq]
  pointwise [val_main_v33_2, val_main_call0_v4, val_main_call0_cst_0, val_main_call0_v3, val_main_call0_v2, val_main_call0_cst, val_main_call0_v1, val_main_call0_v0, val_main_v6]

theorem v37 (s : Fin 8192) (e : Fin 2048) : val_main_v37 (F := Ideal) wo ct (ix3 0 s e) = DY wo ct e s := by
  pointwise [val_main_v37, val_main_v2]

theorem v34 (s : Fin 8192) (e : Fin 2048) : val_main_v34 (F := Ideal) p (ix3 0 s e) = ConvGrad.silu (Z p e) s * BG p e s := by
  unfold ConvGrad.silu
  pointwise [val_main_v34, val_main_v33_0, val_main_v3, val_main_v6]
  simp only [v33s]

theorem v38 (s : Fin 8192) (e : Fin 2048) : val_main_v38 (F := Ideal) p wo ct (ix3 0 s e) = DC p wo ct e s := by
  unfold DC ConvGrad.dconv
  pointwise [val_main_v38]
  rw [v34, v37, mul_comm, mul_assoc]

/-- The gradient of the gate before the product. -/
theorem v40 (s : Fin 8192) (e : Fin 2048) : val_main_v40 (F := Ideal) p cw cb wo ct (ix3 0 s e)
    = ConvGrad.dbg (DY wo ct e) (Z p e) (CG p e) (XI p e) (TAP cw 0 e) (TAP cw 1 e) (TAP cw 2 e) (BIAS cb e) s := by
  unfold ConvGrad.dbg ConvGrad.silu
  pointwise [val_main_v40, val_main_v39, val_main_v33_0, val_main_v6]
  simp only [v33s, v37, v32]
  rw [mul_left_comm, mul_assoc, mul_assoc, mul_assoc]

/-- The gradient of the gate after, by the product rule. -/
theorem v42 (s : Fin 8192) (e : Fin 2048) : val_main_v42 (F := Ideal) p cw cb wo ct (ix3 0 s e)
    = DY wo ct e s * CONV p cw cb e s * BG p e s * ConvGrad.sg (Z p e s)
      + DY wo ct e s * CONV p cw cb e s * BG p e s * Z p e s * (ConvGrad.sg (Z p e s) * (1 - ConvGrad.sg (Z p e s))) := by
  pointwise [val_main_v42, val_main_call1_v2, val_main_call1_v1, val_main_call1_v0, val_main_v41, val_main_v39, val_main_v33_1, val_main_call0_v7, val_main_call0_v6, val_main_call0_cst_1, val_main_v3, val_main_v6]
  simp only [v33s, v37, v32]
  congr 2
  exact mul_comm _ _

/-- The two later rows' shares. -/
theorem v76 (s : Fin 8192) (e : Fin 2048) : val_main_v76 (F := Ideal) p cw wo ct (ix3 0 s e)
    = TAP cw 1 e * ConvGrad.up 1 (DC p wo ct e) s + TAP cw 0 e * ConvGrad.up 2 (DC p wo ct e) s := by
  unfold ConvGrad.up
  pointwise [val_main_v76, val_main_v59, val_main_v58, val_main_cst_7, val_main_v53, val_main_v52, val_main_v22, val_main_v20, val_main_v19, val_main_v49, val_main_cst_3, val_main_v44, val_main_v43, val_main_v29, val_main_v27, val_main_v26, val_main_v0]
  simp only [v38]
  congr 1
  · by_cases h : s.val + 1 < 8192
    · rw [dif_pos (by omega), dif_pos h]
      exact congrArg _ (congrArg _ (Fin.ext (by simp only; omega)))
    · rw [dif_neg (by omega), dif_neg h, mul_zero]
  · by_cases h : s.val + 2 < 8192
    · rw [dif_pos (by omega), dif_pos h]
      exact congrArg _ (congrArg _ (Fin.ext (by simp only; omega)))
    · rw [dif_neg (by omega), dif_neg h, mul_zero]

theorem v77 (s : Fin 8192) (e : Fin 2048) : val_main_v77 (F := Ideal) p cw wo ct (ix3 0 s e) = DCX p cw wo ct e s := by
  unfold DCX ConvGrad.dcx
  pointwise [val_main_v77, val_main_v67, val_main_v66, val_main_v13, val_main_v12, val_main_v11, val_main_v0]
  rw [v76, v38, ← add_assoc]

/-- The gradients of the taps and of the bias: sums over the rows. -/
theorem v48 (e : Fin 2048) : val_main_v48 (F := Ideal) p wo ct (ix1 e)
    = ConvGrad.dw1 (DY wo ct e) (Z p e) (BG p e) (CG p e) (XI p e) := by
  unfold val_main_v48 ConvGrad.dw1
  simp only [Host.reduceAdd, Ideal.hostReduceAdd_def]
  rw [Cert.Math.hostReduceAdd_unit01 _ _ _ e]
  pointwise [val_main_cst_2, val_main_v47, val_main_v46, val_main_cst_1, val_main_v45]
  simp only [v38, v28]

theorem v57 (e : Fin 2048) : val_main_v57 (F := Ideal) p wo ct (ix1 e)
    = ConvGrad.dw0 (DY wo ct e) (Z p e) (BG p e) (CG p e) (XI p e) := by
  unfold val_main_v57 ConvGrad.dw0
  simp only [Host.reduceAdd, Ideal.hostReduceAdd_def]
  rw [Cert.Math.hostReduceAdd_unit01 _ _ _ e]
  pointwise [val_main_cst_6, val_main_v56, val_main_v55, val_main_cst_5, val_main_v54]
  simp only [v38, v21]

theorem v65 (e : Fin 2048) : val_main_v65 (F := Ideal) p wo ct (ix1 e) = ConvGrad.db (DY wo ct e) (Z p e) (BG p e) := by
  unfold val_main_v65 ConvGrad.db
  simp only [Host.reduceAdd, Ideal.hostReduceAdd_def]
  rw [Cert.Math.hostReduceAdd_unit01 _ _ _ e]
  pointwise [val_main_cst_10, val_main_v64, val_main_v63, val_main_cst_9]
  simp only [v38]

theorem v71 (e : Fin 2048) : val_main_v71 (F := Ideal) p wo ct (ix1 e)
    = ConvGrad.dw2 (DY wo ct e) (Z p e) (BG p e) (CG p e) (XI p e) := by
  unfold val_main_v71 ConvGrad.dw2
  simp only [Host.reduceAdd, Ideal.hostReduceAdd_def]
  rw [Cert.Math.hostReduceAdd_unit01 _ _ _ e]
  pointwise [val_main_cst_12, val_main_v70, val_main_v69, val_main_cst_11, val_main_v68]
  simp only [v38, v7]

theorem isReal_dy (hw : ∀ i, ConvGrad.IsReal (wo i)) (hc : ∀ i, ConvGrad.IsReal (ct i)) (e : Fin 2048) (s : Fin 8192) :
    ConvGrad.IsReal (DY wo ct e s) := ConvGrad.IsReal.sum _ _ fun d => (hc _).mul (hw _)

theorem isReal_conv (hp : ∀ i, ConvGrad.IsReal (p i)) (hcw : ∀ i, ConvGrad.IsReal (cw i))
    (hcb : ∀ i, ConvGrad.IsReal (cb i)) (e : Fin 2048) (s : Fin 8192) : ConvGrad.IsReal (CONV p cw cb e s) :=
  ConvGrad.IsReal.conv (cg := CG p e) (xi := XI p e) (fun _ => hp _) (fun _ => hp _) (hcw _) (hcw _) (hcw _) (hcb _) s

/-- The four gradients of the projection's parts, of real arguments. -/
theorem part_ref (hp : ∀ i, ConvGrad.IsReal (p i)) (hcw : ∀ i, ConvGrad.IsReal (cw i)) (hcb : ∀ i, ConvGrad.IsReal (cb i))
    (hw : ∀ i, ConvGrad.IsReal (wo i)) (hc : ∀ i, ConvGrad.IsReal (ct i)) :
    val_main_v93 (F := Ideal) p cw cb wo ct = fun i : S4x8192x2048.Idx =>
      ConvGrad.part (DY wo ct (i 2)) (Z p (i 2)) (BG p (i 2)) (CG p (i 2)) (XI p (i 2)) (TAP cw 0 (i 2)) (TAP cw 1 (i 2))
        (TAP cw 2 (i 2)) (BIAS cb (i 2)) (i 0) (i 1) := by
  funext i
  idx_vars i
  obtain ⟨q, hq⟩ := i0
  unfold ConvGrad.part
  pointwise [val_main_v93, val_main_v92, val_main_v91, val_main_v90, val_main_v89, val_main_v88, val_main_v87, val_main_v86, val_main_v85, val_main_v84, val_main_v83, val_main_v80, val_main_v79, val_main_v78, val_main_v4, val_main_v5]
  simp only [v40, v77, v42]
  have e1 : 2048 + i2.val - 2048 = i2.val := by omega
  have e2 : 4096 + i2.val - 2048 - 2048 = i2.val := by omega
  have e3 : 6144 + i2.val - 2048 - 2048 - 2048 = i2.val := by omega
  have z := ConvGrad.silu_grad (((isReal_dy wo ct hw hc i2 i1).mul (isReal_conv p cw cb hp hcw hcb i2 i1)).mul
    (hp (ix3 0 i1 ⟨i2.val, by omega⟩))) (hp (ix3 0 i1 ⟨6144 + i2.val, by omega⟩))
  have f : DY wo ct i2 i1 * CONV p cw cb i2 i1 * BG p i2 i1 = DY wo ct i2 i1 * BG p i2 i1 * CONV p cw cb i2 i1 :=
    mul_right_comm _ _ _
  interval_cases q
  · rfl
  · rfl
  · rw [dif_neg (by omega), dif_neg (by omega), dif_pos (by omega), dif_neg (by omega), dif_neg (by omega), dif_pos (by omega)]
    simp only [e2]
    exact mul_comm _ _
  · rw [dif_neg (by omega), dif_neg (by omega), dif_neg (by omega), dif_neg (by omega), dif_neg (by omega), dif_neg (by omega)]
    simp only [e3]
    exact z.symm.trans (congrArg (· * _) f)

theorem w0_ref : val_main_v95 (F := Ideal) p wo ct = fun i : S1x2048.Idx =>
    ConvGrad.dw0 (DY wo ct (i 1)) (Z p (i 1)) (BG p (i 1)) (CG p (i 1)) (XI p (i 1)) := by
  funext i
  idx_vars i
  pointwise [val_main_v95, val_main_v94, val_main_v82, val_main_v74, val_main_v73, val_main_cst_13, val_main_v72, val_main_v62, val_main_v61, val_main_cst_8, val_main_v60, val_main_v51, val_main_cst_4, val_main_v50]
  simp only [v57]

theorem w1_ref : val_main_v97 (F := Ideal) p wo ct = fun i : S1x2048.Idx =>
    ConvGrad.dw1 (DY wo ct (i 1)) (Z p (i 1)) (BG p (i 1)) (CG p (i 1)) (XI p (i 1)) := by
  funext i
  idx_vars i
  pointwise [val_main_v97, val_main_v96, val_main_v82, val_main_v74, val_main_v73, val_main_cst_13, val_main_v72, val_main_v62, val_main_v61, val_main_cst_8, val_main_v60, val_main_v51, val_main_cst_4, val_main_v50]
  simp only [v48]

theorem w2_ref : val_main_v99 (F := Ideal) p wo ct = fun i : S1x2048.Idx =>
    ConvGrad.dw2 (DY wo ct (i 1)) (Z p (i 1)) (BG p (i 1)) (CG p (i 1)) (XI p (i 1)) := by
  funext i
  idx_vars i
  pointwise [val_main_v99, val_main_v98, val_main_v82, val_main_v74, val_main_v73, val_main_cst_13, val_main_v72, val_main_v62, val_main_v61, val_main_cst_8, val_main_v60, val_main_v51, val_main_cst_4, val_main_v50]
  simp only [v71]

theorem b_ref : val_main_v81 (F := Ideal) p wo ct = fun i : S1x2048.Idx =>
    ConvGrad.db (DY wo ct (i 1)) (Z p (i 1)) (BG p (i 1)) := by
  funext i
  idx_vars i
  pointwise [val_main_v81]
  simp only [v65]

end Cert.ConvBwdRefIdeal.Forms
end
end
-- ==== Proof.Finite.lean ====
/-
  The preconditions of the value claims read: an array whose entries are all of absolute value below infinity is real at
  every entry.
-/
module

public import proofs.«01_k».proof.Pre_conv_finite
public import proofs.«01_k».proof.Pre_gmlp_finite
public import proofs.«01_k».proof.Proof.ConvGrad

@[expose] public section

noncomputable section

open Idealize.ShloMosaic ConvGrad

namespace Cert.Math

theorem real_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  refine IsReal.of_ne (fun e => ?_) fun e => ?_
  · rw [e] at hlt; simp at hlt
  · rw [e] at hlt; simp at hlt

end Cert.Math

namespace Cert.Pre_conv_finite

instance facts : Facts := ⟨by decide, by decide, by decide, by decide, by decide⟩

end Cert.Pre_conv_finite

namespace Cert.Pre_gmlp_finite

instance facts : Facts := ⟨by decide, by decide, by decide, by decide, by decide, by decide⟩

end Cert.Pre_gmlp_finite

end
-- ==== Proof.CValue.lean ====
/-
  The kernel and the reference compute the same gradients of the gated short convolution, at arguments that are finite.
-/
module

public import proofs.«01_k».proof.Defs
public import proofs.«01_k».proof.Proof.CArr
public import proofs.«01_k».proof.Proof.CRef
public import proofs.«01_k».proof.Proof.Finite
public import proofs.«01_k».proof.Proof.Gen.ConvBwdRefIdeal.Run

@[expose] public section

set_option maxRecDepth 16384

noncomputable section

open Idealize.ShloMosaic Idealize.ShloMosaic.TcCoe Idealize.SL.Sem

namespace Cert.ConvBwdIdeal.Fold
open Cert.ConvBwdIdeal Cert.ConvBwdIdeal.Gen

/-- The precondition makes every entry of the five arguments real. -/
theorem reals (m : (ℓ : Loc nD τ sig) → Buf (Elt Ideal) ℓ) (h : Cert.Pre_ConvBwdIdeal_conv_finite m) (c : Dev nD) :
    (∀ i, ConvGrad.IsReal (m ((c : Thread nD τ).loc main_arg0) i)) ∧ (∀ i, ConvGrad.IsReal (m ((c : Thread nD τ).loc main_arg1) i))
    ∧ (∀ i, ConvGrad.IsReal (m ((c : Thread nD τ).loc main_arg2) i)) ∧ (∀ i, ConvGrad.IsReal (m ((c : Thread nD τ).loc main_arg3) i))
    ∧ ∀ i, ConvGrad.IsReal (m ((c : Thread nD τ).loc main_arg4) i) := by
  obtain ⟨h0, h1, h2, h3, h4⟩ := h c
  exact ⟨fun i => Math.real_of_abs_lt _ (congrFun h0 i), fun i => Math.real_of_abs_lt _ (congrFun h1 i),
    fun i => Math.real_of_abs_lt _ (congrFun h2 i), fun i => Math.real_of_abs_lt _ (congrFun h3 i),
    fun i => Math.real_of_abs_lt _ (congrFun h4 i)⟩

/-- At every memory with finite arguments the kernel's run and the reference's run, on the same arguments, end with the
    same five arrays: the gradients of the projection's four parts, of the three taps and of the bias. -/
theorem algebraic : Cert.algebraic_ConvBwdIdeal_ConvBwdRefIdeal_pre_conv_finite := fun m ρ m' ρ' hpre hag =>
  ⟨fun c => (dats m 0 c).arrAt 16 cfg0.N, fun c => (dats m 0 c).arrAt 17 cfg0.N, fun c => (dats m 0 c).arrAt 18 cfg0.N,
    fun c => (dats m 0 c).arrAt 19 cfg0.N, fun c => (dats m 0 c).arrAt 20 cfg0.N, Value.run_blocks m ρ,
    (θ_run _ _ _).mono (fun r h c => by
      obtain ⟨e0, e1, e2, e3, e4⟩ := hag c
      obtain ⟨r0, r1, r2, r3, r4⟩ := reals m hpre c
      refine ⟨?_, ?_, ?_, ?_, ?_, (h c).2.2.2.2.2⟩
      · rw [(h c).1, ConvBwdRefIdeal.Read.val_main_v93_eq, e0, e1, e2, e3, e4]
        exact (ConvBwdRefIdeal.Forms.part_ref _ _ _ _ _ r0 r1 r2 r3 r4).trans (dp_arr m c).symm
      · rw [(h c).2.1, ConvBwdRefIdeal.Read.val_main_v95_eq, e0, e3, e4]
        exact (ConvBwdRefIdeal.Forms.w0_ref _ _ _).trans (w0_arr m c).symm
      · rw [(h c).2.2.1, ConvBwdRefIdeal.Read.val_main_v97_eq, e0, e3, e4]
        exact (ConvBwdRefIdeal.Forms.w1_ref _ _ _).trans (w1_arr m c).symm
      · rw [(h c).2.2.2.1, ConvBwdRefIdeal.Read.val_main_v99_eq, e0, e3, e4]
        exact (ConvBwdRefIdeal.Forms.w2_ref _ _ _).trans (w2_arr m c).symm
      · rw [(h c).2.2.2.2.1, ConvBwdRefIdeal.Read.val_main_v81_eq, e0, e3, e4]
        exact (ConvBwdRefIdeal.Forms.b_ref _ _ _).trans (b_arr m c).symm) (ConvBwdRefIdeal.Value.run m' ρ')⟩

end Cert.ConvBwdIdeal.Fold
end
-- ==== Proof.GmlpMath.lean ====
/-
  The gated mixing unit by row and channel: its activation, its layer norm, the causal mixing of the positions of a chunk,
  and the head that follows it (the output product, the root mean square norm, the loss and its gradients).
-/
module

public import proofs.«01_k».proof.Proof.NormBwd
public import proofs.«01_k».proof.Proof.ConvGrad
public import Idealize.ShloMosaic.Lib.Pipeline.ValueKit

@[expose] public section

noncomputable section

open Idealize.ShloMosaic Cert

namespace Gmlp

/-- The activation `x Φ(x)`, with the constant `c` for the reciprocal root of two. -/
def gelu (c x : EReal) : EReal := x * (Ideal.ofBits .f32 1056964608#32 * (1 + Ideal.erf (x * c)))

/-- The activation as the reference writes it. -/
theorem gelu_erfc (c x : EReal) : Ideal.ofBits .f32 1056964608#32 * x * Ideal.erfc (-x * c) = gelu c x := by
  unfold gelu
  rw [EReal.neg_mul, Ideal.erfc_neg, mul_comm _ x, mul_assoc]

/-- The arguments of the mixing unit: the projection's three parts by row and channel, the layer norm's gain and shift, the
    mixing weights by group and position, and the mixing bias. -/
structure Unit where
  c : EReal
  pu : Fin 8192 → Fin 2048 → EReal
  pv : Fin 8192 → Fin 2048 → EReal
  pz : Fin 8192 → Fin 2048 → EReal
  g : Fin 2048 → EReal
  b : Fin 2048 → EReal
  w : Fin 8 → Fin 128 → Fin 128 → EReal
  bs : Fin 8 → Fin 128 → EReal

namespace Unit
variable (A : Unit)

def v (s : Fin 8192) (k : Fin 2048) : EReal := gelu A.c (A.pv s k)
/-- The row's mean. -/
def mu (s : Fin 8192) : EReal := Ideal.div (∑ k, A.v s k) (Ideal.ofBits .f32 1157627904#32)
def cen (s : Fin 8192) (k : Fin 2048) : EReal := A.v s k - A.mu s
/-- The row's variance plus the constant. -/
def var (s : Fin 8192) : EReal :=
  Ideal.div (∑ k, A.cen s k * A.cen s k) (Ideal.ofBits .f32 1157627904#32) + Ideal.ofBits .f32 925353388#32
/-- The normalised row with gain and shift. -/
def vn (s : Fin 8192) (k : Fin 2048) : EReal := A.cen s k * Ideal.rsqrt (A.var s) * A.g k + A.b k
/-- The mixing weight where the position mixed in is not later. -/
def tri (i : Fin 8) (n j : Fin 128) : EReal := if j.val ≤ n.val then A.w i n j else 0
/-- The group of a channel, the position of a row in its chunk, and position `j` of the same chunk. -/
abbrev grp (k : Fin 2048) : Fin 8 := ⟨k.val / 256, by omega⟩
abbrev pos (s : Fin 8192) : Fin 128 := ⟨s.val % 128, by omega⟩
abbrev mate (s : Fin 8192) (j : Fin 128) : Fin 8192 := ⟨s.val / 128 * 128 + j.val, by omega⟩
/-- The mixed positions. -/
def mix (s : Fin 8192) (k : Fin 2048) : EReal := (∑ j, A.tri (grp k) (pos s) j * A.vn (mate s j) k) + A.bs (grp k) (pos s)
/-- The unit's result. -/
def y (s : Fin 8192) (k : Fin 2048) : EReal := A.pz s k * ConvGrad.sg (A.pz s k) * (gelu A.c (A.pu s k) * A.mix s k)

end Unit

/-- The head's arguments: the output weight, the residual rows, the gate, the final gain and the target. -/
structure Head extends Unit where
  wo : Fin 2048 → Fin 1024 → EReal
  x1 : Fin 8192 → Fin 1024 → EReal
  gate : Fin 1024 → EReal
  gf : Fin 1024 → EReal
  tg : Fin 8192 → Fin 1024 → EReal

namespace Head
variable (A : Head)

def br (s : Fin 8192) (d : Fin 1024) : EReal := ∑ k, A.y s k * A.wo k d
def X (s : Fin 8192) (d : Fin 1024) : EReal := A.x1 s d + A.gate d * A.br s d
def xn (s : Fin 8192) (d : Fin 1024) : EReal := A.X s d * NormBwd.rs A.X s
def err (s : Fin 8192) (d : Fin 1024) : EReal := A.xn s d * A.gf d - A.tg s d
/-- A row's share of twice the loss. -/
def lossRow (s : Fin 8192) : EReal := Ideal.div (∑ d, A.err s d * A.err s d) (Ideal.ofBits .f32 1149239296#32)
def loss : EReal := Ideal.ofBits .f32 1056964608#32 * ∑ s, A.lossRow s
/-- The loss's gradient in the normalised rows with gain. -/
def dout (s : Fin 8192) (d : Fin 1024) : EReal := A.err s d * Ideal.ofBits .f32 981467136#32
def dx (s : Fin 8192) (d : Fin 1024) : EReal :=
  NormBwd.rs A.X s * (A.dout s d * A.gf d
    - A.xn s d * Ideal.div (∑ k, A.dout s k * A.gf k * A.xn s k) (Ideal.ofBits .f32 1149239296#32))
def dbr (s : Fin 8192) (d : Fin 1024) : EReal := A.gate d * A.dx s d
def dgf (d : Fin 1024) : EReal := ∑ s, A.dout s d * A.xn s d
def dgate (d : Fin 1024) : EReal := ∑ s, A.dx s d * A.br s d

theorem ofBits_1024th : Ideal.ofBits .f32 981467136#32 = ((1 / 1024 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

/-- The gradient as the reference writes it: half of the mean's share of twice the error. -/
theorem dout_eq (e : EReal) : Ideal.div (Ideal.ofBits .f32 1056964608#32 * 1) (Ideal.ofBits .f32 1149239296#32)
    * (Ideal.ofBits .f32 1073741824#32 * e) = e * Ideal.ofBits .f32 981467136#32 := by
  rw [mul_one, ConvGrad.half_eq, Math.ofBits_1024, ofBits_two, ofBits_1024th, Ideal.div_coe (by norm_num), ← mul_assoc, ← EReal.coe_mul,
    ← EReal.coe_mul, mul_comm e]
  norm_num

/-- The gradient of the rows as the reference writes it. -/
theorem dx_eq (s : Fin 8192) (d : Fin 1024) : A.dout s d * A.gf d * NormBwd.rs A.X s
    + A.X s d * Ideal.div ((∑ k, A.X s k * (A.dout s k * A.gf k)) * (Ideal.ofBits .f32 3204448256#32 * Ideal.div (NormBwd.rs A.X s) (NormBwd.msq A.X s)))
        (Ideal.ofBits .f32 1149239296#32)
    + Ideal.div ((∑ k, A.X s k * (A.dout s k * A.gf k)) * (Ideal.ofBits .f32 3204448256#32 * Ideal.div (NormBwd.rs A.X s) (NormBwd.msq A.X s)))
        (Ideal.ofBits .f32 1149239296#32) * A.X s d = A.dx s d := by
  have h := Math.rms_row (N := 1024) (e := Math.eps) (by norm_num) Math.eps_pos (A.X s) (fun k => A.dout s k * A.gf k) 0 d
    (NormBwd.msq A.X s) (by unfold NormBwd.msq; rw [Math.ofBits_1024, Math.ofBits_eps])
  rw [zero_add, zero_add] at h
  rw [Math.ofBits_1024, Math.ofBits_neg_half]
  unfold dx xn NormBwd.rs
  rw [Math.ofBits_1024]
  exact h.symm

/-- The loss of the points' rows adds up. -/
theorem half_sum {ι : Type*} (s : Finset ι) (f : ι → EReal) :
    Ideal.ofBits .f32 1056964608#32 * ∑ i ∈ s, f i = ∑ i ∈ s, Ideal.ofBits .f32 1056964608#32 * f i := by
  rw [ConvGrad.half_eq]
  exact Math.coe_mul_sum s f (by norm_num)

end Head

end Gmlp

end
-- ==== Proof.GmlpGrad.lean ====
/-
  The gradients of the gated mixing unit by row and channel, in the form the kernel computes them, and the two identities
  of real arithmetic by which the rule of differentiation gives the same: the activation's slope, and a normalised row's
  gradient.
-/
module

public import proofs.«01_k».proof.Proof.GmlpMath

@[expose] public section

noncomputable section

open Idealize.ShloMosaic Cert ConvGrad

namespace Gmlp

/-- The density's constant, with the rounded `2/√π` of the error function's derivative. -/
abbrev dens : EReal := ((9465531 / 16777216 * (Real.sqrt 2)⁻¹ : ℝ) : EReal)
/-- The reciprocal root of two. -/
abbrev rt : EReal := (((Real.sqrt 2)⁻¹ : ℝ) : EReal)

/-- The activation's slope `Φ(x) + x φ(x)`. -/
def slope (x : EReal) : EReal :=
  Ideal.ofBits .f32 1056964608#32 * (1 + Ideal.erf (x * rt)) + x * (Ideal.exp (Ideal.ofBits .f32 3204448256#32 * x * x) * dens)

/-- The arguments of the unit's gradient: the unit's own, the output weight and the cotangent of the output product. -/
structure Bwd extends Unit where
  wo : Fin 2048 → Fin 1024 → EReal
  ct : Fin 8192 → Fin 1024 → EReal

namespace Bwd
variable (A : Bwd)

def u (s : Fin 8192) (k : Fin 2048) : EReal := gelu A.c (A.pu s k)
def dy (s : Fin 8192) (k : Fin 2048) : EReal := ∑ d, A.ct s d * A.wo k d
def ds (s : Fin 8192) (k : Fin 2048) : EReal := A.dy s k * (A.pz s k * sg (A.pz s k))
/-- The gradient of the mixed positions. -/
def dm (s : Fin 8192) (k : Fin 2048) : EReal := A.ds s k * A.u s k
/-- The gradient of the gate's part of the projection. -/
def dz (s : Fin 8192) (k : Fin 2048) : EReal :=
  A.dy s k * (A.u s k * A.mix s k) * (sg (A.pz s k) * (1 + A.pz s k * (1 - sg (A.pz s k))))
/-- The gradient of the first part of the projection. -/
def du (s : Fin 8192) (k : Fin 2048) : EReal := A.ds s k * A.mix s k * slope (A.pu s k)
/-- The gradient of the normalised rows: the mixing transposed. -/
def dvn (s : Fin 8192) (k : Fin 2048) : EReal := ∑ j, A.tri (Unit.grp k) j (Unit.pos s) * A.dm (Unit.mate s j) k
def vhat (s : Fin 8192) (k : Fin 2048) : EReal := A.cen s k * Ideal.rsqrt (A.var s)
def dvh (s : Fin 8192) (k : Fin 2048) : EReal := A.dvn s k * A.g k
/-- The gradient of the rows that are normalised. -/
def dr (s : Fin 8192) (k : Fin 2048) : EReal :=
  Ideal.rsqrt (A.var s) * (A.dvh s k - Ideal.div (∑ j, A.dvh s j) (Ideal.ofBits .f32 1157627904#32)
    - A.vhat s k * Ideal.div (∑ j, A.dvh s j * A.vhat s j) (Ideal.ofBits .f32 1157627904#32))
/-- The gradient of the second part of the projection. -/
def dv (s : Fin 8192) (k : Fin 2048) : EReal := A.dr s k * slope (A.pv s k)
/-- The three parts, by their number. -/
def part (q : Fin 3) (s : Fin 8192) (k : Fin 2048) : EReal := if q.val = 0 then A.du s k else if q.val = 1 then A.dv s k else A.dz s k
/-- What chunk `p` gives the gradient of the mixing weight. -/
def dwsAt (i : Fin 8) (n j : Fin 128) (p : Fin 64) : EReal :=
  ∑ k : Fin 256, A.dm ⟨p.val * 128 + n.val, by omega⟩ ⟨i.val * 256 + k.val, by omega⟩
    * A.vn ⟨p.val * 128 + j.val, by omega⟩ ⟨i.val * 256 + k.val, by omega⟩
def dws (i : Fin 8) (n j : Fin 128) : EReal := if j.val ≤ n.val then ∑ p, A.dwsAt i n j p else 0
/-- The gradient of the mixing bias. -/
def dbs (n : Fin 128) (i : Fin 8) : EReal :=
  ∑ k : Fin 256, ∑ p : Fin 64, A.dm ⟨p.val * 128 + n.val, by omega⟩ ⟨i.val * 256 + k.val, by omega⟩
def dlg (k : Fin 2048) : EReal := ∑ s, A.dvn s k * A.vhat s k
def dlb (k : Fin 2048) : EReal := ∑ s, A.dvn s k

end Bwd

/-! ## Real arguments -/

theorem coe_sum {n : ℕ} (f : Fin n → ℝ) : (∑ k, ((f k : ℝ) : EReal)) = ((∑ k, f k : ℝ) : EReal) :=
  (map_sum (⟨⟨fun r : ℝ => (r : EReal), rfl⟩, EReal.coe_add⟩ : ℝ →+ EReal) f Finset.univ).symm

theorem ofBits_2048 : Ideal.ofBits .f32 1157627904#32 = ((2048 : ℝ) : EReal) := by
  simp [Ideal.ofBits, Ideal.ieee, -EReal.coe_mul]; norm_num

/-- The constant under the root of the layer norm. -/
theorem ofBits_eps : ∃ e : ℝ, 0 < e ∧ Ideal.ofBits .f32 925353388#32 = (e : EReal) :=
  ⟨10995116 / 1099511627776, by norm_num, by simp [Ideal.ofBits, Ideal.ieee, -EReal.coe_mul]; norm_num⟩

theorem ofBits_two : Ideal.ofBits .f32 1073741824#32 = ((2 : ℝ) : EReal) := by
  simp [Ideal.ofBits, Ideal.ieee, -EReal.coe_mul]; norm_num

theorem ofBits_erfc : Ideal.ofBits .f32 0xBF906EBB#32 = ((-(9465531 / 8388608) : ℝ) : EReal) := by
  simp [Ideal.ofBits, Ideal.ieee, -EReal.coe_mul, -EReal.coe_neg]; norm_num

theorem sqrt_two : Ideal.sqrt (Ideal.ofBits .f32 1073741824#32) = ((Real.sqrt 2 : ℝ) : EReal) := by
  rw [ofBits_two, Ideal.sqrt_coe, if_neg (by norm_num)]

/-- Over the root of two, as a product. -/
theorem div_rt (x : EReal) : Ideal.div x (Ideal.sqrt (Ideal.ofBits .f32 1073741824#32)) = x * rt := by
  rw [sqrt_two, Ideal.div_coe (by positivity), one_div]

theorem IsReal.erf {x : EReal} : IsReal x → IsReal (Ideal.erf x) := fun ⟨a, h⟩ => by rw [h]; exact ⟨_, rfl⟩

/-- The activation's slope as the rule of differentiation gives it, times a real cotangent. -/
theorem slope_eq {x a : EReal} (hx : IsReal x) (ha : IsReal a) :
    -(Ideal.ofBits .f32 0xBF906EBB#32 * (Ideal.ofBits .f32 1056964608#32 * x * a) * Ideal.exp (-(-x * rt * (-x * rt))) * rt)
      + Ideal.ofBits .f32 1056964608#32 * (a * Ideal.erfc (-x * rt)) = a * slope x := by
  unfold slope
  rw [EReal.neg_mul, Ideal.erfc_neg]
  obtain ⟨e, he⟩ := IsReal.erf (hx.mul ⟨_, rfl⟩ : IsReal (x * rt))
  obtain ⟨x, rfl⟩ := hx
  obtain ⟨a, rfl⟩ := ha
  have h2 : -(-(x * (Real.sqrt 2)⁻¹) * -(x * (Real.sqrt 2)⁻¹)) = -(1 / 2) * x * x := by
    have : (Real.sqrt 2)⁻¹ * (Real.sqrt 2)⁻¹ = 1 / 2 := by rw [← mul_inv, Real.mul_self_sqrt (by norm_num)]; norm_num
    linear_combination (-(x * x)) * this
  rw [he, ofBits_erfc, half_eq, Math.ofBits_neg_half]
  simp only [rt, dens, ← EReal.coe_mul, ← EReal.coe_neg, Ideal.exp_coe, h2, ← EReal.coe_add, ← EReal.coe_one]
  norm_cast
  ring

/-- A row that sums to zero has the two forms of its gradient: centred twice, or by the rule of differentiation. -/
theorem row_real {n : ℕ} (N r α : ℝ) (hN : N = n) (hr : r * r = 1 / α) (c d : Fin n → ℝ) (hc : ∑ k, c k = 0) (k : Fin n) :
    (d k * r + ((∑ j, c j * d j) * (-(1 / 2) * (r * (1 / α))) * (1 / N)) * (2 * c k))
      + ((∑ j, -(d j * r)) + ∑ j, -(((∑ j, c j * d j) * (-(1 / 2) * (r * (1 / α))) * (1 / N)) * (2 * c j))) * (1 / N)
    = r * (d k - (∑ j, d j) * (1 / N) - c k * r * ((∑ j, d j * (c j * r)) * (1 / N))) := by
  have h1 : ∑ j, d j * (c j * r) = (∑ j, c j * d j) * r := by
    rw [Finset.sum_mul]; exact Finset.sum_congr rfl fun j _ => by ring
  have h2 : ∑ j, -(d j * r) = -((∑ j, d j) * r) := by rw [Finset.sum_neg_distrib, Finset.sum_mul]
  have h3 : ∀ w : ℝ, ∑ j, -(w * (2 * c j)) = 0 := fun w => by
    rw [Finset.sum_neg_distrib, ← Finset.mul_sum, ← Finset.mul_sum, hc]; ring
  rw [h1, h2, h3, ← hr]
  ring

namespace Bwd
variable {A : Bwd}

/-- A real row centred is real and sums to zero. -/
theorem cen_real (s : Fin 8192) (hv : ∀ k, IsReal (A.v s k)) : ∃ g : Fin 2048 → ℝ, ∑ j, g j = 0 ∧ ∀ j, A.cen s j = (g j : EReal) := by
  choose f hf using hv
  refine ⟨fun j => f j - (∑ k, f k) * (1 / 2048), ?_, fun j => ?_⟩
  · rw [Finset.sum_sub_distrib, Finset.sum_const, Finset.card_univ, Fintype.card_fin, nsmul_eq_mul]; push_cast; ring
  · unfold Unit.cen Unit.mu
    simp only [hf, coe_sum, ofBits_2048]
    rw [Ideal.div_coe (by norm_num), ← EReal.coe_mul, ← EReal.coe_sub]

/-- Its variance plus the constant is positive, and so its reciprocal root is real. -/
theorem var_real (s : Fin 8192) (hv : ∀ k, IsReal (A.v s k)) :
    ∃ α r : ℝ, 0 < α ∧ A.var s = (α : EReal) ∧ r * r = 1 / α ∧ Ideal.rsqrt (A.var s) = (r : EReal) := by
  obtain ⟨g, -, hcen⟩ := cen_real s hv
  obtain ⟨e, he, hee⟩ := ofBits_eps
  obtain ⟨α, hα, hvar⟩ : ∃ α : ℝ, 0 < α ∧ A.var s = (α : EReal) := by
    refine ⟨(∑ j, g j * g j) * (1 / 2048) + e, ?_, ?_⟩
    · have : 0 ≤ ∑ j, g j * g j := Finset.sum_nonneg fun j _ => _root_.mul_self_nonneg _
      positivity
    · unfold Unit.var
      simp only [hcen, ← EReal.coe_mul, coe_sum, ofBits_2048, hee]
      rw [Ideal.div_coe (by norm_num), ← EReal.coe_mul, ← EReal.coe_add]
  exact ⟨α, (Real.sqrt α)⁻¹, hα, hvar, by rw [← mul_inv, Real.mul_self_sqrt hα.le, one_div],
      by rw [hvar, Ideal.rsqrt_coe, if_neg (not_lt.2 hα.le), if_neg hα.ne']⟩

/-- A normalised row's gradient as the rule of differentiation gives it, at a real row and a real cotangent. -/
theorem dr_eq (s : Fin 8192) (hv : ∀ k, IsReal (A.v s k)) (hd : ∀ k, IsReal (A.dvh s k)) (W : EReal)
    (hW : W = Ideal.div ((∑ j, A.cen s j * A.dvh s j) * (Ideal.ofBits .f32 3204448256#32 * Ideal.div (Ideal.rsqrt (A.var s)) (A.var s)))
      (Ideal.ofBits .f32 1157627904#32)) (k : Fin 2048) :
    A.dvh s k * Ideal.rsqrt (A.var s) + W * (Ideal.ofBits .f32 1073741824#32 * A.cen s k)
      + Ideal.div ((∑ j, -(A.dvh s j * Ideal.rsqrt (A.var s))) + ∑ j, -(W * (Ideal.ofBits .f32 1073741824#32 * A.cen s j)))
          (Ideal.ofBits .f32 1157627904#32)
    = A.dr s k := by
  unfold dr vhat
  obtain ⟨g, hc0, hcen⟩ := cen_real s hv
  obtain ⟨α, r, hα, hvar, hr, har⟩ := var_real s hv
  choose d hd using hd
  have hw : W = (((∑ j, g j * d j) * (-(1 / 2) * (r * (1 / α))) * (1 / 2048) : ℝ) : EReal) := by
    rw [hW, har, hvar, Math.ofBits_neg_half, ofBits_2048, Ideal.div_coe hα.ne', Ideal.div_coe (by norm_num)]
    simp only [hcen, hd, ← EReal.coe_mul, coe_sum]
  have key := row_real 2048 r α (by norm_num) hr g d hc0 k
  rw [har, hw, ofBits_2048, ofBits_two, Ideal.div_coe (by norm_num), Ideal.div_coe (by norm_num), Ideal.div_coe (by norm_num)]
  simp only [hcen, hd, ← EReal.coe_mul, ← EReal.coe_neg, coe_sum, ← EReal.coe_add, ← EReal.coe_sub]
  exact congrArg _ key

/-- Arguments that are real throughout. -/
structure Reals (A : Bwd) : Prop where
  c : IsReal A.c
  pu : ∀ s k, IsReal (A.pu s k)
  pv : ∀ s k, IsReal (A.pv s k)
  pz : ∀ s k, IsReal (A.pz s k)
  g : ∀ k, IsReal (A.g k)
  b : ∀ k, IsReal (A.b k)
  w : ∀ i n j, IsReal (A.w i n j)
  bs : ∀ i n, IsReal (A.bs i n)
  wo : ∀ k d, IsReal (A.wo k d)
  ct : ∀ s d, IsReal (A.ct s d)

theorem gelu_real {c x : EReal} (hc : IsReal c) (hx : IsReal x) : IsReal (gelu c x) := by
  have h1 : IsReal 1 := ⟨1, rfl⟩
  exact hx.mul (IsReal.mul ⟨_, half_eq⟩ (h1.add (IsReal.erf (hx.mul hc))))

theorem sg_real {x : EReal} (hx : IsReal x) : IsReal (sg x) := by
  obtain ⟨x, rfl⟩ := hx
  exact ⟨_, sg_coe x⟩

namespace Reals
variable (R : A.Reals)
include R

theorem v (s : Fin 8192) (k : Fin 2048) : IsReal (A.v s k) := gelu_real R.c (R.pv s k)
theorem u (s : Fin 8192) (k : Fin 2048) : IsReal (A.u s k) := gelu_real R.c (R.pu s k)
theorem dy (s : Fin 8192) (k : Fin 2048) : IsReal (A.dy s k) := IsReal.sum _ _ fun d => (R.ct s d).mul (R.wo k d)
theorem ds (s : Fin 8192) (k : Fin 2048) : IsReal (A.ds s k) := (R.dy s k).mul ((R.pz s k).mul (sg_real (R.pz s k)))
theorem tri (i : Fin 8) (n j : Fin 128) : IsReal (A.tri i n j) := by
  unfold Unit.tri
  split
  · exact R.w i n j
  · exact IsReal.zero
theorem vn (s : Fin 8192) (k : Fin 2048) : IsReal (A.vn s k) := by
  obtain ⟨g, -, hc⟩ := cen_real s (R.v s)
  obtain ⟨α, r, -, -, -, hr⟩ := var_real s (R.v s)
  exact ((IsReal.mul ⟨_, hc k⟩ ⟨_, hr⟩).mul (R.g k)).add (R.b k)
theorem mix (s : Fin 8192) (k : Fin 2048) : IsReal (A.mix s k) :=
  (IsReal.sum _ _ fun j => (R.tri _ _ j).mul (R.vn _ k)).add (R.bs _ _)
theorem dvh (s : Fin 8192) (k : Fin 2048) : IsReal (A.dvh s k) :=
  (IsReal.sum _ _ fun j => (R.tri _ j _).mul ((R.ds _ k).mul (R.u _ k))).mul (R.g k)
theorem dr (s : Fin 8192) (k : Fin 2048) : IsReal (A.dr s k) := by
  rw [← dr_eq s (R.v s) (R.dvh s) _ rfl k]
  obtain ⟨g, -, hc⟩ := cen_real s (R.v s)
  obtain ⟨α, r, hα, hv, -, hr⟩ := var_real s (R.v s)
  have hdiv : ∀ {x : EReal} {y : ℝ}, y ≠ 0 → IsReal x → IsReal (Ideal.div x y) := fun hy hx => by
    rw [Ideal.div_coe hy]; exact hx.mul ⟨_, rfl⟩
  have hW : IsReal (Ideal.div ((∑ j, A.cen s j * A.dvh s j) * (Ideal.ofBits .f32 3204448256#32 * Ideal.div (Ideal.rsqrt (A.var s)) (A.var s)))
      (Ideal.ofBits .f32 1157627904#32)) := by
    rw [ofBits_2048, Math.ofBits_neg_half, hv]
    rw [← hv, hr, hv]
    exact hdiv (by norm_num) ((IsReal.sum _ _ fun j => IsReal.mul ⟨_, hc j⟩ (R.dvh s j)).mul (IsReal.mul ⟨_, rfl⟩ (hdiv hα.ne' ⟨_, rfl⟩)))
  have hneg : ∀ {x : EReal}, IsReal x → IsReal (-x) := fun ⟨a, h⟩ => ⟨-a, by rw [h]; rfl⟩
  have hr' : IsReal (Ideal.rsqrt (A.var s)) := ⟨_, hr⟩
  have h2 : ∀ j, IsReal (Ideal.ofBits .f32 1073741824#32 * A.cen s j) := fun j => IsReal.mul ⟨_, ofBits_two⟩ ⟨_, hc j⟩
  rw [ofBits_2048] at hW ⊢
  exact (((R.dvh s k).mul hr').add (hW.mul (h2 k))).add (hdiv (by norm_num)
    ((IsReal.sum _ _ fun j => hneg ((R.dvh s j).mul hr')).add (IsReal.sum _ _ fun j => hneg (hW.mul (h2 j)))))

end Reals

end Bwd

end Gmlp

end
-- ==== Proof.GTile.lean ====
/-
  One row block of the mixing unit's gradient: what the kernel's stores hold, from what its loads hold.
-/
module

public import proofs.«01_k».proof.Proof.Gen.GmlpBwdIdeal.Skeleton
public import proofs.«01_k».proof.Proof.GmlpGrad
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GmlpBwdIdeal.Tile
open Cert.GmlpBwdIdeal Cert.GmlpBwdIdeal.Gen Gmlp

/-- Row `r` of row block `q`. -/
abbrev row (q : Fin 32) (r : Fin 256) : Fin 8192 := ⟨q.val * 256 + r.val, by omega⟩
/-- Position `n` of chunk `p`, and channel `k` of group `i`. -/
abbrev at_ (p : ℕ) (hp : p < 64) (n : Fin 128) : Fin 8192 := ⟨p * 128 + n.val, by omega⟩
abbrev ch (i : Fin 8) (k : Fin 256) : Fin 2048 := ⟨i.val * 256 + k.val, by omega⟩

variable {q : Fin 32} {A : Bwd} {xu xv xz : Vec Ideal S1x256x2048 .f32} {xg xb : Vec Ideal S1x2048 .f32}
  {M N : Vec Ideal S256x2048 .f32} {xwo : Vec Ideal S2048x1024 .bf16} {xct : Vec Ideal S256x1024 .bf16}

theorem erf_def (x : EReal) : FloatOps.erf (F := Ideal) (φ := .f32) x = Ideal.erf x := rfl
theorem named_rt (x : BitVec 32) : Named.named (F := Ideal) (φ := .f32) κ "inv_sqrt_2" x = rt := rfl
theorem named_dens (x : BitVec 32) : Named.named (F := Ideal) (φ := .f32) κ "inv_sqrt_2pi" x = dens := rfl

/-- The mixing of one chunk and one group. -/
theorem pMix {i : Fin 8} (p : ℕ) (hp : p < 64) {W : Vec Ideal S1x128x128 .f32} {V : Vec Ideal S128x256 .bf16} {B : Vec Ideal S128x1 .f32}
    (hW : ∀ n j, W (ix3 0 n j) = A.w i n j) (hV : ∀ j k, V (ix2 j k) = A.vn (at_ p hp j) (ch i k))
    (hB : ∀ n, B (ix2 n 0) = A.bs i n) (n : Fin 128) (k : Fin 256) :
    k0_pay47 (F := Ideal) W V B (ix2 n k) = A.mix (at_ p hp n) (ch i k) := by
  have e1 : Unit.grp (ch i k) = i := Fin.ext (by simp only [Unit.grp]; omega)
  have e2 : Unit.pos (at_ p hp n) = n := Fin.ext (by simp only [Unit.pos]; omega)
  have e3 : ∀ j, Unit.mate (at_ p hp n) j = at_ p hp j := fun j => Fin.ext (by simp only [Unit.mate]; omega)
  unfold Unit.mix Unit.tri
  simp only [e1, e2, e3, ← hV, ← hW, ← hB]
  pointwise [k0_pay47, k0_pay46]
  refine congrArg (· + B (ix2 n 0)) (Finset.sum_congr rfl fun j _ => ?_)
  rw [WordCmp.cmpi_sge_ofNat (by omega) (by omega), show (p * 128 + n.val) % 128 = n.val by omega]
  by_cases h : j.val ≤ n.val
  · simp [h, Scalar.select]
  · simp [h, Scalar.select]

/-- The mixing transposed, of one chunk and one group. -/
theorem pDvn {i : Fin 8} (p : ℕ) (hp : p < 64) {W : Vec Ideal S1x128x128 .f32} {V : Vec Ideal S128x256 .bf16}
    (hW : ∀ n j, W (ix3 0 n j) = A.w i j n) (hV : ∀ j k, V (ix2 j k) = A.dm (at_ p hp j) (ch i k)) (n : Fin 128) (k : Fin 256) :
    k0_pay107 (F := Ideal) W V (ix2 n k) = A.dvn (at_ p hp n) (ch i k) := by
  have e1 : Unit.grp (ch i k) = i := Fin.ext (by simp only [Unit.grp]; omega)
  have e2 : Unit.pos (at_ p hp n) = n := Fin.ext (by simp only [Unit.pos]; omega)
  have e3 : ∀ j, Unit.mate (at_ p hp n) j = at_ p hp j := fun j => Fin.ext (by simp only [Unit.mate]; omega)
  unfold Bwd.dvn Unit.tri
  simp only [e1, e2, e3, ← hV, ← hW]
  pointwise [k0_pay107, k0_pay105]
  refine Finset.sum_congr rfl fun j _ => ?_
  rw [WordCmp.cmpi_sle_ofNat (by omega) (by omega), show (p * 128 + n.val) % 128 = n.val by omega]
  by_cases h : n.val ≤ j.val
  · simp [h, Scalar.select]
  · simp [h, Scalar.select]

/-- What one chunk adds to the mixing weight's gradient. -/
theorem pDws {i : Fin 8} (p : Fin 64) {a : Vec Ideal S1x128x128 .f32} {D V : Vec Ideal S128x256 .bf16}
    (hD : ∀ n k, D (ix2 n k) = A.dm (at_ p.val p.isLt n) (ch i k)) (hV : ∀ j k, V (ix2 j k) = A.vn (at_ p.val p.isLt j) (ch i k))
    (n j : Fin 128) : k0_pay77 (F := Ideal) a D V (ix3 0 n j) = a (ix3 0 n j) + A.dwsAt i n j p := by
  unfold Bwd.dwsAt
  simp only [← hD, ← hV]
  pointwise [k0_pay77]

/-- The lower triangle of a group's weight gradient. -/
theorem pTri (a : Vec Ideal S1x128x128 .f32) (n j : Fin 128) :
    k0_pay8 (F := Ideal) a (ix3 0 n j) = if j.val ≤ n.val then a (ix3 0 n j) else 0 := by
  pointwise [k0_pay8]
  rw [WordCmp.cmpi_sge_ofNat (by omega) (by omega)]
  by_cases h : j.val ≤ n.val
  · simp [h, Scalar.select]
  · simp [h, Scalar.select]

/-- The bias gradient of one group: the sum over the group's channels. -/
theorem pDbs (a : Vec Ideal S128x256 .f32) (n : Fin 128) : k0_pay9 (F := Ideal) a (ix2 n 0) = ∑ k, a (ix2 n k) := by
  pointwise [k0_pay9]

/-- What the loads of a row block hold. -/
structure Holds (q : Fin 32) (A : Bwd) (xu xv xz : Vec Ideal S1x256x2048 .f32) (xg xb : Vec Ideal S1x2048 .f32)
    (xwo : Vec Ideal S2048x1024 .bf16) (xct : Vec Ideal S256x1024 .bf16) : Prop where
  e_c : A.c = rt
  e_u : ∀ r k, xu (ix3 0 r k) = A.pu (row q r) k
  e_v : ∀ r k, xv (ix3 0 r k) = A.pv (row q r) k
  e_z : ∀ r k, xz (ix3 0 r k) = A.pz (row q r) k
  e_g : ∀ k, xg (ix2 0 k) = A.g k
  e_b : ∀ k, xb (ix2 0 k) = A.b k
  e_wo : ∀ k d, xwo (ix2 k d) = A.wo k d
  e_ct : ∀ r d, xct (ix2 r d) = A.ct (row q r) d

variable (H : Holds q A xu xv xz xg xb xwo xct)
include H

theorem pU (r : Fin 256) (k : Fin 2048) : k0_pay27 (F := Ideal) xu (ix2 r k) = A.u (row q r) k := by
  unfold Bwd.u gelu
  rw [← H.e_u, H.e_c]
  pointwise [k0_pay27, k0_pay26, k0_pay25]
  simp only [erf_def, named_rt]

theorem pSlopeU (r : Fin 256) (k : Fin 2048) : k0_pay28 (F := Ideal) xu (ix2 r k) = slope (A.pu (row q r) k) := by
  unfold Gmlp.slope
  rw [← H.e_u]
  pointwise [k0_pay28, k0_pay26, k0_pay25]
  simp only [erf_def, named_rt, named_dens]

theorem pV (r : Fin 256) (k : Fin 2048) : k0_pay32 (F := Ideal) xv (ix2 r k) = A.v (row q r) k := by
  unfold Unit.v gelu
  rw [← H.e_v, H.e_c]
  pointwise [k0_pay32, k0_pay30, k0_pay29]
  simp only [erf_def, named_rt]

theorem pSlopeV (r : Fin 256) (k : Fin 2048) :
    k0_pay33 (F := Ideal) (k0_pay29 xv) (k0_pay30 xv) (k0_pay31 xv) (ix2 r k) = slope (A.pv (row q r) k) := by
  unfold Gmlp.slope
  rw [← H.e_v]
  pointwise [k0_pay33, k0_pay31, k0_pay30, k0_pay29]
  simp only [erf_def, named_rt, named_dens]

theorem pCen (r : Fin 256) (k : Fin 2048) : k0_pay34 (F := Ideal) (k0_pay32 xv) (ix2 r k) = A.cen (row q r) k := by
  unfold Unit.cen Unit.mu
  simp only [← pV H]
  pointwise [k0_pay34]

theorem pRs (r : Fin 256) : k0_pay35 (F := Ideal) (k0_pay32 xv) (ix2 r 0) = Ideal.rsqrt (A.var (row q r)) := by
  unfold Unit.var
  simp only [← pCen H]
  pointwise [k0_pay35]

theorem pVhat (r : Fin 256) (k : Fin 2048) : k0_pay36 (F := Ideal) (k0_pay32 xv) (ix2 r k) = A.vhat (row q r) k := by
  unfold Bwd.vhat
  rw [← pCen H, ← pRs H]
  pointwise [k0_pay36]

/-- The stored normalised rows. -/
theorem pVn (r : Fin 256) (k : Fin 2048) : k0_pay37 (F := Ideal) xg (k0_pay32 xv) xb (ix2 r k) = A.vn (row q r) k := by
  refine Eq.trans ?_ (congrArg₂ (· + ·) (congrArg₂ (· * ·) (pVhat H r k) (H.e_g k)) (H.e_b k))
  pointwise [k0_pay37]

theorem pDy (r : Fin 256) (k : Fin 2048) : k0_pay66 (F := Ideal) xct xwo (ix2 r k) = A.dy (row q r) k := by
  unfold Bwd.dy
  simp only [← H.e_ct, ← H.e_wo]
  pointwise [k0_pay66]

theorem pDs (r : Fin 256) (k : Fin 2048) : k0_pay69 (F := Ideal) (k0_pay66 xct xwo) xz (ix2 r k) = A.ds (row q r) k := by
  unfold Bwd.ds ConvGrad.sg
  rw [← pDy H, ← H.e_z]
  pointwise [k0_pay69, k0_pay68, k0_pay67]

theorem pDm (r : Fin 256) (k : Fin 2048) : k0_pay72 (F := Ideal) (k0_pay27 xu) (k0_pay66 xct xwo) xz (ix2 r k) = A.dm (row q r) k := by
  unfold Bwd.dm
  rw [← pDs H, ← pU H]
  pointwise [k0_pay72]

theorem pDmS (r : Fin 256) (k : Fin 2048) : k0_pay73 (F := Ideal) (k0_pay27 xu) (k0_pay66 xct xwo) xz (ix2 r k) = A.dm (row q r) k := by
  rw [← pDm H]
  pointwise [k0_pay73]

/-- The sum of the mixed positions' gradient over the chunks: what a row block's two chunks add. -/
theorem pAcc (a : Vec Ideal S128x2048 .f32) (n : Fin 128) (k : Fin 2048) :
    k0_pay87 (F := Ideal) (k0_pay86 (k0_pay72 (k0_pay27 xu) (k0_pay66 xct xwo) xz) (k0_pay75 (k0_pay74 (k0_pay27 xu) (k0_pay66 xct xwo) xz a))) (ix2 n k)
      = a (ix2 n k) + A.dm (row q ⟨n.val, by omega⟩) k + A.dm (row q ⟨128 + n.val, by omega⟩) k := by
  rw [← pDm H, ← pDm H]
  pointwise [k0_pay87, k0_pay86, k0_pay75, k0_pay74]

section
variable (hM : ∀ r k, M (ix2 r k) = A.mix (row q r) k)
include hM

/-- The first and the third part of the projection's gradient. -/
theorem sDu (r : Fin 256) (k : Fin 2048) :
    k0_pay71 (F := Ideal) (k0_pay28 xu) M (k0_pay66 xct xwo) xz (ix3 0 r k) = A.du (row q r) k := by
  unfold Bwd.du
  rw [← pDs H, ← hM, ← pSlopeU H]
  pointwise [k0_pay71]

theorem sDz (r : Fin 256) (k : Fin 2048) :
    k0_pay70 (F := Ideal) (k0_pay27 xu) M (k0_pay66 xct xwo) xz (ix3 0 r k) = A.dz (row q r) k := by
  unfold Bwd.dz ConvGrad.sg
  rw [← pDy H, ← hM, ← pU H, ← H.e_z]
  pointwise [k0_pay70, k0_pay68, k0_pay67]
end

section
variable (hN : ∀ r k, N (ix2 r k) = A.dvn (row q r) k)
include hN

theorem pDvh (r : Fin 256) (k : Fin 2048) : k0_pay130 (F := Ideal) xg N (ix2 r k) = A.dvh (row q r) k := by
  unfold Bwd.dvh
  rw [← hN, ← H.e_g]
  pointwise [k0_pay130]

/-- The second part of the projection's gradient. -/
theorem sDv (r : Fin 256) (k : Fin 2048) :
    k0_pay1 (F := Ideal) (k0_pay33 (k0_pay29 xv) (k0_pay30 xv) (k0_pay31 xv)) (k0_pay35 (k0_pay32 xv)) (k0_pay36 (k0_pay32 xv))
      (k0_pay130 xg N) (k0_pay131 xg N) (ix3 0 r k) = A.dv (row q r) k := by
  unfold Bwd.dv Bwd.dr
  rw [← pSlopeV H, ← pRs H]
  simp only [← pDvh H hN, ← pVhat H]
  pointwise [k0_pay1, k0_pay131]

theorem sDlg (a : Vec Ideal S1x2048 .f32) (k : Fin 2048) :
    k0_pay128 (F := Ideal) (k0_pay36 (k0_pay32 xv)) N a (ix2 0 k)
      = a (ix2 0 k) + ∑ r : Fin 256, A.dvn (row q r) k * A.vhat (row q r) k := by
  simp only [← hN, ← pVhat H]
  pointwise [k0_pay128]

omit H in
theorem sDlb (a : Vec Ideal S1x2048 .f32) (k : Fin 2048) :
    k0_pay129 (F := Ideal) N a (ix2 0 k) = a (ix2 0 k) + ∑ r : Fin 256, A.dvn (row q r) k := by
  simp only [← hN]
  pointwise [k0_pay129]
end

end Cert.GmlpBwdIdeal.Tile
end
-- ==== Proof.GFold.lean ====
/-
  The mixing unit's gradient kernel read: what the blocks of a grid point hold of the arguments, what the body writes and
  reads back within the point, and what the point leaves in the projection's gradient, the layer norm's two sums and the
  running sum over the chunks.
-/
module

public import proofs.«01_k».proof.Proof.Gen.GmlpBwdIdeal.Value
public import proofs.«01_k».proof.Proof.GTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpBwdIdeal.Fold
open Cert.GmlpBwdIdeal Cert.GmlpBwdIdeal.Gen

variable (m : (ℓ : Loc nD τ sig) → Buf (Elt Ideal) ℓ)

/-- The argument arrays, by row, channel, group and position. -/
def args (c : Dev nD) : Gmlp.Bwd where
  c := Gmlp.rt
  pu s k := m ((c : Thread nD τ).loc main_arg0) (ix3 0 s ⟨k.val, by omega⟩)
  pv s k := m ((c : Thread nD τ).loc main_arg0) (ix3 0 s ⟨2048 + k.val, by omega⟩)
  pz s k := m ((c : Thread nD τ).loc main_arg0) (ix3 0 s ⟨4096 + k.val, by omega⟩)
  g k := m ((c : Thread nD τ).loc main_arg1) (ix2 0 k)
  b k := m ((c : Thread nD τ).loc main_arg2) (ix2 0 k)
  w i n j := m ((c : Thread nD τ).loc main_arg3) (ix4 0 i n j)
  bs i n := m ((c : Thread nD τ).loc main_arg4) (ix3 0 i n)
  wo k d := m ((c : Thread nD τ).loc main_arg5) (ix3 0 k d)
  ct s d := m ((c : Thread nD τ).loc main_arg6) (ix3 0 s d)

/-- The row block of point `t`. -/
abbrev rb (t : Fin cfg0.N) : Fin 32 := ⟨t.val, by have := t.isLt; have : cfg0.N = 32 := N_0; omega⟩
/-- The chunk `h` of point `t`. -/
theorem hp (t : Fin cfg0.N) (h : ℕ) (hh : h < 2) : (rb t).val * 2 + h < 64 := by omega

theorem idx : ∀ t : Fin cfg0.N, win0_0.index t = ![0, t.val, 0] ∧ win0_1.index t = ![1, t.val, 0]
    ∧ win0_2.index t = ![2, t.val, 0] ∧ win0_3.index t = ![t.val, 0] ∧ win0_4.index t = ![0, 0] ∧ win0_5.index t = ![0, 0]
    ∧ win0_6.index t = ![0, 0] ∧ win0_7.index t = ![0, 0, 0] ∧ win0_8.index t = ![0, 0, 0] ∧ win0_9.index t = ![0, 0]
    ∧ win0_10.index t = ![0, t.val, 0] ∧ win0_11.index t = ![0, 0, 0] ∧ win0_12.index t = ![0, 0] ∧ win0_13.index t = ![0, 0]
    ∧ win0_14.index t = ![0, 0] :=
  (by decide +kernel : ∀ t : Fin grid0.N, _)

/-! ## The staged blocks are the arguments at the point's place -/

theorem blk0 (c : Dev nD) (t : Fin cfg0.N) (r : Fin 256) (k : Fin 2048) : iblk m c 0 t (ix3 0 r k) = (args m c).pu (Tile.row (rb t) r) k := by
  dsimp only [args]
  blk_simp [iblk, idx t]
  entry_read
  pointwise
  blk_ext [idx t]

theorem blk1 (c : Dev nD) (t : Fin cfg0.N) (r : Fin 256) (k : Fin 2048) : iblk m c 1 t (ix3 0 r k) = (args m c).pv (Tile.row (rb t) r) k := by
  dsimp only [args]
  blk_simp [iblk, idx t]
  entry_read
  pointwise
  blk_ext [idx t]

theorem blk2 (c : Dev nD) (t : Fin cfg0.N) (r : Fin 256) (k : Fin 2048) : iblk m c 2 t (ix3 0 r k) = (args m c).pz (Tile.row (rb t) r) k := by
  dsimp only [args]
  blk_simp [iblk, idx t]
  entry_read
  pointwise
  blk_ext [idx t]

theorem blk3 (c : Dev nD) (t : Fin cfg0.N) (r : Fin 256) (d : Fin 1024) : iblk m c 3 t (ix2 r d) = (args m c).ct (Tile.row (rb t) r) d := by
  dsimp only [args]
  blk_simp [iblk, idx t]
  entry_read
  pointwise
  blk_ext [idx t]

theorem blk4 (c : Dev nD) (t : Fin cfg0.N) (k : Fin 2048) (d : Fin 1024) : iblk m c 4 t (ix2 k d) = (args m c).wo k d := by
  dsimp only [args]
  blk_simp [iblk, idx t]
  entry_read
  pointwise
  blk_ext [idx t]

theorem blk5 (c : Dev nD) (t : Fin cfg0.N) (k : Fin 2048) : iblk m c 5 t (ix2 0 k) = (args m c).g k := by
  dsimp only [args]
  blk_simp [iblk, idx t]
  entry_read
  blk_ext [idx t]

theorem blk6 (c : Dev nD) (t : Fin cfg0.N) (k : Fin 2048) : iblk m c 6 t (ix2 0 k) = (args m c).b k := by
  dsimp only [args]
  blk_simp [iblk, idx t]
  entry_read
  blk_ext [idx t]

theorem blk7 (c : Dev nD) (t : Fin cfg0.N) (i : Fin 8) (n j : Fin 128) : iblk m c 7 t (ix3 i n j) = (args m c).w i n j := by
  dsimp only [args]
  blk_simp [iblk, idx t]
  entry_read
  pointwise
  blk_ext [idx t]

theorem blk8 (c : Dev nD) (t : Fin cfg0.N) (i : Fin 8) (n j : Fin 128) : iblk m c 8 t (ix3 i n j) = (args m c).w i j n := by
  dsimp only [args]
  blk_simp [iblk, idx t]
  entry_read
  pointwise
  blk_ext [idx t]

theorem blk9 (c : Dev nD) (t : Fin cfg0.N) (n : Fin 128) (i : Fin 8) : iblk m c 9 t (ix2 n i) = (args m c).bs i n := by
  dsimp only [args]
  blk_simp [iblk, idx t]
  entry_read
  pointwise
  blk_ext [idx t]

theorem holds (c : Dev nD) (t : Fin cfg0.N) : Tile.Holds (rb t) (args m c) (iblk m c 0 t) (iblk m c 1 t) (iblk m c 2 t) (iblk m c 5 t)
    (iblk m c 6 t) (iblk m c 4 t) (iblk m c 3 t) :=
  ⟨rfl, blk0 m c t, blk1 m c t, blk2 m c t, blk5 m c t, blk6 m c t, blk4 m c t, blk3 m c t⟩

/-- The point's vectors: the activation, the output product's gradient, the stored normalised rows and mixed positions' gradient. -/
abbrev U (c : Dev nD) (t : Fin cfg0.N) := k0_pay27 (F := Ideal) (iblk m c 0 t)
abbrev DY (c : Dev nD) (t : Fin cfg0.N) := k0_pay66 (F := Ideal) (iblk m c 3 t) (iblk m c 4 t)
abbrev VN (c : Dev nD) (t : Fin cfg0.N) := k0_pay37 (F := Ideal) (iblk m c 5 t) (k0_pay32 (iblk m c 1 t)) (iblk m c 6 t)
abbrev DM (c : Dev nD) (t : Fin cfg0.N) := k0_pay73 (F := Ideal) (U m c t) (DY m c t) (iblk m c 2 t)

/-! ## What is written and read back within the point -/

/-- The normalised rows, read back at one chunk and one group. -/
theorem vnAt (c : Dev nD) (t : Fin cfg0.N) (i : Fin 8) (h ro co : ℕ) (hh : h < 2) (er : ro = h * 128) (ec : co = i.val * 256) (i0 i1)
    (j : Fin 128) (k : Fin 256) :
    (View.whole cc0_scratch0).readCov (Val := Elt Ideal) [⟨Rect.unit ![0, 0] ![256, 2048] i0, VN m c t⟩]
      (Rect.unit (s := S256x2048) ![ro, co] ![128, 256] i1).toLoadRect (ix2 j k)
    = (args m c).vn (Tile.at_ _ (hp t h hh) j) (Tile.ch i k) := by
  subst er ec
  refine (congrFun (View.readCov_fill (Val := Elt Ideal) (View.whole cc0_scratch0) i0 _ _ _ (by decide)) _).trans ?_
  pointwise
  refine (Tile.pVn (holds m c t) _ _).trans ?_
  exact congrArg₂ (args m c).vn (Fin.ext (by simp only [Tile.row]; omega)) (Fin.ext (by simp only))

/-- The mixed positions' gradient, read back at one chunk and one group. -/
theorem dmAt (c : Dev nD) (t : Fin cfg0.N) (i : Fin 8) (h ro co : ℕ) (hh : h < 2) (er : ro = h * 128) (ec : co = i.val * 256) (i0 i1)
    (j : Fin 128) (k : Fin 256) :
    (View.whole cc0_scratch2).readCov (Val := Elt Ideal) [⟨Rect.unit ![0, 0] ![256, 2048] i0, DM m c t⟩]
      (Rect.unit (s := S256x2048) ![ro, co] ![128, 256] i1).toLoadRect (ix2 j k)
    = (args m c).dm (Tile.at_ _ (hp t h hh) j) (Tile.ch i k) := by
  subst er ec
  refine (congrFun (View.readCov_fill (Val := Elt Ideal) (View.whole cc0_scratch2) i0 _ _ _ (by decide)) _).trans ?_
  pointwise
  refine (Tile.pDmS (holds m c t) _ _).trans ?_
  exact congrArg₂ (args m c).dm (Fin.ext (by simp only [Tile.row]; omega)) (Fin.ext (by simp only))

theorem mixAt (c : Dev nD) (t : Fin cfg0.N) (i : Fin 8) (h ro co : ℕ) (hh : h < 2) (er : ro = h * 128) (ec : co = i.val * 256) (i0 i1 i2 i3)
    (n : Fin 128) (k : Fin 256) :
    k0_pay47 (F := Ideal) (View.ld (iblk m c 7 t) (Rect.unit (s := S8x128x128) ![i.val, 0, 0] ![1, 128, 128] i2))
      ((View.whole cc0_scratch0).readCov (Val := Elt Ideal) [⟨Rect.unit ![0, 0] ![256, 2048] i0, VN m c t⟩]
        (Rect.unit (s := S256x2048) ![ro, co] ![128, 256] i1).toLoadRect)
      (View.ld (iblk m c 9 t) (Rect.unit (s := S128x8) ![0, i.val] ![128, 1] i3)) (ix2 n k)
    = (args m c).mix (Tile.at_ _ (hp t h hh) n) (Tile.ch i k) :=
  Tile.pMix (A := args m c) (i := i) _ _
    (fun n j => by
      refine Eq.trans ?_ (blk7 m c t i n j)
      pointwise)
    (vnAt m c t i h ro co hh er ec i0 i1)
    (fun n => by
      refine Eq.trans ?_ (blk9 m c t n i)
      pointwise) n k

theorem dvnAt (c : Dev nD) (t : Fin cfg0.N) (i : Fin 8) (h ro co : ℕ) (hh : h < 2) (er : ro = h * 128) (ec : co = i.val * 256) (i0 i1 i2)
    (n : Fin 128) (k : Fin 256) :
    k0_pay107 (F := Ideal) (View.ld (iblk m c 8 t) (Rect.unit (s := S8x128x128) ![i.val, 0, 0] ![1, 128, 128] i2))
      ((View.whole cc0_scratch2).readCov (Val := Elt Ideal) [⟨Rect.unit ![0, 0] ![256, 2048] i0, DM m c t⟩]
        (Rect.unit (s := S256x2048) ![ro, co] ![128, 256] i1).toLoadRect) (ix2 n k)
    = (args m c).dvn (Tile.at_ _ (hp t h hh) n) (Tile.ch i k) :=
  Tile.pDvn (A := args m c) (i := i) _ _
    (fun n j => by
      refine Eq.trans ?_ (blk8 m c t i n j)
      pointwise)
    (dmAt m c t i h ro co hh er ec i0 i1) n k

/-- A stored piece holds a function of row and channel at its place, if it does so by position and channel. -/
theorem piece (F : Fin 8192 → Fin 2048 → EReal) (t : Fin cfg0.N) (f : S128x256.Idx → EReal) (i : Fin 8) (h : ℕ) (hh : h < 2)
    (hf : ∀ n k, f (ix2 n k) = F (Tile.at_ _ (hp t h hh) n) (Tile.ch i k))
    (x : S128x256.Idx) (y : S256x2048.Idx) (h0 : (y 0 : ℕ) = h * 128 + x 0) (h1 : (y 1 : ℕ) = i.val * 256 + x 1) :
    f x = F (Tile.row (rb t) (y 0)) (y 1) := by
  idx_vars x
  exact (hf x0 x1).trans (congrArg₂ F (Fin.ext (by simp only [Tile.row]; omega)) (Fin.ext h1.symm))

/-- A buffer's content before the point: nothing at the first point. -/
abbrev prev {S : Shape} (t : Fin cfg0.N) (zero before : Vec Ideal S .f32) : Vec Ideal S .f32 := if t.val % 32 = 0 then zero else before

/-- What every point leaves in the buffers other than the mixing parameters' gradients, over the mixed positions and the mixing
    transposed. -/
theorem point (c : Dev nD) (t : Fin cfg0.N) : ∃ M N : Vec Ideal S256x2048 .f32,
    (∀ r k, M (ix2 r k) = (args m c).mix (Tile.row (rb t) r) k)
    ∧ (∀ r k, N (ix2 r k) = (args m c).dvn (Tile.row (rb t) r) k)
    ∧ (outsAt0 m c t.val t.isLt).1 = View.canon (Val := Elt Ideal) (e := .bf16) (s := S3x256x2048)
        [⟨Rect.unit ![1, 0, 0] ![1, 256, 2048] inb_S3x256x2048_S1x256x2048_1_0_0, k0_pay1 (k0_pay33 (k0_pay29 (iblk m c 1 t)) (k0_pay30 (iblk m c 1 t)) (k0_pay31 (iblk m c 1 t)))
            (k0_pay35 (k0_pay32 (iblk m c 1 t))) (k0_pay36 (k0_pay32 (iblk m c 1 t))) (k0_pay130 (iblk m c 5 t) N) (k0_pay131 (iblk m c 5 t) N)⟩,
          ⟨Rect.unit ![0, 0, 0] ![1, 256, 2048] inb_S3x256x2048_S1x256x2048_0_0_0, k0_pay71 (k0_pay28 (iblk m c 0 t)) M (DY m c t) (iblk m c 2 t)⟩,
          ⟨Rect.unit ![2, 0, 0] ![1, 256, 2048] inb_S3x256x2048_S1x256x2048_2_0_0, k0_pay70 (U m c t) M (DY m c t) (iblk m c 2 t)⟩]
    ∧ (outsAt0 m c t.val t.isLt).2.2.2.1 = k0_pay128 (k0_pay36 (k0_pay32 (iblk m c 1 t))) N
        (prev t (k0_pay22 (F := Ideal)) (outsAt0 m c (t.val - 1) (by omega)).2.2.2.1)
    ∧ (outsAt0 m c t.val t.isLt).2.2.2.2.1 = k0_pay129 N (prev t (k0_pay23 (F := Ideal)) (outsAt0 m c (t.val - 1) (by omega)).2.2.2.2.1)
    ∧ (outsAt0 m c t.val t.isLt).2.2.2.2.2 = k0_pay87 (k0_pay86 (k0_pay72 (U m c t) (DY m c t) (iblk m c 2 t)) (k0_pay75 (k0_pay74 (U m c t) (DY m c t)
        (iblk m c 2 t) (prev t (k0_pay24 (F := Ideal)) (outsAt0 m c (t.val - 1) (by omega)).2.2.2.2.2)))) := by
  by_cases h0 : t.val % 32 = 0
  on_goal 1 =>
    have h1 : ¬ t.val % 32 = 31 := by omega
    rw [outsAt0_A m c t h0 h1, prev, prev, prev, if_pos h0, if_pos h0, if_pos h0]
  on_goal 2 =>
    by_cases h1 : t.val % 32 = 31
    on_goal 1 => rw [outsAt0_C m c t h0 h1, prev, prev, prev, if_neg h0, if_neg h0, if_neg h0]
    on_goal 2 => rw [outsAt0_B m c t h0 h1, prev, prev, prev, if_neg h0, if_neg h0, if_neg h0]
  all_goals
    frame_out
    refine ⟨_, _, ?_, ?_, rfl, rfl, rfl, ?_⟩
    on_goal 1 =>
      clear h0 h1
      intro r k
      rw [View.readCov_eq_canon']
      dsimp only
      generalize hy : (Rect.unit (s := S256x2048) ![0, 0] ![256, 2048] inb_S256x2048_S256x2048_0_0).toLoadRect.idx (ix2 r k) = y
      have e0 : r = y 0 := by rw [← hy]; exact Fin.ext (by pointwise)
      have e1 : k = y 1 := by rw [← hy]; exact Fin.ext (by pointwise)
      rw [e0, e1]
      clear e0 e1 hy
      canon_tiles x h
      case piece0 => exact piece (args m c).mix t _ 7 1 (by omega) (mixAt m c t 7 1 128 1792 (by omega) rfl rfl _ _ _ _) x y (by omega) (by simp only [Fin.isValue, Fin.val_ofNat]; omega)
      case piece1 => exact piece (args m c).mix t _ 7 0 (by omega) (mixAt m c t 7 0 0 1792 (by omega) rfl rfl _ _ _ _) x y (by omega) (by simp only [Fin.isValue, Fin.val_ofNat]; omega)
      case piece2 => exact piece (args m c).mix t _ 6 1 (by omega) (mixAt m c t 6 1 128 1536 (by omega) rfl rfl _ _ _ _) x y (by omega) (by simp only [Fin.isValue, Fin.val_ofNat]; omega)
      case piece3 => exact piece (args m c).mix t _ 6 0 (by omega) (mixAt m c t 6 0 0 1536 (by omega) rfl rfl _ _ _ _) x y (by omega) (by simp only [Fin.isValue, Fin.val_ofNat]; omega)
      case piece4 => exact piece (args m c).mix t _ 5 1 (by omega) (mixAt m c t 5 1 128 1280 (by omega) rfl rfl _ _ _ _) x y (by omega) (by simp only [Fin.isValue, Fin.val_ofNat]; omega)
      case piece5 => exact piece (args m c).mix t _ 5 0 (by omega) (mixAt m c t 5 0 0 1280 (by omega) rfl rfl _ _ _ _) x y (by omega) (by simp only [Fin.isValue, Fin.val_ofNat]; omega)
      case piece6 => exact piece (args m c).mix t _ 4 1 (by omega) (mixAt m c t 4 1 128 1024 (by omega) rfl rfl _ _ _ _) x y (by omega) (by simp only [Fin.isValue, Fin.val_ofNat]; omega)
      case piece7 => exact piece (args m c).mix t _ 4 0 (by omega) (mixAt m c t 4 0 0 1024 (by omega) rfl rfl _ _ _ _) x y (by omega) (by simp only [Fin.isValue, Fin.val_ofNat]; omega)
      case piece8 => exact piece (args m c).mix t _ 3 1 (by omega) (mixAt m c t 3 1 128 768 (by omega) rfl rfl _ _ _ _) x y (by omega) (by simp only [Fin.isValue, Fin.val_ofNat]; omega)
      case piece9 => exact piece (args m c).mix t _ 3 0 (by omega) (mixAt m c t 3 0 0 768 (by omega) rfl rfl _ _ _ _) x y (by omega) (by simp only [Fin.isValue, Fin.val_ofNat]; omega)
      case piece10 => exact piece (args m c).mix t _ 2 1 (by omega) (mixAt m c t 2 1 128 512 (by omega) rfl rfl _ _ _ _) x y (by omega) (by simp only [Fin.isValue, Fin.val_ofNat]; omega)
      case piece11 => exact piece (args m c).mix t _ 2 0 (by omega) (mixAt m c t 2 0 0 512 (by omega) rfl rfl _ _ _ _) x y (by omega) (by simp only [Fin.isValue, Fin.val_ofNat]; omega)
      case piece12 => exact piece (args m c).mix t _ 1 1 (by omega) (mixAt m c t 1 1 128 256 (by omega) rfl rfl _ _ _ _) x y (by omega) (by simp only [Fin.isValue, Fin.val_ofNat]; omega)
      case piece13 => exact piece (args m c).mix t _ 1 0 (by omega) (mixAt m c t 1 0 0 256 (by omega) rfl rfl _ _ _ _) x y (by omega) (by simp only [Fin.isValue, Fin.val_ofNat]; omega)
      case piece14 => exact piece (args m c).mix t _ 0 1 (by omega) (mixAt m c t 0 1 128 0 (by omega) rfl rfl _ _ _ _) x y (by omega) (by simp only [Fin.isValue, Fin.val_ofNat]; omega)
      case piece15 => exact piece (args m c).mix t _ 0 0 (by omega) (mixAt m c t 0 0 0 0 (by omega) rfl rfl _ _ _ _) x y (by omega) (by simp only [Fin.isValue, Fin.val_ofNat]; omega)
    on_goal 1 =>
      clear h0 h1
      intro r k
      rw [View.readCov_eq_canon']
      dsimp only
      generalize hy : (Rect.unit (s := S256x2048) ![0, 0] ![256, 2048] inb_S256x2048_S256x2048_0_0).toLoadRect.idx (ix2 r k) = y
      have e0 : r = y 0 := by rw [← hy]; exact Fin.ext (by pointwise)
      have e1 : k = y 1 := by rw [← hy]; exact Fin.ext (by pointwise)
      rw [e0, e1]
      clear e0 e1 hy
      canon_tiles x h
      case piece0 => exact piece (args m c).dvn t _ 7 1 (by omega) (dvnAt m c t 7 1 128 1792 (by omega) rfl rfl _ _ _) x y (by omega) (by simp only [Fin.isValue, Fin.val_ofNat]; omega)
      case piece1 => exact piece (args m c).dvn t _ 7 0 (by omega) (dvnAt m c t 7 0 0 1792 (by omega) rfl rfl _ _ _) x y (by omega) (by simp only [Fin.isValue, Fin.val_ofNat]; omega)
      case piece2 => exact piece (args m c).dvn t _ 6 1 (by omega) (dvnAt m c t 6 1 128 1536 (by omega) rfl rfl _ _ _) x y (by omega) (by simp only [Fin.isValue, Fin.val_ofNat]; omega)
      case piece3 => exact piece (args m c).dvn t _ 6 0 (by omega) (dvnAt m c t 6 0 0 1536 (by omega) rfl rfl _ _ _) x y (by omega) (by simp only [Fin.isValue, Fin.val_ofNat]; omega)
      case piece4 => exact piece (args m c).dvn t _ 5 1 (by omega) (dvnAt m c t 5 1 128 1280 (by omega) rfl rfl _ _ _) x y (by omega) (by simp only [Fin.isValue, Fin.val_ofNat]; omega)
      case piece5 => exact piece (args m c).dvn t _ 5 0 (by omega) (dvnAt m c t 5 0 0 1280 (by omega) rfl rfl _ _ _) x y (by omega) (by simp only [Fin.isValue, Fin.val_ofNat]; omega)
      case piece6 => exact piece (args m c).dvn t _ 4 1 (by omega) (dvnAt m c t 4 1 128 1024 (by omega) rfl rfl _ _ _) x y (by omega) (by simp only [Fin.isValue, Fin.val_ofNat]; omega)
      case piece7 => exact piece (args m c).dvn t _ 4 0 (by omega) (dvnAt m c t 4 0 0 1024 (by omega) rfl rfl _ _ _) x y (by omega) (by simp only [Fin.isValue, Fin.val_ofNat]; omega)
      case piece8 => exact piece (args m c).dvn t _ 3 1 (by omega) (dvnAt m c t 3 1 128 768 (by omega) rfl rfl _ _ _) x y (by omega) (by simp only [Fin.isValue, Fin.val_ofNat]; omega)
      case piece9 => exact piece (args m c).dvn t _ 3 0 (by omega) (dvnAt m c t 3 0 0 768 (by omega) rfl rfl _ _ _) x y (by omega) (by simp only [Fin.isValue, Fin.val_ofNat]; omega)
      case piece10 => exact piece (args m c).dvn t _ 2 1 (by omega) (dvnAt m c t 2 1 128 512 (by omega) rfl rfl _ _ _) x y (by omega) (by simp only [Fin.isValue, Fin.val_ofNat]; omega)
      case piece11 => exact piece (args m c).dvn t _ 2 0 (by omega) (dvnAt m c t 2 0 0 512 (by omega) rfl rfl _ _ _) x y (by omega) (by simp only [Fin.isValue, Fin.val_ofNat]; omega)
      case piece12 => exact piece (args m c).dvn t _ 1 1 (by omega) (dvnAt m c t 1 1 128 256 (by omega) rfl rfl _ _ _) x y (by omega) (by simp only [Fin.isValue, Fin.val_ofNat]; omega)
      case piece13 => exact piece (args m c).dvn t _ 1 0 (by omega) (dvnAt m c t 1 0 0 256 (by omega) rfl rfl _ _ _) x y (by omega) (by simp only [Fin.isValue, Fin.val_ofNat]; omega)
      case piece14 => exact piece (args m c).dvn t _ 0 1 (by omega) (dvnAt m c t 0 1 128 0 (by omega) rfl rfl _ _ _) x y (by omega) (by simp only [Fin.isValue, Fin.val_ofNat]; omega)
      case piece15 => exact piece (args m c).dvn t _ 0 0 (by omega) (dvnAt m c t 0 0 0 0 (by omega) rfl rfl _ _ _) x y (by omega) (by simp only [Fin.isValue, Fin.val_ofNat]; omega)
    on_goal 1 => first | trivial | rw [read_unread_whole]
end Cert.GmlpBwdIdeal.Fold

end
-- ==== Proof.GDws.lean ====
/-
  The mixing weight's gradient at a grid point: two passes over the eight groups, each adding one chunk's products, and after
  the last point the lower triangle.
-/
module

public import proofs.«01_k».proof.Proof.GFold

@[expose] public section

set_option maxRecDepth 16384

noncomputable section

open Idealize.ShloMosaic Idealize.ShloMosaic.TcCoe Idealize.SL.Sem
open Idealize.ShloMosaic.Pipeline (Dat)

namespace Cert.GmlpBwdIdeal.Fold
open Cert.GmlpBwdIdeal Cert.GmlpBwdIdeal.Gen

variable (m : (ℓ : Loc nD τ sig) → Buf (Elt Ideal) ℓ)

/-- What pieces of the weight's gradient leave at one group. -/
abbrev On (L : List (View.Piece (Elt Ideal) S8x128x128 .f32)) (g : Fin 8) (f : Fin 128 → Fin 128 → EReal) : Prop :=
  ∀ n j, View.canon L (ix3 g n j) = f n j

abbrev slab (g : Fin 8) (ib : ∀ a, (![g.val, 0, 0] : Fin 3 → ℕ) a + (![1, 128, 128] : Fin 3 → ℕ) a ≤ S8x128x128.size a) : Rect S8x128x128 := Rect.unit (s := S8x128x128) ![g.val, 0, 0] ![1, 128, 128] ib

theorem slab_idx (g : Fin 8) (ib) (n j : Fin 128) : (slab g ib).idx (ix3 0 n j) = ix3 g n j := by
  funext a
  fin_cases a <;> exact Fin.ext (by pointwise)

/-- A piece at the group is what it leaves there; -/
theorem on_hit {L : List (View.Piece (Elt Ideal) S8x128x128 .f32)} (g : Fin 8) {ib} {w : S1x128x128.Idx → EReal} {f : Fin 128 → Fin 128 → EReal}
    (h : ∀ n j, w (ix3 0 n j) = f n j) : On (⟨slab g ib, w⟩ :: L) g f := fun n j => by
  refine Eq.trans ?_ (h n j)
  rw [← slab_idx g ib n j]
  exact View.canon_cons_emb (slab g ib) w L (ix3 0 n j)

/-- a piece at another group changes nothing. -/
theorem on_miss {L : List (View.Piece (Elt Ideal) S8x128x128 .f32)} (g : Fin 8) {g' : Fin 8} {ib} {w : S1x128x128.Idx → EReal}
    {f : Fin 128 → Fin 128 → EReal} (hg : g ≠ g') (h : On L g' f) : On (⟨slab g ib, w⟩ :: L) g' f := fun n j => by
  refine (View.canon_cons_of_not_mem ⟨slab g ib, w⟩ L ?_).trans (h n j)
  intro hm
  obtain ⟨x, hx⟩ := (slab g ib).exists_idx_of_mem hm
  refine hg (Fin.ext ?_)
  have h0 := congrArg Fin.val (congrFun hx 0)
  idx_vars x
  obtain rfl : x0 = 0 := Subsingleton.elim _ _
  rw [← h0]
  pointwise

/-- Eight pieces, one a group, each written from what the earlier ones leave at its group. -/
theorem ladder {L : List (View.Piece (Elt Ideal) S8x128x128 .f32)} {f f' : Fin 8 → Fin 128 → Fin 128 → EReal}
    {ib0 ib1 ib2 ib3 ib4 ib5 ib6 ib7} {w0 w1 w2 w3 w4 w5 w6 w7 : S1x128x128.Idx → EReal} (base : ∀ g, On L g (f g))
    (h0 : On (L) 0 (f 0) → ∀ n j, w0 (ix3 0 n j) = f' 0 n j)
    (h1 : On (⟨slab 0 ib0, w0⟩ :: L) 1 (f 1) → ∀ n j, w1 (ix3 0 n j) = f' 1 n j)
    (h2 : On (⟨slab 1 ib1, w1⟩ :: ⟨slab 0 ib0, w0⟩ :: L) 2 (f 2) → ∀ n j, w2 (ix3 0 n j) = f' 2 n j)
    (h3 : On (⟨slab 2 ib2, w2⟩ :: ⟨slab 1 ib1, w1⟩ :: ⟨slab 0 ib0, w0⟩ :: L) 3 (f 3) → ∀ n j, w3 (ix3 0 n j) = f' 3 n j)
    (h4 : On (⟨slab 3 ib3, w3⟩ :: ⟨slab 2 ib2, w2⟩ :: ⟨slab 1 ib1, w1⟩ :: ⟨slab 0 ib0, w0⟩ :: L) 4 (f 4) → ∀ n j, w4 (ix3 0 n j) = f' 4 n j)
    (h5 : On (⟨slab 4 ib4, w4⟩ :: ⟨slab 3 ib3, w3⟩ :: ⟨slab 2 ib2, w2⟩ :: ⟨slab 1 ib1, w1⟩ :: ⟨slab 0 ib0, w0⟩ :: L) 5 (f 5) → ∀ n j, w5 (ix3 0 n j) = f' 5 n j)
    (h6 : On (⟨slab 5 ib5, w5⟩ :: ⟨slab 4 ib4, w4⟩ :: ⟨slab 3 ib3, w3⟩ :: ⟨slab 2 ib2, w2⟩ :: ⟨slab 1 ib1, w1⟩ :: ⟨slab 0 ib0, w0⟩ :: L) 6 (f 6) → ∀ n j, w6 (ix3 0 n j) = f' 6 n j)
    (h7 : On (⟨slab 6 ib6, w6⟩ :: ⟨slab 5 ib5, w5⟩ :: ⟨slab 4 ib4, w4⟩ :: ⟨slab 3 ib3, w3⟩ :: ⟨slab 2 ib2, w2⟩ :: ⟨slab 1 ib1, w1⟩ :: ⟨slab 0 ib0, w0⟩ :: L) 7 (f 7) → ∀ n j, w7 (ix3 0 n j) = f' 7 n j)
    (g : Fin 8) : On (⟨slab 7 ib7, w7⟩ :: ⟨slab 6 ib6, w6⟩ :: ⟨slab 5 ib5, w5⟩ :: ⟨slab 4 ib4, w4⟩ :: ⟨slab 3 ib3, w3⟩ :: ⟨slab 2 ib2, w2⟩ :: ⟨slab 1 ib1, w1⟩ :: ⟨slab 0 ib0, w0⟩ :: L) g (f' g) := by
  have a0 := h0 (base 0)
  have a1 := h1 (on_miss 0 (by decide) (base 1))
  have a2 := h2 (on_miss 1 (by decide) (on_miss 0 (by decide) (base 2)))
  have a3 := h3 (on_miss 2 (by decide) (on_miss 1 (by decide) (on_miss 0 (by decide) (base 3))))
  have a4 := h4 (on_miss 3 (by decide) (on_miss 2 (by decide) (on_miss 1 (by decide) (on_miss 0 (by decide) (base 4)))))
  have a5 := h5 (on_miss 4 (by decide) (on_miss 3 (by decide) (on_miss 2 (by decide) (on_miss 1 (by decide) (on_miss 0 (by decide) (base 5))))))
  have a6 := h6 (on_miss 5 (by decide) (on_miss 4 (by decide) (on_miss 3 (by decide) (on_miss 2 (by decide) (on_miss 1 (by decide) (on_miss 0 (by decide) (base 6)))))))
  have a7 := h7 (on_miss 6 (by decide) (on_miss 5 (by decide) (on_miss 4 (by decide) (on_miss 3 (by decide) (on_miss 2 (by decide) (on_miss 1 (by decide) (on_miss 0 (by decide) (base 7))))))))
  clear h0 h1 h2 h3 h4 h5 h6 h7
  fin_cases g
  · exact on_miss 7 (by decide) (on_miss 6 (by decide) (on_miss 5 (by decide) (on_miss 4 (by decide) (on_miss 3 (by decide) (on_miss 2 (by decide) (on_miss 1 (by decide) (on_hit 0 a0)))))))
  · exact on_miss 7 (by decide) (on_miss 6 (by decide) (on_miss 5 (by decide) (on_miss 4 (by decide) (on_miss 3 (by decide) (on_miss 2 (by decide) (on_hit 1 a1))))))
  · exact on_miss 7 (by decide) (on_miss 6 (by decide) (on_miss 5 (by decide) (on_miss 4 (by decide) (on_miss 3 (by decide) (on_hit 2 a2)))))
  · exact on_miss 7 (by decide) (on_miss 6 (by decide) (on_miss 5 (by decide) (on_miss 4 (by decide) (on_hit 3 a3))))
  · exact on_miss 7 (by decide) (on_miss 6 (by decide) (on_miss 5 (by decide) (on_hit 4 a4)))
  · exact on_miss 7 (by decide) (on_miss 6 (by decide) (on_hit 5 a5))
  · exact on_miss 7 (by decide) (on_hit 6 a6)
  · exact on_hit 7 a7

/-- A group read back of pieces is what they leave there. -/
theorem cov {L : List (View.Piece (Elt Ideal) S8x128x128 .f32)} {g : Fin 8} {f : Fin 128 → Fin 128 → EReal} (v : View sig .tc .vmem S8x128x128 .f32)
    {ib} (h : On L g f) (n j : Fin 128) : v.readCov (Val := Elt Ideal) L (slab g ib).toLoadRect (ix3 0 n j) = f n j := by
  rw [View.readCov_eq_canon']
  exact (congrArg (View.canon L) (slab_idx g ib n j)).trans (h n j)

/-- A chunk's products added to what is read at a group. -/
theorem add (c : Dev nD) (t : Fin cfg0.N) (g : Fin 8) (h ro co : ℕ) (hh : h < 2) (er : ro = h * 128) (ec : co = g.val * 256) {i0 i1 i2 i3}
    {a : Vec Ideal S1x128x128 .f32} {f : Fin 128 → Fin 128 → EReal} (ha : ∀ n j, a (ix3 0 n j) = f n j) (n j : Fin 128) :
    k0_pay77 (F := Ideal) a
      ((View.whole cc0_scratch2).readCov (Val := Elt Ideal) [⟨Rect.unit ![0, 0] ![256, 2048] i0, DM m c t⟩]
        (Rect.unit (s := S256x2048) ![ro, co] ![128, 256] i1).toLoadRect)
      ((View.whole cc0_scratch0).readCov (Val := Elt Ideal) [⟨Rect.unit ![0, 0] ![256, 2048] i2, VN m c t⟩]
        (Rect.unit (s := S256x2048) ![ro, co] ![128, 256] i3).toLoadRect) (ix3 0 n j)
    = f n j + (args m c).dwsAt g n j ⟨_, hp t h hh⟩ :=
  (Tile.pDws (A := args m c) (i := g) ⟨_, hp t h hh⟩ (dmAt m c t g h ro co hh er ec i0 i1) (vnAt m c t g h ro co hh er ec i2 i3) n j).trans
    (congrArg (· + _) (ha n j))

theorem tri {a : Vec Ideal S1x128x128 .f32} {f : Fin 128 → Fin 128 → EReal} (ha : ∀ n j, a (ix3 0 n j) = f n j) (n j : Fin 128) :
    k0_pay8 (F := Ideal) a (ix3 0 n j) = if j.val ≤ n.val then f n j else 0 := by
  rw [Tile.pTri, ha]

/-- The weight's gradient before the point, and after the point's two chunks. -/
abbrev before (c : Dev nD) (t : Fin cfg0.N) (g : Fin 8) (n j : Fin 128) : EReal :=
  prev t (k0_pay21 (F := Ideal)) (outsAt0 m c (t.val - 1) (by omega)).2.1 (ix3 g n j)
abbrev both (c : Dev nD) (t : Fin cfg0.N) (g : Fin 8) (n j : Fin 128) : EReal :=
  before m c t g n j + (args m c).dwsAt g n j ⟨_, hp t 0 (by omega)⟩ + (args m c).dwsAt g n j ⟨_, hp t 1 (by omega)⟩

/-- What no piece leaves. -/
abbrev noPiece (g : Fin 8) (n j : Fin 128) : EReal := View.canon (Val := Elt Ideal) (s := S8x128x128) (e := .f32) [] (ix3 g n j)

theorem fill {ib} (g : Fin 8) : On [⟨Rect.unit ![0, 0, 0] ![8, 128, 128] ib, k0_pay21 (F := Ideal)⟩] g (fun n j => k0_pay21 (F := Ideal) (ix3 g n j)) := fun n j =>
  congrFun (View.canon_cons_unit_lit (Val := Elt Ideal) (S := S8x128x128) (e := .f32) ib _ [] (by decide)) _

theorem dws_A (c : Dev nD) (t : Fin cfg0.N) (h0 : t.val % 32 = 0) (g : Fin 8) (n j : Fin 128) :
    (outsAt0 m c t.val t.isLt).2.1 (ix3 g n j) = both m c t g n j := by
  rw [outsAt0_A m c t h0 (by omega), both, before, prev, if_pos h0]
  frame_out
  exact ladder (f' := fun g n j => k0_pay21 (F := Ideal) (ix3 g n j) + (args m c).dwsAt g n j ⟨_, hp t 0 (by omega)⟩ + (args m c).dwsAt g n j ⟨_, hp t 1 (by omega)⟩)
    (ladder (f' := fun g n j => k0_pay21 (F := Ideal) (ix3 g n j) + (args m c).dwsAt g n j ⟨_, hp t 0 (by omega)⟩) fill
      (fun H => add m c t 0 0 0 0 (by omega) rfl rfl (cov _ H))
      (fun H => add m c t 1 0 0 256 (by omega) rfl rfl (cov _ H))
      (fun H => add m c t 2 0 0 512 (by omega) rfl rfl (cov _ H))
      (fun H => add m c t 3 0 0 768 (by omega) rfl rfl (cov _ H))
      (fun H => add m c t 4 0 0 1024 (by omega) rfl rfl (cov _ H))
      (fun H => add m c t 5 0 0 1280 (by omega) rfl rfl (cov _ H))
      (fun H => add m c t 6 0 0 1536 (by omega) rfl rfl (cov _ H))
      (fun H => add m c t 7 0 0 1792 (by omega) rfl rfl (cov _ H)))
      (fun H => add m c t 0 1 128 0 (by omega) rfl rfl (cov _ H))
      (fun H => add m c t 1 1 128 256 (by omega) rfl rfl (cov _ H))
      (fun H => add m c t 2 1 128 512 (by omega) rfl rfl (cov _ H))
      (fun H => add m c t 3 1 128 768 (by omega) rfl rfl (cov _ H))
      (fun H => add m c t 4 1 128 1024 (by omega) rfl rfl (cov _ H))
      (fun H => add m c t 5 1 128 1280 (by omega) rfl rfl (cov _ H))
      (fun H => add m c t 6 1 128 1536 (by omega) rfl rfl (cov _ H))
      (fun H => add m c t 7 1 128 1792 (by omega) rfl rfl (cov _ H)) g n j

theorem dws_B (c : Dev nD) (t : Fin cfg0.N) (h0 : ¬ t.val % 32 = 0) (h1 : ¬ t.val % 32 = 31) (g : Fin 8) (n j : Fin 128) :
    (outsAt0 m c t.val t.isLt).2.1 (ix3 g n j) = both m c t g n j := by
  rw [outsAt0_B m c t h0 h1, both, before, prev, if_neg h0]
  frame_out
  exact ladder (f' := fun g n j => (outsAt0 m c (t.val - 1) (by omega)).2.1 (ix3 g n j) + (args m c).dwsAt g n j ⟨_, hp t 0 (by omega)⟩ + (args m c).dwsAt g n j ⟨_, hp t 1 (by omega)⟩)
    (ladder (f' := fun g n j => (outsAt0 m c (t.val - 1) (by omega)).2.1 (ix3 g n j) + (args m c).dwsAt g n j ⟨_, hp t 0 (by omega)⟩)
      (f := noPiece) (fun g n j => rfl)
      (fun H => add m c t 0 0 0 0 (by omega) rfl rfl (fun n j => congrArg (outsAt0 m c (t.val - 1) (by omega)).2.1 (slab_idx 0 _ n j)))
      (fun H => add m c t 1 0 0 256 (by omega) rfl rfl (fun n j => congrArg (outsAt0 m c (t.val - 1) (by omega)).2.1 (slab_idx 1 _ n j)))
      (fun H => add m c t 2 0 0 512 (by omega) rfl rfl (fun n j => congrArg (outsAt0 m c (t.val - 1) (by omega)).2.1 (slab_idx 2 _ n j)))
      (fun H => add m c t 3 0 0 768 (by omega) rfl rfl (fun n j => congrArg (outsAt0 m c (t.val - 1) (by omega)).2.1 (slab_idx 3 _ n j)))
      (fun H => add m c t 4 0 0 1024 (by omega) rfl rfl (fun n j => congrArg (outsAt0 m c (t.val - 1) (by omega)).2.1 (slab_idx 4 _ n j)))
      (fun H => add m c t 5 0 0 1280 (by omega) rfl rfl (fun n j => congrArg (outsAt0 m c (t.val - 1) (by omega)).2.1 (slab_idx 5 _ n j)))
      (fun H => add m c t 6 0 0 1536 (by omega) rfl rfl (fun n j => congrArg (outsAt0 m c (t.val - 1) (by omega)).2.1 (slab_idx 6 _ n j)))
      (fun H => add m c t 7 0 0 1792 (by omega) rfl rfl (fun n j => congrArg (outsAt0 m c (t.val - 1) (by omega)).2.1 (slab_idx 7 _ n j))))
      (fun H => add m c t 0 1 128 0 (by omega) rfl rfl (cov _ H))
      (fun H => add m c t 1 1 128 256 (by omega) rfl rfl (cov _ H))
      (fun H => add m c t 2 1 128 512 (by omega) rfl rfl (cov _ H))
      (fun H => add m c t 3 1 128 768 (by omega) rfl rfl (cov _ H))
      (fun H => add m c t 4 1 128 1024 (by omega) rfl rfl (cov _ H))
      (fun H => add m c t 5 1 128 1280 (by omega) rfl rfl (cov _ H))
      (fun H => add m c t 6 1 128 1536 (by omega) rfl rfl (cov _ H))
      (fun H => add m c t 7 1 128 1792 (by omega) rfl rfl (cov _ H)) g n j

theorem dws_C (c : Dev nD) (t : Fin cfg0.N) (h1 : t.val % 32 = 31) (g : Fin 8) (n j : Fin 128) :
    (outsAt0 m c t.val t.isLt).2.1 (ix3 g n j) = if j.val ≤ n.val then both m c t g n j else 0 := by
  have h0 : ¬ t.val % 32 = 0 := by omega
  rw [outsAt0_C m c t h0 h1, both, before, prev, if_neg h0]
  frame_out
  exact ladder (f' := fun g n j => if j.val ≤ n.val then (outsAt0 m c (t.val - 1) (by omega)).2.1 (ix3 g n j) + (args m c).dwsAt g n j ⟨_, hp t 0 (by omega)⟩ + (args m c).dwsAt g n j ⟨_, hp t 1 (by omega)⟩ else 0)
    (ladder (f' := fun g n j => (outsAt0 m c (t.val - 1) (by omega)).2.1 (ix3 g n j) + (args m c).dwsAt g n j ⟨_, hp t 0 (by omega)⟩ + (args m c).dwsAt g n j ⟨_, hp t 1 (by omega)⟩)
    (ladder (f' := fun g n j => (outsAt0 m c (t.val - 1) (by omega)).2.1 (ix3 g n j) + (args m c).dwsAt g n j ⟨_, hp t 0 (by omega)⟩)
      (f := noPiece) (fun g n j => rfl)
      (fun H => add m c t 0 0 0 0 (by omega) rfl rfl (fun n j => congrArg (outsAt0 m c (t.val - 1) (by omega)).2.1 (slab_idx 0 _ n j)))
      (fun H => add m c t 1 0 0 256 (by omega) rfl rfl (fun n j => congrArg (outsAt0 m c (t.val - 1) (by omega)).2.1 (slab_idx 1 _ n j)))
      (fun H => add m c t 2 0 0 512 (by omega) rfl rfl (fun n j => congrArg (outsAt0 m c (t.val - 1) (by omega)).2.1 (slab_idx 2 _ n j)))
      (fun H => add m c t 3 0 0 768 (by omega) rfl rfl (fun n j => congrArg (outsAt0 m c (t.val - 1) (by omega)).2.1 (slab_idx 3 _ n j)))
      (fun H => add m c t 4 0 0 1024 (by omega) rfl rfl (fun n j => congrArg (outsAt0 m c (t.val - 1) (by omega)).2.1 (slab_idx 4 _ n j)))
      (fun H => add m c t 5 0 0 1280 (by omega) rfl rfl (fun n j => congrArg (outsAt0 m c (t.val - 1) (by omega)).2.1 (slab_idx 5 _ n j)))
      (fun H => add m c t 6 0 0 1536 (by omega) rfl rfl (fun n j => congrArg (outsAt0 m c (t.val - 1) (by omega)).2.1 (slab_idx 6 _ n j)))
      (fun H => add m c t 7 0 0 1792 (by omega) rfl rfl (fun n j => congrArg (outsAt0 m c (t.val - 1) (by omega)).2.1 (slab_idx 7 _ n j))))
      (fun H => add m c t 0 1 128 0 (by omega) rfl rfl (cov _ H))
      (fun H => add m c t 1 1 128 256 (by omega) rfl rfl (cov _ H))
      (fun H => add m c t 2 1 128 512 (by omega) rfl rfl (cov _ H))
      (fun H => add m c t 3 1 128 768 (by omega) rfl rfl (cov _ H))
      (fun H => add m c t 4 1 128 1024 (by omega) rfl rfl (cov _ H))
      (fun H => add m c t 5 1 128 1280 (by omega) rfl rfl (cov _ H))
      (fun H => add m c t 6 1 128 1536 (by omega) rfl rfl (cov _ H))
      (fun H => add m c t 7 1 128 1792 (by omega) rfl rfl (cov _ H)))
    (fun H => tri (cov _ H))
    (fun H => tri (cov _ H))
    (fun H => tri (cov _ H))
    (fun H => tri (cov _ H))
    (fun H => tri (cov _ H))
    (fun H => tri (cov _ H))
    (fun H => tri (cov _ H))
    (fun H => tri (cov _ H)) g n j

/-! ## The mixing bias's gradient, after the last point -/

/-- A column of the bias's gradient: the running sum over the chunks, added over the group's channels. -/
theorem dbsAt (a : Vec Ideal S128x2048 .f32) (L) (g : Fin 8) (co : ℕ) (ec : co = g.val * 256) (i0 i1) (n : Fin 128) :
    k0_pay9 (F := Ideal) ((View.whole cc0_scratch4).readCov (Val := Elt Ideal) (⟨Rect.unit ![0, 0] ![128, 2048] i0, a⟩ :: L)
      (Rect.unit (s := S128x2048) ![0, co] ![128, 256] i1).toLoadRect) (ix2 n 0) = ∑ k : Fin 256, a (ix2 n (Tile.ch g k)) := by
  subst ec
  rw [Tile.pDbs]
  refine Finset.sum_congr rfl fun k _ => ?_
  refine (congrFun (View.readCov_fill (Val := Elt Ideal) (View.whole cc0_scratch4) i0 _ _ _ (by decide)) _).trans ?_
  pointwise

theorem dbsPiece (a : Vec Ideal S128x2048 .f32) (f : S128x1.Idx → EReal) (g : Fin 8) (hf : ∀ n, f (ix2 n 0) = ∑ k : Fin 256, a (ix2 n (Tile.ch g k)))
    (x : S128x1.Idx) (y : S128x8.Idx) (h0 : (y 0 : ℕ) = 0 + x 0) (h1 : (y 1 : ℕ) = g.val + x 1) :
    f x = ∑ k : Fin 256, a (ix2 (y 0) (Tile.ch (y 1) k)) := by
  idx_vars x
  obtain rfl : x1 = 0 := Subsingleton.elim _ _
  have e0 : y 0 = x0 := Fin.ext (by simpa using h0)
  have e1 : y 1 = g := Fin.ext (by simpa using h1)
  rw [e0, e1]
  exact hf x0

theorem dbs_C (c : Dev nD) (t : Fin cfg0.N) (h1 : t.val % 32 = 31) (y : S128x8.Idx) :
    (outsAt0 m c t.val t.isLt).2.2.1 y = ∑ k : Fin 256, (outsAt0 m c t.val t.isLt).2.2.2.2.2 (ix2 (y 0) (Tile.ch (y 1) k)) := by
  have h0 : ¬ t.val % 32 = 0 := by omega
  rw [outsAt0_C m c t h0 h1]
  frame_out
  clear h0 h1
  canon_tiles x h
  case piece0 => exact dbsPiece _ _ 7 (dbsAt _ _ 7 1792 rfl _ _) x y (by omega) (by simp only [Fin.isValue, Fin.val_ofNat]; omega)
  case piece1 => exact dbsPiece _ _ 6 (dbsAt _ _ 6 1536 rfl _ _) x y (by omega) (by simp only [Fin.isValue, Fin.val_ofNat]; omega)
  case piece2 => exact dbsPiece _ _ 5 (dbsAt _ _ 5 1280 rfl _ _) x y (by omega) (by simp only [Fin.isValue, Fin.val_ofNat]; omega)
  case piece3 => exact dbsPiece _ _ 4 (dbsAt _ _ 4 1024 rfl _ _) x y (by omega) (by simp only [Fin.isValue, Fin.val_ofNat]; omega)
  case piece4 => exact dbsPiece _ _ 3 (dbsAt _ _ 3 768 rfl _ _) x y (by omega) (by simp only [Fin.isValue, Fin.val_ofNat]; omega)
  case piece5 => exact dbsPiece _ _ 2 (dbsAt _ _ 2 512 rfl _ _) x y (by omega) (by simp only [Fin.isValue, Fin.val_ofNat]; omega)
  case piece6 => exact dbsPiece _ _ 1 (dbsAt _ _ 1 256 rfl _ _) x y (by omega) (by simp only [Fin.isValue, Fin.val_ofNat]; omega)
  case piece7 => exact dbsPiece _ _ 0 (dbsAt _ _ 0 0 rfl _ _) x y (by omega) (by simp only [Fin.isValue, Fin.val_ofNat]; omega)

end Cert.GmlpBwdIdeal.Fold

end
-- ==== Proof.GArr.lean ====
/-
  The mixing unit's gradient: the five results as whole arrays.
-/
module

public import proofs.«01_k».proof.Proof.GDws

@[expose] public section

set_option maxRecDepth 16384

noncomputable section

open Idealize.ShloMosaic Idealize.ShloMosaic.TcCoe Idealize.SL.Sem
open Idealize.ShloMosaic.Pipeline (Dat)

namespace Cert.GmlpBwdIdeal.Fold
open Cert.GmlpBwdIdeal Cert.GmlpBwdIdeal.Gen

variable (m : (ℓ : Loc nD τ sig) → Buf (Elt Ideal) ℓ)

/-- The projection's gradient after a point: its three parts at the point's rows. -/
theorem dp_at (c : Dev nD) (t : Fin cfg0.N) (y : S3x256x2048.Idx) :
    (outsAt0 m c t.val t.isLt).1 y = (args m c).part (y 0) (Tile.row (rb t) (y 1)) (y 2) := by
  obtain ⟨M, N, hM, hN, o, -⟩ := point m c t
  rw [o]
  unfold Gmlp.Bwd.part
  clear o
  canon_tiles x h
  all_goals
    idx_vars x
    obtain rfl : x0 = 0 := Subsingleton.elim _ _
  case piece0 =>
    rw [if_neg (by omega), if_pos (by omega)]
    exact (Tile.sDv (holds m c t) hN x1 x2).trans (congrArg₂ (args m c).dv (Fin.ext (by simp only [Tile.row]; omega)) (Fin.ext (by omega)))
  case piece1 =>
    rw [if_pos (by omega)]
    exact (Tile.sDu (holds m c t) hM x1 x2).trans (congrArg₂ (args m c).du (Fin.ext (by simp only [Tile.row]; omega)) (Fin.ext (by omega)))
  case piece2 =>
    rw [if_neg (by omega), if_neg (by omega)]
    exact (Tile.sDz (holds m c t) hM x1 x2).trans (congrArg₂ (args m c).dz (Fin.ext (by simp only [Tile.row]; omega)) (Fin.ext (by omega)))

/-- The three sums after a point, by channel. -/
theorem vals (c : Dev nD) (t : Fin cfg0.N) :
    (∀ k, (outsAt0 m c t.val t.isLt).2.2.2.1 (ix2 0 k)
        = prev t (k0_pay22 (F := Ideal)) (outsAt0 m c (t.val - 1) (by omega)).2.2.2.1 (ix2 0 k)
          + ∑ r : Fin 256, (args m c).dvn (Tile.row (rb t) r) k * (args m c).vhat (Tile.row (rb t) r) k)
    ∧ (∀ k, (outsAt0 m c t.val t.isLt).2.2.2.2.1 (ix2 0 k)
        = prev t (k0_pay23 (F := Ideal)) (outsAt0 m c (t.val - 1) (by omega)).2.2.2.2.1 (ix2 0 k)
          + ∑ r : Fin 256, (args m c).dvn (Tile.row (rb t) r) k)
    ∧ ∀ n k, (outsAt0 m c t.val t.isLt).2.2.2.2.2 (ix2 n k)
        = prev t (k0_pay24 (F := Ideal)) (outsAt0 m c (t.val - 1) (by omega)).2.2.2.2.2 (ix2 n k)
          + ∑ h : Fin 2, (args m c).dm (Tile.at_ _ (hp t h.val h.isLt) n) k := by
  obtain ⟨M, N, hM, hN, -, o1, o2, o3⟩ := point m c t
  rw [o1, o2, o3]
  refine ⟨Tile.sDlg (holds m c t) hN _, Tile.sDlb hN _, fun n k => (Tile.pAcc (holds m c t) _ n k).trans ?_⟩
  rw [add_assoc, Fin.sum_univ_two]
  refine congrArg _ (congrArg₂ (· + ·) (congrArg (fun s => (args m c).dm s k) (Fin.ext ?_)) (congrArg (fun s => (args m c).dm s k) (Fin.ext ?_)))
  · simp only [Tile.row, Tile.at_, Fin.val_zero]; omega
  · simp only [Tile.row, Tile.at_, Fin.val_one]; omega

/-- What the thirty-two points add is the sum of it. -/
theorem points {S : Shape} (G : S.Idx → Fin 32 → EReal) (zero : Vec Ideal S .f32) (hz : ∀ y, zero y = 0)
    (f : (n : ℕ) → n < cfg0.N → Vec Ideal S .f32)
    (h : ∀ t : Fin cfg0.N, ∀ y, f t.val t.isLt y = prev t zero (f (t.val - 1) (by omega)) y + G y (rb t))
    (t : Fin cfg0.N) (ht : t.val % 32 = 31) (y : S.Idx) : f t.val t.isLt y = ∑ q, G y q := by
  rw [Pipeline.eq_sum_fin_of_reset_step_apply_of_flush f 32 (fun _ => 0) (fun t y => G y (rb t))
    (fun t h0 y => by rw [h t y, prev, if_pos h0, hz]) (fun t h1 y => by rw [h t y, prev, if_neg h1]) t ht y, zero_add]
  refine Finset.sum_congr rfl fun q _ => congrArg (G y) (Fin.ext ?_)
  have := t.isLt
  have : cfg0.N = 32 := N_0
  simp only [rb]; omega

/-- The points' rows are all rows, and their chunks all chunks. -/
theorem rows (T : Fin 8192 → EReal) : ∑ q : Fin 32, ∑ r : Fin 256, T (Tile.row q r) = ∑ s, T s := by
  rw [Fin.sum_univ_tiles 32 256 rfl]

theorem chunks (T : Fin 64 → EReal) : ∑ q : Fin 32, ∑ h : Fin 2, T ⟨q.val * 2 + h.val, by omega⟩ = ∑ p, T p := by
  rw [Fin.sum_univ_tiles 32 2 rfl]

theorem dp_arr (c : Dev nD) : (dats m 0 c).arrAt 10 cfg0.N = fun i : S3x8192x2048.Idx => (args m c).part (i 0) (i 1) (i 2) := by
  refine (dats m 0 c).arrAt_eq_of_covers 10 _ (by decide +kernel) fun t hf y => ?_
  idx_vars y
  blk_simp
  rw [after0_10]
  refine (dp_at m c t (ix3 y0 y1 y2)).trans ?_
  exact congr (congrArg₂ (args m c).part (Fin.ext (by blk_simp [idx t])) (Fin.ext (by blk_simp [idx t]; rfl))) (Fin.ext (by blk_simp [idx t]))

/-- The layer norm's two sums, after the last point. -/
theorem dlg_last (c : Dev nD) (t : Fin cfg0.N) (ht : t.val % 32 = 31) (y : S1x2048.Idx) :
    (outsAt0 m c t.val t.isLt).2.2.2.1 y = (args m c).dlg (y 1) :=
  (points (S := S1x2048) (fun y q => ∑ r : Fin 256, (args m c).dvn (Tile.row q r) (y 1) * (args m c).vhat (Tile.row q r) (y 1))
    (k0_pay22 (F := Ideal)) (fun y => by idx_vars y; pointwise [k0_pay22]) (fun n h => (outsAt0 m c n h).2.2.2.1) (fun t y => by
      idx_vars y
      obtain rfl : y0 = 0 := Subsingleton.elim _ _
      exact (vals m c t).1 y1) t ht y).trans (rows fun s => (args m c).dvn s (y 1) * (args m c).vhat s (y 1))

theorem dlb_last (c : Dev nD) (t : Fin cfg0.N) (ht : t.val % 32 = 31) (y : S1x2048.Idx) :
    (outsAt0 m c t.val t.isLt).2.2.2.2.1 y = (args m c).dlb (y 1) :=
  (points (S := S1x2048) (fun y q => ∑ r : Fin 256, (args m c).dvn (Tile.row q r) (y 1))
    (k0_pay23 (F := Ideal)) (fun y => by idx_vars y; pointwise [k0_pay23]) (fun n h => (outsAt0 m c n h).2.2.2.2.1) (fun t y => by
      idx_vars y
      obtain rfl : y0 = 0 := Subsingleton.elim _ _
      exact (vals m c t).2.1 y1) t ht y).trans (rows fun s => (args m c).dvn s (y 1))

theorem dlg_arr (c : Dev nD) : (dats m 0 c).arrAt 13 cfg0.N = fun i : S1x2048.Idx => (args m c).dlg (i 1) := by
  refine (dats m 0 c).arrAt_eq_of_covers 13 _ (by decide +kernel) fun t hf y => ?_
  idx_vars y
  blk_simp
  rw [after0_13]
  exact (dlg_last m c t ((flush0_13 t).mp hf) (ix2 y0 y1)).trans (congrArg (args m c).dlg (Fin.ext (by blk_simp [idx t])))

theorem dlb_arr (c : Dev nD) : (dats m 0 c).arrAt 14 cfg0.N = fun i : S1x2048.Idx => (args m c).dlb (i 1) := by
  refine (dats m 0 c).arrAt_eq_of_covers 14 _ (by decide +kernel) fun t hf y => ?_
  idx_vars y
  blk_simp
  rw [after0_14]
  exact (dlb_last m c t ((flush0_14 t).mp hf) (ix2 y0 y1)).trans (congrArg (args m c).dlb (Fin.ext (by blk_simp [idx t])))

/-- The running sum over the chunks, after the last point. -/
theorem acc_last (c : Dev nD) (t : Fin cfg0.N) (ht : t.val % 32 = 31) (n : Fin 128) (k : Fin 2048) :
    (outsAt0 m c t.val t.isLt).2.2.2.2.2 (ix2 n k) = ∑ p : Fin 64, (args m c).dm (Tile.at_ p.val p.isLt n) k :=
  (points (S := S128x2048) (fun y q => ∑ h : Fin 2, (args m c).dm (Tile.at_ (q.val * 2 + h.val) (by omega) (y 0)) (y 1))
    (k0_pay24 (F := Ideal)) (fun y => by idx_vars y; pointwise [k0_pay24]) (fun n h => (outsAt0 m c n h).2.2.2.2.2) (fun t y => by
      idx_vars y
      exact (vals m c t).2.2 y0 y1) t ht (ix2 n k)).trans (chunks fun p => (args m c).dm (Tile.at_ p.val p.isLt n) k)

theorem dbs_arr (c : Dev nD) : (dats m 0 c).arrAt 12 cfg0.N = fun i : S128x8.Idx => (args m c).dbs (i 0) (i 1) := by
  refine (dats m 0 c).arrAt_eq_of_covers 12 _ (by decide +kernel) fun t hf y => ?_
  idx_vars y
  blk_simp
  rw [after0_12]
  refine (dbs_C m c t ((flush0_12 t).mp hf) (ix2 y0 y1)).trans ?_
  refine (Finset.sum_congr rfl fun k _ => acc_last m c t ((flush0_12 t).mp hf) y0 (Tile.ch y1 k)).trans ?_
  exact congrArg₂ (args m c).dbs (Fin.ext (by blk_simp [idx t])) (Fin.ext (by blk_simp [idx t]))

/-- The weight's gradient before its triangle is taken, after the last point. -/
theorem both_last (c : Dev nD) (t : Fin cfg0.N) (ht : t.val % 32 = 31) (g : Fin 8) (n j : Fin 128) :
    both m c t g n j = ∑ p, (args m c).dwsAt g n j p :=
  (points (S := S8x128x128) (fun y q => ∑ h : Fin 2, (args m c).dwsAt (y 0) (y 1) (y 2) ⟨q.val * 2 + h.val, by omega⟩)
    (k0_pay21 (F := Ideal)) (fun y => by idx_vars y; pointwise [k0_pay21])
    (fun n h => fun y => both m c ⟨n, h⟩ (y 0) (y 1) (y 2)) (fun t y => by
      idx_vars y
      rw [Fin.sum_univ_two, ← add_assoc]
      refine congrArg (· + _ + _) ?_
      unfold before prev
      by_cases h0 : t.val % 32 = 0
      · rw [if_pos h0, if_pos h0]
      · rw [if_neg h0, if_neg h0]
        by_cases h1 : (t.val - 1) % 32 = 0
        · exact dws_A m c ⟨t.val - 1, by omega⟩ h1 y0 y1 y2
        · exact dws_B m c ⟨t.val - 1, by omega⟩ h1 (by show ¬ (t.val - 1) % 32 = 31; omega) y0 y1 y2) t ht (ix3 g n j)).trans
    (chunks fun p => (args m c).dwsAt g n j p)

theorem dws_arr (c : Dev nD) : (dats m 0 c).arrAt 11 cfg0.N = fun i : S8x128x128.Idx => (args m c).dws (i 0) (i 1) (i 2) := by
  refine (dats m 0 c).arrAt_eq_of_covers 11 _ (by decide +kernel) fun t hf y => ?_
  idx_vars y
  blk_simp
  rw [after0_11]
  refine (dws_C m c t ((flush0_11 t).mp hf) y0 y1 y2).trans ?_
  rw [both_last m c t ((flush0_11 t).mp hf)]
  show (args m c).dws y0 y1 y2 = _
  exact congr (congrArg₂ (args m c).dws (Fin.ext (by blk_simp [idx t])) (Fin.ext (by blk_simp [idx t]))) (Fin.ext (by blk_simp [idx t]))

end Cert.GmlpBwdIdeal.Fold

end
-- ==== Proof.HostSum5.lean ====
/-
  The host's sums over two or three axes of an array of rank five, where all or some of them have size one.
-/
module

public import proofs.«01_k».proof.Proof.HostSum

@[expose] public section

noncomputable section

open Idealize.ShloMosaic

namespace Cert.Math

/-- The axes of chunks and of a group's channels. -/
theorem hostReduceAdd_chunks {P N G K : ℕ} (h : Shape.ReducesTo ⟨5, ![1, P, N, G, K]⟩ [1, 4] ⟨3, ![1, N, G]⟩)
    (x : (⟨5, ![1, P, N, G, K]⟩ : Shape).Idx → EReal) (init : EReal) (n : Fin N) (g : Fin G) :
    Ideal.hostReduceAdd h x init (ix3 0 n g) = init + ∑ p, ∑ k, x (ix5 0 p n g k) := by
  have hd : ∀ (a : Fin 1) (p : Fin P) (n' : Fin N) (g' : Fin G) (k : Fin K), h.drop (ix5 a p n' g' k) = ix3 0 n g ↔ n' = n ∧ g' = g := by
    intro a p n' g' k
    constructor
    · intro e
      exact ⟨Fin.ext (congrArg Fin.val (congrFun e (1 : Fin 3))), Fin.ext (congrArg Fin.val (congrFun e (2 : Fin 3)))⟩
    · rintro ⟨rfl, rfl⟩
      funext b
      match b with
      | ⟨0, _⟩ => exact Subsingleton.elim (α := Fin 1) _ _
      | ⟨1, _⟩ => exact Fin.ext rfl
      | ⟨2, _⟩ => exact Fin.ext rfl
  unfold Ideal.hostReduceAdd
  rw [Finset.sum_filter, sum_idx5]
  refine congrArg (init + ·) ?_
  simp only [hd, Finset.univ_unique, Finset.sum_singleton, ite_and]
  refine Finset.sum_congr rfl fun p _ => ?_
  rw [Finset.sum_eq_single n (fun c _ hc => by simp [hc]) (by simp), Finset.sum_eq_single g (fun c _ hc => by simp [hc]) (by simp)]
  simp

/-- Axes 0, 1 and 4 of size one. -/
theorem hostReduceAdd_unit014 {N G : ℕ} (h : Shape.ReducesTo ⟨5, ![1, 1, N, G, 1]⟩ [0, 1, 4] ⟨2, ![N, G]⟩)
    (x : (⟨5, ![1, 1, N, G, 1]⟩ : Shape).Idx → EReal) (init : EReal) (n : Fin N) (g : Fin G) :
    Ideal.hostReduceAdd h x init (ix2 n g) = init + x (ix5 0 0 n g 0) := by
  refine hostReduceAdd_unique h x init _ _ ?_ fun i hi => ?_
  · funext b
    match b with
    | ⟨0, _⟩ => exact Fin.ext rfl
    | ⟨1, _⟩ => exact Fin.ext rfl
  · have h0 : (i 2).val = n.val := congrArg Fin.val (congrFun hi (0 : Fin 2))
    have h1 : (i 3).val = g.val := congrArg Fin.val (congrFun hi (1 : Fin 2))
    funext b
    match b with
    | ⟨0, _⟩ => exact Subsingleton.elim (α := Fin 1) _ _
    | ⟨1, _⟩ => exact Subsingleton.elim (α := Fin 1) _ _
    | ⟨2, _⟩ => exact Fin.ext h0
    | ⟨3, _⟩ => exact Fin.ext h1
    | ⟨4, _⟩ => exact Subsingleton.elim (α := Fin 1) _ _

end Cert.Math
end
-- ==== Proof.GRef.lean ====
/-
  The reference's five results of the mixing unit's gradient, read index by index.
-/
module

public import proofs.«01_k».proof.Proof.Gen.GmlpBwdRefIdeal.Read
public import proofs.«01_k».proof.Proof.GmlpGrad
public import proofs.«01_k».proof.Proof.HostSum5
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GmlpBwdRefIdeal.Forms
open Cert.GmlpBwdRefIdeal Cert.GmlpBwdRefIdeal.Read Gmlp

/-- The arguments of the mixing unit's gradient are these arrays. -/
structure Holds (A : Bwd) (x0 : (⟨S1x8192x6144, .f32⟩ : BufTy).Contents (Elt Ideal)) (x1 x2 : (⟨S1x2048, .f32⟩ : BufTy).Contents (Elt Ideal))
    (x3 : (⟨S1x8x128x128, .f32⟩ : BufTy).Contents (Elt Ideal)) (x4 : (⟨S1x8x128, .f32⟩ : BufTy).Contents (Elt Ideal))
    (x5 : (⟨S1x2048x1024, .f32⟩ : BufTy).Contents (Elt Ideal)) (x6 : (⟨S1x8192x1024, .f32⟩ : BufTy).Contents (Elt Ideal)) : Prop where
  e_c : A.c = rt
  e_pu : ∀ s k, A.pu s k = x0 (ix3 0 s ⟨k.val, by omega⟩)
  e_pv : ∀ s k, A.pv s k = x0 (ix3 0 s ⟨2048 + k.val, by omega⟩)
  e_pz : ∀ s k, A.pz s k = x0 (ix3 0 s ⟨4096 + k.val, by omega⟩)
  e_g : ∀ k, A.g k = x1 (ix2 0 k)
  e_b : ∀ k, A.b k = x2 (ix2 0 k)
  e_w : ∀ i n j, A.w i n j = x3 (ix4 0 i n j)
  e_bs : ∀ i n, A.bs i n = x4 (ix3 0 i n)
  e_wo : ∀ k d, A.wo k d = x5 (ix3 0 k d)
  e_ct : ∀ s d, A.ct s d = x6 (ix3 0 s d)

variable {A : Bwd} {x0 : (⟨S1x8192x6144, .f32⟩ : BufTy).Contents (Elt Ideal)} {x1 x2 : (⟨S1x2048, .f32⟩ : BufTy).Contents (Elt Ideal)}
  {x3 : (⟨S1x8x128x128, .f32⟩ : BufTy).Contents (Elt Ideal)} {x4 : (⟨S1x8x128, .f32⟩ : BufTy).Contents (Elt Ideal)}
  {x5 : (⟨S1x2048x1024, .f32⟩ : BufTy).Contents (Elt Ideal)} {x6 : (⟨S1x8192x1024, .f32⟩ : BufTy).Contents (Elt Ideal)}

theorem v12 (s : Fin 8192) (k : Fin 4096) : val_main_v12 (F := Ideal) x0 (ix3 0 s k) = -x0 (ix3 0 s ⟨k.val, by omega⟩) * rt := by
  rw [← div_rt]
  pointwise [val_main_v12, val_main_v11, val_main_v10, val_main_v9, val_main_cst_0, val_main_v8, val_main_v4]
  rfl

theorem v7 (s : Fin 8192) (k : Fin 4096) : val_main_v7 (F := Ideal) x0 (ix3 0 s k)
    = Ideal.ofBits .f32 1056964608#32 * x0 (ix3 0 s ⟨k.val, by omega⟩) := by
  pointwise [val_main_v7, val_main_v6, val_main_cst, val_main_v4]

theorem v17 (s : Fin 8192) (k : Fin 4096) : val_main_v17 (F := Ideal) x0 (ix3 0 s k) = gelu rt (x0 (ix3 0 s ⟨k.val, by omega⟩)) := by
  rw [← gelu_erfc, ← v12, ← v7]
  pointwise [val_main_v17, val_main_v13]

variable (H : Holds A x0 x1 x2 x3 x4 x5 x6)
include H

theorem v18 (s : Fin 8192) (k : Fin 2048) : val_main_v18 (F := Ideal) x0 (ix3 0 s k) = A.u s k := by
  unfold Bwd.u
  pointwise [val_main_v18]
  rw [v17, H.e_c, H.e_pu]

theorem v19 (s : Fin 8192) (k : Fin 2048) : val_main_v19 (F := Ideal) x0 (ix3 0 s k) = A.v s k := by
  unfold Unit.v
  pointwise [val_main_v19]
  rw [v17, H.e_c, H.e_pv]

theorem v23 (s : Fin 8192) : val_main_v23 (F := Ideal) x0 (ix3 0 s 0) = A.mu s := by
  unfold Unit.mu
  pointwise [val_main_v23, val_main_v22, val_main_cst_2, val_main_v21, val_main_v20, val_main_cst_1]
  simp only [v19 H]

theorem v25 (s : Fin 8192) (k : Fin 2048) : val_main_v25 (F := Ideal) x0 (ix3 0 s k) = A.cen s k := by
  unfold Unit.cen
  pointwise [val_main_v25, val_main_v24]
  rw [v19 H, v23 H]

theorem v34 (s : Fin 8192) (k : Fin 2048) : val_main_v34 (F := Ideal) x0 (ix3 0 s k) = A.cen s k := by
  unfold Unit.cen
  pointwise [val_main_v34, val_main_v33]
  rw [v19 H, v23 H]

theorem v28 (s : Fin 8192) (k : Fin 2048) : val_main_v28 (F := Ideal) x0 (ix3 0 s k) = Ideal.ofBits .f32 1073741824#32 * A.cen s k := by
  pointwise [val_main_v28, val_main_v27, val_main_cst_3]
  rw [v25 H]

theorem v36 (s : Fin 8192) : val_main_v36 (F := Ideal) x0 (ix3 0 s 0) = A.var s := by
  unfold Unit.var
  pointwise [val_main_v36, val_main_v35, val_main_cst_6, val_main_v32, val_main_v31, val_main_cst_5, val_main_v30, val_main_v29, val_main_cst_4, val_main_v26]
  simp only [v25 H]

theorem v37 (s : Fin 8192) : val_main_v37 (F := Ideal) x0 (ix3 0 s 0) = Ideal.rsqrt (A.var s) := by
  pointwise [val_main_v37]
  rw [v36 H]

theorem v40 (s : Fin 8192) : val_main_v40 (F := Ideal) x0 (ix3 0 s 0)
    = Ideal.ofBits .f32 3204448256#32 * Ideal.div (Ideal.rsqrt (A.var s)) (A.var s) := by
  pointwise [val_main_v40, val_main_v39, val_main_cst_7, val_main_v38]
  rw [v36 H, v37 H]

theorem v42 (s : Fin 8192) (k : Fin 2048) : val_main_v42 (F := Ideal) x0 (ix3 0 s k) = A.vhat s k := by
  unfold Bwd.vhat
  pointwise [val_main_v42, val_main_v41]
  rw [v34 H, v37 H]

theorem v48 (s : Fin 8192) (k : Fin 2048) : val_main_v48 (F := Ideal) x0 x1 x2 (ix3 0 s k) = A.vn s k := by
  refine Eq.trans ?_ (congrArg₂ (· + ·) (congrArg₂ (· * ·) (v42 H s k) (H.e_g k).symm) (H.e_b k).symm)
  pointwise [val_main_v48, val_main_v47, val_main_v46, val_main_v1, val_main_v45, val_main_v44, val_main_v43, val_main_v0]

theorem v49 (p : Fin 64) (j : Fin 128) (i : Fin 8) (k : Fin 256) : val_main_v49 (F := Ideal) x0 x1 x2 (ix5 0 p j i k)
    = A.vn ⟨p.val * 128 + j.val, by omega⟩ ⟨i.val * 256 + k.val, by omega⟩ := by
  pointwise [val_main_v49]
  exact v48 H _ _

theorem v54 (i : Fin 8) (n j : Fin 128) : val_main_v54_0 (F := Ideal) x3 (ix3 i n j) = A.tri i n j := by
  unfold Unit.tri
  rw [H.e_w]
  pointwise [val_main_v54_0, val_main_v53, val_main_cst_8, val_main_v2, val_main_v54_1, val_main_v52, val_main_v51, val_main_v50, val_main_c,
    val_main_call0_v5, val_main_call0_c_0, val_main_call0_v4, val_main_call0_v3, val_main_call0_v2, val_main_call0_v1, val_main_call0_c, val_main_call0_v0]
  rw [show IntOp.addi (BitVec.ofNat 32 n.val) 0#32 = BitVec.ofNat 32 n.val from BitVec.add_zero _, WordCmp.cmpi_sge_ofNat (by omega) (by omega)]
  by_cases h : j.val ≤ n.val
  · simp [h, Scalar.select]
  · simp [h, Scalar.select]

theorem v60 (p : Fin 64) (n : Fin 128) (i : Fin 8) (k : Fin 256) : val_main_v60 (F := Ideal) x0 x1 x2 x3 x4 (ix5 0 p n i k)
    = A.mix ⟨p.val * 128 + n.val, by omega⟩ ⟨i.val * 256 + k.val, by omega⟩ := by
  have e1 : Unit.grp ⟨i.val * 256 + k.val, by omega⟩ = i := Fin.ext (by simp only [Unit.grp]; omega)
  have e2 : Unit.pos ⟨p.val * 128 + n.val, by omega⟩ = n := Fin.ext (by simp only [Unit.pos]; omega)
  have e3 : ∀ j, Unit.mate ⟨p.val * 128 + n.val, by omega⟩ j = ⟨p.val * 128 + j.val, by omega⟩ := fun j => Fin.ext (by simp only [Unit.mate]; omega)
  unfold Unit.mix
  rw [e1, e2, H.e_bs]
  pointwise [val_main_v60, val_main_v59, val_main_v58, val_main_v57, val_main_v3, val_main_v56, val_main_v55]
  simp only [v49 H, v54 H, e3, mul_comm]

theorem v61 (s : Fin 8192) (k : Fin 2048) : val_main_v61 (F := Ideal) x0 x1 x2 x3 x4 (ix3 0 s k) = A.mix s k := by
  pointwise [val_main_v61]
  exact (v60 H _ _ _ _).trans (congrArg₂ A.mix (Fin.ext (by simp only; omega)) (Fin.ext (by simp only; omega)))

theorem v62 (s : Fin 8192) (k : Fin 2048) : val_main_v62 (F := Ideal) x0 x1 x2 x3 x4 (ix3 0 s k) = A.u s k * A.mix s k := by
  pointwise [val_main_v62]
  rw [v18 H, v61 H]

theorem v63_2 (s : Fin 8192) (k : Fin 2048) : val_main_v63_2 (F := Ideal) x0 (ix3 0 s k) = ConvGrad.sg (A.pz s k) := by
  rw [← ConvGrad.div_eq, H.e_pz]
  pointwise [val_main_v63_2, val_main_call2_v4, val_main_call2_cst_0, val_main_call2_v3, val_main_call2_v2, val_main_call2_cst, val_main_call2_v1,
    val_main_call2_v0, val_main_v5]

theorem v63_1 (s : Fin 8192) (k : Fin 2048) : val_main_v63_1 (F := Ideal) x0 (ix3 0 s k) = ConvGrad.sg (A.pz s k) * (1 - ConvGrad.sg (A.pz s k)) := by
  pointwise [val_main_v63_1, val_main_call2_v7, val_main_call2_v6, val_main_call2_cst_1]
  rw [v63_2 H]

theorem v63_0 (s : Fin 8192) (k : Fin 2048) : val_main_v63_0 (F := Ideal) x0 (ix3 0 s k) = A.pz s k * ConvGrad.sg (A.pz s k) := by
  rw [H.e_pz]
  pointwise [val_main_v63_0, val_main_v5]
  rw [v63_2 H, H.e_pz]

theorem v67 (s : Fin 8192) (k : Fin 2048) : val_main_v67 (F := Ideal) x5 x6 (ix3 0 s k) = A.dy s k := by
  unfold Bwd.dy
  simp only [H.e_ct, H.e_wo]
  pointwise [val_main_v67, val_main_v65]

theorem v68 (s : Fin 8192) (k : Fin 2048) : val_main_v68 (F := Ideal) x0 x5 x6 (ix3 0 s k) = A.ds s k := by
  unfold Bwd.ds
  pointwise [val_main_v68]
  rw [v67 H, v63_0 H, mul_comm]

theorem v70 (R : A.Reals) (s : Fin 8192) (k : Fin 2048) : val_main_v70 (F := Ideal) x0 x1 x2 x3 x4 x5 x6 (ix3 0 s k) = A.dz s k := by
  unfold Bwd.dz
  rw [ConvGrad.silu_grad ((R.dy s k).mul ((R.u s k).mul (R.mix s k))) (R.pz s k)]
  pointwise [val_main_v70, val_main_call3_v2, val_main_call3_v1, val_main_call3_v0, val_main_v69, val_main_v5]
  rw [v63_1 H, v63_2 H, v67 H, v62 H, H.e_pz, mul_comm (x0 _)]

theorem v71 (s : Fin 8192) (k : Fin 2048) : val_main_v71 (F := Ideal) x0 x5 x6 (ix3 0 s k) = A.dm s k := by
  unfold Bwd.dm
  pointwise [val_main_v71]
  rw [v68 H, v18 H, mul_comm]

theorem v73 (p : Fin 64) (j : Fin 128) (i : Fin 8) (k : Fin 256) : val_main_v73 (F := Ideal) x0 x5 x6 (ix5 0 p j i k)
    = A.dm ⟨p.val * 128 + j.val, by omega⟩ ⟨i.val * 256 + k.val, by omega⟩ := by
  pointwise [val_main_v73]
  exact v71 H _ _

theorem v81 (p : Fin 64) (n : Fin 128) (i : Fin 8) (k : Fin 256) : val_main_v81 (F := Ideal) x0 x3 x5 x6 (ix5 0 p n i k)
    = A.dvn ⟨p.val * 128 + n.val, by omega⟩ ⟨i.val * 256 + k.val, by omega⟩ := by
  have e1 : Unit.grp ⟨i.val * 256 + k.val, by omega⟩ = i := Fin.ext (by simp only [Unit.grp]; omega)
  have e2 : Unit.pos ⟨p.val * 128 + n.val, by omega⟩ = n := Fin.ext (by simp only [Unit.pos]; omega)
  have e3 : ∀ j, Unit.mate ⟨p.val * 128 + n.val, by omega⟩ j = ⟨p.val * 128 + j.val, by omega⟩ := fun j => Fin.ext (by simp only [Unit.mate]; omega)
  unfold Bwd.dvn
  rw [e1, e2]
  pointwise [val_main_v81, val_main_v80, val_main_v78]
  simp only [v73 H, v54 H, e3, mul_comm]

theorem v83 (s : Fin 8192) (k : Fin 2048) : val_main_v83 (F := Ideal) x0 x3 x5 x6 (ix3 0 s k) = A.dvn s k := by
  pointwise [val_main_v83]
  exact (v81 H _ _ _ _).trans (congrArg₂ A.dvn (Fin.ext (by simp only; omega)) (Fin.ext (by simp only; omega)))

theorem v91 (s : Fin 8192) (k : Fin 2048) : val_main_v91 (F := Ideal) x0 x1 x3 x5 x6 (ix3 0 s k) = A.dvh s k := by
  unfold Bwd.dvh
  pointwise [val_main_v91, val_main_v90, val_main_v43, val_main_v0]
  rw [v83 H, H.e_g]

theorem v97 (s : Fin 8192) (k : Fin 2048) : val_main_v97 (F := Ideal) x0 x1 x3 x5 x6 (ix3 0 s k) = A.dvh s k * Ideal.rsqrt (A.var s) := by
  pointwise [val_main_v97, val_main_v96]
  rw [v91 H, v37 H]

/-- The row's factor in the gradient of the layer norm. -/
abbrev fac (A : Bwd) (s : Fin 8192) : EReal :=
  Ideal.div ((∑ j, A.cen s j * A.dvh s j) * (Ideal.ofBits .f32 3204448256#32 * Ideal.div (Ideal.rsqrt (A.var s)) (A.var s)))
    (Ideal.ofBits .f32 1157627904#32)

theorem v103 (s : Fin 8192) : val_main_v103 (F := Ideal) x0 x1 x3 x5 x6 (ix3 0 s 0) = fac A s := by
  unfold fac
  pointwise [val_main_v103, val_main_v102, val_main_cst_17, val_main_v98, val_main_v95, val_main_v94, val_main_cst_15, val_main_v93]
  simp only [v40 H, v91 H, v34 H]

theorem v104 (s : Fin 8192) : val_main_v104 (F := Ideal) x0 x1 x3 x5 x6 (ix1 s) = fac A s := by
  unfold val_main_v104
  simp only [Host.reduceAdd, Ideal.hostReduceAdd_def]
  rw [Cert.Math.hostReduceAdd_unit02 _ _ _ s, v103 H]
  pointwise [val_main_cst_18]

theorem v107 (s : Fin 8192) (k : Fin 2048) : val_main_v107 (F := Ideal) x0 x1 x3 x5 x6 (ix3 0 s k)
    = fac A s * (Ideal.ofBits .f32 1073741824#32 * A.cen s k) := by
  pointwise [val_main_v107, val_main_v106, val_main_v105]
  rw [v104 H, v28 H]

theorem v114 (s : Fin 8192) : val_main_v114 (F := Ideal) x0 x1 x3 x5 x6 (ix3 0 s 0)
    = Ideal.div ((∑ j, -(A.dvh s j * Ideal.rsqrt (A.var s))) + ∑ j, -(fac A s * (Ideal.ofBits .f32 1073741824#32 * A.cen s j)))
        (Ideal.ofBits .f32 1157627904#32) := by
  pointwise [val_main_v114, val_main_v113, val_main_cst_20, val_main_v112, val_main_v110, val_main_v109, val_main_cst_19, val_main_v108, val_main_v101,
    val_main_v100, val_main_cst_16, val_main_v99]
  simp only [v97 H, v107 H]

theorem v118 (R : A.Reals) (s : Fin 8192) (k : Fin 2048) : val_main_v118 (F := Ideal) x0 x1 x3 x5 x6 (ix3 0 s k) = A.dr s k := by
  have h115 : val_main_v115 (F := Ideal) x0 x1 x3 x5 x6 (ix1 s) = val_main_v114 (F := Ideal) x0 x1 x3 x5 x6 (ix3 0 s 0) := by
    unfold val_main_v115
    simp only [Host.reduceAdd, Ideal.hostReduceAdd_def]
    rw [Cert.Math.hostReduceAdd_unit02 _ _ _ s]
    pointwise [val_main_cst_21]
  rw [← Bwd.dr_eq s (R.v s) (R.dvh s) (fac A s) rfl k]
  pointwise [val_main_v118, val_main_v117, val_main_v116, val_main_v111]
  rw [h115, v97 H, v107 H, v114 H]

/-- The cotangent of the activation's two parts. -/
theorem v119_u (s : Fin 8192) (k : Fin 2048) : val_main_v119 (F := Ideal) x0 x1 x2 x3 x4 x5 x6 (ix3 0 s ⟨k.val, by omega⟩) = A.ds s k * A.mix s k := by
  pointwise [val_main_v119, val_main_v72]
  rw [v68 H, v61 H]

theorem v119_v (R : A.Reals) (s : Fin 8192) (k : Fin 2048) : val_main_v119 (F := Ideal) x0 x1 x2 x3 x4 x5 x6 (ix3 0 s ⟨2048 + k.val, by omega⟩) = A.dr s k := by
  pointwise [val_main_v119]
  exact v118 H R s k

omit H in
theorem v130 (s : Fin 8192) (k : Fin 4096) (a : EReal) (ha : val_main_v119 (F := Ideal) x0 x1 x2 x3 x4 x5 x6 (ix3 0 s k) = a)
    (hx : ConvGrad.IsReal (x0 (ix3 0 s ⟨k.val, by omega⟩))) (hr : ConvGrad.IsReal a) :
    val_main_v130 (F := Ideal) x0 x1 x2 x3 x4 x5 x6 (ix3 0 s k) = a * slope (x0 (ix3 0 s ⟨k.val, by omega⟩)) := by
  rw [← slope_eq hx hr, ← v12, ← v7, ← div_rt]
  pointwise [val_main_v130, val_main_v129, val_main_v128, val_main_cst_23, val_main_v127, val_main_v126, val_main_v125, val_main_v124, val_main_v123,
    val_main_v122, val_main_cst_22, val_main_v121, val_main_v120, val_main_v16, val_main_v15, val_main_v14, val_main_v13, val_main_v10, val_main_v9, val_main_cst_0]
  rw [ha]
  rfl

theorem v133_u (R : A.Reals) (s : Fin 8192) (k : Fin 2048) : val_main_v133 (F := Ideal) x0 x1 x2 x3 x4 x5 x6 (ix3 0 s ⟨k.val, by omega⟩) = A.du s k := by
  unfold Bwd.du
  pointwise [val_main_v133, val_main_v132, val_main_v131, val_main_cst_25, val_main_cst_24]
  rw [dif_neg (by omega), dif_pos (by omega), zero_add, H.e_pu]
  exact v130 s ⟨k.val, by omega⟩ _ (v119_u H s k) (H.e_pu s k ▸ R.pu s k) ((R.ds s k).mul (R.mix s k))

theorem v133_v (R : A.Reals) (s : Fin 8192) (k : Fin 2048) : val_main_v133 (F := Ideal) x0 x1 x2 x3 x4 x5 x6 (ix3 0 s ⟨2048 + k.val, by omega⟩) = A.dv s k := by
  unfold Bwd.dv
  pointwise [val_main_v133, val_main_v132, val_main_v131, val_main_cst_25, val_main_cst_24]
  rw [dif_neg (by omega), dif_pos (by omega), zero_add, H.e_pv]
  exact v130 s ⟨2048 + k.val, by omega⟩ _ (v119_v H R s k) (H.e_pv s k ▸ R.pv s k) (R.dr s k)

theorem v133_z (R : A.Reals) (s : Fin 8192) (k : Fin 2048) : val_main_v133 (F := Ideal) x0 x1 x2 x3 x4 x5 x6 (ix3 0 s ⟨4096 + k.val, by omega⟩) = A.dz s k := by
  pointwise [val_main_v133, val_main_v132, val_main_v131, val_main_cst_25, val_main_cst_24]
  exact v70 H R s k

/-! ## The results -/

/-- The weight's gradient contracts the chunks and the channels of a group. -/
def pairs : Fin 64 × Fin 256 ≃ dot_S8x1x64x256x128_S1x64x128x8x256_S8x128x128_123_014_4_2_0_3.contr.Idx where
  toFun x := fun
    | ⟨0, _⟩ => (0 : Fin 1)
    | ⟨1, _⟩ => x.1
    | ⟨2, _⟩ => x.2
  invFun kk := (kk ⟨1, by decide⟩, kk ⟨2, by decide⟩)
  left_inv _ := rfl
  right_inv kk := by
    funext p
    match p with
    | ⟨0, _⟩ => exact Subsingleton.elim (α := Fin 1) _ _
    | ⟨1, _⟩ => rfl
    | ⟨2, _⟩ => rfl

omit H in
theorem matmul_pairs (a : S8x1x64x256x128.Idx → EReal) (b : S1x64x128x8x256.Idx → EReal) (i : Fin 8) (n j : Fin 128) :
    Ideal.matmul dot_S8x1x64x256x128_S1x64x128x8x256_S8x128x128_123_014_4_2_0_3 a b (fun _ => 0) (ix3 i n j)
      = ∑ p : Fin 64, ∑ k : Fin 256, a (ix5 i 0 p k n) * b (ix5 0 p j i k) := by
  unfold Ideal.matmul
  rw [zero_add, ← Fintype.sum_equiv pairs (fun x => a (ix5 i 0 x.1 x.2 n) * b (ix5 0 x.1 j i x.2)) _ fun x => ?_, Fintype.sum_prod_type]
  refine congrArg₂ (fun s t => a s * b t) ?_ ?_
  · funext q
    match q with
    | ⟨0, _⟩ => rfl
    | ⟨1, _⟩ => rfl
    | ⟨2, _⟩ => rfl
    | ⟨3, _⟩ => rfl
    | ⟨4, _⟩ => rfl
  · funext q
    match q with
    | ⟨0, _⟩ => rfl
    | ⟨1, _⟩ => rfl
    | ⟨2, _⟩ => rfl
    | ⟨3, _⟩ => rfl
    | ⟨4, _⟩ => rfl

theorem dp_ref (R : A.Reals) : val_main_v146 (F := Ideal) x0 x1 x2 x3 x4 x5 x6 = fun i : S3x8192x2048.Idx => A.part (i 0) (i 1) (i 2) := by
  funext i
  idx_vars i
  unfold Bwd.part
  fin_cases i0
  · pointwise [val_main_v146, val_main_v145, val_main_v142, val_main_v139, val_main_v138]
    exact v133_u H R i1 i2
  · pointwise [val_main_v146, val_main_v145, val_main_v143, val_main_v140, val_main_v138]
    exact v133_v H R i1 i2
  · pointwise [val_main_v146, val_main_v145, val_main_v144, val_main_v141, val_main_v138]
    exact v133_z H R i1 i2

theorem dws_ref : val_main_v147 (F := Ideal) x0 x1 x2 x5 x6 = fun i : S8x128x128.Idx => A.dws (i 0) (i 1) (i 2) := by
  funext i
  idx_vars i
  unfold Bwd.dws Bwd.dwsAt
  pointwise [val_main_v147, val_main_v135, val_main_v82, val_main_call4_v0, val_main_call4_cst, val_main_v79, val_main_v78, val_main_v54_1, val_main_v52,
    val_main_v51, val_main_v50, val_main_c, val_main_call0_v5, val_main_call0_c_0, val_main_call0_v4, val_main_call0_v3, val_main_call0_v2,
    val_main_call0_v1, val_main_call0_c, val_main_call0_v0]
  rw [matmul_pairs]
  pointwise
  simp only [v73 H, v49 H]
  rw [show IntOp.addi (BitVec.ofNat 32 i1.val) 0#32 = BitVec.ofNat 32 i1.val from BitVec.add_zero _, WordCmp.cmpi_sge_ofNat (by omega) (by omega)]
  by_cases h : i2.val ≤ i1.val
  · simp [h, Scalar.select]
  · simp [h, Scalar.select]

theorem dbs_ref : val_main_v149 (F := Ideal) x0 x5 x6 = fun i : S128x8.Idx => A.dbs (i 0) (i 1) := by
  have h74 : ∀ n i, val_main_v74 (F := Ideal) x0 x5 x6 (ix3 0 n i) = A.dbs n i := by
    intro n i
    unfold val_main_v74 Bwd.dbs
    simp only [Host.reduceAdd, Ideal.hostReduceAdd_def]
    rw [Cert.Math.hostReduceAdd_chunks _ _ _ n i, Finset.sum_comm]
    simp only [v73 H]
    pointwise [val_main_cst_9]
  have h76 : ∀ n i, val_main_v76 (F := Ideal) x0 x5 x6 (ix2 n i) = A.dbs n i := by
    intro n i
    unfold val_main_v76
    simp only [Host.reduceAdd, Ideal.hostReduceAdd_def]
    rw [Cert.Math.hostReduceAdd_unit014 _ _ _ n i, ← h74]
    pointwise [val_main_cst_10, val_main_v75]
  funext i
  idx_vars i
  pointwise [val_main_v149, val_main_v148, val_main_v134, val_main_v77]
  exact h76 _ _

theorem dlg_ref : val_main_v137 (F := Ideal) x0 x3 x5 x6 = fun i : S1x2048.Idx => A.dlg (i 1) := by
  have h92 : ∀ k, val_main_v92 (F := Ideal) x0 x3 x5 x6 (ix1 k) = A.dlg k := by
    intro k
    unfold val_main_v92 Bwd.dlg
    simp only [Host.reduceAdd, Ideal.hostReduceAdd_def]
    rw [Cert.Math.hostReduceAdd_unit01 _ _ _ k]
    pointwise [val_main_cst_14, val_main_v89, val_main_v88, val_main_cst_13, val_main_v87]
    exact Finset.sum_congr rfl fun s _ => by rw [v42 H, v83 H, mul_comm]
  funext i
  idx_vars i
  pointwise [val_main_v137]
  exact h92 _

theorem dlb_ref : val_main_v136 (F := Ideal) x0 x3 x5 x6 = fun i : S1x2048.Idx => A.dlb (i 1) := by
  have h86 : ∀ k, val_main_v86 (F := Ideal) x0 x3 x5 x6 (ix1 k) = A.dlb k := by
    intro k
    unfold val_main_v86 Bwd.dlb
    simp only [Host.reduceAdd, Ideal.hostReduceAdd_def]
    rw [Cert.Math.hostReduceAdd_unit01 _ _ _ k]
    pointwise [val_main_cst_12, val_main_v85, val_main_v84, val_main_cst_11]
    exact Finset.sum_congr rfl fun s _ => by rw [v83 H]
  funext i
  idx_vars i
  pointwise [val_main_v136]
  exact h86 _

end Cert.GmlpBwdRefIdeal.Forms
end
-- ==== Proof.GValue.lean ====
/-
  The kernel and the reference compute the same gradients of the gated mixing unit, at arguments that are finite.
-/
module

public import proofs.«01_k».proof.Defs
public import proofs.«01_k».proof.Proof.GArr
public import proofs.«01_k».proof.Proof.GRef
public import proofs.«01_k».proof.Proof.Finite
public import proofs.«01_k».proof.Proof.Gen.GmlpBwdRefIdeal.Run

@[expose] public section

set_option maxRecDepth 16384

noncomputable section

open Idealize.ShloMosaic Idealize.ShloMosaic.TcCoe Idealize.SL.Sem

namespace Cert.GmlpBwdIdeal.Fold
open Cert.GmlpBwdIdeal Cert.GmlpBwdIdeal.Gen

/-- The kernel's argument arrays, as the reference reads them. -/
theorem holds_ref (m : (ℓ : Loc nD τ sig) → Buf (Elt Ideal) ℓ) (c : Dev nD) :
    GmlpBwdRefIdeal.Forms.Holds (args m c) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) where
  e_c := rfl
  e_pu _ _ := rfl
  e_pv _ _ := rfl
  e_pz _ _ := rfl
  e_g _ := rfl
  e_b _ := rfl
  e_w _ _ _ := rfl
  e_bs _ _ := rfl
  e_wo _ _ := rfl
  e_ct _ _ := rfl

/-- The precondition makes every entry of the seven arguments real. -/
theorem reals (m : (ℓ : Loc nD τ sig) → Buf (Elt Ideal) ℓ) (h : Cert.Pre_GmlpBwdIdeal_gmlp_finite m) (c : Dev nD) : (args m c).Reals := by
  obtain ⟨h0, h1, h2, h3, h4, h5, h6⟩ := h c
  exact ⟨⟨_, rfl⟩, fun _ _ => Math.real_of_abs_lt _ (congrFun h0 _), fun _ _ => Math.real_of_abs_lt _ (congrFun h0 _),
    fun _ _ => Math.real_of_abs_lt _ (congrFun h0 _), fun _ => Math.real_of_abs_lt _ (congrFun h1 _),
    fun _ => Math.real_of_abs_lt _ (congrFun h2 _), fun _ _ _ => Math.real_of_abs_lt _ (congrFun h3 _),
    fun _ _ => Math.real_of_abs_lt _ (congrFun h4 _), fun _ _ => Math.real_of_abs_lt _ (congrFun h5 _),
    fun _ _ => Math.real_of_abs_lt _ (congrFun h6 _)⟩

/-- At every memory with finite arguments the kernel's run and the reference's run, on the same arguments, end with the
    same five arrays: the gradients of the projection's three parts, of the mixing weight and bias, and of the layer
    norm's gain and bias. -/
theorem algebraic : Cert.algebraic_GmlpBwdIdeal_GmlpBwdRefIdeal_pre_gmlp_finite := fun m ρ m' ρ' hpre hag =>
  ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, Value.run_blocks m ρ,
    (θ_run _ _ _).mono (fun r h c => by
      obtain ⟨e0, e1, e2, e3, e4, e5, e6⟩ := hag c
      obtain ⟨k0, k1, k2, k3, k4, kk⟩ := h c
      have R := reals m hpre c
      refine ⟨k0.trans ?_, k1.trans ?_, k2.trans ?_, k3.trans ?_, k4.trans ?_, kk⟩
      all_goals
        clear h hag k0 k1 k2 k3 k4 kk
        have H := holds_ref m c
        rw [← e0, ← e1, ← e2, ← e3, ← e4, ← e5, ← e6] at H
      · rw [GmlpBwdRefIdeal.Read.val_main_v146_eq]
        exact (GmlpBwdRefIdeal.Forms.dp_ref H R).trans (dp_arr m c).symm
      · rw [GmlpBwdRefIdeal.Read.val_main_v147_eq]
        exact (GmlpBwdRefIdeal.Forms.dws_ref H).trans (dws_arr m c).symm
      · rw [GmlpBwdRefIdeal.Read.val_main_v149_eq]
        exact (GmlpBwdRefIdeal.Forms.dbs_ref H).trans (dbs_arr m c).symm
      · rw [GmlpBwdRefIdeal.Read.val_main_v137_eq]
        exact (GmlpBwdRefIdeal.Forms.dlg_ref H).trans (dlg_arr m c).symm
      · rw [GmlpBwdRefIdeal.Read.val_main_v136_eq]
        exact (GmlpBwdRefIdeal.Forms.dlb_ref H).trans (dlb_arr m c).symm) (GmlpBwdRefIdeal.Value.run m' ρ')⟩

end Cert.GmlpBwdIdeal.Fold
end
-- ==== Proof.HTile.lean ====
/-
  One row block of the mixing unit with the head: what the kernel's stores hold, from what its loads hold.
-/
module

public import proofs.«01_k».proof.Proof.Gen.GmlpHeadIdeal.Skeleton
public import proofs.«01_k».proof.Proof.GmlpMath
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GmlpHeadIdeal.Tile
open Cert.GmlpHeadIdeal Cert.GmlpHeadIdeal.Gen Gmlp

/-- Row `r` of row block `q`. -/
abbrev row (q : Fin 16) (r : Fin 512) : Fin 8192 := ⟨q.val * 512 + r.val, by omega⟩

variable {q : Fin 16} {A : Head} {xu xv xz : Vec Ideal S1x512x2048 .f32} {xg xb : Vec Ideal S1x2048 .f32}
  {M : Vec Ideal S512x2048 .f32} {xwo : Vec Ideal S2048x1024 .bf16} {xx1 xtg : Vec Ideal S512x1024 .f32}
  {xgate xgf : Vec Ideal S1x1024 .f32}

theorem erf_def (x : EReal) : FloatOps.erf (F := Ideal) (φ := .f32) x = Ideal.erf x := rfl

/-- The stored normalised rows. -/
theorem pVn (hc : A.c = Ideal.ofBits .f32 1060439283#32) (hv : ∀ r k, xv (ix3 0 r k) = A.pv (row q r) k)
    (hg : ∀ k, xg (ix2 0 k) = A.g k) (hb : ∀ k, xb (ix2 0 k) = A.b k) (r : Fin 512) (k : Fin 2048) :
    k0_pay6 (F := Ideal) xv xg xb (ix2 r k) = A.vn (row q r) k := by
  unfold Unit.vn Unit.var Unit.cen Unit.mu Unit.v gelu
  rw [hc]
  simp only [← hv, ← hg, ← hb]
  pointwise [k0_pay6]
  simp only [erf_def]

/-- The mixing of one chunk and one group. -/
theorem pMix {i : Fin 8} (p : ℕ) (hp : p < 64) {W : Vec Ideal S1x128x128 .f32} {V : Vec Ideal S128x256 .bf16} {B : Vec Ideal S128x1 .f32}
    (hW : ∀ n j, W (ix3 0 n j) = A.w i n j)
    (hV : ∀ (j : Fin 128) (k : Fin 256), V (ix2 j k) = A.vn ⟨p * 128 + j.val, by omega⟩ ⟨i.val * 256 + k.val, by omega⟩)
    (hB : ∀ n, B (ix2 n 0) = A.bs i n) (n : Fin 128) (k : Fin 256) :
    k0_pay8 (F := Ideal) W V B (ix2 n k) = A.mix ⟨p * 128 + n.val, by omega⟩ ⟨i.val * 256 + k.val, by omega⟩ := by
  have e1 : Unit.grp ⟨i.val * 256 + k.val, by omega⟩ = i := Fin.ext (by simp only [Unit.grp]; omega)
  have e2 : Unit.pos ⟨p * 128 + n.val, by omega⟩ = n := Fin.ext (by simp only [Unit.pos]; omega)
  have e3 : ∀ j, Unit.mate ⟨p * 128 + n.val, by omega⟩ j = ⟨p * 128 + j.val, by omega⟩ := fun j => Fin.ext (by simp only [Unit.mate]; omega)
  unfold Unit.mix Unit.tri
  simp only [e1, e2, e3, ← hV, ← hW, ← hB]
  pointwise [k0_pay8, k0_pay7]
  refine congrArg (· + B (ix2 n 0)) (Finset.sum_congr rfl fun j _ => ?_)
  rw [WordCmp.cmpi_sge_ofNat (by omega) (by omega), show (p * 128 + n.val) % 128 = n.val by omega]
  by_cases h : j.val ≤ n.val
  · simp [h, Scalar.select]
  · simp [h, Scalar.select]

/-- What the loads of a row block hold, and the mixed positions the body wrote before. -/
structure Holds (q : Fin 16) (A : Head) (xu xz : Vec Ideal S1x512x2048 .f32) (M : Vec Ideal S512x2048 .f32) (xwo : Vec Ideal S2048x1024 .bf16)
    (xx1 : Vec Ideal S512x1024 .f32) (xgate xgf : Vec Ideal S1x1024 .f32) (xtg : Vec Ideal S512x1024 .f32) : Prop where
  e_c : A.c = Ideal.ofBits .f32 1060439283#32
  e_u : ∀ r k, xu (ix3 0 r k) = A.pu (row q r) k
  e_z : ∀ r k, xz (ix3 0 r k) = A.pz (row q r) k
  e_mix : ∀ r k, M (ix2 r k) = A.mix (row q r) k
  e_wo : ∀ k d, xwo (ix2 k d) = A.wo k d
  e_x1 : ∀ r d, xx1 (ix2 r d) = A.x1 (row q r) d
  e_gate : ∀ d, xgate (ix2 0 d) = A.gate d
  e_gf : ∀ d, xgf (ix2 0 d) = A.gf d
  e_tg : ∀ r d, xtg (ix2 r d) = A.tg (row q r) d

variable (H : Holds q A xu xz M xwo xx1 xgate xgf xtg)
include H

theorem sY (r : Fin 512) (k : Fin 2048) : k0_pay59 (F := Ideal) (k0_pay58 xz) xu M (ix2 r k) = A.y (row q r) k := by
  unfold Unit.y gelu ConvGrad.sg
  rw [← H.e_mix, ← H.e_u, ← H.e_z, H.e_c]
  pointwise [k0_pay59, k0_pay58]
  rw [erf_def]

theorem pBr (r : Fin 512) (d : Fin 1024) : k0_pay60 (F := Ideal) (k0_pay58 xz) xu M xwo (ix2 r d) = A.br (row q r) d := by
  unfold Head.br
  simp only [← sY H, ← H.e_wo]
  pointwise [k0_pay60]

theorem pX (r : Fin 512) (d : Fin 1024) : k0_pay64 (F := Ideal) (k0_pay58 xz) xu M xwo xx1 xgate (ix2 r d) = A.X (row q r) d := by
  unfold Head.X
  rw [← pBr H, ← H.e_x1, ← H.e_gate]
  pointwise [k0_pay64, k0_pay61]

theorem pRs (r : Fin 512) : k0_pay65 (F := Ideal) (k0_pay58 xz) xu M xwo xx1 xgate (ix2 r 0) = NormBwd.rs A.X (row q r) := by
  unfold NormBwd.rs NormBwd.msq
  simp only [← pX H]
  pointwise [k0_pay65]

theorem pRsW (r : Fin 512) (d : Fin 1024) : k0_pay66 (F := Ideal) (k0_pay58 xz) xu M xwo xx1 xgate (ix2 r d) = NormBwd.rs A.X (row q r) := by
  rw [← pRs H]
  pointwise [k0_pay66]

/-- The vectors the head's last part works on. -/
abbrev X' (xz : Vec Ideal S1x512x2048 .f32) (xu : Vec Ideal S1x512x2048 .f32) (M : Vec Ideal S512x2048 .f32) (xwo : Vec Ideal S2048x1024 .bf16)
    (xx1 : Vec Ideal S512x1024 .f32) (xgate : Vec Ideal S1x1024 .f32) := k0_pay64 (F := Ideal) (k0_pay58 xz) xu M xwo xx1 xgate
abbrev R' (xz : Vec Ideal S1x512x2048 .f32) (xu : Vec Ideal S1x512x2048 .f32) (M : Vec Ideal S512x2048 .f32) (xwo : Vec Ideal S2048x1024 .bf16)
    (xx1 : Vec Ideal S512x1024 .f32) (xgate : Vec Ideal S1x1024 .f32) := k0_pay66 (F := Ideal) (k0_pay58 xz) xu M xwo xx1 xgate
abbrev r' (xz : Vec Ideal S1x512x2048 .f32) (xu : Vec Ideal S1x512x2048 .f32) (M : Vec Ideal S512x2048 .f32) (xwo : Vec Ideal S2048x1024 .bf16)
    (xx1 : Vec Ideal S512x1024 .f32) (xgate : Vec Ideal S1x1024 .f32) := k0_pay65 (F := Ideal) (k0_pay58 xz) xu M xwo xx1 xgate

theorem pXn (r : Fin 512) (d : Fin 1024) :
    k0_pay67 (F := Ideal) (X' xz xu M xwo xx1 xgate) (R' xz xu M xwo xx1 xgate) (ix2 r d) = A.xn (row q r) d := by
  unfold Head.xn
  rw [← pX H, ← pRsW H r d]
  pointwise [k0_pay67]

theorem pErr (r : Fin 512) (d : Fin 1024) :
    k0_pay68 (F := Ideal) (k0_pay62 xgf) (k0_pay63 xtg) (X' xz xu M xwo xx1 xgate) (R' xz xu M xwo xx1 xgate) (ix2 r d) = A.err (row q r) d := by
  unfold Head.err
  rw [← pXn H, ← H.e_gf, ← H.e_tg]
  pointwise [k0_pay68, k0_pay62, k0_pay63]

theorem pDout (r : Fin 512) (d : Fin 1024) :
    k0_pay69 (F := Ideal) (k0_pay62 xgf) (k0_pay63 xtg) (X' xz xu M xwo xx1 xgate) (R' xz xu M xwo xx1 xgate) (ix2 r d) = A.dout (row q r) d := by
  unfold Head.dout
  rw [← pErr H]
  pointwise [k0_pay69]

theorem sDx (r : Fin 512) (d : Fin 1024) :
    k0_pay70 (F := Ideal) (k0_pay62 xgf) (k0_pay63 xtg) (X' xz xu M xwo xx1 xgate) (r' xz xu M xwo xx1 xgate) (R' xz xu M xwo xx1 xgate) (ix2 r d)
      = A.dx (row q r) d := by
  unfold Head.dx
  simp only [← pDout H, ← pXn H, ← pRs H, ← H.e_gf]
  pointwise [k0_pay70, k0_pay62]

theorem sDbr (r : Fin 512) (d : Fin 1024) :
    k0_pay73 (F := Ideal) (k0_pay61 xgate) (k0_pay62 xgf) (k0_pay63 xtg) (X' xz xu M xwo xx1 xgate) (r' xz xu M xwo xx1 xgate)
      (R' xz xu M xwo xx1 xgate) (ix2 r d) = A.dbr (row q r) d := by
  unfold Head.dbr
  rw [← sDx H, ← H.e_gate]
  pointwise [k0_pay73, k0_pay61]

/-- The three sums: what a row block adds to each. -/
theorem sLoss (acc : Vec Ideal S8x128 .f32) (a : Fin 8) (b : Fin 128) :
    k0_pay74 (F := Ideal) (k0_pay62 xgf) (k0_pay63 xtg) (X' xz xu M xwo xx1 xgate) (R' xz xu M xwo xx1 xgate) acc (ix2 a b)
      = acc (ix2 a b) + Ideal.ofBits .f32 1056964608#32 * ∑ r : Fin 512, A.lossRow (row q r) := by
  unfold Head.lossRow
  simp only [← pErr H]
  pointwise [k0_pay74]
  simp only [Finset.univ_unique, Finset.sum_const, Finset.card_singleton, one_smul]

theorem sDgf (acc : Vec Ideal S1x1024 .f32) (d : Fin 1024) :
    k0_pay1 (F := Ideal) (k0_pay71 (k0_pay62 xgf) (k0_pay63 xtg) (X' xz xu M xwo xx1 xgate) (R' xz xu M xwo xx1 xgate)) acc (ix2 0 d)
      = acc (ix2 0 d) + ∑ r : Fin 512, A.dout (row q r) d * A.xn (row q r) d := by
  simp only [← pDout H, ← pXn H]
  pointwise [k0_pay1, k0_pay71]

theorem sDgate (acc : Vec Ideal S1x1024 .f32) (d : Fin 1024) :
    k0_pay2 (F := Ideal) (k0_pay72 (k0_pay60 (k0_pay58 xz) xu M xwo) (k0_pay62 xgf) (k0_pay63 xtg) (X' xz xu M xwo xx1 xgate)
      (r' xz xu M xwo xx1 xgate) (R' xz xu M xwo xx1 xgate)) acc (ix2 0 d)
      = acc (ix2 0 d) + ∑ r : Fin 512, A.dx (row q r) d * A.br (row q r) d := by
  simp only [← sDx H, ← pBr H]
  pointwise [k0_pay2, k0_pay72]

end Cert.GmlpHeadIdeal.Tile
end
-- ==== Proof.HFold.lean ====
/-
  The mixing unit's head kernel read: what the blocks of a grid point hold of the arguments, the mixed positions the body
  writes and reads back within the point, and what the point leaves in the six results' buffers.
-/
module

public import proofs.«01_k».proof.Proof.Gen.GmlpHeadIdeal.Value
public import proofs.«01_k».proof.Proof.HTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpHeadIdeal.Fold
open Cert.GmlpHeadIdeal Cert.GmlpHeadIdeal.Gen

variable (m : (ℓ : Loc nD τ sig) → Buf (Elt Ideal) ℓ)

/-- The argument arrays, by row, channel, group and position. -/
def args (c : Dev nD) : Gmlp.Head where
  c := Ideal.ofBits .f32 1060439283#32
  pu s k := m ((c : Thread nD τ).loc main_arg0) (ix3 0 s ⟨k.val, by omega⟩)
  pv s k := m ((c : Thread nD τ).loc main_arg0) (ix3 0 s ⟨2048 + k.val, by omega⟩)
  pz s k := m ((c : Thread nD τ).loc main_arg0) (ix3 0 s ⟨4096 + k.val, by omega⟩)
  g k := m ((c : Thread nD τ).loc main_arg1) (ix2 0 k)
  b k := m ((c : Thread nD τ).loc main_arg2) (ix2 0 k)
  w i n j := m ((c : Thread nD τ).loc main_arg3) (ix4 0 i n j)
  bs i n := m ((c : Thread nD τ).loc main_arg4) (ix3 0 i n)
  wo k d := m ((c : Thread nD τ).loc main_arg5) (ix3 0 k d)
  x1 s d := m ((c : Thread nD τ).loc main_arg6) (ix3 0 s d)
  gate d := m ((c : Thread nD τ).loc main_arg7) (ix2 0 ⟨2048 + d.val, by omega⟩)
  gf d := m ((c : Thread nD τ).loc main_arg8) (ix1 d)
  tg s d := m ((c : Thread nD τ).loc main_arg9) (ix3 0 s d)

/-- The row block of point `t`. -/
abbrev rb (t : Fin cfg0.N) : Fin 16 := ⟨t.val, by have := t.isLt; have : cfg0.N = 16 := N_0; omega⟩

theorem idx : ∀ t : Fin cfg0.N, win0_0.index t = ![0, t.val, 0] ∧ win0_1.index t = ![1, t.val, 0]
    ∧ win0_2.index t = ![2, t.val, 0] ∧ win0_3.index t = ![0, 0] ∧ win0_4.index t = ![0, 0] ∧ win0_5.index t = ![0, 0, 0]
    ∧ win0_6.index t = ![0, 0] ∧ win0_7.index t = ![0, 0] ∧ win0_8.index t = ![t.val, 0] ∧ win0_9.index t = ![0, 0]
    ∧ win0_10.index t = ![0, 0] ∧ win0_11.index t = ![t.val, 0] ∧ win0_12.index t = ![t.val, 0] ∧ win0_13.index t = ![t.val, 0]
    ∧ win0_14.index t = ![t.val, 0] ∧ win0_15.index t = ![0, 0] ∧ win0_16.index t = ![0, 0] ∧ win0_17.index t = ![0, 0] :=
  (by decide +kernel : ∀ t : Fin grid0.N, _)

/-! ## The staged blocks are the arguments at the point's place -/

theorem blk0 (c : Dev nD) (t : Fin cfg0.N) (r : Fin 512) (k : Fin 2048) : iblk m c 0 t (ix3 0 r k) = (args m c).pu (Tile.row (rb t) r) k := by
  dsimp only [args]
  blk_simp [iblk, idx t]
  entry_read
  pointwise
  blk_ext [idx t]

theorem blk1 (c : Dev nD) (t : Fin cfg0.N) (r : Fin 512) (k : Fin 2048) : iblk m c 1 t (ix3 0 r k) = (args m c).pv (Tile.row (rb t) r) k := by
  dsimp only [args]
  blk_simp [iblk, idx t]
  entry_read
  pointwise
  blk_ext [idx t]

theorem blk2 (c : Dev nD) (t : Fin cfg0.N) (r : Fin 512) (k : Fin 2048) : iblk m c 2 t (ix3 0 r k) = (args m c).pz (Tile.row (rb t) r) k := by
  dsimp only [args]
  blk_simp [iblk, idx t]
  entry_read
  pointwise
  blk_ext [idx t]

theorem blk3 (c : Dev nD) (t : Fin cfg0.N) (k : Fin 2048) : iblk m c 3 t (ix2 0 k) = (args m c).g k := by
  dsimp only [args]
  blk_simp [iblk, idx t]
  entry_read
  blk_ext [idx t]

theorem blk4 (c : Dev nD) (t : Fin cfg0.N) (k : Fin 2048) : iblk m c 4 t (ix2 0 k) = (args m c).b k := by
  dsimp only [args]
  blk_simp [iblk, idx t]
  entry_read
  blk_ext [idx t]

theorem blk5 (c : Dev nD) (t : Fin cfg0.N) (i : Fin 8) (n j : Fin 128) : iblk m c 5 t (ix3 i n j) = (args m c).w i n j := by
  dsimp only [args]
  blk_simp [iblk, idx t]
  entry_read
  pointwise
  blk_ext [idx t]

theorem blk6 (c : Dev nD) (t : Fin cfg0.N) (n : Fin 128) (i : Fin 8) : iblk m c 6 t (ix2 n i) = (args m c).bs i n := by
  dsimp only [args]
  blk_simp [iblk, idx t]
  entry_read
  pointwise
  blk_ext [idx t]

theorem blk7 (c : Dev nD) (t : Fin cfg0.N) (k : Fin 2048) (d : Fin 1024) : iblk m c 7 t (ix2 k d) = (args m c).wo k d := by
  dsimp only [args]
  blk_simp [iblk, idx t]
  entry_read
  pointwise
  blk_ext [idx t]

theorem blk8 (c : Dev nD) (t : Fin cfg0.N) (r : Fin 512) (d : Fin 1024) : iblk m c 8 t (ix2 r d) = (args m c).x1 (Tile.row (rb t) r) d := by
  dsimp only [args]
  blk_simp [iblk, idx t]
  entry_read
  pointwise
  blk_ext [idx t]

theorem blk9 (c : Dev nD) (t : Fin cfg0.N) (d : Fin 1024) : iblk m c 9 t (ix2 0 d) = (args m c).gate d := by
  dsimp only [args]
  blk_simp [iblk, idx t]
  entry_read
  pointwise
  blk_ext [idx t]

theorem blk10 (c : Dev nD) (t : Fin cfg0.N) (d : Fin 1024) : iblk m c 10 t (ix2 0 d) = (args m c).gf d := by
  dsimp only [args]
  blk_simp [iblk, idx t]
  entry_read
  pointwise
  blk_ext [idx t]

theorem blk11 (c : Dev nD) (t : Fin cfg0.N) (r : Fin 512) (d : Fin 1024) : iblk m c 11 t (ix2 r d) = (args m c).tg (Tile.row (rb t) r) d := by
  dsimp only [args]
  blk_simp [iblk, idx t]
  entry_read
  pointwise
  blk_ext [idx t]

/-! ## The mixed positions -/

/-- The normalised rows, read back at one chunk and one group. -/
theorem vnAt (c : Dev nD) (t : Fin cfg0.N) (i : Fin 8) (h ro co : ℕ) (hh : h < 4) (er : ro = h * 128) (ec : co = i.val * 256) (i0 i1)
    (j : Fin 128) (k : Fin 256) :
    (View.whole cc0_scratch0).readCov (Val := Elt Ideal)
      [⟨Rect.unit ![0, 0] ![512, 2048] i0, k0_pay6 (iblk m c 1 t) (iblk m c 3 t) (iblk m c 4 t)⟩]
      (Rect.unit (s := S512x2048) ![ro, co] ![128, 256] i1).toLoadRect (ix2 j k)
    = (args m c).vn ⟨((rb t).val * 4 + h) * 128 + j.val, by omega⟩ ⟨i.val * 256 + k.val, by omega⟩ := by
  subst er ec
  refine (congrFun (View.readCov_fill (Val := Elt Ideal) (View.whole cc0_scratch0) i0 _ _ _ (by decide)) _).trans ?_
  pointwise
  refine (Tile.pVn (q := rb t) (A := args m c) rfl (blk1 m c t) (blk3 m c t) (blk4 m c t) _ _).trans ?_
  exact congrArg₂ (args m c).vn (Fin.ext (by simp only [Tile.row]; omega)) (Fin.ext (by simp only))

theorem mixAt (c : Dev nD) (t : Fin cfg0.N) (i : Fin 8) (h ro co : ℕ) (hh : h < 4) (er : ro = h * 128) (ec : co = i.val * 256) (i0 i1 i2 i3)
    (n : Fin 128) (k : Fin 256) :
    k0_pay8 (F := Ideal) (View.ld (iblk m c 5 t) (Rect.unit (s := S8x128x128) ![i.val, 0, 0] ![1, 128, 128] i2))
      ((View.whole cc0_scratch0).readCov (Val := Elt Ideal)
        [⟨Rect.unit ![0, 0] ![512, 2048] i0, k0_pay6 (iblk m c 1 t) (iblk m c 3 t) (iblk m c 4 t)⟩]
        (Rect.unit (s := S512x2048) ![ro, co] ![128, 256] i1).toLoadRect)
      (View.ld (iblk m c 6 t) (Rect.unit (s := S128x8) ![0, i.val] ![128, 1] i3)) (ix2 n k)
    = (args m c).mix ⟨((rb t).val * 4 + h) * 128 + n.val, by omega⟩ ⟨i.val * 256 + k.val, by omega⟩ :=
  Tile.pMix (A := args m c) (i := i) ((rb t).val * 4 + h) (by omega)
    (fun n j => by
      refine Eq.trans ?_ (blk5 m c t i n j)
      pointwise)
    (vnAt m c t i h ro co hh er ec i0 i1)
    (fun n => by
      refine Eq.trans ?_ (blk6 m c t n i)
      pointwise) n k

/-- A stored piece is the mixed positions at its place, if it is so by position and channel. -/
theorem piece (c : Dev nD) (t : Fin cfg0.N) (f : S128x256.Idx → EReal) (i : Fin 8) (h : ℕ) (hh : h < 4)
    (hf : ∀ n k, f (ix2 n k) = (args m c).mix ⟨((rb t).val * 4 + h) * 128 + n.val, by omega⟩ ⟨i.val * 256 + k.val, by omega⟩)
    (x : S128x256.Idx) (y : S512x2048.Idx) (h0 : (y 0 : ℕ) = h * 128 + x 0) (h1 : (y 1 : ℕ) = i.val * 256 + x 1) :
    f x = (args m c).mix (Tile.row (rb t) (y 0)) (y 1) := by
  idx_vars x
  exact (hf x0 x1).trans (congrArg₂ (args m c).mix (Fin.ext (by simp only [Tile.row]; omega))
    (Fin.ext h1.symm))

/-- A sum's row before the point: nothing at the first point. -/
abbrev prev {S : Shape} (t : Fin cfg0.N) (zero before : Vec Ideal S .f32) : Vec Ideal S .f32 := if t.val % 16 = 0 then zero else before

/-- What every point leaves in the six buffers, over the mixed positions. -/
theorem point (c : Dev nD) (t : Fin cfg0.N) : ∃ M : Vec Ideal S512x2048 .f32,
    (∀ r k, M (ix2 r k) = (args m c).mix (Tile.row (rb t) r) k)
    ∧ (outsAt0 m c t.val t.isLt).1 = k0_pay59 (k0_pay58 (iblk m c 2 t)) (iblk m c 0 t) M
    ∧ (outsAt0 m c t.val t.isLt).2.1 = k0_pay70 (k0_pay62 (iblk m c 10 t)) (k0_pay63 (iblk m c 11 t))
        (Tile.X' (iblk m c 2 t) (iblk m c 0 t) M (iblk m c 7 t) (iblk m c 8 t) (iblk m c 9 t))
        (Tile.r' (iblk m c 2 t) (iblk m c 0 t) M (iblk m c 7 t) (iblk m c 8 t) (iblk m c 9 t))
        (Tile.R' (iblk m c 2 t) (iblk m c 0 t) M (iblk m c 7 t) (iblk m c 8 t) (iblk m c 9 t))
    ∧ (outsAt0 m c t.val t.isLt).2.2.1 = k0_pay73 (k0_pay61 (iblk m c 9 t)) (k0_pay62 (iblk m c 10 t)) (k0_pay63 (iblk m c 11 t))
        (Tile.X' (iblk m c 2 t) (iblk m c 0 t) M (iblk m c 7 t) (iblk m c 8 t) (iblk m c 9 t))
        (Tile.r' (iblk m c 2 t) (iblk m c 0 t) M (iblk m c 7 t) (iblk m c 8 t) (iblk m c 9 t))
        (Tile.R' (iblk m c 2 t) (iblk m c 0 t) M (iblk m c 7 t) (iblk m c 8 t) (iblk m c 9 t))
    ∧ (outsAt0 m c t.val t.isLt).2.2.2.1 = k0_pay74 (k0_pay62 (iblk m c 10 t)) (k0_pay63 (iblk m c 11 t))
        (Tile.X' (iblk m c 2 t) (iblk m c 0 t) M (iblk m c 7 t) (iblk m c 8 t) (iblk m c 9 t))
        (Tile.R' (iblk m c 2 t) (iblk m c 0 t) M (iblk m c 7 t) (iblk m c 8 t) (iblk m c 9 t))
        (prev t (k0_pay3 (F := Ideal)) (outsAt0 m c (t.val - 1) (by omega)).2.2.2.1)
    ∧ (outsAt0 m c t.val t.isLt).2.2.2.2.1 = k0_pay1 (k0_pay71 (k0_pay62 (iblk m c 10 t)) (k0_pay63 (iblk m c 11 t))
        (Tile.X' (iblk m c 2 t) (iblk m c 0 t) M (iblk m c 7 t) (iblk m c 8 t) (iblk m c 9 t))
        (Tile.R' (iblk m c 2 t) (iblk m c 0 t) M (iblk m c 7 t) (iblk m c 8 t) (iblk m c 9 t)))
        (prev t (k0_pay4 (F := Ideal)) (outsAt0 m c (t.val - 1) (by omega)).2.2.2.2.1)
    ∧ (outsAt0 m c t.val t.isLt).2.2.2.2.2 = k0_pay2 (k0_pay72 (k0_pay60 (k0_pay58 (iblk m c 2 t)) (iblk m c 0 t) M (iblk m c 7 t))
        (k0_pay62 (iblk m c 10 t)) (k0_pay63 (iblk m c 11 t))
        (Tile.X' (iblk m c 2 t) (iblk m c 0 t) M (iblk m c 7 t) (iblk m c 8 t) (iblk m c 9 t))
        (Tile.r' (iblk m c 2 t) (iblk m c 0 t) M (iblk m c 7 t) (iblk m c 8 t) (iblk m c 9 t))
        (Tile.R' (iblk m c 2 t) (iblk m c 0 t) M (iblk m c 7 t) (iblk m c 8 t) (iblk m c 9 t)))
        (prev t (k0_pay5 (F := Ideal)) (outsAt0 m c (t.val - 1) (by omega)).2.2.2.2.2) := by
  by_cases h : t.val % 16 = 0
  on_goal 1 => rw [outsAt0_A m c t h, prev, prev, prev, if_pos h, if_pos h, if_pos h]
  on_goal 2 => rw [outsAt0_B m c t h, prev, prev, prev, if_neg h, if_neg h, if_neg h]
  all_goals
    frame_out
    refine ⟨_, ?_, rfl, rfl, rfl, rfl, rfl, rfl⟩
    clear h
    intro r k
    rw [View.readCov_eq_canon']
    dsimp only
    generalize hy : (Rect.unit (s := S512x2048) ![0, 0] ![512, 2048] inb_S512x2048_S512x2048_0_0).toLoadRect.idx (ix2 r k) = y
    have e0 : r = y 0 := by rw [← hy]; exact Fin.ext (by pointwise)
    have e1 : k = y 1 := by rw [← hy]; exact Fin.ext (by pointwise)
    rw [e0, e1]
    clear e0 e1 hy
    canon_tiles x h
    case piece0 => exact piece m c t _ 7 3 (by omega) (mixAt m c t 7 3 384 1792 (by omega) rfl rfl _ _ _ _) x y (by omega) (by simp only [Fin.isValue, Fin.val_ofNat]; omega)
    case piece1 => exact piece m c t _ 7 2 (by omega) (mixAt m c t 7 2 256 1792 (by omega) rfl rfl _ _ _ _) x y (by omega) (by simp only [Fin.isValue, Fin.val_ofNat]; omega)
    case piece2 => exact piece m c t _ 7 1 (by omega) (mixAt m c t 7 1 128 1792 (by omega) rfl rfl _ _ _ _) x y (by omega) (by simp only [Fin.isValue, Fin.val_ofNat]; omega)
    case piece3 => exact piece m c t _ 7 0 (by omega) (mixAt m c t 7 0 0 1792 (by omega) rfl rfl _ _ _ _) x y (by omega) (by simp only [Fin.isValue, Fin.val_ofNat]; omega)
    case piece4 => exact piece m c t _ 6 3 (by omega) (mixAt m c t 6 3 384 1536 (by omega) rfl rfl _ _ _ _) x y (by omega) (by simp only [Fin.isValue, Fin.val_ofNat]; omega)
    case piece5 => exact piece m c t _ 6 2 (by omega) (mixAt m c t 6 2 256 1536 (by omega) rfl rfl _ _ _ _) x y (by omega) (by simp only [Fin.isValue, Fin.val_ofNat]; omega)
    case piece6 => exact piece m c t _ 6 1 (by omega) (mixAt m c t 6 1 128 1536 (by omega) rfl rfl _ _ _ _) x y (by omega) (by simp only [Fin.isValue, Fin.val_ofNat]; omega)
    case piece7 => exact piece m c t _ 6 0 (by omega) (mixAt m c t 6 0 0 1536 (by omega) rfl rfl _ _ _ _) x y (by omega) (by simp only [Fin.isValue, Fin.val_ofNat]; omega)
    case piece8 => exact piece m c t _ 5 3 (by omega) (mixAt m c t 5 3 384 1280 (by omega) rfl rfl _ _ _ _) x y (by omega) (by simp only [Fin.isValue, Fin.val_ofNat]; omega)
    case piece9 => exact piece m c t _ 5 2 (by omega) (mixAt m c t 5 2 256 1280 (by omega) rfl rfl _ _ _ _) x y (by omega) (by simp only [Fin.isValue, Fin.val_ofNat]; omega)
    case piece10 => exact piece m c t _ 5 1 (by omega) (mixAt m c t 5 1 128 1280 (by omega) rfl rfl _ _ _ _) x y (by omega) (by simp only [Fin.isValue, Fin.val_ofNat]; omega)
    case piece11 => exact piece m c t _ 5 0 (by omega) (mixAt m c t 5 0 0 1280 (by omega) rfl rfl _ _ _ _) x y (by omega) (by simp only [Fin.isValue, Fin.val_ofNat]; omega)
    case piece12 => exact piece m c t _ 4 3 (by omega) (mixAt m c t 4 3 384 1024 (by omega) rfl rfl _ _ _ _) x y (by omega) (by simp only [Fin.isValue, Fin.val_ofNat]; omega)
    case piece13 => exact piece m c t _ 4 2 (by omega) (mixAt m c t 4 2 256 1024 (by omega) rfl rfl _ _ _ _) x y (by omega) (by simp only [Fin.isValue, Fin.val_ofNat]; omega)
    case piece14 => exact piece m c t _ 4 1 (by omega) (mixAt m c t 4 1 128 1024 (by omega) rfl rfl _ _ _ _) x y (by omega) (by simp only [Fin.isValue, Fin.val_ofNat]; omega)
    case piece15 => exact piece m c t _ 4 0 (by omega) (mixAt m c t 4 0 0 1024 (by omega) rfl rfl _ _ _ _) x y (by omega) (by simp only [Fin.isValue, Fin.val_ofNat]; omega)
    case piece16 => exact piece m c t _ 3 3 (by omega) (mixAt m c t 3 3 384 768 (by omega) rfl rfl _ _ _ _) x y (by omega) (by simp only [Fin.isValue, Fin.val_ofNat]; omega)
    case piece17 => exact piece m c t _ 3 2 (by omega) (mixAt m c t 3 2 256 768 (by omega) rfl rfl _ _ _ _) x y (by omega) (by simp only [Fin.isValue, Fin.val_ofNat]; omega)
    case piece18 => exact piece m c t _ 3 1 (by omega) (mixAt m c t 3 1 128 768 (by omega) rfl rfl _ _ _ _) x y (by omega) (by simp only [Fin.isValue, Fin.val_ofNat]; omega)
    case piece19 => exact piece m c t _ 3 0 (by omega) (mixAt m c t 3 0 0 768 (by omega) rfl rfl _ _ _ _) x y (by omega) (by simp only [Fin.isValue, Fin.val_ofNat]; omega)
    case piece20 => exact piece m c t _ 2 3 (by omega) (mixAt m c t 2 3 384 512 (by omega) rfl rfl _ _ _ _) x y (by omega) (by simp only [Fin.isValue, Fin.val_ofNat]; omega)
    case piece21 => exact piece m c t _ 2 2 (by omega) (mixAt m c t 2 2 256 512 (by omega) rfl rfl _ _ _ _) x y (by omega) (by simp only [Fin.isValue, Fin.val_ofNat]; omega)
    case piece22 => exact piece m c t _ 2 1 (by omega) (mixAt m c t 2 1 128 512 (by omega) rfl rfl _ _ _ _) x y (by omega) (by simp only [Fin.isValue, Fin.val_ofNat]; omega)
    case piece23 => exact piece m c t _ 2 0 (by omega) (mixAt m c t 2 0 0 512 (by omega) rfl rfl _ _ _ _) x y (by omega) (by simp only [Fin.isValue, Fin.val_ofNat]; omega)
    case piece24 => exact piece m c t _ 1 3 (by omega) (mixAt m c t 1 3 384 256 (by omega) rfl rfl _ _ _ _) x y (by omega) (by simp only [Fin.isValue, Fin.val_ofNat]; omega)
    case piece25 => exact piece m c t _ 1 2 (by omega) (mixAt m c t 1 2 256 256 (by omega) rfl rfl _ _ _ _) x y (by omega) (by simp only [Fin.isValue, Fin.val_ofNat]; omega)
    case piece26 => exact piece m c t _ 1 1 (by omega) (mixAt m c t 1 1 128 256 (by omega) rfl rfl _ _ _ _) x y (by omega) (by simp only [Fin.isValue, Fin.val_ofNat]; omega)
    case piece27 => exact piece m c t _ 1 0 (by omega) (mixAt m c t 1 0 0 256 (by omega) rfl rfl _ _ _ _) x y (by omega) (by simp only [Fin.isValue, Fin.val_ofNat]; omega)
    case piece28 => exact piece m c t _ 0 3 (by omega) (mixAt m c t 0 3 384 0 (by omega) rfl rfl _ _ _ _) x y (by omega) (by simp only [Fin.isValue, Fin.val_ofNat]; omega)
    case piece29 => exact piece m c t _ 0 2 (by omega) (mixAt m c t 0 2 256 0 (by omega) rfl rfl _ _ _ _) x y (by omega) (by simp only [Fin.isValue, Fin.val_ofNat]; omega)
    case piece30 => exact piece m c t _ 0 1 (by omega) (mixAt m c t 0 1 128 0 (by omega) rfl rfl _ _ _ _) x y (by omega) (by simp only [Fin.isValue, Fin.val_ofNat]; omega)
    case piece31 => exact piece m c t _ 0 0 (by omega) (mixAt m c t 0 0 0 0 (by omega) rfl rfl _ _ _ _) x y (by omega) (by simp only [Fin.isValue, Fin.val_ofNat]; omega)

end Cert.GmlpHeadIdeal.Fold

end
-- ==== Proof.HArr.lean ====
/-
  The mixing unit's head: the six results as whole arrays.
-/
module

public import proofs.«01_k».proof.Proof.HFold

@[expose] public section

set_option maxRecDepth 16384

noncomputable section

open Idealize.ShloMosaic Idealize.ShloMosaic.TcCoe Idealize.SL.Sem
open Idealize.ShloMosaic.Pipeline (Dat)

namespace Cert.GmlpHeadIdeal.Fold
open Cert.GmlpHeadIdeal Cert.GmlpHeadIdeal.Gen

variable (m : (ℓ : Loc nD τ sig) → Buf (Elt Ideal) ℓ)

/-- Half of twice the loss of a point's rows. -/
abbrev lossGain (c : Dev nD) (t : Fin cfg0.N) : EReal :=
  Ideal.ofBits .f32 1056964608#32 * ∑ r : Fin 512, (args m c).lossRow (Tile.row (rb t) r)

/-- The six buffers after a point, by row and channel. -/
theorem vals (c : Dev nD) (t : Fin cfg0.N) :
    (∀ r k, (outsAt0 m c t.val t.isLt).1 (ix2 r k) = (args m c).y (Tile.row (rb t) r) k)
    ∧ (∀ r d, (outsAt0 m c t.val t.isLt).2.1 (ix2 r d) = (args m c).dx (Tile.row (rb t) r) d)
    ∧ (∀ r d, (outsAt0 m c t.val t.isLt).2.2.1 (ix2 r d) = (args m c).dbr (Tile.row (rb t) r) d)
    ∧ (∀ a b, (outsAt0 m c t.val t.isLt).2.2.2.1 (ix2 a b)
        = prev t (k0_pay3 (F := Ideal)) (outsAt0 m c (t.val - 1) (by omega)).2.2.2.1 (ix2 a b) + lossGain m c t)
    ∧ (∀ d, (outsAt0 m c t.val t.isLt).2.2.2.2.1 (ix2 0 d)
        = prev t (k0_pay4 (F := Ideal)) (outsAt0 m c (t.val - 1) (by omega)).2.2.2.2.1 (ix2 0 d)
          + ∑ r : Fin 512, (args m c).dout (Tile.row (rb t) r) d * (args m c).xn (Tile.row (rb t) r) d)
    ∧ ∀ d, (outsAt0 m c t.val t.isLt).2.2.2.2.2 (ix2 0 d)
        = prev t (k0_pay5 (F := Ideal)) (outsAt0 m c (t.val - 1) (by omega)).2.2.2.2.2 (ix2 0 d)
          + ∑ r : Fin 512, (args m c).dx (Tile.row (rb t) r) d * (args m c).br (Tile.row (rb t) r) d := by
  obtain ⟨M, hM, o0, o1, o2, o3, o4, o5⟩ := point m c t
  have H : Tile.Holds (rb t) (args m c) (iblk m c 0 t) (iblk m c 2 t) M (iblk m c 7 t) (iblk m c 8 t) (iblk m c 9 t) (iblk m c 10 t)
      (iblk m c 11 t) :=
    ⟨rfl, blk0 m c t, blk2 m c t, hM, blk7 m c t, blk8 m c t, blk9 m c t, blk10 m c t, blk11 m c t⟩
  rw [o0, o1, o2, o3, o4, o5]
  exact ⟨Tile.sY H, Tile.sDx H, Tile.sDbr H, Tile.sLoss H _, Tile.sDgf H _, Tile.sDgate H _⟩

/-- The gains of the sixteen points are the sum over all rows. -/
theorem total {S : Shape} (T : S.Idx → Fin 8192 → EReal) (zero : Vec Ideal S .f32) (hz : ∀ y, zero y = 0)
    (f : (n : ℕ) → n < cfg0.N → Vec Ideal S .f32)
    (h : ∀ t : Fin cfg0.N, ∀ y, f t.val t.isLt y = prev t zero (f (t.val - 1) (by omega)) y + ∑ r : Fin 512, T y (Tile.row (rb t) r))
    (t : Fin cfg0.N) (ht : t.val % 16 = 15) (y : S.Idx) : f t.val t.isLt y = ∑ s, T y s := by
  rw [Pipeline.eq_sum_fin_of_reset_step_apply_of_flush f 16 (fun _ => 0) (fun t y => ∑ r : Fin 512, T y (Tile.row (rb t) r))
    (fun t h0 y => by rw [h t y, prev, if_pos h0, hz]) (fun t h1 y => by rw [h t y, prev, if_neg h1]) t ht y, zero_add,
    Fin.sum_univ_tiles 16 512 rfl]
  refine Finset.sum_congr rfl fun q _ => Finset.sum_congr rfl fun r _ => congrArg (T y) (Fin.ext ?_)
  have := t.isLt
  have : cfg0.N = 16 := N_0
  simp only [Tile.row, rb]; omega

theorem y_arr (c : Dev nD) : (dats m 0 c).arrAt 12 cfg0.N = fun i : S8192x2048.Idx => (args m c).y (i 0) (i 1) := by
  refine (dats m 0 c).arrAt_eq_of_covers 12 _ (by decide +kernel) fun t hf y => ?_
  idx_vars y
  blk_simp
  rw [after0_12]
  exact ((vals m c t).1 y0 y1).trans (congrArg₂ (args m c).y (Fin.ext (by blk_simp [idx t])) (Fin.ext (by blk_simp [idx t])))

theorem dx_arr (c : Dev nD) : (dats m 0 c).arrAt 13 cfg0.N = fun i : S8192x1024.Idx => (args m c).dx (i 0) (i 1) := by
  refine (dats m 0 c).arrAt_eq_of_covers 13 _ (by decide +kernel) fun t hf y => ?_
  idx_vars y
  blk_simp
  rw [after0_13]
  exact ((vals m c t).2.1 y0 y1).trans (congrArg₂ (args m c).dx (Fin.ext (by blk_simp [idx t])) (Fin.ext (by blk_simp [idx t])))

theorem dbr_arr (c : Dev nD) : (dats m 0 c).arrAt 14 cfg0.N = fun i : S8192x1024.Idx => (args m c).dbr (i 0) (i 1) := by
  refine (dats m 0 c).arrAt_eq_of_covers 14 _ (by decide +kernel) fun t hf y => ?_
  idx_vars y
  blk_simp
  rw [after0_14]
  exact ((vals m c t).2.2.1 y0 y1).trans (congrArg₂ (args m c).dbr (Fin.ext (by blk_simp [idx t])) (Fin.ext (by blk_simp [idx t])))

theorem loss_arr (c : Dev nD) : (dats m 0 c).arrAt 15 cfg0.N = fun i : S8x128.Idx => (args m c).loss := by
  refine (dats m 0 c).arrAt_eq_of_covers 15 _ (by decide +kernel) fun t hf y => ?_
  blk_simp
  rw [after0_15]
  refine (total (fun _ s => Ideal.ofBits .f32 1056964608#32 * (args m c).lossRow s) (k0_pay3 (F := Ideal)) (fun y => by idx_vars y; pointwise [k0_pay3])
    (fun n h => (outsAt0 m c n h).2.2.2.1) (fun t y => ?_) t ((flush0_15 t).mp hf) y).trans (Gmlp.Head.half_sum _ _).symm
  idx_vars y
  rw [← Gmlp.Head.half_sum]
  exact (vals m c t).2.2.2.1 y0 y1

/-- The gradient of the final gain, after the last point. -/
theorem dgf_last (c : Dev nD) (t : Fin cfg0.N) (ht : t.val % 16 = 15) (y : S1x1024.Idx) :
    (outsAt0 m c t.val t.isLt).2.2.2.2.1 y = (args m c).dgf (y 1) :=
  total (S := S1x1024) (fun y s => (args m c).dout s (y 1) * (args m c).xn s (y 1)) (k0_pay4 (F := Ideal)) (fun y => by idx_vars y; pointwise [k0_pay4])
    (fun n h => (outsAt0 m c n h).2.2.2.2.1) (fun t y => by
      idx_vars y
      obtain rfl : y0 = 0 := Subsingleton.elim _ _
      exact (vals m c t).2.2.2.2.1 y1) t ht y

theorem dgf_arr (c : Dev nD) : (dats m 0 c).arrAt 16 cfg0.N = fun i : S1x1024.Idx => (args m c).dgf (i 1) := by
  refine (dats m 0 c).arrAt_eq_of_covers 16 _ (by decide +kernel) fun t hf y => ?_
  idx_vars y
  blk_simp
  rw [after0_16]
  exact (dgf_last m c t ((flush0_16 t).mp hf) (ix2 y0 y1)).trans (congrArg (args m c).dgf (Fin.ext (by blk_simp [idx t])))

/-- The gradient of the gate, after the last point. -/
theorem dgate_last (c : Dev nD) (t : Fin cfg0.N) (ht : t.val % 16 = 15) (y : S1x1024.Idx) :
    (outsAt0 m c t.val t.isLt).2.2.2.2.2 y = (args m c).dgate (y 1) :=
  total (S := S1x1024) (fun y s => (args m c).dx s (y 1) * (args m c).br s (y 1)) (k0_pay5 (F := Ideal)) (fun y => by idx_vars y; pointwise [k0_pay5])
    (fun n h => (outsAt0 m c n h).2.2.2.2.2) (fun t y => by
      idx_vars y
      obtain rfl : y0 = 0 := Subsingleton.elim _ _
      exact (vals m c t).2.2.2.2.2 y1) t ht y

theorem dgate_arr (c : Dev nD) : (dats m 0 c).arrAt 17 cfg0.N = fun i : S1x1024.Idx => (args m c).dgate (i 1) := by
  refine (dats m 0 c).arrAt_eq_of_covers 17 _ (by decide +kernel) fun t hf y => ?_
  idx_vars y
  blk_simp
  rw [after0_17]
  exact (dgate_last m c t ((flush0_17 t).mp hf) (ix2 y0 y1)).trans (congrArg (args m c).dgate (Fin.ext (by blk_simp [idx t])))

end Cert.GmlpHeadIdeal.Fold

end
-- ==== Proof.HRef.lean ====
/-
  The reference's six results of the mixing unit's head, read index by index.
-/
module

public import proofs.«01_k».proof.Proof.Gen.GmlpHeadRefIdeal.Read
public import proofs.«01_k».proof.Proof.GmlpMath
public import proofs.«01_k».proof.Proof.HostSum
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GmlpHeadRefIdeal.Forms
open Cert.GmlpHeadRefIdeal Cert.GmlpHeadRefIdeal.Read Gmlp

/-- The arguments of the mixing unit and its head are these arrays. -/
structure Holds (A : Head) (x0 : (⟨S1x8192x6144, .f32⟩ : BufTy).Contents (Elt Ideal)) (x1 x2 : (⟨S1x2048, .f32⟩ : BufTy).Contents (Elt Ideal))
    (x3 : (⟨S1x8x128x128, .f32⟩ : BufTy).Contents (Elt Ideal)) (x4 : (⟨S1x8x128, .f32⟩ : BufTy).Contents (Elt Ideal))
    (x5 : (⟨S1x2048x1024, .f32⟩ : BufTy).Contents (Elt Ideal)) (x6 : (⟨S1x8192x1024, .f32⟩ : BufTy).Contents (Elt Ideal))
    (x7 : (⟨S1x3072, .f32⟩ : BufTy).Contents (Elt Ideal)) (x8 : (⟨S1024, .f32⟩ : BufTy).Contents (Elt Ideal))
    (x9 : (⟨S1x8192x1024, .f32⟩ : BufTy).Contents (Elt Ideal)) : Prop where
  e_c : A.c = Ideal.ofBits .f32 1060439283#32
  e_pu : ∀ s k, A.pu s k = x0 (ix3 0 s ⟨k.val, by omega⟩)
  e_pv : ∀ s k, A.pv s k = x0 (ix3 0 s ⟨2048 + k.val, by omega⟩)
  e_pz : ∀ s k, A.pz s k = x0 (ix3 0 s ⟨4096 + k.val, by omega⟩)
  e_g : ∀ k, A.g k = x1 (ix2 0 k)
  e_b : ∀ k, A.b k = x2 (ix2 0 k)
  e_w : ∀ i n j, A.w i n j = x3 (ix4 0 i n j)
  e_bs : ∀ i n, A.bs i n = x4 (ix3 0 i n)
  e_wo : ∀ k d, A.wo k d = x5 (ix3 0 k d)
  e_x1 : ∀ s d, A.x1 s d = x6 (ix3 0 s d)
  e_gate : ∀ d, A.gate d = x7 (ix2 0 ⟨2048 + d.val, by omega⟩)
  e_gf : ∀ d, A.gf d = x8 (ix1 d)
  e_tg : ∀ s d, A.tg s d = x9 (ix3 0 s d)

variable {A : Head} {x0 : (⟨S1x8192x6144, .f32⟩ : BufTy).Contents (Elt Ideal)} {x1 x2 : (⟨S1x2048, .f32⟩ : BufTy).Contents (Elt Ideal)}
  {x3 : (⟨S1x8x128x128, .f32⟩ : BufTy).Contents (Elt Ideal)} {x4 : (⟨S1x8x128, .f32⟩ : BufTy).Contents (Elt Ideal)}
  {x5 : (⟨S1x2048x1024, .f32⟩ : BufTy).Contents (Elt Ideal)} {x6 : (⟨S1x8192x1024, .f32⟩ : BufTy).Contents (Elt Ideal)}
  {x7 : (⟨S1x3072, .f32⟩ : BufTy).Contents (Elt Ideal)} {x8 : (⟨S1024, .f32⟩ : BufTy).Contents (Elt Ideal)}
  {x9 : (⟨S1x8192x1024, .f32⟩ : BufTy).Contents (Elt Ideal)}

theorem v16 (s : Fin 8192) (k : Fin 4096) : val_main_v16 (F := Ideal) x0 (ix3 0 s k)
    = gelu (Ideal.ofBits .f32 1060439283#32) (x0 (ix3 0 s ⟨k.val, by omega⟩)) := by
  rw [← gelu_erfc]
  pointwise [val_main_v16, val_main_v15, val_main_v14, val_main_v13, val_main_cst_0, val_main_v12, val_main_v11, val_main_v10, val_main_cst, val_main_v8]

variable (H : Holds A x0 x1 x2 x3 x4 x5 x6 x7 x8 x9)
include H

theorem v17 (s : Fin 8192) (k : Fin 2048) : val_main_v17 (F := Ideal) x0 (ix3 0 s k) = gelu A.c (A.pu s k) := by
  pointwise [val_main_v17]
  rw [v16, H.e_c, H.e_pu]

theorem v18 (s : Fin 8192) (k : Fin 2048) : val_main_v18 (F := Ideal) x0 (ix3 0 s k) = A.v s k := by
  unfold Unit.v
  pointwise [val_main_v18]
  rw [v16, H.e_c, H.e_pv]

theorem v22 (s : Fin 8192) : val_main_v22 (F := Ideal) x0 (ix3 0 s 0) = A.mu s := by
  unfold Unit.mu
  pointwise [val_main_v22, val_main_v21, val_main_cst_2, val_main_v20, val_main_v19, val_main_cst_1]
  simp only [v18 H]

theorem v24 (s : Fin 8192) (k : Fin 2048) : val_main_v24 (F := Ideal) x0 (ix3 0 s k) = A.cen s k := by
  unfold Unit.cen
  pointwise [val_main_v24, val_main_v23]
  rw [v18 H, v22 H]

theorem v33 (s : Fin 8192) : val_main_v33 (F := Ideal) x0 (ix3 0 s 0) = A.var s := by
  unfold Unit.var
  pointwise [val_main_v33, val_main_v32, val_main_cst_5, val_main_v29, val_main_v28, val_main_cst_4, val_main_v27, val_main_v26, val_main_cst_3, val_main_v25]
  simp only [v24 H]

theorem v42 (s : Fin 8192) (k : Fin 2048) : val_main_v42 (F := Ideal) x0 x1 x2 (ix3 0 s k) = A.vn s k := by
  unfold Unit.vn Unit.cen
  pointwise [val_main_v42, val_main_v41, val_main_v40, val_main_v5, val_main_v39, val_main_v38, val_main_v37, val_main_v4, val_main_v36, val_main_v35,
    val_main_v34, val_main_v31, val_main_v30]
  rw [v18 H, v22 H, v33 H, H.e_g, H.e_b]

theorem v43 (p : Fin 64) (j : Fin 128) (i : Fin 8) (k : Fin 256) : val_main_v43 (F := Ideal) x0 x1 x2 (ix5 0 p j i k)
    = A.vn ⟨p.val * 128 + j.val, by omega⟩ ⟨i.val * 256 + k.val, by omega⟩ := by
  pointwise [val_main_v43]
  exact v42 H _ _

theorem v48 (i : Fin 8) (n j : Fin 128) : val_main_v48 (F := Ideal) x3 (ix3 i n j) = A.tri i n j := by
  unfold Unit.tri
  rw [H.e_w]
  pointwise [val_main_v48, val_main_v47, val_main_cst_6, val_main_v6, val_main_call1_v0, val_main_v46, val_main_v45, val_main_v44, val_main_c,
    val_main_call0_v5, val_main_call0_c_0, val_main_call0_v4, val_main_call0_v3, val_main_call0_v2, val_main_call0_v1, val_main_call0_c, val_main_call0_v0]
  rw [show IntOp.addi (BitVec.ofNat 32 n.val) 0#32 = BitVec.ofNat 32 n.val from BitVec.add_zero _, WordCmp.cmpi_sge_ofNat (by omega) (by omega)]
  by_cases h : j.val ≤ n.val
  · simp [h, Scalar.select]
  · simp [h, Scalar.select]

theorem v54 (p : Fin 64) (n : Fin 128) (i : Fin 8) (k : Fin 256) : val_main_v54 (F := Ideal) x0 x1 x2 x3 x4 (ix5 0 p n i k)
    = A.mix ⟨p.val * 128 + n.val, by omega⟩ ⟨i.val * 256 + k.val, by omega⟩ := by
  have e1 : Unit.grp ⟨i.val * 256 + k.val, by omega⟩ = i := Fin.ext (by simp only [Unit.grp]; omega)
  have e2 : Unit.pos ⟨p.val * 128 + n.val, by omega⟩ = n := Fin.ext (by simp only [Unit.pos]; omega)
  have e3 : ∀ j, Unit.mate ⟨p.val * 128 + n.val, by omega⟩ j = ⟨p.val * 128 + j.val, by omega⟩ := fun j => Fin.ext (by simp only [Unit.mate]; omega)
  unfold Unit.mix
  rw [e1, e2, H.e_bs]
  pointwise [val_main_v54, val_main_v53, val_main_v52, val_main_v51, val_main_v7, val_main_v50, val_main_v49]
  simp only [v43 H, v48 H, e3, mul_comm]

theorem v55 (s : Fin 8192) (k : Fin 2048) : val_main_v55 (F := Ideal) x0 x1 x2 x3 x4 (ix3 0 s k) = A.mix s k := by
  pointwise [val_main_v55]
  exact (v54 H _ _ _ _).trans (congrArg₂ A.mix (Fin.ext (by simp only; omega)) (Fin.ext (by simp only; omega)))

theorem v58 (s : Fin 8192) (k : Fin 2048) : val_main_v58 (F := Ideal) x0 x1 x2 x3 x4 (ix3 0 s k) = A.y s k := by
  unfold Unit.y
  pointwise [val_main_v58, val_main_v57, val_main_v56, val_main_call2_v5, val_main_call2_v4, val_main_call2_cst_0, val_main_call2_v3, val_main_call2_v2,
    val_main_call2_cst, val_main_call2_v1, val_main_call2_v0, val_main_v9]
  simp only [v17 H, v55 H, H.e_pz, ConvGrad.div_eq]

theorem v60 (s : Fin 8192) (d : Fin 1024) : val_main_v60 (F := Ideal) x0 x1 x2 x3 x4 x5 (ix3 0 s d) = A.br s d := by
  unfold Head.br
  pointwise [val_main_v60, val_main_v59]
  simp only [v58 H, H.e_wo]

theorem v63 (s : Fin 8192) (d : Fin 1024) : val_main_v63 (F := Ideal) x0 x1 x2 x3 x4 x5 x6 x7 (ix3 0 s d) = A.X s d := by
  unfold Head.X
  pointwise [val_main_v63, val_main_v62, val_main_v61, val_main_v3, val_main_v0]
  rw [v60 H, H.e_x1, H.e_gate]

theorem v70 (s : Fin 8192) : val_main_v70 (F := Ideal) x0 x1 x2 x3 x4 x5 x6 x7 (ix3 0 s 0) = NormBwd.msq A.X s := by
  unfold NormBwd.msq
  pointwise [val_main_v70, val_main_v69, val_main_cst_9, val_main_v68, val_main_v67, val_main_cst_8, val_main_v66, val_main_v65, val_main_cst_7, val_main_v64]
  simp only [v63 H]

theorem v71 (s : Fin 8192) : val_main_v71 (F := Ideal) x0 x1 x2 x3 x4 x5 x6 x7 (ix3 0 s 0) = NormBwd.rs A.X s := by
  pointwise [val_main_v71]
  rw [v70 H]; rfl

theorem v74 (s : Fin 8192) : val_main_v74 (F := Ideal) x0 x1 x2 x3 x4 x5 x6 x7 (ix3 0 s 0)
    = Ideal.ofBits .f32 3204448256#32 * Ideal.div (NormBwd.rs A.X s) (NormBwd.msq A.X s) := by
  pointwise [val_main_v74, val_main_v73, val_main_cst_10, val_main_v72]
  rw [v70 H, v71 H]

theorem v76 (s : Fin 8192) (d : Fin 1024) : val_main_v76 (F := Ideal) x0 x1 x2 x3 x4 x5 x6 x7 (ix3 0 s d) = A.xn s d := by
  unfold Head.xn
  pointwise [val_main_v76, val_main_v75]
  rw [v71 H, v63 H]

theorem v80 (s : Fin 8192) (d : Fin 1024) : val_main_v80 (F := Ideal) x0 x1 x2 x3 x4 x5 x6 x7 x8 x9 (ix3 0 s d) = A.err s d := by
  unfold Head.err
  pointwise [val_main_v80, val_main_v79, val_main_v78, val_main_v77]
  rw [v76 H, H.e_gf, H.e_tg]

theorem v86 (s : Fin 8192) : val_main_v86 (F := Ideal) x0 x1 x2 x3 x4 x5 x6 x7 x8 x9 (ix2 0 s) = A.lossRow s := by
  unfold Head.lossRow
  pointwise [val_main_v86, val_main_v85, val_main_cst_13, val_main_v84, val_main_cst_12, val_main_v81]
  simp only [v80 H]

theorem v94 (s : Fin 8192) (d : Fin 1024) : val_main_v94 (F := Ideal) x0 x1 x2 x3 x4 x5 x6 x7 x8 x9 (ix3 0 s d) = A.dout s d := by
  unfold Head.dout
  rw [← Head.dout_eq]
  pointwise [val_main_v94, val_main_v93, val_main_v92, val_main_v91, val_main_cst_18, val_main_v90, val_main_v89, val_main_cst_17, val_main_cst_16,
    val_main_v83, val_main_v82, val_main_cst_11]
  rw [v80 H]

theorem v99 (s : Fin 8192) (d : Fin 1024) : val_main_v99 (F := Ideal) x0 x1 x2 x3 x4 x5 x6 x7 x8 x9 (ix3 0 s d) = A.dout s d * A.gf d := by
  pointwise [val_main_v99, val_main_v98, val_main_v77]
  rw [v94 H, H.e_gf]

/-- The row's factor in the gradient of the root mean square norm. -/
theorem v108 (s : Fin 8192) : val_main_v108 (F := Ideal) x0 x1 x2 x3 x4 x5 x6 x7 x8 x9 (ix3 0 s 0)
    = Ideal.div ((∑ k, A.X s k * (A.dout s k * A.gf k)) * (Ideal.ofBits .f32 3204448256#32 * Ideal.div (NormBwd.rs A.X s) (NormBwd.msq A.X s)))
        (Ideal.ofBits .f32 1149239296#32) := by
  pointwise [val_main_v108, val_main_v107, val_main_cst_22, val_main_v106, val_main_v103, val_main_v102, val_main_cst_21, val_main_v101]
  simp only [v74 H, v99 H, v63 H]

theorem v109 (s : Fin 8192) : val_main_v109 (F := Ideal) x0 x1 x2 x3 x4 x5 x6 x7 x8 x9 (ix1 s)
    = Ideal.div ((∑ k, A.X s k * (A.dout s k * A.gf k)) * (Ideal.ofBits .f32 3204448256#32 * Ideal.div (NormBwd.rs A.X s) (NormBwd.msq A.X s)))
        (Ideal.ofBits .f32 1149239296#32) := by
  unfold val_main_v109
  simp only [Host.reduceAdd, Ideal.hostReduceAdd_def]
  rw [Cert.Math.hostReduceAdd_unit02 _ _ _ s, v108 H]
  pointwise [val_main_cst_23]

theorem v115 (s : Fin 8192) (d : Fin 1024) : val_main_v115 (F := Ideal) x0 x1 x2 x3 x4 x5 x6 x7 x8 x9 (ix3 0 s d) = A.dx s d := by
  rw [← Head.dx_eq]
  pointwise [val_main_v115, val_main_v114, val_main_v113, val_main_v112, val_main_v111, val_main_v110, val_main_v105, val_main_v104]
  simp only [v109 H, v99 H, v71 H, v63 H]

/-! ## The results -/

theorem y_ref : val_main_v122 (F := Ideal) x0 x1 x2 x3 x4 = fun i : S8192x2048.Idx => A.y (i 0) (i 1) := by
  funext i
  idx_vars i
  pointwise [val_main_v122, val_main_v121]
  exact v58 H _ _

theorem dx_ref : val_main_v123 (F := Ideal) x0 x1 x2 x3 x4 x5 x6 x7 x8 x9 = fun i : S8192x1024.Idx => A.dx (i 0) (i 1) := by
  funext i
  idx_vars i
  pointwise [val_main_v123]
  exact v115 H _ _

theorem dbr_ref : val_main_v125 (F := Ideal) x0 x1 x2 x3 x4 x5 x6 x7 x8 x9 = fun i : S8192x1024.Idx => A.dbr (i 0) (i 1) := by
  funext i
  idx_vars i
  unfold Head.dbr
  pointwise [val_main_v125, val_main_v124, val_main_v117, val_main_v116, val_main_v3, val_main_v0]
  rw [v115 H, H.e_gate]

theorem loss_ref : val_main_v126 (F := Ideal) x0 x1 x2 x3 x4 x5 x6 x7 x8 x9 = fun i : S8x128.Idx => A.loss := by
  have h87 : ∀ j, val_main_v87 (F := Ideal) x0 x1 x2 x3 x4 x5 x6 x7 x8 x9 j = ∑ s, A.lossRow s := by
    intro j
    unfold val_main_v87
    simp only [Host.reduceAdd, Ideal.hostReduceAdd_def]
    rw [Cert.Math.hostReduceAdd_all1 _ _ _ j]
    simp only [v86 H]
    pointwise [val_main_cst_14]
  funext i
  idx_vars i
  unfold Head.loss
  pointwise [val_main_v126, val_main_v88, val_main_cst_15]
  rw [h87]

theorem dgf_ref : val_main_v127 (F := Ideal) x0 x1 x2 x3 x4 x5 x6 x7 x8 x9 = fun i : S1x1024.Idx => A.dgf (i 1) := by
  have h100 : ∀ d, val_main_v100 (F := Ideal) x0 x1 x2 x3 x4 x5 x6 x7 x8 x9 (ix1 d) = A.dgf d := by
    intro d
    unfold val_main_v100 Head.dgf
    simp only [Host.reduceAdd, Ideal.hostReduceAdd_def]
    rw [Cert.Math.hostReduceAdd_unit01 _ _ _ d]
    pointwise [val_main_cst_20, val_main_v97, val_main_v96, val_main_cst_19, val_main_v95]
    exact Finset.sum_congr rfl fun s _ => by rw [v76 H, v94 H, mul_comm]
  funext i
  idx_vars i
  pointwise [val_main_v127]
  exact h100 _

theorem dgate_ref : val_main_v128 (F := Ideal) x0 x1 x2 x3 x4 x5 x6 x7 x8 x9 = fun i : S1x1024.Idx => A.dgate (i 1) := by
  funext i
  idx_vars i
  unfold Head.dgate
  pointwise [val_main_v128, val_main_v120, val_main_v119, val_main_cst_24, val_main_v118]
  simp only [v115 H, v60 H]

end Cert.GmlpHeadRefIdeal.Forms
end
-- ==== Proof.HValue.lean ====
/-
  The kernel and the reference compute the same results of the mixing unit's head.
-/
module

public import proofs.«01_k».proof.Defs
public import proofs.«01_k».proof.Proof.HArr
public import proofs.«01_k».proof.Proof.HRef
public import proofs.«01_k».proof.Proof.Gen.GmlpHeadRefIdeal.Run

@[expose] public section

set_option maxRecDepth 16384

noncomputable section

open Idealize.ShloMosaic Idealize.ShloMosaic.TcCoe Idealize.SL.Sem

namespace Cert.GmlpHeadIdeal.Fold
open Cert.GmlpHeadIdeal Cert.GmlpHeadIdeal.Gen

/-- The kernel's argument arrays, as the reference reads them. -/
theorem holds (m : (ℓ : Loc nD τ sig) → Buf (Elt Ideal) ℓ) (c : Dev nD) :
    GmlpHeadRefIdeal.Forms.Holds (args m c) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) where
  e_c := rfl
  e_pu _ _ := rfl
  e_pv _ _ := rfl
  e_pz _ _ := rfl
  e_g _ := rfl
  e_b _ := rfl
  e_w _ _ _ := rfl
  e_bs _ _ := rfl
  e_wo _ _ := rfl
  e_x1 _ _ := rfl
  e_gate _ := rfl
  e_gf _ := rfl
  e_tg _ _ := rfl

/-- At every memory the kernel's run and the reference's run, on the same arguments, end with the same six arrays: the
    unit's result, the gradients of the rows and of the branch, the loss, and the gradients of the final gain and of the gate. -/
theorem algebraic : Cert.algebraic_GmlpHeadIdeal_GmlpHeadRefIdeal := fun m ρ m' ρ' _ hag =>
  ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, fun c => (dats m 0 c).arrAt 17 cfg0.N, Value.run_blocks m ρ,
    (θ_run _ _ _).mono (fun r h c => by
      obtain ⟨e0, e1, e2, e3, e4, e5, e6, e7, e8, e9⟩ := hag c
      obtain ⟨k0, k1, k2, k3, k4, k5, kk⟩ := h c
      refine ⟨k0.trans ?_, k1.trans ?_, k2.trans ?_, k3.trans ?_, k4.trans ?_, k5.trans ?_, kk⟩
      all_goals
        clear h hag k0 k1 k2 k3 k4 k5 kk
        have H := holds m c
        rw [← e0, ← e1, ← e2, ← e3, ← e4, ← e5, ← e6, ← e7, ← e8, ← e9] at H
      · rw [GmlpHeadRefIdeal.Read.val_main_v122_eq]
        exact (GmlpHeadRefIdeal.Forms.y_ref H).trans (y_arr m c).symm
      · rw [GmlpHeadRefIdeal.Read.val_main_v123_eq]
        exact (GmlpHeadRefIdeal.Forms.dx_ref H).trans (dx_arr m c).symm
      · rw [GmlpHeadRefIdeal.Read.val_main_v125_eq]
        exact (GmlpHeadRefIdeal.Forms.dbr_ref H).trans (dbr_arr m c).symm
      · rw [GmlpHeadRefIdeal.Read.val_main_v126_eq]
        exact (GmlpHeadRefIdeal.Forms.loss_ref H).trans (loss_arr m c).symm
      · rw [GmlpHeadRefIdeal.Read.val_main_v127_eq]
        exact (GmlpHeadRefIdeal.Forms.dgf_ref H).trans (dgf_arr m c).symm
      · rw [GmlpHeadRefIdeal.Read.val_main_v128_eq]
        exact (GmlpHeadRefIdeal.Forms.dgate_ref H).trans (dgate_arr m c).symm) (GmlpHeadRefIdeal.Value.run m' ρ')⟩

end Cert.GmlpHeadIdeal.Fold
end
-- ==== Proof.MValue.lean ====
/-
  The modulation of the two blocks, forward: `silu` of the condition and its products with the two weights. What the kernel
  leaves in its two results, what the reference computes, and that they are the same.
-/
module

public import proofs.«01_k».proof.Defs
public import proofs.«01_k».proof.Proof.ConvGrad
public import proofs.«01_k».proof.Proof.Gen.ModFwdIdeal.Value
public import proofs.«01_k».proof.Proof.Gen.ModFwdRefIdeal.Read
public import proofs.«01_k».proof.Proof.Gen.ModFwdRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Mod

/-- The condition of the eight devices' rows, and the two blocks' weights and biases. -/
structure Args where
  c : Fin 8 → Fin 1024 → EReal
  w : Fin 2 → Fin 1024 → Fin 768 → EReal
  b : Fin 2 → Fin 768 → EReal

/-- `silu` of the condition. -/
def Args.act (A : Args) (r : Fin 8) (k : Fin 1024) : EReal := A.c r k * ConvGrad.sg (A.c r k)

/-- The modulation of one block. -/
def Args.part (A : Args) (i : Fin 2) (r : Fin 8) (j : Fin 768) : EReal := ∑ k, A.act r k * A.w i k j + A.b i j

/-- The two blocks' modulations one above the other. -/
def Args.both (A : Args) (a : Fin 16) (j : Fin 768) : EReal := A.part ⟨a.val / 8, by omega⟩ ⟨a.val % 8, by omega⟩ j

theorem Args.both_eq (A : Args) (i : Fin 2) (r : Fin 8) (j : Fin 768) {a : Fin 16} (h : a.val = 8 * i.val + r.val) :
    A.both a j = A.part i r j := by
  unfold Args.both
  have e0 : (⟨a.val / 8, by omega⟩ : Fin 2) = i := Fin.ext (by show a.val / 8 = i.val; omega)
  have e1 : (⟨a.val % 8, by omega⟩ : Fin 8) = r := Fin.ext (by show a.val % 8 = r.val; omega)
  rw [e0, e1]

end Mod

/-! ## The reference -/

namespace Cert.ModFwdRefIdeal.Forms
open Cert.ModFwdRefIdeal Cert.ModFwdRefIdeal.Read Mod

variable (x0 : (⟨S8x1024, .f32⟩ : BufTy).Contents (Elt Ideal)) (x1 : (⟨S2x1024x768, .f32⟩ : BufTy).Contents (Elt Ideal))
  (x2 : (⟨S2x768, .f32⟩ : BufTy).Contents (Elt Ideal))

/-- The arguments by row, block and column. -/
def args : Args where
  c r k := x0 (ix2 r k)
  w i k j := x1 (ix3 i k j)
  b i j := x2 (ix2 i j)

theorem v0 (r : Fin 8) (k : Fin 1024) : val_main_v0 (F := Ideal) x0 (ix2 r k) = (args x0 x1 x2).act r k := by
  unfold Args.act
  dsimp only [args]
  rw [← ConvGrad.div_eq]
  pointwise [val_main_v0, val_main_call0_v5, val_main_call0_v4, val_main_call0_cst_0, val_main_call0_v3, val_main_call0_v2, val_main_call0_cst,
    val_main_call0_v1, val_main_call0_v0]

theorem v8 (r : Fin 8) (j : Fin 768) : val_main_v8 (F := Ideal) x0 x1 x2 (ix2 r j) = (args x0 x1 x2).part 0 r j := by
  unfold Args.part
  pointwise [val_main_v8, val_main_v7, val_main_v6, val_main_v5, val_main_v4, val_main_v3, val_main_v2, val_main_v1]
  simp only [v0 x0 x1 x2]
  rfl

theorem v16 (r : Fin 8) (j : Fin 768) : val_main_v16 (F := Ideal) x0 x1 x2 (ix2 r j) = (args x0 x1 x2).part 1 r j := by
  unfold Args.part
  pointwise [val_main_v16, val_main_v15, val_main_v14, val_main_v13, val_main_v12, val_main_v11, val_main_v10, val_main_v9]
  simp only [v0 x0 x1 x2]
  rfl

theorem act_ref : val_main_v0 (F := Ideal) x0 = fun i : S8x1024.Idx => (args x0 x1 x2).act (i 0) (i 1) := by
  funext i
  idx_vars i
  exact v0 x0 x1 x2 i0 i1

theorem both_ref : val_main_v17 (F := Ideal) x0 x1 x2 = fun i : S16x768.Idx => (args x0 x1 x2).both (i 0) (i 1) := by
  funext i
  idx_vars i
  pointwise [val_main_v17]
  split_ifs with h h'
  · exact (v8 x0 x1 x2 _ _).trans ((args x0 x1 x2).both_eq 0 _ _ (by simp)).symm
  · exact (v16 x0 x1 x2 _ _).trans ((args x0 x1 x2).both_eq 1 _ _ (by simp; omega)).symm
  · exact absurd rfl h'

end Cert.ModFwdRefIdeal.Forms

/-! ## The kernel -/

namespace Cert.ModFwdIdeal.Fold
open Cert.ModFwdIdeal Cert.ModFwdIdeal.Gen Mod

/-- The stored `silu`. -/
theorem pAct (v : Vec Ideal S8x1024 .f32) (r : Fin 8) (k : Fin 1024) :
    k0_pay1 (F := Ideal) v (ix2 r k) = v (ix2 r k) * ConvGrad.sg (v (ix2 r k)) := by
  unfold ConvGrad.sg
  pointwise [k0_pay1]

/-- The product and the bias of one block, as both stores have it. -/
theorem pPart (v : Vec Ideal S8x1024 .f32) (w : Vec Ideal S1x1024x768 .f32) (b : Vec Ideal S1x1x768 .f32) (r : Fin 8) (j : Fin 768) :
    k0_pay2 (F := Ideal) v w b (ix2 r j) = ∑ k, v (ix2 r k) * ConvGrad.sg (v (ix2 r k)) * w (ix3 0 k j) + b (ix3 0 0 j) := by
  pointwise [k0_pay2]
  simp only [pAct]

variable (m : (ℓ : Loc nD τ sig) → Buf (Elt Ideal) ℓ)

abbrev args (c : Dev nD) : Args := ModFwdRefIdeal.Forms.args (m ((c : Thread nD τ).loc main_arg0)) (m ((c : Thread nD τ).loc main_arg1))
  (m ((c : Thread nD τ).loc main_arg2))

theorem idx : ∀ t : Fin cfg0.N, win0_0.index t = ![0, 0] ∧ win0_1.index t = ![0, 0, 0] ∧ win0_2.index t = ![0, 0, 0]
    ∧ win0_3.index t = ![0, 0] ∧ win0_4.index t = ![0, 0] :=
  (by decide +kernel : ∀ t : Fin grid0.N, _)

theorem blk0 (c : Dev nD) (t : Fin cfg0.N) (r : Fin 8) (k : Fin 1024) : iblk m c 0 t (ix2 r k) = (args m c).c r k := by
  dsimp only [args, ModFwdRefIdeal.Forms.args]
  blk_simp [iblk, idx t]
  entry_read
  blk_ext [idx t]

theorem blk1 (c : Dev nD) (t : Fin cfg0.N) (i : Fin 2) (k : Fin 1024) (j : Fin 768) : iblk m c 1 t (ix3 i k j) = (args m c).w i k j := by
  dsimp only [args, ModFwdRefIdeal.Forms.args]
  blk_simp [iblk, idx t]
  entry_read
  blk_ext [idx t]

theorem blk2 (c : Dev nD) (t : Fin cfg0.N) (i : Fin 2) (j : Fin 768) : iblk m c 2 t (ix3 i 0 j) = (args m c).b i j := by
  dsimp only [args, ModFwdRefIdeal.Forms.args]
  blk_simp [iblk, idx t]
  entry_read
  pointwise
  blk_ext [idx t]

/-- What the two stores of the second result hold. -/
theorem part_at (c : Dev nD) (t : Fin cfg0.N) (i : Fin 2) (o : ℕ) (ho : o = i.val) (i1 i2) (r : Fin 8) (j : Fin 768) :
    k0_pay2 (F := Ideal) (iblk m c 0 t) (View.ld (iblk m c 1 t) (Rect.unit (s := S2x1024x768) ![o, 0, 0] S1x1024x768.size i1))
      (View.ld (iblk m c 2 t) (Rect.unit (s := S2x1x768) ![o, 0, 0] S1x1x768.size i2)) (ix2 r j) = (args m c).part i r j := by
  subst ho
  rw [pPart]
  unfold Args.part Args.act
  have e1 : ∀ k, View.ld (iblk m c 1 t) (Rect.unit (s := S2x1024x768) ![i.val, 0, 0] S1x1024x768.size i1) (ix3 0 k j) = (args m c).w i k j :=
    fun k => by
      rw [← blk1 m c t]
      pointwise
  have e2 : View.ld (iblk m c 2 t) (Rect.unit (s := S2x1x768) ![i.val, 0, 0] S1x1x768.size i2) (ix3 0 0 j) = (args m c).b i j := by
    rw [← blk2 m c t]
    pointwise
  simp only [blk0, e1, e2]

theorem zero2 : (![0, 0] : Fin 2 → ℕ) = fun _ => 0 := by funext a; fin_cases a <;> rfl

/-- What the point leaves of the first result. -/
theorem act_out (c : Dev nD) (t : Fin cfg0.N) (y : S8x1024.Idx) :
    out0_3 (iblk m c 0 t) (iblk m c 1 t) (iblk m c 2 t) y = (args m c).act (y 0) (y 1) := by
  unfold out0_3
  rw [View.ld_unit_zero zero2, View.canon_unit_zero zero2]
  idx_vars y
  rw [pAct, blk0]
  rfl

/-- What the point leaves of the second. -/
theorem both_out (c : Dev nD) (t : Fin cfg0.N) (y : S16x768.Idx) :
    out0_4 (iblk m c 0 t) (iblk m c 1 t) (iblk m c 2 t) y = (args m c).both (y 0) (y 1) := by
  unfold out0_4
  canon_tiles x h
  · idx_vars x
    rw [View.ld_unit_zero zero2]
    exact (part_at m c t 1 1 rfl _ _ x0 x1).trans (((args m c).both_eq 1 x0 x1 h0).symm.trans (congrArg ((args m c).both _) (Fin.ext h1.symm)))
  · idx_vars x
    rw [View.ld_unit_zero zero2]
    exact (part_at m c t 0 0 rfl _ _ x0 x1).trans (((args m c).both_eq 0 x0 x1 (h0.trans (by simp))).symm.trans (congrArg ((args m c).both _) (Fin.ext h1.symm)))

theorem act_arr (c : Dev nD) : (dats m 0 c).arrAt 3 cfg0.N = fun i : S8x1024.Idx => (args m c).act (i 0) (i 1) := by
  refine (dats m 0 c).arrAt_eq_of_covers 3 _ (by decide +kernel) fun t hf y => ?_
  idx_vars y
  blk_simp
  rw [after0_3]
  exact (act_out m c t _).trans (congrArg₂ (args m c).act (Fin.ext (by blk_simp [idx t])) (Fin.ext (by blk_simp [idx t])))

theorem both_arr (c : Dev nD) : (dats m 0 c).arrAt 4 cfg0.N = fun i : S16x768.Idx => (args m c).both (i 0) (i 1) := by
  refine (dats m 0 c).arrAt_eq_of_covers 4 _ (by decide +kernel) fun t hf y => ?_
  idx_vars y
  blk_simp
  rw [after0_4]
  exact (both_out m c t _).trans (congrArg₂ (args m c).both (Fin.ext (by blk_simp [idx t])) (Fin.ext (by blk_simp [idx t])))

/-- At every memory the kernel's run and the reference's run, on the same arguments, end with the same two arrays: `silu` of
    the condition and the two modulations. -/
theorem algebraic : Cert.algebraic_ModFwdIdeal_ModFwdRefIdeal := fun m ρ m' ρ' _ hag =>
  ⟨fun c => (dats m 0 c).arrAt 3 cfg0.N, fun c => (dats m 0 c).arrAt 4 cfg0.N, Value.run_blocks m ρ,
    (θ_run _ _ _).mono (fun r h c => by
      obtain ⟨e0, e1, e2⟩ := hag c
      obtain ⟨k0, k1, kk⟩ := h c
      refine ⟨k0.trans ?_, k1.trans ?_, kk⟩
      all_goals clear h hag k0 k1 kk
      · rw [ModFwdRefIdeal.Read.val_main_v0_eq, e0]
        exact (ModFwdRefIdeal.Forms.act_ref _ _ _).trans (act_arr m c).symm
      · rw [ModFwdRefIdeal.Read.val_main_v17_eq, e0, e1, e2]
        exact (ModFwdRefIdeal.Forms.both_ref _ _ _).trans (both_arr m c).symm) (ModFwdRefIdeal.Value.run m' ρ')⟩

end Cert.ModFwdIdeal.Fold
end
-- ==== Proof.DTable.lean ====
/-
  The word that names the slab: the table the call is handed holds 0, so every block it names lies in its array.
-/
module

public import proofs.«01_k».proof.Proof.Gen.NormProj.Frame
public import proofs.«01_k».proof.Proof.Gen.NormProjIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.NormProjIdeal.Table
open Cert.NormProjIdeal Cert.NormProjIdeal.Gen

variable {F : FTy → Type} [FloatOps F] (m : (ℓ : Loc nD τ sig) → Buf (Elt F) ℓ)

/-- The arrays at the region's entry, as the host lines leave them. -/
theorem V_eq (c : Dev nD) (b : Ref sig .tc) : V m c b = StableHlo.after hostOps0 (fun b => m (c, b)) b := by
  unfold V V0
  rw [List.flatten_cons, List.flatten_nil, List.append_nil]

/-- The table's word is 0. -/
theorem word (i : S1.Idx) : V m (0 : Dev nD) main_v5 i = (0#32 : BitVec 32) := by
  rw [V_eq]
  entry_read
  rfl

/-- The weight's block is the first slab, -/
theorem index4 (i : grid0.Coords) : cc0_transform_4 (F := F) inb_S1_S1_0 numel1_S1 (tbl m) i = ![0, 0] := by
  unfold cc0_transform_4
  exact congrArg (fun w : BitVec 32 => ![0, w.toNat]) (word m _)

/-- and a point's block of the result lies in the first slab. -/
theorem index7 (i : grid0.Coords) : cc0_transform_7 (F := F) inb_S1_S1_0 numel1_S1 (tbl m) i = ![0, (i 0).val, 0] := by
  unfold cc0_transform_7
  refine (congrArg (fun w : BitVec 32 => ![w.toNat, (BitVec.ofNat 32 (i 0).val).toNat, 0]) (word m _)).trans ?_
  rw [show (BitVec.ofNat 32 (i 0).val).toNat = (i 0).val from by rw [BitVec.toNat_ofNat]; have : (i 0).val < 8 := (i 0).isLt; omega]
  rfl

/-- The blocks the word names lie in their arrays. -/
theorem ok : Ok m := by
  unfold Ok ok0
  simp only [index4, index7]
  exact ⟨fun _ => ⟨by decide +kernel, .inr (Affine.block_words_dvd (of_decide_eq_true rfl) (by decide))⟩, fun i => ⟨by
    revert i; decide +kernel, .inl rfl⟩⟩

end Cert.NormProjIdeal.Table

/-- The same of the kernel before idealization, whose text is the same. -/
theorem Cert.NormProj.Table.ok {F : FTy → Type} [FloatOps F]
    (m : (ℓ : Loc Cert.NormProj.nD Cert.NormProj.τ Cert.NormProj.sig) → Buf (Elt F) ℓ) : Cert.NormProj.Gen.Ok m :=
  (by sl_kernel_rfl : Cert.NormProjIdeal.Gen.Ok (F := F) m = Cert.NormProj.Gen.Ok m) ▸ Cert.NormProjIdeal.Table.ok (F := F) m

end
-- ==== Proof.DValue.lean ====
/-
  The normalised, modulated rows and their product with one slab of the input projection's weight: what the call leaves in
  its two results, what the reference computes, and that they are the same.
-/
module

public import proofs.«01_k».proof.Defs
public import proofs.«01_k».proof.Proof.DTable
public import proofs.«01_k».proof.Proof.NormBwd
public import proofs.«01_k».proof.Proof.Gen.NormProjRefIdeal.Read
public import proofs.«01_k».proof.Proof.Gen.NormProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace NormFwd

/-- The rows, the norm's gain, the modulation's scale and shift, and the weight. -/
structure Args where
  x : Fin 8192 → Fin 1024 → EReal
  g : Fin 1024 → EReal
  sc : Fin 1024 → EReal
  sh : Fin 1024 → EReal
  w : Fin 1024 → Fin 8192 → EReal

/-- The modulated normalised row. -/
def Args.h (A : Args) (s : Fin 8192) (d : Fin 1024) : EReal := A.x s d * Cert.NormBwd.rs A.x s * A.g d * (1 + A.sc d) + A.sh d

/-- Its product with the first slab of the weight. -/
def Args.p (A : Args) (s : Fin 8192) (k : Fin 2048) : EReal := ∑ d, A.h s d * A.w d ⟨k.val, by omega⟩

end NormFwd

/-! ## The reference -/

namespace Cert.NormProjRefIdeal.Forms
open Cert.NormProjRefIdeal Cert.NormProjRefIdeal.Read NormFwd

variable (x0 : (⟨S1x8192x1024, .f32⟩ : BufTy).Contents (Elt Ideal)) (x1 : (⟨S1x1024, .f32⟩ : BufTy).Contents (Elt Ideal))
  (x2 : (⟨S1x3072, .f32⟩ : BufTy).Contents (Elt Ideal)) (x3 : (⟨S1x1024x8192, .f32⟩ : BufTy).Contents (Elt Ideal))

/-- The arguments by row, channel and column. -/
def args : Args where
  x s d := x0 (ix3 0 s d)
  g d := x1 (ix2 0 d)
  sc d := x2 (ix2 0 ⟨1024 + d.val, by omega⟩)
  sh d := x2 (ix2 0 ⟨d.val, by omega⟩)
  w d k := x3 (ix3 0 d k)

theorem v12 (s : Fin 8192) : val_main_v12 (F := Ideal) x0 (ix3 0 s 0) = NormBwd.rs (args x0 x1 x2 x3).x s := by
  unfold NormBwd.rs NormBwd.msq
  pointwise [val_main_v12, val_main_v11, val_main_v10, val_main_cst_1, val_main_v9, val_main_v8, val_main_cst_0, val_main_v7, val_main_v6, val_main_v5,
    val_main_cst]
  rfl

theorem v23 (s : Fin 8192) (d : Fin 1024) : val_main_v23 (F := Ideal) x0 x1 x2 (ix3 0 s d) = (args x0 x1 x2 x3).h s d := by
  unfold Args.h
  pointwise [val_main_v23, val_main_v22, val_main_v1, val_main_v0, val_main_v21, val_main_v20, val_main_v19, val_main_v18, val_main_cst_2, val_main_v2,
    val_main_v17, val_main_v16, val_main_v15, val_main_v4, val_main_v14, val_main_v13]
  rw [v12 x0 x1 x2 x3]
  rfl

theorem h_ref : val_main_v27 (F := Ideal) x0 x1 x2 = fun i : S8192x1024.Idx => (args x0 x1 x2 x3).h (i 0) (i 1) := by
  funext i
  idx_vars i
  pointwise [val_main_v27, val_main_v26]
  exact v23 x0 x1 x2 x3 i0 i1

theorem p_ref : val_main_v32 (F := Ideal) x0 x1 x2 x3 = fun i : S8192x2048.Idx => (args x0 x1 x2 x3).p (i 0) (i 1) := by
  funext i
  idx_vars i
  unfold Args.p
  pointwise [val_main_v32, val_main_v28, val_main_v25, val_main_v24]
  simp only [v23 x0 x1 x2 x3]
  rfl

end Cert.NormProjRefIdeal.Forms

/-! ## The kernel -/

namespace Cert.NormProjIdeal.Fold
open Cert.NormProjIdeal Cert.NormProjIdeal.Gen Cert.NormProjIdeal.Table NormFwd

/-- The stored rows. -/
theorem pRows (x : Vec Ideal S1024x1024 .f32) (g sc sh : Vec Ideal S1x1024 .f32) (r d : Fin 1024) :
    k0_pay1 (F := Ideal) x g sc sh (ix2 r d)
      = x (ix2 r d) * NormBwd.rs (fun r d => x (ix2 r d)) r * g (ix2 0 d) * (1 + sc (ix2 0 d)) + sh (ix2 0 d) := by
  unfold NormBwd.rs NormBwd.msq
  pointwise [k0_pay1]

/-- The stored product. -/
theorem pProj (x : Vec Ideal S1024x1024 .f32) (g sc sh : Vec Ideal S1x1024 .f32) (w : Vec Ideal S1024x2048 .bf16) (r : Fin 1024) (k : Fin 2048) :
    k0_pay2 (F := Ideal) x g sc sh w (ix3 0 r k) = ∑ d, k0_pay1 (F := Ideal) x g sc sh (ix2 r d) * w (ix2 d k) := by
  pointwise [k0_pay2]

variable (m : (ℓ : Loc nD τ sig) → Buf (Elt Ideal) ℓ)

abbrev args (c : Dev nD) : Args := NormProjRefIdeal.Forms.args (m ((c : Thread nD τ).loc main_arg0)) (m ((c : Thread nD τ).loc main_arg1))
  (m ((c : Thread nD τ).loc main_arg2)) (m ((c : Thread nD τ).loc main_arg3))

abbrev C : Pipeline.Cfg sig Λ₀ := cfgM m (ok m)

theorem zero2 : (![0, 0] : Fin 2 → ℕ) = fun _ => 0 := by funext a; fin_cases a <;> rfl

theorem idx : ∀ t : Fin grid0.N, cc0_transform_0 (grid0.coords t) = ![t.val, 0] ∧ cc0_transform_1 (grid0.coords t) = ![0, 0]
    ∧ cc0_transform_2 (grid0.coords t) = ![0, 0] ∧ cc0_transform_3 (grid0.coords t) = ![0, 0] ∧ cc0_transform_6 (grid0.coords t) = ![t.val, 0]
    ∧ (grid0.coords t 0).val = t.val := by decide +kernel

/-- The row of point `t`'s block. -/
abbrev row (t : Fin (C m).N) (r : Fin 1024) : Fin 8192 := ⟨t.val * 1024 + r.val, by have : t.val < 8 := t.isLt; omega⟩

theorem emb0 (t : Fin (C m).N) (r d : Fin 1024) : (((C m).win 0).blk t).view.emb (ix2 r d) = (ix2 (row m t r) d : S8192x1024.Idx) := by
  funext a
  refine Fin.ext ((((C m).win 0).rect_emb_val t (ix2 r d) a).trans ?_)
  rw [show ((C m).win 0).index t = ![t.val, 0] from (idx t).1]
  fin_cases a
  · rfl
  · exact Nat.zero_add _

theorem blk0 (c : Dev nD) (t : Fin (C m).N) (r d : Fin 1024) : iblk m (ok m) c 0 t (ix2 r d) = (args m c).x (row m t r) d := by
  show V m c main_v2 ((((C m).win 0).blk t).view.emb (ix2 r d)) = _
  rw [emb0, V_eq]
  entry_read
  pointwise
  rfl

/-- A window whose block is its whole array, or the array's first block, reads the array where the block does. -/
theorem emb_zero (w : Fin 8) (t : Fin (C m).N) (h : ((C m).win w).index t = fun _ => 0) (y : (((C m).win w).xblock ((C m).grid.coords t)).Idx)
    (a : Fin ((C m).win w).shape.rank) : ((((C m).win w).rect t).emb y a : ℕ) = y a :=
  ((C m).win w).rect_emb_val_of_index_zero t a (congrFun h a) y

theorem emb1 (t : Fin (C m).N) (d : Fin 1024) : (((C m).win 1).blk t).view.emb (ix2 0 d) = (ix2 0 d : S1x1024.Idx) := by
  funext a
  refine Fin.ext ((emb_zero m 1 t ((idx t).2.1.trans zero2) (ix2 0 d) a).trans ?_)
  fin_cases a <;> rfl

theorem emb2 (t : Fin (C m).N) (d : Fin 1024) : (((C m).win 2).blk t).view.emb (ix2 0 d) = (ix2 0 d : S1x1024.Idx) := by
  funext a
  refine Fin.ext ((emb_zero m 2 t ((idx t).2.2.1.trans zero2) (ix2 0 d) a).trans ?_)
  fin_cases a <;> rfl

theorem emb3 (t : Fin (C m).N) (d : Fin 1024) : (((C m).win 3).blk t).view.emb (ix2 0 d) = (ix2 0 d : S1x1024.Idx) := by
  funext a
  refine Fin.ext ((emb_zero m 3 t ((idx t).2.2.2.1.trans zero2) (ix2 0 d) a).trans ?_)
  fin_cases a <;> rfl

theorem emb4 (t : Fin (C m).N) (d : Fin 1024) (k : Fin 2048) :
    (((C m).win 4).blk t).view.emb (ix2 d k) = (ix2 d ⟨k.val, by omega⟩ : S1024x8192.Idx) := by
  funext a
  refine Fin.ext ((emb_zero m 4 t ((index4 m (grid0.coords t)).trans zero2) (ix2 d k) a).trans ?_)
  fin_cases a <;> rfl

theorem emb6 (t : Fin (C m).N) (r d : Fin 1024) : (((C m).win 6).blk t).view.emb (ix2 r d) = (ix2 (row m t r) d : S8192x1024.Idx) := by
  funext a
  refine Fin.ext ((((C m).win 6).rect_emb_val t (ix2 r d) a).trans ?_)
  rw [show ((C m).win 6).index t = ![t.val, 0] from (idx t).2.2.2.2.1]
  fin_cases a
  · rfl
  · exact Nat.zero_add _

theorem index7' (t : Fin (C m).N) : ((C m).win 7).index t = ![0, t.val, 0] :=
  (index7 m _).trans (congrArg (fun n => ![0, n, 0]) (idx t).2.2.2.2.2)

theorem emb7 (t : Fin (C m).N) (r : Fin 1024) (k : Fin 2048) :
    (((C m).win 7).blk t).view.emb (ix3 0 r k : S1x1024x2048.Idx) = (ix3 0 (row m t r) k : S4x8192x2048.Idx) := by
  funext a
  refine Fin.ext ((((C m).win 7).rect_emb_val t (ix3 0 r k) a).trans ?_)
  rw [index7']
  fin_cases a
  · rfl
  · rfl
  · exact Nat.zero_add _

theorem blk1 (c : Dev nD) (t : Fin (C m).N) (d : Fin 1024) : iblk m (ok m) c 1 t (ix2 0 d) = (args m c).g d := by
  show V m c main_arg1 ((((C m).win 1).blk t).view.emb (ix2 0 d)) = _
  rw [emb1, V_main_arg1]
  rfl

theorem blk2 (c : Dev nD) (t : Fin (C m).N) (d : Fin 1024) : iblk m (ok m) c 2 t (ix2 0 d) = (args m c).sc d := by
  show V m c main_v1 ((((C m).win 2).blk t).view.emb (ix2 0 d)) = _
  rw [emb2, V_eq]
  entry_read
  pointwise
  rfl

theorem blk3 (c : Dev nD) (t : Fin (C m).N) (d : Fin 1024) : iblk m (ok m) c 3 t (ix2 0 d) = (args m c).sh d := by
  show V m c main_v0 ((((C m).win 3).blk t).view.emb (ix2 0 d)) = _
  rw [emb3, V_eq]
  entry_read
  pointwise
  rfl

theorem blk4 (c : Dev nD) (t : Fin (C m).N) (d : Fin 1024) (k : Fin 2048) :
    iblk m (ok m) c 4 t (ix2 d k) = (args m c).w d ⟨k.val, by omega⟩ := by
  show V m c main_v4 ((((C m).win 4).blk t).view.emb (ix2 d k)) = _
  rw [emb4, V_eq]
  entry_read
  pointwise
  rfl

/-- The rows of point `t`'s blocks, -/
theorem rows (c : Dev nD) (t : Fin (C m).N) (r d : Fin 1024) :
    k0_pay1 (F := Ideal) (iblk m (ok m) c 0 t) (iblk m (ok m) c 1 t) (iblk m (ok m) c 2 t) (iblk m (ok m) c 3 t) (ix2 r d)
      = (args m c).h (row m t r) d := by
  refine (pRows _ _ _ _ r d).trans ?_
  have e : (fun d => iblk m (ok m) c 0 t (ix2 r d)) = (args m c).x (row m t r) := funext fun d => blk0 m c t r d
  unfold Args.h
  refine congrArg₂ (· + ·) (congrArg₂ (· * ·) (congrArg₂ (· * ·) (congrArg₂ (· * ·) (blk0 m c t r d) ?_) (blk1 m c t d))
    (congrArg (1 + ·) (blk2 m c t d))) (blk3 m c t d)
  exact congrArg (fun X : Fin 1024 → EReal =>
    Ideal.rsqrt (Ideal.div (∑ k, X k * X k) (Ideal.ofBits .f32 1149239296#32) + Ideal.ofBits .f32 897988541#32)) e

/-- what the point leaves of them, -/
theorem point_h (c : Dev nD) (t : Fin (C m).N) (r d : Fin 1024) : (outsAt0 m (ok m) c t).1 (ix2 r d) = (args m c).h (row m t r) d := by
  unfold outsAt0
  frame_out
  refine (congrFun (congr (congr (congr (congrArg (k0_pay1 (F := Ideal)) (Memref.IsWhole.read_unread _ _)) (Memref.IsWhole.read_unread _ _))
    (Memref.IsWhole.read_unread _ _)) (Memref.IsWhole.read_unread _ _)) _).trans ?_
  exact rows m c t r d

/-- and of their product. -/
theorem point_p (c : Dev nD) (t : Fin (C m).N) (r : Fin 1024) (k : Fin 2048) :
    (outsAt0 m (ok m) c t).2 (ix3 0 r k) = (args m c).p (row m t r) k := by
  unfold outsAt0
  frame_out
  refine (congrFun (congr (congr (congr (congr (congrArg (k0_pay2 (F := Ideal)) (Memref.IsWhole.read_unread _ _)) (Memref.IsWhole.read_unread _ _))
    (Memref.IsWhole.read_unread _ _)) (Memref.IsWhole.read_unread _ _)) (Memref.IsWhole.read_unread _ _)) _).trans ?_
  refine (pProj _ _ _ _ _ r k).trans (Finset.sum_congr rfl fun d _ => ?_)
  exact congrArg₂ (· * ·) (rows m c t r d) (blk4 m c t d k)

theorem flush6 (t : Fin (C m).N) : ((C m).win 6).flush t = true := flush0_6 _ t

theorem flush7 (t : Fin (C m).N) : ((C m).win 7).flush t = true := by
  refine (Pipeline.Window.flush_out _ rfl t).mpr ?_
  by_cases h : t.val + 1 = 8
  · exact .inl h
  · refine .inr ⟨show t.val + 1 < 8 from by have : t.val < 8 := t.isLt; omega, fun e => ?_⟩
    rw [index7', index7'] at e
    have := congrFun e 1
    simp at this

theorem stored6 (c : Dev nD) (t : Fin (C m).N) (y : S1024x1024.Idx) :
    (dats m (ok m) 0 c).after 6 t y = (fun i : S8192x1024.Idx => (args m c).h (i 0) (i 1)) ((((C m).win 6).blk t).view.emb y) := by
  rw [after0_6]
  idx_vars y
  exact (point_h m c t y0 y1).trans (congrArg (fun i : S8192x1024.Idx => (args m c).h (i 0) (i 1)) (emb6 m t y0 y1).symm)

theorem cover6 (i : S8192x1024.Idx) : ∃ t : Fin (C m).N, ((C m).win 6).flush t = true ∧ i ∈ (((C m).win 6).blk t).view.set := by
  have h0 : (i 0).val < 8192 := (i 0).isLt
  have h1 : (i 1).val < 1024 := (i 1).isLt
  refine ⟨⟨(i 0).val / 1024, show _ < 8 by omega⟩, flush6 m _, ?_⟩
  refine (((C m).win 6).emb_mem_blk_iff _ i).mpr fun a => ?_
  rw [show ((C m).win 6).index _ = ![_, 0] from (idx _).2.2.2.2.1]
  fin_cases a
  · show (i 0).val / 1024 * 1024 ≤ (i 0).val ∧ (i 0).val < (i 0).val / 1024 * 1024 + 1024
    omega
  · show 0 * 1024 ≤ (i 1).val ∧ (i 1).val < 0 * 1024 + 1024
    omega

/-- The rows the call returns. -/
theorem h_arr (c : Dev nD) : (dats m (ok m) 0 c).arrAt 6 (C m).N = fun i : S8192x1024.Idx => (args m c).h (i 0) (i 1) :=
  (dats m (ok m) 0 c).arrAt_eq_of_emb 6 _ (fun t _ y => stored6 m c t y) (cover6 m)

theorem stored7 (c : Dev nD) (t : Fin (C m).N) (y : S1x1024x2048.Idx) (i : S4x8192x2048.Idx) (hi : (((C m).win 7).blk t).view.emb y = i) :
    (dats m (ok m) 0 c).after 7 t y = (args m c).p (i 1) (i 2) := by
  rw [after0_7]
  have e : y = ix3 0 (y 1) (y 2) := by
    idx_vars y
    exact congrArg (fun z => ix3 z y1 y2) (Subsingleton.elim _ _)
  have ei : i = ix3 0 (row m t (y 1)) (y 2) := hi.symm.trans ((congrArg _ e).trans (emb7 m t (y 1) (y 2)))
  rw [e, ei]
  exact point_p m c t (y 1) (y 2)

theorem mem7 (s : Fin 8192) (k : Fin 2048) (i : S4x8192x2048.Idx) (hi : i = ix3 0 s k) (t : Fin (C m).N) (ht : t.val = s.val / 1024) :
    i ∈ (((C m).win 7).blk t).view.set := by
  subst hi
  refine (((C m).win 7).emb_mem_blk_iff t (ix3 0 s k)).mpr fun a => ?_
  rw [index7', ht]
  fin_cases a
  · exact ⟨le_refl 0, Nat.zero_lt_one⟩
  · show s.val / 1024 * 1024 ≤ s.val ∧ s.val < s.val / 1024 * 1024 + 1024
    omega
  · show 0 * 2048 ≤ k.val ∧ k.val < 0 * 2048 + 2048
    omega

/-- The slab of the product the call writes. -/
theorem p_arr (c : Dev nD) (s : Fin 8192) (k : Fin 2048) :
    (dats m (ok m) 0 c).arrAt 7 (C m).N (ix3 0 s k : S4x8192x2048.Idx) = (args m c).p s k :=
  (dats m (ok m) 0 c).arrAt_forall_of_flushed 7 (fun i v => v = (fun i : S4x8192x2048.Idx => (args m c).p (i 1) (i 2)) i)
    (fun t _ y => stored7 m c t y _ rfl) (C m).N ⟨s.val / 1024, show _ < 8 by omega⟩ _ (Fin.isLt _) (flush7 m _) (mem7 m s k _ rfl _ rfl)

/-- The product the call returns. -/
def proj (c : Dev nD) : S8192x2048.Idx → EReal := fun i => (args m c).p (i 0) (i 1)

theorem tail (c : Dev nD) :
    Pipeline.afterTail pcfgs (fun _ => adm m (ok m)) (dats m (ok m)) 0 (V0 m) [hostOps1] c main_v9 = proj m c := by
  unfold Pipeline.afterTail
  rw [List.flatten_cons, List.flatten_nil, List.append_nil]
  entry_read
  funext i
  idx_vars i
  pointwise
  refine (congrFun (Pipeline.withArrays_arr spec0 (by decide) c (V0 m c) (fun w => (dats m (ok m) 0 c).arrAt w (C m).N) 7) _).trans ?_
  exact p_arr m c i0 i1

/-- The call's run: what it returns, its arguments kept. -/
theorem run_blocks (ρ : Dev nD → PrngReg) : θ_run defs (onTc (τ := τ) (main (F := Ideal))) ⟨m, fun _ => 0, ρ⟩ fun r => ∀ c : Dev nD,
      r.2.mem ((c : Thread nD τ).loc main_v7_0) = (dats m (ok m) 0 c).arrAt 6 (C m).N
      ∧ r.2.mem ((c : Thread nD τ).loc main_v9) = proj m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 6,
      ((h c).2 main_v9 (show main_v9 ∈ Pipeline.restRefs sig spec0 by decide)).trans (tail m c),
      ((h c).2 main_arg0 (show main_arg0 ∈ Pipeline.restRefs sig spec0 by decide)).trans (W_main_arg0 m (ok m) (dats m (ok m)) c),
      ((h c).1 1).trans (((dats m (ok m) 0 c).arrAt_in 1 rfl _).trans ((A_eq m (ok m) c 1).trans (V_main_arg1 m c))),
      ((h c).2 main_arg2 (show main_arg2 ∈ Pipeline.restRefs sig spec0 by decide)).trans (W_main_arg2 m (ok m) (dats m (ok m)) c),
      ((h c).2 main_arg3 (show main_arg3 ∈ Pipeline.restRefs sig spec0 by decide)).trans (W_main_arg3 m (ok m) (dats m (ok m)) c)⟩)
    (run_main m ρ (ok m))

theorem algebraic : Cert.algebraic_NormProjIdeal_NormProjRefIdeal := fun m ρ m' ρ' _ hag =>
  ⟨fun c => (dats m (ok m) 0 c).arrAt 6 (C m).N, fun c => proj m c, run_blocks m ρ,
    (θ_run _ _ _).mono (fun r h c => by
      obtain ⟨e0, e1, e2, e3⟩ := hag c
      obtain ⟨k0, k1, kk⟩ := h c
      refine ⟨k0.trans ?_, k1.trans ?_, kk⟩
      all_goals clear h hag k0 k1 kk
      · rw [NormProjRefIdeal.Read.val_main_v27_eq, e0, e1, e2]
        exact (NormProjRefIdeal.Forms.h_ref _ _ _ (m ((c : Thread nD τ).loc main_arg3))).trans (h_arr m c).symm
      · rw [NormProjRefIdeal.Read.val_main_v32_eq, e0, e1, e2, e3]
        exact NormProjRefIdeal.Forms.p_ref _ _ _ _) (NormProjRefIdeal.Value.run m' ρ')⟩

end Cert.NormProjIdeal.Fold
end
-- ==== Proof.Products.lean ====
/-
  A plain product: the host's sum over a contracted index that is one number, and a product accumulated over blocks of rows.
-/
module

public import Idealize.ShloMosaic.Lib.Pointwise

@[expose] public section

noncomputable section

open Idealize.ShloMosaic

namespace Cert.Math

/-- Where the contracted index is one number `k`, with the two operands read at `l k` and `r k`, the product is the sum over it. -/
theorem matmul_sum {sl sr so : Shape} (D : DotDims sl sr so) {n : ℕ} (e : Fin n ≃ D.contr.Idx) (a : sl.Idx → EReal) (b : sr.Idx → EReal)
    (i : so.Idx) (l : Fin n → sl.Idx) (r : Fin n → sr.Idx) (hl : ∀ k, D.lhsIdx i (e k) = l k) (hr : ∀ k, D.rhsIdx i (e k) = r k) :
    Ideal.matmul D a b (fun _ => 0) i = ∑ k, a (l k) * b (r k) := by
  unfold Ideal.matmul
  rw [zero_add]
  exact (Fintype.sum_equiv e _ _ fun k => by rw [hl, hr]).symm

/-- The gradient of `h @ w` at `w`, of the rows `h` and the cotangent `p`. -/
def dw {S D E : ℕ} (h : Fin S → Fin D → EReal) (p : Fin S → Fin E → EReal) (d : Fin D) (k : Fin E) : EReal := ∑ s, h s d * p s k

end Cert.Math
end
-- ==== Proof.IValue.lean ====
/-
  The input projection's weight gradient: the normed rows times the projection's cotangent, accumulated over blocks of rows,
  one slab of columns after another. What the call leaves in its result, what the derivative of the product computes, and that
  they are the same.
-/
module

public import proofs.«01_k».proof.Defs
public import proofs.«01_k».proof.Proof.Products
public import proofs.«01_k».proof.Proof.Gen.DwInIdeal.Value
public import proofs.«01_k».proof.Proof.Gen.DwInRefIdeal.Read
public import proofs.«01_k».proof.Proof.Gen.DwInRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Math (dw)

/-! ## The reference -/

namespace Cert.DwInRefIdeal.Forms
open Cert.DwInRefIdeal Cert.DwInRefIdeal.Read

variable (x0 : (⟨S1x8192x1024, .f32⟩ : BufTy).Contents (Elt Ideal)) (x1 : (⟨S1x8192x8192, .f32⟩ : BufTy).Contents (Elt Ideal))

/-- The rows and the cotangent. -/
def Y (s : Fin 8192) (d : Fin 1024) : EReal := x0 (ix3 0 s d)
def P (s : Fin 8192) (k : Fin 8192) : EReal := x1 (ix3 0 s k)

/-- The contracted index is the row. -/
def rows : Fin 8192 ≃ dot_S1x8192x8192_S1x8192x1024_S8192x1024_01_01_2_2_n_n.contr.Idx where
  toFun x := fun
    | ⟨0, _⟩ => (0 : Fin 1)
    | ⟨1, _⟩ => x
  invFun q := q ⟨1, by decide⟩
  left_inv _ := rfl
  right_inv q := by
    funext p
    match p with
    | ⟨0, _⟩ => exact Subsingleton.elim (α := Fin 1) _ _
    | ⟨1, _⟩ => rfl

theorem v3 (d : Fin 8192) (k : Fin 1024) : val_main_v3 (F := Ideal) x0 x1 (ix2 d k) = dw (P x1) (Y x0) d k := by
  refine (Cert.Math.matmul_sum _ rows x1 x0 _ (fun s => ix3 0 s d) (fun s => ix3 0 s k) (fun s => ?_) (fun s => ?_)).trans rfl
  all_goals
    funext a
    match a with
    | ⟨0, _⟩ => rfl
    | ⟨1, _⟩ => rfl
    | ⟨2, _⟩ => rfl

theorem out_ref : val_main_v7 (F := Ideal) x0 x1 = fun i : S1024x8192.Idx => dw (Y x0) (P x1) (i 0) (i 1) := by
  funext i
  idx_vars i
  pointwise [val_main_v7, val_main_v6, val_main_v5, val_main_v4]
  rw [v3]
  exact Finset.sum_congr rfl fun s _ => mul_comm _ _

end Cert.DwInRefIdeal.Forms

/-! ## The kernel -/

namespace Cert.DwInIdeal.Fold
open Cert.DwInIdeal Cert.DwInIdeal.Gen

variable (m : (ℓ : Loc nD τ sig) → Buf (Elt Ideal) ℓ)

abbrev Y (c : Dev nD) := DwInRefIdeal.Forms.Y (m ((c : Thread nD τ).loc main_arg0))
abbrev P (c : Dev nD) := DwInRefIdeal.Forms.P (m ((c : Thread nD τ).loc main_arg1))

theorem idx : ∀ t : Fin cfg0.N, win0_0.index t = ![t.val % 4, 0] ∧ win0_1.index t = ![t.val / 4, t.val % 4, 0] ∧ win0_2.index t = ![0, t.val / 4] :=
  (by decide +kernel : ∀ t : Fin grid0.N, _)

/-- Column `k` of the slab of point `t`, and row `r` of its row block. -/
abbrev col (t : Fin cfg0.N) (k : Fin 2048) : Fin 8192 := ⟨t.val / 4 * 2048 + k.val, by have := t.isLt; have : cfg0.N = 16 := N_0; omega⟩
abbrev row (t : Fin cfg0.N) (r : Fin 2048) : Fin 8192 := ⟨t.val % 4 * 2048 + r.val, by omega⟩

theorem blk0 (c : Dev nD) (t : Fin cfg0.N) (r : Fin 2048) (d : Fin 1024) : iblk m c 0 t (ix2 r d) = Y m c (row t r) d := by
  unfold Y DwInRefIdeal.Forms.Y
  blk_simp [iblk, idx t]
  entry_read
  pointwise
  blk_ext [idx t]

theorem blk1 (c : Dev nD) (t : Fin cfg0.N) (r k : Fin 2048) : iblk m c 1 t (ix3 0 r k) = P m c (row t r) (col t k) := by
  unfold P DwInRefIdeal.Forms.P
  blk_simp [iblk, idx t]
  entry_read
  pointwise
  blk_ext [idx t]

/-- A point's product of its two blocks. -/
theorem p1 (c : Dev nD) (t : Fin cfg0.N) (d : Fin 1024) (k : Fin 2048) :
    k0_pay1 (iblk m c 0 t) (iblk m c 1 t) (ix2 d k) = ∑ r, Y m c (row t r) d * P m c (row t r) (col t k) := by
  pointwise [k0_pay1]
  exact Finset.sum_congr rfl fun r _ => congrArg₂ (· * ·) (blk0 m c t r d) (blk1 m c t r k)

theorem p2 (s) (x) (w) (j : S1024x2048.Idx) : k0_pay2 (F := Ideal) s x w j = s j + k0_pay1 x w j := by
  idx_vars j
  pointwise [k0_pay2, k0_pay1]

/-- At the last row block the scratch holds the product over all rows. -/
theorem scratch (c : Dev nD) (t : Fin cfg0.N) (ht : t.val % 4 = 3) (d : Fin 1024) (k : Fin 2048) :
    (outsAt0 m c t.val t.isLt).2 (ix2 d k) = dw (Y m c) (P m c) d (col t k) := by
  rw [Pipeline.eq_sum_fin_of_reset_step_apply_of_flush (fun n h => (outsAt0 m c n h).2) 4 (fun _ => 0)
    (fun t => k0_pay1 (iblk m c 0 t) (iblk m c 1 t)) ?_ ?_ t ht (ix2 d k)]
  · rw [zero_add]
    unfold dw
    rw [Fin.sum_univ_tiles 4 2048 rfl]
    refine Finset.sum_congr rfl fun s _ => ?_
    rw [p1]
    have e1 : (4 * (t.val / 4) + s.val) % 4 = s.val := by omega
    have e2 : (4 * (t.val / 4) + s.val) / 4 = t.val / 4 := by omega
    refine Finset.sum_congr rfl fun r _ => ?_
    simp only [row, col, e1, e2]
  · intro t h j
    rw [zero_add, outsAt0_A m c t h (by omega) (by omega)]
    frame_out
  · intro t h j
    rw [← p2]
    by_cases h3 : t.val % 4 = 3
    · rw [outsAt0_C m c t h (by omega) h3]
      frame_out
      rw [read_unread_whole]
    · rw [outsAt0_B m c t h (by omega) h3]
      frame_out
      rw [read_unread_whole]

/-- There the point stores what the scratch holds. -/
theorem stored (c : Dev nD) (t : Fin cfg0.N) (ht : t.val % 4 = 3) (j : S1024x2048.Idx) :
    (outsAt0 m c t.val t.isLt).1 j = (outsAt0 m c t.val t.isLt).2 j := by
  rw [outsAt0_C m c t (by omega) (by omega) ht]
  frame_out
  pointwise [k0_pay3]

theorem arr (c : Dev nD) : (dats m 0 c).arrAt 2 cfg0.N = fun i : S1024x8192.Idx => dw (Y m c) (P m c) (i 0) (i 1) := by
  refine (dats m 0 c).arrAt_eq_of_covers 2 _ (by decide +kernel) fun t hf y => ?_
  have ht : t.val % 4 = 3 := by
    revert hf
    exact (by decide +kernel : ∀ t : Fin grid0.N, win0_2.flush t = true → t.val % 4 = 3) t
  idx_vars y
  blk_simp
  rw [after0_2, stored m c t ht, scratch m c t ht]
  exact congrArg₂ (dw (Y m c) (P m c)) (Fin.ext (by blk_simp [idx t])) (Fin.ext (by blk_simp [idx t]))

/-- At every memory the kernel's run and the reference's run, on the same arguments, end with the same array: the gradient of
    the input projection's weight. -/
theorem algebraic : Cert.algebraic_DwInIdeal_DwInRefIdeal := fun m ρ m' ρ' _ hag =>
  ⟨fun c => (dats m 0 c).arrAt 2 cfg0.N, Value.run_blocks m ρ,
    (θ_run _ _ _).mono (fun r h c => by
      obtain ⟨e0, e1⟩ := hag c
      obtain ⟨k0, kk⟩ := h c
      refine ⟨k0.trans ?_, kk⟩
      clear h hag k0 kk
      rw [DwInRefIdeal.Read.val_main_v7_eq, e0, e1]
      exact (DwInRefIdeal.Forms.out_ref _ _).trans (arr m c).symm) (DwInRefIdeal.Value.run m' ρ')⟩

end Cert.DwInIdeal.Fold
end
-- ==== Proof.OValue.lean ====
/-
  The output projection's weight gradient: the rows times the branch's cotangent, accumulated over blocks of rows. What the
  call leaves in its result, what the derivative of the product computes, and that they are the same.
-/
module

public import proofs.«01_k».proof.Defs
public import proofs.«01_k».proof.Proof.Products
public import proofs.«01_k».proof.Proof.Gen.DwOutIdeal.Value
public import proofs.«01_k».proof.Proof.Gen.DwOutRefIdeal.Read
public import proofs.«01_k».proof.Proof.Gen.DwOutRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Math (dw)

/-! ## The reference -/

namespace Cert.DwOutRefIdeal.Forms
open Cert.DwOutRefIdeal Cert.DwOutRefIdeal.Read

variable (x0 : (⟨S1x8192x2048, .f32⟩ : BufTy).Contents (Elt Ideal)) (x1 : (⟨S1x8192x1024, .f32⟩ : BufTy).Contents (Elt Ideal))

/-- The rows and the cotangent. -/
def Y (s : Fin 8192) (k : Fin 2048) : EReal := x0 (ix3 0 s k)
def P (s : Fin 8192) (d : Fin 1024) : EReal := x1 (ix3 0 s d)

/-- The contracted index is the row. -/
def rows : Fin 8192 ≃ dot_S1x8192x1024_S1x8192x2048_S1024x2048_01_01_2_2_n_n.contr.Idx where
  toFun x := fun
    | ⟨0, _⟩ => (0 : Fin 1)
    | ⟨1, _⟩ => x
  invFun q := q ⟨1, by decide⟩
  left_inv _ := rfl
  right_inv q := by
    funext p
    match p with
    | ⟨0, _⟩ => exact Subsingleton.elim (α := Fin 1) _ _
    | ⟨1, _⟩ => rfl

theorem v3 (d : Fin 1024) (k : Fin 2048) : val_main_v3 (F := Ideal) x0 x1 (ix2 d k) = dw (P x1) (Y x0) d k := by
  refine (Cert.Math.matmul_sum _ rows x1 x0 _ (fun s => ix3 0 s d) (fun s => ix3 0 s k) (fun s => ?_) (fun s => ?_)).trans rfl
  all_goals
    funext a
    match a with
    | ⟨0, _⟩ => rfl
    | ⟨1, _⟩ => rfl
    | ⟨2, _⟩ => rfl

theorem out_ref : val_main_v7 (F := Ideal) x0 x1 = fun i : S2048x1024.Idx => dw (Y x0) (P x1) (i 0) (i 1) := by
  funext i
  idx_vars i
  pointwise [val_main_v7, val_main_v6, val_main_v5, val_main_v4]
  rw [v3]
  exact Finset.sum_congr rfl fun s _ => mul_comm _ _

end Cert.DwOutRefIdeal.Forms

/-! ## The kernel -/

namespace Cert.DwOutIdeal.Fold
open Cert.DwOutIdeal Cert.DwOutIdeal.Gen

variable (m : (ℓ : Loc nD τ sig) → Buf (Elt Ideal) ℓ)

abbrev Y (c : Dev nD) := DwOutRefIdeal.Forms.Y (m ((c : Thread nD τ).loc main_arg0))
abbrev P (c : Dev nD) := DwOutRefIdeal.Forms.P (m ((c : Thread nD τ).loc main_arg1))

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- Column `d` of the column block of point `t`, and row `r` of its row block. -/
abbrev col (t : Fin cfg0.N) (d : Fin 1024) : Fin 2048 := ⟨t.val / 4 * 1024 + d.val, by have := t.isLt; have : cfg0.N = 8 := N_0; omega⟩
abbrev row (t : Fin cfg0.N) (r : Fin 2048) : Fin 8192 := ⟨t.val % 4 * 2048 + r.val, by omega⟩

theorem blk0 (c : Dev nD) (t : Fin cfg0.N) (r : Fin 2048) (d : Fin 1024) : iblk m c 0 t (ix2 r d) = Y m c (row t r) (col t d) := by
  unfold Y DwOutRefIdeal.Forms.Y
  blk_simp [iblk, idx t]
  entry_read
  pointwise
  blk_ext [idx t]

theorem blk1 (c : Dev nD) (t : Fin cfg0.N) (r : Fin 2048) (d : Fin 1024) : iblk m c 1 t (ix2 r d) = P m c (row t r) d := by
  unfold P DwOutRefIdeal.Forms.P
  blk_simp [iblk, idx t]
  entry_read
  pointwise
  blk_ext [idx t]

/-- A point's product of its two blocks. -/
theorem p1 (c : Dev nD) (t : Fin cfg0.N) (d k : Fin 1024) :
    k0_pay1 (iblk m c 0 t) (iblk m c 1 t) (ix2 d k) = ∑ r, Y m c (row t r) (col t d) * P m c (row t r) k := by
  pointwise [k0_pay1]
  exact Finset.sum_congr rfl fun r _ => congrArg₂ (· * ·) (blk0 m c t r d) (blk1 m c t r k)

theorem p2 (s x w) (j : S1024x1024.Idx) : k0_pay2 (F := Ideal) s x w j = s j + k0_pay1 x w j := by
  idx_vars j
  pointwise [k0_pay2, k0_pay1]

/-- At the last row block the scratch holds the product over all rows. -/
theorem scratch (c : Dev nD) (t : Fin cfg0.N) (ht : t.val % 4 = 3) (d k : Fin 1024) :
    (outsAt0 m c t.val t.isLt).2 (ix2 d k) = dw (Y m c) (P m c) (col t d) k := by
  rw [Pipeline.eq_sum_fin_of_reset_step_apply_of_flush (fun n h => (outsAt0 m c n h).2) 4 (fun _ => 0)
    (fun t => k0_pay1 (iblk m c 0 t) (iblk m c 1 t)) ?_ ?_ t ht (ix2 d k)]
  · rw [zero_add]
    unfold dw
    rw [Fin.sum_univ_tiles 4 2048 rfl]
    refine Finset.sum_congr rfl fun s _ => ?_
    rw [p1]
    have e1 : (4 * (t.val / 4) + s.val) % 4 = s.val := by omega
    have e2 : (4 * (t.val / 4) + s.val) / 4 = t.val / 4 := by omega
    refine Finset.sum_congr rfl fun r _ => ?_
    simp only [row, col, e1, e2]
  · intro t h j
    rw [zero_add, outsAt0_A m c t h (by omega) (by omega)]
    frame_out
  · intro t h j
    rw [← p2]
    by_cases h3 : t.val % 4 = 3
    · rw [outsAt0_C m c t h (by omega) h3]
      frame_out
      rw [read_unread_whole]
    · rw [outsAt0_B m c t h (by omega) h3]
      frame_out
      rw [read_unread_whole]

/-- There the point stores what the scratch holds. -/
theorem stored (c : Dev nD) (t : Fin cfg0.N) (ht : t.val % 4 = 3) (j : S1024x1024.Idx) :
    (outsAt0 m c t.val t.isLt).1 j = (outsAt0 m c t.val t.isLt).2 j := by
  rw [outsAt0_C m c t (by omega) (by omega) ht]
  frame_out
  pointwise [k0_pay3]

theorem arr (c : Dev nD) : (dats m 0 c).arrAt 2 cfg0.N = fun i : S2048x1024.Idx => dw (Y m c) (P m c) (i 0) (i 1) := by
  refine (dats m 0 c).arrAt_eq_of_covers 2 _ (by decide +kernel) fun t hf y => ?_
  have ht : t.val % 4 = 3 := by
    revert hf
    exact (by decide +kernel : ∀ t : Fin grid0.N, win0_2.flush t = true → t.val % 4 = 3) t
  idx_vars y
  blk_simp
  rw [after0_2, stored m c t ht, scratch m c t ht]
  exact congrArg₂ (dw (Y m c) (P m c)) (Fin.ext (by blk_simp [idx t])) (Fin.ext (by blk_simp [idx t]))

/-- At every memory the kernel's run and the reference's run, on the same arguments, end with the same array: the gradient of
    the output projection's weight. -/
theorem algebraic : Cert.algebraic_DwOutIdeal_DwOutRefIdeal := fun m ρ m' ρ' _ hag =>
  ⟨fun c => (dats m 0 c).arrAt 2 cfg0.N, Value.run_blocks m ρ,
    (θ_run _ _ _).mono (fun r h c => by
      obtain ⟨e0, e1⟩ := hag c
      obtain ⟨k0, kk⟩ := h c
      refine ⟨k0.trans ?_, kk⟩
      clear h hag k0 kk
      rw [DwOutRefIdeal.Read.val_main_v7_eq, e0, e1]
      exact (DwOutRefIdeal.Forms.out_ref _ _).trans (arr m c).symm) (DwOutRefIdeal.Value.run m' ρ')⟩

end Cert.DwOutIdeal.Fold
end
-- ==== Proof.PValue.lean ====
/-
  The input projection's product, whose result is cut into slabs of columns. What the call leaves in its result, what the
  reference's product and cut compute, and that they are the same.
-/
module

public import proofs.«01_k».proof.Defs
public import proofs.«01_k».proof.Proof.Gen.ProjIdeal.Value
public import proofs.«01_k».proof.Proof.Gen.ProjRefIdeal.Read
public import proofs.«01_k».proof.Proof.Gen.ProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The reference -/

namespace Cert.ProjRefIdeal.Forms
open Cert.ProjRefIdeal Cert.ProjRefIdeal.Read

variable (x0 : (⟨S1x8192x1024, .f32⟩ : BufTy).Contents (Elt Ideal)) (x1 : (⟨S1x1024x6144, .f32⟩ : BufTy).Contents (Elt Ideal))

/-- Row `s` of the product, at column `k` of slab `q`. -/
def proj (q : Fin 3) (s : Fin 8192) (k : Fin 2048) : EReal := ∑ d : Fin 1024, x0 (ix3 0 s d) * x1 (ix3 0 d ⟨q.val * 2048 + k.val, by omega⟩)

theorem out_ref : val_main_v5 (F := Ideal) x0 x1 = fun i : S3x8192x2048.Idx => proj x0 x1 (i 0) (i 1) (i 2) := by
  funext i
  idx_vars i
  obtain ⟨q, hq⟩ := i0
  unfold proj
  pointwise [val_main_v5, val_main_v4, val_main_v3, val_main_v2, val_main_v1, val_main_v0]
  interval_cases q
  · rw [dif_pos (by omega)]
    exact Finset.sum_congr rfl fun d _ => congrArg (fun k : Fin 6144 => x0 (ix3 0 i1 d) * x1 (ix3 0 d k)) (Fin.ext (show i2.val = 0 * 2048 + i2.val by omega))
  · rw [dif_neg (by omega), dif_pos (by omega)]
    rfl
  · rw [dif_neg (by omega), dif_neg (by omega)]
    rfl

end Cert.ProjRefIdeal.Forms

/-! ## The kernel -/

namespace Cert.ProjIdeal.Fold
open Cert.ProjIdeal Cert.ProjIdeal.Gen

variable (m : (ℓ : Loc nD τ sig) → Buf (Elt Ideal) ℓ)

abbrev H (c : Dev nD) := m ((c : Thread nD τ).loc main_arg0)
abbrev W (c : Dev nD) := m ((c : Thread nD τ).loc main_arg1)

theorem idx : ∀ t : Fin cfg0.N, win0_0.index t = ![t.val / 3, 0] ∧ win0_1.index t = ![0, t.val % 3] ∧ win0_3.index t = ![t.val % 3, t.val / 3, 0] :=
  (by decide +kernel : ∀ t : Fin grid0.N, _)

/-- Row `r` of the row block of point `t`. -/
abbrev row (t : Fin cfg0.N) (r : Fin 2048) : Fin 8192 := ⟨t.val / 3 * 2048 + r.val, by have := t.isLt; have : cfg0.N = 12 := N_0; omega⟩

theorem blk0 (c : Dev nD) (t : Fin cfg0.N) (r : Fin 2048) (d : Fin 1024) : iblk m c 0 t (ix2 r d) = H m c (ix3 0 (row t r) d) := by
  blk_simp [iblk, idx t]
  entry_read
  pointwise
  blk_ext [idx t]

theorem blk1 (c : Dev nD) (t : Fin cfg0.N) (d : Fin 1024) (k : Fin 2048) :
    iblk m c 1 t (ix2 d k) = W m c (ix3 0 d ⟨t.val % 3 * 2048 + k.val, by omega⟩) := by
  blk_simp [iblk, idx t]
  entry_read
  pointwise
  blk_ext [idx t]

theorem p1 (c : Dev nD) (t : Fin cfg0.N) (z : Fin 1) (r k : Fin 2048) :
    k0_pay1 (iblk m c 0 t) (iblk m c 1 t) (ix3 z r k) = ProjRefIdeal.Forms.proj (H m c) (W m c) ⟨t.val % 3, by omega⟩ (row t r) k := by
  pointwise [k0_pay1]
  exact Finset.sum_congr rfl fun d _ => congrArg₂ (· * ·) (blk0 m c t r d) (blk1 m c t d k)

theorem arr (c : Dev nD) :
    (dats m 0 c).arrAt 3 cfg0.N = fun i : S3x8192x2048.Idx => ProjRefIdeal.Forms.proj (H m c) (W m c) (i 0) (i 1) (i 2) := by
  refine (dats m 0 c).arrAt_eq_of_covers 3 _ (by decide +kernel) fun t hf y => ?_
  idx_vars y
  blk_simp
  rw [after0_3]
  frame_out
  refine (p1 m c t y0 y1 y2).trans ?_
  have key : ∀ (q q' : Fin 3) (s s' : Fin 8192) (k k' : Fin 2048), q = q' → s = s' → k = k' →
      ProjRefIdeal.Forms.proj (H m c) (W m c) q s k = ProjRefIdeal.Forms.proj (H m c) (W m c) q' s' k' := by
    rintro _ _ _ _ _ _ rfl rfl rfl
    rfl
  exact key _ _ _ _ _ _ (Fin.ext (by blk_simp [idx t])) (Fin.ext (by blk_simp [idx t])) (Fin.ext (by blk_simp [idx t]))

/-- At every memory the kernel's run and the reference's run, on the same arguments, end with the same array: the projection's
    slabs. -/
theorem algebraic : Cert.algebraic_ProjIdeal_ProjRefIdeal := fun m ρ m' ρ' _ hag =>
  ⟨fun c => (dats m 0 c).arrAt 3 cfg0.N, Value.run_blocks m ρ,
    (θ_run _ _ _).mono (fun r h c => by
      obtain ⟨e0, e1⟩ := hag c
      obtain ⟨k0, kk⟩ := h c
      refine ⟨k0.trans ?_, kk⟩
      clear h hag k0 kk
      rw [ProjRefIdeal.Read.val_main_v5_eq, e0, e1]
      exact (ProjRefIdeal.Forms.out_ref _ _).trans (arr m c).symm) (ProjRefIdeal.Value.run m' ρ')⟩

end Cert.ProjIdeal.Fold
end
-- ==== Proof.Adam.lean ====
/-
  The optimiser's step at one entry of a parameter.
-/
module

public import Idealize.ShloMosaic.Lib.Pointwise

@[expose] public section

noncomputable section

open Idealize.ShloMosaic

namespace Cert.Adam

/-- The new first moment, of the old one and the gradient. -/
def mom (g m : EReal) : EReal := Ideal.ofBits .f32 0x3F666666#32 * m + Ideal.ofBits .f32 0x3DCCCCCD#32 * g

/-- The new second moment, of the old one and the gradient. -/
def vel (g v : EReal) : EReal := Ideal.ofBits .f32 0x3F7FBE77#32 * v + Ideal.ofBits .f32 0x3A83126F#32 * (g * g)

/-- The step: the corrected first moment over the root of the corrected second moment, with the weight's decay. -/
def delta (w g m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32)
    + Ideal.ofBits .f32 0x3C23D70A#32 * w)

end Cert.Adam
end
-- ==== Proof.UValue.lean ====
/-
  The conditioning layer's update: the gradient of its weight and the optimiser's step. What the call leaves in its four
  results, what the derivative and the step compute, and that they are the same.
-/
module

public import proofs.«01_k».proof.Defs
public import proofs.«01_k».proof.Proof.Adam
public import proofs.«01_k».proof.Proof.Gen.ModUpdateIdeal.Frame
public import proofs.«01_k».proof.Proof.Gen.ModUpdateRefIdeal.Read
public import proofs.«01_k».proof.Proof.Gen.ModUpdateRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Adam (mom vel delta)

/-! ## The reference -/

namespace Cert.ModUpdateRefIdeal.Forms
open Cert.ModUpdateRefIdeal Cert.ModUpdateRefIdeal.Read

variable (x0 : (⟨S8x1024, .f32⟩ : BufTy).Contents (Elt Ideal)) (x1 : (⟨S2x8x768, .f32⟩ : BufTy).Contents (Elt Ideal))
  (x2 x3 x4 : (⟨S2x1024x768, .f32⟩ : BufTy).Contents (Elt Ideal))

/-- The gradient of layer `l`'s weight: over the examples, the activation times the cotangent. -/
def grad (l : Fin 2) (d : Fin 1024) (k : Fin 768) : EReal := ∑ b : Fin 8, x0 (ix2 b d) * x1 (ix3 l b k)

theorem v21 (l : Fin 2) (d : Fin 1024) (k : Fin 768) : val_main_v21 (F := Ideal) x0 x1 (ix3 l d k) = grad x0 x1 l d k := by
  unfold grad
  obtain ⟨l, hl⟩ := l
  pointwise [val_main_v21, val_main_v20, val_main_v19, val_main_v18, val_main_v17, val_main_v16, val_main_v15, val_main_v14, val_main_v13, val_main_v12, val_main_v11, val_main_v10, val_main_v9, val_main_cst, val_main_cst_0]
  interval_cases l
  · rw [dif_neg (by omega), dif_pos (by omega), zero_add]
    exact Finset.sum_congr rfl fun b _ => mul_comm _ _
  · rw [dif_pos (by omega), dif_neg (by omega), add_zero]
    exact Finset.sum_congr rfl fun b _ => mul_comm _ _

theorem v26 (l : Fin 2) (d : Fin 1024) (k : Fin 768) :
    val_main_v26 (F := Ideal) x0 x1 x3 (ix3 l d k) = mom (grad x0 x1 l d k) (x3 (ix3 l d k)) := by
  pointwise [val_main_v26, val_main_v25, val_main_v24, val_main_v23, val_main_v22, val_main_cst_1, val_main_cst_2]
  rw [v21]
  rfl

theorem v32 (l : Fin 2) (d : Fin 1024) (k : Fin 768) :
    val_main_v32 (F := Ideal) x0 x1 x4 (ix3 l d k) = vel (grad x0 x1 l d k) (x4 (ix3 l d k)) := by
  pointwise [val_main_v32, val_main_v31, val_main_v30, val_main_v29, val_main_v28, val_main_v27, val_main_cst_3, val_main_cst_4]
  rw [v21]
  rfl

theorem v45 (l : Fin 2) (d : Fin 1024) (k : Fin 768) : val_main_v45 (F := Ideal) x0 x1 x2 x3 x4 (ix3 l d k)
    = delta (x2 (ix3 l d k)) (grad x0 x1 l d k) (x3 (ix3 l d k)) (x4 (ix3 l d k)) := by
  pointwise [val_main_v45, val_main_v44, val_main_v43, val_main_v42, val_main_v41, val_main_v40, val_main_v39, val_main_v38, val_main_v37, val_main_v36, val_main_v35, val_main_v34, val_main_v33, val_main_cst_5, val_main_cst_6, val_main_cst_7, val_main_cst_8, val_main_cst_9]
  rw [v26, v32]
  rfl

end Cert.ModUpdateRefIdeal.Forms

/-! ## The kernel -/

namespace Cert.ModUpdateIdeal.Fold
open Cert.ModUpdateIdeal Cert.ModUpdateIdeal.Gen

variable (m : (ℓ : Loc nD τ sig) → Buf (Elt Ideal) ℓ)

/-- The weight's gradient, the weight and its two moments. -/
abbrev G (c : Dev nD) (l : Fin 2) (d : Fin 1024) (k : Fin 768) : EReal :=
  ModUpdateRefIdeal.Forms.grad (m ((c : Thread nD τ).loc main_arg0)) (m ((c : Thread nD τ).loc main_arg1)) l d k
abbrev W (c : Dev nD) (l : Fin 2) (d : Fin 1024) (k : Fin 768) : EReal := m ((c : Thread nD τ).loc main_arg2) (ix3 l d k)
abbrev M (c : Dev nD) (l : Fin 2) (d : Fin 1024) (k : Fin 768) : EReal := m ((c : Thread nD τ).loc main_arg3) (ix3 l d k)
abbrev V (c : Dev nD) (l : Fin 2) (d : Fin 1024) (k : Fin 768) : EReal := m ((c : Thread nD τ).loc main_arg4) (ix3 l d k)

theorem idx : ∀ t : Fin cfg0.N, win0_0.index t = ![t.val % 4, 0] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The layer of a point, and the row of its block's row `r`. -/
abbrev lay (t : Fin cfg0.N) : Fin 2 := ⟨t.val / 4, by have := t.isLt; have : cfg0.N = 8 := N_0; omega⟩
abbrev row (t : Fin cfg0.N) (r : Fin 256) : Fin 1024 := ⟨t.val % 4 * 256 + r.val, by omega⟩

theorem blk0 (c : Dev nD) (t : Fin cfg0.N) (r : Fin 256) (b : Fin 8) :
    iblk m c 0 t (ix2 r b) = m ((c : Thread nD τ).loc main_arg0) (ix2 b (row t r)) := by
  blk_simp [iblk, idx t]
  entry_read
  pointwise
  blk_ext [idx t]

theorem blk1 (c : Dev nD) (t : Fin cfg0.N) (z : Fin 1) (b : Fin 8) (k : Fin 768) :
    iblk m c 1 t (ix3 z b k) = m ((c : Thread nD τ).loc main_arg1) (ix3 (lay t) b k) := by
  blk_simp [iblk, idx t]
  entry_read
  blk_ext [idx t]

theorem blk2 (c : Dev nD) (t : Fin cfg0.N) (z : Fin 1) (r : Fin 256) (k : Fin 768) : iblk m c 2 t (ix3 z r k) = W m c (lay t) (row t r) k := by
  blk_simp [iblk, idx t]
  entry_read
  blk_ext [idx t]

theorem blk3 (c : Dev nD) (t : Fin cfg0.N) (z : Fin 1) (r : Fin 256) (k : Fin 768) : iblk m c 3 t (ix3 z r k) = M m c (lay t) (row t r) k := by
  blk_simp [iblk, idx t]
  entry_read
  blk_ext [idx t]

theorem blk4 (c : Dev nD) (t : Fin cfg0.N) (z : Fin 1) (r : Fin 256) (k : Fin 768) : iblk m c 4 t (ix3 z r k) = V m c (lay t) (row t r) k := by
  blk_simp [iblk, idx t]
  entry_read
  blk_ext [idx t]

/-- What the body adds up over the examples is the gradient. -/
theorem p3 (c : Dev nD) (t : Fin cfg0.N) (r : Fin 256) (k : Fin 768) :
    k0_pay3 (iblk m c 0 t) (iblk m c 1 t) (ix2 r k) = G m c (lay t) (row t r) k := by
  unfold G ModUpdateRefIdeal.Forms.grad
  rw [Fin.sum_univ_eight]
  pointwise [k0_pay3]
  simp only [← blk0 m c t, ← blk1 m c t 0]

theorem p5 (x : FVec Ideal S256x768 .f32) (y : Vec Ideal S1x256x768 .f32) (r : Fin 256) (k : Fin 768) :
    k0_pay5 x y (ix2 r k) = mom (x (ix2 r k)) (y (ix3 0 r k)) := by
  pointwise [k0_pay5]
  rfl

theorem p6 (x : FVec Ideal S256x768 .f32) (y : Vec Ideal S1x256x768 .f32) (r : Fin 256) (k : Fin 768) :
    k0_pay6 x y (ix2 r k) = vel (x (ix2 r k)) (y (ix3 0 r k)) := by
  pointwise [k0_pay6]
  rfl

theorem p7 (x : FVec Ideal S256x768 .f32) (w y z : Vec Ideal S1x256x768 .f32) (a : Fin 1) (r : Fin 256) (k : Fin 768) :
    k0_pay7 x w y z (ix3 a r k) = delta (w (ix3 0 r k)) (x (ix2 r k)) (y (ix3 0 r k)) (z (ix3 0 r k)) := by
  pointwise [k0_pay7]
  rw [p5, p6]
  rfl

theorem g_arr (c : Dev nD) : (dats m 0 c).arrAt 5 cfg0.N = fun i : S2x1024x768.Idx => G m c (i 0) (i 1) (i 2) := by
  refine (dats m 0 c).arrAt_eq_of_covers 5 _ (by decide +kernel) fun t hf y => ?_
  idx_vars y
  have e0 : ((View.whole main_v1_0).slice (win0_5.rect t)).emb (ix3 y0 y1 y2) 0 = lay t := Fin.ext (by blk_simp [idx t])
  have e1 : ((View.whole main_v1_0).slice (win0_5.rect t)).emb (ix3 y0 y1 y2) 1 = row t y1 := Fin.ext (by blk_simp [idx t])
  have e2 : ((View.whole main_v1_0).slice (win0_5.rect t)).emb (ix3 y0 y1 y2) 2 = y2 := Fin.ext (by blk_simp [idx t])
  blk_simp
  rw [after0_5, e0, e1, e2]
  unfold out0_5 k0_pay8
  frame_out
  pointwise [k0_pay4]
  exact p3 m c t y1 y2

theorem delta_arr (c : Dev nD) : (dats m 0 c).arrAt 6 cfg0.N = fun i : S2x1024x768.Idx => delta (W m c (i 0) (i 1) (i 2)) (G m c (i 0) (i 1) (i 2)) (M m c (i 0) (i 1) (i 2)) (V m c (i 0) (i 1) (i 2)) := by
  refine (dats m 0 c).arrAt_eq_of_covers 6 _ (by decide +kernel) fun t hf y => ?_
  idx_vars y
  have e0 : ((View.whole main_v1_1).slice (win0_6.rect t)).emb (ix3 y0 y1 y2) 0 = lay t := Fin.ext (by blk_simp [idx t])
  have e1 : ((View.whole main_v1_1).slice (win0_6.rect t)).emb (ix3 y0 y1 y2) 1 = row t y1 := Fin.ext (by blk_simp [idx t])
  have e2 : ((View.whole main_v1_1).slice (win0_6.rect t)).emb (ix3 y0 y1 y2) 2 = y2 := Fin.ext (by blk_simp [idx t])
  blk_simp
  rw [after0_6, e0, e1, e2]
  unfold out0_6 k0_pay8
  frame_out
  rw [p7, p3, blk2, blk3, blk4]

theorem m_arr (c : Dev nD) : (dats m 0 c).arrAt 7 cfg0.N = fun i : S2x1024x768.Idx => mom (G m c (i 0) (i 1) (i 2)) (M m c (i 0) (i 1) (i 2)) := by
  refine (dats m 0 c).arrAt_eq_of_covers 7 _ (by decide +kernel) fun t hf y => ?_
  idx_vars y
  have e0 : ((View.whole main_v1_2).slice (win0_7.rect t)).emb (ix3 y0 y1 y2) 0 = lay t := Fin.ext (by blk_simp [idx t])
  have e1 : ((View.whole main_v1_2).slice (win0_7.rect t)).emb (ix3 y0 y1 y2) 1 = row t y1 := Fin.ext (by blk_simp [idx t])
  have e2 : ((View.whole main_v1_2).slice (win0_7.rect t)).emb (ix3 y0 y1 y2) 2 = y2 := Fin.ext (by blk_simp [idx t])
  blk_simp
  rw [after0_7, e0, e1, e2]
  unfold out0_7 k0_pay8
  frame_out
  pointwise [k0_pay1]
  rw [p5, p3, blk3]

theorem v_arr (c : Dev nD) : (dats m 0 c).arrAt 8 cfg0.N = fun i : S2x1024x768.Idx => vel (G m c (i 0) (i 1) (i 2)) (V m c (i 0) (i 1) (i 2)) := by
  refine (dats m 0 c).arrAt_eq_of_covers 8 _ (by decide +kernel) fun t hf y => ?_
  idx_vars y
  have e0 : ((View.whole main_v1_3).slice (win0_8.rect t)).emb (ix3 y0 y1 y2) 0 = lay t := Fin.ext (by blk_simp [idx t])
  have e1 : ((View.whole main_v1_3).slice (win0_8.rect t)).emb (ix3 y0 y1 y2) 1 = row t y1 := Fin.ext (by blk_simp [idx t])
  have e2 : ((View.whole main_v1_3).slice (win0_8.rect t)).emb (ix3 y0 y1 y2) 2 = y2 := Fin.ext (by blk_simp [idx t])
  blk_simp
  rw [after0_8, e0, e1, e2]
  unfold out0_8 k0_pay8
  frame_out
  pointwise [k0_pay2]
  rw [p6, p3, blk4]

/-- The call's run: its four results, its arguments kept. -/
theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- At every memory the kernel's run and the reference's run, on the same arguments, end with the same four arrays: the
    gradient, the step and the two new moments. -/
theorem algebraic : Cert.algebraic_ModUpdateIdeal_ModUpdateRefIdeal := fun m ρ m' ρ' _ hag =>
  ⟨fun c => (dats m 0 c).arrAt 5 cfg0.N, fun c => (dats m 0 c).arrAt 6 cfg0.N, fun c => (dats m 0 c).arrAt 7 cfg0.N,
    fun c => (dats m 0 c).arrAt 8 cfg0.N, run_blocks m ρ,
    (θ_run _ _ _).mono (fun r h c => by
      obtain ⟨e0, e1, e2, e3, e4⟩ := hag c
      obtain ⟨k0, k1, k2, k3, kk⟩ := h c
      refine ⟨k0.trans ?_, k1.trans ?_, k2.trans ?_, k3.trans ?_, kk⟩
      all_goals clear h hag k0 k1 k2 k3 kk
      · rw [ModUpdateRefIdeal.Read.val_main_v21_eq, e0, e1]
        refine Eq.trans ?_ (g_arr m c).symm
        funext i
        idx_vars i
        exact ModUpdateRefIdeal.Forms.v21 _ _ _ _ _
      · rw [ModUpdateRefIdeal.Read.val_main_v45_eq, e0, e1, e2, e3, e4]
        refine Eq.trans ?_ (delta_arr m c).symm
        funext i
        idx_vars i
        exact ModUpdateRefIdeal.Forms.v45 _ _ _ _ _ _ _ _
      · rw [ModUpdateRefIdeal.Read.val_main_v26_eq, e0, e1, e3]
        refine Eq.trans ?_ (m_arr m c).symm
        funext i
        idx_vars i
        exact ModUpdateRefIdeal.Forms.v26 _ _ _ _ _ _
      · rw [ModUpdateRefIdeal.Read.val_main_v32_eq, e0, e1, e4]
        refine Eq.trans ?_ (v_arr m c).symm
        funext i
        idx_vars i
        exact ModUpdateRefIdeal.Forms.v32 _ _ _ _ _ _) (ModUpdateRefIdeal.Value.run m' ρ')⟩

end Cert.ModUpdateIdeal.Fold
end
-- ==== Proof.WValue.lean ====
/-
  The optimiser's step on a matrix. What the call leaves in its four results, what the reference's step computes, and that
  they are the same.
-/
module

public import proofs.«01_k».proof.Defs
public import proofs.«01_k».proof.Proof.Adam
public import proofs.«01_k».proof.Proof.Gen.AdamWIdeal.Value
public import proofs.«01_k».proof.Proof.Gen.AdamWRefIdeal.Read
public import proofs.«01_k».proof.Proof.Gen.AdamWRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Adam (mom vel delta)

/-! ## The reference -/

namespace Cert.AdamWRefIdeal.Forms
open Cert.AdamWRefIdeal Cert.AdamWRefIdeal.Read

variable (x0 x1 x2 x3 : (⟨S1x1024x2048, .f32⟩ : BufTy).Contents (Elt Ideal))

theorem v4 (r : Fin 1024) (k : Fin 2048) : val_main_v4 (F := Ideal) x1 x2 (ix3 0 r k) = mom (x1 (ix3 0 r k)) (x2 (ix3 0 r k)) := by
  pointwise [val_main_v4, val_main_v3, val_main_v2, val_main_v1, val_main_v0, val_main_cst, val_main_cst_0]
  rfl

theorem v10 (r : Fin 1024) (k : Fin 2048) : val_main_v10 (F := Ideal) x1 x3 (ix3 0 r k) = vel (x1 (ix3 0 r k)) (x3 (ix3 0 r k)) := by
  pointwise [val_main_v10, val_main_v9, val_main_v8, val_main_v7, val_main_v6, val_main_v5, val_main_cst_1, val_main_cst_2]
  rfl

theorem g_ref : val_main_v24 (F := Ideal) x1 = fun i : S1024x2048.Idx => x1 (ix3 0 (i 0) (i 1)) := by
  funext i
  idx_vars i
  pointwise [val_main_v24]

theorem delta_ref : val_main_v25 (F := Ideal) x0 x1 x2 x3 = fun i : S1024x2048.Idx =>
    delta (x0 (ix3 0 (i 0) (i 1))) (x1 (ix3 0 (i 0) (i 1))) (x2 (ix3 0 (i 0) (i 1))) (x3 (ix3 0 (i 0) (i 1))) := by
  funext i
  idx_vars i
  pointwise [val_main_v25, val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [v4, v10]
  rfl

theorem m_ref : val_main_v26 (F := Ideal) x1 x2 = fun i : S1024x2048.Idx => mom (x1 (ix3 0 (i 0) (i 1))) (x2 (ix3 0 (i 0) (i 1))) := by
  funext i
  idx_vars i
  pointwise [val_main_v26]
  exact v4 x1 x2 _ _

theorem v_ref : val_main_v27 (F := Ideal) x1 x3 = fun i : S1024x2048.Idx => vel (x1 (ix3 0 (i 0) (i 1))) (x3 (ix3 0 (i 0) (i 1))) := by
  funext i
  idx_vars i
  pointwise [val_main_v27]
  exact v10 x1 x3 _ _

end Cert.AdamWRefIdeal.Forms

/-! ## The kernel -/

namespace Cert.AdamWIdeal.Fold
open Cert.AdamWIdeal Cert.AdamWIdeal.Gen

variable (m : (ℓ : Loc nD τ sig) → Buf (Elt Ideal) ℓ)

/-- The weight, its gradient and its two moments. -/
abbrev W (c : Dev nD) (r : Fin 1024) (k : Fin 2048) : EReal := m ((c : Thread nD τ).loc main_arg0) (ix3 0 r k)
abbrev G (c : Dev nD) (r : Fin 1024) (k : Fin 2048) : EReal := m ((c : Thread nD τ).loc main_arg1) (ix3 0 r k)
abbrev M (c : Dev nD) (r : Fin 1024) (k : Fin 2048) : EReal := m ((c : Thread nD τ).loc main_arg2) (ix3 0 r k)
abbrev V (c : Dev nD) (r : Fin 1024) (k : Fin 2048) : EReal := m ((c : Thread nD τ).loc main_arg3) (ix3 0 r k)

theorem idx : ∀ t : Fin cfg0.N, win0_0.index t = ![t.val / 2, t.val % 2] ∧ win0_1.index t = ![t.val / 2, t.val % 2]
    ∧ win0_2.index t = ![t.val / 2, t.val % 2] ∧ win0_3.index t = ![t.val / 2, t.val % 2] ∧ win0_4.index t = ![t.val / 2, t.val % 2]
    ∧ win0_5.index t = ![t.val / 2, t.val % 2] ∧ win0_6.index t = ![t.val / 2, t.val % 2] ∧ win0_7.index t = ![t.val / 2, t.val % 2] :=
  (by decide +kernel : ∀ t : Fin grid0.N, _)

/-- The row and the column of a point's block entry. -/
abbrev row (t : Fin cfg0.N) (r : Fin 512) : Fin 1024 := ⟨t.val / 2 * 512 + r.val, by have := t.isLt; have : cfg0.N = 4 := N_0; omega⟩
abbrev col (t : Fin cfg0.N) (k : Fin 1024) : Fin 2048 := ⟨t.val % 2 * 1024 + k.val, by omega⟩

theorem blk0 (c : Dev nD) (t : Fin cfg0.N) (r : Fin 512) (k : Fin 1024) : iblk m c 0 t (ix2 r k) = W m c (row t r) (col t k) := by
  blk_simp [iblk, idx t]
  entry_read
  pointwise
  blk_ext [idx t]

theorem blk1 (c : Dev nD) (t : Fin cfg0.N) (r : Fin 512) (k : Fin 1024) : iblk m c 1 t (ix2 r k) = G m c (row t r) (col t k) := by
  blk_simp [iblk, idx t]
  entry_read
  pointwise
  blk_ext [idx t]

theorem blk2 (c : Dev nD) (t : Fin cfg0.N) (r : Fin 512) (k : Fin 1024) : iblk m c 2 t (ix2 r k) = M m c (row t r) (col t k) := by
  blk_simp [iblk, idx t]
  entry_read
  pointwise
  blk_ext [idx t]

theorem blk3 (c : Dev nD) (t : Fin cfg0.N) (r : Fin 512) (k : Fin 1024) : iblk m c 3 t (ix2 r k) = V m c (row t r) (col t k) := by
  blk_simp [iblk, idx t]
  entry_read
  pointwise
  blk_ext [idx t]

theorem g_arr (c : Dev nD) : (dats m 0 c).arrAt 4 cfg0.N = fun i : S1024x2048.Idx => G m c (i 0) (i 1) := by
  refine (dats m 0 c).arrAt_eq_of_covers 4 _ (by decide +kernel) fun t hf y => ?_
  idx_vars y
  have e0 : ((View.whole main_v4_0).slice (win0_4.rect t)).emb (ix2 y0 y1) 0 = row t y0 := Fin.ext (by blk_simp [idx t])
  have e1 : ((View.whole main_v4_0).slice (win0_4.rect t)).emb (ix2 y0 y1) 1 = col t y1 := Fin.ext (by blk_simp [idx t])
  blk_simp
  rw [after0_4, e0, e1]
  frame_out
  pointwise [k0_pay1]
  exact blk1 m c t y0 y1

theorem delta_arr (c : Dev nD) : (dats m 0 c).arrAt 5 cfg0.N = fun i : S1024x2048.Idx => delta (W m c (i 0) (i 1)) (G m c (i 0) (i 1)) (M m c (i 0) (i 1)) (V m c (i 0) (i 1)) := by
  refine (dats m 0 c).arrAt_eq_of_covers 5 _ (by decide +kernel) fun t hf y => ?_
  idx_vars y
  have e0 : ((View.whole main_v4_1).slice (win0_5.rect t)).emb (ix2 y0 y1) 0 = row t y0 := Fin.ext (by blk_simp [idx t])
  have e1 : ((View.whole main_v4_1).slice (win0_5.rect t)).emb (ix2 y0 y1) 1 = col t y1 := Fin.ext (by blk_simp [idx t])
  blk_simp
  rw [after0_5, e0, e1]
  frame_out
  pointwise [k0_pay4, k0_pay3, k0_pay2, k0_pay1]
  simp only [blk0, blk1, blk2, blk3]
  rfl

theorem m_arr (c : Dev nD) : (dats m 0 c).arrAt 6 cfg0.N = fun i : S1024x2048.Idx => mom (G m c (i 0) (i 1)) (M m c (i 0) (i 1)) := by
  refine (dats m 0 c).arrAt_eq_of_covers 6 _ (by decide +kernel) fun t hf y => ?_
  idx_vars y
  have e0 : ((View.whole main_v4_2).slice (win0_6.rect t)).emb (ix2 y0 y1) 0 = row t y0 := Fin.ext (by blk_simp [idx t])
  have e1 : ((View.whole main_v4_2).slice (win0_6.rect t)).emb (ix2 y0 y1) 1 = col t y1 := Fin.ext (by blk_simp [idx t])
  blk_simp
  rw [after0_6, e0, e1]
  frame_out
  pointwise [k0_pay2, k0_pay1]
  simp only [blk0, blk1, blk2, blk3]
  rfl

theorem v_arr (c : Dev nD) : (dats m 0 c).arrAt 7 cfg0.N = fun i : S1024x2048.Idx => vel (G m c (i 0) (i 1)) (V m c (i 0) (i 1)) := by
  refine (dats m 0 c).arrAt_eq_of_covers 7 _ (by decide +kernel) fun t hf y => ?_
  idx_vars y
  have e0 : ((View.whole main_v4_3).slice (win0_7.rect t)).emb (ix2 y0 y1) 0 = row t y0 := Fin.ext (by blk_simp [idx t])
  have e1 : ((View.whole main_v4_3).slice (win0_7.rect t)).emb (ix2 y0 y1) 1 = col t y1 := Fin.ext (by blk_simp [idx t])
  blk_simp
  rw [after0_7, e0, e1]
  frame_out
  pointwise [k0_pay3, k0_pay1]
  simp only [blk0, blk1, blk2, blk3]
  rfl

/-- At every memory the kernel's run and the reference's run, on the same arguments, end with the same four arrays: the
    gradient, the step and the two new moments. -/
theorem algebraic : Cert.algebraic_AdamWIdeal_AdamWRefIdeal := fun m ρ m' ρ' _ hag =>
  ⟨fun c => (dats m 0 c).arrAt 4 cfg0.N, fun c => (dats m 0 c).arrAt 5 cfg0.N, fun c => (dats m 0 c).arrAt 6 cfg0.N,
    fun c => (dats m 0 c).arrAt 7 cfg0.N, Value.run_blocks m ρ,
    (θ_run _ _ _).mono (fun r h c => by
      obtain ⟨e0, e1, e2, e3⟩ := hag c
      obtain ⟨k0, k1, k2, k3, kk⟩ := h c
      refine ⟨k0.trans ?_, k1.trans ?_, k2.trans ?_, k3.trans ?_, kk⟩
      all_goals clear h hag k0 k1 k2 k3 kk
      · rw [AdamWRefIdeal.Read.val_main_v24_eq, e1]
        exact (AdamWRefIdeal.Forms.g_ref _).trans (g_arr m c).symm
      · rw [AdamWRefIdeal.Read.val_main_v25_eq, e0, e1, e2, e3]
        exact (AdamWRefIdeal.Forms.delta_ref _ _ _ _).trans (delta_arr m c).symm
      · rw [AdamWRefIdeal.Read.val_main_v26_eq, e1, e2]
        exact (AdamWRefIdeal.Forms.m_ref _ _).trans (m_arr m c).symm
      · rw [AdamWRefIdeal.Read.val_main_v27_eq, e1, e3]
        exact (AdamWRefIdeal.Forms.v_ref _ _).trans (v_arr m c).symm) (AdamWRefIdeal.Value.run m' ρ')⟩

end Cert.AdamWIdeal.Fold
end
-- ==== Proof.SValue.lean ====
/-
  The sum of a gathered array over the devices that sent its parts. What the call leaves in its result, what the reference's
  sum computes, and that they are the same.
-/
module

public import proofs.«01_k».proof.Defs
public import proofs.«01_k».proof.Proof.Gen.SumDevicesIdeal.Value
public import proofs.«01_k».proof.Proof.Gen.SumDevicesRefIdeal.Read
public import proofs.«01_k».proof.Proof.Gen.SumDevicesRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The reference -/

namespace Cert.SumDevicesRefIdeal.Forms
open Cert.SumDevicesRefIdeal Cert.SumDevicesRefIdeal.Read

variable (x0 : (⟨S8x144x1024, .f32⟩ : BufTy).Contents (Elt Ideal))

theorem out_ref : val_main_v0 (F := Ideal) x0 = fun i : S144x1024.Idx => ∑ e : Fin 8, x0 (ix3 e (i 0) (i 1)) := by
  funext i
  idx_vars i
  pointwise [val_main_v0, val_main_cst]

end Cert.SumDevicesRefIdeal.Forms

/-! ## The kernel -/

namespace Cert.SumDevicesIdeal.Fold
open Cert.SumDevicesIdeal Cert.SumDevicesIdeal.Gen

variable (m : (ℓ : Loc nD τ sig) → Buf (Elt Ideal) ℓ)

abbrev G (c : Dev nD) (e : Fin 8) (r : Fin 144) (k : Fin 1024) : EReal := m ((c : Thread nD τ).loc main_arg0) (ix3 e r k)

theorem idx : ∀ t : Fin cfg0.N, win0_0.index t = ![0, 0] ∧ win0_1.index t = ![0, 0] := (by decide +kernel : ∀ t : Fin grid0.N, _)

theorem blk0 (c : Dev nD) (t : Fin cfg0.N) (e : Fin 8) (r : Fin 144) (k : Fin 1024) (n : ℕ) (hn : n < 1152)
    (h : n = e.val * 144 + r.val) : iblk m c 0 t (ix2 ⟨n, hn⟩ k) = G m c e r k := by
  blk_simp [iblk]
  entry_read
  pointwise
  blk_ext [idx t]

theorem arr (c : Dev nD) : (dats m 0 c).arrAt 1 cfg0.N = fun i : S144x1024.Idx => ∑ e : Fin 8, G m c e (i 0) (i 1) := by
  refine (dats m 0 c).arrAt_eq_of_covers 1 _ (by decide +kernel) fun t hf y => ?_
  idx_vars y
  blk_simp
  rw [after0_1]
  frame_out
  pointwise [k0_pay1]
  have e0 : ((View.whole main_v1).slice (win0_1.rect t)).emb (ix2 y0 y1) 0 = y0 := Fin.ext (by blk_simp [idx t])
  have e1 : ((View.whole main_v1).slice (win0_1.rect t)).emb (ix2 y0 y1) 1 = y1 := Fin.ext (by blk_simp [idx t])
  rw [e0, e1, blk0 m c t 0 y0 y1 _ _ (by simp), blk0 m c t 1 y0 y1 _ _ (by simp), blk0 m c t 2 y0 y1 _ _ (by simp),
    blk0 m c t 3 y0 y1 _ _ (by simp), blk0 m c t 4 y0 y1 _ _ (by simp), blk0 m c t 5 y0 y1 _ _ (by simp),
    blk0 m c t 6 y0 y1 _ _ (by simp), blk0 m c t 7 y0 y1 _ _ (by simp)]
  exact (Fin.sum_univ_eight fun e => G m c e y0 y1).symm

/-- At every memory the kernel's run and the reference's run, on the same arguments, end with the same array: the sum over the
    devices. -/
theorem algebraic : Cert.algebraic_SumDevicesIdeal_SumDevicesRefIdeal := fun m ρ m' ρ' _ hag =>
  ⟨fun c => (dats m 0 c).arrAt 1 cfg0.N, Value.run_blocks m ρ,
    (θ_run _ _ _).mono (fun r h c => by
      have e0 := hag c
      obtain ⟨k0, kk⟩ := h c
      refine ⟨k0.trans ?_, kk⟩
      clear h hag k0 kk
      rw [SumDevicesRefIdeal.Read.val_main_v0_eq, e0]
      exact (SumDevicesRefIdeal.Forms.out_ref _).trans (arr m c).symm) (SumDevicesRefIdeal.Value.run m' ρ')⟩

end Cert.SumDevicesIdeal.Fold
end
-- ==== Proof.QTable.lean ====
/-
  The word that names the slab of the product alone: the table the call is handed holds 0, so every block it names lies in
  its array.
-/
module

public import proofs.«01_k».proof.Proof.Gen.ProjSlab.Frame
public import proofs.«01_k».proof.Proof.Gen.ProjSlabIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjSlabIdeal.Table
open Cert.ProjSlabIdeal Cert.ProjSlabIdeal.Gen

variable {F : FTy → Type} [FloatOps F] (m : (ℓ : Loc nD τ sig) → Buf (Elt F) ℓ)

/-- The table's word is 0. -/
theorem word (i : S1.Idx) : V m (0 : Dev nD) main_v7 i = (0#32 : BitVec 32) := by
  entry_read
  rfl

/-- The grid's second coordinate is 0, its first is the point. -/
theorem coord (i : grid0.Coords) : (BitVec.ofNat 32 (i 0).val).toNat = (i 0).val ∧ BitVec.ofNat 32 (i 1).val = 0#32 := by
  have h0 : (i 0).val < 8 := (i 0).isLt
  have h1 : (i 1).val < 1 := (i 1).isLt
  refine ⟨by rw [BitVec.toNat_ofNat]; omega, ?_⟩
  rw [show (i 1).val = 0 by omega]

/-- The weight's block is the first slab, -/
theorem index1 (i : grid0.Coords) : cc0_transform_1 (F := F) inb_S1_S1_0 numel1_S1 (tbl m) i = ![0, 0] := by
  unfold cc0_transform_1
  refine (congrArg (fun w : BitVec 32 => ![0, (w * 1#32 + BitVec.ofNat 32 (i 1).val).toNat]) (word m _)).trans ?_
  rw [(coord i).2]
  rfl

/-- and a point's block of the result lies in the first slab. -/
theorem index3 (i : grid0.Coords) : cc0_transform_4 (F := F) inb_S1_S1_0 numel1_S1 (tbl m) i = ![0, (i 0).val, 0] := by
  unfold cc0_transform_4
  refine (congrArg (fun w : BitVec 32 => ![w.toNat, (BitVec.ofNat 32 (i 0).val).toNat, (BitVec.ofNat 32 (i 1).val).toNat]) (word m _)).trans ?_
  rw [(coord i).1, (coord i).2]
  rfl

/-- The blocks the word names lie in their arrays. -/
theorem ok : Ok m := by
  unfold Ok ok0
  simp only [index1, index3]
  exact ⟨fun _ => ⟨by decide +kernel, .inr (Affine.block_words_dvd (of_decide_eq_true rfl) (by decide))⟩, fun i => ⟨by
    revert i; decide +kernel, .inl rfl⟩⟩

end Cert.ProjSlabIdeal.Table

/-- The same of the kernel before idealization, whose text is the same. -/
theorem Cert.ProjSlab.Table.ok {F : FTy → Type} [FloatOps F]
    (m : (ℓ : Loc Cert.ProjSlab.nD Cert.ProjSlab.τ Cert.ProjSlab.sig) → Buf (Elt F) ℓ) : Cert.ProjSlab.Gen.Ok m :=
  (by sl_kernel_rfl : Cert.ProjSlabIdeal.Gen.Ok (F := F) m = Cert.ProjSlab.Gen.Ok m) ▸ Cert.ProjSlabIdeal.Table.ok (F := F) m

end
-- ==== Proof.QValue.lean ====
/-
  One slab of the input projection's product, written over an array that keeps its other slabs: what the call leaves in its
  result, what the reference computes, and that they are the same.
-/
module

public import proofs.«01_k».proof.Defs
public import proofs.«01_k».proof.Proof.QTable
public import proofs.«01_k».proof.Proof.Gen.ProjSlabRefIdeal.Read
public import proofs.«01_k».proof.Proof.Gen.ProjSlabRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The reference -/

namespace Cert.ProjSlabRefIdeal.Forms
open Cert.ProjSlabRefIdeal Cert.ProjSlabRefIdeal.Read

variable (x0 : (⟨S1x8192x1024, .f32⟩ : BufTy).Contents (Elt Ideal)) (x1 : (⟨S1x1024x8192, .f32⟩ : BufTy).Contents (Elt Ideal))
  (x2 : (⟨S1x8192x8192, .f32⟩ : BufTy).Contents (Elt Ideal))

/-- Row `s` of the product, at column `k` of the first slab. -/
def slab (s : Fin 8192) (k : Fin 2048) : EReal := ∑ d : Fin 1024, x0 (ix3 0 s d) * x1 (ix3 0 d ⟨k.val, by omega⟩)

/-- The slabs: the first is the product's, the others are the old array's. -/
def proj (q : Fin 4) (s : Fin 8192) (k : Fin 2048) : EReal :=
  if q = 0 then slab x0 x1 s k else x2 (ix3 0 s ⟨q.val * 2048 + k.val, by omega⟩)

theorem out_ref : val_main_v10 (F := Ideal) x0 x1 x2 = fun i : S4x8192x2048.Idx => proj x0 x1 x2 (i 0) (i 1) (i 2) := by
  funext i
  idx_vars i
  obtain ⟨q, hq⟩ := i0
  unfold proj slab
  pointwise [val_main_v10, val_main_v9, val_main_v8, val_main_v7, val_main_v2, val_main_v1, val_main_v0]
  interval_cases q
  · rw [dif_pos (by omega)]
    rfl
  · rw [dif_neg (by omega), dif_pos (by omega)]
    rfl
  · rw [dif_neg (by omega), dif_neg (by omega), dif_pos (by omega)]
    rfl
  · rw [dif_neg (by omega), dif_neg (by omega), dif_neg (by omega)]
    rfl

end Cert.ProjSlabRefIdeal.Forms

/-! ## The kernel -/

namespace Cert.ProjSlabIdeal.Fold
open Cert.ProjSlabIdeal Cert.ProjSlabIdeal.Gen Cert.ProjSlabIdeal.Table Cert.ProjSlabRefIdeal.Forms

/-- The stored product. -/
theorem pProj (x : Vec Ideal S1024x1024 .bf16) (w : Vec Ideal S1024x2048 .bf16) (r : Fin 1024) (k : Fin 2048) :
    k0_pay1 (F := Ideal) x w (ix3 0 r k) = ∑ d, x (ix2 r d) * w (ix2 d k) := by
  pointwise [k0_pay1]

variable (m : (ℓ : Loc nD τ sig) → Buf (Elt Ideal) ℓ)

abbrev H (c : Dev nD) := m ((c : Thread nD τ).loc main_arg0)
abbrev W (c : Dev nD) := m ((c : Thread nD τ).loc main_arg1)
abbrev P (c : Dev nD) := m ((c : Thread nD τ).loc main_arg2)

abbrev C : Pipeline.Cfg sig Λ₀ := cfgM m (ok m)

theorem zero2 : (![0, 0] : Fin 2 → ℕ) = fun _ => 0 := by funext a; fin_cases a <;> rfl

theorem idx : ∀ t : Fin grid0.N, cc0_transform_0 (grid0.coords t) = ![t.val, 0] ∧ (grid0.coords t 0).val = t.val := by decide +kernel

/-- The row of point `t`'s block. -/
abbrev row (t : Fin (C m).N) (r : Fin 1024) : Fin 8192 := ⟨t.val * 1024 + r.val, by have : t.val < 8 := t.isLt; omega⟩

theorem emb0 (t : Fin (C m).N) (r d : Fin 1024) : (((C m).win 0).blk t).view.emb (ix2 r d) = (ix2 (row m t r) d : S8192x1024.Idx) := by
  funext a
  refine Fin.ext ((((C m).win 0).rect_emb_val t (ix2 r d) a).trans ?_)
  rw [show ((C m).win 0).index t = ![t.val, 0] from (idx t).1]
  fin_cases a
  · rfl
  · exact Nat.zero_add _

theorem blk0 (c : Dev nD) (t : Fin (C m).N) (r d : Fin 1024) : iblk m (ok m) c 0 t (ix2 r d) = H m c (ix3 0 (row m t r) d) := by
  show V m c main_v1 ((((C m).win 0).blk t).view.emb (ix2 r d)) = _
  rw [emb0]
  entry_read
  pointwise

theorem emb1 (t : Fin (C m).N) (d : Fin 1024) (k : Fin 2048) :
    (((C m).win 1).blk t).view.emb (ix2 d k) = (ix2 d ⟨k.val, by omega⟩ : S1024x8192.Idx) := by
  funext a
  refine Fin.ext ((((C m).win 1).rect_emb_val_of_index_zero t a (congrFun ((index1 m (grid0.coords t)).trans zero2) a) (ix2 d k)).trans ?_)
  fin_cases a <;> rfl

theorem blk1 (c : Dev nD) (t : Fin (C m).N) (d : Fin 1024) (k : Fin 2048) :
    iblk m (ok m) c 1 t (ix2 d k) = W m c (ix3 0 d ⟨k.val, by omega⟩) := by
  show V m c main_v3 ((((C m).win 1).blk t).view.emb (ix2 d k)) = _
  rw [emb1]
  entry_read
  pointwise

theorem index3' (t : Fin (C m).N) : ((C m).win 3).index t = ![0, t.val, 0] :=
  (index3 m _).trans (congrArg (fun n => ![0, n, 0]) (idx t).2)

theorem emb3 (t : Fin (C m).N) (r : Fin 1024) (k : Fin 2048) :
    (((C m).win 3).blk t).view.emb (ix3 0 r k : S1x1024x2048.Idx) = (ix3 0 (row m t r) k : S4x8192x2048.Idx) := by
  funext a
  refine Fin.ext ((((C m).win 3).rect_emb_val t (ix3 0 r k) a).trans ?_)
  rw [index3']
  fin_cases a
  · rfl
  · rfl
  · exact Nat.zero_add _

/-- What a point leaves: its rows of the slab. -/
theorem point (c : Dev nD) (t : Fin (C m).N) (r : Fin 1024) (k : Fin 2048) :
    outsAt0 m (ok m) c t (ix3 0 r k) = slab (H m c) (W m c) (row m t r) k := by
  unfold outsAt0
  frame_out
  refine (congrFun (congr (congrArg (k0_pay1 (F := Ideal)) (Memref.IsWhole.read_unread _ _)) (Memref.IsWhole.read_unread _ _)) _).trans ?_
  exact (pProj _ _ r k).trans (Finset.sum_congr rfl fun d _ => congrArg₂ (· * ·) (blk0 m c t r d) (blk1 m c t d k))

theorem flush3 (t : Fin (C m).N) : ((C m).win 3).flush t = true := by
  refine (Pipeline.Window.flush_out _ rfl t).mpr ?_
  by_cases h : t.val + 1 = 8
  · exact .inl h
  · refine .inr ⟨show t.val + 1 < 8 from by have : t.val < 8 := t.isLt; omega, fun e => ?_⟩
    rw [index3', index3'] at e
    have := congrFun e 1
    simp at this

theorem stored (c : Dev nD) (t : Fin (C m).N) (y : S1x1024x2048.Idx) (i : S4x8192x2048.Idx) (hi : (((C m).win 3).blk t).view.emb y = i) :
    (dats m (ok m) 0 c).after 3 t y = slab (H m c) (W m c) (i 1) (i 2) := by
  rw [after0_3]
  have e : y = ix3 0 (y 1) (y 2) := by
    idx_vars y
    exact congrArg (fun z => ix3 z y1 y2) (Subsingleton.elim _ _)
  have ei : i = ix3 0 (row m t (y 1)) (y 2) := hi.symm.trans ((congrArg _ e).trans (emb3 m t (y 1) (y 2)))
  rw [e, ei]
  exact point m c t (y 1) (y 2)

theorem mem3 (s : Fin 8192) (k : Fin 2048) (i : S4x8192x2048.Idx) (hi : i = ix3 0 s k) (t : Fin (C m).N) (ht : t.val = s.val / 1024) :
    i ∈ (((C m).win 3).blk t).view.set := by
  subst hi
  refine (((C m).win 3).emb_mem_blk_iff t (ix3 0 s k)).mpr fun a => ?_
  rw [index3', ht]
  fin_cases a
  · exact ⟨le_refl 0, Nat.zero_lt_one⟩
  · show s.val / 1024 * 1024 ≤ s.val ∧ s.val < s.val / 1024 * 1024 + 1024
    omega
  · show 0 * 2048 ≤ k.val ∧ k.val < 0 * 2048 + 2048
    omega

/-- No point's block meets another slab. -/
theorem not_mem3 (i : S4x8192x2048.Idx) (hi : 0 < (i 0).val) (t : Fin (C m).N) : i ∉ (((C m).win 3).blk t).view.set := fun h => by
  have h0 := (((C m).win 3).emb_mem_blk_iff t i).mp h (0 : Fin 3)
  rw [index3'] at h0
  have : (i 0).val < 0 * 1 + 1 := h0.2
  omega

/-- The old array, in slabs, as the call is handed it. -/
theorem entry (c : Dev nD) (q : Fin 4) (s : Fin 8192) (k : Fin 2048) :
    V m c main_v9 (ix3 q s k : S4x8192x2048.Idx) = P m c (ix3 0 s ⟨q.val * 2048 + k.val, by omega⟩) := by
  entry_read
  pointwise

/-- The array the call returns. -/
theorem arr (c : Dev nD) :
    (dats m (ok m) 0 c).arrAt 3 (C m).N = fun i : S4x8192x2048.Idx => proj (H m c) (W m c) (P m c) (i 0) (i 1) (i 2) := by
  funext (i : S4x8192x2048.Idx)
  unfold proj
  by_cases h : i 0 = (0 : Fin 4)
  · refine Eq.trans ?_ (if_pos h).symm
    have e : i = ix3 0 (i 1) (i 2) := by
      idx_vars i
      exact congrArg (fun z => ix3 z i1 i2) h
    exact (dats m (ok m) 0 c).arrAt_forall_of_flushed 3 (fun i v => v = (fun i : S4x8192x2048.Idx => slab (H m c) (W m c) (i 1) (i 2)) i)
      (fun t _ y => stored m c t y _ rfl) (C m).N ⟨(i 1).val / 1024, by have : (i 1).val < 8192 := (i 1).isLt; show _ < 8; omega⟩ _ (Fin.isLt _)
      (flush3 m _) (mem3 m (i 1) (i 2) _ e _ rfl)
  · refine Eq.trans ?_ (if_neg h).symm
    refine ((dats m (ok m) 0 c).arrAt_apply_of_forall_not_mem 3 (C m).N _ fun t _ _ hi =>
      not_mem3 m i (Nat.pos_of_ne_zero fun e => h (Fin.ext e)) t hi).trans ?_
    rw [A_eq]
    exact (congrArg (V m c main_v9) (by idx_vars i)).trans (entry m c (i 0) (i 1) (i 2))

/-- The call's run: what it returns, its arguments kept. -/
theorem run_blocks (ρ : Dev nD → PrngReg) : θ_run defs (onTc (τ := τ) (main (F := Ideal))) ⟨m, fun _ => 0, ρ⟩ fun r => ∀ c : Dev nD,
      r.2.mem ((c : Thread nD τ).loc main_v9) = (dats m (ok m) 0 c).arrAt 3 (C m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (show main_arg0 ∈ Pipeline.restRefs sig spec0 by decide)).trans (V_main_arg0 m c),
      ((h c).2 main_arg1 (show main_arg1 ∈ Pipeline.restRefs sig spec0 by decide)).trans (V_main_arg1 m c),
      ((h c).2 main_arg2 (show main_arg2 ∈ Pipeline.restRefs sig spec0 by decide)).trans (V_main_arg2 m c)⟩)
    (run_main m ρ (ok m))

theorem algebraic : Cert.algebraic_ProjSlabIdeal_ProjSlabRefIdeal := fun m ρ m' ρ' _ hag =>
  ⟨fun c => (dats m (ok m) 0 c).arrAt 3 (C m).N, run_blocks m ρ,
    (θ_run _ _ _).mono (fun r h c => by
      obtain ⟨e0, e1, e2⟩ := hag c
      obtain ⟨k0, kk⟩ := h c
      refine ⟨k0.trans ?_, kk⟩
      clear h hag k0 kk
      rw [ProjSlabRefIdeal.Read.val_main_v10_eq, e0, e1, e2]
      exact (ProjSlabRefIdeal.Forms.out_ref _ _ _).trans (arr m c).symm) (ProjSlabRefIdeal.Value.run m' ρ')⟩

end Cert.ProjSlabIdeal.Fold
end
-- ==== Proof.XTable.lean ====
/-
  The words that name the chip and the core: the tables the call is handed hold 0, so every block they name lies in its array.
-/
module

public import proofs.«01_k».proof.Proof.Gen.AddPieces.Frame
public import proofs.«01_k».proof.Proof.Gen.AddPiecesIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AddPiecesIdeal.Table
open Cert.AddPiecesIdeal Cert.AddPiecesIdeal.Gen

variable {F : FTy → Type} [FloatOps F] (m : (ℓ : Loc nD τ sig) → Buf (Elt F) ℓ)

/-- The arrays at the region's entry, as the host lines leave them. -/
theorem V_eq (c : Dev nD) (b : Ref sig .tc) : V m c b = StableHlo.after hostOps0 (fun b => m (c, b)) b := by
  unfold V V0
  rw [List.flatten_cons, List.flatten_nil, List.append_nil]

/-- The chip's word is 0, -/
theorem chip (i : S1.Idx) : V m (0 : Dev nD) main_v0 i = (0#32 : BitVec 32) := by
  rw [V_eq]
  entry_read
  rfl

/-- and so is the core's. -/
theorem core (i : S1.Idx) : V m (0 : Dev nD) main_v1 i = (0#32 : BitVec 32) := by
  rw [V_eq]
  entry_read
  rfl

/-- A point's block of this device's part lies in the first core's rows and the first chip's columns, -/
theorem index0 (i : grid0.Coords) : cc0_transform_0 (F := F) inb_S1_S1_0 numel1_S1 (tbl m) i = ![(i 0).val, (i 1).val] := by
  unfold cc0_transform_0
  refine (congrArg₂ (fun w z : BitVec 32 => ![(Scalar.addi (Scalar.muli w 2#32) (BitVec.ofNat 32 (i 0).val)).toNat,
    (Scalar.addi (Scalar.muli z 1#32) (BitVec.ofNat 32 (i 1).val)).toNat]) (core m _) (chip m _)).trans ?_
  revert i
  decide +kernel

/-- and its block of the result in the first core's rows. -/
theorem index2 (i : grid0.Coords) : cc0_transform_2 (F := F) inb_S1_S1_0 numel1_S1 (tbl m) i = ![(i 0).val, (i 1).val] := by
  unfold cc0_transform_2
  refine (congrArg (fun w : BitVec 32 => ![(Scalar.addi (Scalar.muli w 2#32) (BitVec.ofNat 32 (i 0).val)).toNat,
    (BitVec.ofNat 32 (i 1).val).toNat]) (core m _)).trans ?_
  revert i
  decide +kernel

/-- The blocks the words name lie in their arrays. -/
theorem ok : Ok m := by
  unfold Ok ok0
  simp only [index0, index2]
  exact ⟨fun i => ⟨by revert i; decide +kernel, .inr (Affine.block_words_dvd (of_decide_eq_true rfl) (by decide))⟩, fun i => ⟨by
    revert i; decide +kernel, .inl rfl⟩⟩

end Cert.AddPiecesIdeal.Table

/-- The same of the kernel before idealization, whose text is the same. -/
theorem Cert.AddPieces.Table.ok {F : FTy → Type} [FloatOps F]
    (m : (ℓ : Loc Cert.AddPieces.nD Cert.AddPieces.τ Cert.AddPieces.sig) → Buf (Elt F) ℓ) : Cert.AddPieces.Gen.Ok m :=
  (by sl_kernel_rfl : Cert.AddPiecesIdeal.Gen.Ok (F := F) m = Cert.AddPieces.Gen.Ok m) ▸ Cert.AddPiecesIdeal.Table.ok (F := F) m

end
-- ==== Proof.XValue.lean ====
/-
  The sum of a device's part of a weight's gradient with the parts that landed from its peers: what the call leaves in its
  result, what the reference computes, and that they are the same.
-/
module

public import proofs.«01_k».proof.Defs
public import proofs.«01_k».proof.Proof.XTable
public import proofs.«01_k».proof.Proof.Gen.AddPiecesRefIdeal.Read
public import proofs.«01_k».proof.Proof.Gen.AddPiecesRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The reference -/

namespace Cert.AddPiecesRefIdeal.Forms
open Cert.AddPiecesRefIdeal Cert.AddPiecesRefIdeal.Read

variable (x0 : (⟨S1024x8192, .bf16⟩ : BufTy).Contents (Elt Ideal)) (x1 : (⟨S7x512x2048, .bf16⟩ : BufTy).Contents (Elt Ideal))

/-- The eight parts of an element, its own device's first. -/
def part (e : Fin 8) (s : Fin 512) (k : Fin 2048) : EReal :=
  if h : e.val = 0 then x0 (ix2 ⟨s.val, by omega⟩ ⟨k.val, by omega⟩) else x1 (ix3 ⟨e.val - 1, by omega⟩ s k)

/-- Their sum. -/
def total (s : Fin 512) (k : Fin 2048) : EReal := ∑ e, part x0 x1 e s k

theorem part_ref (e : Fin 8) (s : Fin 512) (k : Fin 2048) : val_main_v3 (F := Ideal) x0 x1 (ix3 e s k) = part x0 x1 e s k := by
  unfold part
  pointwise [val_main_v3, val_main_v2, val_main_v1, val_main_v0]
  by_cases h : e.val = 0
  · rw [dif_pos (by omega), dif_pos h]
  · rw [dif_neg (by omega), dif_neg h]

theorem out_ref : val_main_v4 (F := Ideal) x0 x1 = fun i : S512x2048.Idx => total x0 x1 (i 0) (i 1) := by
  funext i
  idx_vars i
  unfold total
  pointwise [val_main_v4, val_main_cst]
  simp only [part_ref]

end Cert.AddPiecesRefIdeal.Forms

/-! ## The kernel -/

namespace Cert.AddPiecesIdeal.Fold
open Cert.AddPiecesIdeal Cert.AddPiecesIdeal.Gen Cert.AddPiecesIdeal.Table Cert.AddPiecesRefIdeal.Forms

variable (m : (ℓ : Loc nD τ sig) → Buf (Elt Ideal) ℓ)

abbrev P (c : Dev nD) := m ((c : Thread nD τ).loc main_arg0)
abbrev L (c : Dev nD) := m ((c : Thread nD τ).loc main_arg1)

abbrev C : Pipeline.Cfg sig Λ₀ := cfgM m (ok m)

theorem idx : ∀ t : Fin grid0.N, cc0_transform_1 (grid0.coords t) = ![0, t.val, 0] ∧ (grid0.coords t 0).val = t.val
    ∧ (grid0.coords t 1).val = 0 := by decide +kernel

/-- The row of point `t`'s block. -/
abbrev row (t : Fin (C m).N) (r : Fin 256) : Fin 512 := ⟨t.val * 256 + r.val, by have : t.val < 2 := t.isLt; omega⟩

theorem index0' (t : Fin (C m).N) : ((C m).win 0).index t = ![t.val, 0] :=
  (index0 m _).trans (congrArg₂ (fun n k => ![n, k]) (idx t).2.1 (idx t).2.2)

theorem index2' (t : Fin (C m).N) : ((C m).win 2).index t = ![t.val, 0] :=
  (index2 m _).trans (congrArg₂ (fun n k => ![n, k]) (idx t).2.1 (idx t).2.2)

theorem emb0 (t : Fin (C m).N) (r : Fin 256) (k : Fin 2048) :
    (((C m).win 0).blk t).view.emb (ix2 r k) = (ix2 ⟨(row m t r).val, by omega⟩ ⟨k.val, by omega⟩ : S1024x8192.Idx) := by
  funext a
  refine Fin.ext ((((C m).win 0).rect_emb_val t (ix2 r k) a).trans ?_)
  rw [index0']
  fin_cases a
  · rfl
  · exact Nat.zero_add _

theorem emb1 (t : Fin (C m).N) (e : Fin 7) (r : Fin 256) (k : Fin 2048) :
    (((C m).win 1).blk t).view.emb (ix3 e r k) = (ix3 e (row m t r) k : S7x512x2048.Idx) := by
  funext a
  refine Fin.ext ((((C m).win 1).rect_emb_val t (ix3 e r k) a).trans ?_)
  rw [show ((C m).win 1).index t = ![0, t.val, 0] from (idx t).1]
  fin_cases a
  · exact Nat.zero_add _
  · rfl
  · exact Nat.zero_add _

theorem emb2 (t : Fin (C m).N) (r : Fin 256) (k : Fin 2048) :
    (((C m).win 2).blk t).view.emb (ix2 r k : S256x2048.Idx) = (ix2 ⟨(row m t r).val, by omega⟩ k : S1024x2048.Idx) := by
  funext a
  refine Fin.ext ((((C m).win 2).rect_emb_val t (ix2 r k) a).trans ?_)
  rw [index2']
  fin_cases a
  · rfl
  · exact Nat.zero_add _

theorem blk0 (c : Dev nD) (t : Fin (C m).N) (r : Fin 256) (k : Fin 2048) :
    iblk m (ok m) c 0 t (ix2 r k) = part (P m c) (L m c) 0 (row m t r) k := by
  show V m c main_arg0 ((((C m).win 0).blk t).view.emb (ix2 r k)) = _
  rw [emb0, V_main_arg0]
  rfl

/-- Part `e + 1` of an element, read off the landed pieces. -/
theorem blk1 (c : Dev nD) (t : Fin (C m).N) (e : Fin 7) (r : Fin 256) (k : Fin 2048) :
    iblk m (ok m) c 1 t (ix3 e r k) = part (P m c) (L m c) e.succ (row m t r) k := by
  show V m c main_arg1 ((((C m).win 1).blk t).view.emb (ix3 e r k)) = _
  rw [emb1, V_main_arg1]
  rfl

/-- What a point leaves: the sums of its elements. -/
theorem point (c : Dev nD) (t : Fin (C m).N) (r : Fin 256) (k : Fin 2048) :
    outsAt0 m (ok m) c t (ix2 r k) = total (P m c) (L m c) (row m t r) k := by
  unfold outsAt0
  frame_out
  pointwise [k0_pay1]
  refine Eq.trans ?_ (Fin.sum_univ_eight fun e => part (P m c) (L m c) e (row m t r) k).symm
  have l : ∀ e : Fin 7, (ms0_1 m (ok m) t).view.read (Elt Ideal) ((hs0_1 m (ok m) t).unread (iblk m (ok m) c 1 t)) (ix3 e r k)
      = part (P m c) (L m c) e.succ (row m t r) k :=
    fun e => (congrFun (Memref.IsWhole.read_unread _ _) _).trans (blk1 m c t e r k)
  exact congrArg₂ (· + ·) (congrArg₂ (· + ·) (congrArg₂ (· + ·) (congrArg₂ (· + ·) (congrArg₂ (· + ·) (congrArg₂ (· + ·) (congrArg₂ (· + ·)
    ((congrFun (Memref.IsWhole.read_unread _ _) _).trans (blk0 m c t r k)) (l 0)) (l 1)) (l 2)) (l 3)) (l 4)) (l 5)) (l 6)

theorem flush2 (t : Fin (C m).N) : ((C m).win 2).flush t = true := by
  refine (Pipeline.Window.flush_out _ rfl t).mpr ?_
  by_cases h : t.val + 1 = 2
  · exact .inl h
  · refine .inr ⟨show t.val + 1 < 2 from by have : t.val < 2 := t.isLt; omega, fun e => ?_⟩
    rw [index2', index2'] at e
    have := congrFun e 0
    simp at this

theorem stored (c : Dev nD) (t : Fin (C m).N) (y : S256x2048.Idx) (i : S1024x2048.Idx) (hi : (((C m).win 2).blk t).view.emb y = i) :
    ∀ h : (i 0).val < 512, (dats m (ok m) 0 c).after 2 t y = total (P m c) (L m c) ⟨(i 0).val, h⟩ (i 1) := by
  idx_vars y
  subst hi
  rw [after0_2, emb2]
  exact fun h => point m c t y0 y1

theorem mem2 (s : Fin 512) (k : Fin 2048) (t : Fin (C m).N) (ht : t.val = s.val / 256) :
    (ix2 ⟨s.val, by omega⟩ k : S1024x2048.Idx) ∈ (((C m).win 2).blk t).view.set := by
  refine (((C m).win 2).emb_mem_blk_iff t _).mpr fun a => ?_
  rw [index2', ht]
  fin_cases a
  · show s.val / 256 * 256 ≤ s.val ∧ s.val < s.val / 256 * 256 + 256
    omega
  · show 0 * 2048 ≤ k.val ∧ k.val < 0 * 2048 + 2048
    omega

/-- The rows the call writes. -/
theorem arr (c : Dev nD) (s : Fin 512) (k : Fin 2048) :
    (dats m (ok m) 0 c).arrAt 2 (C m).N (ix2 ⟨s.val, by omega⟩ k : S1024x2048.Idx) = total (P m c) (L m c) s k :=
  (dats m (ok m) 0 c).arrAt_forall_of_flushed 2
    (fun i v => (fun (i : S1024x2048.Idx) v => ∀ h : (i 0).val < 512, v = total (P m c) (L m c) ⟨(i 0).val, h⟩ (i 1)) i v)
    (fun t _ y => stored m c t y _ rfl) (C m).N ⟨s.val / 256, show _ < 2 by omega⟩ _ (Fin.isLt _) (flush2 m _) (mem2 m s k _ rfl) s.isLt

/-- The half shard the call returns. -/
def half (c : Dev nD) : S512x2048.Idx → EReal := fun i => total (P m c) (L m c) (i 0) (i 1)

theorem tail (c : Dev nD) :
    Pipeline.afterTail pcfgs (fun _ => adm m (ok m)) (dats m (ok m)) 0 (V0 m) [hostOps1] c main_v3 = half m c := by
  unfold Pipeline.afterTail
  rw [List.flatten_cons, List.flatten_nil, List.append_nil]
  entry_read
  funext i
  idx_vars i
  pointwise
  refine (congrFun (Pipeline.withArrays_arr spec0 (by decide) c (V0 m c) (fun w => (dats m (ok m) 0 c).arrAt w (C m).N) 2) _).trans ?_
  exact arr m c i0 i1

/-- The call's run: what it returns, its arguments kept. -/
theorem run_blocks (ρ : Dev nD → PrngReg) : θ_run defs (onTc (τ := τ) (main (F := Ideal))) ⟨m, fun _ => 0, ρ⟩ fun r => ∀ c : Dev nD,
      r.2.mem ((c : Thread nD τ).loc main_v3) = half m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v3 (show main_v3 ∈ Pipeline.restRefs sig spec0 by decide)).trans (tail m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
    (run_main m ρ (ok m))

theorem algebraic : Cert.algebraic_AddPiecesIdeal_AddPiecesRefIdeal := fun m ρ m' ρ' _ hag =>
  ⟨fun c => half m c, run_blocks m ρ,
    (θ_run _ _ _).mono (fun r h c => by
      obtain ⟨e0, e1⟩ := hag c
      obtain ⟨k0, kk⟩ := h c
      refine ⟨k0.trans ?_, kk⟩
      clear h hag k0 kk
      rw [AddPiecesRefIdeal.Read.val_main_v4_eq, e0, e1]
      exact AddPiecesRefIdeal.Forms.out_ref _ _) (AddPiecesRefIdeal.Value.run m' ρ')⟩

end Cert.AddPiecesIdeal.Fold
end
-- ==== Proof.YTable.lean ====
/-
  The word that names the chip: the table the call is handed holds 0, so every block it names lies in its array.
-/
module

public import proofs.«01_k».proof.Proof.Gen.PlaceOwn.Frame
public import proofs.«01_k».proof.Proof.Gen.PlaceOwnIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PlaceOwnIdeal.Table
open Cert.PlaceOwnIdeal Cert.PlaceOwnIdeal.Gen

variable {F : FTy → Type} [FloatOps F] (m : (ℓ : Loc nD τ sig) → Buf (Elt F) ℓ)

/-- The arrays at the region's entry, as the host lines leave them. -/
theorem V_eq (c : Dev nD) (b : Ref sig .tc) : V m c b = StableHlo.after hostOps0 (fun b => m (c, b)) b := by
  unfold V V0
  rw [List.flatten_cons, List.flatten_nil, List.append_nil]

/-- The table's word is 0. -/
theorem word (i : S1.Idx) : V m (0 : Dev nD) main_v1 i = (0#32 : BitVec 32) := by
  rw [V_eq]
  entry_read
  rfl

/-- A point's block of the result lies in the first chip's columns. -/
theorem index1 (i : grid0.Coords) : cc0_transform_1 (F := F) inb_S1_S1_0 numel1_S1 (tbl m) i = ![(i 0).val, (i 1).val] := by
  unfold cc0_transform_1
  refine (congrArg (fun w : BitVec 32 =>
    ![(BitVec.ofNat 32 (i 0).val).toNat, (Scalar.addi (Scalar.muli w 2#32) (BitVec.ofNat 32 (i 1).val)).toNat]) (word m _)).trans ?_
  revert i
  decide +kernel

/-- The blocks the word names lie in their array. -/
theorem ok : Ok m := by
  unfold Ok ok0
  simp only [index1]
  exact fun i => ⟨by revert i; decide +kernel, .inr (Affine.block_words_dvd (of_decide_eq_true rfl) (by decide))⟩

end Cert.PlaceOwnIdeal.Table

/-- The same of the kernel before idealization, whose text is the same. -/
theorem Cert.PlaceOwn.Table.ok {F : FTy → Type} [FloatOps F]
    (m : (ℓ : Loc Cert.PlaceOwn.nD Cert.PlaceOwn.τ Cert.PlaceOwn.sig) → Buf (Elt F) ℓ) : Cert.PlaceOwn.Gen.Ok m :=
  (by sl_kernel_rfl : Cert.PlaceOwnIdeal.Gen.Ok (F := F) m = Cert.PlaceOwn.Gen.Ok m) ▸ Cert.PlaceOwnIdeal.Table.ok (F := F) m

end
-- ==== Proof.YValue.lean ====
/-
  The placing of a chip's own weight shard in the gathered array: what the call writes of its result, what the reference
  computes, and that they are the same.
-/
module

public import proofs.«01_k».proof.Defs
public import proofs.«01_k».proof.Proof.YTable
public import proofs.«01_k».proof.Proof.Gen.PlaceOwnRefIdeal.Read
public import proofs.«01_k».proof.Proof.Gen.PlaceOwnRefIdeal.Run
public import proofs.«01_k».proof.Proof.Gen.PlaceOwnRef.Read
public import proofs.«01_k».proof.Proof.Gen.PlaceOwnRef.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## The reference -/

namespace Cert.PlaceOwn.Forms

/-- The cast of one entry. -/
abbrev half {F : FTy → Type} [FloatOps F] (x : F .f32) : F .bf16 := FloatOps.truncf .bf16 (by decide) x

end Cert.PlaceOwn.Forms

open Cert.PlaceOwn.Forms (half)

namespace Cert.PlaceOwnRefIdeal.Forms
open Cert.PlaceOwnRefIdeal Cert.PlaceOwnRefIdeal.Read

theorem out_ref {F : FTy → Type} [FloatOps F] (x0 : (⟨S1x1024x2048, .f32⟩ : BufTy).Contents (Elt F)) :
    val_main_v1 (F := F) x0 = fun i : S1024x2048.Idx => half (F := F) (x0 (ix3 0 (i 0) (i 1))) := by
  funext i
  idx_vars i
  pointwise [val_main_v1, val_main_v0]

end Cert.PlaceOwnRefIdeal.Forms

namespace Cert.PlaceOwnRef.Forms
open Cert.PlaceOwnRef Cert.PlaceOwnRef.Read

/-- The same of the reference before idealization, whose text is the same. -/
theorem out_ref {F : FTy → Type} [FloatOps F] (x0 : (⟨S1x1024x2048, .f32⟩ : BufTy).Contents (Elt F)) :
    val_main_v1 (F := F) x0 = fun i : S1024x2048.Idx => half (F := F) (x0 (ix3 0 (i 0) (i 1))) :=
  PlaceOwnRefIdeal.Forms.out_ref x0

end Cert.PlaceOwnRef.Forms

/-! ## The kernel -/

namespace Cert.PlaceOwnIdeal.Fold
open Cert.PlaceOwnIdeal Cert.PlaceOwnIdeal.Gen Cert.PlaceOwnIdeal.Table

variable {F : FTy → Type} [FloatOps F] (m : (ℓ : Loc nD τ sig) → Buf (Elt F) ℓ)

abbrev G (c : Dev nD) (r : Fin 1024) (k : Fin 2048) : F .f32 := m ((c : Thread nD τ).loc main_arg0) (ix3 0 r k)

abbrev C : Pipeline.Cfg sig Λ₀ := cfgM m (ok m)

theorem idx : ∀ t : Fin grid0.N, cc0_transform_0 (grid0.coords t) = ![t.val / 2, t.val % 2] ∧ (grid0.coords t 0).val = t.val / 2
    ∧ (grid0.coords t 1).val = t.val % 2 := by decide +kernel

/-- The row and the column of point `t`'s block. -/
abbrev row (t : Fin (C m).N) (r : Fin 512) : Fin 1024 := ⟨t.val / 2 * 512 + r.val, by have : t.val < 4 := t.isLt; omega⟩
abbrev col (t : Fin (C m).N) (k : Fin 1024) : Fin 2048 := ⟨t.val % 2 * 1024 + k.val, by omega⟩

theorem emb0 (t : Fin (C m).N) (r : Fin 512) (k : Fin 1024) :
    (((C m).win 0).blk t).view.emb (ix2 r k) = (ix2 (row m t r) (col m t k) : S1024x2048.Idx) := by
  funext a
  refine Fin.ext ((((C m).win 0).rect_emb_val t (ix2 r k) a).trans ?_)
  rw [show ((C m).win 0).index t = ![t.val / 2, t.val % 2] from (idx t).1]
  fin_cases a <;> rfl

theorem blk0 (c : Dev nD) (t : Fin (C m).N) (r : Fin 512) (k : Fin 1024) :
    iblk m (ok m) c 0 t (ix2 r k) = G m c (row m t r) (col m t k) := by
  show V m c main_v0 ((((C m).win 0).blk t).view.emb (ix2 r k)) = _
  rw [emb0, V_eq]
  entry_read
  pointwise

theorem index1' (t : Fin (C m).N) : ((C m).win 1).index t = ![t.val / 2, t.val % 2] :=
  (index1 m _).trans (congrArg₂ (fun n k => ![n, k]) (idx t).2.1 (idx t).2.2)

theorem emb1 (t : Fin (C m).N) (r : Fin 512) (k : Fin 1024) :
    (((C m).win 1).blk t).view.emb (ix2 r k : S512x1024.Idx) = (ix2 (row m t r) ⟨(col m t k).val, by omega⟩ : S1024x8192.Idx) := by
  funext a
  refine Fin.ext ((((C m).win 1).rect_emb_val t (ix2 r k) a).trans ?_)
  rw [index1']
  fin_cases a <;> rfl

/-- What a point leaves. -/
theorem point (c : Dev nD) (t : Fin (C m).N) (r : Fin 512) (k : Fin 1024) :
    outsAt0 m (ok m) c t (ix2 r k) = half (G m c (row m t r) (col m t k)) := by
  unfold outsAt0
  frame_out
  refine (congrFun (congrArg (k0_pay1 (F := F)) (Memref.IsWhole.read_unread _ _)) _).trans ?_
  pointwise [k0_pay1]
  exact congrArg (half (F := F)) (blk0 m c t r k)

theorem flush1 (t : Fin (C m).N) : ((C m).win 1).flush t = true := by
  refine (Pipeline.Window.flush_out _ rfl t).mpr ?_
  by_cases h : t.val + 1 = 4
  · exact .inl h
  · refine .inr ⟨show t.val + 1 < 4 from by have : t.val < 4 := t.isLt; omega, fun e => ?_⟩
    rw [index1', index1'] at e
    have := congrFun e 1
    simp at this
    omega

theorem stored (c : Dev nD) (t : Fin (C m).N) (y : S512x1024.Idx) (i : S1024x8192.Idx) (hi : (((C m).win 1).blk t).view.emb y = i) :
    ∀ h : (i 1).val < 2048, (dats m (ok m) 0 c).after 1 t y = half (G m c (i 0) ⟨(i 1).val, h⟩) := by
  idx_vars y
  subst hi
  rw [after0_1, emb1]
  exact fun h => point m c t y0 y1

theorem mem1 (s : Fin 1024) (k : Fin 2048) (t : Fin (C m).N) (ht : t.val = s.val / 512 * 2 + k.val / 1024) :
    (ix2 s ⟨k.val, by omega⟩ : S1024x8192.Idx) ∈ (((C m).win 1).blk t).view.set := by
  refine (((C m).win 1).emb_mem_blk_iff t _).mpr fun a => ?_
  rw [index1', ht]
  fin_cases a
  · show (s.val / 512 * 2 + k.val / 1024) / 2 * 512 ≤ s.val ∧ s.val < (s.val / 512 * 2 + k.val / 1024) / 2 * 512 + 512
    omega
  · show (s.val / 512 * 2 + k.val / 1024) % 2 * 1024 ≤ k.val ∧ k.val < (s.val / 512 * 2 + k.val / 1024) % 2 * 1024 + 1024
    omega

/-- The columns the call writes. -/
theorem arr (c : Dev nD) (s : Fin 1024) (k : Fin 2048) :
    (dats m (ok m) 0 c).arrAt 1 (C m).N (ix2 s ⟨k.val, by omega⟩ : S1024x8192.Idx) = half (G m c s k) :=
  (dats m (ok m) 0 c).arrAt_forall_of_flushed 1
    (fun i v => (fun (i : S1024x8192.Idx) v => ∀ h : (i 1).val < 2048, v = half (G m c (i 0) ⟨(i 1).val, h⟩)) i v)
    (fun t _ y => stored m c t y _ rfl) (C m).N ⟨s.val / 512 * 2 + k.val / 1024, show _ < 4 by omega⟩ _ (Fin.isLt _) (flush1 m _)
    (mem1 m s k _ rfl) k.isLt

/-- The shard the call returns. -/
def shard (c : Dev nD) : S1024x2048.Idx → F .bf16 := fun i => half (G m c (i 0) (i 1))

theorem tail (c : Dev nD) :
    Pipeline.afterTail pcfgs (fun _ => adm m (ok m)) (dats m (ok m)) 0 (V0 m) [hostOps1] c main_v3 = shard m c := by
  unfold Pipeline.afterTail
  rw [List.flatten_cons, List.flatten_nil, List.append_nil]
  entry_read
  funext i
  idx_vars i
  pointwise
  refine (congrFun (Pipeline.withArrays_arr spec0 (by decide) c (V0 m c) (fun w => (dats m (ok m) 0 c).arrAt w (C m).N) 1) _).trans ?_
  exact arr m c i0 i1

/-- The call's run: what it returns, its argument kept. -/
theorem run_blocks (ρ : Dev nD → PrngReg) : θ_run defs (onTc (τ := τ) (main (F := F))) ⟨m, fun _ => 0, ρ⟩ fun r => ∀ c : Dev nD,
      r.2.mem ((c : Thread nD τ).loc main_v3) = shard m c
      ∧ r.2.mem ((c : Thread nD τ).loc main_arg0) = m ((c : Thread nD τ).loc main_arg0) :=
  (θ_run defs _ _).mono (fun r h c => ⟨
      ((h c).2 main_v3 (show main_v3 ∈ Pipeline.restRefs sig spec0 by decide)).trans (tail m c),
      ((h c).2 main_arg0 (show main_arg0 ∈ Pipeline.restRefs sig spec0 by decide)).trans (W_main_arg0 m (ok m) (dats m (ok m)) c)⟩)
    (run_main m ρ (ok m))

theorem algebraic : Cert.algebraic_PlaceOwnIdeal_PlaceOwnRefIdeal := fun m ρ m' ρ' _ hag =>
  ⟨fun c => shard m c, run_blocks m ρ,
    (θ_run _ _ _).mono (fun r h c => by
      have e0 := hag c
      obtain ⟨k0, kk⟩ := h c
      refine ⟨k0.trans ?_, kk⟩
      clear h hag k0 kk
      rw [PlaceOwnRefIdeal.Read.val_main_v1_eq, e0]
      exact PlaceOwnRefIdeal.Forms.out_ref _) (PlaceOwnRefIdeal.Value.run m' ρ')⟩

end Cert.PlaceOwnIdeal.Fold

/-! ## Bit for bit -/

namespace Cert.PlaceOwn.Fold
open Cert.PlaceOwn

/-- The run of the kernel before idealization, whose text is the same. -/
theorem run_blocks (m : (ℓ : Loc nD τ sig) → Buf (Elt Bits) ℓ) (ρ : Dev nD → PrngReg) :
    θ_run defs (onTc (τ := τ) (main (F := Bits))) ⟨m, fun _ => 0, ρ⟩ fun r => ∀ c : Dev nD,
      r.2.mem ((c : Thread nD τ).loc main_v3) = PlaceOwnIdeal.Fold.shard (F := Bits) m c
      ∧ r.2.mem ((c : Thread nD τ).loc main_arg0) = m ((c : Thread nD τ).loc main_arg0) := by
  refine Eq.mp ?_ (PlaceOwnIdeal.Fold.run_blocks (F := Bits) m ρ)
  sl_kernel_rfl

theorem bitexact : Cert.bitexact_PlaceOwn_PlaceOwnRef := fun m ρ m' ρ' _ hag =>
  ⟨fun c => PlaceOwnIdeal.Fold.shard (F := Bits) m c, run_blocks m ρ,
    (θ_run _ _ _).mono (fun r h c => by
      have e0 := hag c
      obtain ⟨k0, kk⟩ := h c
      refine ⟨k0.trans ?_, kk⟩
      clear h hag k0 kk
      rw [PlaceOwnRef.Read.val_main_v1_eq, e0]
      exact PlaceOwnRef.Forms.out_ref _) (PlaceOwnRef.Value.run m' ρ')⟩

end Cert.PlaceOwn.Fold
end
-- ==== Proof.lean ====
module

public import proofs.«01_k».proof.Defs
public import proofs.«01_k».proof.Proof.Gen.AProjDx
public import proofs.«01_k».proof.Proof.Gen.AProjDx.Frame
public import proofs.«01_k».proof.Proof.Gen.AProjDxIdeal
public import proofs.«01_k».proof.Proof.Gen.AProjDxIdeal.Frame
public import proofs.«01_k».proof.Proof.Gen.AProjDxIdeal.Value
public import proofs.«01_k».proof.Proof.Gen.AProjDxRefIdeal
public import proofs.«01_k».proof.Proof.Gen.AProjDxRefIdeal.Read
public import proofs.«01_k».proof.Proof.Gen.AProjDxRefIdeal.Run
public import proofs.«01_k».proof.Proof.AValue
public import proofs.«01_k».proof.Proof.Gen.BProjDx
public import proofs.«01_k».proof.Proof.Gen.BProjDx.Frame
public import proofs.«01_k».proof.Proof.Gen.BProjDxIdeal
public import proofs.«01_k».proof.Proof.Gen.BProjDxIdeal.Frame
public import proofs.«01_k».proof.Proof.Gen.BProjDxIdeal.Value
public import proofs.«01_k».proof.Proof.Gen.BProjDxRefIdeal
public import proofs.«01_k».proof.Proof.Gen.BProjDxRefIdeal.Read
public import proofs.«01_k».proof.Proof.Gen.BProjDxRefIdeal.Run
public import proofs.«01_k».proof.Proof.BValue
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Read
public import proofs.«01_k».proof.Proof.Gen.ConvBwdRefIdeal.Run
public import proofs.«01_k».proof.Proof.CValue
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpBwdIdeal.Value
public import proofs.«01_k».proof.Proof.Gen.GmlpBwdRefIdeal
public import proofs.«01_k».proof.Proof.Gen.GmlpBwdRefIdeal.Read
public import proofs.«01_k».proof.Proof.Gen.GmlpBwdRefIdeal.Run
public import proofs.«01_k».proof.Proof.GValue
public import proofs.«01_k».proof.Proof.Gen.GmlpHead
public import proofs.«01_k».proof.Proof.Gen.GmlpHead.Frame
public import proofs.«01_k».proof.Proof.Gen.GmlpHeadIdeal
public import proofs.«01_k».proof.Proof.Gen.GmlpHeadIdeal.Frame
public import proofs.«01_k».proof.Proof.Gen.GmlpHeadIdeal.Value
public import proofs.«01_k».proof.Proof.Gen.GmlpHeadRefIdeal
public import proofs.«01_k».proof.Proof.Gen.GmlpHeadRefIdeal.Read
public import proofs.«01_k».proof.Proof.Gen.GmlpHeadRefIdeal.Run
public import proofs.«01_k».proof.Proof.HValue
public import proofs.«01_k».proof.Proof.Gen.ModFwd
public import proofs.«01_k».proof.Proof.Gen.ModFwd.Frame
public import proofs.«01_k».proof.Proof.Gen.ModFwdIdeal
public import proofs.«01_k».proof.Proof.Gen.ModFwdIdeal.Frame
public import proofs.«01_k».proof.Proof.Gen.ModFwdIdeal.Value
public import proofs.«01_k».proof.Proof.Gen.ModFwdRefIdeal
public import proofs.«01_k».proof.Proof.Gen.ModFwdRefIdeal.Read
public import proofs.«01_k».proof.Proof.Gen.ModFwdRefIdeal.Run
public import proofs.«01_k».proof.Proof.MValue
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.Gen.NormProjRefIdeal
public import proofs.«01_k».proof.Proof.Gen.NormProjRefIdeal.Read
public import proofs.«01_k».proof.Proof.Gen.NormProjRefIdeal.Run
public import proofs.«01_k».proof.Proof.DValue
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Read
public import proofs.«01_k».proof.Proof.Gen.DwInRefIdeal.Run
public import proofs.«01_k».proof.Proof.IValue
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Read
public import proofs.«01_k».proof.Proof.Gen.DwOutRefIdeal.Run
public import proofs.«01_k».proof.Proof.OValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Read
public import proofs.«01_k».proof.Proof.Gen.ProjRefIdeal.Run
public import proofs.«01_k».proof.Proof.PValue
public import proofs.«01_k».proof.Proof.Gen.ModUpdate
public import proofs.«01_k».proof.Proof.Gen.ModUpdate.Frame
public import proofs.«01_k».proof.Proof.Gen.ModUpdateIdeal
public import proofs.«01_k».proof.Proof.Gen.ModUpdateIdeal.Frame
public import proofs.«01_k».proof.Proof.Gen.ModUpdateRefIdeal
public import proofs.«01_k».proof.Proof.Gen.ModUpdateRefIdeal.Read
public import proofs.«01_k».proof.Proof.Gen.ModUpdateRefIdeal.Run
public import proofs.«01_k».proof.Proof.UValue
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Read
public import proofs.«01_k».proof.Proof.Gen.AdamWRefIdeal.Run
public import proofs.«01_k».proof.Proof.WValue
public import proofs.«01_k».proof.Proof.Gen.SumDevices
public import proofs.«01_k».proof.Proof.Gen.SumDevices.Frame
public import proofs.«01_k».proof.Proof.Gen.SumDevicesIdeal
public import proofs.«01_k».proof.Proof.Gen.SumDevicesIdeal.Frame
public import proofs.«01_k».proof.Proof.Gen.SumDevicesIdeal.Value
public import proofs.«01_k».proof.Proof.Gen.SumDevicesRefIdeal
public import proofs.«01_k».proof.Proof.Gen.SumDevicesRefIdeal.Read
public import proofs.«01_k».proof.Proof.Gen.SumDevicesRefIdeal.Run
public import proofs.«01_k».proof.Proof.SValue
public import proofs.«01_k».proof.Proof.Gen.ProjSlab
public import proofs.«01_k».proof.Proof.Gen.ProjSlab.Frame
public import proofs.«01_k».proof.Proof.Gen.ProjSlabIdeal
public import proofs.«01_k».proof.Proof.Gen.ProjSlabIdeal.Frame
public import proofs.«01_k».proof.Proof.Gen.ProjSlabRefIdeal
public import proofs.«01_k».proof.Proof.Gen.ProjSlabRefIdeal.Read
public import proofs.«01_k».proof.Proof.Gen.ProjSlabRefIdeal.Run
public import proofs.«01_k».proof.Proof.QValue
public import proofs.«01_k».proof.Proof.Gen.AddPieces
public import proofs.«01_k».proof.Proof.Gen.AddPieces.Frame
public import proofs.«01_k».proof.Proof.Gen.AddPiecesIdeal
public import proofs.«01_k».proof.Proof.Gen.AddPiecesIdeal.Frame
public import proofs.«01_k».proof.Proof.Gen.AddPiecesRefIdeal
public import proofs.«01_k».proof.Proof.Gen.AddPiecesRefIdeal.Read
public import proofs.«01_k».proof.Proof.Gen.AddPiecesRefIdeal.Run
public import proofs.«01_k».proof.Proof.XValue
public import proofs.«01_k».proof.Proof.Gen.PlaceOwn
public import proofs.«01_k».proof.Proof.Gen.PlaceOwn.Frame
public import proofs.«01_k».proof.Proof.Gen.PlaceOwnIdeal
public import proofs.«01_k».proof.Proof.Gen.PlaceOwnIdeal.Frame
public import proofs.«01_k».proof.Proof.Gen.PlaceOwnRef
public import proofs.«01_k».proof.Proof.Gen.PlaceOwnRef.Read
public import proofs.«01_k».proof.Proof.Gen.PlaceOwnRef.Run
public import proofs.«01_k».proof.Proof.Gen.PlaceOwnRefIdeal
public import proofs.«01_k».proof.Proof.Gen.PlaceOwnRefIdeal.Read
public import proofs.«01_k».proof.Proof.Gen.PlaceOwnRefIdeal.Run
public import proofs.«01_k».proof.Proof.YValue
public import Idealize.ShloMosaic.Adequacy
public import Idealize.ShloMosaic.Init

@[expose] public section

noncomputable section

namespace Cert.Proof

open Idealize.ShloMosaic Idealize.SL.Sem

/-- The reference AProjDxRef ends with its arguments as they were and no semaphore raised. -/
theorem frame_AProjDxRef : Cert.quiescent_AProjDxRefIdeal := fun m ρ _ =>
  (θ_run Cert.AProjDxRefIdeal.defs _ _).mono
    (fun r h => ⟨fun c => (h c).2.2.2.2, sem_eq_zero_of_no_sems (by decide) r.2⟩)
    (Cert.AProjDxRefIdeal.Value.run (F := Ideal) m ρ)

/-- The reference BProjDxRef ends with its arguments as they were and no semaphore raised. -/
theorem frame_BProjDxRef : Cert.quiescent_BProjDxRefIdeal := fun m ρ _ =>
  (θ_run Cert.BProjDxRefIdeal.defs _ _).mono
    (fun r h => ⟨fun c => (h c).2.2.2.2.2.2, sem_eq_zero_of_no_sems (by decide) r.2⟩)
    (Cert.BProjDxRefIdeal.Value.run (F := Ideal) m ρ)

/-- The reference ConvBwdRef ends with its arguments as they were and no semaphore raised. -/
theorem frame_ConvBwdRef : Cert.quiescent_ConvBwdRefIdeal := fun m ρ _ =>
  (θ_run Cert.ConvBwdRefIdeal.defs _ _).mono
    (fun r h => ⟨fun c => (h c).2.2.2.2.2, sem_eq_zero_of_no_sems (by decide) r.2⟩)
    (Cert.ConvBwdRefIdeal.Value.run (F := Ideal) m ρ)

/-- The reference GmlpBwdRef ends with its arguments as they were and no semaphore raised. -/
theorem frame_GmlpBwdRef : Cert.quiescent_GmlpBwdRefIdeal := fun m ρ _ =>
  (θ_run Cert.GmlpBwdRefIdeal.defs _ _).mono
    (fun r h => ⟨fun c => (h c).2.2.2.2.2, sem_eq_zero_of_no_sems (by decide) r.2⟩)
    (Cert.GmlpBwdRefIdeal.Value.run (F := Ideal) m ρ)

/-- The reference GmlpHeadRef ends with its arguments as they were and no semaphore raised. -/
theorem frame_GmlpHeadRef : Cert.quiescent_GmlpHeadRefIdeal := fun m ρ _ =>
  (θ_run Cert.GmlpHeadRefIdeal.defs _ _).mono
    (fun r h => ⟨fun c => (h c).2.2.2.2.2.2, sem_eq_zero_of_no_sems (by decide) r.2⟩)
    (Cert.GmlpHeadRefIdeal.Value.run (F := Ideal) m ρ)

/-- The reference ModFwdRef ends with its arguments as they were and no semaphore raised. -/
theorem frame_ModFwdRef : Cert.quiescent_ModFwdRefIdeal := fun m ρ _ =>
  (θ_run Cert.ModFwdRefIdeal.defs _ _).mono
    (fun r h => ⟨fun c => (h c).2.2, sem_eq_zero_of_no_sems (by decide) r.2⟩)
    (Cert.ModFwdRefIdeal.Value.run (F := Ideal) m ρ)

/-- The reference NormProjRef ends with its arguments as they were and no semaphore raised. -/
theorem frame_NormProjRef : Cert.quiescent_NormProjRefIdeal := fun m ρ _ =>
  (θ_run Cert.NormProjRefIdeal.defs _ _).mono
    (fun r h => ⟨fun c => (h c).2.2, sem_eq_zero_of_no_sems (by decide) r.2⟩)
    (Cert.NormProjRefIdeal.Value.run (F := Ideal) m ρ)

/-- The reference DwInRef ends with its arguments as they were and no semaphore raised. -/
theorem frame_DwInRef : Cert.quiescent_DwInRefIdeal := fun m ρ _ =>
  (θ_run Cert.DwInRefIdeal.defs _ _).mono
    (fun r h => ⟨fun c => (h c).2, sem_eq_zero_of_no_sems (by decide) r.2⟩)
    (Cert.DwInRefIdeal.Value.run (F := Ideal) m ρ)

/-- The reference DwOutRef ends with its arguments as they were and no semaphore raised. -/
theorem frame_DwOutRef : Cert.quiescent_DwOutRefIdeal := fun m ρ _ =>
  (θ_run Cert.DwOutRefIdeal.defs _ _).mono
    (fun r h => ⟨fun c => (h c).2, sem_eq_zero_of_no_sems (by decide) r.2⟩)
    (Cert.DwOutRefIdeal.Value.run (F := Ideal) m ρ)

/-- The reference ProjRef ends with its arguments as they were and no semaphore raised. -/
theorem frame_ProjRef : Cert.quiescent_ProjRefIdeal := fun m ρ _ =>
  (θ_run Cert.ProjRefIdeal.defs _ _).mono
    (fun r h => ⟨fun c => (h c).2, sem_eq_zero_of_no_sems (by decide) r.2⟩)
    (Cert.ProjRefIdeal.Value.run (F := Ideal) m ρ)

/-- The reference ModUpdateRef ends with its arguments as they were and no semaphore raised. -/
theorem frame_ModUpdateRef : Cert.quiescent_ModUpdateRefIdeal := fun m ρ _ =>
  (θ_run Cert.ModUpdateRefIdeal.defs _ _).mono
    (fun r h => ⟨fun c => (h c).2.2.2.2, sem_eq_zero_of_no_sems (by decide) r.2⟩)
    (Cert.ModUpdateRefIdeal.Value.run (F := Ideal) m ρ)

/-- The reference AdamWRef ends with its arguments as they were and no semaphore raised. -/
theorem frame_AdamWRef : Cert.quiescent_AdamWRefIdeal := fun m ρ _ =>
  (θ_run Cert.AdamWRefIdeal.defs _ _).mono
    (fun r h => ⟨fun c => (h c).2.2.2.2, sem_eq_zero_of_no_sems (by decide) r.2⟩)
    (Cert.AdamWRefIdeal.Value.run (F := Ideal) m ρ)

/-- The reference SumDevicesRef ends with its arguments as they were and no semaphore raised. -/
theorem frame_SumDevicesRef : Cert.quiescent_SumDevicesRefIdeal := fun m ρ _ =>
  (θ_run Cert.SumDevicesRefIdeal.defs _ _).mono
    (fun r h => ⟨fun c => (h c).2, sem_eq_zero_of_no_sems (by decide) r.2⟩)
    (Cert.SumDevicesRefIdeal.Value.run (F := Ideal) m ρ)

/-- The reference ProjSlabRef ends with its arguments as they were and no semaphore raised. -/
theorem frame_ProjSlabRef : Cert.quiescent_ProjSlabRefIdeal := fun m ρ _ =>
  (θ_run Cert.ProjSlabRefIdeal.defs _ _).mono
    (fun r h => ⟨fun c => (h c).2, sem_eq_zero_of_no_sems (by decide) r.2⟩)
    (Cert.ProjSlabRefIdeal.Value.run (F := Ideal) m ρ)

/-- The reference AddPiecesRef ends with its arguments as they were and no semaphore raised. -/
theorem frame_AddPiecesRef : Cert.quiescent_AddPiecesRefIdeal := fun m ρ _ =>
  (θ_run Cert.AddPiecesRefIdeal.defs _ _).mono
    (fun r h => ⟨fun c => (h c).2, sem_eq_zero_of_no_sems (by decide) r.2⟩)
    (Cert.AddPiecesRefIdeal.Value.run (F := Ideal) m ρ)

/-- The reference PlaceOwnRef ends with its arguments as they were and no semaphore raised. -/
theorem frame_PlaceOwnRef : Cert.quiescent_PlaceOwnRefIdeal := fun m ρ _ =>
  (θ_run Cert.PlaceOwnRefIdeal.defs _ _).mono
    (fun r h => ⟨fun c => (h c).2, sem_eq_zero_of_no_sems (by decide) r.2⟩)
    (Cert.PlaceOwnRefIdeal.Value.run (F := Ideal) m ρ)

/-- The same of PlaceOwn's reference before idealization. -/
theorem frame_PlaceOwnRef_bits : Cert.quiescent_PlaceOwnRef := fun m ρ _ =>
  (θ_run Cert.PlaceOwnRef.defs _ _).mono
    (fun r h => ⟨fun c => (h c).2, sem_eq_zero_of_no_sems (by decide) r.2⟩)
    (Cert.PlaceOwnRef.Value.run (F := Bits) m ρ)

/-- The two named constants of GmlpBwd have at the extended reals the values the table gives them. -/
theorem preserves_GmlpBwd : Cert.preserves_GmlpBwd_GmlpBwdIdeal :=
  ⟨IdealRules.named_const.statement _ _ _ _ _ rfl, IdealRules.named_const.statement _ _ _ _ _ rfl⟩

/-- Everything claimed of the sixteen pairs. -/
theorem claim : Cert.Claim :=
  ⟨Cert.AProjDx.Gen.facts, Cert.AProjDxIdeal.Gen.facts, Cert.AProjDxRefIdeal.Gen.facts,
    Cert.BProjDx.Gen.facts, Cert.BProjDxIdeal.Gen.facts, Cert.BProjDxRefIdeal.Gen.facts,
    Cert.ConvBwd.Gen.facts, Cert.ConvBwdIdeal.Gen.facts, Cert.ConvBwdRefIdeal.Gen.facts,
    Cert.GmlpBwd.Gen.facts, Cert.GmlpBwdIdeal.Gen.facts, Cert.GmlpBwdRefIdeal.Gen.facts,
    Cert.GmlpHead.Gen.facts, Cert.GmlpHeadIdeal.Gen.facts, Cert.GmlpHeadRefIdeal.Gen.facts,
    Cert.ModFwd.Gen.facts, Cert.ModFwdIdeal.Gen.facts, Cert.ModFwdRefIdeal.Gen.facts,
    Cert.NormProj.Gen.facts, Cert.NormProjIdeal.Gen.facts, Cert.NormProjRefIdeal.Gen.facts,
    Cert.DwIn.Gen.facts, Cert.DwInIdeal.Gen.facts, Cert.DwInRefIdeal.Gen.facts,
    Cert.DwOut.Gen.facts, Cert.DwOutIdeal.Gen.facts, Cert.DwOutRefIdeal.Gen.facts,
    Cert.Proj.Gen.facts, Cert.ProjIdeal.Gen.facts, Cert.ProjRefIdeal.Gen.facts,
    Cert.ModUpdate.Gen.facts, Cert.ModUpdateIdeal.Gen.facts, Cert.ModUpdateRefIdeal.Gen.facts,
    Cert.AdamW.Gen.facts, Cert.AdamWIdeal.Gen.facts, Cert.AdamWRefIdeal.Gen.facts,
    Cert.SumDevices.Gen.facts, Cert.SumDevicesIdeal.Gen.facts, Cert.SumDevicesRefIdeal.Gen.facts,
    Cert.ProjSlab.Gen.facts, Cert.ProjSlabIdeal.Gen.facts, Cert.ProjSlabRefIdeal.Gen.facts,
    Cert.AddPieces.Gen.facts, Cert.AddPiecesIdeal.Gen.facts, Cert.AddPiecesRefIdeal.Gen.facts,
    Cert.PlaceOwn.Gen.facts, Cert.PlaceOwnIdeal.Gen.facts, Cert.PlaceOwnRefIdeal.Gen.facts, Cert.PlaceOwnRef.Gen.facts, Cert.Pre_conv_finite.facts, Cert.Pre_gmlp_finite.facts,
    fun m ρ _ => Cert.AProjDx.Gen.frame m ρ, fun m ρ _ => Cert.AProjDxIdeal.Gen.frame m ρ, frame_AProjDxRef,
    fun m ρ _ => Cert.BProjDx.Gen.frame m ρ, fun m ρ _ => Cert.BProjDxIdeal.Gen.frame m ρ, frame_BProjDxRef,
    fun m ρ _ => Cert.ConvBwd.Gen.frame m ρ, fun m ρ _ => Cert.ConvBwdIdeal.Gen.frame m ρ, fun m ρ _ => Cert.ConvBwdIdeal.Gen.frame m ρ, frame_ConvBwdRef, fun m ρ _ => frame_ConvBwdRef m ρ trivial,
    fun m ρ _ => Cert.GmlpBwd.Gen.frame m ρ, fun m ρ _ => Cert.GmlpBwdIdeal.Gen.frame m ρ, fun m ρ _ => Cert.GmlpBwdIdeal.Gen.frame m ρ, frame_GmlpBwdRef, fun m ρ _ => frame_GmlpBwdRef m ρ trivial,
    fun m ρ _ => Cert.GmlpHead.Gen.frame m ρ, fun m ρ _ => Cert.GmlpHeadIdeal.Gen.frame m ρ, frame_GmlpHeadRef,
    fun m ρ _ => Cert.ModFwd.Gen.frame m ρ, fun m ρ _ => Cert.ModFwdIdeal.Gen.frame m ρ, frame_ModFwdRef,
    fun m ρ _ => Cert.NormProj.Gen.frame m ρ (Cert.NormProj.Table.ok m), fun m ρ _ => Cert.NormProjIdeal.Gen.frame m ρ (Cert.NormProjIdeal.Table.ok m), frame_NormProjRef,
    fun m ρ _ => Cert.DwIn.Gen.frame m ρ, fun m ρ _ => Cert.DwInIdeal.Gen.frame m ρ, frame_DwInRef,
    fun m ρ _ => Cert.DwOut.Gen.frame m ρ, fun m ρ _ => Cert.DwOutIdeal.Gen.frame m ρ, frame_DwOutRef,
    fun m ρ _ => Cert.Proj.Gen.frame m ρ, fun m ρ _ => Cert.ProjIdeal.Gen.frame m ρ, frame_ProjRef,
    fun m ρ _ => Cert.ModUpdate.Gen.frame m ρ, fun m ρ _ => Cert.ModUpdateIdeal.Gen.frame m ρ, frame_ModUpdateRef,
    fun m ρ _ => Cert.AdamW.Gen.frame m ρ, fun m ρ _ => Cert.AdamWIdeal.Gen.frame m ρ, frame_AdamWRef,
    fun m ρ _ => Cert.SumDevices.Gen.frame m ρ, fun m ρ _ => Cert.SumDevicesIdeal.Gen.frame m ρ, frame_SumDevicesRef,
    fun m ρ _ => Cert.ProjSlab.Gen.frame m ρ (Cert.ProjSlab.Table.ok m), fun m ρ _ => Cert.ProjSlabIdeal.Gen.frame m ρ (Cert.ProjSlabIdeal.Table.ok m), frame_ProjSlabRef,
    fun m ρ _ => Cert.AddPieces.Gen.frame m ρ (Cert.AddPieces.Table.ok m), fun m ρ _ => Cert.AddPiecesIdeal.Gen.frame m ρ (Cert.AddPiecesIdeal.Table.ok m), frame_AddPiecesRef,
    fun m ρ _ => Cert.PlaceOwn.Gen.frame m ρ (Cert.PlaceOwn.Table.ok m), fun m ρ _ => Cert.PlaceOwnIdeal.Gen.frame m ρ (Cert.PlaceOwnIdeal.Table.ok m), frame_PlaceOwnRef, frame_PlaceOwnRef_bits,
    trivial, Cert.AProjDxIdeal.Fold.algebraic,
    trivial, Cert.BProjDxIdeal.Fold.algebraic,
    trivial, Cert.ConvBwdIdeal.Fold.algebraic,
    preserves_GmlpBwd, Cert.GmlpBwdIdeal.Fold.algebraic,
    trivial, Cert.GmlpHeadIdeal.Fold.algebraic,
    trivial, Cert.ModFwdIdeal.Fold.algebraic,
    trivial, Cert.NormProjIdeal.Fold.algebraic,
    trivial, Cert.DwInIdeal.Fold.algebraic,
    trivial, Cert.DwOutIdeal.Fold.algebraic,
    trivial, Cert.ProjIdeal.Fold.algebraic,
    trivial, Cert.ModUpdateIdeal.Fold.algebraic,
    trivial, Cert.AdamWIdeal.Fold.algebraic,
    trivial, Cert.SumDevicesIdeal.Fold.algebraic,
    trivial, Cert.ProjSlabIdeal.Fold.algebraic,
    trivial, Cert.AddPiecesIdeal.Fold.algebraic,
    trivial, Cert.PlaceOwnIdeal.Fold.algebraic, Cert.PlaceOwn.Fold.bitexact⟩

end Cert.Proof

end
